-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bounded [hPre_bounded : Cert.Pre_bounded.Facts] (m : (ℓ : Loc Cert.KernelIdeal.nD Cert.KernelIdeal.τ Cert.KernelIdeal.sig) → Buf (Elt Ideal) ℓ) : Prop :=
  ∀ c : Dev Cert.KernelIdeal.nD,
    (Cert.Pre_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bounded [hPre_bounded : Cert.Pre_bounded.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ScanBack (m : (ℓ : Loc Cert.ScanBack.nD Cert.ScanBack.τ Cert.ScanBack.sig) → Buf (Elt Bits) ℓ) : Prop :=
  True

def Pre_ScanBackIdeal (m : (ℓ : Loc Cert.ScanBackIdeal.nD Cert.ScanBackIdeal.τ Cert.ScanBackIdeal.sig) → Buf (Elt Ideal) ℓ) : Prop :=
  True

def Pre_ScanBackIdeal_bounded_back [hPre_bounded_back : Cert.Pre_bounded_back.Facts] (m : (ℓ : Loc Cert.ScanBackIdeal.nD Cert.ScanBackIdeal.τ Cert.ScanBackIdeal.sig) → Buf (Elt Ideal) ℓ) : Prop :=
  ∀ c : Dev Cert.ScanBackIdeal.nD,
    (Cert.Pre_bounded_back.fn (F := Ideal) (m ((c.tc : Thread Cert.ScanBackIdeal.nD Cert.ScanBackIdeal.τ).loc Cert.ScanBackIdeal.main_arg0)) (m ((c.tc : Thread Cert.ScanBackIdeal.nD Cert.ScanBackIdeal.τ).loc Cert.ScanBackIdeal.main_arg1)) (m ((c.tc : Thread Cert.ScanBackIdeal.nD Cert.ScanBackIdeal.τ).loc Cert.ScanBackIdeal.main_arg2)) (m ((c.tc : Thread Cert.ScanBackIdeal.nD Cert.ScanBackIdeal.τ).loc Cert.ScanBackIdeal.main_arg3))) = (fun _ => 1#1)

def Pre_ScanBackReferenceIdeal (m : (ℓ : Loc Cert.ScanBackReferenceIdeal.nD Cert.ScanBackReferenceIdeal.τ Cert.ScanBackReferenceIdeal.sig) → Buf (Elt Ideal) ℓ) : Prop :=
  True

def Pre_ScanBackReferenceIdeal_bounded_back [hPre_bounded_back : Cert.Pre_bounded_back.Facts] (m : (ℓ : Loc Cert.ScanBackReferenceIdeal.nD Cert.ScanBackReferenceIdeal.τ Cert.ScanBackReferenceIdeal.sig) → Buf (Elt Ideal) ℓ) : Prop :=
  ∀ c : Dev Cert.ScanBackReferenceIdeal.nD,
    (Cert.Pre_bounded_back.fn (F := Ideal) (m ((c.tc : Thread Cert.ScanBackReferenceIdeal.nD Cert.ScanBackReferenceIdeal.τ).loc Cert.ScanBackReferenceIdeal.main_arg0)) (m ((c.tc : Thread Cert.ScanBackReferenceIdeal.nD Cert.ScanBackReferenceIdeal.τ).loc Cert.ScanBackReferenceIdeal.main_arg1)) (m ((c.tc : Thread Cert.ScanBackReferenceIdeal.nD Cert.ScanBackReferenceIdeal.τ).loc Cert.ScanBackReferenceIdeal.main_arg2)) (m ((c.tc : Thread Cert.ScanBackReferenceIdeal.nD Cert.ScanBackReferenceIdeal.τ).loc Cert.ScanBackReferenceIdeal.main_arg3))) = (fun _ => 1#1)

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpReferenceIdeal (m : (ℓ : Loc Cert.GateUpReferenceIdeal.nD Cert.GateUpReferenceIdeal.τ Cert.GateUpReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectReferenceIdeal (m : (ℓ : Loc Cert.ProjectReferenceIdeal.nD Cert.ProjectReferenceIdeal.τ Cert.ProjectReferenceIdeal.sig) → Buf (Elt Ideal) ℓ) : Prop :=
  True

def Pre_FinalNorm (m : (ℓ : Loc Cert.FinalNorm.nD Cert.FinalNorm.τ Cert.FinalNorm.sig) → Buf (Elt Bits) ℓ) : Prop :=
  True

def Pre_FinalNormIdeal (m : (ℓ : Loc Cert.FinalNormIdeal.nD Cert.FinalNormIdeal.τ Cert.FinalNormIdeal.sig) → Buf (Elt Ideal) ℓ) : Prop :=
  True

def Pre_FinalNormReferenceIdeal (m : (ℓ : Loc Cert.FinalNormReferenceIdeal.nD Cert.FinalNormReferenceIdeal.τ Cert.FinalNormReferenceIdeal.sig) → Buf (Elt Ideal) ℓ) : Prop :=
  True

def Pre_FinalNormSamples (m : (ℓ : Loc Cert.FinalNormSamples.nD Cert.FinalNormSamples.τ Cert.FinalNormSamples.sig) → Buf (Elt Bits) ℓ) : Prop :=
  True

def Pre_FinalNormSamplesIdeal (m : (ℓ : Loc Cert.FinalNormSamplesIdeal.nD Cert.FinalNormSamplesIdeal.τ Cert.FinalNormSamplesIdeal.sig) → Buf (Elt Ideal) ℓ) : Prop :=
  True

def Pre_FinalNormSamplesReferenceIdeal (m : (ℓ : Loc Cert.FinalNormSamplesReferenceIdeal.nD Cert.FinalNormSamplesReferenceIdeal.τ Cert.FinalNormSamplesReferenceIdeal.sig) → Buf (Elt Ideal) ℓ) : Prop :=
  True

def Pre_InConv (m : (ℓ : Loc Cert.InConv.nD Cert.InConv.τ Cert.InConv.sig) → Buf (Elt Bits) ℓ) : Prop :=
  True

def Pre_InConvIdeal (m : (ℓ : Loc Cert.InConvIdeal.nD Cert.InConvIdeal.τ Cert.InConvIdeal.sig) → Buf (Elt Ideal) ℓ) : Prop :=
  True

def Pre_InConvReferenceIdeal (m : (ℓ : Loc Cert.InConvReferenceIdeal.nD Cert.InConvReferenceIdeal.τ Cert.InConvReferenceIdeal.sig) → Buf (Elt Ideal) ℓ) : Prop :=
  True

def Pre_HyenaOut (m : (ℓ : Loc Cert.HyenaOut.nD Cert.HyenaOut.τ Cert.HyenaOut.sig) → Buf (Elt Bits) ℓ) : Prop :=
  True

def Pre_HyenaOutIdeal (m : (ℓ : Loc Cert.HyenaOutIdeal.nD Cert.HyenaOutIdeal.τ Cert.HyenaOutIdeal.sig) → Buf (Elt Ideal) ℓ) : Prop :=
  True

def Pre_HyenaOutReferenceIdeal (m : (ℓ : Loc Cert.HyenaOutReferenceIdeal.nD Cert.HyenaOutReferenceIdeal.τ Cert.HyenaOutReferenceIdeal.sig) → Buf (Elt Ideal) ℓ) : Prop :=
  True

def Pre_HgrnOut (m : (ℓ : Loc Cert.HgrnOut.nD Cert.HgrnOut.τ Cert.HgrnOut.sig) → Buf (Elt Bits) ℓ) : Prop :=
  True

def Pre_HgrnOutIdeal (m : (ℓ : Loc Cert.HgrnOutIdeal.nD Cert.HgrnOutIdeal.τ Cert.HgrnOutIdeal.sig) → Buf (Elt Ideal) ℓ) : Prop :=
  True

def Pre_HgrnOutReferenceIdeal (m : (ℓ : Loc Cert.HgrnOutReferenceIdeal.nD Cert.HgrnOutReferenceIdeal.τ Cert.HgrnOutReferenceIdeal.sig) → Buf (Elt Ideal) ℓ) : Prop :=
  True

def Pre_HgrnNorm (m : (ℓ : Loc Cert.HgrnNorm.nD Cert.HgrnNorm.τ Cert.HgrnNorm.sig) → Buf (Elt Bits) ℓ) : Prop :=
  True

def Pre_HgrnNormIdeal (m : (ℓ : Loc Cert.HgrnNormIdeal.nD Cert.HgrnNormIdeal.τ Cert.HgrnNormIdeal.sig) → Buf (Elt Ideal) ℓ) : Prop :=
  True

def Pre_HgrnNormReferenceIdeal (m : (ℓ : Loc Cert.HgrnNormReferenceIdeal.nD Cert.HgrnNormReferenceIdeal.τ Cert.HgrnNormReferenceIdeal.sig) → Buf (Elt Ideal) ℓ) : Prop :=
  True

def Pre_HyenaNorm (m : (ℓ : Loc Cert.HyenaNorm.nD Cert.HyenaNorm.τ Cert.HyenaNorm.sig) → Buf (Elt Bits) ℓ) : Prop :=
  True

def Pre_HyenaNormIdeal (m : (ℓ : Loc Cert.HyenaNormIdeal.nD Cert.HyenaNormIdeal.τ Cert.HyenaNormIdeal.sig) → Buf (Elt Ideal) ℓ) : Prop :=
  True

def Pre_HyenaNormReferenceIdeal (m : (ℓ : Loc Cert.HyenaNormReferenceIdeal.nD Cert.HyenaNormReferenceIdeal.τ Cert.HyenaNormReferenceIdeal.sig) → Buf (Elt Ideal) ℓ) : Prop :=
  True

def Pre_FfnNorm (m : (ℓ : Loc Cert.FfnNorm.nD Cert.FfnNorm.τ Cert.FfnNorm.sig) → Buf (Elt Bits) ℓ) : Prop :=
  True

def Pre_FfnNormIdeal (m : (ℓ : Loc Cert.FfnNormIdeal.nD Cert.FfnNormIdeal.τ Cert.FfnNormIdeal.sig) → Buf (Elt Ideal) ℓ) : Prop :=
  True

def Pre_FfnNormReferenceIdeal (m : (ℓ : Loc Cert.FfnNormReferenceIdeal.nD Cert.FfnNormReferenceIdeal.τ Cert.FfnNormReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_bounded [hKernelIdeal : Cert.KernelIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bounded m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_bounded [hReferenceIdeal : Cert.ReferenceIdeal.Facts] [hPre_bounded : Cert.Pre_bounded.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bounded m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ScanBack [hScanBack : Cert.ScanBack.Facts] : Prop :=
  ∀ (m : (ℓ : Loc Cert.ScanBack.nD Cert.ScanBack.τ Cert.ScanBack.sig) → Buf (Elt Bits) ℓ) (g : Dev Cert.ScanBack.nD → PrngReg), Pre_ScanBack m →
    θ_run (Cert.ScanBack.defs (F := Bits)) (onTc (τ := Cert.ScanBack.τ) (Cert.ScanBack.main (F := Bits))) ⟨m, fun _ => 0, g⟩ (fun r => (∀ c : Dev Cert.ScanBack.nD,
      r.2.mem ((c.tc : Thread Cert.ScanBack.nD Cert.ScanBack.τ).loc Cert.ScanBack.main_arg0) = m ((c.tc : Thread Cert.ScanBack.nD Cert.ScanBack.τ).loc Cert.ScanBack.main_arg0)
      ∧ r.2.mem ((c.tc : Thread Cert.ScanBack.nD Cert.ScanBack.τ).loc Cert.ScanBack.main_arg1) = m ((c.tc : Thread Cert.ScanBack.nD Cert.ScanBack.τ).loc Cert.ScanBack.main_arg1)
      ∧ r.2.mem ((c.tc : Thread Cert.ScanBack.nD Cert.ScanBack.τ).loc Cert.ScanBack.main_arg2) = m ((c.tc : Thread Cert.ScanBack.nD Cert.ScanBack.τ).loc Cert.ScanBack.main_arg2)
      ∧ r.2.mem ((c.tc : Thread Cert.ScanBack.nD Cert.ScanBack.τ).loc Cert.ScanBack.main_arg3) = m ((c.tc : Thread Cert.ScanBack.nD Cert.ScanBack.τ).loc Cert.ScanBack.main_arg3))
      ∧ r.2.sem = fun _ => 0)

def quiescent_ScanBackIdeal [hScanBackIdeal : Cert.ScanBackIdeal.Facts] : Prop :=
  ∀ (m : (ℓ : Loc Cert.ScanBackIdeal.nD Cert.ScanBackIdeal.τ Cert.ScanBackIdeal.sig) → Buf (Elt Ideal) ℓ) (g : Dev Cert.ScanBackIdeal.nD → PrngReg), Pre_ScanBackIdeal m →
    θ_run (Cert.ScanBackIdeal.defs (F := Ideal)) (onTc (τ := Cert.ScanBackIdeal.τ) (Cert.ScanBackIdeal.main (F := Ideal))) ⟨m, fun _ => 0, g⟩ (fun r => (∀ c : Dev Cert.ScanBackIdeal.nD,
      r.2.mem ((c.tc : Thread Cert.ScanBackIdeal.nD Cert.ScanBackIdeal.τ).loc Cert.ScanBackIdeal.main_arg0) = m ((c.tc : Thread Cert.ScanBackIdeal.nD Cert.ScanBackIdeal.τ).loc Cert.ScanBackIdeal.main_arg0)
      ∧ r.2.mem ((c.tc : Thread Cert.ScanBackIdeal.nD Cert.ScanBackIdeal.τ).loc Cert.ScanBackIdeal.main_arg1) = m ((c.tc : Thread Cert.ScanBackIdeal.nD Cert.ScanBackIdeal.τ).loc Cert.ScanBackIdeal.main_arg1)
      ∧ r.2.mem ((c.tc : Thread Cert.ScanBackIdeal.nD Cert.ScanBackIdeal.τ).loc Cert.ScanBackIdeal.main_arg2) = m ((c.tc : Thread Cert.ScanBackIdeal.nD Cert.ScanBackIdeal.τ).loc Cert.ScanBackIdeal.main_arg2)
      ∧ r.2.mem ((c.tc : Thread Cert.ScanBackIdeal.nD Cert.ScanBackIdeal.τ).loc Cert.ScanBackIdeal.main_arg3) = m ((c.tc : Thread Cert.ScanBackIdeal.nD Cert.ScanBackIdeal.τ).loc Cert.ScanBackIdeal.main_arg3))
      ∧ r.2.sem = fun _ => 0)

def quiescent_ScanBackIdeal_pre_bounded_back [hScanBackIdeal : Cert.ScanBackIdeal.Facts] [hPre_bounded_back : Cert.Pre_bounded_back.Facts] : Prop :=
  ∀ (m : (ℓ : Loc Cert.ScanBackIdeal.nD Cert.ScanBackIdeal.τ Cert.ScanBackIdeal.sig) → Buf (Elt Ideal) ℓ) (g : Dev Cert.ScanBackIdeal.nD → PrngReg), Pre_ScanBackIdeal_bounded_back m →
    θ_run (Cert.ScanBackIdeal.defs (F := Ideal)) (onTc (τ := Cert.ScanBackIdeal.τ) (Cert.ScanBackIdeal.main (F := Ideal))) ⟨m, fun _ => 0, g⟩ (fun r => (∀ c : Dev Cert.ScanBackIdeal.nD,
      r.2.mem ((c.tc : Thread Cert.ScanBackIdeal.nD Cert.ScanBackIdeal.τ).loc Cert.ScanBackIdeal.main_arg0) = m ((c.tc : Thread Cert.ScanBackIdeal.nD Cert.ScanBackIdeal.τ).loc Cert.ScanBackIdeal.main_arg0)
      ∧ r.2.mem ((c.tc : Thread Cert.ScanBackIdeal.nD Cert.ScanBackIdeal.τ).loc Cert.ScanBackIdeal.main_arg1) = m ((c.tc : Thread Cert.ScanBackIdeal.nD Cert.ScanBackIdeal.τ).loc Cert.ScanBackIdeal.main_arg1)
      ∧ r.2.mem ((c.tc : Thread Cert.ScanBackIdeal.nD Cert.ScanBackIdeal.τ).loc Cert.ScanBackIdeal.main_arg2) = m ((c.tc : Thread Cert.ScanBackIdeal.nD Cert.ScanBackIdeal.τ).loc Cert.ScanBackIdeal.main_arg2)
      ∧ r.2.mem ((c.tc : Thread Cert.ScanBackIdeal.nD Cert.ScanBackIdeal.τ).loc Cert.ScanBackIdeal.main_arg3) = m ((c.tc : Thread Cert.ScanBackIdeal.nD Cert.ScanBackIdeal.τ).loc Cert.ScanBackIdeal.main_arg3))
      ∧ r.2.sem = fun _ => 0)

def quiescent_ScanBackReferenceIdeal [hScanBackReferenceIdeal : Cert.ScanBackReferenceIdeal.Facts] : Prop :=
  ∀ (m : (ℓ : Loc Cert.ScanBackReferenceIdeal.nD Cert.ScanBackReferenceIdeal.τ Cert.ScanBackReferenceIdeal.sig) → Buf (Elt Ideal) ℓ) (g : Dev Cert.ScanBackReferenceIdeal.nD → PrngReg), Pre_ScanBackReferenceIdeal m →
    θ_run (Cert.ScanBackReferenceIdeal.defs (F := Ideal)) (onTc (τ := Cert.ScanBackReferenceIdeal.τ) (Cert.ScanBackReferenceIdeal.main (F := Ideal))) ⟨m, fun _ => 0, g⟩ (fun r => (∀ c : Dev Cert.ScanBackReferenceIdeal.nD,
      r.2.mem ((c.tc : Thread Cert.ScanBackReferenceIdeal.nD Cert.ScanBackReferenceIdeal.τ).loc Cert.ScanBackReferenceIdeal.main_arg0) = m ((c.tc : Thread Cert.ScanBackReferenceIdeal.nD Cert.ScanBackReferenceIdeal.τ).loc Cert.ScanBackReferenceIdeal.main_arg0)
      ∧ r.2.mem ((c.tc : Thread Cert.ScanBackReferenceIdeal.nD Cert.ScanBackReferenceIdeal.τ).loc Cert.ScanBackReferenceIdeal.main_arg1) = m ((c.tc : Thread Cert.ScanBackReferenceIdeal.nD Cert.ScanBackReferenceIdeal.τ).loc Cert.ScanBackReferenceIdeal.main_arg1)
      ∧ r.2.mem ((c.tc : Thread Cert.ScanBackReferenceIdeal.nD Cert.ScanBackReferenceIdeal.τ).loc Cert.ScanBackReferenceIdeal.main_arg2) = m ((c.tc : Thread Cert.ScanBackReferenceIdeal.nD Cert.ScanBackReferenceIdeal.τ).loc Cert.ScanBackReferenceIdeal.main_arg2)
      ∧ r.2.mem ((c.tc : Thread Cert.ScanBackReferenceIdeal.nD Cert.ScanBackReferenceIdeal.τ).loc Cert.ScanBackReferenceIdeal.main_arg3) = m ((c.tc : Thread Cert.ScanBackReferenceIdeal.nD Cert.ScanBackReferenceIdeal.τ).loc Cert.ScanBackReferenceIdeal.main_arg3))
      ∧ r.2.sem = fun _ => 0)

def quiescent_ScanBackReferenceIdeal_pre_bounded_back [hScanBackReferenceIdeal : Cert.ScanBackReferenceIdeal.Facts] [hPre_bounded_back : Cert.Pre_bounded_back.Facts] : Prop :=
  ∀ (m : (ℓ : Loc Cert.ScanBackReferenceIdeal.nD Cert.ScanBackReferenceIdeal.τ Cert.ScanBackReferenceIdeal.sig) → Buf (Elt Ideal) ℓ) (g : Dev Cert.ScanBackReferenceIdeal.nD → PrngReg), Pre_ScanBackReferenceIdeal_bounded_back m →
    θ_run (Cert.ScanBackReferenceIdeal.defs (F := Ideal)) (onTc (τ := Cert.ScanBackReferenceIdeal.τ) (Cert.ScanBackReferenceIdeal.main (F := Ideal))) ⟨m, fun _ => 0, g⟩ (fun r => (∀ c : Dev Cert.ScanBackReferenceIdeal.nD,
      r.2.mem ((c.tc : Thread Cert.ScanBackReferenceIdeal.nD Cert.ScanBackReferenceIdeal.τ).loc Cert.ScanBackReferenceIdeal.main_arg0) = m ((c.tc : Thread Cert.ScanBackReferenceIdeal.nD Cert.ScanBackReferenceIdeal.τ).loc Cert.ScanBackReferenceIdeal.main_arg0)
      ∧ r.2.mem ((c.tc : Thread Cert.ScanBackReferenceIdeal.nD Cert.ScanBackReferenceIdeal.τ).loc Cert.ScanBackReferenceIdeal.main_arg1) = m ((c.tc : Thread Cert.ScanBackReferenceIdeal.nD Cert.ScanBackReferenceIdeal.τ).loc Cert.ScanBackReferenceIdeal.main_arg1)
      ∧ r.2.mem ((c.tc : Thread Cert.ScanBackReferenceIdeal.nD Cert.ScanBackReferenceIdeal.τ).loc Cert.ScanBackReferenceIdeal.main_arg2) = m ((c.tc : Thread Cert.ScanBackReferenceIdeal.nD Cert.ScanBackReferenceIdeal.τ).loc Cert.ScanBackReferenceIdeal.main_arg2)
      ∧ r.2.mem ((c.tc : Thread Cert.ScanBackReferenceIdeal.nD Cert.ScanBackReferenceIdeal.τ).loc Cert.ScanBackReferenceIdeal.main_arg3) = m ((c.tc : Thread Cert.ScanBackReferenceIdeal.nD Cert.ScanBackReferenceIdeal.τ).loc Cert.ScanBackReferenceIdeal.main_arg3))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2))
      ∧ r.2.sem = fun _ => 0)

def quiescent_GateUpReferenceIdeal [hGateUpReferenceIdeal : Cert.GateUpReferenceIdeal.Facts] : Prop :=
  ∀ (m : (ℓ : Loc Cert.GateUpReferenceIdeal.nD Cert.GateUpReferenceIdeal.τ Cert.GateUpReferenceIdeal.sig) → Buf (Elt Ideal) ℓ) (g : Dev Cert.GateUpReferenceIdeal.nD → PrngReg), Pre_GateUpReferenceIdeal m →
    θ_run (Cert.GateUpReferenceIdeal.defs (F := Ideal)) (onTc (τ := Cert.GateUpReferenceIdeal.τ) (Cert.GateUpReferenceIdeal.main (F := Ideal))) ⟨m, fun _ => 0, g⟩ (fun r => (∀ c : Dev Cert.GateUpReferenceIdeal.nD,
      r.2.mem ((c.tc : Thread Cert.GateUpReferenceIdeal.nD Cert.GateUpReferenceIdeal.τ).loc Cert.GateUpReferenceIdeal.main_arg0) = m ((c.tc : Thread Cert.GateUpReferenceIdeal.nD Cert.GateUpReferenceIdeal.τ).loc Cert.GateUpReferenceIdeal.main_arg0)
      ∧ r.2.mem ((c.tc : Thread Cert.GateUpReferenceIdeal.nD Cert.GateUpReferenceIdeal.τ).loc Cert.GateUpReferenceIdeal.main_arg1) = m ((c.tc : Thread Cert.GateUpReferenceIdeal.nD Cert.GateUpReferenceIdeal.τ).loc Cert.GateUpReferenceIdeal.main_arg1)
      ∧ r.2.mem ((c.tc : Thread Cert.GateUpReferenceIdeal.nD Cert.GateUpReferenceIdeal.τ).loc Cert.GateUpReferenceIdeal.main_arg2) = m ((c.tc : Thread Cert.GateUpReferenceIdeal.nD Cert.GateUpReferenceIdeal.τ).loc Cert.GateUpReferenceIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1))
      ∧ r.2.sem = fun _ => 0)

def quiescent_ProjectReferenceIdeal [hProjectReferenceIdeal : Cert.ProjectReferenceIdeal.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1))
      ∧ r.2.sem = fun _ => 0)

def quiescent_FinalNorm [hFinalNorm : Cert.FinalNorm.Facts] : Prop :=
  ∀ (m : (ℓ : Loc Cert.FinalNorm.nD Cert.FinalNorm.τ Cert.FinalNorm.sig) → Buf (Elt Bits) ℓ) (g : Dev Cert.FinalNorm.nD → PrngReg), Pre_FinalNorm m →
    θ_run (Cert.FinalNorm.defs (F := Bits)) (onTc (τ := Cert.FinalNorm.τ) (Cert.FinalNorm.main (F := Bits))) ⟨m, fun _ => 0, g⟩ (fun r => (∀ c : Dev Cert.FinalNorm.nD,
      r.2.mem ((c.tc : Thread Cert.FinalNorm.nD Cert.FinalNorm.τ).loc Cert.FinalNorm.main_arg0) = m ((c.tc : Thread Cert.FinalNorm.nD Cert.FinalNorm.τ).loc Cert.FinalNorm.main_arg0)
      ∧ r.2.mem ((c.tc : Thread Cert.FinalNorm.nD Cert.FinalNorm.τ).loc Cert.FinalNorm.main_arg1) = m ((c.tc : Thread Cert.FinalNorm.nD Cert.FinalNorm.τ).loc Cert.FinalNorm.main_arg1))
      ∧ r.2.sem = fun _ => 0)

def quiescent_FinalNormIdeal [hFinalNormIdeal : Cert.FinalNormIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg), Pre_FinalNormIdeal m →
    θ_run (Cert.FinalNormIdeal.defs (F := Ideal)) (onTc (τ := Cert.FinalNormIdeal.τ) (Cert.FinalNormIdeal.main (F := Ideal))) ⟨m, fun _ => 0, g⟩ (fun r => (∀ c : Dev Cert.FinalNormIdeal.nD,
      r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
      ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ r.2.sem = fun _ => 0)

def quiescent_FinalNormReferenceIdeal [hFinalNormReferenceIdeal : Cert.FinalNormReferenceIdeal.Facts] : Prop :=
  ∀ (m : (ℓ : Loc Cert.FinalNormReferenceIdeal.nD Cert.FinalNormReferenceIdeal.τ Cert.FinalNormReferenceIdeal.sig) → Buf (Elt Ideal) ℓ) (g : Dev Cert.FinalNormReferenceIdeal.nD → PrngReg), Pre_FinalNormReferenceIdeal m →
    θ_run (Cert.FinalNormReferenceIdeal.defs (F := Ideal)) (onTc (τ := Cert.FinalNormReferenceIdeal.τ) (Cert.FinalNormReferenceIdeal.main (F := Ideal))) ⟨m, fun _ => 0, g⟩ (fun r => (∀ c : Dev Cert.FinalNormReferenceIdeal.nD,
      r.2.mem ((c.tc : Thread Cert.FinalNormReferenceIdeal.nD Cert.FinalNormReferenceIdeal.τ).loc Cert.FinalNormReferenceIdeal.main_arg0) = m ((c.tc : Thread Cert.FinalNormReferenceIdeal.nD Cert.FinalNormReferenceIdeal.τ).loc Cert.FinalNormReferenceIdeal.main_arg0)
      ∧ r.2.mem ((c.tc : Thread Cert.FinalNormReferenceIdeal.nD Cert.FinalNormReferenceIdeal.τ).loc Cert.FinalNormReferenceIdeal.main_arg1) = m ((c.tc : Thread Cert.FinalNormReferenceIdeal.nD Cert.FinalNormReferenceIdeal.τ).loc Cert.FinalNormReferenceIdeal.main_arg1))
      ∧ r.2.sem = fun _ => 0)

def quiescent_FinalNormSamples [hFinalNormSamples : Cert.FinalNormSamples.Facts] : Prop :=
  ∀ (m : (ℓ : Loc Cert.FinalNormSamples.nD Cert.FinalNormSamples.τ Cert.FinalNormSamples.sig) → Buf (Elt Bits) ℓ) (g : Dev Cert.FinalNormSamples.nD → PrngReg), Pre_FinalNormSamples m →
    θ_run (Cert.FinalNormSamples.defs (F := Bits)) (onTc (τ := Cert.FinalNormSamples.τ) (Cert.FinalNormSamples.main (F := Bits))) ⟨m, fun _ => 0, g⟩ (fun r => (∀ c : Dev Cert.FinalNormSamples.nD,
      r.2.mem ((c.tc : Thread Cert.FinalNormSamples.nD Cert.FinalNormSamples.τ).loc Cert.FinalNormSamples.main_arg0) = m ((c.tc : Thread Cert.FinalNormSamples.nD Cert.FinalNormSamples.τ).loc Cert.FinalNormSamples.main_arg0)
      ∧ r.2.mem ((c.tc : Thread Cert.FinalNormSamples.nD Cert.FinalNormSamples.τ).loc Cert.FinalNormSamples.main_arg1) = m ((c.tc : Thread Cert.FinalNormSamples.nD Cert.FinalNormSamples.τ).loc Cert.FinalNormSamples.main_arg1))
      ∧ r.2.sem = fun _ => 0)

def quiescent_FinalNormSamplesIdeal [hFinalNormSamplesIdeal : Cert.FinalNormSamplesIdeal.Facts] : Prop :=
  ∀ (m : (ℓ : Loc Cert.FinalNormSamplesIdeal.nD Cert.FinalNormSamplesIdeal.τ Cert.FinalNormSamplesIdeal.sig) → Buf (Elt Ideal) ℓ) (g : Dev Cert.FinalNormSamplesIdeal.nD → PrngReg), Pre_FinalNormSamplesIdeal m →
    θ_run (Cert.FinalNormSamplesIdeal.defs (F := Ideal)) (onTc (τ := Cert.FinalNormSamplesIdeal.τ) (Cert.FinalNormSamplesIdeal.main (F := Ideal))) ⟨m, fun _ => 0, g⟩ (fun r => (∀ c : Dev Cert.FinalNormSamplesIdeal.nD,
      r.2.mem ((c.tc : Thread Cert.FinalNormSamplesIdeal.nD Cert.FinalNormSamplesIdeal.τ).loc Cert.FinalNormSamplesIdeal.main_arg0) = m ((c.tc : Thread Cert.FinalNormSamplesIdeal.nD Cert.FinalNormSamplesIdeal.τ).loc Cert.FinalNormSamplesIdeal.main_arg0)
      ∧ r.2.mem ((c.tc : Thread Cert.FinalNormSamplesIdeal.nD Cert.FinalNormSamplesIdeal.τ).loc Cert.FinalNormSamplesIdeal.main_arg1) = m ((c.tc : Thread Cert.FinalNormSamplesIdeal.nD Cert.FinalNormSamplesIdeal.τ).loc Cert.FinalNormSamplesIdeal.main_arg1))
      ∧ r.2.sem = fun _ => 0)

def quiescent_FinalNormSamplesReferenceIdeal [hFinalNormSamplesReferenceIdeal : Cert.FinalNormSamplesReferenceIdeal.Facts] : Prop :=
  ∀ (m : (ℓ : Loc Cert.FinalNormSamplesReferenceIdeal.nD Cert.FinalNormSamplesReferenceIdeal.τ Cert.FinalNormSamplesReferenceIdeal.sig) → Buf (Elt Ideal) ℓ) (g : Dev Cert.FinalNormSamplesReferenceIdeal.nD → PrngReg), Pre_FinalNormSamplesReferenceIdeal m →
    θ_run (Cert.FinalNormSamplesReferenceIdeal.defs (F := Ideal)) (onTc (τ := Cert.FinalNormSamplesReferenceIdeal.τ) (Cert.FinalNormSamplesReferenceIdeal.main (F := Ideal))) ⟨m, fun _ => 0, g⟩ (fun r => (∀ c : Dev Cert.FinalNormSamplesReferenceIdeal.nD,
      r.2.mem ((c.tc : Thread Cert.FinalNormSamplesReferenceIdeal.nD Cert.FinalNormSamplesReferenceIdeal.τ).loc Cert.FinalNormSamplesReferenceIdeal.main_arg0) = m ((c.tc : Thread Cert.FinalNormSamplesReferenceIdeal.nD Cert.FinalNormSamplesReferenceIdeal.τ).loc Cert.FinalNormSamplesReferenceIdeal.main_arg0)
      ∧ r.2.mem ((c.tc : Thread Cert.FinalNormSamplesReferenceIdeal.nD Cert.FinalNormSamplesReferenceIdeal.τ).loc Cert.FinalNormSamplesReferenceIdeal.main_arg1) = m ((c.tc : Thread Cert.FinalNormSamplesReferenceIdeal.nD Cert.FinalNormSamplesReferenceIdeal.τ).loc Cert.FinalNormSamplesReferenceIdeal.main_arg1))
      ∧ r.2.sem = fun _ => 0)

def quiescent_InConv [hInConv : Cert.InConv.Facts] : Prop :=
  ∀ (m : (ℓ : Loc Cert.InConv.nD Cert.InConv.τ Cert.InConv.sig) → Buf (Elt Bits) ℓ) (g : Dev Cert.InConv.nD → PrngReg), Pre_InConv m →
    θ_run (Cert.InConv.defs (F := Bits)) (onTc (τ := Cert.InConv.τ) (Cert.InConv.main (F := Bits))) ⟨m, fun _ => 0, g⟩ (fun r => (∀ c : Dev Cert.InConv.nD,
      r.2.mem ((c.tc : Thread Cert.InConv.nD Cert.InConv.τ).loc Cert.InConv.main_arg0) = m ((c.tc : Thread Cert.InConv.nD Cert.InConv.τ).loc Cert.InConv.main_arg0)
      ∧ r.2.mem ((c.tc : Thread Cert.InConv.nD Cert.InConv.τ).loc Cert.InConv.main_arg1) = m ((c.tc : Thread Cert.InConv.nD Cert.InConv.τ).loc Cert.InConv.main_arg1)
      ∧ r.2.mem ((c.tc : Thread Cert.InConv.nD Cert.InConv.τ).loc Cert.InConv.main_arg2) = m ((c.tc : Thread Cert.InConv.nD Cert.InConv.τ).loc Cert.InConv.main_arg2)
      ∧ r.2.mem ((c.tc : Thread Cert.InConv.nD Cert.InConv.τ).loc Cert.InConv.main_arg3) = m ((c.tc : Thread Cert.InConv.nD Cert.InConv.τ).loc Cert.InConv.main_arg3))
      ∧ r.2.sem = fun _ => 0)

def quiescent_InConvIdeal [hInConvIdeal : Cert.InConvIdeal.Facts] : Prop :=
  ∀ (m : (ℓ : Loc Cert.InConvIdeal.nD Cert.InConvIdeal.τ Cert.InConvIdeal.sig) → Buf (Elt Ideal) ℓ) (g : Dev Cert.InConvIdeal.nD → PrngReg), Pre_InConvIdeal m →
    θ_run (Cert.InConvIdeal.defs (F := Ideal)) (onTc (τ := Cert.InConvIdeal.τ) (Cert.InConvIdeal.main (F := Ideal))) ⟨m, fun _ => 0, g⟩ (fun r => (∀ c : Dev Cert.InConvIdeal.nD,
      r.2.mem ((c.tc : Thread Cert.InConvIdeal.nD Cert.InConvIdeal.τ).loc Cert.InConvIdeal.main_arg0) = m ((c.tc : Thread Cert.InConvIdeal.nD Cert.InConvIdeal.τ).loc Cert.InConvIdeal.main_arg0)
      ∧ r.2.mem ((c.tc : Thread Cert.InConvIdeal.nD Cert.InConvIdeal.τ).loc Cert.InConvIdeal.main_arg1) = m ((c.tc : Thread Cert.InConvIdeal.nD Cert.InConvIdeal.τ).loc Cert.InConvIdeal.main_arg1)
      ∧ r.2.mem ((c.tc : Thread Cert.InConvIdeal.nD Cert.InConvIdeal.τ).loc Cert.InConvIdeal.main_arg2) = m ((c.tc : Thread Cert.InConvIdeal.nD Cert.InConvIdeal.τ).loc Cert.InConvIdeal.main_arg2)
      ∧ r.2.mem ((c.tc : Thread Cert.InConvIdeal.nD Cert.InConvIdeal.τ).loc Cert.InConvIdeal.main_arg3) = m ((c.tc : Thread Cert.InConvIdeal.nD Cert.InConvIdeal.τ).loc Cert.InConvIdeal.main_arg3))
      ∧ r.2.sem = fun _ => 0)

def quiescent_InConvReferenceIdeal [hInConvReferenceIdeal : Cert.InConvReferenceIdeal.Facts] : Prop :=
  ∀ (m : (ℓ : Loc Cert.InConvReferenceIdeal.nD Cert.InConvReferenceIdeal.τ Cert.InConvReferenceIdeal.sig) → Buf (Elt Ideal) ℓ) (g : Dev Cert.InConvReferenceIdeal.nD → PrngReg), Pre_InConvReferenceIdeal m →
    θ_run (Cert.InConvReferenceIdeal.defs (F := Ideal)) (onTc (τ := Cert.InConvReferenceIdeal.τ) (Cert.InConvReferenceIdeal.main (F := Ideal))) ⟨m, fun _ => 0, g⟩ (fun r => (∀ c : Dev Cert.InConvReferenceIdeal.nD,
      r.2.mem ((c.tc : Thread Cert.InConvReferenceIdeal.nD Cert.InConvReferenceIdeal.τ).loc Cert.InConvReferenceIdeal.main_arg0) = m ((c.tc : Thread Cert.InConvReferenceIdeal.nD Cert.InConvReferenceIdeal.τ).loc Cert.InConvReferenceIdeal.main_arg0)
      ∧ r.2.mem ((c.tc : Thread Cert.InConvReferenceIdeal.nD Cert.InConvReferenceIdeal.τ).loc Cert.InConvReferenceIdeal.main_arg1) = m ((c.tc : Thread Cert.InConvReferenceIdeal.nD Cert.InConvReferenceIdeal.τ).loc Cert.InConvReferenceIdeal.main_arg1)
      ∧ r.2.mem ((c.tc : Thread Cert.InConvReferenceIdeal.nD Cert.InConvReferenceIdeal.τ).loc Cert.InConvReferenceIdeal.main_arg2) = m ((c.tc : Thread Cert.InConvReferenceIdeal.nD Cert.InConvReferenceIdeal.τ).loc Cert.InConvReferenceIdeal.main_arg2)
      ∧ r.2.mem ((c.tc : Thread Cert.InConvReferenceIdeal.nD Cert.InConvReferenceIdeal.τ).loc Cert.InConvReferenceIdeal.main_arg3) = m ((c.tc : Thread Cert.InConvReferenceIdeal.nD Cert.InConvReferenceIdeal.τ).loc Cert.InConvReferenceIdeal.main_arg3))
      ∧ r.2.sem = fun _ => 0)

def quiescent_HyenaOut [hHyenaOut : Cert.HyenaOut.Facts] : Prop :=
  ∀ (m : (ℓ : Loc Cert.HyenaOut.nD Cert.HyenaOut.τ Cert.HyenaOut.sig) → Buf (Elt Bits) ℓ) (g : Dev Cert.HyenaOut.nD → PrngReg), Pre_HyenaOut m →
    θ_run (Cert.HyenaOut.defs (F := Bits)) (onTc (τ := Cert.HyenaOut.τ) (Cert.HyenaOut.main (F := Bits))) ⟨m, fun _ => 0, g⟩ (fun r => (∀ c : Dev Cert.HyenaOut.nD,
      r.2.mem ((c.tc : Thread Cert.HyenaOut.nD Cert.HyenaOut.τ).loc Cert.HyenaOut.main_arg0) = m ((c.tc : Thread Cert.HyenaOut.nD Cert.HyenaOut.τ).loc Cert.HyenaOut.main_arg0)
      ∧ r.2.mem ((c.tc : Thread Cert.HyenaOut.nD Cert.HyenaOut.τ).loc Cert.HyenaOut.main_arg1) = m ((c.tc : Thread Cert.HyenaOut.nD Cert.HyenaOut.τ).loc Cert.HyenaOut.main_arg1)
      ∧ r.2.mem ((c.tc : Thread Cert.HyenaOut.nD Cert.HyenaOut.τ).loc Cert.HyenaOut.main_arg2) = m ((c.tc : Thread Cert.HyenaOut.nD Cert.HyenaOut.τ).loc Cert.HyenaOut.main_arg2))
      ∧ r.2.sem = fun _ => 0)

def quiescent_HyenaOutIdeal [hHyenaOutIdeal : Cert.HyenaOutIdeal.Facts] : Prop :=
  ∀ (m : (ℓ : Loc Cert.HyenaOutIdeal.nD Cert.HyenaOutIdeal.τ Cert.HyenaOutIdeal.sig) → Buf (Elt Ideal) ℓ) (g : Dev Cert.HyenaOutIdeal.nD → PrngReg), Pre_HyenaOutIdeal m →
    θ_run (Cert.HyenaOutIdeal.defs (F := Ideal)) (onTc (τ := Cert.HyenaOutIdeal.τ) (Cert.HyenaOutIdeal.main (F := Ideal))) ⟨m, fun _ => 0, g⟩ (fun r => (∀ c : Dev Cert.HyenaOutIdeal.nD,
      r.2.mem ((c.tc : Thread Cert.HyenaOutIdeal.nD Cert.HyenaOutIdeal.τ).loc Cert.HyenaOutIdeal.main_arg0) = m ((c.tc : Thread Cert.HyenaOutIdeal.nD Cert.HyenaOutIdeal.τ).loc Cert.HyenaOutIdeal.main_arg0)
      ∧ r.2.mem ((c.tc : Thread Cert.HyenaOutIdeal.nD Cert.HyenaOutIdeal.τ).loc Cert.HyenaOutIdeal.main_arg1) = m ((c.tc : Thread Cert.HyenaOutIdeal.nD Cert.HyenaOutIdeal.τ).loc Cert.HyenaOutIdeal.main_arg1)
      ∧ r.2.mem ((c.tc : Thread Cert.HyenaOutIdeal.nD Cert.HyenaOutIdeal.τ).loc Cert.HyenaOutIdeal.main_arg2) = m ((c.tc : Thread Cert.HyenaOutIdeal.nD Cert.HyenaOutIdeal.τ).loc Cert.HyenaOutIdeal.main_arg2))
      ∧ r.2.sem = fun _ => 0)

def quiescent_HyenaOutReferenceIdeal [hHyenaOutReferenceIdeal : Cert.HyenaOutReferenceIdeal.Facts] : Prop :=
  ∀ (m : (ℓ : Loc Cert.HyenaOutReferenceIdeal.nD Cert.HyenaOutReferenceIdeal.τ Cert.HyenaOutReferenceIdeal.sig) → Buf (Elt Ideal) ℓ) (g : Dev Cert.HyenaOutReferenceIdeal.nD → PrngReg), Pre_HyenaOutReferenceIdeal m →
    θ_run (Cert.HyenaOutReferenceIdeal.defs (F := Ideal)) (onTc (τ := Cert.HyenaOutReferenceIdeal.τ) (Cert.HyenaOutReferenceIdeal.main (F := Ideal))) ⟨m, fun _ => 0, g⟩ (fun r => (∀ c : Dev Cert.HyenaOutReferenceIdeal.nD,
      r.2.mem ((c.tc : Thread Cert.HyenaOutReferenceIdeal.nD Cert.HyenaOutReferenceIdeal.τ).loc Cert.HyenaOutReferenceIdeal.main_arg0) = m ((c.tc : Thread Cert.HyenaOutReferenceIdeal.nD Cert.HyenaOutReferenceIdeal.τ).loc Cert.HyenaOutReferenceIdeal.main_arg0)
      ∧ r.2.mem ((c.tc : Thread Cert.HyenaOutReferenceIdeal.nD Cert.HyenaOutReferenceIdeal.τ).loc Cert.HyenaOutReferenceIdeal.main_arg1) = m ((c.tc : Thread Cert.HyenaOutReferenceIdeal.nD Cert.HyenaOutReferenceIdeal.τ).loc Cert.HyenaOutReferenceIdeal.main_arg1)
      ∧ r.2.mem ((c.tc : Thread Cert.HyenaOutReferenceIdeal.nD Cert.HyenaOutReferenceIdeal.τ).loc Cert.HyenaOutReferenceIdeal.main_arg2) = m ((c.tc : Thread Cert.HyenaOutReferenceIdeal.nD Cert.HyenaOutReferenceIdeal.τ).loc Cert.HyenaOutReferenceIdeal.main_arg2))
      ∧ r.2.sem = fun _ => 0)

def quiescent_HgrnOut [hHgrnOut : Cert.HgrnOut.Facts] : Prop :=
  ∀ (m : (ℓ : Loc Cert.HgrnOut.nD Cert.HgrnOut.τ Cert.HgrnOut.sig) → Buf (Elt Bits) ℓ) (g : Dev Cert.HgrnOut.nD → PrngReg), Pre_HgrnOut m →
    θ_run (Cert.HgrnOut.defs (F := Bits)) (onTc (τ := Cert.HgrnOut.τ) (Cert.HgrnOut.main (F := Bits))) ⟨m, fun _ => 0, g⟩ (fun r => (∀ c : Dev Cert.HgrnOut.nD,
      r.2.mem ((c.tc : Thread Cert.HgrnOut.nD Cert.HgrnOut.τ).loc Cert.HgrnOut.main_arg0) = m ((c.tc : Thread Cert.HgrnOut.nD Cert.HgrnOut.τ).loc Cert.HgrnOut.main_arg0)
      ∧ r.2.mem ((c.tc : Thread Cert.HgrnOut.nD Cert.HgrnOut.τ).loc Cert.HgrnOut.main_arg1) = m ((c.tc : Thread Cert.HgrnOut.nD Cert.HgrnOut.τ).loc Cert.HgrnOut.main_arg1)
      ∧ r.2.mem ((c.tc : Thread Cert.HgrnOut.nD Cert.HgrnOut.τ).loc Cert.HgrnOut.main_arg2) = m ((c.tc : Thread Cert.HgrnOut.nD Cert.HgrnOut.τ).loc Cert.HgrnOut.main_arg2)
      ∧ r.2.mem ((c.tc : Thread Cert.HgrnOut.nD Cert.HgrnOut.τ).loc Cert.HgrnOut.main_arg3) = m ((c.tc : Thread Cert.HgrnOut.nD Cert.HgrnOut.τ).loc Cert.HgrnOut.main_arg3))
      ∧ r.2.sem = fun _ => 0)

def quiescent_HgrnOutIdeal [hHgrnOutIdeal : Cert.HgrnOutIdeal.Facts] : Prop :=
  ∀ (m : (ℓ : Loc Cert.HgrnOutIdeal.nD Cert.HgrnOutIdeal.τ Cert.HgrnOutIdeal.sig) → Buf (Elt Ideal) ℓ) (g : Dev Cert.HgrnOutIdeal.nD → PrngReg), Pre_HgrnOutIdeal m →
    θ_run (Cert.HgrnOutIdeal.defs (F := Ideal)) (onTc (τ := Cert.HgrnOutIdeal.τ) (Cert.HgrnOutIdeal.main (F := Ideal))) ⟨m, fun _ => 0, g⟩ (fun r => (∀ c : Dev Cert.HgrnOutIdeal.nD,
      r.2.mem ((c.tc : Thread Cert.HgrnOutIdeal.nD Cert.HgrnOutIdeal.τ).loc Cert.HgrnOutIdeal.main_arg0) = m ((c.tc : Thread Cert.HgrnOutIdeal.nD Cert.HgrnOutIdeal.τ).loc Cert.HgrnOutIdeal.main_arg0)
      ∧ r.2.mem ((c.tc : Thread Cert.HgrnOutIdeal.nD Cert.HgrnOutIdeal.τ).loc Cert.HgrnOutIdeal.main_arg1) = m ((c.tc : Thread Cert.HgrnOutIdeal.nD Cert.HgrnOutIdeal.τ).loc Cert.HgrnOutIdeal.main_arg1)
      ∧ r.2.mem ((c.tc : Thread Cert.HgrnOutIdeal.nD Cert.HgrnOutIdeal.τ).loc Cert.HgrnOutIdeal.main_arg2) = m ((c.tc : Thread Cert.HgrnOutIdeal.nD Cert.HgrnOutIdeal.τ).loc Cert.HgrnOutIdeal.main_arg2)
      ∧ r.2.mem ((c.tc : Thread Cert.HgrnOutIdeal.nD Cert.HgrnOutIdeal.τ).loc Cert.HgrnOutIdeal.main_arg3) = m ((c.tc : Thread Cert.HgrnOutIdeal.nD Cert.HgrnOutIdeal.τ).loc Cert.HgrnOutIdeal.main_arg3))
      ∧ r.2.sem = fun _ => 0)

def quiescent_HgrnOutReferenceIdeal [hHgrnOutReferenceIdeal : Cert.HgrnOutReferenceIdeal.Facts] : Prop :=
  ∀ (m : (ℓ : Loc Cert.HgrnOutReferenceIdeal.nD Cert.HgrnOutReferenceIdeal.τ Cert.HgrnOutReferenceIdeal.sig) → Buf (Elt Ideal) ℓ) (g : Dev Cert.HgrnOutReferenceIdeal.nD → PrngReg), Pre_HgrnOutReferenceIdeal m →
    θ_run (Cert.HgrnOutReferenceIdeal.defs (F := Ideal)) (onTc (τ := Cert.HgrnOutReferenceIdeal.τ) (Cert.HgrnOutReferenceIdeal.main (F := Ideal))) ⟨m, fun _ => 0, g⟩ (fun r => (∀ c : Dev Cert.HgrnOutReferenceIdeal.nD,
      r.2.mem ((c.tc : Thread Cert.HgrnOutReferenceIdeal.nD Cert.HgrnOutReferenceIdeal.τ).loc Cert.HgrnOutReferenceIdeal.main_arg0) = m ((c.tc : Thread Cert.HgrnOutReferenceIdeal.nD Cert.HgrnOutReferenceIdeal.τ).loc Cert.HgrnOutReferenceIdeal.main_arg0)
      ∧ r.2.mem ((c.tc : Thread Cert.HgrnOutReferenceIdeal.nD Cert.HgrnOutReferenceIdeal.τ).loc Cert.HgrnOutReferenceIdeal.main_arg1) = m ((c.tc : Thread Cert.HgrnOutReferenceIdeal.nD Cert.HgrnOutReferenceIdeal.τ).loc Cert.HgrnOutReferenceIdeal.main_arg1)
      ∧ r.2.mem ((c.tc : Thread Cert.HgrnOutReferenceIdeal.nD Cert.HgrnOutReferenceIdeal.τ).loc Cert.HgrnOutReferenceIdeal.main_arg2) = m ((c.tc : Thread Cert.HgrnOutReferenceIdeal.nD Cert.HgrnOutReferenceIdeal.τ).loc Cert.HgrnOutReferenceIdeal.main_arg2)
      ∧ r.2.mem ((c.tc : Thread Cert.HgrnOutReferenceIdeal.nD Cert.HgrnOutReferenceIdeal.τ).loc Cert.HgrnOutReferenceIdeal.main_arg3) = m ((c.tc : Thread Cert.HgrnOutReferenceIdeal.nD Cert.HgrnOutReferenceIdeal.τ).loc Cert.HgrnOutReferenceIdeal.main_arg3))
      ∧ r.2.sem = fun _ => 0)

def quiescent_HgrnNorm [hHgrnNorm : Cert.HgrnNorm.Facts] : Prop :=
  ∀ (m : (ℓ : Loc Cert.HgrnNorm.nD Cert.HgrnNorm.τ Cert.HgrnNorm.sig) → Buf (Elt Bits) ℓ) (g : Dev Cert.HgrnNorm.nD → PrngReg), Pre_HgrnNorm m →
    θ_run (Cert.HgrnNorm.defs (F := Bits)) (onTc (τ := Cert.HgrnNorm.τ) (Cert.HgrnNorm.main (F := Bits))) ⟨m, fun _ => 0, g⟩ (fun r => (∀ c : Dev Cert.HgrnNorm.nD,
      r.2.mem ((c.tc : Thread Cert.HgrnNorm.nD Cert.HgrnNorm.τ).loc Cert.HgrnNorm.main_arg0) = m ((c.tc : Thread Cert.HgrnNorm.nD Cert.HgrnNorm.τ).loc Cert.HgrnNorm.main_arg0)
      ∧ r.2.mem ((c.tc : Thread Cert.HgrnNorm.nD Cert.HgrnNorm.τ).loc Cert.HgrnNorm.main_arg1) = m ((c.tc : Thread Cert.HgrnNorm.nD Cert.HgrnNorm.τ).loc Cert.HgrnNorm.main_arg1))
      ∧ r.2.sem = fun _ => 0)

def quiescent_HgrnNormIdeal [hHgrnNormIdeal : Cert.HgrnNormIdeal.Facts] : Prop :=
  ∀ (m : (ℓ : Loc Cert.HgrnNormIdeal.nD Cert.HgrnNormIdeal.τ Cert.HgrnNormIdeal.sig) → Buf (Elt Ideal) ℓ) (g : Dev Cert.HgrnNormIdeal.nD → PrngReg), Pre_HgrnNormIdeal m →
    θ_run (Cert.HgrnNormIdeal.defs (F := Ideal)) (onTc (τ := Cert.HgrnNormIdeal.τ) (Cert.HgrnNormIdeal.main (F := Ideal))) ⟨m, fun _ => 0, g⟩ (fun r => (∀ c : Dev Cert.HgrnNormIdeal.nD,
      r.2.mem ((c.tc : Thread Cert.HgrnNormIdeal.nD Cert.HgrnNormIdeal.τ).loc Cert.HgrnNormIdeal.main_arg0) = m ((c.tc : Thread Cert.HgrnNormIdeal.nD Cert.HgrnNormIdeal.τ).loc Cert.HgrnNormIdeal.main_arg0)
      ∧ r.2.mem ((c.tc : Thread Cert.HgrnNormIdeal.nD Cert.HgrnNormIdeal.τ).loc Cert.HgrnNormIdeal.main_arg1) = m ((c.tc : Thread Cert.HgrnNormIdeal.nD Cert.HgrnNormIdeal.τ).loc Cert.HgrnNormIdeal.main_arg1))
      ∧ r.2.sem = fun _ => 0)

def quiescent_HgrnNormReferenceIdeal [hHgrnNormReferenceIdeal : Cert.HgrnNormReferenceIdeal.Facts] : Prop :=
  ∀ (m : (ℓ : Loc Cert.HgrnNormReferenceIdeal.nD Cert.HgrnNormReferenceIdeal.τ Cert.HgrnNormReferenceIdeal.sig) → Buf (Elt Ideal) ℓ) (g : Dev Cert.HgrnNormReferenceIdeal.nD → PrngReg), Pre_HgrnNormReferenceIdeal m →
    θ_run (Cert.HgrnNormReferenceIdeal.defs (F := Ideal)) (onTc (τ := Cert.HgrnNormReferenceIdeal.τ) (Cert.HgrnNormReferenceIdeal.main (F := Ideal))) ⟨m, fun _ => 0, g⟩ (fun r => (∀ c : Dev Cert.HgrnNormReferenceIdeal.nD,
      r.2.mem ((c.tc : Thread Cert.HgrnNormReferenceIdeal.nD Cert.HgrnNormReferenceIdeal.τ).loc Cert.HgrnNormReferenceIdeal.main_arg0) = m ((c.tc : Thread Cert.HgrnNormReferenceIdeal.nD Cert.HgrnNormReferenceIdeal.τ).loc Cert.HgrnNormReferenceIdeal.main_arg0)
      ∧ r.2.mem ((c.tc : Thread Cert.HgrnNormReferenceIdeal.nD Cert.HgrnNormReferenceIdeal.τ).loc Cert.HgrnNormReferenceIdeal.main_arg1) = m ((c.tc : Thread Cert.HgrnNormReferenceIdeal.nD Cert.HgrnNormReferenceIdeal.τ).loc Cert.HgrnNormReferenceIdeal.main_arg1))
      ∧ r.2.sem = fun _ => 0)

def quiescent_HyenaNorm [hHyenaNorm : Cert.HyenaNorm.Facts] : Prop :=
  ∀ (m : (ℓ : Loc Cert.HyenaNorm.nD Cert.HyenaNorm.τ Cert.HyenaNorm.sig) → Buf (Elt Bits) ℓ) (g : Dev Cert.HyenaNorm.nD → PrngReg), Pre_HyenaNorm m →
    θ_run (Cert.HyenaNorm.defs (F := Bits)) (onTc (τ := Cert.HyenaNorm.τ) (Cert.HyenaNorm.main (F := Bits))) ⟨m, fun _ => 0, g⟩ (fun r => (∀ c : Dev Cert.HyenaNorm.nD,
      r.2.mem ((c.tc : Thread Cert.HyenaNorm.nD Cert.HyenaNorm.τ).loc Cert.HyenaNorm.main_arg0) = m ((c.tc : Thread Cert.HyenaNorm.nD Cert.HyenaNorm.τ).loc Cert.HyenaNorm.main_arg0)
      ∧ r.2.mem ((c.tc : Thread Cert.HyenaNorm.nD Cert.HyenaNorm.τ).loc Cert.HyenaNorm.main_arg1) = m ((c.tc : Thread Cert.HyenaNorm.nD Cert.HyenaNorm.τ).loc Cert.HyenaNorm.main_arg1))
      ∧ r.2.sem = fun _ => 0)

def quiescent_HyenaNormIdeal [hHyenaNormIdeal : Cert.HyenaNormIdeal.Facts] : Prop :=
  ∀ (m : (ℓ : Loc Cert.HyenaNormIdeal.nD Cert.HyenaNormIdeal.τ Cert.HyenaNormIdeal.sig) → Buf (Elt Ideal) ℓ) (g : Dev Cert.HyenaNormIdeal.nD → PrngReg), Pre_HyenaNormIdeal m →
    θ_run (Cert.HyenaNormIdeal.defs (F := Ideal)) (onTc (τ := Cert.HyenaNormIdeal.τ) (Cert.HyenaNormIdeal.main (F := Ideal))) ⟨m, fun _ => 0, g⟩ (fun r => (∀ c : Dev Cert.HyenaNormIdeal.nD,
      r.2.mem ((c.tc : Thread Cert.HyenaNormIdeal.nD Cert.HyenaNormIdeal.τ).loc Cert.HyenaNormIdeal.main_arg0) = m ((c.tc : Thread Cert.HyenaNormIdeal.nD Cert.HyenaNormIdeal.τ).loc Cert.HyenaNormIdeal.main_arg0)
      ∧ r.2.mem ((c.tc : Thread Cert.HyenaNormIdeal.nD Cert.HyenaNormIdeal.τ).loc Cert.HyenaNormIdeal.main_arg1) = m ((c.tc : Thread Cert.HyenaNormIdeal.nD Cert.HyenaNormIdeal.τ).loc Cert.HyenaNormIdeal.main_arg1))
      ∧ r.2.sem = fun _ => 0)

def quiescent_HyenaNormReferenceIdeal [hHyenaNormReferenceIdeal : Cert.HyenaNormReferenceIdeal.Facts] : Prop :=
  ∀ (m : (ℓ : Loc Cert.HyenaNormReferenceIdeal.nD Cert.HyenaNormReferenceIdeal.τ Cert.HyenaNormReferenceIdeal.sig) → Buf (Elt Ideal) ℓ) (g : Dev Cert.HyenaNormReferenceIdeal.nD → PrngReg), Pre_HyenaNormReferenceIdeal m →
    θ_run (Cert.HyenaNormReferenceIdeal.defs (F := Ideal)) (onTc (τ := Cert.HyenaNormReferenceIdeal.τ) (Cert.HyenaNormReferenceIdeal.main (F := Ideal))) ⟨m, fun _ => 0, g⟩ (fun r => (∀ c : Dev Cert.HyenaNormReferenceIdeal.nD,
      r.2.mem ((c.tc : Thread Cert.HyenaNormReferenceIdeal.nD Cert.HyenaNormReferenceIdeal.τ).loc Cert.HyenaNormReferenceIdeal.main_arg0) = m ((c.tc : Thread Cert.HyenaNormReferenceIdeal.nD Cert.HyenaNormReferenceIdeal.τ).loc Cert.HyenaNormReferenceIdeal.main_arg0)
      ∧ r.2.mem ((c.tc : Thread Cert.HyenaNormReferenceIdeal.nD Cert.HyenaNormReferenceIdeal.τ).loc Cert.HyenaNormReferenceIdeal.main_arg1) = m ((c.tc : Thread Cert.HyenaNormReferenceIdeal.nD Cert.HyenaNormReferenceIdeal.τ).loc Cert.HyenaNormReferenceIdeal.main_arg1))
      ∧ r.2.sem = fun _ => 0)

def quiescent_FfnNorm [hFfnNorm : Cert.FfnNorm.Facts] : Prop :=
  ∀ (m : (ℓ : Loc Cert.FfnNorm.nD Cert.FfnNorm.τ Cert.FfnNorm.sig) → Buf (Elt Bits) ℓ) (g : Dev Cert.FfnNorm.nD → PrngReg), Pre_FfnNorm m →
    θ_run (Cert.FfnNorm.defs (F := Bits)) (onTc (τ := Cert.FfnNorm.τ) (Cert.FfnNorm.main (F := Bits))) ⟨m, fun _ => 0, g⟩ (fun r => (∀ c : Dev Cert.FfnNorm.nD,
      r.2.mem ((c.tc : Thread Cert.FfnNorm.nD Cert.FfnNorm.τ).loc Cert.FfnNorm.main_arg0) = m ((c.tc : Thread Cert.FfnNorm.nD Cert.FfnNorm.τ).loc Cert.FfnNorm.main_arg0)
      ∧ r.2.mem ((c.tc : Thread Cert.FfnNorm.nD Cert.FfnNorm.τ).loc Cert.FfnNorm.main_arg1) = m ((c.tc : Thread Cert.FfnNorm.nD Cert.FfnNorm.τ).loc Cert.FfnNorm.main_arg1))
      ∧ r.2.sem = fun _ => 0)

def quiescent_FfnNormIdeal [hFfnNormIdeal : Cert.FfnNormIdeal.Facts] : Prop :=
  ∀ (m : (ℓ : Loc Cert.FfnNormIdeal.nD Cert.FfnNormIdeal.τ Cert.FfnNormIdeal.sig) → Buf (Elt Ideal) ℓ) (g : Dev Cert.FfnNormIdeal.nD → PrngReg), Pre_FfnNormIdeal m →
    θ_run (Cert.FfnNormIdeal.defs (F := Ideal)) (onTc (τ := Cert.FfnNormIdeal.τ) (Cert.FfnNormIdeal.main (F := Ideal))) ⟨m, fun _ => 0, g⟩ (fun r => (∀ c : Dev Cert.FfnNormIdeal.nD,
      r.2.mem ((c.tc : Thread Cert.FfnNormIdeal.nD Cert.FfnNormIdeal.τ).loc Cert.FfnNormIdeal.main_arg0) = m ((c.tc : Thread Cert.FfnNormIdeal.nD Cert.FfnNormIdeal.τ).loc Cert.FfnNormIdeal.main_arg0)
      ∧ r.2.mem ((c.tc : Thread Cert.FfnNormIdeal.nD Cert.FfnNormIdeal.τ).loc Cert.FfnNormIdeal.main_arg1) = m ((c.tc : Thread Cert.FfnNormIdeal.nD Cert.FfnNormIdeal.τ).loc Cert.FfnNormIdeal.main_arg1))
      ∧ r.2.sem = fun _ => 0)

def quiescent_FfnNormReferenceIdeal [hFfnNormReferenceIdeal : Cert.FfnNormReferenceIdeal.Facts] : Prop :=
  ∀ (m : (ℓ : Loc Cert.FfnNormReferenceIdeal.nD Cert.FfnNormReferenceIdeal.τ Cert.FfnNormReferenceIdeal.sig) → Buf (Elt Ideal) ℓ) (g : Dev Cert.FfnNormReferenceIdeal.nD → PrngReg), Pre_FfnNormReferenceIdeal m →
    θ_run (Cert.FfnNormReferenceIdeal.defs (F := Ideal)) (onTc (τ := Cert.FfnNormReferenceIdeal.τ) (Cert.FfnNormReferenceIdeal.main (F := Ideal))) ⟨m, fun _ => 0, g⟩ (fun r => (∀ c : Dev Cert.FfnNormReferenceIdeal.nD,
      r.2.mem ((c.tc : Thread Cert.FfnNormReferenceIdeal.nD Cert.FfnNormReferenceIdeal.τ).loc Cert.FfnNormReferenceIdeal.main_arg0) = m ((c.tc : Thread Cert.FfnNormReferenceIdeal.nD Cert.FfnNormReferenceIdeal.τ).loc Cert.FfnNormReferenceIdeal.main_arg0)
      ∧ r.2.mem ((c.tc : Thread Cert.FfnNormReferenceIdeal.nD Cert.FfnNormReferenceIdeal.τ).loc Cert.FfnNormReferenceIdeal.main_arg1) = m ((c.tc : Thread Cert.FfnNormReferenceIdeal.nD Cert.FfnNormReferenceIdeal.τ).loc Cert.FfnNormReferenceIdeal.main_arg1))
      ∧ r.2.sem = fun _ => 0)

def preserves_Kernel_KernelIdeal : Prop :=
  True

def algebraic_KernelIdeal_ReferenceIdeal_pre_bounded [hKernelIdeal : Cert.KernelIdeal.Facts] [hReferenceIdeal : Cert.ReferenceIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bounded m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_ScanBack_ScanBackIdeal : Prop :=
  True

def algebraic_ScanBackIdeal_ScanBackReferenceIdeal_pre_bounded_back [hScanBackIdeal : Cert.ScanBackIdeal.Facts] [hScanBackReferenceIdeal : Cert.ScanBackReferenceIdeal.Facts] [hPre_bounded_back : Cert.Pre_bounded_back.Facts] : Prop :=
  ∀ (m : (ℓ : Loc Cert.ScanBackIdeal.nD Cert.ScanBackIdeal.τ Cert.ScanBackIdeal.sig) → Buf (Elt Ideal) ℓ) (g : Dev Cert.ScanBackIdeal.nD → PrngReg)
    (m' : (ℓ : Loc Cert.ScanBackReferenceIdeal.nD Cert.ScanBackReferenceIdeal.τ Cert.ScanBackReferenceIdeal.sig) → Buf (Elt Ideal) ℓ) (g' : Dev Cert.ScanBackReferenceIdeal.nD → PrngReg), Pre_ScanBackIdeal_bounded_back m →
    (∀ c : Dev Cert.ScanBackIdeal.nD,
      m' ((c.tc : Thread Cert.ScanBackReferenceIdeal.nD Cert.ScanBackReferenceIdeal.τ).loc Cert.ScanBackReferenceIdeal.main_arg0) = m ((c.tc : Thread Cert.ScanBackIdeal.nD Cert.ScanBackIdeal.τ).loc Cert.ScanBackIdeal.main_arg0)
      ∧ m' ((c.tc : Thread Cert.ScanBackReferenceIdeal.nD Cert.ScanBackReferenceIdeal.τ).loc Cert.ScanBackReferenceIdeal.main_arg1) = m ((c.tc : Thread Cert.ScanBackIdeal.nD Cert.ScanBackIdeal.τ).loc Cert.ScanBackIdeal.main_arg1)
      ∧ m' ((c.tc : Thread Cert.ScanBackReferenceIdeal.nD Cert.ScanBackReferenceIdeal.τ).loc Cert.ScanBackReferenceIdeal.main_arg2) = m ((c.tc : Thread Cert.ScanBackIdeal.nD Cert.ScanBackIdeal.τ).loc Cert.ScanBackIdeal.main_arg2)
      ∧ m' ((c.tc : Thread Cert.ScanBackReferenceIdeal.nD Cert.ScanBackReferenceIdeal.τ).loc Cert.ScanBackReferenceIdeal.main_arg3) = m ((c.tc : Thread Cert.ScanBackIdeal.nD Cert.ScanBackIdeal.τ).loc Cert.ScanBackIdeal.main_arg3)) →
    ∃ (v0 : (c : Dev Cert.ScanBackIdeal.nD) → Buf (Elt Ideal) ((c.tc : Thread Cert.ScanBackIdeal.nD Cert.ScanBackIdeal.τ).loc Cert.ScanBackIdeal.main_v4)),
      θ_run (Cert.ScanBackIdeal.defs (F := Ideal)) (onTc (τ := Cert.ScanBackIdeal.τ) (Cert.ScanBackIdeal.main (F := Ideal))) ⟨m, fun _ => 0, g⟩ (fun r => ∀ c : Dev Cert.ScanBackIdeal.nD,
          r.2.mem ((c.tc : Thread Cert.ScanBackIdeal.nD Cert.ScanBackIdeal.τ).loc Cert.ScanBackIdeal.main_v4) = v0 c
          ∧ r.2.mem ((c.tc : Thread Cert.ScanBackIdeal.nD Cert.ScanBackIdeal.τ).loc Cert.ScanBackIdeal.main_arg0) = m ((c.tc : Thread Cert.ScanBackIdeal.nD Cert.ScanBackIdeal.τ).loc Cert.ScanBackIdeal.main_arg0)
          ∧ r.2.mem ((c.tc : Thread Cert.ScanBackIdeal.nD Cert.ScanBackIdeal.τ).loc Cert.ScanBackIdeal.main_arg1) = m ((c.tc : Thread Cert.ScanBackIdeal.nD Cert.ScanBackIdeal.τ).loc Cert.ScanBackIdeal.main_arg1)
          ∧ r.2.mem ((c.tc : Thread Cert.ScanBackIdeal.nD Cert.ScanBackIdeal.τ).loc Cert.ScanBackIdeal.main_arg2) = m ((c.tc : Thread Cert.ScanBackIdeal.nD Cert.ScanBackIdeal.τ).loc Cert.ScanBackIdeal.main_arg2)
          ∧ r.2.mem ((c.tc : Thread Cert.ScanBackIdeal.nD Cert.ScanBackIdeal.τ).loc Cert.ScanBackIdeal.main_arg3) = m ((c.tc : Thread Cert.ScanBackIdeal.nD Cert.ScanBackIdeal.τ).loc Cert.ScanBackIdeal.main_arg3))
      ∧ θ_run (Cert.ScanBackReferenceIdeal.defs (F := Ideal)) (onTc (τ := Cert.ScanBackReferenceIdeal.τ) (Cert.ScanBackReferenceIdeal.main (F := Ideal))) ⟨m', fun _ => 0, g'⟩ (fun r => ∀ c : Dev Cert.ScanBackReferenceIdeal.nD,
          r.2.mem ((c.tc : Thread Cert.ScanBackReferenceIdeal.nD Cert.ScanBackReferenceIdeal.τ).loc Cert.ScanBackReferenceIdeal.main_v86) = v0 c
          ∧ r.2.mem ((c.tc : Thread Cert.ScanBackReferenceIdeal.nD Cert.ScanBackReferenceIdeal.τ).loc Cert.ScanBackReferenceIdeal.main_arg0) = m' ((c.tc : Thread Cert.ScanBackReferenceIdeal.nD Cert.ScanBackReferenceIdeal.τ).loc Cert.ScanBackReferenceIdeal.main_arg0)
          ∧ r.2.mem ((c.tc : Thread Cert.ScanBackReferenceIdeal.nD Cert.ScanBackReferenceIdeal.τ).loc Cert.ScanBackReferenceIdeal.main_arg1) = m' ((c.tc : Thread Cert.ScanBackReferenceIdeal.nD Cert.ScanBackReferenceIdeal.τ).loc Cert.ScanBackReferenceIdeal.main_arg1)
          ∧ r.2.mem ((c.tc : Thread Cert.ScanBackReferenceIdeal.nD Cert.ScanBackReferenceIdeal.τ).loc Cert.ScanBackReferenceIdeal.main_arg2) = m' ((c.tc : Thread Cert.ScanBackReferenceIdeal.nD Cert.ScanBackReferenceIdeal.τ).loc Cert.ScanBackReferenceIdeal.main_arg2)
          ∧ r.2.mem ((c.tc : Thread Cert.ScanBackReferenceIdeal.nD Cert.ScanBackReferenceIdeal.τ).loc Cert.ScanBackReferenceIdeal.main_arg3) = m' ((c.tc : Thread Cert.ScanBackReferenceIdeal.nD Cert.ScanBackReferenceIdeal.τ).loc Cert.ScanBackReferenceIdeal.main_arg3))

def preserves_GateUp_GateUpIdeal : Prop :=
  True

def algebraic_GateUpIdeal_GateUpReferenceIdeal [hGateUpIdeal : Cert.GateUpIdeal.Facts] [hGateUpReferenceIdeal : Cert.GateUpReferenceIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpReferenceIdeal.nD Cert.GateUpReferenceIdeal.τ Cert.GateUpReferenceIdeal.sig) → Buf (Elt Ideal) ℓ) (g' : Dev Cert.GateUpReferenceIdeal.nD → PrngReg), Pre_GateUpIdeal m →
    (∀ c : Dev Cert.GateUpIdeal.nD,
      m' ((c.tc : Thread Cert.GateUpReferenceIdeal.nD Cert.GateUpReferenceIdeal.τ).loc Cert.GateUpReferenceIdeal.main_arg0) = m ((c.tc : Thread Cert.GateUpIdeal.nD Cert.GateUpIdeal.τ).loc Cert.GateUpIdeal.main_arg0)
      ∧ m' ((c.tc : Thread Cert.GateUpReferenceIdeal.nD Cert.GateUpReferenceIdeal.τ).loc Cert.GateUpReferenceIdeal.main_arg1) = m ((c.tc : Thread Cert.GateUpIdeal.nD Cert.GateUpIdeal.τ).loc Cert.GateUpIdeal.main_arg1)
      ∧ m' ((c.tc : Thread Cert.GateUpReferenceIdeal.nD Cert.GateUpReferenceIdeal.τ).loc Cert.GateUpReferenceIdeal.main_arg2) = m ((c.tc : Thread Cert.GateUpIdeal.nD Cert.GateUpIdeal.τ).loc Cert.GateUpIdeal.main_arg2)) →
    ∃ (v0 : (c : Dev Cert.GateUpIdeal.nD) → Buf (Elt Ideal) ((c.tc : Thread Cert.GateUpIdeal.nD Cert.GateUpIdeal.τ).loc Cert.GateUpIdeal.main_v0)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v0) = v0 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2))
      ∧ θ_run (Cert.GateUpReferenceIdeal.defs (F := Ideal)) (onTc (τ := Cert.GateUpReferenceIdeal.τ) (Cert.GateUpReferenceIdeal.main (F := Ideal))) ⟨m', fun _ => 0, g'⟩ (fun r => ∀ c : Dev Cert.GateUpReferenceIdeal.nD,
          r.2.mem ((c.tc : Thread Cert.GateUpReferenceIdeal.nD Cert.GateUpReferenceIdeal.τ).loc Cert.GateUpReferenceIdeal.main_v9) = v0 c
          ∧ r.2.mem ((c.tc : Thread Cert.GateUpReferenceIdeal.nD Cert.GateUpReferenceIdeal.τ).loc Cert.GateUpReferenceIdeal.main_arg0) = m' ((c.tc : Thread Cert.GateUpReferenceIdeal.nD Cert.GateUpReferenceIdeal.τ).loc Cert.GateUpReferenceIdeal.main_arg0)
          ∧ r.2.mem ((c.tc : Thread Cert.GateUpReferenceIdeal.nD Cert.GateUpReferenceIdeal.τ).loc Cert.GateUpReferenceIdeal.main_arg1) = m' ((c.tc : Thread Cert.GateUpReferenceIdeal.nD Cert.GateUpReferenceIdeal.τ).loc Cert.GateUpReferenceIdeal.main_arg1)
          ∧ r.2.mem ((c.tc : Thread Cert.GateUpReferenceIdeal.nD Cert.GateUpReferenceIdeal.τ).loc Cert.GateUpReferenceIdeal.main_arg2) = m' ((c.tc : Thread Cert.GateUpReferenceIdeal.nD Cert.GateUpReferenceIdeal.τ).loc Cert.GateUpReferenceIdeal.main_arg2))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v4) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2))

def preserves_Project_ProjectIdeal : Prop :=
  True

def algebraic_ProjectIdeal_ProjectReferenceIdeal [hProjectIdeal : Cert.ProjectIdeal.Facts] [hProjectReferenceIdeal : Cert.ProjectReferenceIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectReferenceIdeal.nD Cert.ProjectReferenceIdeal.τ Cert.ProjectReferenceIdeal.sig) → Buf (Elt Ideal) ℓ) (g' : Dev Cert.ProjectReferenceIdeal.nD → PrngReg), Pre_ProjectIdeal m →
    (∀ c : Dev Cert.ProjectIdeal.nD,
      m' ((c.tc : Thread Cert.ProjectReferenceIdeal.nD Cert.ProjectReferenceIdeal.τ).loc Cert.ProjectReferenceIdeal.main_arg0) = m ((c.tc : Thread Cert.ProjectIdeal.nD Cert.ProjectIdeal.τ).loc Cert.ProjectIdeal.main_arg0)
      ∧ m' ((c.tc : Thread Cert.ProjectReferenceIdeal.nD Cert.ProjectReferenceIdeal.τ).loc Cert.ProjectReferenceIdeal.main_arg1) = m ((c.tc : Thread Cert.ProjectIdeal.nD Cert.ProjectIdeal.τ).loc Cert.ProjectIdeal.main_arg1)) →
    ∃ (v0 : (c : Dev Cert.ProjectIdeal.nD) → Buf (Elt Ideal) ((c.tc : Thread Cert.ProjectIdeal.nD Cert.ProjectIdeal.τ).loc Cert.ProjectIdeal.main_v0)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v0) = v0 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1))
      ∧ θ_run (Cert.ProjectReferenceIdeal.defs (F := Ideal)) (onTc (τ := Cert.ProjectReferenceIdeal.τ) (Cert.ProjectReferenceIdeal.main (F := Ideal))) ⟨m', fun _ => 0, g'⟩ (fun r => ∀ c : Dev Cert.ProjectReferenceIdeal.nD,
          r.2.mem ((c.tc : Thread Cert.ProjectReferenceIdeal.nD Cert.ProjectReferenceIdeal.τ).loc Cert.ProjectReferenceIdeal.main_v2) = v0 c
          ∧ r.2.mem ((c.tc : Thread Cert.ProjectReferenceIdeal.nD Cert.ProjectReferenceIdeal.τ).loc Cert.ProjectReferenceIdeal.main_arg0) = m' ((c.tc : Thread Cert.ProjectReferenceIdeal.nD Cert.ProjectReferenceIdeal.τ).loc Cert.ProjectReferenceIdeal.main_arg0)
          ∧ r.2.mem ((c.tc : Thread Cert.ProjectReferenceIdeal.nD Cert.ProjectReferenceIdeal.τ).loc Cert.ProjectReferenceIdeal.main_arg1) = m' ((c.tc : Thread Cert.ProjectReferenceIdeal.nD Cert.ProjectReferenceIdeal.τ).loc Cert.ProjectReferenceIdeal.main_arg1))

def preserves_FinalNorm_FinalNormIdeal : Prop :=
  True

def algebraic_FinalNormIdeal_FinalNormReferenceIdeal [hFinalNormIdeal : Cert.FinalNormIdeal.Facts] [hFinalNormReferenceIdeal : Cert.FinalNormReferenceIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg)
    (m' : (ℓ : Loc Cert.FinalNormReferenceIdeal.nD Cert.FinalNormReferenceIdeal.τ Cert.FinalNormReferenceIdeal.sig) → Buf (Elt Ideal) ℓ) (g' : Dev Cert.FinalNormReferenceIdeal.nD → PrngReg), Pre_FinalNormIdeal m →
    (∀ c : Dev Cert.FinalNormIdeal.nD,
      m' ((c.tc : Thread Cert.FinalNormReferenceIdeal.nD Cert.FinalNormReferenceIdeal.τ).loc Cert.FinalNormReferenceIdeal.main_arg0) = m ((c.tc : Thread Cert.FinalNormIdeal.nD Cert.FinalNormIdeal.τ).loc Cert.FinalNormIdeal.main_arg0)
      ∧ m' ((c.tc : Thread Cert.FinalNormReferenceIdeal.nD Cert.FinalNormReferenceIdeal.τ).loc Cert.FinalNormReferenceIdeal.main_arg1) = m ((c.tc : Thread Cert.FinalNormIdeal.nD Cert.FinalNormIdeal.τ).loc Cert.FinalNormIdeal.main_arg1)) →
    ∃ (v0 : (c : Dev Cert.FinalNormIdeal.nD) → Buf (Elt Ideal) ((c.tc : Thread Cert.FinalNormIdeal.nD Cert.FinalNormIdeal.τ).loc Cert.FinalNormIdeal.main_v1)),
      θ_run (Cert.FinalNormIdeal.defs (F := Ideal)) (onTc (τ := Cert.FinalNormIdeal.τ) (Cert.FinalNormIdeal.main (F := Ideal))) ⟨m, fun _ => 0, g⟩ (fun r => ∀ c : Dev Cert.FinalNormIdeal.nD,
          r.2.mem ((c.tc : Thread Cert.FinalNormIdeal.nD Cert.FinalNormIdeal.τ).loc Cert.FinalNormIdeal.main_v1) = v0 c
          ∧ r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
          ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ θ_run (Cert.FinalNormReferenceIdeal.defs (F := Ideal)) (onTc (τ := Cert.FinalNormReferenceIdeal.τ) (Cert.FinalNormReferenceIdeal.main (F := Ideal))) ⟨m', fun _ => 0, g'⟩ (fun r => ∀ c : Dev Cert.FinalNormReferenceIdeal.nD,
          r.2.mem ((c.tc : Thread Cert.FinalNormReferenceIdeal.nD Cert.FinalNormReferenceIdeal.τ).loc Cert.FinalNormReferenceIdeal.main_v13) = v0 c
          ∧ r.2.mem ((c.tc : Thread Cert.FinalNormReferenceIdeal.nD Cert.FinalNormReferenceIdeal.τ).loc Cert.FinalNormReferenceIdeal.main_arg0) = m' ((c.tc : Thread Cert.FinalNormReferenceIdeal.nD Cert.FinalNormReferenceIdeal.τ).loc Cert.FinalNormReferenceIdeal.main_arg0)
          ∧ r.2.mem ((c.tc : Thread Cert.FinalNormReferenceIdeal.nD Cert.FinalNormReferenceIdeal.τ).loc Cert.FinalNormReferenceIdeal.main_arg1) = m' ((c.tc : Thread Cert.FinalNormReferenceIdeal.nD Cert.FinalNormReferenceIdeal.τ).loc Cert.FinalNormReferenceIdeal.main_arg1))

def preserves_FinalNormSamples_FinalNormSamplesIdeal : Prop :=
  True

def algebraic_FinalNormSamplesIdeal_FinalNormSamplesReferenceIdeal [hFinalNormSamplesIdeal : Cert.FinalNormSamplesIdeal.Facts] [hFinalNormSamplesReferenceIdeal : Cert.FinalNormSamplesReferenceIdeal.Facts] : Prop :=
  ∀ (m : (ℓ : Loc Cert.FinalNormSamplesIdeal.nD Cert.FinalNormSamplesIdeal.τ Cert.FinalNormSamplesIdeal.sig) → Buf (Elt Ideal) ℓ) (g : Dev Cert.FinalNormSamplesIdeal.nD → PrngReg)
    (m' : (ℓ : Loc Cert.FinalNormSamplesReferenceIdeal.nD Cert.FinalNormSamplesReferenceIdeal.τ Cert.FinalNormSamplesReferenceIdeal.sig) → Buf (Elt Ideal) ℓ) (g' : Dev Cert.FinalNormSamplesReferenceIdeal.nD → PrngReg), Pre_FinalNormSamplesIdeal m →
    (∀ c : Dev Cert.FinalNormSamplesIdeal.nD,
      m' ((c.tc : Thread Cert.FinalNormSamplesReferenceIdeal.nD Cert.FinalNormSamplesReferenceIdeal.τ).loc Cert.FinalNormSamplesReferenceIdeal.main_arg0) = m ((c.tc : Thread Cert.FinalNormSamplesIdeal.nD Cert.FinalNormSamplesIdeal.τ).loc Cert.FinalNormSamplesIdeal.main_arg0)
      ∧ m' ((c.tc : Thread Cert.FinalNormSamplesReferenceIdeal.nD Cert.FinalNormSamplesReferenceIdeal.τ).loc Cert.FinalNormSamplesReferenceIdeal.main_arg1) = m ((c.tc : Thread Cert.FinalNormSamplesIdeal.nD Cert.FinalNormSamplesIdeal.τ).loc Cert.FinalNormSamplesIdeal.main_arg1)) →
    ∃ (v0 : (c : Dev Cert.FinalNormSamplesIdeal.nD) → Buf (Elt Ideal) ((c.tc : Thread Cert.FinalNormSamplesIdeal.nD Cert.FinalNormSamplesIdeal.τ).loc Cert.FinalNormSamplesIdeal.main_v1)),
      θ_run (Cert.FinalNormSamplesIdeal.defs (F := Ideal)) (onTc (τ := Cert.FinalNormSamplesIdeal.τ) (Cert.FinalNormSamplesIdeal.main (F := Ideal))) ⟨m, fun _ => 0, g⟩ (fun r => ∀ c : Dev Cert.FinalNormSamplesIdeal.nD,
          r.2.mem ((c.tc : Thread Cert.FinalNormSamplesIdeal.nD Cert.FinalNormSamplesIdeal.τ).loc Cert.FinalNormSamplesIdeal.main_v1) = v0 c
          ∧ r.2.mem ((c.tc : Thread Cert.FinalNormSamplesIdeal.nD Cert.FinalNormSamplesIdeal.τ).loc Cert.FinalNormSamplesIdeal.main_arg0) = m ((c.tc : Thread Cert.FinalNormSamplesIdeal.nD Cert.FinalNormSamplesIdeal.τ).loc Cert.FinalNormSamplesIdeal.main_arg0)
          ∧ r.2.mem ((c.tc : Thread Cert.FinalNormSamplesIdeal.nD Cert.FinalNormSamplesIdeal.τ).loc Cert.FinalNormSamplesIdeal.main_arg1) = m ((c.tc : Thread Cert.FinalNormSamplesIdeal.nD Cert.FinalNormSamplesIdeal.τ).loc Cert.FinalNormSamplesIdeal.main_arg1))
      ∧ θ_run (Cert.FinalNormSamplesReferenceIdeal.defs (F := Ideal)) (onTc (τ := Cert.FinalNormSamplesReferenceIdeal.τ) (Cert.FinalNormSamplesReferenceIdeal.main (F := Ideal))) ⟨m', fun _ => 0, g'⟩ (fun r => ∀ c : Dev Cert.FinalNormSamplesReferenceIdeal.nD,
          r.2.mem ((c.tc : Thread Cert.FinalNormSamplesReferenceIdeal.nD Cert.FinalNormSamplesReferenceIdeal.τ).loc Cert.FinalNormSamplesReferenceIdeal.main_v13) = v0 c
          ∧ r.2.mem ((c.tc : Thread Cert.FinalNormSamplesReferenceIdeal.nD Cert.FinalNormSamplesReferenceIdeal.τ).loc Cert.FinalNormSamplesReferenceIdeal.main_arg0) = m' ((c.tc : Thread Cert.FinalNormSamplesReferenceIdeal.nD Cert.FinalNormSamplesReferenceIdeal.τ).loc Cert.FinalNormSamplesReferenceIdeal.main_arg0)
          ∧ r.2.mem ((c.tc : Thread Cert.FinalNormSamplesReferenceIdeal.nD Cert.FinalNormSamplesReferenceIdeal.τ).loc Cert.FinalNormSamplesReferenceIdeal.main_arg1) = m' ((c.tc : Thread Cert.FinalNormSamplesReferenceIdeal.nD Cert.FinalNormSamplesReferenceIdeal.τ).loc Cert.FinalNormSamplesReferenceIdeal.main_arg1))

def preserves_InConv_InConvIdeal : Prop :=
  True

def algebraic_InConvIdeal_InConvReferenceIdeal [hInConvIdeal : Cert.InConvIdeal.Facts] [hInConvReferenceIdeal : Cert.InConvReferenceIdeal.Facts] : Prop :=
  ∀ (m : (ℓ : Loc Cert.InConvIdeal.nD Cert.InConvIdeal.τ Cert.InConvIdeal.sig) → Buf (Elt Ideal) ℓ) (g : Dev Cert.InConvIdeal.nD → PrngReg)
    (m' : (ℓ : Loc Cert.InConvReferenceIdeal.nD Cert.InConvReferenceIdeal.τ Cert.InConvReferenceIdeal.sig) → Buf (Elt Ideal) ℓ) (g' : Dev Cert.InConvReferenceIdeal.nD → PrngReg), Pre_InConvIdeal m →
    (∀ c : Dev Cert.InConvIdeal.nD,
      m' ((c.tc : Thread Cert.InConvReferenceIdeal.nD Cert.InConvReferenceIdeal.τ).loc Cert.InConvReferenceIdeal.main_arg0) = m ((c.tc : Thread Cert.InConvIdeal.nD Cert.InConvIdeal.τ).loc Cert.InConvIdeal.main_arg0)
      ∧ m' ((c.tc : Thread Cert.InConvReferenceIdeal.nD Cert.InConvReferenceIdeal.τ).loc Cert.InConvReferenceIdeal.main_arg1) = m ((c.tc : Thread Cert.InConvIdeal.nD Cert.InConvIdeal.τ).loc Cert.InConvIdeal.main_arg1)
      ∧ m' ((c.tc : Thread Cert.InConvReferenceIdeal.nD Cert.InConvReferenceIdeal.τ).loc Cert.InConvReferenceIdeal.main_arg2) = m ((c.tc : Thread Cert.InConvIdeal.nD Cert.InConvIdeal.τ).loc Cert.InConvIdeal.main_arg2)
      ∧ m' ((c.tc : Thread Cert.InConvReferenceIdeal.nD Cert.InConvReferenceIdeal.τ).loc Cert.InConvReferenceIdeal.main_arg3) = m ((c.tc : Thread Cert.InConvIdeal.nD Cert.InConvIdeal.τ).loc Cert.InConvIdeal.main_arg3)) →
    ∃ (v0 : (c : Dev Cert.InConvIdeal.nD) → Buf (Elt Ideal) ((c.tc : Thread Cert.InConvIdeal.nD Cert.InConvIdeal.τ).loc Cert.InConvIdeal.main_v6)),
      θ_run (Cert.InConvIdeal.defs (F := Ideal)) (onTc (τ := Cert.InConvIdeal.τ) (Cert.InConvIdeal.main (F := Ideal))) ⟨m, fun _ => 0, g⟩ (fun r => ∀ c : Dev Cert.InConvIdeal.nD,
          r.2.mem ((c.tc : Thread Cert.InConvIdeal.nD Cert.InConvIdeal.τ).loc Cert.InConvIdeal.main_v6) = v0 c
          ∧ r.2.mem ((c.tc : Thread Cert.InConvIdeal.nD Cert.InConvIdeal.τ).loc Cert.InConvIdeal.main_arg0) = m ((c.tc : Thread Cert.InConvIdeal.nD Cert.InConvIdeal.τ).loc Cert.InConvIdeal.main_arg0)
          ∧ r.2.mem ((c.tc : Thread Cert.InConvIdeal.nD Cert.InConvIdeal.τ).loc Cert.InConvIdeal.main_arg1) = m ((c.tc : Thread Cert.InConvIdeal.nD Cert.InConvIdeal.τ).loc Cert.InConvIdeal.main_arg1)
          ∧ r.2.mem ((c.tc : Thread Cert.InConvIdeal.nD Cert.InConvIdeal.τ).loc Cert.InConvIdeal.main_arg2) = m ((c.tc : Thread Cert.InConvIdeal.nD Cert.InConvIdeal.τ).loc Cert.InConvIdeal.main_arg2)
          ∧ r.2.mem ((c.tc : Thread Cert.InConvIdeal.nD Cert.InConvIdeal.τ).loc Cert.InConvIdeal.main_arg3) = m ((c.tc : Thread Cert.InConvIdeal.nD Cert.InConvIdeal.τ).loc Cert.InConvIdeal.main_arg3))
      ∧ θ_run (Cert.InConvReferenceIdeal.defs (F := Ideal)) (onTc (τ := Cert.InConvReferenceIdeal.τ) (Cert.InConvReferenceIdeal.main (F := Ideal))) ⟨m', fun _ => 0, g'⟩ (fun r => ∀ c : Dev Cert.InConvReferenceIdeal.nD,
          r.2.mem ((c.tc : Thread Cert.InConvReferenceIdeal.nD Cert.InConvReferenceIdeal.τ).loc Cert.InConvReferenceIdeal.main_v31) = v0 c
          ∧ r.2.mem ((c.tc : Thread Cert.InConvReferenceIdeal.nD Cert.InConvReferenceIdeal.τ).loc Cert.InConvReferenceIdeal.main_arg0) = m' ((c.tc : Thread Cert.InConvReferenceIdeal.nD Cert.InConvReferenceIdeal.τ).loc Cert.InConvReferenceIdeal.main_arg0)
          ∧ r.2.mem ((c.tc : Thread Cert.InConvReferenceIdeal.nD Cert.InConvReferenceIdeal.τ).loc Cert.InConvReferenceIdeal.main_arg1) = m' ((c.tc : Thread Cert.InConvReferenceIdeal.nD Cert.InConvReferenceIdeal.τ).loc Cert.InConvReferenceIdeal.main_arg1)
          ∧ r.2.mem ((c.tc : Thread Cert.InConvReferenceIdeal.nD Cert.InConvReferenceIdeal.τ).loc Cert.InConvReferenceIdeal.main_arg2) = m' ((c.tc : Thread Cert.InConvReferenceIdeal.nD Cert.InConvReferenceIdeal.τ).loc Cert.InConvReferenceIdeal.main_arg2)
          ∧ r.2.mem ((c.tc : Thread Cert.InConvReferenceIdeal.nD Cert.InConvReferenceIdeal.τ).loc Cert.InConvReferenceIdeal.main_arg3) = m' ((c.tc : Thread Cert.InConvReferenceIdeal.nD Cert.InConvReferenceIdeal.τ).loc Cert.InConvReferenceIdeal.main_arg3))

def preserves_HyenaOut_HyenaOutIdeal : Prop :=
  True

def algebraic_HyenaOutIdeal_HyenaOutReferenceIdeal [hHyenaOutIdeal : Cert.HyenaOutIdeal.Facts] [hHyenaOutReferenceIdeal : Cert.HyenaOutReferenceIdeal.Facts] : Prop :=
  ∀ (m : (ℓ : Loc Cert.HyenaOutIdeal.nD Cert.HyenaOutIdeal.τ Cert.HyenaOutIdeal.sig) → Buf (Elt Ideal) ℓ) (g : Dev Cert.HyenaOutIdeal.nD → PrngReg)
    (m' : (ℓ : Loc Cert.HyenaOutReferenceIdeal.nD Cert.HyenaOutReferenceIdeal.τ Cert.HyenaOutReferenceIdeal.sig) → Buf (Elt Ideal) ℓ) (g' : Dev Cert.HyenaOutReferenceIdeal.nD → PrngReg), Pre_HyenaOutIdeal m →
    (∀ c : Dev Cert.HyenaOutIdeal.nD,
      m' ((c.tc : Thread Cert.HyenaOutReferenceIdeal.nD Cert.HyenaOutReferenceIdeal.τ).loc Cert.HyenaOutReferenceIdeal.main_arg0) = m ((c.tc : Thread Cert.HyenaOutIdeal.nD Cert.HyenaOutIdeal.τ).loc Cert.HyenaOutIdeal.main_arg0)
      ∧ m' ((c.tc : Thread Cert.HyenaOutReferenceIdeal.nD Cert.HyenaOutReferenceIdeal.τ).loc Cert.HyenaOutReferenceIdeal.main_arg1) = m ((c.tc : Thread Cert.HyenaOutIdeal.nD Cert.HyenaOutIdeal.τ).loc Cert.HyenaOutIdeal.main_arg1)
      ∧ m' ((c.tc : Thread Cert.HyenaOutReferenceIdeal.nD Cert.HyenaOutReferenceIdeal.τ).loc Cert.HyenaOutReferenceIdeal.main_arg2) = m ((c.tc : Thread Cert.HyenaOutIdeal.nD Cert.HyenaOutIdeal.τ).loc Cert.HyenaOutIdeal.main_arg2)) →
    ∃ (v0 : (c : Dev Cert.HyenaOutIdeal.nD) → Buf (Elt Ideal) ((c.tc : Thread Cert.HyenaOutIdeal.nD Cert.HyenaOutIdeal.τ).loc Cert.HyenaOutIdeal.main_v0)),
      θ_run (Cert.HyenaOutIdeal.defs (F := Ideal)) (onTc (τ := Cert.HyenaOutIdeal.τ) (Cert.HyenaOutIdeal.main (F := Ideal))) ⟨m, fun _ => 0, g⟩ (fun r => ∀ c : Dev Cert.HyenaOutIdeal.nD,
          r.2.mem ((c.tc : Thread Cert.HyenaOutIdeal.nD Cert.HyenaOutIdeal.τ).loc Cert.HyenaOutIdeal.main_v0) = v0 c
          ∧ r.2.mem ((c.tc : Thread Cert.HyenaOutIdeal.nD Cert.HyenaOutIdeal.τ).loc Cert.HyenaOutIdeal.main_arg0) = m ((c.tc : Thread Cert.HyenaOutIdeal.nD Cert.HyenaOutIdeal.τ).loc Cert.HyenaOutIdeal.main_arg0)
          ∧ r.2.mem ((c.tc : Thread Cert.HyenaOutIdeal.nD Cert.HyenaOutIdeal.τ).loc Cert.HyenaOutIdeal.main_arg1) = m ((c.tc : Thread Cert.HyenaOutIdeal.nD Cert.HyenaOutIdeal.τ).loc Cert.HyenaOutIdeal.main_arg1)
          ∧ r.2.mem ((c.tc : Thread Cert.HyenaOutIdeal.nD Cert.HyenaOutIdeal.τ).loc Cert.HyenaOutIdeal.main_arg2) = m ((c.tc : Thread Cert.HyenaOutIdeal.nD Cert.HyenaOutIdeal.τ).loc Cert.HyenaOutIdeal.main_arg2))
      ∧ θ_run (Cert.HyenaOutReferenceIdeal.defs (F := Ideal)) (onTc (τ := Cert.HyenaOutReferenceIdeal.τ) (Cert.HyenaOutReferenceIdeal.main (F := Ideal))) ⟨m', fun _ => 0, g'⟩ (fun r => ∀ c : Dev Cert.HyenaOutReferenceIdeal.nD,
          r.2.mem ((c.tc : Thread Cert.HyenaOutReferenceIdeal.nD Cert.HyenaOutReferenceIdeal.τ).loc Cert.HyenaOutReferenceIdeal.main_v6) = v0 c
          ∧ r.2.mem ((c.tc : Thread Cert.HyenaOutReferenceIdeal.nD Cert.HyenaOutReferenceIdeal.τ).loc Cert.HyenaOutReferenceIdeal.main_arg0) = m' ((c.tc : Thread Cert.HyenaOutReferenceIdeal.nD Cert.HyenaOutReferenceIdeal.τ).loc Cert.HyenaOutReferenceIdeal.main_arg0)
          ∧ r.2.mem ((c.tc : Thread Cert.HyenaOutReferenceIdeal.nD Cert.HyenaOutReferenceIdeal.τ).loc Cert.HyenaOutReferenceIdeal.main_arg1) = m' ((c.tc : Thread Cert.HyenaOutReferenceIdeal.nD Cert.HyenaOutReferenceIdeal.τ).loc Cert.HyenaOutReferenceIdeal.main_arg1)
          ∧ r.2.mem ((c.tc : Thread Cert.HyenaOutReferenceIdeal.nD Cert.HyenaOutReferenceIdeal.τ).loc Cert.HyenaOutReferenceIdeal.main_arg2) = m' ((c.tc : Thread Cert.HyenaOutReferenceIdeal.nD Cert.HyenaOutReferenceIdeal.τ).loc Cert.HyenaOutReferenceIdeal.main_arg2))

def preserves_HgrnOut_HgrnOutIdeal : Prop :=
  True

def algebraic_HgrnOutIdeal_HgrnOutReferenceIdeal [hHgrnOutIdeal : Cert.HgrnOutIdeal.Facts] [hHgrnOutReferenceIdeal : Cert.HgrnOutReferenceIdeal.Facts] : Prop :=
  ∀ (m : (ℓ : Loc Cert.HgrnOutIdeal.nD Cert.HgrnOutIdeal.τ Cert.HgrnOutIdeal.sig) → Buf (Elt Ideal) ℓ) (g : Dev Cert.HgrnOutIdeal.nD → PrngReg)
    (m' : (ℓ : Loc Cert.HgrnOutReferenceIdeal.nD Cert.HgrnOutReferenceIdeal.τ Cert.HgrnOutReferenceIdeal.sig) → Buf (Elt Ideal) ℓ) (g' : Dev Cert.HgrnOutReferenceIdeal.nD → PrngReg), Pre_HgrnOutIdeal m →
    (∀ c : Dev Cert.HgrnOutIdeal.nD,
      m' ((c.tc : Thread Cert.HgrnOutReferenceIdeal.nD Cert.HgrnOutReferenceIdeal.τ).loc Cert.HgrnOutReferenceIdeal.main_arg0) = m ((c.tc : Thread Cert.HgrnOutIdeal.nD Cert.HgrnOutIdeal.τ).loc Cert.HgrnOutIdeal.main_arg0)
      ∧ m' ((c.tc : Thread Cert.HgrnOutReferenceIdeal.nD Cert.HgrnOutReferenceIdeal.τ).loc Cert.HgrnOutReferenceIdeal.main_arg1) = m ((c.tc : Thread Cert.HgrnOutIdeal.nD Cert.HgrnOutIdeal.τ).loc Cert.HgrnOutIdeal.main_arg1)
      ∧ m' ((c.tc : Thread Cert.HgrnOutReferenceIdeal.nD Cert.HgrnOutReferenceIdeal.τ).loc Cert.HgrnOutReferenceIdeal.main_arg2) = m ((c.tc : Thread Cert.HgrnOutIdeal.nD Cert.HgrnOutIdeal.τ).loc Cert.HgrnOutIdeal.main_arg2)
      ∧ m' ((c.tc : Thread Cert.HgrnOutReferenceIdeal.nD Cert.HgrnOutReferenceIdeal.τ).loc Cert.HgrnOutReferenceIdeal.main_arg3) = m ((c.tc : Thread Cert.HgrnOutIdeal.nD Cert.HgrnOutIdeal.τ).loc Cert.HgrnOutIdeal.main_arg3)) →
    ∃ (v0 : (c : Dev Cert.HgrnOutIdeal.nD) → Buf (Elt Ideal) ((c.tc : Thread Cert.HgrnOutIdeal.nD Cert.HgrnOutIdeal.τ).loc Cert.HgrnOutIdeal.main_v0)),
      θ_run (Cert.HgrnOutIdeal.defs (F := Ideal)) (onTc (τ := Cert.HgrnOutIdeal.τ) (Cert.HgrnOutIdeal.main (F := Ideal))) ⟨m, fun _ => 0, g⟩ (fun r => ∀ c : Dev Cert.HgrnOutIdeal.nD,
          r.2.mem ((c.tc : Thread Cert.HgrnOutIdeal.nD Cert.HgrnOutIdeal.τ).loc Cert.HgrnOutIdeal.main_v0) = v0 c
          ∧ r.2.mem ((c.tc : Thread Cert.HgrnOutIdeal.nD Cert.HgrnOutIdeal.τ).loc Cert.HgrnOutIdeal.main_arg0) = m ((c.tc : Thread Cert.HgrnOutIdeal.nD Cert.HgrnOutIdeal.τ).loc Cert.HgrnOutIdeal.main_arg0)
          ∧ r.2.mem ((c.tc : Thread Cert.HgrnOutIdeal.nD Cert.HgrnOutIdeal.τ).loc Cert.HgrnOutIdeal.main_arg1) = m ((c.tc : Thread Cert.HgrnOutIdeal.nD Cert.HgrnOutIdeal.τ).loc Cert.HgrnOutIdeal.main_arg1)
          ∧ r.2.mem ((c.tc : Thread Cert.HgrnOutIdeal.nD Cert.HgrnOutIdeal.τ).loc Cert.HgrnOutIdeal.main_arg2) = m ((c.tc : Thread Cert.HgrnOutIdeal.nD Cert.HgrnOutIdeal.τ).loc Cert.HgrnOutIdeal.main_arg2)
          ∧ r.2.mem ((c.tc : Thread Cert.HgrnOutIdeal.nD Cert.HgrnOutIdeal.τ).loc Cert.HgrnOutIdeal.main_arg3) = m ((c.tc : Thread Cert.HgrnOutIdeal.nD Cert.HgrnOutIdeal.τ).loc Cert.HgrnOutIdeal.main_arg3))
      ∧ θ_run (Cert.HgrnOutReferenceIdeal.defs (F := Ideal)) (onTc (τ := Cert.HgrnOutReferenceIdeal.τ) (Cert.HgrnOutReferenceIdeal.main (F := Ideal))) ⟨m', fun _ => 0, g'⟩ (fun r => ∀ c : Dev Cert.HgrnOutReferenceIdeal.nD,
          r.2.mem ((c.tc : Thread Cert.HgrnOutReferenceIdeal.nD Cert.HgrnOutReferenceIdeal.τ).loc Cert.HgrnOutReferenceIdeal.main_v5) = v0 c
          ∧ r.2.mem ((c.tc : Thread Cert.HgrnOutReferenceIdeal.nD Cert.HgrnOutReferenceIdeal.τ).loc Cert.HgrnOutReferenceIdeal.main_arg0) = m' ((c.tc : Thread Cert.HgrnOutReferenceIdeal.nD Cert.HgrnOutReferenceIdeal.τ).loc Cert.HgrnOutReferenceIdeal.main_arg0)
          ∧ r.2.mem ((c.tc : Thread Cert.HgrnOutReferenceIdeal.nD Cert.HgrnOutReferenceIdeal.τ).loc Cert.HgrnOutReferenceIdeal.main_arg1) = m' ((c.tc : Thread Cert.HgrnOutReferenceIdeal.nD Cert.HgrnOutReferenceIdeal.τ).loc Cert.HgrnOutReferenceIdeal.main_arg1)
          ∧ r.2.mem ((c.tc : Thread Cert.HgrnOutReferenceIdeal.nD Cert.HgrnOutReferenceIdeal.τ).loc Cert.HgrnOutReferenceIdeal.main_arg2) = m' ((c.tc : Thread Cert.HgrnOutReferenceIdeal.nD Cert.HgrnOutReferenceIdeal.τ).loc Cert.HgrnOutReferenceIdeal.main_arg2)
          ∧ r.2.mem ((c.tc : Thread Cert.HgrnOutReferenceIdeal.nD Cert.HgrnOutReferenceIdeal.τ).loc Cert.HgrnOutReferenceIdeal.main_arg3) = m' ((c.tc : Thread Cert.HgrnOutReferenceIdeal.nD Cert.HgrnOutReferenceIdeal.τ).loc Cert.HgrnOutReferenceIdeal.main_arg3))

def preserves_HgrnNorm_HgrnNormIdeal : Prop :=
  True

def algebraic_HgrnNormIdeal_HgrnNormReferenceIdeal [hHgrnNormIdeal : Cert.HgrnNormIdeal.Facts] [hHgrnNormReferenceIdeal : Cert.HgrnNormReferenceIdeal.Facts] : Prop :=
  ∀ (m : (ℓ : Loc Cert.HgrnNormIdeal.nD Cert.HgrnNormIdeal.τ Cert.HgrnNormIdeal.sig) → Buf (Elt Ideal) ℓ) (g : Dev Cert.HgrnNormIdeal.nD → PrngReg)
    (m' : (ℓ : Loc Cert.HgrnNormReferenceIdeal.nD Cert.HgrnNormReferenceIdeal.τ Cert.HgrnNormReferenceIdeal.sig) → Buf (Elt Ideal) ℓ) (g' : Dev Cert.HgrnNormReferenceIdeal.nD → PrngReg), Pre_HgrnNormIdeal m →
    (∀ c : Dev Cert.HgrnNormIdeal.nD,
      m' ((c.tc : Thread Cert.HgrnNormReferenceIdeal.nD Cert.HgrnNormReferenceIdeal.τ).loc Cert.HgrnNormReferenceIdeal.main_arg0) = m ((c.tc : Thread Cert.HgrnNormIdeal.nD Cert.HgrnNormIdeal.τ).loc Cert.HgrnNormIdeal.main_arg0)
      ∧ m' ((c.tc : Thread Cert.HgrnNormReferenceIdeal.nD Cert.HgrnNormReferenceIdeal.τ).loc Cert.HgrnNormReferenceIdeal.main_arg1) = m ((c.tc : Thread Cert.HgrnNormIdeal.nD Cert.HgrnNormIdeal.τ).loc Cert.HgrnNormIdeal.main_arg1)) →
    ∃ (v0 : (c : Dev Cert.HgrnNormIdeal.nD) → Buf (Elt Ideal) ((c.tc : Thread Cert.HgrnNormIdeal.nD Cert.HgrnNormIdeal.τ).loc Cert.HgrnNormIdeal.main_v3)),
      θ_run (Cert.HgrnNormIdeal.defs (F := Ideal)) (onTc (τ := Cert.HgrnNormIdeal.τ) (Cert.HgrnNormIdeal.main (F := Ideal))) ⟨m, fun _ => 0, g⟩ (fun r => ∀ c : Dev Cert.HgrnNormIdeal.nD,
          r.2.mem ((c.tc : Thread Cert.HgrnNormIdeal.nD Cert.HgrnNormIdeal.τ).loc Cert.HgrnNormIdeal.main_v3) = v0 c
          ∧ r.2.mem ((c.tc : Thread Cert.HgrnNormIdeal.nD Cert.HgrnNormIdeal.τ).loc Cert.HgrnNormIdeal.main_arg0) = m ((c.tc : Thread Cert.HgrnNormIdeal.nD Cert.HgrnNormIdeal.τ).loc Cert.HgrnNormIdeal.main_arg0)
          ∧ r.2.mem ((c.tc : Thread Cert.HgrnNormIdeal.nD Cert.HgrnNormIdeal.τ).loc Cert.HgrnNormIdeal.main_arg1) = m ((c.tc : Thread Cert.HgrnNormIdeal.nD Cert.HgrnNormIdeal.τ).loc Cert.HgrnNormIdeal.main_arg1))
      ∧ θ_run (Cert.HgrnNormReferenceIdeal.defs (F := Ideal)) (onTc (τ := Cert.HgrnNormReferenceIdeal.τ) (Cert.HgrnNormReferenceIdeal.main (F := Ideal))) ⟨m', fun _ => 0, g'⟩ (fun r => ∀ c : Dev Cert.HgrnNormReferenceIdeal.nD,
          r.2.mem ((c.tc : Thread Cert.HgrnNormReferenceIdeal.nD Cert.HgrnNormReferenceIdeal.τ).loc Cert.HgrnNormReferenceIdeal.main_v15) = v0 c
          ∧ r.2.mem ((c.tc : Thread Cert.HgrnNormReferenceIdeal.nD Cert.HgrnNormReferenceIdeal.τ).loc Cert.HgrnNormReferenceIdeal.main_arg0) = m' ((c.tc : Thread Cert.HgrnNormReferenceIdeal.nD Cert.HgrnNormReferenceIdeal.τ).loc Cert.HgrnNormReferenceIdeal.main_arg0)
          ∧ r.2.mem ((c.tc : Thread Cert.HgrnNormReferenceIdeal.nD Cert.HgrnNormReferenceIdeal.τ).loc Cert.HgrnNormReferenceIdeal.main_arg1) = m' ((c.tc : Thread Cert.HgrnNormReferenceIdeal.nD Cert.HgrnNormReferenceIdeal.τ).loc Cert.HgrnNormReferenceIdeal.main_arg1))

def preserves_HyenaNorm_HyenaNormIdeal : Prop :=
  True

def algebraic_HyenaNormIdeal_HyenaNormReferenceIdeal [hHyenaNormIdeal : Cert.HyenaNormIdeal.Facts] [hHyenaNormReferenceIdeal : Cert.HyenaNormReferenceIdeal.Facts] : Prop :=
  ∀ (m : (ℓ : Loc Cert.HyenaNormIdeal.nD Cert.HyenaNormIdeal.τ Cert.HyenaNormIdeal.sig) → Buf (Elt Ideal) ℓ) (g : Dev Cert.HyenaNormIdeal.nD → PrngReg)
    (m' : (ℓ : Loc Cert.HyenaNormReferenceIdeal.nD Cert.HyenaNormReferenceIdeal.τ Cert.HyenaNormReferenceIdeal.sig) → Buf (Elt Ideal) ℓ) (g' : Dev Cert.HyenaNormReferenceIdeal.nD → PrngReg), Pre_HyenaNormIdeal m →
    (∀ c : Dev Cert.HyenaNormIdeal.nD,
      m' ((c.tc : Thread Cert.HyenaNormReferenceIdeal.nD Cert.HyenaNormReferenceIdeal.τ).loc Cert.HyenaNormReferenceIdeal.main_arg0) = m ((c.tc : Thread Cert.HyenaNormIdeal.nD Cert.HyenaNormIdeal.τ).loc Cert.HyenaNormIdeal.main_arg0)
      ∧ m' ((c.tc : Thread Cert.HyenaNormReferenceIdeal.nD Cert.HyenaNormReferenceIdeal.τ).loc Cert.HyenaNormReferenceIdeal.main_arg1) = m ((c.tc : Thread Cert.HyenaNormIdeal.nD Cert.HyenaNormIdeal.τ).loc Cert.HyenaNormIdeal.main_arg1)) →
    ∃ (v0 : (c : Dev Cert.HyenaNormIdeal.nD) → Buf (Elt Ideal) ((c.tc : Thread Cert.HyenaNormIdeal.nD Cert.HyenaNormIdeal.τ).loc Cert.HyenaNormIdeal.main_v3)),
      θ_run (Cert.HyenaNormIdeal.defs (F := Ideal)) (onTc (τ := Cert.HyenaNormIdeal.τ) (Cert.HyenaNormIdeal.main (F := Ideal))) ⟨m, fun _ => 0, g⟩ (fun r => ∀ c : Dev Cert.HyenaNormIdeal.nD,
          r.2.mem ((c.tc : Thread Cert.HyenaNormIdeal.nD Cert.HyenaNormIdeal.τ).loc Cert.HyenaNormIdeal.main_v3) = v0 c
          ∧ r.2.mem ((c.tc : Thread Cert.HyenaNormIdeal.nD Cert.HyenaNormIdeal.τ).loc Cert.HyenaNormIdeal.main_arg0) = m ((c.tc : Thread Cert.HyenaNormIdeal.nD Cert.HyenaNormIdeal.τ).loc Cert.HyenaNormIdeal.main_arg0)
          ∧ r.2.mem ((c.tc : Thread Cert.HyenaNormIdeal.nD Cert.HyenaNormIdeal.τ).loc Cert.HyenaNormIdeal.main_arg1) = m ((c.tc : Thread Cert.HyenaNormIdeal.nD Cert.HyenaNormIdeal.τ).loc Cert.HyenaNormIdeal.main_arg1))
      ∧ θ_run (Cert.HyenaNormReferenceIdeal.defs (F := Ideal)) (onTc (τ := Cert.HyenaNormReferenceIdeal.τ) (Cert.HyenaNormReferenceIdeal.main (F := Ideal))) ⟨m', fun _ => 0, g'⟩ (fun r => ∀ c : Dev Cert.HyenaNormReferenceIdeal.nD,
          r.2.mem ((c.tc : Thread Cert.HyenaNormReferenceIdeal.nD Cert.HyenaNormReferenceIdeal.τ).loc Cert.HyenaNormReferenceIdeal.main_v16) = v0 c
          ∧ r.2.mem ((c.tc : Thread Cert.HyenaNormReferenceIdeal.nD Cert.HyenaNormReferenceIdeal.τ).loc Cert.HyenaNormReferenceIdeal.main_arg0) = m' ((c.tc : Thread Cert.HyenaNormReferenceIdeal.nD Cert.HyenaNormReferenceIdeal.τ).loc Cert.HyenaNormReferenceIdeal.main_arg0)
          ∧ r.2.mem ((c.tc : Thread Cert.HyenaNormReferenceIdeal.nD Cert.HyenaNormReferenceIdeal.τ).loc Cert.HyenaNormReferenceIdeal.main_arg1) = m' ((c.tc : Thread Cert.HyenaNormReferenceIdeal.nD Cert.HyenaNormReferenceIdeal.τ).loc Cert.HyenaNormReferenceIdeal.main_arg1))

def preserves_FfnNorm_FfnNormIdeal : Prop :=
  True

def algebraic_FfnNormIdeal_FfnNormReferenceIdeal [hFfnNormIdeal : Cert.FfnNormIdeal.Facts] [hFfnNormReferenceIdeal : Cert.FfnNormReferenceIdeal.Facts] : Prop :=
  ∀ (m : (ℓ : Loc Cert.FfnNormIdeal.nD Cert.FfnNormIdeal.τ Cert.FfnNormIdeal.sig) → Buf (Elt Ideal) ℓ) (g : Dev Cert.FfnNormIdeal.nD → PrngReg)
    (m' : (ℓ : Loc Cert.FfnNormReferenceIdeal.nD Cert.FfnNormReferenceIdeal.τ Cert.FfnNormReferenceIdeal.sig) → Buf (Elt Ideal) ℓ) (g' : Dev Cert.FfnNormReferenceIdeal.nD → PrngReg), Pre_FfnNormIdeal m →
    (∀ c : Dev Cert.FfnNormIdeal.nD,
      m' ((c.tc : Thread Cert.FfnNormReferenceIdeal.nD Cert.FfnNormReferenceIdeal.τ).loc Cert.FfnNormReferenceIdeal.main_arg0) = m ((c.tc : Thread Cert.FfnNormIdeal.nD Cert.FfnNormIdeal.τ).loc Cert.FfnNormIdeal.main_arg0)
      ∧ m' ((c.tc : Thread Cert.FfnNormReferenceIdeal.nD Cert.FfnNormReferenceIdeal.τ).loc Cert.FfnNormReferenceIdeal.main_arg1) = m ((c.tc : Thread Cert.FfnNormIdeal.nD Cert.FfnNormIdeal.τ).loc Cert.FfnNormIdeal.main_arg1)) →
    ∃ (v0 : (c : Dev Cert.FfnNormIdeal.nD) → Buf (Elt Ideal) ((c.tc : Thread Cert.FfnNormIdeal.nD Cert.FfnNormIdeal.τ).loc Cert.FfnNormIdeal.main_v3)),
      θ_run (Cert.FfnNormIdeal.defs (F := Ideal)) (onTc (τ := Cert.FfnNormIdeal.τ) (Cert.FfnNormIdeal.main (F := Ideal))) ⟨m, fun _ => 0, g⟩ (fun r => ∀ c : Dev Cert.FfnNormIdeal.nD,
          r.2.mem ((c.tc : Thread Cert.FfnNormIdeal.nD Cert.FfnNormIdeal.τ).loc Cert.FfnNormIdeal.main_v3) = v0 c
          ∧ r.2.mem ((c.tc : Thread Cert.FfnNormIdeal.nD Cert.FfnNormIdeal.τ).loc Cert.FfnNormIdeal.main_arg0) = m ((c.tc : Thread Cert.FfnNormIdeal.nD Cert.FfnNormIdeal.τ).loc Cert.FfnNormIdeal.main_arg0)
          ∧ r.2.mem ((c.tc : Thread Cert.FfnNormIdeal.nD Cert.FfnNormIdeal.τ).loc Cert.FfnNormIdeal.main_arg1) = m ((c.tc : Thread Cert.FfnNormIdeal.nD Cert.FfnNormIdeal.τ).loc Cert.FfnNormIdeal.main_arg1))
      ∧ θ_run (Cert.FfnNormReferenceIdeal.defs (F := Ideal)) (onTc (τ := Cert.FfnNormReferenceIdeal.τ) (Cert.FfnNormReferenceIdeal.main (F := Ideal))) ⟨m', fun _ => 0, g'⟩ (fun r => ∀ c : Dev Cert.FfnNormReferenceIdeal.nD,
          r.2.mem ((c.tc : Thread Cert.FfnNormReferenceIdeal.nD Cert.FfnNormReferenceIdeal.τ).loc Cert.FfnNormReferenceIdeal.main_v15) = v0 c
          ∧ r.2.mem ((c.tc : Thread Cert.FfnNormReferenceIdeal.nD Cert.FfnNormReferenceIdeal.τ).loc Cert.FfnNormReferenceIdeal.main_arg0) = m' ((c.tc : Thread Cert.FfnNormReferenceIdeal.nD Cert.FfnNormReferenceIdeal.τ).loc Cert.FfnNormReferenceIdeal.main_arg0)
          ∧ r.2.mem ((c.tc : Thread Cert.FfnNormReferenceIdeal.nD Cert.FfnNormReferenceIdeal.τ).loc Cert.FfnNormReferenceIdeal.main_arg1) = m' ((c.tc : Thread Cert.FfnNormReferenceIdeal.nD Cert.FfnNormReferenceIdeal.τ).loc Cert.FfnNormReferenceIdeal.main_arg1))

def Claim : Prop :=
  ∃ (hKernel : Cert.Kernel.Facts) (hKernelIdeal : Cert.KernelIdeal.Facts) (hReferenceIdeal : Cert.ReferenceIdeal.Facts) (hScanBack : Cert.ScanBack.Facts) (hScanBackIdeal : Cert.ScanBackIdeal.Facts) (hScanBackReferenceIdeal : Cert.ScanBackReferenceIdeal.Facts) (hGateUp : Cert.GateUp.Facts) (hGateUpIdeal : Cert.GateUpIdeal.Facts) (hGateUpReferenceIdeal : Cert.GateUpReferenceIdeal.Facts) (hDown : Cert.Down.Facts) (hDownIdeal : Cert.DownIdeal.Facts) (hDownReferenceIdeal : Cert.DownReferenceIdeal.Facts) (hProject : Cert.Project.Facts) (hProjectIdeal : Cert.ProjectIdeal.Facts) (hProjectReferenceIdeal : Cert.ProjectReferenceIdeal.Facts) (hFinalNorm : Cert.FinalNorm.Facts) (hFinalNormIdeal : Cert.FinalNormIdeal.Facts) (hFinalNormReferenceIdeal : Cert.FinalNormReferenceIdeal.Facts) (hFinalNormSamples : Cert.FinalNormSamples.Facts) (hFinalNormSamplesIdeal : Cert.FinalNormSamplesIdeal.Facts) (hFinalNormSamplesReferenceIdeal : Cert.FinalNormSamplesReferenceIdeal.Facts) (hInConv : Cert.InConv.Facts) (hInConvIdeal : Cert.InConvIdeal.Facts) (hInConvReferenceIdeal : Cert.InConvReferenceIdeal.Facts) (hHyenaOut : Cert.HyenaOut.Facts) (hHyenaOutIdeal : Cert.HyenaOutIdeal.Facts) (hHyenaOutReferenceIdeal : Cert.HyenaOutReferenceIdeal.Facts) (hHgrnOut : Cert.HgrnOut.Facts) (hHgrnOutIdeal : Cert.HgrnOutIdeal.Facts) (hHgrnOutReferenceIdeal : Cert.HgrnOutReferenceIdeal.Facts) (hHgrnNorm : Cert.HgrnNorm.Facts) (hHgrnNormIdeal : Cert.HgrnNormIdeal.Facts) (hHgrnNormReferenceIdeal : Cert.HgrnNormReferenceIdeal.Facts) (hHyenaNorm : Cert.HyenaNorm.Facts) (hHyenaNormIdeal : Cert.HyenaNormIdeal.Facts) (hHyenaNormReferenceIdeal : Cert.HyenaNormReferenceIdeal.Facts) (hFfnNorm : Cert.FfnNorm.Facts) (hFfnNormIdeal : Cert.FfnNormIdeal.Facts) (hFfnNormReferenceIdeal : Cert.FfnNormReferenceIdeal.Facts) (hPre_bounded : Cert.Pre_bounded.Facts) (hPre_bounded_back : Cert.Pre_bounded_back.Facts),
    quiescent_Kernel (hKernel := hKernel)
    ∧ quiescent_KernelIdeal (hKernelIdeal := hKernelIdeal)
    ∧ quiescent_KernelIdeal_pre_bounded (hKernelIdeal := hKernelIdeal) (hPre_bounded := hPre_bounded)
    ∧ quiescent_ReferenceIdeal (hReferenceIdeal := hReferenceIdeal)
    ∧ quiescent_ReferenceIdeal_pre_bounded (hReferenceIdeal := hReferenceIdeal) (hPre_bounded := hPre_bounded)
    ∧ quiescent_ScanBack (hScanBack := hScanBack)
    ∧ quiescent_ScanBackIdeal (hScanBackIdeal := hScanBackIdeal)
    ∧ quiescent_ScanBackIdeal_pre_bounded_back (hScanBackIdeal := hScanBackIdeal) (hPre_bounded_back := hPre_bounded_back)
    ∧ quiescent_ScanBackReferenceIdeal (hScanBackReferenceIdeal := hScanBackReferenceIdeal)
    ∧ quiescent_ScanBackReferenceIdeal_pre_bounded_back (hScanBackReferenceIdeal := hScanBackReferenceIdeal) (hPre_bounded_back := hPre_bounded_back)
    ∧ quiescent_GateUp (hGateUp := hGateUp)
    ∧ quiescent_GateUpIdeal (hGateUpIdeal := hGateUpIdeal)
    ∧ quiescent_GateUpReferenceIdeal (hGateUpReferenceIdeal := hGateUpReferenceIdeal)
    ∧ quiescent_Down (hDown := hDown)
    ∧ quiescent_DownIdeal (hDownIdeal := hDownIdeal)
    ∧ quiescent_DownReferenceIdeal (hDownReferenceIdeal := hDownReferenceIdeal)
    ∧ quiescent_Project (hProject := hProject)
    ∧ quiescent_ProjectIdeal (hProjectIdeal := hProjectIdeal)
    ∧ quiescent_ProjectReferenceIdeal (hProjectReferenceIdeal := hProjectReferenceIdeal)
    ∧ quiescent_FinalNorm (hFinalNorm := hFinalNorm)
    ∧ quiescent_FinalNormIdeal (hFinalNormIdeal := hFinalNormIdeal)
    ∧ quiescent_FinalNormReferenceIdeal (hFinalNormReferenceIdeal := hFinalNormReferenceIdeal)
    ∧ quiescent_FinalNormSamples (hFinalNormSamples := hFinalNormSamples)
    ∧ quiescent_FinalNormSamplesIdeal (hFinalNormSamplesIdeal := hFinalNormSamplesIdeal)
    ∧ quiescent_FinalNormSamplesReferenceIdeal (hFinalNormSamplesReferenceIdeal := hFinalNormSamplesReferenceIdeal)
    ∧ quiescent_InConv (hInConv := hInConv)
    ∧ quiescent_InConvIdeal (hInConvIdeal := hInConvIdeal)
    ∧ quiescent_InConvReferenceIdeal (hInConvReferenceIdeal := hInConvReferenceIdeal)
    ∧ quiescent_HyenaOut (hHyenaOut := hHyenaOut)
    ∧ quiescent_HyenaOutIdeal (hHyenaOutIdeal := hHyenaOutIdeal)
    ∧ quiescent_HyenaOutReferenceIdeal (hHyenaOutReferenceIdeal := hHyenaOutReferenceIdeal)
    ∧ quiescent_HgrnOut (hHgrnOut := hHgrnOut)
    ∧ quiescent_HgrnOutIdeal (hHgrnOutIdeal := hHgrnOutIdeal)
    ∧ quiescent_HgrnOutReferenceIdeal (hHgrnOutReferenceIdeal := hHgrnOutReferenceIdeal)
    ∧ quiescent_HgrnNorm (hHgrnNorm := hHgrnNorm)
    ∧ quiescent_HgrnNormIdeal (hHgrnNormIdeal := hHgrnNormIdeal)
    ∧ quiescent_HgrnNormReferenceIdeal (hHgrnNormReferenceIdeal := hHgrnNormReferenceIdeal)
    ∧ quiescent_HyenaNorm (hHyenaNorm := hHyenaNorm)
    ∧ quiescent_HyenaNormIdeal (hHyenaNormIdeal := hHyenaNormIdeal)
    ∧ quiescent_HyenaNormReferenceIdeal (hHyenaNormReferenceIdeal := hHyenaNormReferenceIdeal)
    ∧ quiescent_FfnNorm (hFfnNorm := hFfnNorm)
    ∧ quiescent_FfnNormIdeal (hFfnNormIdeal := hFfnNormIdeal)
    ∧ quiescent_FfnNormReferenceIdeal (hFfnNormReferenceIdeal := hFfnNormReferenceIdeal)
    ∧ preserves_Kernel_KernelIdeal
    ∧ algebraic_KernelIdeal_ReferenceIdeal_pre_bounded (hKernelIdeal := hKernelIdeal) (hReferenceIdeal := hReferenceIdeal) (hPre_bounded := hPre_bounded)
    ∧ preserves_ScanBack_ScanBackIdeal
    ∧ algebraic_ScanBackIdeal_ScanBackReferenceIdeal_pre_bounded_back (hScanBackIdeal := hScanBackIdeal) (hScanBackReferenceIdeal := hScanBackReferenceIdeal) (hPre_bounded_back := hPre_bounded_back)
    ∧ preserves_GateUp_GateUpIdeal
    ∧ algebraic_GateUpIdeal_GateUpReferenceIdeal (hGateUpIdeal := hGateUpIdeal) (hGateUpReferenceIdeal := hGateUpReferenceIdeal)
    ∧ preserves_Down_DownIdeal
    ∧ algebraic_DownIdeal_DownReferenceIdeal (hDownIdeal := hDownIdeal) (hDownReferenceIdeal := hDownReferenceIdeal)
    ∧ preserves_Project_ProjectIdeal
    ∧ algebraic_ProjectIdeal_ProjectReferenceIdeal (hProjectIdeal := hProjectIdeal) (hProjectReferenceIdeal := hProjectReferenceIdeal)
    ∧ preserves_FinalNorm_FinalNormIdeal
    ∧ algebraic_FinalNormIdeal_FinalNormReferenceIdeal (hFinalNormIdeal := hFinalNormIdeal) (hFinalNormReferenceIdeal := hFinalNormReferenceIdeal)
    ∧ preserves_FinalNormSamples_FinalNormSamplesIdeal
    ∧ algebraic_FinalNormSamplesIdeal_FinalNormSamplesReferenceIdeal (hFinalNormSamplesIdeal := hFinalNormSamplesIdeal) (hFinalNormSamplesReferenceIdeal := hFinalNormSamplesReferenceIdeal)
    ∧ preserves_InConv_InConvIdeal
    ∧ algebraic_InConvIdeal_InConvReferenceIdeal (hInConvIdeal := hInConvIdeal) (hInConvReferenceIdeal := hInConvReferenceIdeal)
    ∧ preserves_HyenaOut_HyenaOutIdeal
    ∧ algebraic_HyenaOutIdeal_HyenaOutReferenceIdeal (hHyenaOutIdeal := hHyenaOutIdeal) (hHyenaOutReferenceIdeal := hHyenaOutReferenceIdeal)
    ∧ preserves_HgrnOut_HgrnOutIdeal
    ∧ algebraic_HgrnOutIdeal_HgrnOutReferenceIdeal (hHgrnOutIdeal := hHgrnOutIdeal) (hHgrnOutReferenceIdeal := hHgrnOutReferenceIdeal)
    ∧ preserves_HgrnNorm_HgrnNormIdeal
    ∧ algebraic_HgrnNormIdeal_HgrnNormReferenceIdeal (hHgrnNormIdeal := hHgrnNormIdeal) (hHgrnNormReferenceIdeal := hHgrnNormReferenceIdeal)
    ∧ preserves_HyenaNorm_HyenaNormIdeal
    ∧ algebraic_HyenaNormIdeal_HyenaNormReferenceIdeal (hHyenaNormIdeal := hHyenaNormIdeal) (hHyenaNormReferenceIdeal := hHyenaNormReferenceIdeal)
    ∧ preserves_FfnNorm_FfnNormIdeal
    ∧ algebraic_FfnNormIdeal_FfnNormReferenceIdeal (hFfnNormIdeal := hFfnNormIdeal) (hFfnNormReferenceIdeal := hFfnNormReferenceIdeal)
-- ==== Pre_bounded.lean ====
abbrev S16384x20480 : Shape := ⟨2, ![16384, 20480]⟩
abbrev S2x2x4096 : Shape := ⟨3, ![2, 2, 4096]⟩
abbrev S_ : Shape := ⟨0, ![]⟩

class Facts : Prop where
  bcast_S_S2x2x4096 : S_.BroadcastsInDim S2x2x4096 (![] : Fin 0 → Fin S2x2x4096.rank)
  reducesTo_S2x2x4096_S_d0_1_2 : S2x2x4096.ReducesTo [0, 1, 2] S_
  h_S_ : 0 < S_.numel

variable [Facts]

def fn {F : FTy → Type} [FloatOps F] (main_arg0 : FVec F S16384x20480 .f32) (main_arg1 : FVec F S2x2x4096 .f32) : IVec S_ 1 :=
  let main_v0 : FVec F S2x2x4096 .f32 := Host.absf main_arg1
  let main_cst : FVec F S_ .f32 := constant S_ .f32 0x40180000#32
  let main_v1 : FVec F S2x2x4096 .f32 := broadcastInDim S2x2x4096 ![] bcast_S_S2x2x4096 main_cst
  let main_v2 : IVec S2x2x4096 1 := cmpf .ole main_v0 main_v1
  let main_c : IVec S_ 1 := constantI S_ 1 1#1
  let main_v3 : IVec S_ 1 := (fun x v => Host.reduce IntOp.andi x v reducesTo_S2x2x4096_S_d0_1_2 h_S_) main_v2 main_c
  main_v3
-- ==== Pre_bounded_back.lean ====
abbrev S16384x20480 : Shape := ⟨2, ![16384, 20480]⟩
abbrev S2x2x4096 : Shape := ⟨3, ![2, 2, 4096]⟩
abbrev S16384x4096 : Shape := ⟨2, ![16384, 4096]⟩
abbrev S1x4096 : Shape := ⟨2, ![1, 4096]⟩
abbrev S_ : Shape := ⟨0, ![]⟩

class Facts : Prop where
  bcast_S_S2x2x4096 : S_.BroadcastsInDim S2x2x4096 (![] : Fin 0 → Fin S2x2x4096.rank)
  reducesTo_S2x2x4096_S_d0_1_2 : S2x2x4096.ReducesTo [0, 1, 2] S_
  h_S_ : 0 < S_.numel

variable [Facts]

def fn {F : FTy → Type} [FloatOps F] (main_arg0 : FVec F S16384x20480 .f32) (main_arg1 : FVec F S2x2x4096 .f32) (main_arg2 : FVec F S16384x4096 .f32) (main_arg3 : FVec F S1x4096 .f32) : IVec S_ 1 :=
  let main_v0 : FVec F S2x2x4096 .f32 := Host.absf main_arg1
  let main_cst : FVec F S_ .f32 := constant S_ .f32 0x40180000#32
  let main_v1 : FVec F S2x2x4096 .f32 := broadcastInDim S2x2x4096 ![] bcast_S_S2x2x4096 main_cst
  let main_v2 : IVec S2x2x4096 1 := cmpf .ole main_v0 main_v1
  let main_c : IVec S_ 1 := constantI S_ 1 1#1
  let main_v3 : IVec S_ 1 := (fun x v => Host.reduce IntOp.andi x v reducesTo_S2x2x4096_S_d0_1_2 h_S_) main_v2 main_c
  main_v3
-- ==== Kernel.lean ====
abbrev S16384x20480 : Shape := ⟨2, ![16384, 20480]⟩
abbrev S2x2x4096 : Shape := ⟨3, ![2, 2, 4096]⟩
abbrev S1x2x4096 : Shape := ⟨3, ![1, 2, 4096]⟩
abbrev S2x4096 : Shape := ⟨2, ![2, 4096]⟩
abbrev S16384x4096 : Shape := ⟨2, ![16384, 4096]⟩
abbrev S256x4096 : Shape := ⟨2, ![256, 4096]⟩
abbrev S32x128x128 : Shape := ⟨3, ![32, 128, 128]⟩
abbrev S4096 : Shape := ⟨1, ![4096]⟩
abbrev S1x4096 : Shape := ⟨2, ![1, 4096]⟩
abbrev S64x64 : Shape := ⟨2, ![64, 64]⟩
abbrev S64x4096 : Shape := ⟨2, ![64, 4096]⟩
abbrev S16x4096 : Shape := ⟨2, ![16, 4096]⟩
abbrev S48x4096 : Shape := ⟨2, ![48, 4096]⟩
abbrev S32x4096 : Shape := ⟨2, ![32, 4096]⟩
abbrev S1x128x128 : Shape := ⟨3, ![1, 128, 128]⟩
abbrev S128x128 : Shape := ⟨2, ![128, 128]⟩
abbrev S64x128 : Shape := ⟨2, ![64, 128]⟩
abbrev S16x128 : Shape := ⟨2, ![16, 128]⟩
abbrev S48x128 : Shape := ⟨2, ![48, 128]⟩
abbrev S32x128 : Shape := ⟨2, ![32, 128]⟩
abbrev S64x512 : Shape := ⟨2, ![64, 512]⟩
abbrev S1x128 : Shape := ⟨2, ![1, 128]⟩

abbrev nBuf : Space → Nat
  | .hbm => 5
  | .vmem => 10
  | .smem => 0
  | _ => 0

abbrev bufTy : (tb : Table) → Fin (tcTables nBuf tb) → BufTy
  | .hbm, ⟨0, _⟩ => ⟨S16384x20480, .f32⟩
  | .hbm, ⟨1, _⟩ => ⟨S2x2x4096, .f32⟩
  | .hbm, ⟨2, _⟩ => ⟨S1x2x4096, .f32⟩
  | .hbm, ⟨3, _⟩ => ⟨S2x4096, .f32⟩
  | .hbm, ⟨4, _⟩ => ⟨S16384x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S2x4096, .f32⟩
  | .local _ .vmem, ⟨7, _⟩ => ⟨S256x4096, .f32⟩
  | .local _ .vmem, ⟨8, _⟩ => ⟨S256x4096, .f32⟩
  | .local _ .vmem, ⟨9, _⟩ => ⟨S32x128x128, .f32⟩
  | _, _ => ⟨S16384x20480, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![1, 64], ![false, false]⟩

@[reducible] def k0_t1_loop : Scf.Loop 32 :=
  let c0_i32_4 : BitVec 32 := 0#32
  let c4_i32 : BitVec 32 := 4#32
  let v22 : BitVec 32 := Scalar.addi c0_i32_4 c4_i32
  let c1_i32 : BitVec 32 := 1#32
  ⟨c0_i32_4, v22, c1_i32⟩
def k0_mult1 (k0_t1 : Fin k0_t1_loop.trips) : BitVec 32 :=
  let c0_i32_4 : BitVec 32 := 0#32
  let c1_i32 : BitVec 32 := 1#32
  let arg8 : BitVec 32 := Scf.iv c0_i32_4 c1_i32 k0_t1
  let c64_i32 : BitVec 32 := 64#32
  let v23 : BitVec 32 := Scalar.muli arg8 c64_i32
  v23
def k0_off1 (k0_t1 : Fin k0_t1_loop.trips) : Fin 2 → Nat :=
  let c0_i32_4 : BitVec 32 := 0#32
  let c1_i32 : BitVec 32 := 1#32
  let arg8 : BitVec 32 := Scf.iv c0_i32_4 c1_i32 k0_t1
  let c64_i32 : BitVec 32 := 64#32
  let v23 : BitVec 32 := Scalar.muli arg8 c64_i32
  let v24 : BitVec 32 := v23
  let v25 : Index := Scalar.indexCast v24
  let c0_6 : Index := 0#32
  ![v25.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S2x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S16384x20480 : Shape := ⟨2, ![16384, 20480]⟩
abbrev S2x2x4096 : Shape := ⟨3, ![2, 2, 4096]⟩
abbrev S_ : Shape := ⟨0, ![]⟩
abbrev S2x4096 : Shape := ⟨2, ![2, 4096]⟩
abbrev S2x1x4096 : Shape := ⟨3, ![2, 1, 4096]⟩
abbrev S2x32x128 : Shape := ⟨3, ![2, 32, 128]⟩
abbrev S1x16384x20480 : Shape := ⟨3, ![1, 16384, 20480]⟩
abbrev S1x16384x4096 : Shape := ⟨3, ![1, 16384, 4096]⟩
abbrev S1x16384x32x128 : Shape := ⟨4, ![1, 16384, 32, 128]⟩
abbrev S1x32x128 : Shape := ⟨3, ![1, 32, 128]⟩
abbrev S32x128 : Shape := ⟨2, ![32, 128]⟩
abbrev S1x1x32x128 : Shape := ⟨4, ![1, 1, 32, 128]⟩
abbrev S64x64 : Shape := ⟨2, ![64, 64]⟩
abbrev S1x64x64x1x1 : Shape := ⟨5, ![1, 64, 64, 1, 1]⟩
abbrev S1x32x128x128 : Shape := ⟨4, ![1, 32, 128, 128]⟩
abbrev S1x256x64x32x128 : Shape := ⟨5, ![1, 256, 64, 32, 128]⟩
abbrev S256x1x64x32x128 : Shape := ⟨5, ![256, 1, 64, 32, 128]⟩
abbrev S1x1x64x32x128 : Shape := ⟨5, ![1, 1, 64, 32, 128]⟩
abbrev S1x64x32x128 : Shape := ⟨4, ![1, 64, 32, 128]⟩
abbrev S1x32x128x64 : Shape := ⟨4, ![1, 32, 128, 64]⟩
abbrev S1x64x1x32x128 : Shape := ⟨5, ![1, 64, 1, 32, 128]⟩
abbrev S1x64x64x32x128 : Shape := ⟨5, ![1, 64, 64, 32, 128]⟩
abbrev S1x64x64x32 : Shape := ⟨4, ![1, 64, 64, 32]⟩
abbrev S1x32x128x1 : Shape := ⟨4, ![1, 32, 128, 1]⟩
abbrev S16384x4096 : Shape := ⟨2, ![16384, 4096]⟩

abbrev nBuf : Space → Nat
  | .hbm => 178
  | .vmem => 0
  | .smem => 0
  | _ => 0

abbrev hbmTy0_0 (i : Nat) : BufTy := match i % 128 with
  | 0 => ⟨S16384x20480, .f32⟩
  | 1 => ⟨S2x2x4096, .f32⟩
  | 2 => ⟨S_, .f32⟩
  | 3 => ⟨S2x4096, .f32⟩
  | 4 => ⟨S_, .f32⟩
  | 5 => ⟨S2x4096, .f32⟩
  | 6 => ⟨S2x4096, .f32⟩
  | 7 => ⟨S2x1x4096, .f32⟩
  | 8 => ⟨S2x2x4096, .f32⟩
  | 9 => ⟨S2x2x4096, .f32⟩
  | 10 => ⟨S2x2x4096, .f32⟩
  | 11 => ⟨S_, .f32⟩
  | 12 => ⟨S2x4096, .f32⟩
  | 13 => ⟨S2x1x4096, .f32⟩
  | 14 => ⟨S2x2x4096, .f32⟩
  | 15 => ⟨S2x2x4096, .f32⟩
  | 16 => ⟨S_, .f32⟩
  | 17 => ⟨S_, .f32⟩
  | 18 => ⟨S2x2x4096, .f32⟩
  | 19 => ⟨S2x1x4096, .f32⟩
  | 20 => ⟨S2x4096, .f32⟩
  | 21 => ⟨S2x32x128, .f32⟩
  | 22 => ⟨S1x16384x20480, .f32⟩
  | 23 => ⟨S1x16384x4096, .f32⟩
  | 24 => ⟨S1x16384x4096, .f32⟩
  | 25 => ⟨S1x16384x4096, .f32⟩
  | 26 => ⟨S1x16384x4096, .f32⟩
  | 27 => ⟨S1x16384x4096, .f32⟩
  | 28 => ⟨S1x16384x32x128, .f32⟩
  | 29 => ⟨S1x16384x32x128, .f32⟩
  | 30 => ⟨S1x16384x32x128, .f32⟩
  | 31 => ⟨S_, .f32⟩
  | 32 => ⟨S1x16384x32x128, .f32⟩
  | 33 => ⟨S1x16384x32x128, .f32⟩
  | 34 => ⟨S_, .f32⟩
  | 35 => ⟨S1x16384x32x128, .f32⟩
  | 36 => ⟨S1x16384x32x128, .f32⟩
  | 37 => ⟨S1x16384x32x128, .f32⟩
  | 38 => ⟨S1x16384x32x128, .f32⟩
  | 39 => ⟨S1x32x128, .f32⟩
  | 40 => ⟨S32x128, .f32⟩
  | 41 => ⟨S_, .f32⟩
  | 42 => ⟨S32x128, .f32⟩
  | 43 => ⟨S32x128, .f32⟩
  | 44 => ⟨S1x16384x32x128, .f32⟩
  | 45 => ⟨S1x16384x32x128, .f32⟩
  | 46 => ⟨S1x16384x32x128, .f32⟩
  | 47 => ⟨S_, .f32⟩
  | 48 => ⟨S1x16384x32x128, .f32⟩
  | 49 => ⟨S1x16384x32x128, .f32⟩
  | 50 => ⟨S_, .f32⟩
  | 51 => ⟨S1x16384x32x128, .f32⟩
  | 52 => ⟨S1x16384x32x128, .f32⟩
  | 53 => ⟨S1x1x32x128, .f32⟩
  | 54 => ⟨S1x16384x32x128, .f32⟩
  | 55 => ⟨S1x16384x32x128, .f32⟩
  | 56 => ⟨S1x1x32x128, .f32⟩
  | 57 => ⟨S1x16384x32x128, .f32⟩
  | 58 => ⟨S1x16384x32x128, .f32⟩
  | 59 => ⟨S_, .f32⟩
  | 60 => ⟨S1x16384x32x128, .f32⟩
  | 61 => ⟨S1x16384x32x128, .f32⟩
  | 62 => ⟨S1x16384x32x128, .f32⟩
  | 63 => ⟨S_, .i1⟩
  | 64 => ⟨S64x64, .i1⟩
  | 65 => ⟨S64x64, .i32⟩
  | 66 => ⟨S_, .i32⟩
  | 67 => ⟨S64x64, .i32⟩
  | 68 => ⟨S64x64, .i32⟩
  | 69 => ⟨S64x64, .i32⟩
  | 70 => ⟨S64x64, .i1⟩
  | 71 => ⟨S_, .i1⟩
  | 72 => ⟨S64x64, .i1⟩
  | 73 => ⟨S64x64, .i1⟩
  | 74 => ⟨S1x64x64x1x1, .i1⟩
  | 75 => ⟨S_, .f32⟩
  | 76 => ⟨S1x32x128x128, .f32⟩
  | 77 => ⟨S1x256x64x32x128, .f32⟩
  | 78 => ⟨S256x1x64x32x128, .f32⟩
  | 79 => ⟨S1x256x64x32x128, .f32⟩
  | 80 => ⟨S256x1x64x32x128, .f32⟩
  | 81 => ⟨S1x256x64x32x128, .f32⟩
  | 82 => ⟨S256x1x64x32x128, .f32⟩
  | 83 => ⟨S1x256x64x32x128, .f32⟩
  | 84 => ⟨S256x1x64x32x128, .f32⟩
  | 85 => ⟨S_, .f32⟩
  | 86 => ⟨S256x1x64x32x128, .f32⟩
  | 87 => ⟨S_, .i32⟩
  | 88 => ⟨S256x1x64x32x128, .f32⟩
  | 89 => ⟨S256x1x64x32x128, .f32⟩
  | 90 => ⟨S256x1x64x32x128, .f32⟩
  | 91 => ⟨S256x1x64x32x128, .f32⟩
  | 92 => ⟨S1x64x64x1x1, .i1⟩
  | 93 => ⟨S_, .i32⟩
  | 94 => ⟨S1x32x128x128, .f32⟩
  | 95 => ⟨S256x1x64x32x128, .f32⟩
  | 96 => ⟨S_, .i32⟩
  | 97 => ⟨S_, .i1⟩
  | 98 => ⟨S_, .i32⟩
  | 99 => ⟨S_, .i32⟩
  | 100 => ⟨S_, .i32⟩
  | 101 => ⟨S_, .i32⟩
  | 102 => ⟨S1x1x64x32x128, .f32⟩
  | 103 => ⟨S1x64x32x128, .f32⟩
  | 104 => ⟨S_, .i32⟩
  | 105 => ⟨S_, .i32⟩
  | 106 => ⟨S_, .i32⟩
  | 107 => ⟨S_, .i32⟩
  | 108 => ⟨S1x1x64x32x128, .f32⟩
  | 109 => ⟨S1x64x32x128, .f32⟩
  | 110 => ⟨S_, .i32⟩
  | 111 => ⟨S_, .i32⟩
  | 112 => ⟨S_, .i32⟩
  | 113 => ⟨S_, .i32⟩
  | 114 => ⟨S1x1x64x32x128, .f32⟩
  | 115 => ⟨S1x64x32x128, .f32⟩
  | 116 => ⟨S_, .i32⟩
  | 117 => ⟨S_, .i32⟩
  | 118 => ⟨S_, .i32⟩
  | 119 => ⟨S_, .i32⟩
  | 120 => ⟨S1x1x64x32x128, .f32⟩
  | 121 => ⟨S1x64x32x128, .f32⟩
  | 122 => ⟨S_, .f32⟩
  | 123 => ⟨S_, .f32⟩
  | 124 => ⟨S1x64x32x128, .f32⟩
  | 125 => ⟨S1x64x32x128, .f32⟩
  | 126 => ⟨S1x64x32x128, .f32⟩
  | 127 => ⟨S1x32x128x64, .f32⟩
  | _ => ⟨S16384x20480, .f32⟩

abbrev hbmTy0_1 (i : Nat) : BufTy := match i % 128 with
  | 0 => ⟨S1x64x32x128, .f32⟩
  | 1 => ⟨S1x64x1x32x128, .f32⟩
  | 2 => ⟨S1x1x64x32x128, .f32⟩
  | 3 => ⟨S1x64x64x32x128, .f32⟩
  | 4 => ⟨S1x64x64x32x128, .f32⟩
  | 5 => ⟨S1x64x64x32x128, .f32⟩
  | 6 => ⟨S_, .f32⟩
  | 7 => ⟨S1x64x64x32x128, .f32⟩
  | 8 => ⟨S1x64x64x32x128, .f32⟩
  | 9 => ⟨S1x64x64x32x128, .f32⟩
  | 10 => ⟨S_, .f32⟩
  | 11 => ⟨S_, .f32⟩
  | 12 => ⟨S1x64x64x32x128, .i1⟩
  | 13 => ⟨S1x64x64x32x128, .f32⟩
  | 14 => ⟨S1x64x64x32x128, .f32⟩
  | 15 => ⟨S1x64x1x32x128, .f32⟩
  | 16 => ⟨S1x1x64x32x128, .f32⟩
  | 17 => ⟨S1x64x64x32x128, .f32⟩
  | 18 => ⟨S1x64x64x32x128, .f32⟩
  | 19 => ⟨S1x64x64x32x128, .f32⟩
  | 20 => ⟨S1x64x64x32x128, .f32⟩
  | 21 => ⟨S_, .f32⟩
  | 22 => ⟨S1x64x64x32, .f32⟩
  | 23 => ⟨S1x32x128x64, .f32⟩
  | 24 => ⟨S1x64x32x128, .f32⟩
  | 25 => ⟨S1x1x32x128, .f32⟩
  | 26 => ⟨S1x32x128, .f32⟩
  | 27 => ⟨S1x1x32x128, .f32⟩
  | 28 => ⟨S1x64x32x128, .f32⟩
  | 29 => ⟨S1x64x32x128, .f32⟩
  | 30 => ⟨S1x64x32x128, .f32⟩
  | 31 => ⟨S1x64x32x128, .f32⟩
  | 32 => ⟨S1x32x128, .f32⟩
  | 33 => ⟨S1x32x128x1, .f32⟩
  | 34 => ⟨S1x32x128x128, .f32⟩
  | 35 => ⟨S1x32x128x128, .f32⟩
  | 36 => ⟨S1x32x128x128, .f32⟩
  | 37 => ⟨S1x32x128x128, .f32⟩
  | 38 => ⟨S1x64x32x128, .f32⟩
  | 39 => ⟨S1x1x64x32x128, .f32⟩
  | 40 => ⟨S_, .i32⟩
  | 41 => ⟨S_, .i32⟩
  | 42 => ⟨S_, .i32⟩
  | 43 => ⟨S_, .i32⟩
  | 44 => ⟨S256x1x64x32x128, .f32⟩
  | 45 => ⟨S_, .i32⟩
  | 46 => ⟨S_, .i32⟩
  | 47 => ⟨S1x256x64x32x128, .f32⟩
  | 48 => ⟨S1x16384x32x128, .f32⟩
  | 49 => ⟨S16384x4096, .f32⟩
  | _ => ⟨S16384x20480, .f32⟩

abbrev hbmTy (i : Nat) : BufTy := match i / 128 with
  | 0 => hbmTy0_0 i
  | 1 => hbmTy0_1 i
  | _ => ⟨S16384x20480, .f32⟩

abbrev bufTy : (tb : Table) → Fin (tcTables nBuf tb) → BufTy
  | .hbm, ⟨i, _⟩ => hbmTy i
  | _, _ => ⟨S16384x20480, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_call0_cst : Ref sig .tc := ⟨.hbm, 16, rfl⟩
abbrev main_call0_call0_v0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_call1_v0 : Ref sig .tc := ⟨.hbm, 29, rfl⟩
abbrev main_call1_v1 : Ref sig .tc := ⟨.hbm, 30, rfl⟩
abbrev main_call1_cst : Ref sig .tc := ⟨.hbm, 31, rfl⟩
abbrev main_call1_v2 : Ref sig .tc := ⟨.hbm, 32, rfl⟩
abbrev main_call1_v3 : Ref sig .tc := ⟨.hbm, 33, rfl⟩
abbrev main_call1_cst_0 : Ref sig .tc := ⟨.hbm, 34, rfl⟩
abbrev main_call1_v4 : Ref sig .tc := ⟨.hbm, 35, rfl⟩
abbrev main_call1_v5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_2 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_3 : Ref sig .tc := ⟨.hbm, 47, rfl⟩
abbrev main_v31 : Ref sig .tc := ⟨.hbm, 48, rfl⟩
abbrev main_v32 : Ref sig .tc := ⟨.hbm, 49, rfl⟩
abbrev main_cst_4 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_5 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_c : Ref sig .tc := ⟨.hbm, 63, rfl⟩
abbrev main_v44 : Ref sig .tc := ⟨.hbm, 64, rfl⟩
abbrev main_call2_v0 : Ref sig .tc := ⟨.hbm, 65, rfl⟩
abbrev main_call2_c : Ref sig .tc := ⟨.hbm, 66, rfl⟩
abbrev main_call2_v1 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_c_0 : Ref sig .tc := ⟨.hbm, 71, rfl⟩
abbrev main_call2_v5 : Ref sig .tc := ⟨.hbm, 72, rfl⟩
abbrev main_v45 : Ref sig .tc := ⟨.hbm, 73, rfl⟩
abbrev main_v46 : Ref sig .tc := ⟨.hbm, 74, rfl⟩
abbrev main_cst_6 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_7 : Ref sig .tc := ⟨.hbm, 85, rfl⟩
abbrev main_v56 : Ref sig .tc := ⟨.hbm, 86, rfl⟩
abbrev main_c_8 : Ref sig .tc := ⟨.hbm, 87, rfl⟩
abbrev main_v57_0 : Ref sig .tc := ⟨.hbm, 88, rfl⟩
abbrev main_v57_1 : Ref sig .tc := ⟨.hbm, 89, rfl⟩
abbrev main_v57_2 : Ref sig .tc := ⟨.hbm, 90, rfl⟩
abbrev main_v57_3 : Ref sig .tc := ⟨.hbm, 91, rfl⟩
abbrev main_v57_4 : Ref sig .tc := ⟨.hbm, 92, rfl⟩
abbrev main_v57_5 : Ref sig .tc := ⟨.hbm, 93, rfl⟩
abbrev main_v57_6 : Ref sig .tc := ⟨.hbm, 94, rfl⟩
abbrev main_v57_7 : Ref sig .tc := ⟨.hbm, 95, rfl⟩
abbrev main_while0c_c_16 : Ref sig .tc := ⟨.hbm, 96, rfl⟩
abbrev main_while0c_v61 : Ref sig .tc := ⟨.hbm, 97, rfl⟩
abbrev main_while0b_call3_c : Ref sig .tc := ⟨.hbm, 98, rfl⟩
abbrev main_while0b_call3_c_0 : Ref sig .tc := ⟨.hbm, 99, rfl⟩
abbrev main_while0b_call3_c_1 : Ref sig .tc := ⟨.hbm, 100, rfl⟩
abbrev main_while0b_call3_c_2 : Ref sig .tc := ⟨.hbm, 101, rfl⟩
abbrev main_while0b_call3_v0 : Ref sig .tc := ⟨.hbm, 102, rfl⟩
abbrev main_while0b_v61 : Ref sig .tc := ⟨.hbm, 103, rfl⟩
abbrev main_while0b_call4_c : Ref sig .tc := ⟨.hbm, 104, rfl⟩
abbrev main_while0b_call4_c_0 : Ref sig .tc := ⟨.hbm, 105, rfl⟩
abbrev main_while0b_call4_c_1 : Ref sig .tc := ⟨.hbm, 106, rfl⟩
abbrev main_while0b_call4_c_2 : Ref sig .tc := ⟨.hbm, 107, rfl⟩
abbrev main_while0b_call4_v0 : Ref sig .tc := ⟨.hbm, 108, rfl⟩
abbrev main_while0b_v62 : Ref sig .tc := ⟨.hbm, 109, rfl⟩
abbrev main_while0b_call5_c : Ref sig .tc := ⟨.hbm, 110, rfl⟩
abbrev main_while0b_call5_c_0 : Ref sig .tc := ⟨.hbm, 111, rfl⟩
abbrev main_while0b_call5_c_1 : Ref sig .tc := ⟨.hbm, 112, rfl⟩
abbrev main_while0b_call5_c_2 : Ref sig .tc := ⟨.hbm, 113, rfl⟩
abbrev main_while0b_call5_v0 : Ref sig .tc := ⟨.hbm, 114, rfl⟩
abbrev main_while0b_v63 : Ref sig .tc := ⟨.hbm, 115, rfl⟩
abbrev main_while0b_call6_c : Ref sig .tc := ⟨.hbm, 116, rfl⟩
abbrev main_while0b_call6_c_0 : Ref sig .tc := ⟨.hbm, 117, rfl⟩
abbrev main_while0b_call6_c_1 : Ref sig .tc := ⟨.hbm, 118, rfl⟩
abbrev main_while0b_call6_c_2 : Ref sig .tc := ⟨.hbm, 119, rfl⟩
abbrev main_while0b_call6_v0 : Ref sig .tc := ⟨.hbm, 120, rfl⟩
abbrev main_while0b_v64 : Ref sig .tc := ⟨.hbm, 121, rfl⟩
abbrev main_while0b_call7_call0_cst : Ref sig .tc := ⟨.hbm, 122, rfl⟩
abbrev main_while0b_call7_call0_v0 : Ref sig .tc := ⟨.hbm, 123, rfl⟩
abbrev main_while0b_v65 : Ref sig .tc := ⟨.hbm, 124, rfl⟩
abbrev main_while0b_v66 : Ref sig .tc := ⟨.hbm, 125, rfl⟩
abbrev main_while0b_v67 : Ref sig .tc := ⟨.hbm, 126, rfl⟩
abbrev main_while0b_v68 : Ref sig .tc := ⟨.hbm, 127, rfl⟩
abbrev main_while0b_v69 : Ref sig .tc := ⟨.hbm, 128, rfl⟩
abbrev main_while0b_v70 : Ref sig .tc := ⟨.hbm, 129, rfl⟩
abbrev main_while0b_v71 : Ref sig .tc := ⟨.hbm, 130, rfl⟩
abbrev main_while0b_v72 : Ref sig .tc := ⟨.hbm, 131, rfl⟩
abbrev main_while0b_v73 : Ref sig .tc := ⟨.hbm, 132, rfl⟩
abbrev main_while0b_v74 : Ref sig .tc := ⟨.hbm, 133, rfl⟩
abbrev main_while0b_cst_16 : Ref sig .tc := ⟨.hbm, 134, rfl⟩
abbrev main_while0b_v75 : Ref sig .tc := ⟨.hbm, 135, rfl⟩
abbrev main_while0b_v76 : Ref sig .tc := ⟨.hbm, 136, rfl⟩
abbrev main_while0b_v77 : Ref sig .tc := ⟨.hbm, 137, rfl⟩
abbrev main_while0b_cst_17 : Ref sig .tc := ⟨.hbm, 138, rfl⟩
abbrev main_while0b_call8_v0 : Ref sig .tc := ⟨.hbm, 139, rfl⟩
abbrev main_while0b_call8_v1 : Ref sig .tc := ⟨.hbm, 140, rfl⟩
abbrev main_while0b_call8_v2 : Ref sig .tc := ⟨.hbm, 141, rfl⟩
abbrev main_while0b_v78 : Ref sig .tc := ⟨.hbm, 142, rfl⟩
abbrev main_while0b_v79 : Ref sig .tc := ⟨.hbm, 143, rfl⟩
abbrev main_while0b_v80 : Ref sig .tc := ⟨.hbm, 144, rfl⟩
abbrev main_while0b_v81 : Ref sig .tc := ⟨.hbm, 145, rfl⟩
abbrev main_while0b_v82 : Ref sig .tc := ⟨.hbm, 146, rfl⟩
abbrev main_while0b_v83 : Ref sig .tc := ⟨.hbm, 147, rfl⟩
abbrev main_while0b_v84 : Ref sig .tc := ⟨.hbm, 148, rfl⟩
abbrev main_while0b_cst_18 : Ref sig .tc := ⟨.hbm, 149, rfl⟩
abbrev main_while0b_v85 : Ref sig .tc := ⟨.hbm, 150, rfl⟩
abbrev main_while0b_v86 : Ref sig .tc := ⟨.hbm, 151, rfl⟩
abbrev main_while0b_v87 : Ref sig .tc := ⟨.hbm, 152, rfl⟩
abbrev main_while0b_v88 : Ref sig .tc := ⟨.hbm, 153, rfl⟩
abbrev main_while0b_v89 : Ref sig .tc := ⟨.hbm, 154, rfl⟩
abbrev main_while0b_v90 : Ref sig .tc := ⟨.hbm, 155, rfl⟩
abbrev main_while0b_v91 : Ref sig .tc := ⟨.hbm, 156, rfl⟩
abbrev main_while0b_v92 : Ref sig .tc := ⟨.hbm, 157, rfl⟩
abbrev main_while0b_v93 : Ref sig .tc := ⟨.hbm, 158, rfl⟩
abbrev main_while0b_v94 : Ref sig .tc := ⟨.hbm, 159, rfl⟩
abbrev main_while0b_v95 : Ref sig .tc := ⟨.hbm, 160, rfl⟩
abbrev main_while0b_v96 : Ref sig .tc := ⟨.hbm, 161, rfl⟩
abbrev main_while0b_v97 : Ref sig .tc := ⟨.hbm, 162, rfl⟩
abbrev main_while0b_v98 : Ref sig .tc := ⟨.hbm, 163, rfl⟩
abbrev main_while0b_v99 : Ref sig .tc := ⟨.hbm, 164, rfl⟩
abbrev main_while0b_v100 : Ref sig .tc := ⟨.hbm, 165, rfl⟩
abbrev main_while0b_v101 : Ref sig .tc := ⟨.hbm, 166, rfl⟩
abbrev main_while0b_call9_v0 : Ref sig .tc := ⟨.hbm, 167, rfl⟩
abbrev main_while0b_call9_c : Ref sig .tc := ⟨.hbm, 168, rfl⟩
abbrev main_while0b_call9_c_0 : Ref sig .tc := ⟨.hbm, 169, rfl⟩
abbrev main_while0b_call9_c_1 : Ref sig .tc := ⟨.hbm, 170, rfl⟩
abbrev main_while0b_call9_c_2 : Ref sig .tc := ⟨.hbm, 171, rfl⟩
abbrev main_while0b_v102 : Ref sig .tc := ⟨.hbm, 172, rfl⟩
abbrev main_while0b_c_19 : Ref sig .tc := ⟨.hbm, 173, rfl⟩
abbrev main_while0b_v103 : Ref sig .tc := ⟨.hbm, 174, rfl⟩
abbrev main_v58 : Ref sig .tc := ⟨.hbm, 175, rfl⟩
abbrev main_v59 : Ref sig .tc := ⟨.hbm, 176, rfl⟩
abbrev main_v60 : Ref sig .tc := ⟨.hbm, 177, rfl⟩

abbrev nD : Nat := 1
abbrev τ : Topo := Topo.v7x

variable {F : FTy → Type} [FloatOps F]

abbrev main_while0_count : Scf.Loop 32 := ⟨0#32, 256#32, 1#32⟩
-- ==== ScanBack.lean ====
abbrev S16384x20480 : Shape := ⟨2, ![16384, 20480]⟩
abbrev S2x2x4096 : Shape := ⟨3, ![2, 2, 4096]⟩
abbrev S16384x4096 : Shape := ⟨2, ![16384, 4096]⟩
abbrev S1x4096 : Shape := ⟨2, ![1, 4096]⟩
abbrev S1x2x4096 : Shape := ⟨3, ![1, 2, 4096]⟩
abbrev S2x4096 : Shape := ⟨2, ![2, 4096]⟩
abbrev S4096 : Shape := ⟨1, ![4096]⟩
abbrev S128x4096 : Shape := ⟨2, ![128, 4096]⟩
abbrev S32x128x128 : Shape := ⟨3, ![32, 128, 128]⟩
abbrev S64x64 : Shape := ⟨2, ![64, 64]⟩
abbrev S64x4096 : Shape := ⟨2, ![64, 4096]⟩
abbrev S16x4096 : Shape := ⟨2, ![16, 4096]⟩
abbrev S48x4096 : Shape := ⟨2, ![48, 4096]⟩
abbrev S32x4096 : Shape := ⟨2, ![32, 4096]⟩
abbrev S1x128x128 : Shape := ⟨3, ![1, 128, 128]⟩
abbrev S128x128 : Shape := ⟨2, ![128, 128]⟩
abbrev S64x128 : Shape := ⟨2, ![64, 128]⟩
abbrev S16x128 : Shape := ⟨2, ![16, 128]⟩
abbrev S48x128 : Shape := ⟨2, ![48, 128]⟩
abbrev S32x128 : Shape := ⟨2, ![32, 128]⟩
abbrev S64x512 : Shape := ⟨2, ![64, 512]⟩
abbrev S1x128 : Shape := ⟨2, ![1, 128]⟩
abbrev S64 : Shape := ⟨1, ![64]⟩
abbrev S64x1 : Shape := ⟨2, ![64, 1]⟩

abbrev nBuf : Space → Nat
  | .hbm => 9
  | .vmem => 15
  | .smem => 0
  | _ => 0

abbrev bufTy : (tb : Table) → Fin (tcTables nBuf tb) → BufTy
  | .hbm, ⟨0, _⟩ => ⟨S16384x20480, .f32⟩
  | .hbm, ⟨1, _⟩ => ⟨S2x2x4096, .f32⟩
  | .hbm, ⟨2, _⟩ => ⟨S16384x4096, .f32⟩
  | .hbm, ⟨3, _⟩ => ⟨S1x4096, .f32⟩
  | .hbm, ⟨4, _⟩ => ⟨S1x2x4096, .f32⟩
  | .hbm, ⟨5, _⟩ => ⟨S2x4096, .f32⟩
  | .hbm, ⟨6, _⟩ => ⟨S4096, .f32⟩
  | .hbm, ⟨7, _⟩ => ⟨S1x4096, .f32⟩
  | .hbm, ⟨8, _⟩ => ⟨S16384x4096, .bf16⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S128x4096, .f32⟩
  | .local _ .vmem, ⟨5, _⟩ => ⟨S128x4096, .f32⟩
  | .local _ .vmem, ⟨6, _⟩ => ⟨S2x4096, .f32⟩
  | .local _ .vmem, ⟨7, _⟩ => ⟨S128x4096, .f32⟩
  | .local _ .vmem, ⟨8, _⟩ => ⟨S128x4096, .f32⟩
  | .local _ .vmem, ⟨9, _⟩ => ⟨S128x4096, .f32⟩
  | .local _ .vmem, ⟨10, _⟩ => ⟨S128x4096, .f32⟩
  | .local _ .vmem, ⟨11, _⟩ => ⟨S1x4096, .f32⟩
  | .local _ .vmem, ⟨12, _⟩ => ⟨S128x4096, .bf16⟩
  | .local _ .vmem, ⟨13, _⟩ => ⟨S128x4096, .bf16⟩
  | .local _ .vmem, ⟨14, _⟩ => ⟨S32x128x128, .f32⟩
  | _, _ => ⟨S16384x20480, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![1, 128], ![false, false]⟩

@[reducible] def k0_t1_loop : Scf.Loop 32 :=
  let c0_i32_4 : BitVec 32 := 0#32
  let c2_i32 : BitVec 32 := 2#32
  let v23 : BitVec 32 := Scalar.addi c0_i32_4 c2_i32
  let c1_i32 : BitVec 32 := 1#32
  ⟨c0_i32_4, v23, c1_i32⟩
def k0_mult1 (k0_t1 : Fin k0_t1_loop.trips) : BitVec 32 :=
  let c1_i32_6 : BitVec 32 := 1#32
  let c0_i32_4 : BitVec 32 := 0#32
  let c1_i32 : BitVec 32 := 1#32
  let arg11 : BitVec 32 := Scf.iv c0_i32_4 c1_i32 k0_t1
  let v24 : BitVec 32 := Scalar.subi c1_i32_6 arg11
  let c64_i32 : BitVec 32 := 64#32
  let v25 : BitVec 32 := Scalar.muli v24 c64_i32
  v25
def k0_off1 (k0_t1 : Fin k0_t1_loop.trips) : Fin 2 → Nat :=
  let c1_i32_6 : BitVec 32 := 1#32
  let c0_i32_4 : BitVec 32 := 0#32
  let c1_i32 : BitVec 32 := 1#32
  let arg11 : BitVec 32 := Scf.iv c0_i32_4 c1_i32 k0_t1
  let v24 : BitVec 32 := Scalar.subi c1_i32_6 arg11
  let c64_i32 : BitVec 32 := 64#32
  let v25 : BitVec 32 := Scalar.muli v24 c64_i32
  let v26 : BitVec 32 := v25
  let v27 : Index := Scalar.indexCast v26
  let c0_7 : Index := 0#32
  ![v27.toNat, 0]
def cc0_transform_0 (i : grid0.Coords) : Fin 2 → Nat :=
  let arg0 : BitVec 32 := BitVec.ofNat 32 (i 0).val
  let arg1 : BitVec 32 := BitVec.ofNat 32 (i 1).val
  let c127_i32 : BitVec 32 := 127#32
  let v0 : BitVec 32 := Scalar.subi c127_i32 arg1
  let c0_i32 : BitVec 32 := 0#32
  let v1 : BitVec 32 := Scalar.addi c0_i32 arg0
  let c0_i32_0 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c127_i32 : BitVec 32 := 127#32
  let v0 : BitVec 32 := Scalar.subi c127_i32 arg1
  let c2_i32 : BitVec 32 := 2#32
  let v1 : BitVec 32 := Scalar.addi c2_i32 arg0
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c127_i32 : BitVec 32 := 127#32
  let v0 : BitVec 32 := Scalar.subi c127_i32 arg1
  let c3_i32 : BitVec 32 := 3#32
  let v1 : BitVec 32 := Scalar.addi c3_i32 arg0
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c127_i32 : BitVec 32 := 127#32
  let v0 : BitVec 32 := Scalar.subi c127_i32 arg1
  let c0_i32 : BitVec 32 := 0#32
  ![v0.toNat, arg0.toNat]

def cc0_transform_5 (i : grid0.Coords) : Fin 2 → Nat :=
  let arg0 : BitVec 32 := BitVec.ofNat 32 (i 0).val
  let arg1 : BitVec 32 := BitVec.ofNat 32 (i 1).val
  let c127_i32 : BitVec 32 := 127#32
  let v0 : BitVec 32 := Scalar.subi c127_i32 arg1
  let c4_i32 : BitVec 32 := 4#32
  let v1 : BitVec 32 := Scalar.addi c4_i32 arg0
  let c0_i32 : BitVec 32 := 0#32
  ![v0.toNat, v1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c127_i32 : BitVec 32 := 127#32
  let v0 : BitVec 32 := Scalar.subi c127_i32 arg1
  let c0_i32 : BitVec 32 := 0#32
  ![v0.toNat, arg0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S2x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 2 → Memref sig .tc .vmem S128x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ScanBackReferenceIdeal.lean ====
abbrev S16384x20480 : Shape := ⟨2, ![16384, 20480]⟩
abbrev S2x2x4096 : Shape := ⟨3, ![2, 2, 4096]⟩
abbrev S16384x4096 : Shape := ⟨2, ![16384, 4096]⟩
abbrev S1x4096 : Shape := ⟨2, ![1, 4096]⟩
abbrev S_ : Shape := ⟨0, ![]⟩
abbrev S2x4096 : Shape := ⟨2, ![2, 4096]⟩
abbrev S2x1x4096 : Shape := ⟨3, ![2, 1, 4096]⟩
abbrev S2x32x128 : Shape := ⟨3, ![2, 32, 128]⟩
abbrev S1x16384x20480 : Shape := ⟨3, ![1, 16384, 20480]⟩
abbrev S1x16384x4096 : Shape := ⟨3, ![1, 16384, 4096]⟩
abbrev S1x16384x32x128 : Shape := ⟨4, ![1, 16384, 32, 128]⟩
abbrev S1x32x128 : Shape := ⟨3, ![1, 32, 128]⟩
abbrev S32x128 : Shape := ⟨2, ![32, 128]⟩
abbrev S1x1x32x128 : Shape := ⟨4, ![1, 1, 32, 128]⟩
abbrev S64x64 : Shape := ⟨2, ![64, 64]⟩
abbrev S1x64x64x1x1 : Shape := ⟨5, ![1, 64, 64, 1, 1]⟩
abbrev S1x32x128x128 : Shape := ⟨4, ![1, 32, 128, 128]⟩
abbrev S1x256x64x32x128 : Shape := ⟨5, ![1, 256, 64, 32, 128]⟩
abbrev S256x1x64x32x128 : Shape := ⟨5, ![256, 1, 64, 32, 128]⟩
abbrev S1x1x64x32x128 : Shape := ⟨5, ![1, 1, 64, 32, 128]⟩
abbrev S1x64x32x128 : Shape := ⟨4, ![1, 64, 32, 128]⟩
abbrev S1x32x128x64 : Shape := ⟨4, ![1, 32, 128, 64]⟩
abbrev S1x64x1x32x128 : Shape := ⟨5, ![1, 64, 1, 32, 128]⟩
abbrev S1x64x64x32x128 : Shape := ⟨5, ![1, 64, 64, 32, 128]⟩
abbrev S1x64x64x32 : Shape := ⟨4, ![1, 64, 64, 32]⟩
abbrev S1x32x128x1 : Shape := ⟨4, ![1, 32, 128, 1]⟩
abbrev S1x16384x32 : Shape := ⟨3, ![1, 16384, 32]⟩
abbrev S1x16384x32x1 : Shape := ⟨4, ![1, 16384, 32, 1]⟩
abbrev S4096 : Shape := ⟨1, ![4096]⟩

abbrev nBuf : Space → Nat
  | .hbm => 217
  | .vmem => 0
  | .smem => 0
  | _ => 0

abbrev hbmTy0_0 (i : Nat) : BufTy := match i % 128 with
  | 0 => ⟨S16384x20480, .f32⟩
  | 1 => ⟨S2x2x4096, .f32⟩
  | 2 => ⟨S16384x4096, .f32⟩
  | 3 => ⟨S1x4096, .f32⟩
  | 4 => ⟨S_, .f32⟩
  | 5 => ⟨S2x4096, .f32⟩
  | 6 => ⟨S_, .f32⟩
  | 7 => ⟨S2x4096, .f32⟩
  | 8 => ⟨S2x4096, .f32⟩
  | 9 => ⟨S2x1x4096, .f32⟩
  | 10 => ⟨S2x2x4096, .f32⟩
  | 11 => ⟨S2x2x4096, .f32⟩
  | 12 => ⟨S2x2x4096, .f32⟩
  | 13 => ⟨S_, .f32⟩
  | 14 => ⟨S2x4096, .f32⟩
  | 15 => ⟨S2x1x4096, .f32⟩
  | 16 => ⟨S2x2x4096, .f32⟩
  | 17 => ⟨S2x2x4096, .f32⟩
  | 18 => ⟨S_, .f32⟩
  | 19 => ⟨S_, .f32⟩
  | 20 => ⟨S2x2x4096, .f32⟩
  | 21 => ⟨S2x1x4096, .f32⟩
  | 22 => ⟨S2x4096, .f32⟩
  | 23 => ⟨S2x32x128, .f32⟩
  | 24 => ⟨S1x16384x20480, .f32⟩
  | 25 => ⟨S1x16384x4096, .f32⟩
  | 26 => ⟨S1x16384x4096, .f32⟩
  | 27 => ⟨S1x16384x4096, .f32⟩
  | 28 => ⟨S1x16384x4096, .f32⟩
  | 29 => ⟨S1x16384x4096, .f32⟩
  | 30 => ⟨S1x16384x32x128, .f32⟩
  | 31 => ⟨S1x16384x32x128, .f32⟩
  | 32 => ⟨S1x16384x32x128, .f32⟩
  | 33 => ⟨S_, .f32⟩
  | 34 => ⟨S1x16384x32x128, .f32⟩
  | 35 => ⟨S1x16384x32x128, .f32⟩
  | 36 => ⟨S_, .f32⟩
  | 37 => ⟨S1x16384x32x128, .f32⟩
  | 38 => ⟨S1x16384x32x128, .f32⟩
  | 39 => ⟨S1x16384x32x128, .f32⟩
  | 40 => ⟨S1x16384x32x128, .f32⟩
  | 41 => ⟨S1x32x128, .f32⟩
  | 42 => ⟨S32x128, .f32⟩
  | 43 => ⟨S_, .f32⟩
  | 44 => ⟨S32x128, .f32⟩
  | 45 => ⟨S32x128, .f32⟩
  | 46 => ⟨S1x16384x32x128, .f32⟩
  | 47 => ⟨S1x16384x32x128, .f32⟩
  | 48 => ⟨S1x16384x32x128, .f32⟩
  | 49 => ⟨S_, .f32⟩
  | 50 => ⟨S1x16384x32x128, .f32⟩
  | 51 => ⟨S1x16384x32x128, .f32⟩
  | 52 => ⟨S_, .f32⟩
  | 53 => ⟨S1x16384x32x128, .f32⟩
  | 54 => ⟨S1x16384x32x128, .f32⟩
  | 55 => ⟨S1x1x32x128, .f32⟩
  | 56 => ⟨S1x16384x32x128, .f32⟩
  | 57 => ⟨S1x16384x32x128, .f32⟩
  | 58 => ⟨S1x1x32x128, .f32⟩
  | 59 => ⟨S1x16384x32x128, .f32⟩
  | 60 => ⟨S1x16384x32x128, .f32⟩
  | 61 => ⟨S_, .f32⟩
  | 62 => ⟨S1x16384x32x128, .f32⟩
  | 63 => ⟨S1x16384x32x128, .f32⟩
  | 64 => ⟨S1x16384x32x128, .f32⟩
  | 65 => ⟨S1x16384x32x128, .f32⟩
  | 66 => ⟨S1x16384x32x128, .f32⟩
  | 67 => ⟨S1x16384x32x128, .f32⟩
  | 68 => ⟨S1x16384x32x128, .f32⟩
  | 69 => ⟨S1x16384x32x128, .f32⟩
  | 70 => ⟨S_, .i1⟩
  | 71 => ⟨S64x64, .i1⟩
  | 72 => ⟨S64x64, .i32⟩
  | 73 => ⟨S_, .i32⟩
  | 74 => ⟨S64x64, .i32⟩
  | 75 => ⟨S64x64, .i32⟩
  | 76 => ⟨S64x64, .i32⟩
  | 77 => ⟨S64x64, .i1⟩
  | 78 => ⟨S_, .i1⟩
  | 79 => ⟨S64x64, .i1⟩
  | 80 => ⟨S64x64, .i1⟩
  | 81 => ⟨S1x64x64x1x1, .i1⟩
  | 82 => ⟨S_, .f32⟩
  | 83 => ⟨S1x32x128x128, .f32⟩
  | 84 => ⟨S1x256x64x32x128, .f32⟩
  | 85 => ⟨S256x1x64x32x128, .f32⟩
  | 86 => ⟨S1x256x64x32x128, .f32⟩
  | 87 => ⟨S256x1x64x32x128, .f32⟩
  | 88 => ⟨S1x256x64x32x128, .f32⟩
  | 89 => ⟨S256x1x64x32x128, .f32⟩
  | 90 => ⟨S1x256x64x32x128, .f32⟩
  | 91 => ⟨S256x1x64x32x128, .f32⟩
  | 92 => ⟨S_, .f32⟩
  | 93 => ⟨S256x1x64x32x128, .f32⟩
  | 94 => ⟨S_, .i32⟩
  | 95 => ⟨S256x1x64x32x128, .f32⟩
  | 96 => ⟨S256x1x64x32x128, .f32⟩
  | 97 => ⟨S256x1x64x32x128, .f32⟩
  | 98 => ⟨S256x1x64x32x128, .f32⟩
  | 99 => ⟨S1x64x64x1x1, .i1⟩
  | 100 => ⟨S_, .i32⟩
  | 101 => ⟨S1x32x128x128, .f32⟩
  | 102 => ⟨S256x1x64x32x128, .f32⟩
  | 103 => ⟨S_, .i32⟩
  | 104 => ⟨S_, .i1⟩
  | 105 => ⟨S_, .i32⟩
  | 106 => ⟨S_, .i32⟩
  | 107 => ⟨S_, .i32⟩
  | 108 => ⟨S_, .i32⟩
  | 109 => ⟨S1x1x64x32x128, .f32⟩
  | 110 => ⟨S1x64x32x128, .f32⟩
  | 111 => ⟨S_, .i32⟩
  | 112 => ⟨S_, .i32⟩
  | 113 => ⟨S_, .i32⟩
  | 114 => ⟨S_, .i32⟩
  | 115 => ⟨S1x1x64x32x128, .f32⟩
  | 116 => ⟨S1x64x32x128, .f32⟩
  | 117 => ⟨S_, .i32⟩
  | 118 => ⟨S_, .i32⟩
  | 119 => ⟨S_, .i32⟩
  | 120 => ⟨S_, .i32⟩
  | 121 => ⟨S1x1x64x32x128, .f32⟩
  | 122 => ⟨S1x64x32x128, .f32⟩
  | 123 => ⟨S_, .i32⟩
  | 124 => ⟨S_, .i32⟩
  | 125 => ⟨S_, .i32⟩
  | 126 => ⟨S_, .i32⟩
  | 127 => ⟨S1x1x64x32x128, .f32⟩
  | _ => ⟨S16384x20480, .f32⟩

abbrev hbmTy0_1 (i : Nat) : BufTy := match i % 128 with
  | 0 => ⟨S1x64x32x128, .f32⟩
  | 1 => ⟨S_, .f32⟩
  | 2 => ⟨S_, .f32⟩
  | 3 => ⟨S1x64x32x128, .f32⟩
  | 4 => ⟨S1x64x32x128, .f32⟩
  | 5 => ⟨S1x64x32x128, .f32⟩
  | 6 => ⟨S1x32x128x64, .f32⟩
  | 7 => ⟨S1x64x32x128, .f32⟩
  | 8 => ⟨S1x64x1x32x128, .f32⟩
  | 9 => ⟨S1x1x64x32x128, .f32⟩
  | 10 => ⟨S1x64x64x32x128, .f32⟩
  | 11 => ⟨S1x64x64x32x128, .f32⟩
  | 12 => ⟨S1x64x64x32x128, .f32⟩
  | 13 => ⟨S_, .f32⟩
  | 14 => ⟨S1x64x64x32x128, .f32⟩
  | 15 => ⟨S1x64x64x32x128, .f32⟩
  | 16 => ⟨S1x64x64x32x128, .f32⟩
  | 17 => ⟨S_, .f32⟩
  | 18 => ⟨S_, .f32⟩
  | 19 => ⟨S1x64x64x32x128, .i1⟩
  | 20 => ⟨S1x64x64x32x128, .f32⟩
  | 21 => ⟨S1x64x64x32x128, .f32⟩
  | 22 => ⟨S1x64x1x32x128, .f32⟩
  | 23 => ⟨S1x1x64x32x128, .f32⟩
  | 24 => ⟨S1x64x64x32x128, .f32⟩
  | 25 => ⟨S1x64x64x32x128, .f32⟩
  | 26 => ⟨S1x64x64x32x128, .f32⟩
  | 27 => ⟨S1x64x64x32x128, .f32⟩
  | 28 => ⟨S_, .f32⟩
  | 29 => ⟨S1x64x64x32, .f32⟩
  | 30 => ⟨S1x32x128x64, .f32⟩
  | 31 => ⟨S1x64x32x128, .f32⟩
  | 32 => ⟨S1x1x32x128, .f32⟩
  | 33 => ⟨S1x32x128, .f32⟩
  | 34 => ⟨S1x1x32x128, .f32⟩
  | 35 => ⟨S1x64x32x128, .f32⟩
  | 36 => ⟨S1x64x32x128, .f32⟩
  | 37 => ⟨S1x64x32x128, .f32⟩
  | 38 => ⟨S1x64x32x128, .f32⟩
  | 39 => ⟨S1x32x128, .f32⟩
  | 40 => ⟨S1x32x128x1, .f32⟩
  | 41 => ⟨S1x32x128x128, .f32⟩
  | 42 => ⟨S1x32x128x128, .f32⟩
  | 43 => ⟨S1x32x128x128, .f32⟩
  | 44 => ⟨S1x32x128x128, .f32⟩
  | 45 => ⟨S1x64x32x128, .f32⟩
  | 46 => ⟨S1x1x64x32x128, .f32⟩
  | 47 => ⟨S_, .i32⟩
  | 48 => ⟨S_, .i32⟩
  | 49 => ⟨S_, .i32⟩
  | 50 => ⟨S_, .i32⟩
  | 51 => ⟨S256x1x64x32x128, .f32⟩
  | 52 => ⟨S_, .i32⟩
  | 53 => ⟨S_, .i32⟩
  | 54 => ⟨S1x256x64x32x128, .f32⟩
  | 55 => ⟨S1x16384x32x128, .f32⟩
  | 56 => ⟨S1x16384x32x128, .f32⟩
  | 57 => ⟨S1x16384x32x128, .f32⟩
  | 58 => ⟨S1x16384x32x128, .f32⟩
  | 59 => ⟨S_, .f32⟩
  | 60 => ⟨S1x16384x32, .f32⟩
  | 61 => ⟨S1x16384x32x1, .f32⟩
  | 62 => ⟨S_, .f32⟩
  | 63 => ⟨S1x16384x32x1, .f32⟩
  | 64 => ⟨S1x16384x32x1, .f32⟩
  | 65 => ⟨S_, .f32⟩
  | 66 => ⟨S1x16384x32x1, .f32⟩
  | 67 => ⟨S1x16384x32x1, .f32⟩
  | 68 => ⟨S1x16384x32x1, .f32⟩
  | 69 => ⟨S1x16384x32x128, .f32⟩
  | 70 => ⟨S1x16384x32x128, .f32⟩
  | 71 => ⟨S4096, .f32⟩
  | 72 => ⟨S32x128, .f32⟩
  | 73 => ⟨S1x1x32x128, .f32⟩
  | 74 => ⟨S1x16384x32x128, .f32⟩
  | 75 => ⟨S1x16384x32x128, .f32⟩
  | 76 => ⟨S1x16384x4096, .f32⟩
  | 77 => ⟨S1x16384x4096, .f32⟩
  | 78 => ⟨S1x16384x4096, .f32⟩
  | 79 => ⟨S_, .f32⟩
  | 80 => ⟨S1x16384x4096, .f32⟩
  | 81 => ⟨S1x16384x4096, .f32⟩
  | 82 => ⟨S_, .f32⟩
  | 83 => ⟨S1x16384x4096, .f32⟩
  | 84 => ⟨S1x16384x4096, .f32⟩
  | 85 => ⟨S1x16384x4096, .f32⟩
  | 86 => ⟨S1x16384x4096, .f32⟩
  | 87 => ⟨S16384x4096, .f32⟩
  | 88 => ⟨S16384x4096, .bf16⟩
  | _ => ⟨S16384x20480, .f32⟩

abbrev hbmTy (i : Nat) : BufTy := match i / 128 with
  | 0 => hbmTy0_0 i
  | 1 => hbmTy0_1 i
  | _ => ⟨S16384x20480, .f32⟩

abbrev bufTy : (tb : Table) → Fin (tcTables nBuf tb) → BufTy
  | .hbm, ⟨i, _⟩ => hbmTy i
  | _, _ => ⟨S16384x20480, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_call0_cst : Ref sig .tc := ⟨.hbm, 18, rfl⟩
abbrev main_call0_call0_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call1_v0 : Ref sig .tc := ⟨.hbm, 31, rfl⟩
abbrev main_call1_v1 : Ref sig .tc := ⟨.hbm, 32, rfl⟩
abbrev main_call1_cst : Ref sig .tc := ⟨.hbm, 33, rfl⟩
abbrev main_call1_v2 : Ref sig .tc := ⟨.hbm, 34, rfl⟩
abbrev main_call1_v3 : Ref sig .tc := ⟨.hbm, 35, rfl⟩
abbrev main_call1_cst_0 : Ref sig .tc := ⟨.hbm, 36, rfl⟩
abbrev main_call1_v4 : Ref sig .tc := ⟨.hbm, 37, rfl⟩
abbrev main_call1_v5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_3 : Ref sig .tc := ⟨.hbm, 49, rfl⟩
abbrev main_v31 : Ref sig .tc := ⟨.hbm, 50, rfl⟩
abbrev main_v32 : Ref sig .tc := ⟨.hbm, 51, rfl⟩
abbrev main_cst_4 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_5 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_c : Ref sig .tc := ⟨.hbm, 70, rfl⟩
abbrev main_v49 : Ref sig .tc := ⟨.hbm, 71, rfl⟩
abbrev main_call6_v0 : Ref sig .tc := ⟨.hbm, 72, rfl⟩
abbrev main_call6_c : Ref sig .tc := ⟨.hbm, 73, rfl⟩
abbrev main_call6_v1 : Ref sig .tc := ⟨.hbm, 74, rfl⟩
abbrev main_call6_v2 : Ref sig .tc := ⟨.hbm, 75, rfl⟩
abbrev main_call6_v3 : Ref sig .tc := ⟨.hbm, 76, rfl⟩
abbrev main_call6_v4 : Ref sig .tc := ⟨.hbm, 77, rfl⟩
abbrev main_call6_c_0 : Ref sig .tc := ⟨.hbm, 78, rfl⟩
abbrev main_call6_v5 : Ref sig .tc := ⟨.hbm, 79, rfl⟩
abbrev main_v50 : Ref sig .tc := ⟨.hbm, 80, rfl⟩
abbrev main_v51 : Ref sig .tc := ⟨.hbm, 81, rfl⟩
abbrev main_cst_6 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_7 : Ref sig .tc := ⟨.hbm, 92, rfl⟩
abbrev main_v61 : Ref sig .tc := ⟨.hbm, 93, rfl⟩
abbrev main_c_8 : Ref sig .tc := ⟨.hbm, 94, rfl⟩
abbrev main_v62_0 : Ref sig .tc := ⟨.hbm, 95, rfl⟩
abbrev main_v62_1 : Ref sig .tc := ⟨.hbm, 96, rfl⟩
abbrev main_v62_2 : Ref sig .tc := ⟨.hbm, 97, rfl⟩
abbrev main_v62_3 : Ref sig .tc := ⟨.hbm, 98, rfl⟩
abbrev main_v62_4 : Ref sig .tc := ⟨.hbm, 99, rfl⟩
abbrev main_v62_5 : Ref sig .tc := ⟨.hbm, 100, rfl⟩
abbrev main_v62_6 : Ref sig .tc := ⟨.hbm, 101, rfl⟩
abbrev main_v62_7 : Ref sig .tc := ⟨.hbm, 102, rfl⟩
abbrev main_while0c_c_19 : Ref sig .tc := ⟨.hbm, 103, rfl⟩
abbrev main_while0c_v87 : Ref sig .tc := ⟨.hbm, 104, rfl⟩
abbrev main_while0b_call7_c : Ref sig .tc := ⟨.hbm, 105, rfl⟩
abbrev main_while0b_call7_c_0 : Ref sig .tc := ⟨.hbm, 106, rfl⟩
abbrev main_while0b_call7_c_1 : Ref sig .tc := ⟨.hbm, 107, rfl⟩
abbrev main_while0b_call7_c_2 : Ref sig .tc := ⟨.hbm, 108, rfl⟩
abbrev main_while0b_call7_v0 : Ref sig .tc := ⟨.hbm, 109, rfl⟩
abbrev main_while0b_v87 : Ref sig .tc := ⟨.hbm, 110, rfl⟩
abbrev main_while0b_call8_c : Ref sig .tc := ⟨.hbm, 111, rfl⟩
abbrev main_while0b_call8_c_0 : Ref sig .tc := ⟨.hbm, 112, rfl⟩
abbrev main_while0b_call8_c_1 : Ref sig .tc := ⟨.hbm, 113, rfl⟩
abbrev main_while0b_call8_c_2 : Ref sig .tc := ⟨.hbm, 114, rfl⟩
abbrev main_while0b_call8_v0 : Ref sig .tc := ⟨.hbm, 115, rfl⟩
abbrev main_while0b_v88 : Ref sig .tc := ⟨.hbm, 116, rfl⟩
abbrev main_while0b_call9_c : Ref sig .tc := ⟨.hbm, 117, rfl⟩
abbrev main_while0b_call9_c_0 : Ref sig .tc := ⟨.hbm, 118, rfl⟩
abbrev main_while0b_call9_c_1 : Ref sig .tc := ⟨.hbm, 119, rfl⟩
abbrev main_while0b_call9_c_2 : Ref sig .tc := ⟨.hbm, 120, rfl⟩
abbrev main_while0b_call9_v0 : Ref sig .tc := ⟨.hbm, 121, rfl⟩
abbrev main_while0b_v89 : Ref sig .tc := ⟨.hbm, 122, rfl⟩
abbrev main_while0b_call10_c : Ref sig .tc := ⟨.hbm, 123, rfl⟩
abbrev main_while0b_call10_c_0 : Ref sig .tc := ⟨.hbm, 124, rfl⟩
abbrev main_while0b_call10_c_1 : Ref sig .tc := ⟨.hbm, 125, rfl⟩
abbrev main_while0b_call10_c_2 : Ref sig .tc := ⟨.hbm, 126, rfl⟩
abbrev main_while0b_call10_v0 : Ref sig .tc := ⟨.hbm, 127, rfl⟩
abbrev main_while0b_v90 : Ref sig .tc := ⟨.hbm, 128, rfl⟩
abbrev main_while0b_call11_call0_cst : Ref sig .tc := ⟨.hbm, 129, rfl⟩
abbrev main_while0b_call11_call0_v0 : Ref sig .tc := ⟨.hbm, 130, rfl⟩
abbrev main_while0b_v91 : Ref sig .tc := ⟨.hbm, 131, rfl⟩
abbrev main_while0b_v92 : Ref sig .tc := ⟨.hbm, 132, rfl⟩
abbrev main_while0b_v93 : Ref sig .tc := ⟨.hbm, 133, rfl⟩
abbrev main_while0b_v94 : Ref sig .tc := ⟨.hbm, 134, rfl⟩
abbrev main_while0b_v95 : Ref sig .tc := ⟨.hbm, 135, rfl⟩
abbrev main_while0b_v96 : Ref sig .tc := ⟨.hbm, 136, rfl⟩
abbrev main_while0b_v97 : Ref sig .tc := ⟨.hbm, 137, rfl⟩
abbrev main_while0b_v98 : Ref sig .tc := ⟨.hbm, 138, rfl⟩
abbrev main_while0b_v99 : Ref sig .tc := ⟨.hbm, 139, rfl⟩
abbrev main_while0b_v100 : Ref sig .tc := ⟨.hbm, 140, rfl⟩
abbrev main_while0b_cst_19 : Ref sig .tc := ⟨.hbm, 141, rfl⟩
abbrev main_while0b_v101 : Ref sig .tc := ⟨.hbm, 142, rfl⟩
abbrev main_while0b_v102 : Ref sig .tc := ⟨.hbm, 143, rfl⟩
abbrev main_while0b_v103 : Ref sig .tc := ⟨.hbm, 144, rfl⟩
abbrev main_while0b_cst_20 : Ref sig .tc := ⟨.hbm, 145, rfl⟩
abbrev main_while0b_call12_v0 : Ref sig .tc := ⟨.hbm, 146, rfl⟩
abbrev main_while0b_call12_v1 : Ref sig .tc := ⟨.hbm, 147, rfl⟩
abbrev main_while0b_call12_v2 : Ref sig .tc := ⟨.hbm, 148, rfl⟩
abbrev main_while0b_v104 : Ref sig .tc := ⟨.hbm, 149, rfl⟩
abbrev main_while0b_v105 : Ref sig .tc := ⟨.hbm, 150, rfl⟩
abbrev main_while0b_v106 : Ref sig .tc := ⟨.hbm, 151, rfl⟩
abbrev main_while0b_v107 : Ref sig .tc := ⟨.hbm, 152, rfl⟩
abbrev main_while0b_v108 : Ref sig .tc := ⟨.hbm, 153, rfl⟩
abbrev main_while0b_v109 : Ref sig .tc := ⟨.hbm, 154, rfl⟩
abbrev main_while0b_v110 : Ref sig .tc := ⟨.hbm, 155, rfl⟩
abbrev main_while0b_cst_21 : Ref sig .tc := ⟨.hbm, 156, rfl⟩
abbrev main_while0b_v111 : Ref sig .tc := ⟨.hbm, 157, rfl⟩
abbrev main_while0b_v112 : Ref sig .tc := ⟨.hbm, 158, rfl⟩
abbrev main_while0b_v113 : Ref sig .tc := ⟨.hbm, 159, rfl⟩
abbrev main_while0b_v114 : Ref sig .tc := ⟨.hbm, 160, rfl⟩
abbrev main_while0b_v115 : Ref sig .tc := ⟨.hbm, 161, rfl⟩
abbrev main_while0b_v116 : Ref sig .tc := ⟨.hbm, 162, rfl⟩
abbrev main_while0b_v117 : Ref sig .tc := ⟨.hbm, 163, rfl⟩
abbrev main_while0b_v118 : Ref sig .tc := ⟨.hbm, 164, rfl⟩
abbrev main_while0b_v119 : Ref sig .tc := ⟨.hbm, 165, rfl⟩
abbrev main_while0b_v120 : Ref sig .tc := ⟨.hbm, 166, rfl⟩
abbrev main_while0b_v121 : Ref sig .tc := ⟨.hbm, 167, rfl⟩
abbrev main_while0b_v122 : Ref sig .tc := ⟨.hbm, 168, rfl⟩
abbrev main_while0b_v123 : Ref sig .tc := ⟨.hbm, 169, rfl⟩
abbrev main_while0b_v124 : Ref sig .tc := ⟨.hbm, 170, rfl⟩
abbrev main_while0b_v125 : Ref sig .tc := ⟨.hbm, 171, rfl⟩
abbrev main_while0b_v126 : Ref sig .tc := ⟨.hbm, 172, rfl⟩
abbrev main_while0b_v127 : Ref sig .tc := ⟨.hbm, 173, rfl⟩
abbrev main_while0b_call13_v0 : Ref sig .tc := ⟨.hbm, 174, rfl⟩
abbrev main_while0b_call13_c : Ref sig .tc := ⟨.hbm, 175, rfl⟩
abbrev main_while0b_call13_c_0 : Ref sig .tc := ⟨.hbm, 176, rfl⟩
abbrev main_while0b_call13_c_1 : Ref sig .tc := ⟨.hbm, 177, rfl⟩
abbrev main_while0b_call13_c_2 : Ref sig .tc := ⟨.hbm, 178, rfl⟩
abbrev main_while0b_v128 : Ref sig .tc := ⟨.hbm, 179, rfl⟩
abbrev main_while0b_c_22 : Ref sig .tc := ⟨.hbm, 180, rfl⟩
abbrev main_while0b_v129 : Ref sig .tc := ⟨.hbm, 181, rfl⟩
abbrev main_v63 : Ref sig .tc := ⟨.hbm, 182, rfl⟩
abbrev main_v64 : Ref sig .tc := ⟨.hbm, 183, rfl⟩
abbrev main_v65 : Ref sig .tc := ⟨.hbm, 184, rfl⟩
abbrev main_v66 : Ref sig .tc := ⟨.hbm, 185, rfl⟩
abbrev main_v67 : Ref sig .tc := ⟨.hbm, 186, rfl⟩
abbrev main_cst_9 : Ref sig .tc := ⟨.hbm, 187, rfl⟩
abbrev main_v68 : Ref sig .tc := ⟨.hbm, 188, rfl⟩
abbrev main_v69 : Ref sig .tc := ⟨.hbm, 189, rfl⟩
abbrev main_cst_10 : Ref sig .tc := ⟨.hbm, 190, rfl⟩
abbrev main_v70 : Ref sig .tc := ⟨.hbm, 191, rfl⟩
abbrev main_v71 : Ref sig .tc := ⟨.hbm, 192, rfl⟩
abbrev main_cst_11 : Ref sig .tc := ⟨.hbm, 193, rfl⟩
abbrev main_v72 : Ref sig .tc := ⟨.hbm, 194, rfl⟩
abbrev main_v73 : Ref sig .tc := ⟨.hbm, 195, rfl⟩
abbrev main_v74 : Ref sig .tc := ⟨.hbm, 196, rfl⟩
abbrev main_v75 : Ref sig .tc := ⟨.hbm, 197, rfl⟩
abbrev main_v76 : Ref sig .tc := ⟨.hbm, 198, rfl⟩
abbrev main_v77 : Ref sig .tc := ⟨.hbm, 199, rfl⟩
abbrev main_v78 : Ref sig .tc := ⟨.hbm, 200, rfl⟩
abbrev main_v79 : Ref sig .tc := ⟨.hbm, 201, rfl⟩
abbrev main_v80 : Ref sig .tc := ⟨.hbm, 202, rfl⟩
abbrev main_v81 : Ref sig .tc := ⟨.hbm, 203, rfl⟩
abbrev main_v82 : Ref sig .tc := ⟨.hbm, 204, rfl⟩
abbrev main_call15_v0 : Ref sig .tc := ⟨.hbm, 205, rfl⟩
abbrev main_call15_v1 : Ref sig .tc := ⟨.hbm, 206, rfl⟩
abbrev main_call15_cst : Ref sig .tc := ⟨.hbm, 207, rfl⟩
abbrev main_call15_v2 : Ref sig .tc := ⟨.hbm, 208, rfl⟩
abbrev main_call15_v3 : Ref sig .tc := ⟨.hbm, 209, rfl⟩
abbrev main_call15_cst_0 : Ref sig .tc := ⟨.hbm, 210, rfl⟩
abbrev main_call15_v4 : Ref sig .tc := ⟨.hbm, 211, rfl⟩
abbrev main_call15_v5 : Ref sig .tc := ⟨.hbm, 212, rfl⟩
abbrev main_v83 : Ref sig .tc := ⟨.hbm, 213, rfl⟩
abbrev main_v84 : Ref sig .tc := ⟨.hbm, 214, rfl⟩
abbrev main_v85 : Ref sig .tc := ⟨.hbm, 215, rfl⟩
abbrev main_v86 : Ref sig .tc := ⟨.hbm, 216, rfl⟩

abbrev nD : Nat := 1
abbrev τ : Topo := Topo.v7x

variable {F : FTy → Type} [FloatOps F]

abbrev main_while0_count : Scf.Loop 32 := ⟨0#32, 256#32, 1#32⟩
-- ==== GateUp.lean ====
abbrev S24576x4096 : Shape := ⟨2, ![24576, 4096]⟩
abbrev S2x4096x11008 : Shape := ⟨3, ![2, 4096, 11008]⟩
abbrev S24576x11008 : Shape := ⟨2, ![24576, 11008]⟩
abbrev S3072x4096 : Shape := ⟨2, ![3072, 4096]⟩
abbrev S1x4096x256 : Shape := ⟨3, ![1, 4096, 256]⟩
abbrev S3072x256 : Shape := ⟨2, ![3072, 256]⟩
abbrev S4096x256 : Shape := ⟨2, ![4096, 256]⟩

abbrev nBuf : Space → Nat
  | .hbm => 4
  | .vmem => 7
  | .smem => 0
  | _ => 0

abbrev bufTy : (tb : Table) → Fin (tcTables nBuf tb) → BufTy
  | .hbm, ⟨0, _⟩ => ⟨S24576x4096, .bf16⟩
  | .hbm, ⟨1, _⟩ => ⟨S2x4096x11008, .f32⟩
  | .hbm, ⟨2, _⟩ => ⟨S2x4096x11008, .f32⟩
  | .hbm, ⟨3, _⟩ => ⟨S24576x11008, .bf16⟩
  | .local _ .vmem, ⟨0, _⟩ => ⟨S3072x4096, .bf16⟩
  | .local _ .vmem, ⟨1, _⟩ => ⟨S1x4096x256, .f32⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S3072x256, .bf16⟩
  | .local _ .vmem, ⟨6, _⟩ => ⟨S3072x256, .bf16⟩
  | _, _ => ⟨S24576x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S3072x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S3072x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GateUpReferenceIdeal.lean ====
abbrev S24576x4096 : Shape := ⟨2, ![24576, 4096]⟩
abbrev S2x4096x11008 : Shape := ⟨3, ![2, 4096, 11008]⟩
abbrev S1x4096x11008 : Shape := ⟨3, ![1, 4096, 11008]⟩
abbrev S4096x11008 : Shape := ⟨2, ![4096, 11008]⟩
abbrev S24576x11008 : Shape := ⟨2, ![24576, 11008]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S24576x4096, .bf16⟩
  | .hbm, ⟨1, _⟩ => ⟨S2x4096x11008, .f32⟩
  | .hbm, ⟨2, _⟩ => ⟨S2x4096x11008, .f32⟩
  | .hbm, ⟨3, _⟩ => ⟨S24576x4096, .f32⟩
  | .hbm, ⟨4, _⟩ => ⟨S1x4096x11008, .f32⟩
  | .hbm, ⟨5, _⟩ => ⟨S4096x11008, .f32⟩
  | .hbm, ⟨6, _⟩ => ⟨S24576x11008, .f32⟩
  | .hbm, ⟨7, _⟩ => ⟨S24576x11008, .f32⟩
  | .hbm, ⟨8, _⟩ => ⟨S24576x11008, .f32⟩
  | .hbm, ⟨9, _⟩ => ⟨S_, .f32⟩
  | .hbm, ⟨10, _⟩ => ⟨S24576x11008, .f32⟩
  | .hbm, ⟨11, _⟩ => ⟨S24576x11008, .f32⟩
  | .hbm, ⟨12, _⟩ => ⟨S_, .f32⟩
  | .hbm, ⟨13, _⟩ => ⟨S24576x11008, .f32⟩
  | .hbm, ⟨14, _⟩ => ⟨S24576x11008, .f32⟩
  | .hbm, ⟨15, _⟩ => ⟨S24576x11008, .f32⟩
  | .hbm, ⟨16, _⟩ => ⟨S1x4096x11008, .f32⟩
  | .hbm, ⟨17, _⟩ => ⟨S4096x11008, .f32⟩
  | .hbm, ⟨18, _⟩ => ⟨S24576x11008, .f32⟩
  | .hbm, ⟨19, _⟩ => ⟨S24576x11008, .f32⟩
  | .hbm, ⟨20, _⟩ => ⟨S24576x11008, .bf16⟩
  | _, _ => ⟨S24576x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Down.lean ====
abbrev S24576x11008 : Shape := ⟨2, ![24576, 11008]⟩
abbrev S2x11008x4096 : Shape := ⟨3, ![2, 11008, 4096]⟩
abbrev S24576x4096 : Shape := ⟨2, ![24576, 4096]⟩
abbrev S384x11008 : Shape := ⟨2, ![384, 11008]⟩
abbrev S1x11008x512 : Shape := ⟨3, ![1, 11008, 512]⟩
abbrev S384x512 : Shape := ⟨2, ![384, 512]⟩
abbrev S11008x512 : Shape := ⟨2, ![11008, 512]⟩

abbrev nBuf : Space → Nat
  | .hbm => 4
  | .vmem => 8
  | .smem => 0
  | _ => 0

abbrev bufTy : (tb : Table) → Fin (tcTables nBuf tb) → BufTy
  | .hbm, ⟨0, _⟩ => ⟨S24576x11008, .bf16⟩
  | .hbm, ⟨1, _⟩ => ⟨S2x11008x4096, .f32⟩
  | .hbm, ⟨2, _⟩ => ⟨S24576x4096, .f32⟩
  | .hbm, ⟨3, _⟩ => ⟨S24576x4096, .f32⟩
  | .local _ .vmem, ⟨0, _⟩ => ⟨S384x11008, .bf16⟩
  | .local _ .vmem, ⟨1, _⟩ => ⟨S384x11008, .bf16⟩
  | .local _ .vmem, ⟨2, _⟩ => ⟨S1x11008x512, .f32⟩
  | .local _ .vmem, ⟨3, _⟩ => ⟨S384x512, .f32⟩
  | .local _ .vmem, ⟨4, _⟩ => ⟨S384x512, .f32⟩
  | .local _ .vmem, ⟨5, _⟩ => ⟨S384x512, .f32⟩
  | .local _ .vmem, ⟨6, _⟩ => ⟨S384x512, .f32⟩
  | .local _ .vmem, ⟨7, _⟩ => ⟨S11008x512, .bf16⟩
  | _, _ => ⟨S24576x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![v0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![v0.toNat, arg0.toNat]

abbrev stage0_0 : Fin 2 → Memref sig .tc .vmem S384x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x11008x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S384x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S384x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownReferenceIdeal.lean ====
abbrev S24576x11008 : Shape := ⟨2, ![24576, 11008]⟩
abbrev S2x11008x4096 : Shape := ⟨3, ![2, 11008, 4096]⟩
abbrev S24576x4096 : Shape := ⟨2, ![24576, 4096]⟩
abbrev S1x11008x4096 : Shape := ⟨3, ![1, 11008, 4096]⟩
abbrev S11008x4096 : Shape := ⟨2, ![11008, 4096]⟩

abbrev nBuf : Space → Nat
  | .hbm => 8
  | .vmem => 0
  | .smem => 0
  | _ => 0

abbrev bufTy : (tb : Table) → Fin (tcTables nBuf tb) → BufTy
  | .hbm, ⟨0, _⟩ => ⟨S24576x11008, .bf16⟩
  | .hbm, ⟨1, _⟩ => ⟨S2x11008x4096, .f32⟩
  | .hbm, ⟨2, _⟩ => ⟨S24576x4096, .f32⟩
  | .hbm, ⟨3, _⟩ => ⟨S24576x11008, .f32⟩
  | .hbm, ⟨4, _⟩ => ⟨S1x11008x4096, .f32⟩
  | .hbm, ⟨5, _⟩ => ⟨S11008x4096, .f32⟩
  | .hbm, ⟨6, _⟩ => ⟨S24576x4096, .f32⟩
  | .hbm, ⟨7, _⟩ => ⟨S24576x4096, .f32⟩
  | _, _ => ⟨S24576x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Project.lean ====
abbrev S16384x4096 : Shape := ⟨2, ![16384, 4096]⟩
abbrev S1x4096x20480 : Shape := ⟨3, ![1, 4096, 20480]⟩
abbrev S16384x20480 : Shape := ⟨2, ![16384, 20480]⟩
abbrev S2048x4096 : Shape := ⟨2, ![2048, 4096]⟩
abbrev S1x4096x512 : Shape := ⟨3, ![1, 4096, 512]⟩
abbrev S2048x512 : Shape := ⟨2, ![2048, 512]⟩
abbrev S4096x512 : Shape := ⟨2, ![4096, 512]⟩

abbrev nBuf : Space → Nat
  | .hbm => 3
  | .vmem => 5
  | .smem => 0
  | _ => 0

abbrev bufTy : (tb : Table) → Fin (tcTables nBuf tb) → BufTy
  | .hbm, ⟨0, _⟩ => ⟨S16384x4096, .bf16⟩
  | .hbm, ⟨1, _⟩ => ⟨S1x4096x20480, .f32⟩
  | .hbm, ⟨2, _⟩ => ⟨S16384x20480, .f32⟩
  | .local _ .vmem, ⟨0, _⟩ => ⟨S2048x4096, .bf16⟩
  | .local _ .vmem, ⟨1, _⟩ => ⟨S1x4096x512, .f32⟩
  | .local _ .vmem, ⟨2, _⟩ => ⟨S1x4096x512, .f32⟩
  | .local _ .vmem, ⟨3, _⟩ => ⟨S2048x512, .f32⟩
  | .local _ .vmem, ⟨4, _⟩ => ⟨S2048x512, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 40], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjectReferenceIdeal.lean ====
abbrev S16384x4096 : Shape := ⟨2, ![16384, 4096]⟩
abbrev S1x4096x20480 : Shape := ⟨3, ![1, 4096, 20480]⟩
abbrev S4096x20480 : Shape := ⟨2, ![4096, 20480]⟩
abbrev S16384x20480 : Shape := ⟨2, ![16384, 20480]⟩

abbrev nBuf : Space → Nat
  | .hbm => 5
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x20480, .f32⟩
  | .hbm, ⟨2, _⟩ => ⟨S16384x4096, .f32⟩
  | .hbm, ⟨3, _⟩ => ⟨S4096x20480, .f32⟩
  | .hbm, ⟨4, _⟩ => ⟨S16384x20480, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== FinalNorm.lean ====
abbrev S24576x4096 : Shape := ⟨2, ![24576, 4096]⟩
abbrev S4096 : Shape := ⟨1, ![4096]⟩
abbrev S1x4096 : Shape := ⟨2, ![1, 4096]⟩
abbrev S16384x4096 : Shape := ⟨2, ![16384, 4096]⟩
abbrev S512x4096 : Shape := ⟨2, ![512, 4096]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S24576x4096, .f32⟩
  | .hbm, ⟨1, _⟩ => ⟨S4096, .f32⟩
  | .hbm, ⟨2, _⟩ => ⟨S1x4096, .f32⟩
  | .hbm, ⟨3, _⟩ => ⟨S16384x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .f32⟩
  | .local _ .vmem, ⟨4, _⟩ => ⟨S512x4096, .f32⟩
  | _, _ => ⟨S24576x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalNormReferenceIdeal.lean ====
abbrev S24576x4096 : Shape := ⟨2, ![24576, 4096]⟩
abbrev S4096 : Shape := ⟨1, ![4096]⟩
abbrev S_ : Shape := ⟨0, ![]⟩
abbrev S24576 : Shape := ⟨1, ![24576]⟩
abbrev S24576x1 : Shape := ⟨2, ![24576, 1]⟩
abbrev S1x4096 : Shape := ⟨2, ![1, 4096]⟩
abbrev S16384x4096 : Shape := ⟨2, ![16384, 4096]⟩

abbrev nBuf : Space → Nat
  | .hbm => 19
  | .vmem => 0
  | .smem => 0
  | _ => 0

abbrev bufTy : (tb : Table) → Fin (tcTables nBuf tb) → BufTy
  | .hbm, ⟨0, _⟩ => ⟨S24576x4096, .f32⟩
  | .hbm, ⟨1, _⟩ => ⟨S4096, .f32⟩
  | .hbm, ⟨2, _⟩ => ⟨S24576x4096, .f32⟩
  | .hbm, ⟨3, _⟩ => ⟨S_, .f32⟩
  | .hbm, ⟨4, _⟩ => ⟨S24576, .f32⟩
  | .hbm, ⟨5, _⟩ => ⟨S24576x1, .f32⟩
  | .hbm, ⟨6, _⟩ => ⟨S_, .f32⟩
  | .hbm, ⟨7, _⟩ => ⟨S24576x1, .f32⟩
  | .hbm, ⟨8, _⟩ => ⟨S24576x1, .f32⟩
  | .hbm, ⟨9, _⟩ => ⟨S_, .f32⟩
  | .hbm, ⟨10, _⟩ => ⟨S24576x1, .f32⟩
  | .hbm, ⟨11, _⟩ => ⟨S24576x1, .f32⟩
  | .hbm, ⟨12, _⟩ => ⟨S24576x1, .f32⟩
  | .hbm, ⟨13, _⟩ => ⟨S24576x4096, .f32⟩
  | .hbm, ⟨14, _⟩ => ⟨S24576x4096, .f32⟩
  | .hbm, ⟨15, _⟩ => ⟨S1x4096, .f32⟩
  | .hbm, ⟨16, _⟩ => ⟨S24576x4096, .f32⟩
  | .hbm, ⟨17, _⟩ => ⟨S24576x4096, .f32⟩
  | .hbm, ⟨18, _⟩ => ⟨S16384x4096, .f32⟩
  | _, _ => ⟨S24576x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== FinalNormSamples.lean ====
abbrev S24576x4096 : Shape := ⟨2, ![24576, 4096]⟩
abbrev S4096 : Shape := ⟨1, ![4096]⟩
abbrev S1x4096 : Shape := ⟨2, ![1, 4096]⟩
abbrev S8192x4096 : Shape := ⟨2, ![8192, 4096]⟩
abbrev S512x4096 : Shape := ⟨2, ![512, 4096]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S24576x4096, .f32⟩
  | .hbm, ⟨1, _⟩ => ⟨S4096, .f32⟩
  | .hbm, ⟨2, _⟩ => ⟨S1x4096, .f32⟩
  | .hbm, ⟨3, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .f32⟩
  | .local _ .vmem, ⟨4, _⟩ => ⟨S512x4096, .f32⟩
  | _, _ => ⟨S24576x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalNormSamplesReferenceIdeal.lean ====
abbrev S24576x4096 : Shape := ⟨2, ![24576, 4096]⟩
abbrev S4096 : Shape := ⟨1, ![4096]⟩
abbrev S_ : Shape := ⟨0, ![]⟩
abbrev S24576 : Shape := ⟨1, ![24576]⟩
abbrev S24576x1 : Shape := ⟨2, ![24576, 1]⟩
abbrev S1x4096 : Shape := ⟨2, ![1, 4096]⟩
abbrev S8192x4096 : Shape := ⟨2, ![8192, 4096]⟩

abbrev nBuf : Space → Nat
  | .hbm => 19
  | .vmem => 0
  | .smem => 0
  | _ => 0

abbrev bufTy : (tb : Table) → Fin (tcTables nBuf tb) → BufTy
  | .hbm, ⟨0, _⟩ => ⟨S24576x4096, .f32⟩
  | .hbm, ⟨1, _⟩ => ⟨S4096, .f32⟩
  | .hbm, ⟨2, _⟩ => ⟨S24576x4096, .f32⟩
  | .hbm, ⟨3, _⟩ => ⟨S_, .f32⟩
  | .hbm, ⟨4, _⟩ => ⟨S24576, .f32⟩
  | .hbm, ⟨5, _⟩ => ⟨S24576x1, .f32⟩
  | .hbm, ⟨6, _⟩ => ⟨S_, .f32⟩
  | .hbm, ⟨7, _⟩ => ⟨S24576x1, .f32⟩
  | .hbm, ⟨8, _⟩ => ⟨S24576x1, .f32⟩
  | .hbm, ⟨9, _⟩ => ⟨S_, .f32⟩
  | .hbm, ⟨10, _⟩ => ⟨S24576x1, .f32⟩
  | .hbm, ⟨11, _⟩ => ⟨S24576x1, .f32⟩
  | .hbm, ⟨12, _⟩ => ⟨S24576x1, .f32⟩
  | .hbm, ⟨13, _⟩ => ⟨S24576x4096, .f32⟩
  | .hbm, ⟨14, _⟩ => ⟨S24576x4096, .f32⟩
  | .hbm, ⟨15, _⟩ => ⟨S1x4096, .f32⟩
  | .hbm, ⟨16, _⟩ => ⟨S24576x4096, .f32⟩
  | .hbm, ⟨17, _⟩ => ⟨S24576x4096, .f32⟩
  | .hbm, ⟨18, _⟩ => ⟨S8192x4096, .f32⟩
  | _, _ => ⟨S24576x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== InConv.lean ====
abbrev S16384x4096 : Shape := ⟨2, ![16384, 4096]⟩
abbrev S1x4096x12288 : Shape := ⟨3, ![1, 4096, 12288]⟩
abbrev S1x3x12288 : Shape := ⟨3, ![1, 3, 12288]⟩
abbrev S1x12288 : Shape := ⟨2, ![1, 12288]⟩
abbrev S1x128x128x4096 : Shape := ⟨4, ![1, 128, 128, 4096]⟩
abbrev S3x12288 : Shape := ⟨2, ![3, 12288]⟩
abbrev S12288 : Shape := ⟨1, ![12288]⟩
abbrev S16384x12288 : Shape := ⟨2, ![16384, 12288]⟩
abbrev S128x4096 : Shape := ⟨2, ![128, 4096]⟩
abbrev S2048x4096 : Shape := ⟨2, ![2048, 4096]⟩
abbrev S1x4096x512 : Shape := ⟨3, ![1, 4096, 512]⟩
abbrev S3x512 : Shape := ⟨2, ![3, 512]⟩
abbrev S1x512 : Shape := ⟨2, ![1, 512]⟩
abbrev S2048x512 : Shape := ⟨2, ![2048, 512]⟩
abbrev S4096x512 : Shape := ⟨2, ![4096, 512]⟩
abbrev S128x512 : Shape := ⟨2, ![128, 512]⟩
abbrev S1920x512 : Shape := ⟨2, ![1920, 512]⟩

abbrev nBuf : Space → Nat
  | .hbm => 11
  | .vmem => 13
  | .smem => 0
  | _ => 0

abbrev bufTy : (tb : Table) → Fin (tcTables nBuf tb) → BufTy
  | .hbm, ⟨0, _⟩ => ⟨S16384x4096, .bf16⟩
  | .hbm, ⟨1, _⟩ => ⟨S1x4096x12288, .f32⟩
  | .hbm, ⟨2, _⟩ => ⟨S1x3x12288, .f32⟩
  | .hbm, ⟨3, _⟩ => ⟨S1x12288, .f32⟩
  | .hbm, ⟨4, _⟩ => ⟨S1x128x128x4096, .bf16⟩
  | .hbm, ⟨5, _⟩ => ⟨S1x128x128x4096, .bf16⟩
  | .hbm, ⟨6, _⟩ => ⟨S16384x4096, .bf16⟩
  | .hbm, ⟨7, _⟩ => ⟨S3x12288, .f32⟩
  | .hbm, ⟨8, _⟩ => ⟨S12288, .f32⟩
  | .hbm, ⟨9, _⟩ => ⟨S1x12288, .f32⟩
  | .hbm, ⟨10, _⟩ => ⟨S16384x12288, .f32⟩
  | .local _ .vmem, ⟨0, _⟩ => ⟨S128x4096, .bf16⟩
  | .local _ .vmem, ⟨1, _⟩ => ⟨S128x4096, .bf16⟩
  | .local _ .vmem, ⟨2, _⟩ => ⟨S2048x4096, .bf16⟩
  | .local _ .vmem, ⟨3, _⟩ => ⟨S128x4096, .bf16⟩
  | .local _ .vmem, ⟨4, _⟩ => ⟨S128x4096, .bf16⟩
  | .local _ .vmem, ⟨5, _⟩ => ⟨S1x4096x512, .f32⟩
  | .local _ .vmem, ⟨6, _⟩ => ⟨S1x4096x512, .f32⟩
  | .local _ .vmem, ⟨7, _⟩ => ⟨S3x512, .f32⟩
  | .local _ .vmem, ⟨8, _⟩ => ⟨S3x512, .f32⟩
  | .local _ .vmem, ⟨9, _⟩ => ⟨S1x512, .f32⟩
  | .local _ .vmem, ⟨10, _⟩ => ⟨S1x512, .f32⟩
  | .local _ .vmem, ⟨11, _⟩ => ⟨S2048x512, .f32⟩
  | .local _ .vmem, ⟨12, _⟩ => ⟨S2048x512, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 24], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.remsi arg0 c8_i32
  let c0_i32 : BitVec 32 := 0#32
  let v1 : BitVec 1 := Scalar.cmpi .eq v0 c0_i32
  let c16_i32 : BitVec 32 := 16#32
  let v2 : BitVec 32 := Scalar.muli v0 c16_i32
  let c128_i32 : BitVec 32 := 128#32
  let v3 : BitVec 32 := Scalar.select v1 c128_i32 v2
  let c1_i32 : BitVec 32 := 1#32
  let v4 : BitVec 32 := Scalar.subi v3 c1_i32
  let c8_i32_0 : BitVec 32 := 8#32
  let v5 : BitVec 32 := Scalar.divsi arg0 c8_i32_0
  let c128_i32_1 : BitVec 32 := 128#32
  let v6 : BitVec 32 := Scalar.muli v5 c128_i32_1
  let v7 : BitVec 32 := Scalar.addi v6 v4
  let c0_i32_2 : BitVec 32 := 0#32
  let c0_i32_3 : BitVec 32 := 0#32
  ![v7.toNat, c0_i32_2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.remsi arg0 c8_i32
  let c7_i32 : BitVec 32 := 7#32
  let v1 : BitVec 1 := Scalar.cmpi .eq v0 c7_i32
  let c1_i32 : BitVec 32 := 1#32
  let v2 : BitVec 32 := Scalar.addi v0 c1_i32
  let c16_i32 : BitVec 32 := 16#32
  let v3 : BitVec 32 := Scalar.muli v2 c16_i32
  let c0_i32 : BitVec 32 := 0#32
  let v4 : BitVec 32 := Scalar.select v1 c0_i32 v3
  let c8_i32_0 : BitVec 32 := 8#32
  let v5 : BitVec 32 := Scalar.divsi arg0 c8_i32_0
  let c128_i32 : BitVec 32 := 128#32
  let v6 : BitVec 32 := Scalar.muli v5 c128_i32
  let v7 : BitVec 32 := Scalar.addi v6 v4
  let c0_i32_1 : BitVec 32 := 0#32
  let c0_i32_2 : BitVec 32 := 0#32
  ![v7.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4096x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== InConvReferenceIdeal.lean ====
abbrev S16384x4096 : Shape := ⟨2, ![16384, 4096]⟩
abbrev S1x4096x12288 : Shape := ⟨3, ![1, 4096, 12288]⟩
abbrev S1x3x12288 : Shape := ⟨3, ![1, 3, 12288]⟩
abbrev S1x12288 : Shape := ⟨2, ![1, 12288]⟩
abbrev S1x16384x4096 : Shape := ⟨3, ![1, 16384, 4096]⟩
abbrev S4096x12288 : Shape := ⟨2, ![4096, 12288]⟩
abbrev S1x16384x12288 : Shape := ⟨3, ![1, 16384, 12288]⟩
abbrev S_ : Shape := ⟨0, ![]⟩
abbrev S1x16386x12288 : Shape := ⟨3, ![1, 16386, 12288]⟩
abbrev S1x1x12288 : Shape := ⟨3, ![1, 1, 12288]⟩
abbrev S12288 : Shape := ⟨1, ![12288]⟩
abbrev S128x128x12288 : Shape := ⟨3, ![128, 128, 12288]⟩
abbrev S16384x12288 : Shape := ⟨2, ![16384, 12288]⟩

abbrev nBuf : Space → Nat
  | .hbm => 38
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x12288, .f32⟩
  | .hbm, ⟨2, _⟩ => ⟨S1x3x12288, .f32⟩
  | .hbm, ⟨3, _⟩ => ⟨S1x12288, .f32⟩
  | .hbm, ⟨4, _⟩ => ⟨S16384x4096, .f32⟩
  | .hbm, ⟨5, _⟩ => ⟨S1x16384x4096, .f32⟩
  | .hbm, ⟨6, _⟩ => ⟨S4096x12288, .f32⟩
  | .hbm, ⟨7, _⟩ => ⟨S1x16384x12288, .f32⟩
  | .hbm, ⟨8, _⟩ => ⟨S_, .i32⟩
  | .hbm, ⟨9, _⟩ => ⟨S_, .f32⟩
  | .hbm, ⟨10, _⟩ => ⟨S1x16386x12288, .f32⟩
  | .hbm, ⟨11, _⟩ => ⟨S1x16384x12288, .f32⟩
  | .hbm, ⟨12, _⟩ => ⟨S1x1x12288, .f32⟩
  | .hbm, ⟨13, _⟩ => ⟨S12288, .f32⟩
  | .hbm, ⟨14, _⟩ => ⟨S1x1x12288, .f32⟩
  | .hbm, ⟨15, _⟩ => ⟨S1x16384x12288, .f32⟩
  | .hbm, ⟨16, _⟩ => ⟨S1x16384x12288, .f32⟩
  | .hbm, ⟨17, _⟩ => ⟨S1x16384x12288, .f32⟩
  | .hbm, ⟨18, _⟩ => ⟨S1x1x12288, .f32⟩
  | .hbm, ⟨19, _⟩ => ⟨S12288, .f32⟩
  | .hbm, ⟨20, _⟩ => ⟨S1x1x12288, .f32⟩
  | .hbm, ⟨21, _⟩ => ⟨S1x16384x12288, .f32⟩
  | .hbm, ⟨22, _⟩ => ⟨S1x16384x12288, .f32⟩
  | .hbm, ⟨23, _⟩ => ⟨S1x16384x12288, .f32⟩
  | .hbm, ⟨24, _⟩ => ⟨S1x16384x12288, .f32⟩
  | .hbm, ⟨25, _⟩ => ⟨S1x1x12288, .f32⟩
  | .hbm, ⟨26, _⟩ => ⟨S12288, .f32⟩
  | .hbm, ⟨27, _⟩ => ⟨S1x1x12288, .f32⟩
  | .hbm, ⟨28, _⟩ => ⟨S1x16384x12288, .f32⟩
  | .hbm, ⟨29, _⟩ => ⟨S1x16384x12288, .f32⟩
  | .hbm, ⟨30, _⟩ => ⟨S1x16384x12288, .f32⟩
  | .hbm, ⟨31, _⟩ => ⟨S12288, .f32⟩
  | .hbm, ⟨32, _⟩ => ⟨S1x1x12288, .f32⟩
  | .hbm, ⟨33, _⟩ => ⟨S1x16384x12288, .f32⟩
  | .hbm, ⟨34, _⟩ => ⟨S1x16384x12288, .f32⟩
  | .hbm, ⟨35, _⟩ => ⟨S128x128x12288, .f32⟩
  | .hbm, ⟨36, _⟩ => ⟨S128x128x12288, .f32⟩
  | .hbm, ⟨37, _⟩ => ⟨S16384x12288, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩

abbrev nD : Nat := 1
abbrev τ : Topo := Topo.v7x

variable {F : FTy → Type} [FloatOps F]
-- ==== HyenaOut.lean ====
abbrev S16384x4096 : Shape := ⟨2, ![16384, 4096]⟩
abbrev S1x4096x4096 : Shape := ⟨3, ![1, 4096, 4096]⟩
abbrev S24576x4096 : Shape := ⟨2, ![24576, 4096]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 4
  | .vmem => 9
  | .smem => 0
  | _ => 0

abbrev bufTy : (tb : Table) → Fin (tcTables nBuf tb) → BufTy
  | .hbm, ⟨0, _⟩ => ⟨S16384x4096, .bf16⟩
  | .hbm, ⟨1, _⟩ => ⟨S1x4096x4096, .f32⟩
  | .hbm, ⟨2, _⟩ => ⟨S24576x4096, .f32⟩
  | .hbm, ⟨3, _⟩ => ⟨S24576x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S4096x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![v0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![v0.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== HyenaOutReferenceIdeal.lean ====
abbrev S16384x4096 : Shape := ⟨2, ![16384, 4096]⟩
abbrev S1x4096x4096 : Shape := ⟨3, ![1, 4096, 4096]⟩
abbrev S24576x4096 : Shape := ⟨2, ![24576, 4096]⟩
abbrev S4096x4096 : Shape := ⟨2, ![4096, 4096]⟩
abbrev S8192x4096 : Shape := ⟨2, ![8192, 4096]⟩

abbrev nBuf : Space → Nat
  | .hbm => 10
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x4096, .f32⟩
  | .hbm, ⟨2, _⟩ => ⟨S24576x4096, .f32⟩
  | .hbm, ⟨3, _⟩ => ⟨S16384x4096, .f32⟩
  | .hbm, ⟨4, _⟩ => ⟨S16384x4096, .f32⟩
  | .hbm, ⟨5, _⟩ => ⟨S4096x4096, .f32⟩
  | .hbm, ⟨6, _⟩ => ⟨S16384x4096, .f32⟩
  | .hbm, ⟨7, _⟩ => ⟨S16384x4096, .f32⟩
  | .hbm, ⟨8, _⟩ => ⟨S8192x4096, .f32⟩
  | .hbm, ⟨9, _⟩ => ⟨S24576x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== HgrnOut.lean ====
abbrev S8192x4096 : Shape := ⟨2, ![8192, 4096]⟩
abbrev S1x4096x4096 : Shape := ⟨3, ![1, 4096, 4096]⟩
abbrev S24576x4096 : Shape := ⟨2, ![24576, 4096]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 5
  | .vmem => 9
  | .smem => 0
  | _ => 0

abbrev bufTy : (tb : Table) → Fin (tcTables nBuf tb) → BufTy
  | .hbm, ⟨0, _⟩ => ⟨S8192x4096, .bf16⟩
  | .hbm, ⟨1, _⟩ => ⟨S1x4096x4096, .f32⟩
  | .hbm, ⟨2, _⟩ => ⟨S8192x4096, .f32⟩
  | .hbm, ⟨3, _⟩ => ⟨S24576x4096, .f32⟩
  | .hbm, ⟨4, _⟩ => ⟨S24576x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S4096x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![v0.toNat, arg0.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![v0.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== HgrnOutReferenceIdeal.lean ====
abbrev S8192x4096 : Shape := ⟨2, ![8192, 4096]⟩
abbrev S1x4096x4096 : Shape := ⟨3, ![1, 4096, 4096]⟩
abbrev S24576x4096 : Shape := ⟨2, ![24576, 4096]⟩
abbrev S16384x4096 : Shape := ⟨2, ![16384, 4096]⟩
abbrev S4096x4096 : Shape := ⟨2, ![4096, 4096]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x4096, .f32⟩
  | .hbm, ⟨2, _⟩ => ⟨S8192x4096, .f32⟩
  | .hbm, ⟨3, _⟩ => ⟨S24576x4096, .f32⟩
  | .hbm, ⟨4, _⟩ => ⟨S16384x4096, .f32⟩
  | .hbm, ⟨5, _⟩ => ⟨S8192x4096, .f32⟩
  | .hbm, ⟨6, _⟩ => ⟨S4096x4096, .f32⟩
  | .hbm, ⟨7, _⟩ => ⟨S8192x4096, .f32⟩
  | .hbm, ⟨8, _⟩ => ⟨S8192x4096, .f32⟩
  | .hbm, ⟨9, _⟩ => ⟨S24576x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== HgrnNorm.lean ====
abbrev S16384x4096 : Shape := ⟨2, ![16384, 4096]⟩
abbrev S2x4096 : Shape := ⟨2, ![2, 4096]⟩
abbrev S1x4096 : Shape := ⟨2, ![1, 4096]⟩
abbrev S4096 : Shape := ⟨1, ![4096]⟩
abbrev S512x4096 : Shape := ⟨2, ![512, 4096]⟩
abbrev S512 : Shape := ⟨1, ![512]⟩
abbrev S512x1 : Shape := ⟨2, ![512, 1]⟩

abbrev nBuf : Space → Nat
  | .hbm => 6
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S2x4096, .f32⟩
  | .hbm, ⟨2, _⟩ => ⟨S1x4096, .f32⟩
  | .hbm, ⟨3, _⟩ => ⟨S4096, .f32⟩
  | .hbm, ⟨4, _⟩ => ⟨S1x4096, .f32⟩
  | .hbm, ⟨5, _⟩ => ⟨S16384x4096, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .bf16⟩
  | .local _ .vmem, ⟨4, _⟩ => ⟨S512x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== HgrnNormReferenceIdeal.lean ====
abbrev S16384x4096 : Shape := ⟨2, ![16384, 4096]⟩
abbrev S2x4096 : Shape := ⟨2, ![2, 4096]⟩
abbrev S1x4096 : Shape := ⟨2, ![1, 4096]⟩
abbrev S4096 : Shape := ⟨1, ![4096]⟩
abbrev S_ : Shape := ⟨0, ![]⟩
abbrev S16384 : Shape := ⟨1, ![16384]⟩
abbrev S16384x1 : Shape := ⟨2, ![16384, 1]⟩

abbrev nBuf : Space → Nat
  | .hbm => 21
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S2x4096, .f32⟩
  | .hbm, ⟨2, _⟩ => ⟨S1x4096, .f32⟩
  | .hbm, ⟨3, _⟩ => ⟨S4096, .f32⟩
  | .hbm, ⟨4, _⟩ => ⟨S16384x4096, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x4096, .f32⟩
  | .hbm, ⟨16, _⟩ => ⟨S16384x4096, .f32⟩
  | .hbm, ⟨17, _⟩ => ⟨S1x4096, .f32⟩
  | .hbm, ⟨18, _⟩ => ⟨S16384x4096, .f32⟩
  | .hbm, ⟨19, _⟩ => ⟨S16384x4096, .f32⟩
  | .hbm, ⟨20, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== HyenaNorm.lean ====
abbrev S24576x4096 : Shape := ⟨2, ![24576, 4096]⟩
abbrev S2x4096 : Shape := ⟨2, ![2, 4096]⟩
abbrev S1x4096 : Shape := ⟨2, ![1, 4096]⟩
abbrev S4096 : Shape := ⟨1, ![4096]⟩
abbrev S16384x4096 : Shape := ⟨2, ![16384, 4096]⟩
abbrev S512x4096 : Shape := ⟨2, ![512, 4096]⟩
abbrev S512 : Shape := ⟨1, ![512]⟩
abbrev S512x1 : Shape := ⟨2, ![512, 1]⟩

abbrev nBuf : Space → Nat
  | .hbm => 6
  | .vmem => 5
  | .smem => 0
  | _ => 0

abbrev bufTy : (tb : Table) → Fin (tcTables nBuf tb) → BufTy
  | .hbm, ⟨0, _⟩ => ⟨S24576x4096, .f32⟩
  | .hbm, ⟨1, _⟩ => ⟨S2x4096, .f32⟩
  | .hbm, ⟨2, _⟩ => ⟨S1x4096, .f32⟩
  | .hbm, ⟨3, _⟩ => ⟨S4096, .f32⟩
  | .hbm, ⟨4, _⟩ => ⟨S1x4096, .f32⟩
  | .hbm, ⟨5, _⟩ => ⟨S16384x4096, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .bf16⟩
  | .local _ .vmem, ⟨4, _⟩ => ⟨S512x4096, .bf16⟩
  | _, _ => ⟨S24576x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== HyenaNormReferenceIdeal.lean ====
abbrev S24576x4096 : Shape := ⟨2, ![24576, 4096]⟩
abbrev S2x4096 : Shape := ⟨2, ![2, 4096]⟩
abbrev S1x4096 : Shape := ⟨2, ![1, 4096]⟩
abbrev S4096 : Shape := ⟨1, ![4096]⟩
abbrev S_ : Shape := ⟨0, ![]⟩
abbrev S24576 : Shape := ⟨1, ![24576]⟩
abbrev S24576x1 : Shape := ⟨2, ![24576, 1]⟩
abbrev S16384x4096 : Shape := ⟨2, ![16384, 4096]⟩

abbrev nBuf : Space → Nat
  | .hbm => 22
  | .vmem => 0
  | .smem => 0
  | _ => 0

abbrev bufTy : (tb : Table) → Fin (tcTables nBuf tb) → BufTy
  | .hbm, ⟨0, _⟩ => ⟨S24576x4096, .f32⟩
  | .hbm, ⟨1, _⟩ => ⟨S2x4096, .f32⟩
  | .hbm, ⟨2, _⟩ => ⟨S1x4096, .f32⟩
  | .hbm, ⟨3, _⟩ => ⟨S4096, .f32⟩
  | .hbm, ⟨4, _⟩ => ⟨S24576x4096, .f32⟩
  | .hbm, ⟨5, _⟩ => ⟨S_, .f32⟩
  | .hbm, ⟨6, _⟩ => ⟨S24576, .f32⟩
  | .hbm, ⟨7, _⟩ => ⟨S24576x1, .f32⟩
  | .hbm, ⟨8, _⟩ => ⟨S_, .f32⟩
  | .hbm, ⟨9, _⟩ => ⟨S24576x1, .f32⟩
  | .hbm, ⟨10, _⟩ => ⟨S24576x1, .f32⟩
  | .hbm, ⟨11, _⟩ => ⟨S_, .f32⟩
  | .hbm, ⟨12, _⟩ => ⟨S24576x1, .f32⟩
  | .hbm, ⟨13, _⟩ => ⟨S24576x1, .f32⟩
  | .hbm, ⟨14, _⟩ => ⟨S24576x1, .f32⟩
  | .hbm, ⟨15, _⟩ => ⟨S24576x4096, .f32⟩
  | .hbm, ⟨16, _⟩ => ⟨S24576x4096, .f32⟩
  | .hbm, ⟨17, _⟩ => ⟨S1x4096, .f32⟩
  | .hbm, ⟨18, _⟩ => ⟨S24576x4096, .f32⟩
  | .hbm, ⟨19, _⟩ => ⟨S24576x4096, .f32⟩
  | .hbm, ⟨20, _⟩ => ⟨S16384x4096, .f32⟩
  | .hbm, ⟨21, _⟩ => ⟨S16384x4096, .bf16⟩
  | _, _ => ⟨S24576x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== FfnNorm.lean ====
abbrev S24576x4096 : Shape := ⟨2, ![24576, 4096]⟩
abbrev S2x4096 : Shape := ⟨2, ![2, 4096]⟩
abbrev S1x4096 : Shape := ⟨2, ![1, 4096]⟩
abbrev S4096 : Shape := ⟨1, ![4096]⟩
abbrev S512x4096 : Shape := ⟨2, ![512, 4096]⟩
abbrev S512 : Shape := ⟨1, ![512]⟩
abbrev S512x1 : Shape := ⟨2, ![512, 1]⟩

abbrev nBuf : Space → Nat
  | .hbm => 6
  | .vmem => 5
  | .smem => 0
  | _ => 0

abbrev bufTy : (tb : Table) → Fin (tcTables nBuf tb) → BufTy
  | .hbm, ⟨0, _⟩ => ⟨S24576x4096, .f32⟩
  | .hbm, ⟨1, _⟩ => ⟨S2x4096, .f32⟩
  | .hbm, ⟨2, _⟩ => ⟨S1x4096, .f32⟩
  | .hbm, ⟨3, _⟩ => ⟨S4096, .f32⟩
  | .hbm, ⟨4, _⟩ => ⟨S1x4096, .f32⟩
  | .hbm, ⟨5, _⟩ => ⟨S24576x4096, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .bf16⟩
  | .local _ .vmem, ⟨4, _⟩ => ⟨S512x4096, .bf16⟩
  | _, _ => ⟨S24576x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FfnNormReferenceIdeal.lean ====
abbrev S24576x4096 : Shape := ⟨2, ![24576, 4096]⟩
abbrev S2x4096 : Shape := ⟨2, ![2, 4096]⟩
abbrev S1x4096 : Shape := ⟨2, ![1, 4096]⟩
abbrev S4096 : Shape := ⟨1, ![4096]⟩
abbrev S_ : Shape := ⟨0, ![]⟩
abbrev S24576 : Shape := ⟨1, ![24576]⟩
abbrev S24576x1 : Shape := ⟨2, ![24576, 1]⟩

abbrev nBuf : Space → Nat
  | .hbm => 21
  | .vmem => 0
  | .smem => 0
  | _ => 0

abbrev bufTy : (tb : Table) → Fin (tcTables nBuf tb) → BufTy
  | .hbm, ⟨0, _⟩ => ⟨S24576x4096, .f32⟩
  | .hbm, ⟨1, _⟩ => ⟨S2x4096, .f32⟩
  | .hbm, ⟨2, _⟩ => ⟨S1x4096, .f32⟩
  | .hbm, ⟨3, _⟩ => ⟨S4096, .f32⟩
  | .hbm, ⟨4, _⟩ => ⟨S24576x4096, .f32⟩
  | .hbm, ⟨5, _⟩ => ⟨S_, .f32⟩
  | .hbm, ⟨6, _⟩ => ⟨S24576, .f32⟩
  | .hbm, ⟨7, _⟩ => ⟨S24576x1, .f32⟩
  | .hbm, ⟨8, _⟩ => ⟨S_, .f32⟩
  | .hbm, ⟨9, _⟩ => ⟨S24576x1, .f32⟩
  | .hbm, ⟨10, _⟩ => ⟨S24576x1, .f32⟩
  | .hbm, ⟨11, _⟩ => ⟨S_, .f32⟩
  | .hbm, ⟨12, _⟩ => ⟨S24576x1, .f32⟩
  | .hbm, ⟨13, _⟩ => ⟨S24576x1, .f32⟩
  | .hbm, ⟨14, _⟩ => ⟨S24576x1, .f32⟩
  | .hbm, ⟨15, _⟩ => ⟨S24576x4096, .f32⟩
  | .hbm, ⟨16, _⟩ => ⟨S24576x4096, .f32⟩
  | .hbm, ⟨17, _⟩ => ⟨S1x4096, .f32⟩
  | .hbm, ⟨18, _⟩ => ⟨S24576x4096, .f32⟩
  | .hbm, ⟨19, _⟩ => ⟨S24576x4096, .f32⟩
  | .hbm, ⟨20, _⟩ => ⟨S24576x4096, .bf16⟩
  | _, _ => ⟨S24576x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Proof.Same.lean ====
/- The two kernel programs are one text: their bodies, tables and `main`s are equal, over any float. -/
module

public import proofs.«01_k».proof.Proof.Gen.Kernel
public import proofs.«01_k».proof.Proof.Gen.KernelIdeal

@[expose] public section

noncomputable section

namespace Cert.Same

open Idealize.ShloMosaic Idealize.SL.Sem

variable {F : FTy → Type} [FloatOps F]

set_option maxRecDepth 1000000 in
theorem body_eq : @Cert.Kernel.cc0_hgrn_scan_fwd F _ _ = @Cert.KernelIdeal.cc0_hgrn_scan_fwd F _ _ := by
  unfold Cert.Kernel.cc0_hgrn_scan_fwd Cert.KernelIdeal.cc0_hgrn_scan_fwd
  rfl

theorem defs₀_eq : Cert.Kernel.defs₀ (F := F) = Cert.KernelIdeal.defs₀ (F := F) := by
  unfold Cert.Kernel.defs₀ Cert.KernelIdeal.defs₀
  rw [← body_eq]
  refine congrArg Defs.onTc (funext fun l => funext fun a => ?_)
  match l, a with
  | 0, (t, s) => rfl
  | ⟨_ + 1, h⟩, _ => exact absurd h (Nat.not_lt.2 (Nat.le_add_left _ _))

theorem defs_eq : Cert.Kernel.defs (F := F) = Cert.KernelIdeal.defs (F := F) :=
  congrArg (Pipeline.defs (Cert.KernelIdeal.pcfgs (F := F))) defs₀_eq

theorem main_eq : Cert.Kernel.main (F := F) = Cert.KernelIdeal.main (F := F) := rfl

end Cert.Same

end
-- ==== Proof.Heads.lean ====
/- One trip of the scan, head by head. The kernel's text repeats the same operations for each of the 32 heads at the literal
   column offset of that head; here they are written once, for a head `h`, over the rows of one chunk: `outH` is what a trip
   writes into the output's columns of head `h`, `stH` what it leaves in the carried state of head `h`. -/
module

public import proofs.«01_k».proof.Proof.Gen.KernelIdeal.Skeleton

@[expose] public section

noncomputable section

namespace Cert.KernelIdeal.Scan

open Cert.KernelIdeal Cert.KernelIdeal.Gen Idealize.ShloMosaic

variable {F : FTy → Type} [FloatOps F]

/-! ## The shared rows: from the chunk's rows of the three projections and the lower bound's row -/

/-- The lower bound's row. -/
abbrev lbRow (v3 : Vec F S2x4096 .f32) : FVec F S1x4096 .f32 := k0_pay2 v3

abbrev zeroRows : FVec F S64x4096 .f32 := constant S64x4096 .f32 0x00000000#32

/-- The cumulative sums of the log forget gates. -/
def cumR (lb : FVec F S1x4096 .f32) (X1 : Vec F S64x4096 .f32) : FVec F S64x4096 .f32 :=
  k0_pay16 k0_pay4 (k0_pay13 lb X1) (k0_pay14 lb X1) (k0_pay15 lb k0_pay4 X1) zeroRows

/-- The keys decayed to the chunk's end. -/
def kendR (lb : FVec F S1x4096 .f32) (X1 : Vec F S64x4096 .f32) : FVec F S64x4096 .bf16 :=
  k0_pay18 k0_pay4 (k0_pay8 lb X1) (k0_pay13 lb X1) (k0_pay14 lb X1) (k0_pay15 lb k0_pay4 X1) zeroRows

/-- The decay of the state over the chunk. -/
def edgeR (lb : FVec F S1x4096 .f32) (X1 : Vec F S64x4096 .f32) : FVec F S1x4096 .f32 :=
  k0_pay19 k0_pay4 (k0_pay13 lb X1) (k0_pay14 lb X1) (k0_pay15 lb k0_pay4 X1) zeroRows

/-- The queries decayed from their sub-block's start. -/
def aR (lb : FVec F S1x4096 .f32) (X0 X1 : Vec F S64x4096 .f32) : FVec F S64x4096 .bf16 :=
  k0_pay25 k0_pay4 (k0_pay6 X0) (k0_pay13 lb X1) (k0_pay14 lb X1) (k0_pay15 lb k0_pay4 X1) zeroRows

/-- The queries decayed from the chunk's start. -/
def qinR (lb : FVec F S1x4096 .f32) (X0 X1 : Vec F S64x4096 .f32) : FVec F S64x4096 .bf16 :=
  k0_pay26 k0_pay4 (k0_pay6 X0) (k0_pay13 lb X1) (k0_pay14 lb X1) (k0_pay15 lb k0_pay4 X1) zeroRows

/-- The keys decayed to the start of sub-block 0, 1, 2, 3. -/
def b0R (lb : FVec F S1x4096 .f32) (X1 : Vec F S64x4096 .f32) : FVec F S64x4096 .bf16 :=
  k0_pay27 k0_pay4 (k0_pay8 lb X1) (k0_pay13 lb X1) (k0_pay14 lb X1) (k0_pay15 lb k0_pay4 X1) zeroRows
def b1R (lb : FVec F S1x4096 .f32) (X1 : Vec F S64x4096 .f32) : FVec F S64x4096 .bf16 :=
  k0_pay30 (k0_pay21 k0_pay4 (k0_pay13 lb X1) (k0_pay14 lb X1) (k0_pay15 lb k0_pay4 X1) zeroRows) (k0_pay28 (k0_pay8 lb X1))
    (k0_pay29 k0_pay4 (k0_pay13 lb X1) (k0_pay14 lb X1) (k0_pay15 lb k0_pay4 X1) zeroRows)
def b2R (lb : FVec F S1x4096 .f32) (X1 : Vec F S64x4096 .f32) : FVec F S64x4096 .bf16 :=
  k0_pay31 (k0_pay8 lb X1) (cumR lb X1) (k0_pay22 k0_pay4 (k0_pay13 lb X1) (k0_pay14 lb X1) (k0_pay15 lb k0_pay4 X1) zeroRows)
def b3R (lb : FVec F S1x4096 .f32) (X1 : Vec F S64x4096 .f32) : FVec F S64x4096 .bf16 :=
  k0_pay32 (k0_pay8 lb X1) (cumR lb X1) (k0_pay23 k0_pay4 (k0_pay13 lb X1) (k0_pay14 lb X1) (k0_pay15 lb k0_pay4 X1) zeroRows)

/-- The values. -/
abbrev vR (X2 : Vec F S64x4096 .f32) : FVec F S64x4096 .bf16 := k0_pay9 X2

/-! ## A head's columns -/

theorem slices_head : ∀ h : Fin 32, S64x4096.Slices ![0, 128 * h.val] S64x128 := by decide
theorem slices_edge : ∀ h : Fin 32, S1x4096.Slices ![0, 128 * h.val] S1x128 := by decide
theorem slices_sub0 : ∀ h : Fin 32, S64x4096.Slices ![0, 128 * h.val] S16x128 := by decide
theorem slices_sub1 : ∀ h : Fin 32, S64x4096.Slices ![16, 128 * h.val] S16x128 := by decide
theorem slices_sub2 : ∀ h : Fin 32, S64x4096.Slices ![32, 128 * h.val] S16x128 := by decide
theorem slices_sub3 : ∀ h : Fin 32, S64x4096.Slices ![48, 128 * h.val] S16x128 := by decide

/-- The columns of head `h`. -/
def headC (h : Fin 32) (x : FVec F S64x4096 .bf16) : FVec F S64x128 .bf16 :=
  extractStridedSlice S64x128 ![0, 128 * h.val] x (slices_head h)

abbrev bz (s : Shape) : FVec F s .bf16 := broadcast s (Scalar.ofBits .bf16 0x0000#16)

/-- Sub-block `i` of a head's rows, the others zero. -/
def pad0 (h : Fin 32) (x : FVec F S64x4096 .bf16) : FVec F S64x128 .bf16 :=
  concatenate S64x128 0 [⟨S16x128, extractStridedSlice S16x128 ![0, 128 * h.val] x (slices_sub0 h)⟩, ⟨S48x128, bz S48x128⟩]
    concatenates_S16x128_S48x128_S64x128_d0
def pad1 (h : Fin 32) (x : FVec F S64x4096 .bf16) : FVec F S64x128 .bf16 :=
  concatenate S64x128 0 [⟨S16x128, bz S16x128⟩, ⟨S16x128, extractStridedSlice S16x128 ![16, 128 * h.val] x (slices_sub1 h)⟩,
    ⟨S32x128, bz S32x128⟩] concatenates_S16x128_S16x128_S32x128_S64x128_d0
def pad2 (h : Fin 32) (x : FVec F S64x4096 .bf16) : FVec F S64x128 .bf16 :=
  concatenate S64x128 0 [⟨S32x128, bz S32x128⟩, ⟨S16x128, extractStridedSlice S16x128 ![32, 128 * h.val] x (slices_sub2 h)⟩,
    ⟨S16x128, bz S16x128⟩] concatenates_S32x128_S16x128_S16x128_S64x128_d0
def pad3 (h : Fin 32) (x : FVec F S64x4096 .bf16) : FVec F S64x128 .bf16 :=
  concatenate S64x128 0 [⟨S48x128, bz S48x128⟩, ⟨S16x128, extractStridedSlice S16x128 ![48, 128 * h.val] x (slices_sub3 h)⟩]
    concatenates_S48x128_S16x128_S64x128_d0

/-- Four blocks of 64 rows side by side. -/
def cat4 (x0 x1 x2 x3 : FVec F S64x128 .bf16) : FVec F S64x512 .bf16 :=
  concatenate S64x512 1 [⟨S64x128, x0⟩, ⟨S64x128, x1⟩, ⟨S64x128, x2⟩, ⟨S64x128, x3⟩]
    concatenates_S64x128_S64x128_S64x128_S64x128_S64x512_d1

/-- The masked scores of head `h`. -/
def scoreH (h : Fin 32) (a b0 b1 b2 b3 : FVec F S64x4096 .bf16) : FVec F S64x64 .bf16 :=
  truncf .bf16 (select k0_pay3
    (matmul dot_S64x512_S64x512_S64x64_1_1_0_0_n_n none (cat4 (pad0 h a) (pad1 h a) (pad2 h a) (pad3 h a))
      (cat4 (headC h b0) (headC h b1) (headC h b2) (headC h b3)) (constant S64x64 .f32 0x00000000#32))
    (broadcast S64x64 (Scalar.ofBits .f32 0x00000000#32 : F .f32))) bitsLt_bf16_f32

/-- Head `h` of the output's rows, from the state `st` of the head on entry to the chunk. -/
def outHead (h : Fin 32) (a qin b0 b1 b2 b3 v : FVec F S64x4096 .bf16) (st : FVec F S128x128 .f32) : FVec F S64x128 .f32 :=
  addf (matmul dot_S64x128_S128x128_S64x128_1_1_0_0_n_n none (headC h qin) (truncf .bf16 st bitsLt_bf16_f32)
      (constant S64x128 .f32 0x00000000#32))
    (matmul dot_S64x64_S64x128_S64x128_1_0_0_1_n_n none (scoreH h a b0 b1 b2 b3) (headC h v) (constant S64x128 .f32 0x00000000#32))

/-- The state of head `h` on leaving the chunk. -/
def stHead (h : Fin 32) (edge : FVec F S1x4096 .f32) (kend v : FVec F S64x4096 .bf16) (st : FVec F S128x128 .f32) : FVec F S128x128 .f32 :=
  addf (mulf st (broadcastTo S128x128 (extractStridedSlice S1x128 ![0, 128 * h.val] edge (slices_edge h)) broadcasts_S1x128_S128x128))
    (matmul dot_S64x128_S64x128_S128x128_0_0_1_1_n_n none (headC h v) (headC h kend) (constant S128x128 .f32 0x00000000#32))

/-- Head `h`'s square of a loaded plane. -/
abbrev sq (x : Vec F S1x128x128 .f32) : FVec F S128x128 .f32 := shapeCast S128x128 x shapeCasts_S1x128x128_S128x128

def outH (lb : FVec F S1x4096 .f32) (X0 X1 X2 : Vec F S64x4096 .f32) (S : Fin 32 → Vec F S1x128x128 .f32) (h : Fin 32) : FVec F S64x128 .f32 :=
  outHead h (aR lb X0 X1) (qinR lb X0 X1) (b0R lb X1) (b1R lb X1) (b2R lb X1) (b3R lb X1) (vR X2) (sq (S h))

def stH (lb : FVec F S1x4096 .f32) (X1 X2 : Vec F S64x4096 .f32) (S : Fin 32 → Vec F S1x128x128 .f32) (h : Fin 32) : FVec F S1x128x128 .f32 :=
  shapeCast S1x128x128 (stHead h (edgeR lb X1) (kendR lb X1) (vR X2) (sq (S h))) shapeCasts_S128x128_S1x128x128

/-- The heads' outputs side by side. -/
def outAll (o : Fin 32 → FVec F S64x128 .f32) : FVec F S64x4096 .f32 :=
  k0_pay5 (o 0) (o 1) (o 2) (o 3) (o 4) (o 5) (o 6) (o 7) (o 8) (o 9) (o 10) (o 11) (o 12) (o 13) (o 14) (o 15)
    (o 16) (o 17) (o 18) (o 19) (o 20) (o 21) (o 22) (o 23) (o 24) (o 25) (o 26) (o 27) (o 28) (o 29) (o 30) (o 31)

end Cert.KernelIdeal.Scan

end
-- ==== Proof.Trip.lean ====
/- What one trip of the chunk loop writes, in the head-by-head form of Heads.lean: the state's 32 planes, one store per head,
   and the chunk's rows of the output, one store. -/
module

public import proofs.«01_k».proof.Proof.Heads
public import proofs.«01_k».proof.Proof.Gen.KernelIdeal.Loops
public import Idealize.ShloMosaic.Lib.WritesUnit
public import Idealize.ShloMosaic.Lib.VecWindow

@[expose] public section

set_option maxRecDepth 16384

noncomputable section

namespace Cert.KernelIdeal.Scan

open Cert.KernelIdeal Cert.KernelIdeal.Gen Idealize.ShloMosaic

variable {F : FTy → Type} [FloatOps F]

theorem inb_plane : ∀ h : Fin 32, ∀ a, (![h.val, 0, 0] : Fin 3 → Nat) a + S1x128x128.size a ≤ S32x128x128.size a := by decide

/-- The plane of head `h` as a load reads it. -/
def plane (arg7 : Memref sig .tc .vmem S32x128x128 .f32) (f7 : BufTy.Contents (Elt F) arg7.view.ty) (h : Fin 32) : Vec F S1x128x128 .f32 :=
  View.readAt (Elt F) arg7.view (Rect.unit (s := S32x128x128) ![h.val, 0, 0] S1x128x128.size (inb_plane h)).toLoadRect f7

/-- The rows of trip `k` as a load reads them. -/
def rowsOf (arg : Memref sig .tc .vmem S256x4096 .f32) (X : BufTy.Contents (Elt F) arg.view.ty) (k : Fin k0_t1_loop.trips) : Vec F S64x4096 .f32 :=
  View.readAt (Elt F) arg.view (Rect.unit (s := S256x4096) (k0_off1 k) S64x4096.size (k0_off1_inb k)).toLoadRect X

variable (𝒱 : Variants) (c : Dev nD) (bd : Option 𝒱.V) (i : grid0.Coords) (arg2 : Memref sig .tc .vmem S256x4096 .f32) (harg2 : arg2.IsWhole) (arg3 : Memref sig .tc .vmem S256x4096 .f32) (harg3 : arg3.IsWhole) (arg4 : Memref sig .tc .vmem S256x4096 .f32) (harg4 : arg4.IsWhole) (arg5 : Memref sig .tc .vmem S2x4096 .f32) (harg5 : arg5.IsWhole) (arg6 : Memref sig .tc .vmem S256x4096 .f32) (harg6 : arg6.IsWhole) (arg7 : Memref sig .tc .vmem S32x128x128 .f32) (harg7 : arg7.IsWhole) (v3 : Vec F S2x4096 .f32) (X2 : BufTy.Contents (Elt F) arg2.view.ty) (X3 : BufTy.Contents (Elt F) arg3.view.ty) (X4 : BufTy.Contents (Elt F) arg4.view.ty) (k : Fin k0_t1_loop.trips) (f6 : BufTy.Contents (Elt F) arg6.view.ty) (f7 : BufTy.Contents (Elt F) arg7.view.ty)

set_option maxHeartbeats 2000000 in
theorem trip_state :
    (trip_k0_t1 (F := F) 𝒱 c bd i arg2 harg2 arg3 harg3 arg4 harg4 arg5 harg5 arg6 harg6 arg7 harg7 v3 X2 X3 X4 k).2.1 f6 f7
      = View.tilePieces (s := S32x128x128) S1x128x128.size (fun h : Fin 32 => ![h.val, 0, 0]) inb_plane
          (stH (lbRow v3) (rowsOf arg3 X3 k) (rowsOf arg4 X4 k) (plane arg7 f7)) 32 (le_refl 32) := by
  unfold trip_k0_t1
  rfl

set_option maxHeartbeats 2000000 in
theorem trip_out :
    (trip_k0_t1 (F := F) 𝒱 c bd i arg2 harg2 arg3 harg3 arg4 harg4 arg5 harg5 arg6 harg6 arg7 harg7 v3 X2 X3 X4 k).1 f6 f7
      = [⟨Rect.unit (s := S256x4096) (k0_off1 k) S64x4096.size (k0_off1_inb k),
          outAll (outH (lbRow v3) (rowsOf arg2 X2 k) (rowsOf arg3 X3 k) (rowsOf arg4 X4 k) (plane arg7 f7))⟩] := by
  unfold trip_k0_t1
  rfl

end Cert.KernelIdeal.Scan

end
-- ==== Proof.Loop.lean ====
/- The chunk loop of one grid point, as values: the state after `n` of the four chunks (`stAt`), the point's rows of the output
   (`outBlk`), and that the loop's stores leave exactly these. -/
module

public import proofs.«01_k».proof.Proof.Trip
public import Idealize.ShloMosaic.Lib.Pointwise

@[expose] public section

set_option maxRecDepth 16384

noncomputable section

namespace Cert.KernelIdeal.Scan

open Cert.KernelIdeal Cert.KernelIdeal.Gen Idealize.ShloMosaic

variable {F : FTy → Type} [FloatOps F]

theorem trips_four : k0_t1_loop.trips = 4 := by decide +kernel

/-- Head `h`'s plane of a state. -/
def planeV (S : Vec F S32x128x128 .f32) (h : Fin 32) : Vec F S1x128x128 .f32 :=
  VecWindow.window (s := S32x128x128) S ![h.val, 0, 0] S1x128x128.size (inb_plane h)

theorem inb_rows : ∀ k : Fin k0_t1_loop.trips, ∀ a, (![64 * k.val, 0] : Fin 2 → Nat) a + S64x4096.size a ≤ S256x4096.size a := by
  decide +kernel

/-- Chunk `k`'s rows of a block. -/
def rowsV (X : Vec F S256x4096 .f32) (k : Fin k0_t1_loop.trips) : Vec F S64x4096 .f32 :=
  VecWindow.window (s := S256x4096) X ![64 * k.val, 0] S64x4096.size (inb_rows k)

/-- The state after chunk `k`, from the state `S` before it. -/
def stNext (lb : FVec F S1x4096 .f32) (X1 X2 : Vec F S256x4096 .f32) (k : Fin k0_t1_loop.trips) (S : Vec F S32x128x128 .f32) : Vec F S32x128x128 .f32 :=
  fun y => stH lb (rowsV X1 k) (rowsV X2 k) (planeV S) (y 0) (ix3 (0 : Fin 1) (y 1) (y 2))

/-- The state after the first `n` chunks. -/
def stAt (lb : FVec F S1x4096 .f32) (X1 X2 : Vec F S256x4096 .f32) (S : Vec F S32x128x128 .f32) : ℕ → Vec F S32x128x128 .f32
  | 0 => S
  | n + 1 => if h : n < k0_t1_loop.trips then stNext lb X1 X2 ⟨n, h⟩ (stAt lb X1 X2 S n) else stAt lb X1 X2 S n

theorem stAt_succ (lb : FVec F S1x4096 .f32) (X1 X2 : Vec F S256x4096 .f32) (S : Vec F S32x128x128 .f32) (k : Fin k0_t1_loop.trips) :
    stAt lb X1 X2 S (k.val + 1) = stNext lb X1 X2 k (stAt lb X1 X2 S k.val) := dif_pos k.isLt

/-- Chunk `k`'s rows of the output. -/
def outChunk (lb : FVec F S1x4096 .f32) (X0 X1 X2 : Vec F S256x4096 .f32) (S : Vec F S32x128x128 .f32) (k : Fin k0_t1_loop.trips) : FVec F S64x4096 .f32 :=
  outAll (outH lb (rowsV X0 k) (rowsV X1 k) (rowsV X2 k) (planeV (stAt lb X1 X2 S k.val)))

/-- The chunk a row of the block lies in. -/
def chunkOf (r : Fin 256) : Fin k0_t1_loop.trips := ⟨r.val / 64, by rw [trips_four]; omega⟩

/-- The point's rows of the output. -/
def outBlk (lb : FVec F S1x4096 .f32) (X0 X1 X2 : Vec F S256x4096 .f32) (S : Vec F S32x128x128 .f32) : Vec F S256x4096 .f32 :=
  fun y => outChunk lb X0 X1 X2 S (chunkOf (y 0)) (ix2 (⟨(y 0).val % 64, Nat.mod_lt _ (by decide)⟩ : Fin 64) (y 1))

theorem plane_eq (arg7 : Memref sig .tc .vmem S32x128x128 .f32) (f7 : BufTy.Contents (Elt F) arg7.view.ty) :
    plane arg7 f7 = planeV (arg7.view.read (Elt F) f7) := rfl

theorem rowsOf_eq (arg : Memref sig .tc .vmem S256x4096 .f32) (X : BufTy.Contents (Elt F) arg.view.ty) (k : Fin k0_t1_loop.trips) :
    rowsOf arg X k = rowsV (arg.view.read (Elt F) X) k :=
  View.readAt_unit arg.view X (k0_off1_inb k) (k0_off1_eq k) (inb_rows k)

variable (𝒱 : Variants) (c : Dev nD) (bd : Option 𝒱.V) (i : grid0.Coords) (arg2 : Memref sig .tc .vmem S256x4096 .f32) (harg2 : arg2.IsWhole) (arg3 : Memref sig .tc .vmem S256x4096 .f32) (harg3 : arg3.IsWhole) (arg4 : Memref sig .tc .vmem S256x4096 .f32) (harg4 : arg4.IsWhole) (arg5 : Memref sig .tc .vmem S2x4096 .f32) (harg5 : arg5.IsWhole) (arg6 : Memref sig .tc .vmem S256x4096 .f32) (harg6 : arg6.IsWhole) (arg7 : Memref sig .tc .vmem S32x128x128 .f32) (harg7 : arg7.IsWhole) (v3 : Vec F S2x4096 .f32) (X2 : BufTy.Contents (Elt F) arg2.view.ty) (X3 : BufTy.Contents (Elt F) arg3.view.ty) (X4 : BufTy.Contents (Elt F) arg4.view.ty) (G6 : BufTy.Contents (Elt F) arg6.view.ty) (G7 : BufTy.Contents (Elt F) arg7.view.ty)

local notation "PB" n => pb_k0_t1 (F := F) 𝒱 c bd i arg2 harg2 arg3 harg3 arg4 harg4 arg5 harg5 arg6 harg6 arg7 harg7 v3 X2 X3 X4 G6 G7 n

/-- The state's planes after the trips before `n`. -/
theorem loop_state (n : ℕ) (hn : n ≤ k0_t1_loop.trips) :
    arg7.view.read (Elt F) (arg7.view.writes (Elt F) G7 (PB n).2)
      = stAt (lbRow v3) (arg3.view.read (Elt F) X3) (arg4.view.read (Elt F) X4) (arg7.view.read (Elt F) G7) n := by
  induction n with
  | zero => rfl
  | succ n ih =>
    have hk : n < k0_t1_loop.trips := hn
    have ih' := ih (Nat.le_of_lt hk)
    rw [pb_k0_t1_succ 𝒱 c bd i arg2 harg2 arg3 harg3 arg4 harg4 arg5 harg5 arg6 harg6 arg7 harg7 v3 X2 X3 X4 G6 G7 ⟨n, hk⟩]
    rw [stAt_succ _ _ _ _ ⟨n, hk⟩, View.writes_append]
    dsimp only
    rw [trip_state, plane_eq, ih', rowsOf_eq, rowsOf_eq]
    funext y
    refine View.read_tilePieces arg7.view _ _ _ _ _ 32 (le_refl 32) y (y 0) (y 0).isLt (ix3 (0 : Fin 1) (y 1) (y 2)) ?_ 0 ?_
    · intro a
      match a with
      | ⟨0, _⟩ => rfl
      | ⟨1, _⟩ => exact (Nat.zero_add _).symm
      | ⟨2, _⟩ => exact (Nat.zero_add _).symm
    · intro j hj
      have : j.val ≠ (y 0).val := fun h => hj (Fin.ext h)
      show (y 0).val < j.val ∨ j.val + 1 ≤ (y 0).val
      omega

/-- The output's rows written by the trips before `n`. -/
theorem loop_out (n : ℕ) (hn : n ≤ k0_t1_loop.trips) (y : S256x4096.Idx) (hy : (y 0).val < 64 * n) :
    arg6.view.read (Elt F) (arg6.view.writes (Elt F) G6 (PB n).1) y
      = outBlk (lbRow v3) (arg2.view.read (Elt F) X2) (arg3.view.read (Elt F) X3) (arg4.view.read (Elt F) X4) (arg7.view.read (Elt F) G7) y := by
  induction n with
  | zero => exact absurd hy (Nat.not_lt_zero _)
  | succ n ih =>
    have hk : n < k0_t1_loop.trips := hn
    rw [pb_k0_t1_succ 𝒱 c bd i arg2 harg2 arg3 harg3 arg4 harg4 arg5 harg5 arg6 harg6 arg7 harg7 v3 X2 X3 X4 G6 G7 ⟨n, hk⟩]
    dsimp only
    rw [trip_out, plane_eq, loop_state _ _ _ _ _ _ _ _ _ _ _ _ _ _ _ _ _ _ _ _ _ _ n (Nat.le_of_lt hk), rowsOf_eq, rowsOf_eq, rowsOf_eq]
    by_cases hlt : (y 0).val < 64 * n
    · refine (View.read_writes_cons_unit_of_not_mem arg6.view _ _ _ _ y (k0_off1_eq ⟨n, hk⟩) 0 (Or.inl ?_)).trans (ih (Nat.le_of_lt hk) hlt)
      exact hlt
    · have hc : chunkOf (y 0) = ⟨n, hk⟩ := Fin.ext (by show (y 0).val / 64 = n; omega)
      unfold outBlk
      rw [hc]
      refine View.read_writes_cons_unit_of_mem arg6.view _ _ _ _ y _ (k0_off1_eq ⟨n, hk⟩) ?_
      intro a
      match a with
      | ⟨0, _⟩ => show (y 0).val = 64 * n + (y 0).val % 64; omega
      | ⟨1, _⟩ => exact (Nat.zero_add _).symm

end Cert.KernelIdeal.Scan

end
-- ==== Proof.Body.lean ====
/- The body's triple at one grid point, whichever float it runs on: at the grid's first point the carried state is set to zero
   before the loop; at every other point it is the state the point before left. -/
module

public import proofs.«01_k».proof.Proof.Loop
public import proofs.«01_k».proof.Proof.Gen.KernelIdeal.Frame.Runs

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The state the scan starts from. -/
abbrev st0 : Vec F S32x128x128 .f32 := k0_pay1

variable (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S256x4096 .f32) (harg4 : arg4.IsWhole) (arg5 : Memref sig .tc .vmem S2x4096 .f32) (harg5 : arg5.IsWhole) (arg6 : Memref sig .tc .vmem S256x4096 .f32) (harg6 : arg6.IsWhole) (arg7 : Memref sig .tc .vmem S32x128x128 .f32) (harg7 : arg7.IsWhole)
    (x0 x1 x2 : Vec F S256x4096 .f32) (x3 : Vec F S2x4096 .f32)

theorem zero2 : (![0, 0] : Fin 2 → ℕ) = fun _ => 0 := by funext a; match a with | ⟨0, _⟩ => rfl | ⟨1, _⟩ => rfl
theorem zero3 : (![0, 0, 0] : Fin 3 → ℕ) = fun _ => 0 := by funext a; match a with | ⟨0, _⟩ => rfl | ⟨1, _⟩ => rfl | ⟨2, _⟩ => rfl

/-- A store of the whole state is read back. -/
theorem read_store_whole (w : Vec F S32x128x128 .f32) (inb : ∀ a, (![0, 0, 0] : Fin 3 → ℕ) a + S32x128x128.size a ≤ S32x128x128.size a)
    (f : BufTy.Contents (Elt F) arg7.view.ty) :
    arg7.view.read (Elt F) (arg7.view.writes (Elt F) f [⟨Rect.unit (s := S32x128x128) ![0, 0, 0] S32x128x128.size inb, w⟩]) = w :=
  funext fun y => View.read_writes_cons_unit_of_mem arg7.view f inb w [] y y zero3 (fun _ => (Nat.zero_add _).symm)

/-- The loop's stores, from a state read as `S`: the point's rows of the output. -/
theorem loop_outBlk (v3 : Vec F S2x4096 .f32) (hv3 : v3 = x3) (f6 : BufTy.Contents (Elt F) arg6.view.ty) (f7 : BufTy.Contents (Elt F) arg7.view.ty)
    (S : Vec F S32x128x128 .f32) (hS : arg7.view.read (Elt F) f7 = S) (n : ℕ) (hn : n = k0_t1_loop.trips) :
    arg6.view.read (Elt F) (arg6.view.writes (Elt F) f6 (pb_k0_t1 Variants.none c none i arg2 harg2 arg3 harg3 arg4 harg4 arg5 harg5 arg6 harg6 arg7 harg7 v3
        (harg2.unread x0) (harg3.unread x1) (harg4.unread x2) f6 f7 n).1) = outBlk (lbRow x3) x0 x1 x2 S := by
  subst hv3 hS hn
  funext y
  rw [loop_out _ _ _ _ _ _ _ _ _ _ _ _ _ _ _ _ _ _ _ _ _ _ _ (le_refl _) y (by rw [trips_four]; exact (y 0).isLt),
    harg2.read_unread, harg3.read_unread, harg4.read_unread]

/-- and the state. -/
theorem loop_stAt (v3 : Vec F S2x4096 .f32) (hv3 : v3 = x3) (f6 : BufTy.Contents (Elt F) arg6.view.ty) (f7 : BufTy.Contents (Elt F) arg7.view.ty)
    (S : Vec F S32x128x128 .f32) (hS : arg7.view.read (Elt F) f7 = S) (n : ℕ) (hn : n = k0_t1_loop.trips) :
    arg7.view.read (Elt F) (arg7.view.writes (Elt F) f7 (pb_k0_t1 Variants.none c none i arg2 harg2 arg3 harg3 arg4 harg4 arg5 harg5 arg6 harg6 arg7 harg7 v3
        (harg2.unread x0) (harg3.unread x1) (harg4.unread x2) f6 f7 n).2) = stAt (lbRow x3) x1 x2 S k0_t1_loop.trips := by
  subst hv3 hS hn
  rw [loop_state _ _ _ _ _ _ _ _ _ _ _ _ _ _ _ _ _ _ _ _ _ _ _ (le_refl _), harg3.read_unread, harg4.read_unread]

/-- The lower bound's logits as the body loads them. -/
theorem load_lb : View.readAt (Elt F) arg5.view (Rect.unit (s := S2x4096) ![0, 0] S2x4096.size inb_S2x4096_S2x4096_0_0).toLoadRect (harg5.unread x3) = x3 :=
  (View.readAt_full arg5.view (harg5.unread x3) inb_S2x4096_S2x4096_0_0).trans (harg5.read_unread x3)

set_option maxHeartbeats 1000000 in
/-- At the first point. -/
theorem body_first (hc0 : cond0_0 i) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (outBlk (lbRow x3) x0 x1 x2 st0) ∗ owns (c : Thread nD τ) arg7 fullShare (stAt (lbRow x3) x1 x2 st0 k0_t1_loop.trips)) -∗ K ⟨⟩))
      ⊢ wp frame (wpE (defs₀ (F := F)) Variants.none c none) E (cc0_hgrn_scan_fwd i arg2 harg2 arg3 harg3 arg4 harg4 arg5 harg5 arg6 harg6 arg7 harg7) K := by
  simp only [cc0_hgrn_scan_fwd_eq_skeleton]; unfold cc0_hgrn_scan_fwd_skel
  unfold owns
  iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
  obtain rfl := harg2.eq_unread hf0; obtain rfl := harg3.eq_unread hf1; obtain rfl := harg4.eq_unread hf2; obtain rfl := harg5.eq_unread hf3
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    exact loop_outBlk c i arg2 harg2 arg3 harg3 arg4 harg4 arg5 harg5 arg6 harg6 arg7 harg7 x0 x1 x2 x3 _ (load_lb arg5 harg5 x3) _ _ st0 (read_store_whole arg7 _ _ _) _ rfl
  iexists _; isplitr; swap; · iexact HS0
  ipureintro
  rw [View.writes_append]
  exact loop_stAt c i arg2 harg2 arg3 harg3 arg4 harg4 arg5 harg5 arg6 harg6 arg7 harg7 x0 x1 x2 x3 _ (load_lb arg5 harg5 x3) _ _ st0 (read_store_whole arg7 _ _ _) _ rfl

set_option maxHeartbeats 1000000 in
/-- At every other point. -/
theorem body_later (hc0 : ¬cond0_0 i) (S : Vec F S32x128x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare S
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (outBlk (lbRow x3) x0 x1 x2 S) ∗ owns (c : Thread nD τ) arg7 fullShare (stAt (lbRow x3) x1 x2 S k0_t1_loop.trips)) -∗ K ⟨⟩))
      ⊢ wp frame (wpE (defs₀ (F := F)) Variants.none c none) E (cc0_hgrn_scan_fwd i arg2 harg2 arg3 harg3 arg4 harg4 arg5 harg5 arg6 harg6 arg7 harg7) K := by
  simp only [cc0_hgrn_scan_fwd_eq_skeleton]; unfold cc0_hgrn_scan_fwd_skel
  unfold owns
  iintro ⟨⟨%f0, %hf0, H0⟩, ⟨%f1, %hf1, H1⟩, ⟨%f2, %hf2, H2⟩, ⟨%f3, %hf3, H3⟩, ⟨%d4, %f4, -, H4⟩, ⟨%fs0, %hs0, HS0⟩, Hk⟩
  obtain rfl := harg2.eq_unread hf0; obtain rfl := harg3.eq_unread hf1; obtain rfl := harg4.eq_unread hf2; obtain rfl := harg5.eq_unread hf3; obtain rfl := harg7.eq_unread hs0
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    exact loop_outBlk c i arg2 harg2 arg3 harg3 arg4 harg4 arg5 harg5 arg6 harg6 arg7 harg7 x0 x1 x2 x3 _ (load_lb arg5 harg5 x3) _ _ S (harg7.read_unread S) _ rfl
  iexists _; isplitr; swap; · iexact HS0
  ipureintro
  exact loop_stAt c i arg2 harg2 arg3 harg3 arg4 harg4 arg5 harg5 arg6 harg6 arg7 harg7 x0 x1 x2 x3 _ (load_lb arg5 harg5 x3) _ _ S (harg7.read_unread S) _ rfl

end Cert.KernelIdeal.Scan

end
-- ==== Proof.Run.lean ====
/- The launch: what the pipeline's proof data are for this kernel, the body's obligation at every point, and the run, whichever
   float it runs on. The carried state before grid point `n` is `ptState n`; point `t` writes `ptOut t`. -/
module

public import proofs.«01_k».proof.Proof.Body
public import Idealize.ShloMosaic.Lib.Claim
public import Idealize.ShloMosaic.Lib.Pipeline.Value

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The carried state and the output, point by point -/

/-- The blocks of a point: queries, gates, values, and the lower bound's logits. -/
abbrev blkQ (c : Dev nD) (t : Fin cfg0.N) : Vec F S256x4096 .f32 := iblk m c 0 t
abbrev blkG (c : Dev nD) (t : Fin cfg0.N) : Vec F S256x4096 .f32 := iblk m c 1 t
abbrev blkV (c : Dev nD) (t : Fin cfg0.N) : Vec F S256x4096 .f32 := iblk m c 2 t
abbrev blkL (c : Dev nD) (t : Fin cfg0.N) : Vec F S2x4096 .f32 := iblk m c 3 t

/-- The state before point `n`. -/
def ptState (c : Dev nD) : ℕ → Vec F S32x128x128 .f32
  | 0 => st0
  | n + 1 => if h : n < cfg0.N then
      stAt (lbRow (blkL m c ⟨n, h⟩)) (blkG m c ⟨n, h⟩) (blkV m c ⟨n, h⟩) (ptState c n) k0_t1_loop.trips
    else ptState c n

theorem ptState_succ (c : Dev nD) (t : Fin cfg0.N) :
    ptState m c (t.val + 1) = stAt (lbRow (blkL m c t)) (blkG m c t) (blkV m c t) (ptState m c t.val) k0_t1_loop.trips :=
  dif_pos t.isLt

/-- What point `t` leaves in the output's staging buffer. -/
def ptOut (c : Dev nD) (t : Fin cfg0.N) : Vec F S256x4096 .f32 :=
  outBlk (lbRow (blkL m c t)) (blkQ m c t) (blkG m c t) (blkV m c t) (ptState m c t.val)

/-- The invariant before point `n`: the scratch at the state, at anything before the first; the generator at some state. -/
def inv (c : Dev nD) : ℕ → sProp 𝕄
  | 0 => Pipeline.ΦA spec0 c
  | n + 1 => iprop(owns (c : Thread nD τ) scM0_0 fullShare (ptState m c (n + 1)) ∗ (∃ r, prngReg c r))

theorem inv_pos (c : Dev nD) (n : ℕ) (hn : n ≠ 0) :
    inv m c n = iprop(owns (c : Thread nD τ) scM0_0 fullShare (ptState m c n) ∗ (∃ r, prngReg c r)) := by
  cases n with
  | zero => exact absurd rfl hn
  | succ n => rfl

/-! ## The pipeline's proof data and the body's obligation -/

/-- Inputs stay at their blocks, the output ends at `ptOut`, the invariant is `inv`. -/
def scanDat (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => ptOut m c t
  Φ t := inv m c t.val
  q w := Pipeline.shareOf spec0 w
  owed _ := 0

theorem scanDat_A (c : Dev nD) (w : Fin cfg0.W) : (scanDat m 0 c).A w = V m c (Pipeline.arrRef spec0 w) := by
  dsimp only [scanDat]

theorem aft0 (c : Dev nD) (t : Fin cfg0.N) : (scanDat m 0 c).after 0 t = iblk m c 0 t := by dsimp only [scanDat]
theorem aft1 (c : Dev nD) (t : Fin cfg0.N) : (scanDat m 0 c).after 1 t = iblk m c 1 t := by dsimp only [scanDat]
theorem aft2 (c : Dev nD) (t : Fin cfg0.N) : (scanDat m 0 c).after 2 t = iblk m c 2 t := by dsimp only [scanDat]
theorem aft3 (c : Dev nD) (t : Fin cfg0.N) : (scanDat m 0 c).after 3 t = iblk m c 3 t := by dsimp only [scanDat]
theorem aft4 (c : Dev nD) (t : Fin cfg0.N) : (scanDat m 0 c).after 4 t = ptOut m c t := by dsimp only [scanDat]

theorem bef0 (c : Dev nD) (t : Fin cfg0.N) (d) : (scanDat m 0 c).before 0 t d = iblk m c 0 t :=
  before0_0_of m (scanDat m 0 c) (scanDat_A m c 0) (aft0 m c) t d
theorem bef1 (c : Dev nD) (t : Fin cfg0.N) (d) : (scanDat m 0 c).before 1 t d = iblk m c 1 t :=
  before0_1_of m (scanDat m 0 c) (scanDat_A m c 1) (aft1 m c) t d
theorem bef2 (c : Dev nD) (t : Fin cfg0.N) (d) : (scanDat m 0 c).before 2 t d = iblk m c 2 t :=
  before0_2_of m (scanDat m 0 c) (scanDat_A m c 2) (aft2 m c) t d
theorem bef3 (c : Dev nD) (t : Fin cfg0.N) (d) : (scanDat m 0 c).before 3 t d = iblk m c 3 t :=
  before0_3_of m (scanDat m 0 c) (scanDat_A m c 3) (aft3 m c) t d

set_option maxHeartbeats 800000 in
/-- The body at point `t`, from what the pipeline hands it to what it takes back. -/
theorem at_point (c : Dev nD) (t : Fin cfg0.N) :
    iprop((scanDat m 0 c).Φ t.castSucc ∗ (scanDat m 0 c).owesAt () t.castSucc
        ∗ (∃ d, owns (c : Thread nD τ) (ms0_0 t) fullShare ((scanDat m 0 c).before 0 t d))
        ∗ (∃ d, owns (c : Thread nD τ) (ms0_1 t) fullShare ((scanDat m 0 c).before 1 t d))
        ∗ (∃ d, owns (c : Thread nD τ) (ms0_2 t) fullShare ((scanDat m 0 c).before 2 t d))
        ∗ (∃ d, owns (c : Thread nD τ) (ms0_3 t) fullShare ((scanDat m 0 c).before 3 t d))
        ∗ (∃ d, owns (c : Thread nD τ) (ms0_4 t) fullShare ((scanDat m 0 c).before 4 t d)))
      ⊢ wp frame (wpE (defs₀ (F := F)) Variants.none c none) Set.univ (bodyAt0 t) (fun _ =>
        iprop((scanDat m 0 c).Φ t.succ ∗ (scanDat m 0 c).owesAt () t.succ
          ∗ owns (c : Thread nD τ) (ms0_0 t) fullShare ((scanDat m 0 c).after 0 t)
          ∗ owns (c : Thread nD τ) (ms0_1 t) fullShare ((scanDat m 0 c).after 1 t)
          ∗ owns (c : Thread nD τ) (ms0_2 t) fullShare ((scanDat m 0 c).after 2 t)
          ∗ owns (c : Thread nD τ) (ms0_3 t) fullShare ((scanDat m 0 c).after 3 t)
          ∗ owns (c : Thread nD τ) (ms0_4 t) fullShare ((scanDat m 0 c).after 4 t))) := by
  unfold bodyAt0
  simp only [bef0, bef1, bef2, bef3]
  rw [show (scanDat m 0 c).owesAt () t.succ = (scanDat m 0 c).owesAt () t.castSucc from rfl, aft0, aft1, aft2, aft3, aft4]
  rw [show (scanDat m 0 c).Φ t.succ = inv m c (t.val + 1) from rfl, show (scanDat m 0 c).Φ t.castSucc = inv m c t.val from rfl,
    inv_pos m c (t.val + 1) (Nat.succ_ne_zero _), ptState_succ]
  have hN : t.val < 64 := lt_of_lt_of_eq t.isLt (show cfg0.N = 64 from N_0)
  unfold ptOut
  by_cases hz : t.val = 0
  · rw [show inv m c t.val = Pipeline.ΦA spec0 c from by rw [hz]; rfl, PhiA0_eq, show ptState m c t.val = st0 from by rw [hz]; rfl]
    iintro ⟨⟨HS, Hg⟩, Ho, ⟨%d0, H0⟩, ⟨%d1, H1⟩, ⟨%d2, H2⟩, ⟨%d3, H3⟩, ⟨%d4, H4⟩⟩
    iapply (body_first c (grid0.coords t) _ _ _ _ _ _ _ _ _ _ _ _ (blkQ m c t) (blkG m c t) (blkV m c t) (blkL m c t)
      ((hcond0_0 t).mpr (by omega)) Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    iexact H4
  · rw [inv_pos m c t.val hz]
    iintro ⟨⟨HS, Hg⟩, Ho, ⟨%d0, H0⟩, ⟨%d1, H1⟩, ⟨%d2, H2⟩, ⟨%d3, H3⟩, ⟨%d4, H4⟩⟩
    iapply (body_later c (grid0.coords t) _ _ _ _ _ _ _ _ _ _ _ _ (blkQ m c t) (blkG m c t) (blkV m c t) (blkL m c t)
      (fun h => hz (by have := (hcond0_0 t).mp h; omega)) (ptState m c t.val) Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    iexact H4

theorem body_row (t : Fin cfg0.N) : defs₀ (F := F) .tc cfg0.body (cfg0.bodyArgs t (cfg0.slots t)) = bodyAt0 t := by
  unfold defs₀; rw [Defs.onTc_tc]

theorem obligation (c : Dev nD) : BodyObligation (scanDat (F := F) m 0 c) (defs₀ (F := F)) Variants.none () Set.univ := fun t => by
  rw [bigSep_W0, bigSep_W0, body_row]
  exact triple_restated (at_point m c t) rfl .rfl fun _ => .rfl

theorem enter (c : Dev nD) : Pipeline.ΦA spec0 c ⊢ (scanDat m 0 c).Φ 0 := by
  rw [show (scanDat m 0 c).Φ 0 = Pipeline.ΦA spec0 c from rfl]
  try exact Idealize.SL.BI.Entails.refl _

theorem leave (c : Dev nD) : (scanDat m 0 c).Φ (Fin.last cfg0.N) ⊢ Pipeline.ΦA spec0 c := by
  rw [show (scanDat m 0 c).Φ (Fin.last cfg0.N) = inv m c cfg0.N from rfl,
    inv_pos m c cfg0.N (by have : cfg0.N = 64 := N_0; omega), PhiA0_eq]
  iintro ⟨HS, Hg⟩
  isplitl [HS]
  · iexists _; iexact HS
  iexact Hg

/-! ## The run -/

set_option backward.isDefEq.respectTransparency.types false in
/-- Every weakly fair execution ends, with the pipeline's arrays at what the proof data say and every counter at zero. -/
theorem scan_run : θ_run defs (onTc (τ := τ) (main (F := F))) (s₀ m ρ)
    (fun r => (Pipeline.FramePost cfgs (scanDat m) 0 (V m)) r ∧ r.2.sem = fun _ => 0) :=
  Pipeline.θ_run_frame_track_shared (Q' := _) cfgs (scanDat m) (0 : Fin 1) launch₀0 defs₀ Variants.none m ρ main
    (hbody := fun c => (obligation m c).loose) (hq := fun _ _ _ => rfl) (howed := fun _ _ => rfl)
    (V := V m) (hmain := hmain m Variants.none) (hA := scanDat_A m) (hin := enter m) (hout := leave m)

/-- The point that writes row `r` of the output. -/
def pointOf (r : Fin 16384) : Fin cfg0.N := ⟨r.val / 256, by rw [show cfg0.N = 64 from N_0]; omega⟩

/-- The array whose rows are the points' blocks `P`. -/
def rowsFrom (P : Fin cfg0.N → Vec F S256x4096 .f32) : Vec F S16384x4096 .f32 := fun y =>
  P (pointOf (y 0)) (ix2 (⟨(y 0).val % 256, Nat.mod_lt _ (by decide)⟩ : Fin 256) (y 1))

/-- The output array. -/
def scanOut (c : Dev nD) : Vec F S16384x4096 .f32 := rowsFrom (ptOut m c)

theorem out_index : ∀ t : Fin cfg0.N, win0_4.index t (0 : Fin 2) = t.val ∧ win0_4.index t (1 : Fin 2) = 0 ∧ (cfg0.win 4).flush t = true :=
  (by decide +kernel : ∀ t : Fin grid0.N, win0_4.index t (0 : Fin 2) = t.val ∧ win0_4.index t (1 : Fin 2) = 0 ∧ win0_4.flush t = true)

theorem cut_rowsFrom (P : Fin cfg0.N → Vec F S256x4096 .f32) (t : Fin cfg0.N) :
    (cfg0.win 4).cut (grid0.coords t) (P t) = ((cfg0.win 4).blk t).view.read (Elt F) (rowsFrom P) := by
  obtain ⟨e0, e1, -⟩ := out_index t
  funext y
  have h0 : (y 0).val < 256 := (y 0).isLt
  have h1 : (y 1).val < 4096 := (y 1).isLt
  have hb0 : (((cfg0.win 4).blk t).view.emb y 0).val = win0_4.index t (0 : Fin 2) * 256 + 1 * (y 0).val := rfl
  have hb1 : (((cfg0.win 4).blk t).view.emb y 1).val = win0_4.index t (1 : Fin 2) * 4096 + 1 * (y 1).val := rfl
  rw [e0] at hb0; rw [e1] at hb1
  show P t ((cfg0.win 4).xinj (grid0.coords t) y) = rowsFrom P (((cfg0.win 4).blk t).view.emb y)
  have hp : pointOf (((cfg0.win 4).blk t).view.emb y 0) = t :=
    Fin.ext (by show (((cfg0.win 4).blk t).view.emb y 0).val / 256 = t.val; rw [hb0]; omega)
  unfold rowsFrom
  rw [hp]
  congr 1
  funext a; apply Fin.ext
  match a with
  | ⟨0, _⟩ => show (y 0).val = (((cfg0.win 4).blk t).view.emb y 0).val % 256; rw [hb0]; omega
  | ⟨1, _⟩ => show (y 1).val = (((cfg0.win 4).blk t).view.emb y 1).val; rw [hb1]; omega

theorem out_array (c : Dev nD) : (scanDat m 0 c).arrAt 4 cfg0.N = scanOut m c := by
  refine (scanDat m 0 c).arrAt_eq_of_cover 4 _ (fun t _ => ?_) (fun y => ?_)
  · show (cfg0.win 4).cut (grid0.coords t) ((scanDat m 0 c).after 4 t) = _
    rw [aft4]
    exact cut_rowsFrom (ptOut m c) t
  · have h0 : (y 0).val < 16384 := (y 0).isLt
    have h1 : (y 1).val < 4096 := (y 1).isLt
    obtain ⟨e0, e1, ef⟩ := out_index (pointOf (y 0))
    refine ⟨pointOf (y 0), ef, ?_⟩
    show y ∈ ((View.whole main_v2).slice (win0_4.rect (pointOf (y 0)))).set
    rw [View.set_slice_whole, Rect.mem_set_unit]
    have hv : (pointOf (y 0)).val = (y 0).val / 256 := rfl
    intro a
    match a with
    | ⟨0, _⟩ =>
      show win0_4.index (pointOf (y 0)) (0 : Fin 2) * 256 ≤ (y 0).val ∧ (y 0).val < win0_4.index (pointOf (y 0)) (0 : Fin 2) * 256 + 256
      rw [e0, hv]; omega
    | ⟨1, _⟩ =>
      show win0_4.index (pointOf (y 0)) (1 : Fin 2) * 4096 ≤ (y 1).val ∧ (y 1).val < win0_4.index (pointOf (y 0)) (1 : Fin 2) * 4096 + 4096
      rw [e1]; omega

/-- The frame: the arguments end as they were, the counters at zero. -/
theorem scan_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c =>
      ⟨((h.1 c).1 2).trans (((scanDat m 0 c).arrAt_in 2 rfl _).trans ((scanDat_A m c 2).trans (V_main_arg0 m c))),
        ((h.1 c).2 main_arg1 (Pipeline.mem_restRefs_of main_arg1 (by decide) (by decide))).trans (V_main_arg1 m c)⟩, h.2⟩)
    (scan_run m ρ)

/-- The value: the output array and the arguments. -/
theorem scan_value : θ_run defs (onTc (τ := τ) (main (F := F))) ⟨m, fun _ => 0, ρ⟩ (fun r => ∀ c : Dev nD,
      r.2.mem ((c.tc : Thread nD τ).loc main_v2) = scanOut m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h.1 c).1 4).trans (out_array m c),
      ((h.1 c).1 2).trans (((scanDat m 0 c).arrAt_in 2 rfl _).trans ((scanDat_A m c 2).trans (V_main_arg0 m c))),
      ((h.1 c).2 main_arg1 (Pipeline.mem_restRefs_of main_arg1 (by decide) (by decide))).trans (V_main_arg1 m c)⟩)
    (scan_run m ρ)

end Cert.KernelIdeal.Scan

end
-- ==== Proof.Spec.lean ====
/- The scan's mathematics on the extended reals, no program in sight: the logistic function both programs spell, the
   lower bound of the forget gate, one chunk of 64 tokens (its prefix sums of log-gates, scores, output and next state),
   and the state carried from chunk to chunk. -/
module

public import Idealize.ShloMosaic.PureOps.Ideal

@[expose] public section

noncomputable section

namespace Cert.Scan

open Idealize.ShloMosaic

/-! ## The logistic function -/

/-- `1 / (1 + e⁻ˣ)`, with its limits at the infinities. -/
def logis : EReal → ℝ
  | ⊥ => 0
  | ⊤ => 1
  | (r : ℝ) => 1 / (1 + Real.exp (-r))

theorem logis_bot : logis ⊥ = 0 := rfl
theorem logis_top : logis ⊤ = 1 := rfl
theorem logis_coe (r : ℝ) : logis (r : EReal) = 1 / (1 + Real.exp (-r)) := rfl

theorem logis_nonneg (x : EReal) : 0 ≤ logis x := by
  induction x using EReal.rec with
  | bot => rw [logis_bot]
  | top => rw [logis_top]; norm_num
  | coe r => rw [logis_coe]; positivity

theorem logis_le_one (x : EReal) : logis x ≤ 1 := by
  induction x using EReal.rec with
  | bot => rw [logis_bot]; norm_num
  | top => rw [logis_top]
  | coe r =>
    rw [logis_coe, div_le_one (by positivity)]
    linarith [Real.exp_pos (-r)]

/-- The host's spelling. -/
theorem div_one_exp_neg (x : EReal) : Ideal.div 1 (1 + Ideal.exp (-x)) = ((logis x : ℝ) : EReal) := by
  induction x using EReal.rec with
  | bot =>
    rw [logis_bot, EReal.neg_bot, Ideal.exp_top, EReal.add_top_of_ne_bot (show (1 : EReal) ≠ ⊥ from EReal.coe_ne_bot 1), Ideal.div,
      if_neg EReal.top_ne_zero, EReal.inv_top, mul_zero, EReal.coe_zero]
  | top =>
    rw [logis_top, EReal.neg_top, Ideal.exp_bot, add_zero, Ideal.div, if_neg one_ne_zero, one_mul, ← EReal.coe_one, ← EReal.coe_inv, inv_one]
  | coe r =>
    have h : (0 : ℝ) < 1 + Real.exp (-r) := by positivity
    rw [logis_coe, ← EReal.coe_neg, Ideal.exp_coe, ← EReal.coe_one, ← EReal.coe_add, Ideal.div_coe h.ne', ← EReal.coe_mul, one_mul]

/-- The kernel's spelling. -/
theorem half_tanh_half (x : EReal) :
    ((1 / 2 : ℝ) : EReal) * Ideal.tanh (((1 / 2 : ℝ) : EReal) * x) + ((1 / 2 : ℝ) : EReal) = ((logis x : ℝ) : EReal) := by
  have hpos : (0 : ℝ) < 1 / 2 := by norm_num
  induction x using EReal.rec with
  | bot =>
    rw [logis_bot, EReal.coe_mul_bot_of_pos hpos, Ideal.tanh_bot, ← EReal.coe_one, ← EReal.coe_neg, ← EReal.coe_mul, ← EReal.coe_add]
    norm_num
  | top =>
    rw [logis_top, EReal.coe_mul_top_of_pos hpos, Ideal.tanh_top, ← EReal.coe_one, ← EReal.coe_mul, ← EReal.coe_add]
    norm_num
  | coe r =>
    rw [logis_coe, ← EReal.coe_mul, Ideal.tanh_coe, ← EReal.coe_mul, ← EReal.coe_add]
    congr 1
    rw [Real.tanh_eq_sinh_div_cosh, Real.sinh_eq, Real.cosh_eq]
    have e : Real.exp (-r) = Real.exp (-(1 / 2 * r)) * Real.exp (-(1 / 2 * r)) := by rw [← Real.exp_add]; congr 1; ring
    have i : Real.exp (1 / 2 * r) * Real.exp (-(1 / 2 * r)) = 1 := by rw [← Real.exp_add]; simp
    rw [e]
    have h1 := Real.exp_pos (1 / 2 * r)
    have h2 := Real.exp_pos (-(1 / 2 * r))
    generalize Real.exp (1 / 2 * r) = u at *
    generalize Real.exp (-(1 / 2 * r)) = w at *
    have h3 : (0 : ℝ) < 1 + w * w := by positivity
    field_simp
    nlinarith [i, mul_pos h1 h2]

/-! ## The gate -/

/-- The softmax of the pair `(a, b)`, its first entry. -/
def share (a b : ℝ) : ℝ := Real.exp a / (Real.exp a + Real.exp b)

theorem share_lt_one (a b : ℝ) : share a b < 1 := by
  rw [share, div_lt_one (by positivity)]
  linarith [Real.exp_pos b]

/-- Of logits within 2.375 of zero the share is above `2⁻⁷`. -/
theorem share_lower {a b : ℝ} (ha : |a| ≤ 2.375) (hb : |b| ≤ 2.375) : 1 / 128 ≤ share a b := by
  have hab : b ≤ a + 4.75 := by linarith [abs_le.1 ha, abs_le.1 hb, (abs_le.1 ha).1, (abs_le.1 hb).2]
  have he : Real.exp 4.75 ≤ 127 := by
    have h4 : (Real.exp 4.75) ^ 4 ≤ 127 ^ 4 := by
      rw [← Real.exp_nat_mul]
      have : ((4 : ℕ) : ℝ) * 4.75 = ((19 : ℕ) : ℝ) * 1 := by norm_num
      rw [this, Real.exp_nat_mul]
      have h1 : Real.exp 1 ≤ 2.72 := by
        refine (Real.exp_bound' (x := 1) (by norm_num) (by norm_num) (n := 5) (by norm_num)).trans ?_
        norm_num [Finset.sum_range_succ, Nat.factorial]
      calc Real.exp 1 ^ 19 ≤ (2.72 : ℝ) ^ 19 := by gcongr
        _ ≤ 127 ^ 4 := by norm_num
    exact le_of_pow_le_pow_left₀ (by norm_num) (by norm_num) h4
  have hb' : Real.exp b ≤ Real.exp a * 127 :=
    calc Real.exp b ≤ Real.exp (a + 4.75) := Real.exp_le_exp.2 hab
      _ = Real.exp a * Real.exp 4.75 := Real.exp_add _ _
      _ ≤ Real.exp a * 127 := by gcongr
  rw [share, div_le_div_iff₀ (by norm_num) (by positivity)]
  linarith

/-- The forget gate over its lower bound. -/
def gate (lb : ℝ) (x : EReal) : ℝ := lb + (1 - lb) * logis x

theorem gate_lower {lb : ℝ} (h1 : lb ≤ 1) (x : EReal) : lb ≤ gate lb x := by
  have := mul_nonneg (sub_nonneg.2 h1) (logis_nonneg x)
  rw [gate]; linarith

theorem gate_le_one {lb : ℝ} (h1 : lb ≤ 1) (x : EReal) : gate lb x ≤ 1 := by
  have := mul_le_mul_of_nonneg_left (logis_le_one x) (sub_nonneg.2 h1)
  rw [gate]; linarith

theorem gate_coe (lb : ℝ) (x : EReal) :
    (lb : EReal) + (1 - (lb : EReal)) * ((logis x : ℝ) : EReal) = ((gate lb x : ℝ) : EReal) := by
  rw [gate, EReal.coe_add, EReal.coe_mul, EReal.coe_sub, EReal.coe_one]

/-- A log-gate: between `-7 · log 2` and `0`. -/
def Bounded (g : ℝ) : Prop := -(7 * Real.log 2) ≤ g ∧ g ≤ 0

theorem log_gate_bounded {lb : ℝ} (h0 : 1 / 128 ≤ lb) (h1 : lb ≤ 1) (x : EReal) : Bounded (Real.log (gate lb x)) := by
  have hl : 1 / 128 ≤ gate lb x := h0.trans (gate_lower h1 x)
  constructor
  · have h := Real.log_le_log (by norm_num) hl
    have e : Real.log (1 / 128) = -(7 * Real.log 2) := by
      rw [one_div, Real.log_inv, show (128 : ℝ) = 2 ^ 7 by norm_num, Real.log_pow]; norm_num
    rwa [e] at h
  · exact Real.log_nonpos (by linarith) (gate_le_one h1 x)

/-! ## One chunk -/

/-- Column `d` of head `h`. -/
def hd (h : Fin 32) (d : Fin 128) : Fin 4096 := ⟨128 * h.val + d.val, by omega⟩

section Chunk
variable (q k v : Fin 64 → Fin 4096 → EReal) (g : Fin 64 → Fin 4096 → ℝ)

/-- The log-gates up to and with token `t`. -/
def cum (t : Fin 64) (j : Fin 4096) : ℝ := ∑ s : Fin 64, if s ≤ t then g s j else 0

def score (h : Fin 32) (t s : Fin 64) : EReal :=
  if s ≤ t then ∑ d : Fin 128, q t (hd h d) * k s (hd h d) * ((Real.exp (cum g t (hd h d) - cum g s (hd h d)) : ℝ) : EReal) else 0

def out (S : Fin 32 → Fin 128 → Fin 128 → EReal) (h : Fin 32) (t : Fin 64) (e : Fin 128) : EReal :=
  ∑ d : Fin 128, q t (hd h d) * ((Real.exp (cum g t (hd h d)) : ℝ) : EReal) * S h e d
    + ∑ s : Fin 64, score q k g h t s * v s (hd h e)

/-- The state after the chunk, from that before: its entry `(h, e, d)` for the value's column `e`, the key's `d`. -/
def nxt (S : Fin 32 → Fin 128 → Fin 128 → EReal) : Fin 32 → Fin 128 → Fin 128 → EReal := fun h e d =>
  S h e d * ((Real.exp (cum g 63 (hd h d)) : ℝ) : EReal)
    + ∑ s : Fin 64, v s (hd h e) * (k s (hd h d) * ((Real.exp (cum g 63 (hd h d) - cum g s (hd h d)) : ℝ) : EReal))

end Chunk

/-! ## All chunks -/

section Chunks
variable (q k v : Fin 16384 → Fin 4096 → EReal) (g : Fin 16384 → Fin 4096 → ℝ)

/-- Token `t` of chunk `n` (past the last chunk: of the last). -/
def tok (n : ℕ) (t : Fin 64) : Fin 16384 := ⟨64 * min n 255 + t.val, by omega⟩

/-- The rows of chunk `n`. -/
def rowsOf {α : Type} (x : Fin 16384 → Fin 4096 → α) (n : ℕ) : Fin 64 → Fin 4096 → α := fun t j => x (tok n t) j

/-- The state before chunk `n`. -/
def state : ℕ → Fin 32 → Fin 128 → Fin 128 → EReal
  | 0 => fun _ _ _ => 0
  | n + 1 => nxt (rowsOf k n) (rowsOf v n) (rowsOf g n) (state n)

/-- The output at token `t` of chunk `n`. -/
def result (n : ℕ) (h : Fin 32) (t : Fin 64) (e : Fin 128) : EReal :=
  out (rowsOf q n) (rowsOf k n) (rowsOf v n) (rowsOf g n) (state k v g n) h t e

end Chunks

/-! ## The four row arrays, from the projections and the logits -/

section Arrays
variable (A : Fin 16384 → Fin 20480 → EReal) (L : Fin 2 → Fin 4096 → ℝ)

def qOf (r : Fin 16384) (j : Fin 4096) : EReal := A r ⟨j.val, by omega⟩ * ((logis (A r ⟨j.val, by omega⟩) : ℝ) : EReal)
def gateOf (r : Fin 16384) (j : Fin 4096) : ℝ := gate (share (L 0 j) (L 1 j)) (A r ⟨4096 + j.val, by omega⟩)
def kOf (r : Fin 16384) (j : Fin 4096) : EReal := ((1 - gateOf A L r j : ℝ) : EReal)
def vOf (r : Fin 16384) (j : Fin 4096) : EReal := A r ⟨12288 + j.val, by omega⟩
def gOf (r : Fin 16384) (j : Fin 4096) : ℝ := Real.log (gateOf A L r j)

/-- The logits the precondition admits. -/
def Small : Prop := ∀ i j, |L i j| ≤ 2.375

theorem gOf_bounded {A L} (h : Small L) (r : Fin 16384) (j : Fin 4096) : Bounded (gOf A L r j) :=
  log_gate_bounded (share_lower (h 0 j) (h 1 j)) (share_lt_one _ _).le _

theorem gateOf_pos {A L} (h : Small L) (r : Fin 16384) (j : Fin 4096) : 0 < gateOf A L r j :=
  lt_of_lt_of_le (by norm_num) ((share_lower (h 0 j) (h 1 j)).trans (gate_lower (share_lt_one _ _).le _))

/-- The value both programs compute: the scan's output at row `r`, column `j`. -/
def scan (r : Fin 16384) (j : Fin 4096) : EReal :=
  result (qOf A) (kOf A L) (vOf A) (gOf A L) (r.val / 64) ⟨j.val / 128, by omega⟩ ⟨r.val % 64, by omega⟩ ⟨j.val % 128, by omega⟩

end Arrays

end Cert.Scan

end
-- ==== Proof.KRows.lean ====
/- The rows of one trip over the extended reals, at an index: the mask, the gates, the prefix sums of the log-gates, the decayed
   queries and keys. The log-gates are bounded (`Bounded`), so the clamp of the decay's exponent at 115 is never met. -/
module

public import proofs.«01_k».proof.Proof.Heads
public import proofs.«01_k».proof.Proof.Spec
public import Idealize.ShloMosaic.Lib.Pointwise

@[expose] public section

set_option maxRecDepth 16384

noncomputable section

namespace Cert.KernelIdeal.Scan

open Cert.KernelIdeal Cert.KernelIdeal.Gen Idealize.ShloMosaic Cert.Scan

/-! ## Constants and scalars -/

theorem bits_half : Ideal.ofBits .f32 0x3F000000#32 = ((1 / 2 : ℝ) : EReal) := by
  simp [Ideal.ofBits, Ideal.ieee, -EReal.coe_mul]; norm_num

theorem bits_two : Ideal.ofBits .f32 0x40000000#32 = ((2 : ℝ) : EReal) := by
  simp [Ideal.ofBits, Ideal.ieee, -EReal.coe_mul]; norm_num

theorem bits_115 : Ideal.ofBits .f32 0x42E60000#32 = ((115 : ℝ) : EReal) := by
  simp [Ideal.ofBits, Ideal.ieee, -EReal.coe_mul]; norm_num

theorem bits_neg_inf : Ideal.ofBits .f32 0xFF800000#32 = ⊥ := by
  simp [Ideal.ofBits, Ideal.ieee]

theorem coe_sum {ι : Type} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

theorem log_two_pos : 0 < Real.log 2 := Real.log_pos (by norm_num)

theorem exp2_scaled (x : ℝ) : FloatOps.exp2 (F := Ideal) (φ := .f32) ((x / Real.log 2 : ℝ) : EReal) = ((Real.exp x : ℝ) : EReal) := by
  show ((Real.rpow 2 (x / Real.log 2) : ℝ) : EReal) = _
  congr 1
  show (2 : ℝ) ^ (x / Real.log 2) = _
  rw [Real.rpow_def_of_pos (by norm_num), mul_div_cancel₀ x log_two_pos.ne']

theorem sub_scaled (x y : ℝ) : ((x / Real.log 2 : ℝ) : EReal) - ((y / Real.log 2 : ℝ) : EReal) = (((x - y) / Real.log 2 : ℝ) : EReal) := by
  rw [← EReal.coe_sub, sub_div]

/-! ## The mask -/

theorem mask_apply (t s : Fin 64) : k0_pay3 (ix2 t s) = if s ≤ t then 1#1 else 0#1 := by
  pointwise [k0_pay3]
  revert t s
  decide +kernel

theorem tri_apply (t s : Fin 64) : (k0_pay4 (F := Ideal)) (ix2 t s) = if s ≤ t then (1 : EReal) else 0 := by
  pointwise [k0_pay4]
  rw [mask_apply]
  show (((BitVec.setWidth 32 (if s ≤ t then 1#1 else 0#1)).toInt : ℝ) : EReal) = _
  split
  · show (((1 : ℤ) : ℝ) : EReal) = 1
    norm_num
  · show (((0 : ℤ) : ℝ) : EReal) = 0
    norm_num

/-! ## The gates -/

section Rows
variable (lb : FVec Ideal S1x4096 .f32) (X0 X1 X2 : Vec Ideal S64x4096 .f32)

theorem q_apply (t : Fin 64) (j : Fin 4096) : k0_pay6 X0 (ix2 t j) = X0 (ix2 t j) * ((logis (X0 (ix2 t j)) : ℝ) : EReal) := by
  pointwise [k0_pay6]
  rw [bits_half, half_tanh_half]

theorem v_apply (t : Fin 64) (j : Fin 4096) : vR X2 (ix2 t j) = X2 (ix2 t j) := by
  pointwise [vR, k0_pay9]

theorem gate_apply {lbr : Fin 4096 → ℝ} (hlb : ∀ j, lb (ix2 0 j) = (lbr j : EReal)) (t : Fin 64) (j : Fin 4096) :
    k0_pay7 lb X1 (ix2 t j) = ((gate (lbr j) (X1 (ix2 t j)) : ℝ) : EReal) := by
  pointwise [k0_pay7]
  rw [bits_half, half_tanh_half, hlb, gate_coe]

variable {lb X1} {f : Fin 64 → Fin 4096 → ℝ}
  (hf : ∀ t j, k0_pay7 lb X1 (ix2 t j) = (f t j : EReal)) (hpos : ∀ t j, 0 < f t j)

include hf in
theorem key_apply (t : Fin 64) (j : Fin 4096) : k0_pay8 lb X1 (ix2 t j) = ((1 - f t j : ℝ) : EReal) := by
  pointwise [k0_pay8]
  rw [hf, EReal.coe_sub, EReal.coe_one]

include hf hpos in
theorem logf_apply (t : Fin 64) (j : Fin 4096) : k0_pay10 lb X1 (ix2 t j) = ((Real.log (f t j) / Real.log 2 : ℝ) : EReal) := by
  pointwise [k0_pay10]
  rw [hf, bits_two, Ideal.log_coe, Ideal.log_coe, if_neg (not_le.2 (hpos t j)), if_neg (by norm_num),
    Ideal.div_coe log_two_pos.ne', ← EReal.coe_mul, mul_one_div]

include hf hpos in
theorem hi_apply (t : Fin 64) (j : Fin 4096) : k0_pay11 lb X1 (ix2 t j) = ((Real.log (f t j) / Real.log 2 : ℝ) : EReal) := by
  pointwise [k0_pay11]
  exact logf_apply hf hpos t j

include hf hpos in
theorem rest_apply (t : Fin 64) (j : Fin 4096) : k0_pay12 lb X1 (ix2 t j) = ((0 : ℝ) : EReal) := by
  pointwise [k0_pay12]
  rw [hi_apply hf hpos, logf_apply hf hpos, ← EReal.coe_sub, sub_self]

include hf hpos in
theorem mid_apply (t : Fin 64) (j : Fin 4096) : k0_pay13 lb X1 (ix2 t j) = ((0 : ℝ) : EReal) := by
  pointwise [k0_pay13]
  exact rest_apply hf hpos t j

include hf hpos in
theorem lo_apply (t : Fin 64) (j : Fin 4096) : k0_pay14 lb X1 (ix2 t j) = ((0 : ℝ) : EReal) := by
  pointwise [k0_pay14]
  rw [mid_apply hf hpos, rest_apply hf hpos, ← EReal.coe_sub, sub_self]

/-! ## The prefix sums -/

/-- The log-gates of the rows. -/
abbrev lg (f : Fin 64 → Fin 4096 → ℝ) : Fin 64 → Fin 4096 → ℝ := fun t j => Real.log (f t j)

include hf hpos in
theorem cumR_apply (t : Fin 64) (j : Fin 4096) : cumR lb X1 (ix2 t j) = ((cum (lg f) t j / Real.log 2 : ℝ) : EReal) := by
  pointwise [cumR, k0_pay16, k0_pay15]
  simp only [tri_apply, hi_apply hf hpos, mid_apply hf hpos, lo_apply hf hpos, EReal.coe_zero, mul_zero, Finset.sum_const_zero, add_zero]
  rw [cum, Finset.sum_div, coe_sum]
  refine Finset.sum_congr rfl fun s _ => ?_
  split
  · rw [one_mul]
  · rw [zero_mul, zero_div, EReal.coe_zero]

/-! ## The decayed rows -/

/-- The prefix sum before sub-block `i`. -/
def refI (g : Fin 64 → Fin 4096 → ℝ) (i : Fin 4) (j : Fin 4096) : ℝ :=
  match i with
  | 0 => 0
  | 1 => cum g 15 j
  | 2 => cum g 31 j
  | 3 => cum g 47 j

/-- The sub-block of a row. -/
def sub (t : Fin 64) : Fin 4 := ⟨t.val / 16, by omega⟩

theorem sub_cases (t : Fin 64) : (sub t = 0 ∧ t.val < 16) ∨ (sub t = 1 ∧ 16 ≤ t.val ∧ t.val < 32)
    ∨ (sub t = 2 ∧ 32 ≤ t.val ∧ t.val < 48) ∨ (sub t = 3 ∧ 48 ≤ t.val) := by
  revert t
  decide

theorem zero_scaled : (0 : EReal) = ((0 / Real.log 2 : ℝ) : EReal) := by rw [zero_div, EReal.coe_zero]

theorem ladder {α : Type} (t : Fin 64) (x : Fin 4 → α) :
    (if _h : t.val < 16 then x 0 else if _h : t.val - 16 < 16 then x 1 else if _h : t.val - 16 - 16 < 16 then x 2 else x 3) = x (sub t) := by
  rcases sub_cases t with ⟨h, h1⟩ | ⟨h, h1, h2⟩ | ⟨h, h1, h2⟩ | ⟨h, h1⟩
  · rw [dif_pos h1, h]
  · rw [dif_neg (by omega), dif_pos (by omega), h]
  · rw [dif_neg (by omega), dif_neg (by omega), dif_pos (by omega), h]
  · rw [dif_neg (by omega), dif_neg (by omega), dif_neg (by omega), h]

include hf hpos in
theorem local_apply (t : Fin 64) (j : Fin 4096) :
    k0_pay24 k0_pay4 (k0_pay6 X0) (k0_pay13 lb X1) (k0_pay14 lb X1) (k0_pay15 lb k0_pay4 X1) zeroRows (ix2 t j)
      = k0_pay6 X0 (ix2 t j) * ((Real.exp (cum (lg f) t j - refI (lg f) (sub t) j) : ℝ) : EReal) := by
  have hM := cumR_apply hf hpos
  unfold cumR at hM
  unfold k0_pay24 k0_pay21 k0_pay22 k0_pay23 k0_pay20
  generalize k0_pay16 k0_pay4 (k0_pay13 lb X1) (k0_pay14 lb X1) (k0_pay15 lb k0_pay4 X1) zeroRows = M at hM ⊢
  pointwise []
  simp only [hM]
  congr 1
  rw [← exp2_scaled, ← sub_scaled]
  congr 2
  refine Eq.trans ?_ (ladder t fun i => ((refI (lg f) i j / Real.log 2 : ℝ) : EReal))
  rw [show ((refI (lg f) 0 j / Real.log 2 : ℝ) : EReal) = 0 from zero_scaled.symm]
  rfl

include hf hpos in
theorem aR_apply (t : Fin 64) (j : Fin 4096) :
    aR lb X0 X1 (ix2 t j) = k0_pay6 X0 (ix2 t j) * ((Real.exp (cum (lg f) t j - refI (lg f) (sub t) j) : ℝ) : EReal) := by
  pointwise [aR, k0_pay25]
  exact local_apply X0 hf hpos t j

include hf hpos in
theorem qinR_apply (t : Fin 64) (j : Fin 4096) :
    qinR lb X0 X1 (ix2 t j) = k0_pay6 X0 (ix2 t j) * ((Real.exp (cum (lg f) t j) : ℝ) : EReal) := by
  have hM := cumR_apply hf hpos
  have hl := local_apply X0 hf hpos t j
  unfold cumR at hM
  unfold qinR k0_pay26 k0_pay21 k0_pay22 k0_pay23 k0_pay20
  generalize k0_pay24 k0_pay4 (k0_pay6 X0) (k0_pay13 lb X1) (k0_pay14 lb X1) (k0_pay15 lb k0_pay4 X1) zeroRows = N at hl ⊢
  generalize k0_pay16 k0_pay4 (k0_pay13 lb X1) (k0_pay14 lb X1) (k0_pay15 lb k0_pay4 X1) zeroRows = M at hM ⊢
  pointwise []
  simp only [hM, hl, exp2_scaled]
  have hz : FloatOps.exp2 (F := Ideal) (φ := .f32) (0 : EReal) = ((Real.exp 0 : ℝ) : EReal) := by
    rw [← exp2_scaled, ← zero_scaled]
  rw [hz, mul_assoc]
  congr 1
  refine (congrArg _ (ladder t fun i => ((Real.exp (refI (lg f) i j) : ℝ) : EReal))).trans ?_
  rw [← EReal.coe_mul, ← Real.exp_add, sub_add_cancel]

include hf hpos in
theorem kendR_apply (t : Fin 64) (j : Fin 4096) :
    kendR lb X1 (ix2 t j) = ((1 - f t j : ℝ) : EReal) * ((Real.exp (cum (lg f) 63 j - cum (lg f) t j) : ℝ) : EReal) := by
  have hM := cumR_apply hf hpos
  unfold cumR at hM
  unfold kendR k0_pay18 k0_pay17
  generalize k0_pay16 k0_pay4 (k0_pay13 lb X1) (k0_pay14 lb X1) (k0_pay15 lb k0_pay4 X1) zeroRows = M at hM ⊢
  pointwise []
  simp only [hM, key_apply hf]
  rw [sub_scaled, exp2_scaled]

include hf hpos in
theorem edgeR_apply (j : Fin 4096) : edgeR lb X1 (ix2 0 j) = ((Real.exp (cum (lg f) 63 j) : ℝ) : EReal) := by
  have hM := cumR_apply hf hpos
  unfold cumR at hM
  unfold edgeR k0_pay19 k0_pay17
  generalize k0_pay16 k0_pay4 (k0_pay13 lb X1) (k0_pay14 lb X1) (k0_pay15 lb k0_pay4 X1) zeroRows = M at hM ⊢
  pointwise []
  simp only [hM, exp2_scaled]

/-! ## The clamp is not met -/

section Clamp
variable {g : Fin 64 → Fin 4096 → ℝ} (hg : ∀ t j, Bounded (g t j))

include hg in
/-- From row `a` to row `b` the prefix sum falls by at most seven bits a row. -/
theorem cum_drop {a b : Fin 64} (hab : a ≤ b) (j : Fin 4096) :
    cum g a j - cum g b j ≤ ((b.val - a.val : ℕ) : ℝ) * (7 * Real.log 2) := by
  have h : ∀ n : ℕ, ∀ b : Fin 64, b.val = a.val + n → cum g a j - cum g b j ≤ (n : ℝ) * (7 * Real.log 2) := by
    intro n
    induction n with
    | zero =>
      intro b hb
      have : b = a := Fin.ext hb
      rw [this, sub_self]; simp
    | succ n ih =>
      intro b hb
      have hlt : a.val + n < 64 := by omega
      have := ih ⟨a.val + n, hlt⟩ rfl
      have hs : cum g b j = cum g ⟨a.val + n, hlt⟩ j + g b j := by
        rw [cum, cum, ← Finset.sum_erase_add _ _ (Finset.mem_univ b), ← Finset.sum_erase_add (a := b) _ (fun s => if s ≤ (⟨a.val + n, hlt⟩ : Fin 64) then g s j else 0) (Finset.mem_univ b)]
        rw [if_pos (le_refl b), if_neg (show ¬ b ≤ ⟨a.val + n, hlt⟩ from by rw [Fin.le_def]; show ¬ b.val ≤ a.val + n; omega), add_zero]
        congr 1
        refine Finset.sum_congr rfl fun s hs => ?_
        have hne : s.val ≠ b.val := fun h => (Finset.mem_erase.1 hs).1 (Fin.ext h)
        have : s ≤ b ↔ s ≤ ⟨a.val + n, hlt⟩ := by
          rw [Fin.le_def, Fin.le_def]; show s.val ≤ b.val ↔ s.val ≤ a.val + n; omega
        simp only [this]
      have hb' := (hg b j).1
      push_cast
      rw [hs]
      linarith
  exact h (b.val - a.val) b (by have := Fin.le_def.1 hab; omega)

include hg in
theorem cum_mono {a b : Fin 64} (hab : a ≤ b) (j : Fin 4096) : cum g b j ≤ cum g a j := by
  rw [cum, cum]
  refine Finset.sum_le_sum fun s _ => ?_
  by_cases h1 : s ≤ a
  · rw [if_pos h1, if_pos (h1.trans hab)]
  · rw [if_neg h1]
    split
    · exact (hg s j).2
    · exact le_refl _

include hg in
theorem cum_zero_ge (j : Fin 4096) : -(7 * Real.log 2) ≤ cum g 0 j := by
  have : cum g 0 j = g 0 j := by
    rw [cum, Finset.sum_eq_single 0]
    · simp
    · intro s _ hs
      rw [if_neg (by rw [Fin.le_zero_iff]; exact hs)]
    · intro h; exact absurd (Finset.mem_univ _) h
  rw [this]; exact (hg 0 j).1

include hg in
theorem clamp_free (i : Fin 4) {s : Fin 64} (hs : s.val < 16 * (i.val + 1)) (j : Fin 4096) :
    (refI g i j - cum g s j) / Real.log 2 ≤ 115 := by
  rw [div_le_iff₀ log_two_pos]
  have hl := log_two_pos
  have key : ∀ a : Fin 64, a.val + 16 = 16 * (i.val + 1) - 1 → cum g a j - cum g s j ≤ 115 * Real.log 2 := by
    intro a ha
    by_cases h : a ≤ s
    · refine (cum_drop hg h j).trans ?_
      have : ((s.val - a.val : ℕ) : ℝ) ≤ 16 := by exact_mod_cast (by omega : s.val - a.val ≤ 16)
      nlinarith
    · have := cum_mono hg (le_of_not_ge h) j
      nlinarith
  match i with
  | 0 =>
    show (0 : ℝ) - cum g s j ≤ 115 * Real.log 2
    have h1 := cum_drop hg (Fin.zero_le s) j
    have h2 := cum_zero_ge hg j
    have : ((s.val - (0 : Fin 64).val : ℕ) : ℝ) ≤ 15 := by
      have hs' : s.val < 16 := hs
      exact_mod_cast (by show s.val - 0 ≤ 15; omega : s.val - (0 : Fin 64).val ≤ 15)
    nlinarith
  | 1 => exact key 15 rfl
  | 2 => exact key 31 rfl
  | 3 => exact key 47 rfl

include hg in
theorem clamped (i : Fin 4) {s : Fin 64} (hs : s.val < 16 * (i.val + 1)) (j : Fin 4096) :
    FloatOps.exp2 (F := Ideal) (φ := .f32) (min (((refI g i j / Real.log 2 : ℝ) : EReal) - ((cum g s j / Real.log 2 : ℝ) : EReal)) ((115 : ℝ) : EReal))
      = ((Real.exp (refI g i j - cum g s j) : ℝ) : EReal) := by
  rw [sub_scaled, min_eq_left (EReal.coe_le_coe_iff.2 (clamp_free hg i hs j)), exp2_scaled]

end Clamp

/-! ## The keys decayed to a sub-block's start -/

/-- Sub-block `i`'s keys. -/
def bR (lb : FVec Ideal S1x4096 .f32) (X1 : Vec Ideal S64x4096 .f32) (i : Fin 4) : FVec Ideal S64x4096 .bf16 :=
  match i with
  | 0 => b0R lb X1
  | 1 => b1R lb X1
  | 2 => b2R lb X1
  | 3 => b3R lb X1

variable (hg : ∀ t j, Bounded (lg f t j))

include hf hpos hg in
theorem bR_apply (i : Fin 4) {s : Fin 64} (hs : s.val < 16 * (i.val + 1)) (j : Fin 4096) :
    bR lb X1 i (ix2 s j) = ((1 - f s j : ℝ) : EReal) * ((Real.exp (refI (lg f) i j - cum (lg f) s j) : ℝ) : EReal) := by
  have hM := cumR_apply hf hpos
  have hc := clamped hg i hs j
  match i with
  | 0 =>
    show b0R lb X1 (ix2 s j) = _
    unfold cumR at hM
    unfold b0R k0_pay27 k0_pay20
    generalize k0_pay16 k0_pay4 (k0_pay13 lb X1) (k0_pay14 lb X1) (k0_pay15 lb k0_pay4 X1) zeroRows = M at hM ⊢
    pointwise []
    rw [dif_pos (show s.val < 16 from hs), hM, key_apply hf, bits_115, ← hc]
    congr 4
    exact zero_scaled
  | 1 =>
    show b1R lb X1 (ix2 s j) = _
    unfold cumR at hM
    unfold b1R k0_pay30 k0_pay28 k0_pay29 k0_pay21
    generalize k0_pay16 k0_pay4 (k0_pay13 lb X1) (k0_pay14 lb X1) (k0_pay15 lb k0_pay4 X1) zeroRows = M at hM ⊢
    pointwise []
    rw [dif_pos (show s.val < 32 from hs), hM, hM, key_apply hf, bits_115, ← hc]
    rfl
  | 2 =>
    show b2R lb X1 (ix2 s j) = _
    unfold b2R k0_pay31 k0_pay22
    unfold cumR at hM ⊢
    generalize k0_pay16 k0_pay4 (k0_pay13 lb X1) (k0_pay14 lb X1) (k0_pay15 lb k0_pay4 X1) zeroRows = M at hM ⊢
    pointwise []
    rw [dif_pos (show s.val < 48 from hs), hM, hM, key_apply hf, bits_115, ← hc]
    rfl
  | 3 =>
    show b3R lb X1 (ix2 s j) = _
    unfold b3R k0_pay32 k0_pay23
    unfold cumR at hM ⊢
    generalize k0_pay16 k0_pay4 (k0_pay13 lb X1) (k0_pay14 lb X1) (k0_pay15 lb k0_pay4 X1) zeroRows = M at hM ⊢
    pointwise []
    rw [hM, hM, key_apply hf, bits_115, ← hc]
    rfl

end Rows

end Cert.KernelIdeal.Scan

end
-- ==== Proof.KChunk.lean ====
/- One chunk of the scan over the extended reals, at an index: the kernel's scores, output and next state are the chunk functions
   of Spec.lean (`score`, `out`, `nxt`). -/
module

public import proofs.«01_k».proof.Proof.KRows
public import Idealize.ShloMosaic.Lib.Pipeline.Value

@[expose] public section

set_option maxRecDepth 16384

noncomputable section

namespace Cert.KernelIdeal.Scan

open Cert.KernelIdeal Cert.KernelIdeal.Gen Idealize.ShloMosaic Cert.Scan

/-! ## The lower bound's row -/

/-- The first entry of a softmax of two, shifted by any real. -/
theorem softmax_pair (a b m : ℝ) :
    Ideal.div (Ideal.exp ((a : EReal) - (m : EReal))) (Ideal.exp ((a : EReal) - (m : EReal)) + Ideal.exp ((b : EReal) - (m : EReal)))
      = ((share a b : ℝ) : EReal) := by
  have ha : Real.exp (a - m) = Real.exp a * Real.exp (-m) := by rw [← Real.exp_add]; rfl
  have hb : Real.exp (b - m) = Real.exp b * Real.exp (-m) := by rw [← Real.exp_add]; rfl
  have hp : (0 : ℝ) < Real.exp a + Real.exp b := by positivity
  rw [← EReal.coe_sub, ← EReal.coe_sub, Ideal.exp_coe, Ideal.exp_coe, ← EReal.coe_add, Ideal.div_coe (by positivity), ← EReal.coe_mul,
    mul_one_div, share, ha, hb, ← add_mul, mul_div_mul_right _ _ (Real.exp_pos _).ne']

theorem fold_max_pair (f : Fin 2 → EReal) : Finset.univ.fold max ⊥ f = max (f 0) (f 1) := by
  rw [show (Finset.univ : Finset (Fin 2)) = {0, 1} from rfl, Finset.fold_insert (by decide), Finset.fold_singleton, max_bot_right]

theorem lbRow_apply (x : Vec Ideal S2x4096 .f32) (L : Fin 2 → Fin 4096 → ℝ) (hL : ∀ i j, x (ix2 i j) = (L i j : EReal)) (j : Fin 4096) :
    lbRow x (ix2 0 j) = ((share (L 0 j) (L 1 j) : ℝ) : EReal) := by
  pointwise [lbRow, k0_pay2]
  rw [Fin.sum_univ_two, Fin.sum_univ_one, bits_neg_inf, fold_max_pair]
  simp only [hL]
  rw [← EReal.coe_strictMono.monotone.map_max]
  exact softmax_pair _ _ _

/-! ## Scores, output, state -/

theorem select_one {α : Type} (a b : α) : Scalar.select 1#1 a b = a := rfl
theorem select_zero {α : Type} (a b : α) : Scalar.select 0#1 a b = b := rfl

set_option maxHeartbeats 2000000 in
/-- The product of the padded queries and the keys side by side is that at the query's sub-block. -/
theorem scoreH_raw (h : Fin 32) (a : FVec Ideal S64x4096 .bf16) (b : Fin 4 → FVec Ideal S64x4096 .bf16) (t s : Fin 64) :
    scoreH h a (b 0) (b 1) (b 2) (b 3) (ix2 t s)
      = Scalar.select (k0_pay3 (ix2 t s)) (∑ d : Fin 128, a (ix2 t (hd h d)) * b (sub t) (ix2 s (hd h d)) : EReal) 0 := by
  pointwise [scoreH, cat4, headC, pad0, pad1, pad2, pad3, sumSplitAll]
  refine congrArg (fun z => Scalar.select (k0_pay3 (ix2 t s)) z (0 : EReal)) ?_
  have row : ∀ (n : ℕ) (hn : n ≤ t.val) (hlt : n + (t.val - n) < 64), (⟨n + (t.val - n), hlt⟩ : Fin 64) = t :=
    fun n hn _ => Fin.ext (by show n + (t.val - n) = t.val; omega)
  rcases sub_cases t with ⟨he, h1⟩ | ⟨he, h1, h2⟩ | ⟨he, h1, h2⟩ | ⟨he, h1⟩ <;> rw [he]
  · have c2 : t.val < 32 := by omega
    have c3 : t.val < 48 := by omega
    simp only [h1, c2, c3, dite_true, zero_mul, Finset.sum_const_zero, add_zero]
    exact Finset.sum_congr rfl fun _ _ => rfl
  · have c1 : ¬ t.val < 16 := by omega
    have c1' : t.val - 16 < 16 := by omega
    have c3 : t.val < 48 := by omega
    simp only [c1, c1', h2, c3, dite_true, dite_false, zero_mul, Finset.sum_const_zero, add_zero, zero_add, row 16 h1]
    exact Finset.sum_congr rfl fun _ _ => rfl
  · have c1 : ¬ t.val < 16 := by omega
    have c1' : ¬ t.val - 16 < 16 := by omega
    have c2 : ¬ t.val < 32 := by omega
    have c2' : t.val - 32 < 16 := by omega
    simp only [c1, c1', c2, c2', h2, dite_true, dite_false, zero_mul, Finset.sum_const_zero, add_zero, zero_add, row 32 h1]
    exact Finset.sum_congr rfl fun _ _ => rfl
  · have c1 : ¬ t.val < 16 := by omega
    have c1' : ¬ t.val - 16 < 16 := by omega
    have c2 : ¬ t.val < 32 := by omega
    have c2' : ¬ t.val - 32 < 16 := by omega
    have c3 : ¬ t.val < 48 := by omega
    simp only [c1, c1', c2, c2', c3, dite_false, zero_mul, Finset.sum_const_zero, add_zero, zero_add, row 48 h1]
    exact Finset.sum_congr rfl fun _ _ => rfl

section Chunk
variable {lb : FVec Ideal S1x4096 .f32} {X0 X1 X2 : Vec Ideal S64x4096 .f32} {f : Fin 64 → Fin 4096 → ℝ}
  (hf : ∀ t j, k0_pay7 lb X1 (ix2 t j) = (f t j : EReal)) (hpos : ∀ t j, 0 < f t j) (hg : ∀ t j, Bounded (lg f t j))
  {q v : Fin 64 → Fin 4096 → EReal} (hq : ∀ t j, k0_pay6 X0 (ix2 t j) = q t j) (hv : ∀ t j, X2 (ix2 t j) = v t j)

/-- The keys. -/
abbrev ks (f : Fin 64 → Fin 4096 → ℝ) : Fin 64 → Fin 4096 → EReal := fun t j => ((1 - f t j : ℝ) : EReal)

include hf hpos hg hq in
/-- A query's and a key's product, the decay split at the query's sub-block. -/
theorem pair_apply (t s : Fin 64) (hst : s ≤ t) (j : Fin 4096) :
    aR lb X0 X1 (ix2 t j) * bR lb X1 (sub t) (ix2 s j) = q t j * ks f s j * ((Real.exp (cum (lg f) t j - cum (lg f) s j) : ℝ) : EReal) := by
  have hs : s.val < 16 * ((sub t).val + 1) := by
    have h1 : (sub t).val = t.val / 16 := rfl
    have h2 : s.val ≤ t.val := Fin.le_def.1 hst
    omega
  rw [aR_apply X0 hf hpos, bR_apply hf hpos hg (sub t) hs, hq]
  have e : Real.exp (cum (lg f) t j - cum (lg f) s j)
      = Real.exp (cum (lg f) t j - refI (lg f) (sub t) j) * Real.exp (refI (lg f) (sub t) j - cum (lg f) s j) := by
    rw [← Real.exp_add, sub_add_sub_cancel]
  rw [e, EReal.coe_mul, mul_mul_mul_comm]

include hf hpos hg hq in
theorem scoreH_apply (h : Fin 32) (t s : Fin 64) :
    scoreH h (aR lb X0 X1) (b0R lb X1) (b1R lb X1) (b2R lb X1) (b3R lb X1) (ix2 t s) = score q (ks f) (lg f) h t s := by
  refine (scoreH_raw h (aR lb X0 X1) (bR lb X1) t s).trans ?_
  rw [mask_apply, score]
  by_cases hst : s ≤ t
  · rw [if_pos hst, if_pos hst, select_one]
    exact Finset.sum_congr rfl fun d _ => pair_apply hf hpos hg hq t s hst (hd h d)
  · rw [if_neg hst, if_neg hst, select_zero]

variable (S : Fin 32 → Vec Ideal S1x128x128 .f32) {st : Fin 32 → Fin 128 → Fin 128 → EReal} (hS : ∀ h e d, S h (ix3 0 e d) = st h e d)

include hf hpos hg hq hv hS in
theorem outH_apply (h : Fin 32) (t : Fin 64) (e : Fin 128) :
    outH lb X0 X1 X2 S h (ix2 t e) = out q (ks f) v (lg f) st h t e := by
  rw [outH, out]
  have hs := fun s => scoreH_apply hf hpos hg hq h t s
  have hn := fun j => (qinR_apply X0 hf hpos t j).trans (by rw [hq])
  have hvv := fun s j => (v_apply X2 s j).trans (hv s j)
  unfold outHead
  generalize scoreH h (aR lb X0 X1) (b0R lb X1) (b1R lb X1) (b2R lb X1) (b3R lb X1) = sc at hs ⊢
  generalize qinR lb X0 X1 = qi at hn ⊢
  generalize vR X2 = vr at hvv ⊢
  pointwise [headC, sq]
  congr 1
  · refine Finset.sum_congr rfl fun d _ => ?_
    rw [← hS]
    exact congrArg (· * _) (hn (hd h d))
  · refine Finset.sum_congr rfl fun s _ => ?_
    rw [hs]
    exact congrArg (_ * ·) (hvv s (hd h e))

include hf hpos hv hS in
theorem stH_apply (h : Fin 32) (e d : Fin 128) :
    stH lb X1 X2 S h (ix3 0 e d) = nxt (ks f) v (lg f) st h e d := by
  rw [stH, nxt]
  have he := fun j => edgeR_apply hf hpos j
  have hk := fun s j => kendR_apply hf hpos s j
  have hvv := fun s j => (v_apply X2 s j).trans (hv s j)
  unfold stHead
  generalize edgeR lb X1 = ed at he ⊢
  generalize kendR lb X1 = ke at hk ⊢
  generalize vR X2 = vr at hvv ⊢
  pointwise [headC, sq]
  rw [hS]
  congr 1
  · exact congrArg (_ * ·) (he (hd h d))
  · refine Finset.sum_congr rfl fun s _ => ?_
    exact congrArg₂ (· * ·) (hvv s (hd h e)) (hk s (hd h d))

end Chunk

/-! ## The heads side by side -/

theorem outAll_apply (o : Fin 32 → FVec Ideal S64x128 .f32) (t : Fin 64) (j : Fin 4096) :
    outAll o (ix2 t j) = o ⟨j.val / 128, by omega⟩ (ix2 t ⟨j.val % 128, by omega⟩) := by
  have hc : Shape.Concatenates ((List.ofFn fun n : Fin 32 => (⟨S64x128, o n⟩ : (s : Shape) × (s.Idx → Ideal .f32))).map (·.1)) S64x4096 1 := by
    rw [List.map_ofFn]
    change Shape.Concatenates (List.ofFn fun _ : Fin 32 => S64x128) S64x4096 1
    decide +kernel
  refine (show _ = concatenate S64x4096 1 (List.ofFn fun n : Fin 32 => (⟨S64x128, o n⟩ : (s : Shape) × (s.Idx → Ideal .f32))) hc (ix2 t j) from rfl).trans ?_
  refine concatenate_ofFn_apply (s₁ := S64x128) 1 o hc rfl 128 rfl (ix2 t j) ⟨j.val / 128, by omega⟩ rfl (ix2 t ⟨j.val % 128, by omega⟩) rfl ?_
  intro b hb
  match b with
  | ⟨0, _⟩ => rfl
  | ⟨1, _⟩ => exact absurd rfl hb

end Cert.KernelIdeal.Scan

end
-- ==== Proof.KScan.lean ====
/- The kernel's output over the extended reals: the scan of Spec.lean, of the array arguments. -/
module

public import proofs.«01_k».proof.Proof.KChunk
public import proofs.«01_k».proof.Proof.Run
public import Idealize.ShloMosaic.Lib.StableHlo.ReadAt

@[expose] public section

set_option maxRecDepth 16384

noncomputable section

namespace Cert.KernelIdeal.Scan

open Cert.KernelIdeal Cert.KernelIdeal.Gen Idealize.ShloMosaic Idealize.ShloMosaic.TcCoe Cert.Scan
open Idealize.SL.Sem

variable (m : (ℓ : Loc nD τ sig) → Buf (Elt Ideal) ℓ) (c : Dev nD)

/-! ## The blocks, from the arrays -/

/-- The projections. -/
def arrA (c : Dev nD) (r : Fin 16384) (j : Fin 20480) : EReal := (m ((c.tc : Thread nD τ).loc main_arg0) : Vec Ideal S16384x20480 .f32) (ix2 r j)

theorem in_index : ∀ t : Fin cfg0.N, (win0_0.index t (0 : Fin 2) = t.val ∧ win0_0.index t (1 : Fin 2) = 0)
    ∧ (win0_1.index t (0 : Fin 2) = t.val ∧ win0_1.index t (1 : Fin 2) = 1)
    ∧ (win0_2.index t (0 : Fin 2) = t.val ∧ win0_2.index t (1 : Fin 2) = 3)
    ∧ (win0_3.index t (0 : Fin 2) = 0 ∧ win0_3.index t (1 : Fin 2) = 0) :=
  (by decide +kernel : ∀ t : Fin grid0.N, (win0_0.index t (0 : Fin 2) = t.val ∧ win0_0.index t (1 : Fin 2) = 0)
    ∧ (win0_1.index t (0 : Fin 2) = t.val ∧ win0_1.index t (1 : Fin 2) = 1)
    ∧ (win0_2.index t (0 : Fin 2) = t.val ∧ win0_2.index t (1 : Fin 2) = 3)
    ∧ (win0_3.index t (0 : Fin 2) = 0 ∧ win0_3.index t (1 : Fin 2) = 0))

/-- Row `r` of point `t`'s blocks. -/
def rowAt (t : Fin cfg0.N) (r : Fin 256) : Fin 16384 := ⟨256 * t.val + r.val, by
  have : t.val < 64 := lt_of_lt_of_eq t.isLt (show cfg0.N = 64 from N_0); omega⟩

theorem blkQ_apply (t : Fin cfg0.N) (r : Fin 256) (j : Fin 4096) : blkQ m c t (ix2 r j) = arrA m c (rowAt t r) ⟨j.val, by omega⟩ := by
  obtain ⟨e0, e1⟩ := (in_index t).1
  have hb0 : (((cfg0.win 0).blk t).view.emb (ix2 r j) 0).val = win0_0.index t (0 : Fin 2) * 256 + 1 * r.val := rfl
  have hb1 : (((cfg0.win 0).blk t).view.emb (ix2 r j) 1).val = win0_0.index t (1 : Fin 2) * 4096 + 1 * j.val := rfl
  rw [e0] at hb0; rw [e1] at hb1
  refine (congrFun (V_main_arg0 m c) (((cfg0.win 0).blk t).view.emb (ix2 r j))).trans ?_
  unfold arrA
  refine congrArg (m ((c.tc : Thread nD τ).loc main_arg0) : Vec Ideal S16384x20480 .f32) ?_
  funext a; apply Fin.ext
  match a with
  | ⟨0, _⟩ => refine hb0.trans ?_; show _ = 256 * t.val + r.val; omega
  | ⟨1, _⟩ => refine hb1.trans ?_; show _ = j.val; omega

theorem blkG_apply (t : Fin cfg0.N) (r : Fin 256) (j : Fin 4096) : blkG m c t (ix2 r j) = arrA m c (rowAt t r) ⟨4096 + j.val, by omega⟩ := by
  obtain ⟨e0, e1⟩ := (in_index t).2.1
  have hb0 : (((cfg0.win 1).blk t).view.emb (ix2 r j) 0).val = win0_1.index t (0 : Fin 2) * 256 + 1 * r.val := rfl
  have hb1 : (((cfg0.win 1).blk t).view.emb (ix2 r j) 1).val = win0_1.index t (1 : Fin 2) * 4096 + 1 * j.val := rfl
  rw [e0] at hb0; rw [e1] at hb1
  refine (congrFun (V_main_arg0 m c) (((cfg0.win 1).blk t).view.emb (ix2 r j))).trans ?_
  unfold arrA
  refine congrArg (m ((c.tc : Thread nD τ).loc main_arg0) : Vec Ideal S16384x20480 .f32) ?_
  funext a; apply Fin.ext
  match a with
  | ⟨0, _⟩ => refine hb0.trans ?_; show _ = 256 * t.val + r.val; omega
  | ⟨1, _⟩ => refine hb1.trans ?_; show _ = 4096 + j.val; omega

theorem blkV_apply (t : Fin cfg0.N) (r : Fin 256) (j : Fin 4096) : blkV m c t (ix2 r j) = arrA m c (rowAt t r) ⟨12288 + j.val, by omega⟩ := by
  obtain ⟨e0, e1⟩ := (in_index t).2.2.1
  have hb0 : (((cfg0.win 2).blk t).view.emb (ix2 r j) 0).val = win0_2.index t (0 : Fin 2) * 256 + 1 * r.val := rfl
  have hb1 : (((cfg0.win 2).blk t).view.emb (ix2 r j) 1).val = win0_2.index t (1 : Fin 2) * 4096 + 1 * j.val := rfl
  rw [e0] at hb0; rw [e1] at hb1
  refine (congrFun (V_main_arg0 m c) (((cfg0.win 2).blk t).view.emb (ix2 r j))).trans ?_
  unfold arrA
  refine congrArg (m ((c.tc : Thread nD τ).loc main_arg0) : Vec Ideal S16384x20480 .f32) ?_
  funext a; apply Fin.ext
  match a with
  | ⟨0, _⟩ => refine hb0.trans ?_; show _ = 256 * t.val + r.val; omega
  | ⟨1, _⟩ => refine hb1.trans ?_; show _ = 12288 + j.val; omega

theorem logits_apply (i : Fin 2) (j : Fin 4096) :
    (V m c main_v1 : Vec Ideal S2x4096 .f32) (ix2 i j) = (m ((c.tc : Thread nD τ).loc main_arg1) : Vec Ideal S2x2x4096 .f32) (ix3 0 i j) := by
  unfold V
  after_reads_at
  all_goals rfl

theorem blkL_apply (t : Fin cfg0.N) (i : Fin 2) (j : Fin 4096) :
    blkL m c t (ix2 i j) = (m ((c.tc : Thread nD τ).loc main_arg1) : Vec Ideal S2x2x4096 .f32) (ix3 0 i j) := by
  obtain ⟨e0, e1⟩ := (in_index t).2.2.2
  have hb0 : (((cfg0.win 3).blk t).view.emb (ix2 i j) 0).val = win0_3.index t (0 : Fin 2) * 2 + 1 * i.val := rfl
  have hb1 : (((cfg0.win 3).blk t).view.emb (ix2 i j) 1).val = win0_3.index t (1 : Fin 2) * 4096 + 1 * j.val := rfl
  rw [e0] at hb0; rw [e1] at hb1
  refine Eq.trans ?_ (logits_apply m c i j)
  show (V m c main_v1 : Vec Ideal S2x4096 .f32) (((cfg0.win 3).blk t).view.emb (ix2 i j)) = _
  refine congrArg (V m c main_v1 : Vec Ideal S2x4096 .f32) ?_
  funext a; apply Fin.ext
  match a with
  | ⟨0, _⟩ => refine hb0.trans ?_; show _ = i.val; omega
  | ⟨1, _⟩ => refine hb1.trans ?_; show _ = j.val; omega

/-! ## A chunk's rows -/

section Values
variable {L : Fin 2 → Fin 4096 → ℝ} (hL : ∀ i j, (m ((c.tc : Thread nD τ).loc main_arg1) : Vec Ideal S2x2x4096 .f32) (ix3 0 i j) = (L i j : EReal))
  (hsm : Small L)

/-- The scan's row arrays. -/
abbrev Q := qOf (arrA m c)
abbrev K (L : Fin 2 → Fin 4096 → ℝ) := kOf (arrA m c) L
abbrev W := vOf (arrA m c)
abbrev G (L : Fin 2 → Fin 4096 → ℝ) := gOf (arrA m c) L

/-- Chunk `k` of point `t`, among all chunks. -/
def chunkNo (t : Fin cfg0.N) (k : Fin k0_t1_loop.trips) : ℕ := 4 * t.val + k.val

theorem row_chunk (t : Fin cfg0.N) (k : Fin k0_t1_loop.trips) (s : Fin 64) (h : 64 * k.val + s.val < 256) :
    rowAt t ⟨64 * k.val + s.val, h⟩ = tok (chunkNo t k) s := by
  have ht : t.val < 64 := lt_of_lt_of_eq t.isLt (show cfg0.N = 64 from N_0)
  have hk : k.val < 4 := lt_of_lt_of_eq k.isLt trips_four
  apply Fin.ext
  show 256 * t.val + (64 * k.val + s.val) = 64 * min (4 * t.val + k.val) 255 + s.val
  omega

theorem rowsV_apply (X : Vec Ideal S256x4096 .f32) (k : Fin k0_t1_loop.trips) (s : Fin 64) (j : Fin 4096) (h : 64 * k.val + s.val < 256) :
    rowsV X k (ix2 s j) = X (ix2 ⟨64 * k.val + s.val, h⟩ j) := by
  refine congrArg X ?_
  funext a; apply Fin.ext
  match a with
  | ⟨0, _⟩ => show 64 * k.val + 1 * s.val = 64 * k.val + s.val; omega
  | ⟨1, _⟩ => show 0 + 1 * j.val = j.val; omega

theorem in_block (k : Fin k0_t1_loop.trips) (s : Fin 64) : 64 * k.val + s.val < 256 := by
  have hk : k.val < 4 := lt_of_lt_of_eq k.isLt trips_four
  omega

theorem rowsQ_apply (t : Fin cfg0.N) (k : Fin k0_t1_loop.trips) (s : Fin 64) (j : Fin 4096) :
    k0_pay6 (rowsV (blkQ m c t) k) (ix2 s j) = Cert.Scan.rowsOf (Q m c) (chunkNo t k) s j := by
  rw [q_apply, rowsV_apply _ _ _ _ (in_block k s), blkQ_apply, row_chunk]
  rfl

theorem rowsW_apply (t : Fin cfg0.N) (k : Fin k0_t1_loop.trips) (s : Fin 64) (j : Fin 4096) :
    rowsV (blkV m c t) k (ix2 s j) = Cert.Scan.rowsOf (W m c) (chunkNo t k) s j := by
  rw [rowsV_apply _ _ _ _ (in_block k s), blkV_apply, row_chunk]
  rfl

include hL in
theorem rowsF_apply (t : Fin cfg0.N) (k : Fin k0_t1_loop.trips) (s : Fin 64) (j : Fin 4096) :
    k0_pay7 (lbRow (blkL m c t)) (rowsV (blkG m c t) k) (ix2 s j) = ((Cert.Scan.rowsOf (gateOf (arrA m c) L) (chunkNo t k) s j : ℝ) : EReal) := by
  have hlb : ∀ j, lbRow (blkL m c t) (ix2 0 j) = ((share (L 0 j) (L 1 j) : ℝ) : EReal) := lbRow_apply _ L fun i j => (blkL_apply m c t i j).trans (hL i j)
  rw [gate_apply _ _ (lbr := fun j => share (L 0 j) (L 1 j)) hlb, rowsV_apply _ _ _ _ (in_block k s), blkG_apply, row_chunk]
  rfl

theorem planeV_apply (S : Vec Ideal S32x128x128 .f32) (h : Fin 32) (e d : Fin 128) : planeV S h (ix3 0 e d) = S (ix3 h e d) := by
  refine congrArg S ?_
  funext a; apply Fin.ext
  match a with
  | ⟨0, _⟩ => show h.val + 1 * 0 = h.val; omega
  | ⟨1, _⟩ => show 0 + 1 * e.val = e.val; omega
  | ⟨2, _⟩ => show 0 + 1 * d.val = d.val; omega

include hL hsm in
theorem stNext_apply (t : Fin cfg0.N) (k : Fin k0_t1_loop.trips) (S : Vec Ideal S32x128x128 .f32) (st : Fin 32 → Fin 128 → Fin 128 → EReal)
    (hS : ∀ h e d, S (ix3 h e d) = st h e d) (h : Fin 32) (e d : Fin 128) :
    stNext (lbRow (blkL m c t)) (blkG m c t) (blkV m c t) k S (ix3 h e d)
      = nxt (Cert.Scan.rowsOf (K m c L) (chunkNo t k)) (Cert.Scan.rowsOf (W m c) (chunkNo t k)) (Cert.Scan.rowsOf (G m c L) (chunkNo t k)) st h e d :=
  stH_apply (f := Cert.Scan.rowsOf (gateOf (arrA m c) L) (chunkNo t k)) (rowsF_apply m c hL t k) (fun _ _ => gateOf_pos hsm _ _)
    (rowsW_apply m c t k) (planeV S) (fun h e d => (planeV_apply S h e d).trans (hS h e d)) h e d

/-! ## The state -/

include hL hsm in
theorem stAt_apply (t : Fin cfg0.N) (S : Vec Ideal S32x128x128 .f32) (hS : ∀ h e d, S (ix3 h e d) = state (K m c L) (W m c) (G m c L) (4 * t.val) h e d)
    (n : ℕ) (hn : n ≤ k0_t1_loop.trips) (h : Fin 32) (e d : Fin 128) :
    stAt (lbRow (blkL m c t)) (blkG m c t) (blkV m c t) S n (ix3 h e d) = state (K m c L) (W m c) (G m c L) (4 * t.val + n) h e d := by
  induction n generalizing h e d with
  | zero => exact hS h e d
  | succ n ih =>
    rw [stAt_succ _ _ _ _ ⟨n, hn⟩]
    exact stNext_apply m c hL hsm t ⟨n, hn⟩ _ _ (fun h e d => ih (Nat.le_of_lt hn) h e d) h e d

include hL hsm in
theorem ptState_apply (n : ℕ) (hn : n ≤ cfg0.N) (h : Fin 32) (e d : Fin 128) :
    ptState m c n (ix3 h e d) = state (K m c L) (W m c) (G m c L) (4 * n) h e d := by
  induction n generalizing h e d with
  | zero =>
    show (st0 : Vec Ideal S32x128x128 .f32) (ix3 h e d) = 0
    pointwise [st0, k0_pay1]
  | succ n ih =>
    rw [ptState_succ m c ⟨n, hn⟩, stAt_apply m c hL hsm ⟨n, hn⟩ _ (fun h e d => ih (Nat.le_of_lt hn) h e d) _ (le_refl _), trips_four]
    rfl

/-! ## The output -/

include hL hsm in
theorem scanOut_apply (r : Fin 16384) (j : Fin 4096) : scanOut m c (ix2 r j) = Cert.Scan.scan (arrA m c) L r j := by
  set t : Fin cfg0.N := pointOf r with ht
  have htv : t.val = r.val / 256 := rfl
  show outBlk (lbRow (blkL m c t)) (blkQ m c t) (blkG m c t) (blkV m c t) (ptState m c t.val) (ix2 (⟨r.val % 256, Nat.mod_lt _ (by decide)⟩ : Fin 256) j) = _
  set k : Fin k0_t1_loop.trips := chunkOf ⟨r.val % 256, Nat.mod_lt _ (by decide)⟩ with hk
  have hkv : k.val = r.val % 256 / 64 := rfl
  show outChunk (lbRow (blkL m c t)) (blkQ m c t) (blkG m c t) (blkV m c t) (ptState m c t.val) k (ix2 (⟨r.val % 256 % 64, Nat.mod_lt _ (by decide)⟩ : Fin 64) j) = _
  have hno : chunkNo t k = r.val / 64 := by show 4 * t.val + k.val = _; rw [htv, hkv]; omega
  have hrow : (⟨r.val % 256 % 64, Nat.mod_lt _ (by decide)⟩ : Fin 64) = ⟨r.val % 64, by omega⟩ := Fin.ext (by show r.val % 256 % 64 = r.val % 64; omega)
  rw [hrow]
  unfold outChunk
  rw [outAll_apply]
  refine (outH_apply (f := Cert.Scan.rowsOf (gateOf (arrA m c) L) (chunkNo t k)) (rowsF_apply m c hL t k) (fun _ _ => gateOf_pos hsm _ _)
    (fun _ _ => gOf_bounded hsm _ _) (rowsQ_apply m c t k) (rowsW_apply m c t k) _
    (fun h e d => (planeV_apply _ h e d).trans (stAt_apply m c hL hsm t _ (fun h e d => ptState_apply m c hL hsm t.val t.isLt.le h e d) k.val k.isLt.le h e d)) _ _ _).trans ?_
  unfold Cert.Scan.scan result
  rw [← hno]
  rfl

end Values

end Cert.KernelIdeal.Scan

end
-- ==== Proof.RSums.lean ====
/- The host's prefix sum along one axis, over the extended reals: a window of the axis' whole extent, padded low by one
   less, sums the entries up to and with its own. -/
module

public import Idealize.ShloMosaic.PureOps.Ideal
public import Idealize.ShloMosaic.Lib.Pointwise

@[expose] public section

noncomputable section

namespace Cert.Scan

open Idealize.ShloMosaic

theorem foldl_add {α : Type} (l : List α) (f : α → EReal) (v : EReal) : l.foldl (fun r n => r + f n) v = v + (l.map f).sum := by
  induction l generalizing v with
  | nil => simp
  | cons a l ih => rw [List.foldl_cons, ih, List.map_cons, List.sum_cons, add_assoc]

/-- The fold over a window's positions from zero, a sum over its indices. -/
theorem fold_positions (W : Shape) (f : W.Idx → EReal) :
    (List.finRange W.numel).foldl (fun r n => r + f (W.rowMajor.symm n)) 0 = ∑ i : W.Idx, f i := by
  rw [foldl_add (List.finRange W.numel) (fun n => f (W.rowMajor.symm n)), zero_add, ← Fin.sum_univ_def]
  exact Equiv.sum_comp W.rowMajor.symm f

/-- A window of `n + 1` ending at `t`, positions before the first left out. -/
theorem sum_window {n : ℕ} (x : Fin (n + 1) → EReal) (t : Fin (n + 1)) :
    (∑ w : Fin (n + 1), if h : n ≤ t.val + w.val then x ⟨t.val + w.val - n, by omega⟩ else 0) = ∑ s : Fin (n + 1), if s ≤ t then x s else 0 := by
  have e : ∀ w : Fin (n + 1), (if h : n ≤ t.val + w.val then x ⟨t.val + w.val - n, by omega⟩ else 0)
      = if n ≤ t.val + w.val then x ⟨t.val + w.val - n, by omega⟩ else 0 := fun w => by split <;> rfl
  rw [Finset.sum_congr rfl fun w _ => e w, ← Finset.sum_filter, ← Finset.sum_filter]
  refine Finset.sum_bij' (fun w _ => ⟨t.val + w.val - n, by omega⟩) (fun s hs => ⟨min (s.val + n - t.val) n, by omega⟩) ?_ ?_ ?_ ?_ ?_
  · intro w hw
    rw [Finset.mem_filter] at hw ⊢
    refine ⟨Finset.mem_univ _, ?_⟩
    show t.val + w.val - n ≤ t.val
    omega
  · intro s hs
    rw [Finset.mem_filter] at hs ⊢
    have h : s.val ≤ t.val := hs.2
    refine ⟨Finset.mem_univ _, ?_⟩
    show n ≤ t.val + min (s.val + n - t.val) n
    omega
  · intro w hw
    rw [Finset.mem_filter] at hw
    have := hw.2
    apply Fin.ext
    show min (t.val + w.val - n + n - t.val) n = w.val
    omega
  · intro s hs
    rw [Finset.mem_filter] at hs
    have h : s.val ≤ t.val := hs.2
    apply Fin.ext
    show t.val + min (s.val + n - t.val) n - n = s.val
    omega
  · intro w hw; rfl

/-- The prefix sum along axis 1 of four. -/
theorem cumsum4 {n B H D : ℕ} (x : (⟨4, ![B, n + 1, H, D]⟩ : Shape).Idx → EReal)
    (hw : (⟨4, ![B, n + 1, H, D]⟩ : Shape).ReduceWindows (![1, n + 1, 1, 1] : Fin 4 → ℕ) ![1, 1, 1, 1] ![0, n, 0, 0] ![0, 0, 0, 0] ⟨4, ![B, n + 1, H, D]⟩)
    (b : Fin B) (t : Fin (n + 1)) (h : Fin H) (d : Fin D) :
    Ideal.hostReduceWindowAdd (s := ⟨4, ![B, n + 1, H, D]⟩) ![1, n + 1, 1, 1] ![1, 1, 1, 1] ![0, n, 0, 0] ![0, 0, 0, 0] hw x 0 (ix4 b t h d)
      = ∑ s : Fin (n + 1), if s ≤ t then x (ix4 b s h d) else 0 := by
  unfold Ideal.hostReduceWindowAdd Host.reduceWindow
  refine Eq.trans (congrArg (fun f => List.foldl f (0 : EReal) (List.finRange (⟨4, ![1, n + 1, 1, 1]⟩ : Shape).numel)) (funext fun r => funext fun w => ?_)) ((fold_positions (⟨4, ![1, n + 1, 1, 1]⟩ : Shape) (fun i =>
    if hin : ∀ a : Fin 4, (![0, n, 0, 0] : Fin 4 → ℕ) a ≤ (ix4 b t h d a).val * (![1, 1, 1, 1] : Fin 4 → ℕ) a + (i a).val
        ∧ (ix4 b t h d a).val * (![1, 1, 1, 1] : Fin 4 → ℕ) a + (i a).val - (![0, n, 0, 0] : Fin 4 → ℕ) a < (![B, n + 1, H, D] : Fin 4 → ℕ) a
      then x (fun a => ⟨(ix4 b t h d a).val * (![1, 1, 1, 1] : Fin 4 → ℕ) a + (i a).val - (![0, n, 0, 0] : Fin 4 → ℕ) a, (hin a).2⟩) else 0)).trans ?_)
  · exact congrArg (r + ·) (dite_congr rfl (fun _ => rfl) (fun _ => rfl))
  rw [sum_idx4, Fin.sum_univ_one]
  refine Eq.trans (Finset.sum_congr rfl fun w _ => ?_) (sum_window (fun s => x (ix4 b s h d)) t)
  rw [Fin.sum_univ_one, Fin.sum_univ_one]
  by_cases hc : n ≤ t.val + w.val
  · rw [dif_pos hc, dif_pos]
    · refine congrArg x ?_
      funext a; apply Fin.ext
      match a with
      | ⟨0, _⟩ => show b.val * 1 + 0 - 0 = b.val; omega
      | ⟨1, _⟩ => show t.val * 1 + w.val - n = t.val + w.val - n; omega
      | ⟨2, _⟩ => show h.val * 1 + 0 - 0 = h.val; omega
      | ⟨3, _⟩ => show d.val * 1 + 0 - 0 = d.val; omega
    · intro a
      match a with
      | ⟨0, _⟩ => show 0 ≤ b.val * 1 + 0 ∧ b.val * 1 + 0 - 0 < B; omega
      | ⟨1, _⟩ => show n ≤ t.val * 1 + w.val ∧ t.val * 1 + w.val - n < n + 1; omega
      | ⟨2, _⟩ => show 0 ≤ h.val * 1 + 0 ∧ h.val * 1 + 0 - 0 < H; omega
      | ⟨3, _⟩ => show 0 ≤ d.val * 1 + 0 ∧ d.val * 1 + 0 - 0 < D; omega
  · rw [dif_neg hc, dif_neg]
    intro hin
    have h1 : n ≤ t.val * 1 + w.val := (hin 1).1
    omega

/-- The prefix sum along axis 1 of three. -/
theorem cumsum3 {n B D : ℕ} (x : (⟨3, ![B, n + 1, D]⟩ : Shape).Idx → EReal)
    (hw : (⟨3, ![B, n + 1, D]⟩ : Shape).ReduceWindows (![1, n + 1, 1] : Fin 3 → ℕ) ![1, 1, 1] ![0, n, 0] ![0, 0, 0] ⟨3, ![B, n + 1, D]⟩)
    (b : Fin B) (t : Fin (n + 1)) (d : Fin D) :
    Ideal.hostReduceWindowAdd (s := ⟨3, ![B, n + 1, D]⟩) ![1, n + 1, 1] ![1, 1, 1] ![0, n, 0] ![0, 0, 0] hw x 0 (ix3 b t d)
      = ∑ s : Fin (n + 1), if s ≤ t then x (ix3 b s d) else 0 := by
  unfold Ideal.hostReduceWindowAdd Host.reduceWindow
  refine Eq.trans (congrArg (fun f => List.foldl f (0 : EReal) (List.finRange (⟨3, ![1, n + 1, 1]⟩ : Shape).numel)) (funext fun r => funext fun w => ?_)) ((fold_positions (⟨3, ![1, n + 1, 1]⟩ : Shape) (fun i =>
    if hin : ∀ a : Fin 3, (![0, n, 0] : Fin 3 → ℕ) a ≤ (ix3 b t d a).val * (![1, 1, 1] : Fin 3 → ℕ) a + (i a).val
        ∧ (ix3 b t d a).val * (![1, 1, 1] : Fin 3 → ℕ) a + (i a).val - (![0, n, 0] : Fin 3 → ℕ) a < (![B, n + 1, D] : Fin 3 → ℕ) a
      then x (fun a => ⟨(ix3 b t d a).val * (![1, 1, 1] : Fin 3 → ℕ) a + (i a).val - (![0, n, 0] : Fin 3 → ℕ) a, (hin a).2⟩) else 0)).trans ?_)
  · exact congrArg (r + ·) (dite_congr rfl (fun _ => rfl) (fun _ => rfl))
  rw [sum_idx3, Fin.sum_univ_one]
  refine Eq.trans (Finset.sum_congr rfl fun w _ => ?_) (sum_window (fun s => x (ix3 b s d)) t)
  rw [Fin.sum_univ_one]
  by_cases hc : n ≤ t.val + w.val
  · rw [dif_pos hc, dif_pos]
    · refine congrArg x ?_
      funext a; apply Fin.ext
      match a with
      | ⟨0, _⟩ => show b.val * 1 + 0 - 0 = b.val; omega
      | ⟨1, _⟩ => show t.val * 1 + w.val - n = t.val + w.val - n; omega
      | ⟨2, _⟩ => show d.val * 1 + 0 - 0 = d.val; omega
    · intro a
      match a with
      | ⟨0, _⟩ => show 0 ≤ b.val * 1 + 0 ∧ b.val * 1 + 0 - 0 < B; omega
      | ⟨1, _⟩ => show n ≤ t.val * 1 + w.val ∧ t.val * 1 + w.val - n < n + 1; omega
      | ⟨2, _⟩ => show 0 ≤ d.val * 1 + 0 ∧ d.val * 1 + 0 - 0 < D; omega
  · rw [dif_neg hc, dif_neg]
    intro hin
    have h1 : n ≤ t.val * 1 + w.val := (hin 1).1
    omega

end Cert.Scan

end
-- ==== Proof.REntry.lean ====
/- The reference's loop entry over the extended reals: its chunked arrays, from the array arguments. -/
module

public import proofs.«01_k».proof.Proof.RSums
public import proofs.«01_k».proof.Proof.Spec
public import proofs.«01_k».proof.Proof.Gen.ReferenceIdeal.Run
public import Idealize.ShloMosaic.Lib.StableHlo.ReadAt
public import Idealize.ShloMosaic.Lib.Pointwise

@[expose] public section

set_option maxRecDepth 16384

noncomputable section

namespace Cert.ReferenceIdeal.Scan

open Cert.ReferenceIdeal Cert.ReferenceIdeal.Gen Cert.ReferenceIdeal.Value Idealize.ShloMosaic Idealize.ShloMosaic.TcCoe Cert.Scan
open Idealize.ShloMosaic.StableHlo
open Idealize.SL.Sem

/-! ## Each stretch, of any contents before it -/

section Stretches
variable (U : Valuation τ sig (Elt Ideal))

/-- Row `t` of chunk `n`. -/
def rowNo (n : Fin 256) (t : Fin 64) : Fin 16384 := ⟨n.val * 64 + t.val, by omega⟩

/-- Column `d` of head `h`, as a flat column. -/
def colNo (h : Fin 32) (d : Fin 128) : Fin 4096 := ⟨h.val * 128 + d.val, by omega⟩

theorem soft_apply {x : Fin 2 → Fin 2 → Fin 4096 → EReal}
    (hx : ∀ i s j, (U (Proc.devRef .tc main_arg1) : Vec Ideal S2x2x4096 .f32) (ix3 i s j) = x i s j) (i s : Fin 2) (j : Fin 4096) :
    (after hostOps0 U (Proc.devRef .tc main_v10) : Vec Ideal S2x2x4096 .f32) (ix3 i s j)
      = Ideal.div (Ideal.exp (x i s j
            - max (Ideal.ofBits .f32 0xFF800000#32) (Finset.fold max (Ideal.ofBits .f32 0xFF800000#32) (fun y => x i y j) Finset.univ)))
          (∑ z : Fin 2, Ideal.exp (x i z j
            - max (Ideal.ofBits .f32 0xFF800000#32) (Finset.fold max (Ideal.ofBits .f32 0xFF800000#32) (fun y => x i y j) Finset.univ))) := by
  simp only [← hx]
  after_reads_at
  all_goals rfl

theorem sums_apply {x : Fin 2 → Fin 2 → Fin 4096 → EReal}
    (hx : ∀ i s j, (U (Proc.devRef .tc main_v10) : Vec Ideal S2x2x4096 .f32) (ix3 i s j) = x i s j) (i s : Fin 2) (j : Fin 4096) :
    (after hostOps0_1 U (Proc.devRef .tc main_v11) : Vec Ideal S2x2x4096 .f32) (ix3 i s j)
      = ∑ y : Fin 2, if y ≤ s then x i y j else 0 := by
  have h0 : (broadcastInDim S_ ![] bcast_S_S_ (constant S_ .f32 0x00000000#32 : FVec Ideal S_ .f32)) (Shape.Idx.first h_S_) = (0 : EReal) := by pointwise
  simp only [← hx]
  after_reads_at
  refine Eq.trans ?_ (cumsum3 (n := 1) (U (Proc.devRef .tc main_v10) : Vec Ideal S2x2x4096 .f32) reduceWindows_S2x2x4096_S2x2x4096_w1s1p0_0_w2s1p1_0_w1s1p0_0 i s j)
  exact congrArg (fun z => Ideal.hostReduceWindowAdd (s := S2x2x4096) ![1, 2, 1] ![1, 1, 1] ![0, 1, 0] ![0, 0, 0] reduceWindows_S2x2x4096_S2x2x4096_w1s1p0_0_w2s1p1_0_w1s1p0_0 (U (Proc.devRef .tc main_v10) : Vec Ideal S2x2x4096 .f32) z (ix3 i s j)) h0

theorem bound_apply (i : Fin 2) (h : Fin 32) (d : Fin 128) :
    (after hostOps0_2 U (Proc.devRef .tc main_v14) : Vec Ideal S2x32x128 .f32) (ix3 i h d)
      = (U (Proc.devRef .tc main_v11) : Vec Ideal S2x2x4096 .f32) (ix3 i 0 (colNo h d)) := by
  after_reads_at
  all_goals rfl

theorem query_apply (r : Fin 16384) (h : Fin 32) (d : Fin 128) :
    (after hostOps0_2 U (Proc.devRef .tc main_v21) : Vec Ideal S1x16384x32x128 .f32) (ix4 0 r h d)
      = (U (Proc.devRef .tc main_arg0) : Vec Ideal S16384x20480 .f32) (ix2 r ⟨(colNo h d).val, by omega⟩) := by
  after_reads_at
  all_goals rfl

theorem gates_apply (r : Fin 16384) (j : Fin 4096) :
    (after hostOps0_2 U (Proc.devRef .tc main_v17) : Vec Ideal S1x16384x4096 .f32) (ix3 0 r j)
      = (U (Proc.devRef .tc main_arg0) : Vec Ideal S16384x20480 .f32) (ix2 r ⟨4096 + j.val, by omega⟩) := by
  after_reads_at
  all_goals rfl

theorem values_apply (r : Fin 16384) (j : Fin 4096) :
    (after hostOps0_2 U (Proc.devRef .tc main_v19) : Vec Ideal S1x16384x4096 .f32) (ix3 0 r j)
      = (U (Proc.devRef .tc main_arg0) : Vec Ideal S16384x20480 .f32) (ix2 r ⟨12288 + j.val, by omega⟩) := by
  after_reads_at
  all_goals rfl

theorem silu_apply {x : Fin 16384 → Fin 32 → Fin 128 → EReal}
    (hx : ∀ r h d, (U (Proc.devRef .tc main_v21) : Vec Ideal S1x16384x32x128 .f32) (ix4 0 r h d) = x r h d) (r : Fin 16384) (h : Fin 32) (d : Fin 128) :
    (after hostOps0_3 U (Proc.devRef .tc main_v22) : Vec Ideal S1x16384x32x128 .f32) (ix4 0 r h d)
      = x r h d * ((logis (x r h d) : ℝ) : EReal) := by
  rw [← div_one_exp_neg, ← hx]
  after_reads_at
  all_goals rfl

section Gate
variable {b : Fin 32 → Fin 128 → EReal} {z : Fin 16384 → Fin 4096 → EReal}
  (hb : ∀ h d, (U (Proc.devRef .tc main_v14) : Vec Ideal S2x32x128 .f32) (ix3 0 h d) = b h d)
  (hz : ∀ r j, (U (Proc.devRef .tc main_v17) : Vec Ideal S1x16384x4096 .f32) (ix3 0 r j) = z r j)
include hb hz

theorem key_apply (r : Fin 16384) (h : Fin 32) (d : Fin 128) :
    (after hostOps0_4 U (Proc.devRef .tc main_v42) : Vec Ideal S1x16384x32x128 .f32) (ix4 0 r h d)
      = 1 - (b h d + (1 - b h d) * ((logis (z r (colNo h d)) : ℝ) : EReal)) := by
  rw [← div_one_exp_neg, ← hb, ← hz]
  after_reads_at
  all_goals rfl

theorem log_apply (r : Fin 16384) (h : Fin 32) (d : Fin 128) :
    (after hostOps0_4 U (Proc.devRef .tc main_v43) : Vec Ideal S1x16384x32x128 .f32) (ix4 0 r h d)
      = Ideal.log (b h d + (1 - b h d) * ((logis (z r (colNo h d)) : ℝ) : EReal)) := by
  rw [← div_one_exp_neg, ← hb, ← hz]
  after_reads_at
  all_goals rfl

end Gate

theorem value_apply (r : Fin 16384) (h : Fin 32) (d : Fin 128) :
    (after hostOps0_4 U (Proc.devRef .tc main_v23) : Vec Ideal S1x16384x32x128 .f32) (ix4 0 r h d)
      = (U (Proc.devRef .tc main_v19) : Vec Ideal S1x16384x4096 .f32) (ix3 0 r (colNo h d)) := by
  after_reads_at
  all_goals rfl

theorem ones_apply (t s : Fin 64) : (after hostOps0_4 U (Proc.devRef .tc main_v44) : IVec S64x64 1) (ix2 t s) = 1#1 := by
  after_reads_at
  all_goals rfl

theorem tril_apply (ho : ∀ t s, (U (Proc.devRef .tc main_v44) : IVec S64x64 1) (ix2 t s) = 1#1) (t s : Fin 64) :
    (after hostOps0_5 U (Proc.devRef .tc main_v45) : IVec S64x64 1) (ix2 t s) = if s ≤ t then 1#1 else 0#1 := by
  have hd : ∀ t s : Fin 64, IntOp.cmpi CmpIPredicate.sge (IntOp.addi (BitVec.ofNat 32 t.val) 0#32) (BitVec.ofNat 32 s.val) = if s ≤ t then 1#1 else 0#1 := by
    decide +kernel
  have e : (after hostOps0_5 U (Proc.devRef .tc main_v45) : IVec S64x64 1) (ix2 t s)
      = Scalar.select (IntOp.cmpi CmpIPredicate.sge (IntOp.addi (BitVec.ofNat 32 t.val) 0#32) (BitVec.ofNat 32 s.val))
        ((U (Proc.devRef .tc main_v44) : IVec S64x64 1) (ix2 t s)) 0#1 := by
    after_reads_at
    all_goals rfl
  rw [e, hd, ho]
  split <;> rfl

theorem carry0_apply (n : Fin 256) (t : Fin 64) (h : Fin 32) (d : Fin 128) :
    (after hostOps0_6 U (Proc.devRef .tc main_v57_0) : Vec Ideal S256x1x64x32x128 .f32) (ix5 n 0 t h d)
      = (U (Proc.devRef .tc main_v22) : Vec Ideal S1x16384x32x128 .f32) (ix4 0 (rowNo n t) h d) := by
  after_reads_at
  all_goals rfl

theorem carry1_apply (n : Fin 256) (t : Fin 64) (h : Fin 32) (d : Fin 128) :
    (after hostOps0_6 U (Proc.devRef .tc main_v57_1) : Vec Ideal S256x1x64x32x128 .f32) (ix5 n 0 t h d)
      = (U (Proc.devRef .tc main_v42) : Vec Ideal S1x16384x32x128 .f32) (ix4 0 (rowNo n t) h d) := by
  after_reads_at
  all_goals rfl

theorem carry2_apply (n : Fin 256) (t : Fin 64) (h : Fin 32) (d : Fin 128) :
    (after hostOps0_6 U (Proc.devRef .tc main_v57_2) : Vec Ideal S256x1x64x32x128 .f32) (ix5 n 0 t h d)
      = (U (Proc.devRef .tc main_v23) : Vec Ideal S1x16384x32x128 .f32) (ix4 0 (rowNo n t) h d) := by
  after_reads_at
  all_goals rfl

theorem carry3_apply (n : Fin 256) (t : Fin 64) (h : Fin 32) (d : Fin 128) :
    (after hostOps0_6 U (Proc.devRef .tc main_v57_3) : Vec Ideal S256x1x64x32x128 .f32) (ix5 n 0 t h d)
      = (U (Proc.devRef .tc main_v43) : Vec Ideal S1x16384x32x128 .f32) (ix4 0 (rowNo n t) h d) := by
  after_reads_at
  all_goals rfl

theorem carry4_apply (t s : Fin 64) :
    (after hostOps0_6 U (Proc.devRef .tc main_v57_4) : IVec S1x64x64x1x1 1) (ix5 0 t s 0 0) = (U (Proc.devRef .tc main_v45) : IVec S64x64 1) (ix2 t s) := by
  after_reads_at
  change broadcastInDim S1x64x64x1x1 ![1, 2] bcast_S64x64_S1x64x64x1x1_1_2 (U (Proc.devRef .tc main_v45) : IVec S64x64 1) (ix5 0 t s 0 0) = _
  generalize (U (Proc.devRef .tc main_v45) : IVec S64x64 1) = x
  pointwise

theorem carry5_apply : (after hostOps0_6 U (Proc.devRef .tc main_v57_5) : IVec S_ 32) = fun _ => 0#32 := by
  after_reads_simp
  all_goals rfl

theorem carry6_apply (h : Fin 32) (d e : Fin 128) : (after hostOps0_6 U (Proc.devRef .tc main_v57_6) : Vec Ideal S1x32x128x128 .f32) (ix4 0 h d e) = (0 : EReal) := by
  after_reads_at
  change broadcastInDim S1x32x128x128 ![] bcast_S_S1x32x128x128 (constant S_ .f32 0x00000000#32 : FVec Ideal S_ .f32) (ix4 0 h d e) = _
  pointwise

end Stretches

end Cert.ReferenceIdeal.Scan

end
-- ==== Proof.RChunk.lean ====
/- One trip of the reference's loop over the extended reals: a chunk of Spec.lean. -/
module

public import proofs.«01_k».proof.Proof.Spec
public import proofs.«01_k».proof.Proof.RSums
public import proofs.«01_k».proof.Proof.Gen.ReferenceIdeal.Run
public import Idealize.ShloMosaic.Lib.StableHlo.ReadAt
public import Idealize.ShloMosaic.Lib.Pointwise
public import Idealize.ShloMosaic.Lib.DynamicIndex
public import Idealize.ShloMosaic.Lib.Pipeline.Value

@[expose] public section

set_option maxRecDepth 16384

noncomputable section

namespace Cert.ReferenceIdeal.Scan

open Cert.ReferenceIdeal Cert.ReferenceIdeal.Gen Cert.ReferenceIdeal.Value Idealize.ShloMosaic Idealize.ShloMosaic.TcCoe Cert.Scan
open Idealize.ShloMosaic.StableHlo
open Idealize.SL.Sem

/-- The contents with chunk `n` next. -/
def At (V : Valuation τ sig (Elt Ideal)) (n : Fin 256) : Prop :=
  (V (Proc.devRef .tc main_v57_5) : IVec S_ 32) = fun _ => BitVec.ofNat 32 n.val

variable {V : Valuation τ sig (Elt Ideal)} {n : Fin 256}

theorem start_eq (hn : At V n) (k : Fin 5) :
    (((![V (Proc.devRef .tc main_v57_5), constantI S_ 32 0#32, constantI S_ 32 0#32, constantI S_ 32 0#32, constantI S_ 32 0#32] : Fin 5 → (⟨S_, .i32⟩ : BufTy).Contents (Elt Ideal))) k (Shape.Idx.first h_S_)).toInt
      = ((![n.val, 0, 0, 0, 0] : Fin 5 → ℕ) k : Int) := by
  have h0 : (V (Proc.devRef .tc main_v57_5) : IVec S_ 32) (Shape.Idx.first h_S_) = BitVec.ofNat 32 n.val := congrFun hn _
  match k with
  | ⟨0, _⟩ => exact (congrArg BitVec.toInt h0).trans (toInt_ofNat_of_lt (by omega))
  | ⟨1, _⟩ => rfl
  | ⟨2, _⟩ => rfl
  | ⟨3, _⟩ => rfl
  | ⟨4, _⟩ => rfl

theorem fits (n : Fin 256) : S256x1x64x32x128.Slices (![n.val, 0, 0, 0, 0] : Fin 5 → ℕ) S1x1x64x32x128 :=
  ⟨rfl, fun a => match a with
    | ⟨0, _⟩ => by show n.val + 1 ≤ 256; omega
    | ⟨1, _⟩ => by show 0 + 1 ≤ 1; omega
    | ⟨2, _⟩ => by show 0 + 64 ≤ 64; omega
    | ⟨3, _⟩ => by show 0 + 32 ≤ 32; omega
    | ⟨4, _⟩ => by show 0 + 128 ≤ 128; omega⟩

/-- Chunk `n` of a chunked array. -/
theorem chunk_read (hn : At V n) (x : Vec Ideal S256x1x64x32x128 .f32) (t : Fin 64) (h : Fin 32) (d : Fin 128) :
    shapeCast S1x64x32x128 (Host.dynamicSlice S1x1x64x32x128 x (fun k => (((![V (Proc.devRef .tc main_v57_5), constantI S_ 32 0#32, constantI S_ 32 0#32, constantI S_ 32 0#32, constantI S_ 32 0#32] : Fin 5 → (⟨S_, .i32⟩ : BufTy).Contents (Elt Ideal))) k (Shape.Idx.first h_S_)).toInt) sliceFits_S256x1x64x32x128_S1x1x64x32x128) shapeCasts_S1x1x64x32x128_S1x64x32x128 (ix4 0 t h d)
      = x (ix5 n 0 t h d) := by
  rw [Host.dynamicSlice_eq_extractStridedSlice S1x1x64x32x128 x _ ![n.val, 0, 0, 0, 0] _ (fits n) (start_eq hn)]
  pointwise

/-- A write of chunk `n`. -/
theorem chunk_write (hn : At V n) (x : Vec Ideal S256x1x64x32x128 .f32) (u : Vec Ideal S1x1x64x32x128 .f32) (m : Fin 256) (t : Fin 64) (h : Fin 32) (e : Fin 128) :
    Host.dynamicUpdateSlice x u (fun k => (((![V (Proc.devRef .tc main_v57_5), constantI S_ 32 0#32, constantI S_ 32 0#32, constantI S_ 32 0#32, constantI S_ 32 0#32] : Fin 5 → (⟨S_, .i32⟩ : BufTy).Contents (Elt Ideal))) k (Shape.Idx.first h_S_)).toInt) updateFits_S256x1x64x32x128_S1x1x64x32x128 (ix5 m 0 t h e)
      = if m = n then u (ix5 0 0 t h e) else x (ix5 m 0 t h e) := by
  have hc : Host.clampedStart S256x1x64x32x128 S1x1x64x32x128 updateFits_S256x1x64x32x128_S1x1x64x32x128.1 (fun k => (((![V (Proc.devRef .tc main_v57_5), constantI S_ 32 0#32, constantI S_ 32 0#32, constantI S_ 32 0#32, constantI S_ 32 0#32] : Fin 5 → (⟨S_, .i32⟩ : BufTy).Contents (Elt Ideal))) k (Shape.Idx.first h_S_)).toInt) = (![n.val, 0, 0, 0, 0] : Fin 5 → ℕ) :=
    funext fun a => Host.clampedStart_of_le updateFits_S256x1x64x32x128_S1x1x64x32x128.1 _ a _ (start_eq hn a) ((fits n).2 a)
  rw [Host.dynamicUpdateSlice_apply]
  by_cases hm : m = n
  · subst hm
    rw [if_pos rfl, dif_pos]
    · refine congrArg u ?_
      funext a; apply Fin.ext
      match a with
      | ⟨0, _⟩ => exact (congrArg (m.val - ·) (congrFun hc 0)).trans (Nat.sub_self _)
      | ⟨1, _⟩ => exact congrArg (0 - ·) (congrFun hc 1)
      | ⟨2, _⟩ => exact congrArg (t.val - ·) (congrFun hc 2)
      | ⟨3, _⟩ => exact congrArg (h.val - ·) (congrFun hc 3)
      | ⟨4, _⟩ => exact congrArg (e.val - ·) (congrFun hc 4)
    · intro a
      rw [congrFun hc a]
      match a with
      | ⟨0, _⟩ => exact ⟨le_refl _, Nat.lt_succ_self _⟩
      | ⟨1, _⟩ => show 0 ≤ 0 ∧ 0 < 0 + 1; omega
      | ⟨2, _⟩ => show 0 ≤ t.val ∧ t.val < 0 + 64; omega
      | ⟨3, _⟩ => show 0 ≤ h.val ∧ h.val < 0 + 32; omega
      | ⟨4, _⟩ => show 0 ≤ e.val ∧ e.val < 0 + 128; omega
  · rw [if_neg hm, dif_neg]
    intro hin
    apply hm
    apply Fin.ext
    have h1 := hin 0
    rw [congrFun hc 0] at h1
    have h2 : n.val ≤ m.val ∧ m.val < n.val + 1 := h1
    omega

/-! ## One chunk -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem cum_anti {g : Fin 64 → Fin 4096 → ℝ} (hg : ∀ t j, g t j ≤ 0) {s t : Fin 64} (h : s ≤ t) (j : Fin 4096) : cum g t j ≤ cum g s j := by
  unfold cum
  refine Finset.sum_le_sum fun i _ => ?_
  by_cases h1 : i ≤ s
  · rw [if_pos h1, if_pos (h1.trans h)]
  · rw [if_neg h1]
    split
    · exact hg i j
    · exact le_refl _

theorem rowSums (x : Vec Ideal S1x64x32x128 .f32) (t : Fin 64) (h : Fin 32) (d : Fin 128) :
    Host.reduceWindowAdd (F := Ideal) (φ := .f32) ![1, 64, 1, 1] ![1, 1, 1, 1] ![0, 63, 0, 0] ![0, 0, 0, 0] x (broadcastInDim S_ ![] bcast_S_S_ (constant S_ .f32 0x00000000#32)) reduceWindows_S1x64x32x128_S1x64x32x128_w1s1p0_0_w64s1p63_0_w1s1p0_0_w1s1p0_0 h_S_ (ix4 0 t h d)
      = ∑ s : Fin 64, if s ≤ t then x (ix4 0 s h d) else (0 : EReal) := by
  have h0 : (broadcastInDim S_ ![] bcast_S_S_ (constant S_ .f32 0x00000000#32 : FVec Ideal S_ .f32)) (Shape.Idx.first h_S_) = (0 : EReal) := by pointwise
  refine Eq.trans ?_ (cumsum4 (n := 63) x reduceWindows_S1x64x32x128_S1x64x32x128_w1s1p0_0_w64s1p63_0_w1s1p0_0_w1s1p0_0 0 t h d)
  exact congrArg (fun z => Ideal.hostReduceWindowAdd (s := S1x64x32x128) ![1, 64, 1, 1] ![1, 1, 1, 1] ![0, 63, 0, 0] ![0, 0, 0, 0] reduceWindows_S1x64x32x128_S1x64x32x128_w1s1p0_0_w64s1p63_0_w1s1p0_0_w1s1p0_0 x z (ix4 0 t h d)) h0

section Chunk
variable {q k v : Fin 64 → Fin 4096 → EReal} {g : Fin 64 → Fin 4096 → ℝ} {st : Fin 32 → Fin 128 → Fin 128 → EReal}

theorem last_apply (hC : ∀ t h d, (res_main_while0b_v65 V : Vec Ideal S1x64x32x128 .f32) (ix4 0 t h d) = ((cum g t (hd h d) : ℝ) : EReal)) (h : Fin 32) (d : Fin 128) :
    (res_main_while0b_v89 V : Vec Ideal S1x32x128 .f32) (ix3 0 h d) = ((cum g 63 (hd h d) : ℝ) : EReal) := by
  rw [← hC]
  unfold res_main_while0b_v89
  generalize res_main_while0b_v65 V = xc
  pointwise

theorem cums_apply (hn : At V n) (hG : ∀ t h d, (V (Proc.devRef .tc main_v57_3) : Vec Ideal S256x1x64x32x128 .f32) (ix5 n 0 t h d) = ((g t (hd h d) : ℝ) : EReal))
    (t : Fin 64) (h : Fin 32) (d : Fin 128) : (res_main_while0b_v65 V : Vec Ideal S1x64x32x128 .f32) (ix4 0 t h d) = ((cum g t (hd h d) : ℝ) : EReal) := by
  have hx : ∀ s, shapeCast S1x64x32x128 (Host.dynamicSlice S1x1x64x32x128 (V (Proc.devRef .tc main_v57_3) : Vec Ideal S256x1x64x32x128 .f32) (fun k => (((![V (Proc.devRef .tc main_v57_5), constantI S_ 32 0#32, constantI S_ 32 0#32, constantI S_ 32 0#32, constantI S_ 32 0#32] : Fin 5 → (⟨S_, .i32⟩ : BufTy).Contents (Elt Ideal))) k (Shape.Idx.first h_S_)).toInt) sliceFits_S256x1x64x32x128_S1x1x64x32x128) shapeCasts_S1x1x64x32x128_S1x64x32x128 (ix4 0 s h d) = ((g s (hd h d) : ℝ) : EReal) :=
    fun s => (chunk_read hn _ s h d).trans (hG s h d)
  unfold res_main_while0b_v65 cum
  rw [coe_sum]
  refine (rowSums _ t h d).trans (Finset.sum_congr rfl fun s _ => ?_)
  split
  · exact hx s
  · rfl

variable (hC : ∀ t h d, (res_main_while0b_v65 V : Vec Ideal S1x64x32x128 .f32) (ix4 0 t h d) = ((cum g t (hd h d) : ℝ) : EReal))
  (hQ : ∀ t h d, (res_main_while0b_v61 V : Vec Ideal S1x64x32x128 .f32) (ix4 0 t h d) = q t (hd h d))
  (hK : ∀ t h d, (res_main_while0b_v62 V : Vec Ideal S1x64x32x128 .f32) (ix4 0 t h d) = k t (hd h d))
  (hW : ∀ t h d, (res_main_while0b_v63 V : Vec Ideal S1x64x32x128 .f32) (ix4 0 t h d) = v t (hd h d))
  (hS : ∀ h d e, (V (Proc.devRef .tc main_v57_6) : Vec Ideal S1x32x128x128 .f32) (ix4 0 h d e) = st h e d)
  (hM : ∀ t s, (V (Proc.devRef .tc main_v57_4) : IVec S1x64x64x1x1 1) (ix5 0 t s 0 0) = if s ≤ t then 1#1 else 0#1)

include hC hK hW hS in
theorem state_apply (h : Fin 32) (d e : Fin 128) :
    (step_main_v57_6 V : Vec Ideal S1x32x128x128 .f32) (ix4 0 h d e) = nxt k v g st h e d := by
  have hl := last_apply hC
  unfold step_main_v57_6 nxt
  change addf _ _ _ = _
  generalize res_main_while0b_v89 V = xl at *
  generalize res_main_while0b_v65 V = xc at *
  generalize res_main_while0b_v62 V = xk at *
  generalize res_main_while0b_v63 V = xv at *
  generalize V (Proc.devRef .tc main_v57_6) = xS at *
  clean_types
  pointwise
  refine congrArg₂ (· + ·) ?_ (Finset.sum_congr rfl fun s _ => ?_)
  · rw [hl, hS, Ideal.exp_coe, mul_comm]
  · rw [hl, hC, hK, hW, ← EReal.coe_sub, Ideal.exp_coe, mul_comm]

include hC hQ hK hW hS hM in
theorem output_apply (hg : ∀ t j, g t j ≤ 0) (hn : At V n) (m : Fin 256) (t : Fin 64) (h : Fin 32) (e : Fin 128) :
    (step_main_v57_7 V : Vec Ideal S256x1x64x32x128 .f32) (ix5 m 0 t h e)
      = if m = n then out q k v g st h t e else (V (Proc.devRef .tc main_v57_7) : Vec Ideal S256x1x64x32x128 .f32) (ix5 m 0 t h e) := by
  unfold step_main_v57_7
  refine (chunk_write hn _ _ m t h e).trans (if_congr Iff.rfl ?_ rfl)
  generalize res_main_while0b_v65 V = xc at *
  generalize res_main_while0b_v61 V = xq at *
  generalize res_main_while0b_v62 V = xk at *
  generalize res_main_while0b_v63 V = xv at *
  generalize V (Proc.devRef .tc main_v57_6) = xS at *
  generalize V (Proc.devRef .tc main_v57_4) = xM at *
  pointwise
  unfold out
  refine congrArg₂ (· + ·) (Finset.sum_congr rfl fun d _ => ?_) (Finset.sum_congr rfl fun s _ => ?_)
  · rw [hC, hQ, hS, Ideal.exp_coe, mul_comm]
  · rw [hW, mul_comm]
    refine congrArg (· * v s (hd h e)) ?_
    unfold score
    rw [hM]
    by_cases hs : s ≤ t
    · rw [if_pos hs, if_pos hs]
      refine Finset.sum_congr rfl fun d _ => ?_
      rw [hC, hC, hQ, hK, ← EReal.coe_sub, min_eq_left (by rw [← EReal.coe_zero]; exact EReal.coe_le_coe_iff.2 (sub_nonpos.2 (cum_anti hg hs _))), Ideal.exp_coe]
      rfl
    · rw [if_neg hs, if_neg hs]
      refine Finset.sum_eq_zero fun d _ => ?_
      have h0 : (constant S_ FTy.f32 0#32 : FVec Ideal S_ .f32) ix0 = (0 : EReal) := by pointwise
      refine Eq.trans (congrArg _ h0) (mul_zero _)

end Chunk

end Cert.ReferenceIdeal.Scan

end
-- ==== Proof.RScan.lean ====
/- The reference's run over the extended reals: what its loop is entered with, what each of its 256 trips keeps, and the result. -/
module

public import proofs.«01_k».proof.Proof.REntry
public import proofs.«01_k».proof.Proof.RChunk

@[expose] public section

set_option maxRecDepth 16384

noncomputable section

namespace Cert.ReferenceIdeal.Scan

open Cert.ReferenceIdeal Cert.ReferenceIdeal.Gen Cert.ReferenceIdeal.Value Idealize.ShloMosaic Idealize.ShloMosaic.TcCoe Cert.Scan
open Idealize.ShloMosaic.StableHlo
open Idealize.SL.Sem

theorem rowNo_eq (n : Fin 256) (t : Fin 64) : rowNo n t = tok n.val t :=
  Fin.ext (by show n.val * 64 + t.val = 64 * min n.val 255 + t.val; omega)

theorem colNo_eq (h : Fin 32) (d : Fin 128) : colNo h d = hd h d :=
  Fin.ext (by show h.val * 128 + d.val = 128 * h.val + d.val; omega)

/-! ## The entry -/

/-- A softmax over two real logits. -/
theorem softmax_two (f : Fin 2 → ℝ) :
    Ideal.div (Ideal.exp ((f 0 : EReal) - max (Ideal.ofBits .f32 0xFF800000#32) (Finset.fold max (Ideal.ofBits .f32 0xFF800000#32) (fun y => (f y : EReal)) Finset.univ)))
      (∑ z : Fin 2, Ideal.exp ((f z : EReal) - max (Ideal.ofBits .f32 0xFF800000#32) (Finset.fold max (Ideal.ofBits .f32 0xFF800000#32) (fun y => (f y : EReal)) Finset.univ)))
      = ((share (f 0) (f 1) : ℝ) : EReal) := by
  have hb : Ideal.ofBits .f32 0xFF800000#32 = ⊥ := by simp [Ideal.ofBits, Ideal.ieee]
  have hm : Finset.fold max (Ideal.ofBits .f32 0xFF800000#32) (fun y => (f y : EReal)) (Finset.univ : Finset (Fin 2)) = ((max (f 0) (f 1) : ℝ) : EReal) := by
    rw [hb, show (Finset.univ : Finset (Fin 2)) = {0, 1} from rfl, Finset.fold_insert (by decide), Finset.fold_singleton, max_bot_right,
      EReal.coe_strictMono.monotone.map_max]
  rw [hm, hb, max_bot_left, Fin.sum_univ_two]
  generalize max (f 0) (f 1) = w
  have hp : Real.exp (f 0 - w) + Real.exp (f 1 - w) ≠ 0 := by positivity
  rw [← EReal.coe_sub, ← EReal.coe_sub, Ideal.exp_coe, Ideal.exp_coe, ← EReal.coe_add, Ideal.div_coe hp, ← EReal.coe_mul, mul_one_div, share,
    Real.exp_sub, Real.exp_sub, ← add_div, div_div_div_cancel_right₀ (Real.exp_pos w).ne']

section Entry
variable {A : Fin 16384 → Fin 20480 → EReal} {L : Fin 2 → Fin 4096 → ℝ} {U : Valuation τ sig (Elt Ideal)}
  (hA : ∀ r j, (U (Proc.devRef .tc main_arg0) : Vec Ideal S16384x20480 .f32) (ix2 r j) = A r j)
  (hL : ∀ i j, (U (Proc.devRef .tc main_arg1) : Vec Ideal S2x2x4096 .f32) (ix3 0 i j) = (L i j : EReal))

/-- The contents before each stretch of the entry. -/
abbrev U1 (U : Valuation τ sig (Elt Ideal)) := after hostOps0 U
abbrev U2 (U : Valuation τ sig (Elt Ideal)) := after hostOps0_1 (U1 U)
abbrev U3 (U : Valuation τ sig (Elt Ideal)) := after hostOps0_2 (U2 U)
abbrev U4 (U : Valuation τ sig (Elt Ideal)) := after hostOps0_3 (U3 U)
abbrev U5 (U : Valuation τ sig (Elt Ideal)) := after hostOps0_4 (U4 U)
abbrev U6 (U : Valuation τ sig (Elt Ideal)) := after hostOps0_5 (U5 U)

include hL in
theorem bound_entry (h : Fin 32) (d : Fin 128) :
    (U4 U (Proc.devRef .tc main_v14) : Vec Ideal S2x32x128 .f32) (ix3 0 h d) = ((share (L 0 (hd h d)) (L 1 (hd h d)) : ℝ) : EReal) := by
  rw [show U4 U (Proc.devRef .tc main_v14) = U3 U (Proc.devRef .tc main_v14) from after_of_writes_sub hostOps0_3 _ hostOps0_3_writes (by decide +kernel)]
  refine (bound_apply (U2 U) 0 h d).trans ?_
  refine (sums_apply (U1 U) (fun _ _ _ => rfl) 0 0 (colNo h d)).trans ?_
  rw [Fin.sum_univ_two, if_pos (le_refl _), if_neg (by decide), add_zero, colNo_eq]
  refine (soft_apply U (x := fun i s j => (U (Proc.devRef .tc main_arg1) : Vec Ideal S2x2x4096 .f32) (ix3 i s j)) (fun _ _ _ => rfl) 0 0 (hd h d)).trans ?_
  simp only [hL]
  exact softmax_two fun s => L s (hd h d)

include hA in
theorem logits_entry (r : Fin 16384) (j : Fin 4096) :
    (U4 U (Proc.devRef .tc main_v17) : Vec Ideal S1x16384x4096 .f32) (ix3 0 r j) = A r ⟨4096 + j.val, by omega⟩ := by
  rw [show U4 U (Proc.devRef .tc main_v17) = U3 U (Proc.devRef .tc main_v17) from after_of_writes_sub hostOps0_3 _ hostOps0_3_writes (by decide +kernel)]
  refine (gates_apply (U2 U) r j).trans ?_
  rw [show U2 U (Proc.devRef .tc main_arg0) = U (Proc.devRef .tc main_arg0) from (keep_main_arg0_hostOps0_1 _).trans (keep_main_arg0_hostOps0 _), hA]

include hA in
theorem value_entry (r : Fin 16384) (h : Fin 32) (d : Fin 128) :
    (U6 U (Proc.devRef .tc main_v23) : Vec Ideal S1x16384x32x128 .f32) (ix4 0 r h d) = vOf A r (hd h d) := by
  rw [show U6 U (Proc.devRef .tc main_v23) = U5 U (Proc.devRef .tc main_v23) from after_of_writes_sub hostOps0_5 _ hostOps0_5_writes (by decide +kernel)]
  refine (value_apply (U4 U) r h d).trans ?_
  rw [show U4 U (Proc.devRef .tc main_v19) = U3 U (Proc.devRef .tc main_v19) from after_of_writes_sub hostOps0_3 _ hostOps0_3_writes (by decide +kernel)]
  refine (values_apply (U2 U) r _).trans ?_
  rw [show U2 U (Proc.devRef .tc main_arg0) = U (Proc.devRef .tc main_arg0) from (keep_main_arg0_hostOps0_1 _).trans (keep_main_arg0_hostOps0 _), hA, colNo_eq]
  rfl

include hA in
theorem query_entry (r : Fin 16384) (h : Fin 32) (d : Fin 128) :
    (U6 U (Proc.devRef .tc main_v22) : Vec Ideal S1x16384x32x128 .f32) (ix4 0 r h d) = qOf A r (hd h d) := by
  rw [show U6 U (Proc.devRef .tc main_v22) = U4 U (Proc.devRef .tc main_v22) from
    (after_of_writes_sub hostOps0_5 _ hostOps0_5_writes (by decide +kernel)).trans (after_of_writes_sub hostOps0_4 _ hostOps0_4_writes (by decide +kernel))]
  refine silu_apply (U3 U) (x := fun r h d => A r ⟨(hd h d).val, by omega⟩) (fun r h d => ?_) r h d
  refine (query_apply (U2 U) r h d).trans ?_
  rw [show U2 U (Proc.devRef .tc main_arg0) = U (Proc.devRef .tc main_arg0) from (keep_main_arg0_hostOps0_1 _).trans (keep_main_arg0_hostOps0 _), hA]
  exact congrArg (A r) (Fin.ext (show (colNo h d).val = (hd h d).val from congrArg Fin.val (colNo_eq h d)))

include hA hL in
theorem key_entry (r : Fin 16384) (h : Fin 32) (d : Fin 128) :
    (U6 U (Proc.devRef .tc main_v42) : Vec Ideal S1x16384x32x128 .f32) (ix4 0 r h d) = kOf A L r (hd h d) := by
  rw [show U6 U (Proc.devRef .tc main_v42) = U5 U (Proc.devRef .tc main_v42) from after_of_writes_sub hostOps0_5 _ hostOps0_5_writes (by decide +kernel)]
  refine (key_apply (U4 U) (bound_entry hL) (logits_entry hA) r h d).trans ?_
  rw [colNo_eq, gate_coe, kOf, EReal.coe_sub, EReal.coe_one, gateOf]

include hA hL in
theorem log_entry (hsm : Small L) (r : Fin 16384) (h : Fin 32) (d : Fin 128) :
    (U6 U (Proc.devRef .tc main_v43) : Vec Ideal S1x16384x32x128 .f32) (ix4 0 r h d) = ((gOf A L r (hd h d) : ℝ) : EReal) := by
  rw [show U6 U (Proc.devRef .tc main_v43) = U5 U (Proc.devRef .tc main_v43) from after_of_writes_sub hostOps0_5 _ hostOps0_5_writes (by decide +kernel)]
  refine (log_apply (U4 U) (bound_entry hL) (logits_entry hA) r h d).trans ?_
  rw [colNo_eq, gate_coe]
  exact (Ideal.log_coe _).trans (if_neg (gateOf_pos hsm r (hd h d)).not_ge)

theorem tril_entry (t s : Fin 64) : (U6 U (Proc.devRef .tc main_v45) : IVec S64x64 1) (ix2 t s) = if s ≤ t then 1#1 else 0#1 :=
  tril_apply (U5 U) (ones_apply (U4 U)) t s

end Entry

/-! ## The trips -/

section Trips
variable (A : Fin 16384 → Fin 20480 → EReal) (L : Fin 2 → Fin 4096 → ℝ)

/-- What the carried buffers hold before trip `n`. -/
structure Ready (n : ℕ) (V : Valuation τ sig (Elt Ideal)) : Prop where
  counter : (V (Proc.devRef .tc main_v57_5) : IVec S_ 32) = fun _ => BitVec.ofNat 32 n
  queries : ∀ (m : Fin 256) t h d, (V (Proc.devRef .tc main_v57_0) : Vec Ideal S256x1x64x32x128 .f32) (ix5 m 0 t h d) = qOf A (tok m.val t) (hd h d)
  keys : ∀ (m : Fin 256) t h d, (V (Proc.devRef .tc main_v57_1) : Vec Ideal S256x1x64x32x128 .f32) (ix5 m 0 t h d) = kOf A L (tok m.val t) (hd h d)
  values : ∀ (m : Fin 256) t h d, (V (Proc.devRef .tc main_v57_2) : Vec Ideal S256x1x64x32x128 .f32) (ix5 m 0 t h d) = vOf A (tok m.val t) (hd h d)
  logs : ∀ (m : Fin 256) t h d, (V (Proc.devRef .tc main_v57_3) : Vec Ideal S256x1x64x32x128 .f32) (ix5 m 0 t h d) = ((gOf A L (tok m.val t) (hd h d) : ℝ) : EReal)
  mask : ∀ t s, (V (Proc.devRef .tc main_v57_4) : IVec S1x64x64x1x1 1) (ix5 0 t s 0 0) = if s ≤ t then 1#1 else 0#1
  carried : ∀ h d e, (V (Proc.devRef .tc main_v57_6) : Vec Ideal S1x32x128x128 .f32) (ix4 0 h d e) = state (kOf A L) (vOf A) (gOf A L) n h e d
  written : ∀ (m : Fin 256) t h e, m.val < n →
    (V (Proc.devRef .tc main_v57_7) : Vec Ideal S256x1x64x32x128 .f32) (ix5 m 0 t h e) = result (qOf A) (kOf A L) (vOf A) (gOf A L) m.val h t e

variable {A L}

theorem ready_entry (hsm : Small L) {U : Valuation τ sig (Elt Ideal)}
    (hA : ∀ r j, (U (Proc.devRef .tc main_arg0) : Vec Ideal S16384x20480 .f32) (ix2 r j) = A r j)
    (hL : ∀ i j, (U (Proc.devRef .tc main_arg1) : Vec Ideal S2x2x4096 .f32) (ix3 0 i j) = (L i j : EReal)) :
    Ready A L 0 (afterL preI U) where
  counter := carry5_apply (U6 U)
  queries m t h d := (carry0_apply (U6 U) m t h d).trans ((query_entry hA _ h d).trans (by rw [rowNo_eq]))
  keys m t h d := (carry1_apply (U6 U) m t h d).trans ((key_entry hA hL _ h d).trans (by rw [rowNo_eq]))
  values m t h d := (carry2_apply (U6 U) m t h d).trans ((value_entry hA _ h d).trans (by rw [rowNo_eq]))
  logs m t h d := (carry3_apply (U6 U) m t h d).trans ((log_entry hA hL hsm _ h d).trans (by rw [rowNo_eq]))
  mask t s := (carry4_apply (U6 U) t s).trans (tril_entry t s)
  carried h d e := carry6_apply (U6 U) h d e
  written m t h e hm := absurd hm (Nat.not_lt_zero _)

theorem ready_step (hsm : Small L) {n : ℕ} (hn : n < 256) {V : Valuation τ sig (Elt Ideal)} (hV : Ready A L n V) : Ready A L (n + 1) (STEP V) := by
  have hat : At V ⟨n, hn⟩ := hV.counter
  have hQ : ∀ t h d, (res_main_while0b_v61 V : Vec Ideal S1x64x32x128 .f32) (ix4 0 t h d) = Cert.Scan.rowsOf (qOf A) n t (hd h d) :=
    fun t h d => (chunk_read hat _ t h d).trans (hV.queries ⟨n, hn⟩ t h d)
  have hK : ∀ t h d, (res_main_while0b_v62 V : Vec Ideal S1x64x32x128 .f32) (ix4 0 t h d) = Cert.Scan.rowsOf (kOf A L) n t (hd h d) :=
    fun t h d => (chunk_read hat _ t h d).trans (hV.keys ⟨n, hn⟩ t h d)
  have hW : ∀ t h d, (res_main_while0b_v63 V : Vec Ideal S1x64x32x128 .f32) (ix4 0 t h d) = Cert.Scan.rowsOf (vOf A) n t (hd h d) :=
    fun t h d => (chunk_read hat _ t h d).trans (hV.values ⟨n, hn⟩ t h d)
  have hC := cums_apply (g := Cert.Scan.rowsOf (gOf A L) n) hat (hV.logs ⟨n, hn⟩)
  constructor
  · rw [STEP_main_v57_5]
    funext i
    show IntOp.addi ((V (Proc.devRef .tc main_v57_5) : IVec S_ 32) i) 1#32 = _
    rw [hV.counter]
    show BitVec.ofNat 32 n + BitVec.ofNat 32 1 = _
    rw [← BitVec.ofNat_add]
  · rw [STEP_main_v57_0]; exact hV.queries
  · rw [STEP_main_v57_1]; exact hV.keys
  · rw [STEP_main_v57_2]; exact hV.values
  · rw [STEP_main_v57_3]; exact hV.logs
  · rw [STEP_main_v57_4]; exact hV.mask
  · intro h d e
    rw [STEP_main_v57_6]
    exact state_apply hC hK hW hV.carried h d e
  · intro m t h e hm
    rw [STEP_main_v57_7, output_apply hC hQ hK hW hV.carried hV.mask (fun t j => (gOf_bounded hsm _ _).2) hat]
    split
    · next hmn => subst hmn; rfl
    · next hmn =>
      refine hV.written m t h e (Nat.lt_of_le_of_ne (Nat.le_of_lt_succ hm) fun h => hmn (Fin.ext h))

theorem ready_iterate (hsm : Small L) {V : Valuation τ sig (Elt Ideal)} (hV : Ready A L 0 V) (n : ℕ) (hn : n ≤ 256) : Ready A L n (STEP^[n] V) := by
  induction n with
  | zero => exact hV
  | succ n ih =>
    rw [Function.iterate_succ_apply']
    exact ready_step hsm hn (ih (Nat.le_of_lt hn))

theorem out_apply (V : Valuation τ sig (Elt Ideal)) (r : Fin 16384) (j : Fin 4096) :
    (out_main_v60 V : Vec Ideal S16384x4096 .f32) (ix2 r j)
      = (V (Proc.devRef .tc main_v57_7) : Vec Ideal S256x1x64x32x128 .f32)
          (ix5 ⟨r.val / 64, by omega⟩ 0 ⟨r.val % 64, by omega⟩ ⟨j.val / 128, by omega⟩ ⟨j.val % 128, by omega⟩) := by
  unfold out_main_v60
  generalize (V (Proc.devRef .tc main_v57_7) : Vec Ideal S256x1x64x32x128 .f32) = x
  pointwise
  all_goals rfl

end Trips

/-- The reference's result is the scan of its arguments. -/
theorem reference_apply (m : (ℓ : Loc nD τ sig) → Buf (Elt Ideal) ℓ) (c : Dev nD) {A : Fin 16384 → Fin 20480 → EReal} {L : Fin 2 → Fin 4096 → ℝ} (hsm : Small L)
    (hA : ∀ r j, (m ((c.tc : Thread nD τ).loc main_arg0) : Vec Ideal S16384x20480 .f32) (ix2 r j) = A r j)
    (hL : ∀ i j, (m ((c.tc : Thread nD τ).loc main_arg1) : Vec Ideal S2x2x4096 .f32) (ix3 0 i j) = (L i j : EReal))
    (r : Fin 16384) (j : Fin 4096) :
    (out_main_v60 (STEP^[256] (entryContents preI m c)) : Vec Ideal S16384x4096 .f32) (ix2 r j) = Cert.Scan.scan A L r j := by
  rw [out_apply]
  exact (ready_iterate hsm (ready_entry hsm (U := launchContents m c) hA hL) 256 (le_refl _)).written _ _ _ _ (by show r.val / 64 < 256; omega)

end Cert.ReferenceIdeal.Scan

end
-- ==== Proof.Pre.lean ====
/- The precondition, read: the logits are real numbers within 2.375 of zero. -/
module

public import proofs.«01_k».proof.Proof.Spec
public import proofs.«01_k».proof.Proof.Gen.Pre_bounded
public import Idealize.ShloMosaic.Lib.ReduceAll
public import Idealize.ShloMosaic.Lib.Pointwise

@[expose] public section

noncomputable section

namespace Cert.Pre_bounded.Read

open Cert.Pre_bounded Cert.Pre_bounded.Gen Idealize.ShloMosaic

theorem bits_bound : Ideal.ofBits .f32 0x40180000#32 = ((2.375 : ℝ) : EReal) := by
  simp [Ideal.ofBits, Ideal.ieee]
  rw [← EReal.coe_mul]
  norm_num

instance : Subsingleton S_.Idx := ⟨fun a b => funext fun i => i.elim0⟩

/-- Every logit is at most 2.375 in absolute value. -/
theorem abs_le (x0 : FVec Ideal S16384x20480 .f32) (x : FVec Ideal S2x2x4096 .f32) (h : fn x0 x = fun _ => 1#1) (i s : Fin 2) (j : Fin 4096) :
    max (x (ix3 i s j)) (-(x (ix3 i s j))) ≤ ((2.375 : ℝ) : EReal) := by
  have h1 := Host.reduce_andi_all _ _ _ _ _ (congrFun h (Shape.Idx.first h_S_)) (ix3 i s j)
  rw [← bits_bound]
  have h2 : BitVec.ofBool (decide (max (x (ix3 i s j)) (-(x (ix3 i s j))) ≤ Ideal.ofBits .f32 0x40180000#32)) = 1#1 := h1
  cases hd : decide (max (x (ix3 i s j)) (-(x (ix3 i s j))) ≤ Ideal.ofBits .f32 0x40180000#32) with
  | false => rw [hd] at h2; exact absurd h2 (by decide)
  | true => exact of_decide_eq_true hd

/-- The logits of layer `0`, as real numbers. -/
def logits (x : FVec Ideal S2x2x4096 .f32) (s : Fin 2) (j : Fin 4096) : ℝ := (x (ix3 0 s j) : EReal).toReal

theorem logits_coe (x0 : FVec Ideal S16384x20480 .f32) (x : FVec Ideal S2x2x4096 .f32) (h : fn x0 x = fun _ => 1#1) (s : Fin 2) (j : Fin 4096) :
    (x (ix3 0 s j) : EReal) = (logits x s j : EReal) := by
  have h1 := max_le_iff.1 (abs_le x0 x h 0 s j)
  refine (EReal.coe_toReal (fun e => ?_) (fun e => ?_)).symm
  · rw [e] at h1; exact absurd h1.1 (by simp)
  · rw [e] at h1; exact absurd h1.2 (by simp)

theorem logits_small (x0 : FVec Ideal S16384x20480 .f32) (x : FVec Ideal S2x2x4096 .f32) (h : fn x0 x = fun _ => 1#1) : Cert.Scan.Small (logits x) := by
  intro s j
  have h1 := max_le_iff.1 (abs_le x0 x h 0 s j)
  rw [logits_coe x0 x h, ← EReal.coe_neg, EReal.coe_le_coe_iff, EReal.coe_le_coe_iff] at h1
  exact abs_le'.2 h1

end Cert.Pre_bounded.Read

end
-- ==== Proof.BSame.lean ====
/- The two programs of the backward scan are one text: their bodies, tables and `main`s are equal, over any float. -/
module

public import proofs.«01_k».proof.Proof.Gen.ScanBack
public import proofs.«01_k».proof.Proof.Gen.ScanBackIdeal

@[expose] public section

noncomputable section

namespace Cert.SameBack

open Idealize.ShloMosaic Idealize.SL.Sem

variable {F : FTy → Type} [FloatOps F]

set_option maxRecDepth 1000000 in
theorem body_eq : @Cert.ScanBack.cc0_hgrn_scan_bwd F _ _ = @Cert.ScanBackIdeal.cc0_hgrn_scan_bwd F _ _ := by
  unfold Cert.ScanBack.cc0_hgrn_scan_bwd Cert.ScanBackIdeal.cc0_hgrn_scan_bwd
  rfl

theorem defs₀_eq : Cert.ScanBack.defs₀ (F := F) = Cert.ScanBackIdeal.defs₀ (F := F) := by
  unfold Cert.ScanBack.defs₀ Cert.ScanBackIdeal.defs₀
  rw [← body_eq]
  refine congrArg Defs.onTc (funext fun l => funext fun a => ?_)
  match l, a with
  | 0, (t, s) => rfl
  | ⟨_ + 1, h⟩, _ => exact absurd h (Nat.not_lt.2 (Nat.le_add_left _ _))

theorem defs_eq : Cert.ScanBack.defs (F := F) = Cert.ScanBackIdeal.defs (F := F) :=
  congrArg (Pipeline.defs (Cert.ScanBackIdeal.pcfgs (F := F))) defs₀_eq

theorem main_eq : Cert.ScanBack.main (F := F) = Cert.ScanBackIdeal.main (F := F) := rfl

end Cert.SameBack

end
-- ==== Proof.BHeads.lean ====
/- One trip of the scan, head by head. The kernel's text repeats the same operations for each of the 32 heads at the literal
   column offset of that head; here they are written once, for a head `h`, over the rows of one chunk: `outH` is what a trip
   writes into the output's columns of head `h`, `stH` what it leaves in the carried state of head `h`. -/
module

public import proofs.«01_k».proof.Proof.Gen.ScanBackIdeal.Skeleton

@[expose] public section

noncomputable section

namespace Cert.ScanBackIdeal.Scan

open Cert.ScanBackIdeal Cert.ScanBackIdeal.Gen Idealize.ShloMosaic

variable {F : FTy → Type} [FloatOps F]

/-! ## The shared rows: from the chunk's rows of the three projections and the lower bound's row -/

/-- The lower bound's row. -/
abbrev lbRow (v4 : Vec F S2x4096 .f32) : FVec F S1x4096 .f32 := k0_pay2 v4

abbrev zeroRows : FVec F S64x4096 .f32 := constant S64x4096 .f32 0x00000000#32

/-- The sums of the log forget gates from a row to the chunk's last. -/
def cumR (lb : FVec F S1x4096 .f32) (X1 : Vec F S64x4096 .f32) : FVec F S64x4096 .f32 := k0_pay15 k0_pay4 (k0_pay11 lb X1) (k0_pay13 lb X1) (k0_pay14 lb X1) zeroRows

/-- The keys decayed to the chunk's first row. -/
def kendR (lb : FVec F S1x4096 .f32) (X1 : Vec F S64x4096 .f32) : FVec F S64x4096 .bf16 := k0_pay17 k0_pay4 (k0_pay8 lb X1) (k0_pay11 lb X1) (k0_pay13 lb X1) (k0_pay14 lb X1) zeroRows

/-- The decay of the state over the chunk. -/
def edgeR (lb : FVec F S1x4096 .f32) (X1 : Vec F S64x4096 .f32) : FVec F S1x4096 .f32 := k0_pay18 k0_pay4 (k0_pay11 lb X1) (k0_pay13 lb X1) (k0_pay14 lb X1) zeroRows

/-- The queries decayed from the row after their sub-block. -/
def aR (lb : FVec F S1x4096 .f32) (X0 X1 : Vec F S64x4096 .f32) : FVec F S64x4096 .bf16 := k0_pay24 k0_pay4 (k0_pay6 X0) (k0_pay11 lb X1) (k0_pay13 lb X1) (k0_pay14 lb X1) zeroRows

/-- The queries decayed from the chunk's end. -/
def qinR (lb : FVec F S1x4096 .f32) (X0 X1 : Vec F S64x4096 .f32) : FVec F S64x4096 .bf16 := k0_pay25 k0_pay4 (k0_pay6 X0) (k0_pay11 lb X1) (k0_pay13 lb X1) (k0_pay14 lb X1) zeroRows

/-- The keys decayed to the row after sub-block 0, 1, 2, 3. -/
def b0R (lb : FVec F S1x4096 .f32) (X1 : Vec F S64x4096 .f32) : FVec F S64x4096 .bf16 := k0_pay26 k0_pay4 (k0_pay8 lb X1) (k0_pay11 lb X1) (k0_pay13 lb X1) (k0_pay14 lb X1) zeroRows
def b1R (lb : FVec F S1x4096 .f32) (X1 : Vec F S64x4096 .f32) : FVec F S64x4096 .bf16 :=
  k0_pay29 (k0_pay27 (k0_pay8 lb X1)) (k0_pay28 k0_pay4 (k0_pay11 lb X1) (k0_pay13 lb X1) (k0_pay14 lb X1) zeroRows) (Scalar.ofBits .f32 0x42E60000#32)
def b2R (lb : FVec F S1x4096 .f32) (X1 : Vec F S64x4096 .f32) : FVec F S64x4096 .bf16 :=
  k0_pay30 (k0_pay8 lb X1) (cumR lb X1) (k0_pay21 k0_pay4 (k0_pay11 lb X1) (k0_pay13 lb X1) (k0_pay14 lb X1) zeroRows)
def b3R (lb : FVec F S1x4096 .f32) (X1 : Vec F S64x4096 .f32) : FVec F S64x4096 .bf16 :=
  k0_pay31 (k0_pay8 lb X1) (cumR lb X1) k0_pay22

/-- The values. -/
abbrev vR (X2 : Vec F S64x4096 .f32) : FVec F S64x4096 .bf16 := k0_pay9 X2

/-! ## A head's columns -/

theorem slices_head : ∀ h : Fin 32, S64x4096.Slices ![0, 128 * h.val] S64x128 := by decide
theorem slices_edge : ∀ h : Fin 32, S1x4096.Slices ![0, 128 * h.val] S1x128 := by decide
theorem slices_sub0 : ∀ h : Fin 32, S64x4096.Slices ![0, 128 * h.val] S16x128 := by decide
theorem slices_sub1 : ∀ h : Fin 32, S64x4096.Slices ![16, 128 * h.val] S16x128 := by decide
theorem slices_sub2 : ∀ h : Fin 32, S64x4096.Slices ![32, 128 * h.val] S16x128 := by decide
theorem slices_sub3 : ∀ h : Fin 32, S64x4096.Slices ![48, 128 * h.val] S16x128 := by decide

/-- The columns of head `h`. -/
def headC (h : Fin 32) (x : FVec F S64x4096 .bf16) : FVec F S64x128 .bf16 :=
  extractStridedSlice S64x128 ![0, 128 * h.val] x (slices_head h)

abbrev bz (s : Shape) : FVec F s .bf16 := broadcast s (Scalar.ofBits .bf16 0x0000#16)

/-- Sub-block `i` of a head's rows, the others zero. -/
def pad0 (h : Fin 32) (x : FVec F S64x4096 .bf16) : FVec F S64x128 .bf16 :=
  concatenate S64x128 0 [⟨S16x128, extractStridedSlice S16x128 ![0, 128 * h.val] x (slices_sub0 h)⟩, ⟨S48x128, bz S48x128⟩]
    concatenates_S16x128_S48x128_S64x128_d0
def pad1 (h : Fin 32) (x : FVec F S64x4096 .bf16) : FVec F S64x128 .bf16 :=
  concatenate S64x128 0 [⟨S16x128, bz S16x128⟩, ⟨S16x128, extractStridedSlice S16x128 ![16, 128 * h.val] x (slices_sub1 h)⟩,
    ⟨S32x128, bz S32x128⟩] concatenates_S16x128_S16x128_S32x128_S64x128_d0
def pad2 (h : Fin 32) (x : FVec F S64x4096 .bf16) : FVec F S64x128 .bf16 :=
  concatenate S64x128 0 [⟨S32x128, bz S32x128⟩, ⟨S16x128, extractStridedSlice S16x128 ![32, 128 * h.val] x (slices_sub2 h)⟩,
    ⟨S16x128, bz S16x128⟩] concatenates_S32x128_S16x128_S16x128_S64x128_d0
def pad3 (h : Fin 32) (x : FVec F S64x4096 .bf16) : FVec F S64x128 .bf16 :=
  concatenate S64x128 0 [⟨S48x128, bz S48x128⟩, ⟨S16x128, extractStridedSlice S16x128 ![48, 128 * h.val] x (slices_sub3 h)⟩]
    concatenates_S48x128_S16x128_S64x128_d0

/-- Four blocks of 64 rows side by side. -/
def cat4 (x0 x1 x2 x3 : FVec F S64x128 .bf16) : FVec F S64x512 .bf16 :=
  concatenate S64x512 1 [⟨S64x128, x0⟩, ⟨S64x128, x1⟩, ⟨S64x128, x2⟩, ⟨S64x128, x3⟩]
    concatenates_S64x128_S64x128_S64x128_S64x128_S64x512_d1

/-- The masked scores of head `h`. -/
def scoreH (h : Fin 32) (a b0 b1 b2 b3 : FVec F S64x4096 .bf16) : FVec F S64x64 .bf16 :=
  truncf .bf16 (select k0_pay3
    (matmul dot_S64x512_S64x512_S64x64_1_1_0_0_n_n none (cat4 (pad0 h a) (pad1 h a) (pad2 h a) (pad3 h a))
      (cat4 (headC h b0) (headC h b1) (headC h b2) (headC h b3)) (constant S64x64 .f32 0x00000000#32))
    (broadcast S64x64 (Scalar.ofBits .f32 0x00000000#32 : F .f32))) bitsLt_bf16_f32

/-- Head `h` of the output's rows, from the state `st` of the head on entry to the chunk. -/
def outHead (h : Fin 32) (a qin b0 b1 b2 b3 v : FVec F S64x4096 .bf16) (st : FVec F S128x128 .f32) : FVec F S64x128 .f32 :=
  addf (matmul dot_S64x128_S128x128_S64x128_1_1_0_0_n_n none (headC h qin) (truncf .bf16 st bitsLt_bf16_f32)
      (constant S64x128 .f32 0x00000000#32))
    (matmul dot_S64x64_S64x128_S64x128_1_0_0_1_n_n none (scoreH h a b0 b1 b2 b3) (headC h v) (constant S64x128 .f32 0x00000000#32))

/-- The state of head `h` on leaving the chunk. -/
def stHead (h : Fin 32) (edge : FVec F S1x4096 .f32) (kend v : FVec F S64x4096 .bf16) (st : FVec F S128x128 .f32) : FVec F S128x128 .f32 :=
  addf (mulf st (broadcastTo S128x128 (extractStridedSlice S1x128 ![0, 128 * h.val] edge (slices_edge h)) broadcasts_S1x128_S128x128))
    (matmul dot_S64x128_S64x128_S128x128_0_0_1_1_n_n none (headC h v) (headC h kend) (constant S128x128 .f32 0x00000000#32))

/-- Head `h`'s square of a loaded plane. -/
abbrev sq (x : Vec F S1x128x128 .f32) : FVec F S128x128 .f32 := shapeCast S128x128 x shapeCasts_S1x128x128_S128x128

def outH (lb : FVec F S1x4096 .f32) (X0 X1 X2 : Vec F S64x4096 .f32) (S : Fin 32 → Vec F S1x128x128 .f32) (h : Fin 32) : FVec F S64x128 .f32 :=
  outHead h (aR lb X0 X1) (qinR lb X0 X1) (b0R lb X1) (b1R lb X1) (b2R lb X1) (b3R lb X1) (vR X2) (sq (S h))

def stH (lb : FVec F S1x4096 .f32) (X1 X2 : Vec F S64x4096 .f32) (S : Fin 32 → Vec F S1x128x128 .f32) (h : Fin 32) : FVec F S1x128x128 .f32 :=
  shapeCast S1x128x128 (stHead h (edgeR lb X1) (kendR lb X1) (vR X2) (sq (S h))) shapeCasts_S128x128_S1x128x128

/-- The heads side by side. -/
def cat32 (o : Fin 32 → FVec F S64x128 .f32) : FVec F S64x4096 .f32 :=
  concatenate S64x4096 1 [⟨S64x128, o 0⟩, ⟨S64x128, o 1⟩, ⟨S64x128, o 2⟩, ⟨S64x128, o 3⟩, ⟨S64x128, o 4⟩, ⟨S64x128, o 5⟩, ⟨S64x128, o 6⟩, ⟨S64x128, o 7⟩, ⟨S64x128, o 8⟩, ⟨S64x128, o 9⟩, ⟨S64x128, o 10⟩, ⟨S64x128, o 11⟩, ⟨S64x128, o 12⟩, ⟨S64x128, o 13⟩, ⟨S64x128, o 14⟩, ⟨S64x128, o 15⟩, ⟨S64x128, o 16⟩, ⟨S64x128, o 17⟩, ⟨S64x128, o 18⟩, ⟨S64x128, o 19⟩, ⟨S64x128, o 20⟩, ⟨S64x128, o 21⟩, ⟨S64x128, o 22⟩, ⟨S64x128, o 23⟩, ⟨S64x128, o 24⟩, ⟨S64x128, o 25⟩, ⟨S64x128, o 26⟩, ⟨S64x128, o 27⟩, ⟨S64x128, o 28⟩, ⟨S64x128, o 29⟩, ⟨S64x128, o 30⟩, ⟨S64x128, o 31⟩]
    concatenates_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x4096_d1

/-- The forward scan's rows plus this scan's. -/
def totR (O : Vec F S64x4096 .f32) (o : Fin 32 → FVec F S64x128 .f32) : FVec F S64x4096 .f32 := addf O (cat32 o)

/-- Head `h` over its root mean square. -/
def normH (x : FVec F S64x4096 .f32) (h : Fin 32) : FVec F S64x128 .f32 :=
  have s : FVec F S64x128 .f32 := extractStridedSlice S64x128 ![0, 128 * h.val] x (slices_head h)
  mulf s (broadcastTo S64x128 (rsqrt (addf (divf (shapeCast S64x1 (multiReduction .add [1] S64 (mulf s s) 0x00000000#32 reduces_S64x128_S64 (.inl rfl) rfl)
    shapeCasts_S64_S64x1) (broadcast S64x1 (Scalar.ofBits .f32 0x43000000#32 : F .f32))) (broadcast S64x1 (Scalar.ofBits .f32 0x358637BD#32 : F .f32))))
    broadcasts_S64x1_S64x128)

/-- The chunk's rows of the call's output: the sum's heads normed, the gain, the gate. -/
def outAll (O G : Vec F S64x4096 .f32) (W : Vec F S1x4096 .f32) (o : Fin 32 → FVec F S64x128 .f32) : FVec F S64x4096 .bf16 :=
  k0_pay5 G (k0_pay424 (cat32 (normH (totR O o))) W) (Scalar.ofBits .f32 0x3F000000#32)

end Cert.ScanBackIdeal.Scan

end
-- ==== Proof.BTrip.lean ====
/- What one trip of the chunk loop writes, in the head-by-head form of Heads.lean: the state's 32 planes, one store per head,
   and the chunk's rows of the output, one store. -/
module

public import proofs.«01_k».proof.Proof.BHeads
public import proofs.«01_k».proof.Proof.Gen.ScanBackIdeal.Loops
public import Idealize.ShloMosaic.Lib.WritesUnit
public import Idealize.ShloMosaic.Lib.VecWindow

@[expose] public section

set_option maxRecDepth 16384

noncomputable section

namespace Cert.ScanBackIdeal.Scan

open Cert.ScanBackIdeal Cert.ScanBackIdeal.Gen Idealize.ShloMosaic

variable {F : FTy → Type} [FloatOps F]

theorem inb_plane : ∀ h : Fin 32, ∀ a, (![h.val, 0, 0] : Fin 3 → Nat) a + S1x128x128.size a ≤ S32x128x128.size a := by decide

/-- The plane of head `h` as a load reads it. -/
def plane (arg10 : Memref sig .tc .vmem S32x128x128 .f32) (f10 : BufTy.Contents (Elt F) arg10.view.ty) (h : Fin 32) : Vec F S1x128x128 .f32 :=
  View.readAt (Elt F) arg10.view (Rect.unit (s := S32x128x128) ![h.val, 0, 0] S1x128x128.size (inb_plane h)).toLoadRect f10

/-- The rows of trip `k` as a load reads them. -/
def rowsOf (arg : Memref sig .tc .vmem S128x4096 .f32) (X : BufTy.Contents (Elt F) arg.view.ty) (k : Fin k0_t1_loop.trips) : Vec F S64x4096 .f32 :=
  View.readAt (Elt F) arg.view (Rect.unit (s := S128x4096) (k0_off1 k) S64x4096.size (k0_off1_inb k)).toLoadRect X

/-- The gain's row as a load reads it. -/
def gainOf (arg8 : Memref sig .tc .vmem S1x4096 .f32) (X : BufTy.Contents (Elt F) arg8.view.ty) : Vec F S1x4096 .f32 :=
  View.readAt (Elt F) arg8.view (Rect.unit (s := S1x4096) ![0, 0] S1x4096.size inb_S1x4096_S1x4096_0_0).toLoadRect X

variable (𝒱 : Variants) (c : Dev nD) (bd : Option 𝒱.V) (i : grid0.Coords) (arg2 : Memref sig .tc .vmem S128x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S2x4096 .f32) (harg5 : arg5.IsWhole) (arg6 : Memref sig .tc .vmem S128x4096 .f32) (harg6 : arg6.IsWhole) (arg7 : Memref sig .tc .vmem S128x4096 .f32) (harg7 : arg7.IsWhole) (arg8 : Memref sig .tc .vmem S1x4096 .f32) (harg8 : arg8.IsWhole) (arg9 : Memref sig .tc .vmem S128x4096 .bf16) (harg9 : arg9.IsWhole) (arg10 : Memref sig .tc .vmem S32x128x128 .f32) (harg10 : arg10.IsWhole) (v4 : Vec F S2x4096 .f32) (X2 : BufTy.Contents (Elt F) arg2.view.ty) (X3 : BufTy.Contents (Elt F) arg3.view.ty) (X4 : BufTy.Contents (Elt F) arg4.view.ty) (X6 : BufTy.Contents (Elt F) arg6.view.ty) (X7 : BufTy.Contents (Elt F) arg7.view.ty) (X8 : BufTy.Contents (Elt F) arg8.view.ty) (k : Fin k0_t1_loop.trips) (f9 : BufTy.Contents (Elt F) arg9.view.ty) (f10 : BufTy.Contents (Elt F) arg10.view.ty)

set_option maxHeartbeats 2000000 in
theorem trip_state :
    (trip_k0_t1 (F := F) 𝒱 c bd i arg2 harg2 arg3 harg3 arg4 harg4 arg5 harg5 arg6 harg6 arg7 harg7 arg8 harg8 arg9 harg9 arg10 harg10 v4 X2 X3 X4 X6 X7 X8 k).2.1 f9 f10
      = View.tilePieces (s := S32x128x128) S1x128x128.size (fun h : Fin 32 => ![h.val, 0, 0]) inb_plane
          (stH (lbRow v4) (rowsOf arg3 X3 k) (rowsOf arg4 X4 k) (plane arg10 f10)) 32 (le_refl 32) := by
  unfold trip_k0_t1
  rfl

set_option maxHeartbeats 2000000 in
theorem trip_out :
    (trip_k0_t1 (F := F) 𝒱 c bd i arg2 harg2 arg3 harg3 arg4 harg4 arg5 harg5 arg6 harg6 arg7 harg7 arg8 harg8 arg9 harg9 arg10 harg10 v4 X2 X3 X4 X6 X7 X8 k).1 f9 f10
      = [⟨Rect.unit (s := S128x4096) (k0_off1 k) S64x4096.size (k0_off1_inb k),
          outAll (rowsOf arg6 X6 k) (rowsOf arg7 X7 k) (gainOf arg8 X8) (outH (lbRow v4) (rowsOf arg2 X2 k) (rowsOf arg3 X3 k) (rowsOf arg4 X4 k) (plane arg10 f10))⟩] := by
  unfold trip_k0_t1
  rfl

end Cert.ScanBackIdeal.Scan

end
-- ==== Proof.BLoop.lean ====
/- The chunk loop of one grid point, as values: the state after `n` of the two chunks, last rows first (`stAt`), the point's rows of the output
   (`outBlk`), and that the loop's stores leave exactly these. -/
module

public import proofs.«01_k».proof.Proof.BTrip
public import Idealize.ShloMosaic.Lib.Pointwise

@[expose] public section

set_option maxRecDepth 16384

noncomputable section

namespace Cert.ScanBackIdeal.Scan

open Cert.ScanBackIdeal Cert.ScanBackIdeal.Gen Idealize.ShloMosaic

variable {F : FTy → Type} [FloatOps F]

theorem trips_two : k0_t1_loop.trips = 2 := by decide +kernel

/-- Head `h`'s plane of a state. -/
def planeV (S : Vec F S32x128x128 .f32) (h : Fin 32) : Vec F S1x128x128 .f32 :=
  VecWindow.window (s := S32x128x128) S ![h.val, 0, 0] S1x128x128.size (inb_plane h)

theorem inb_rows : ∀ k : Fin k0_t1_loop.trips, ∀ a, (![64 - 64 * k.val, 0] : Fin 2 → Nat) a + S64x4096.size a ≤ S128x4096.size a := by
  decide +kernel

/-- Chunk `k`'s rows of a block. -/
def rowsV (X : Vec F S128x4096 .f32) (k : Fin k0_t1_loop.trips) : Vec F S64x4096 .f32 :=
  VecWindow.window (s := S128x4096) X ![64 - 64 * k.val, 0] S64x4096.size (inb_rows k)

/-- The state after chunk `k`, from the state `S` before it. -/
def stNext (lb : FVec F S1x4096 .f32) (X1 X2 : Vec F S128x4096 .f32) (k : Fin k0_t1_loop.trips) (S : Vec F S32x128x128 .f32) : Vec F S32x128x128 .f32 :=
  fun y => stH lb (rowsV X1 k) (rowsV X2 k) (planeV S) (y 0) (ix3 (0 : Fin 1) (y 1) (y 2))

/-- The state after the first `n` chunks. -/
def stAt (lb : FVec F S1x4096 .f32) (X1 X2 : Vec F S128x4096 .f32) (S : Vec F S32x128x128 .f32) : ℕ → Vec F S32x128x128 .f32
  | 0 => S
  | n + 1 => if h : n < k0_t1_loop.trips then stNext lb X1 X2 ⟨n, h⟩ (stAt lb X1 X2 S n) else stAt lb X1 X2 S n

theorem stAt_succ (lb : FVec F S1x4096 .f32) (X1 X2 : Vec F S128x4096 .f32) (S : Vec F S32x128x128 .f32) (k : Fin k0_t1_loop.trips) :
    stAt lb X1 X2 S (k.val + 1) = stNext lb X1 X2 k (stAt lb X1 X2 S k.val) := dif_pos k.isLt

/-- Chunk `k`'s rows of the output. -/
def outChunk (lb : FVec F S1x4096 .f32) (X0 X1 X2 O G : Vec F S128x4096 .f32) (W : Vec F S1x4096 .f32) (S : Vec F S32x128x128 .f32) (k : Fin k0_t1_loop.trips) : FVec F S64x4096 .bf16 :=
  outAll (rowsV O k) (rowsV G k) W (outH lb (rowsV X0 k) (rowsV X1 k) (rowsV X2 k) (planeV (stAt lb X1 X2 S k.val)))

/-- The chunk a row of the block lies in. -/
def chunkOf (r : Fin 128) : Fin k0_t1_loop.trips := ⟨1 - r.val / 64, by rw [trips_two]; omega⟩

/-- The point's rows of the output. -/
def outBlk (lb : FVec F S1x4096 .f32) (X0 X1 X2 O G : Vec F S128x4096 .f32) (W : Vec F S1x4096 .f32) (S : Vec F S32x128x128 .f32) : Vec F S128x4096 .bf16 :=
  fun y => outChunk lb X0 X1 X2 O G W S (chunkOf (y 0)) (ix2 (⟨(y 0).val % 64, Nat.mod_lt _ (by decide)⟩ : Fin 64) (y 1))

theorem plane_eq (arg10 : Memref sig .tc .vmem S32x128x128 .f32) (f10 : BufTy.Contents (Elt F) arg10.view.ty) :
    plane arg10 f10 = planeV (arg10.view.read (Elt F) f10) := rfl

theorem rowsOf_eq (arg : Memref sig .tc .vmem S128x4096 .f32) (X : BufTy.Contents (Elt F) arg.view.ty) (k : Fin k0_t1_loop.trips) :
    rowsOf arg X k = rowsV (arg.view.read (Elt F) X) k :=
  View.readAt_unit arg.view X (k0_off1_inb k) (k0_off1_eq k) (inb_rows k)

theorem gainOf_eq (arg8 : Memref sig .tc .vmem S1x4096 .f32) (X : BufTy.Contents (Elt F) arg8.view.ty) :
    gainOf arg8 X = arg8.view.read (Elt F) X := View.readAt_full arg8.view X inb_S1x4096_S1x4096_0_0

variable (𝒱 : Variants) (c : Dev nD) (bd : Option 𝒱.V) (i : grid0.Coords) (arg2 : Memref sig .tc .vmem S128x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S2x4096 .f32) (harg5 : arg5.IsWhole) (arg6 : Memref sig .tc .vmem S128x4096 .f32) (harg6 : arg6.IsWhole) (arg7 : Memref sig .tc .vmem S128x4096 .f32) (harg7 : arg7.IsWhole) (arg8 : Memref sig .tc .vmem S1x4096 .f32) (harg8 : arg8.IsWhole) (arg9 : Memref sig .tc .vmem S128x4096 .bf16) (harg9 : arg9.IsWhole) (arg10 : Memref sig .tc .vmem S32x128x128 .f32) (harg10 : arg10.IsWhole) (v4 : Vec F S2x4096 .f32) (X2 : BufTy.Contents (Elt F) arg2.view.ty) (X3 : BufTy.Contents (Elt F) arg3.view.ty) (X4 : BufTy.Contents (Elt F) arg4.view.ty) (X6 : BufTy.Contents (Elt F) arg6.view.ty) (X7 : BufTy.Contents (Elt F) arg7.view.ty) (X8 : BufTy.Contents (Elt F) arg8.view.ty) (G9 : BufTy.Contents (Elt F) arg9.view.ty) (G10 : BufTy.Contents (Elt F) arg10.view.ty)

local notation "PB" n => pb_k0_t1 (F := F) 𝒱 c bd i arg2 harg2 arg3 harg3 arg4 harg4 arg5 harg5 arg6 harg6 arg7 harg7 arg8 harg8 arg9 harg9 arg10 harg10 v4 X2 X3 X4 X6 X7 X8 G9 G10 n

/-- The state's planes after the trips before `n`. -/
theorem loop_state (n : ℕ) (hn : n ≤ k0_t1_loop.trips) :
    arg10.view.read (Elt F) (arg10.view.writes (Elt F) G10 (PB n).2)
      = stAt (lbRow v4) (arg3.view.read (Elt F) X3) (arg4.view.read (Elt F) X4) (arg10.view.read (Elt F) G10) n := by
  induction n with
  | zero => rfl
  | succ n ih =>
    have hk : n < k0_t1_loop.trips := hn
    have ih' := ih (Nat.le_of_lt hk)
    rw [pb_k0_t1_succ 𝒱 c bd i arg2 harg2 arg3 harg3 arg4 harg4 arg5 harg5 arg6 harg6 arg7 harg7 arg8 harg8 arg9 harg9 arg10 harg10 v4 X2 X3 X4 X6 X7 X8 G9 G10 ⟨n, hk⟩]
    rw [stAt_succ _ _ _ _ ⟨n, hk⟩, View.writes_append]
    dsimp only
    rw [trip_state, plane_eq, ih', rowsOf_eq, rowsOf_eq]
    funext y
    refine View.read_tilePieces arg10.view _ _ _ _ _ 32 (le_refl 32) y (y 0) (y 0).isLt (ix3 (0 : Fin 1) (y 1) (y 2)) ?_ 0 ?_
    · intro a
      match a with
      | ⟨0, _⟩ => rfl
      | ⟨1, _⟩ => exact (Nat.zero_add _).symm
      | ⟨2, _⟩ => exact (Nat.zero_add _).symm
    · intro j hj
      have : j.val ≠ (y 0).val := fun h => hj (Fin.ext h)
      show (y 0).val < j.val ∨ j.val + 1 ≤ (y 0).val
      omega

/-- The output's rows written by the trips before `n`. -/
theorem loop_out (n : ℕ) (hn : n ≤ k0_t1_loop.trips) (y : S128x4096.Idx) (hy : 128 ≤ (y 0).val + 64 * n) :
    arg9.view.read (Elt F) (arg9.view.writes (Elt F) G9 (PB n).1) y
      = outBlk (lbRow v4) (arg2.view.read (Elt F) X2) (arg3.view.read (Elt F) X3) (arg4.view.read (Elt F) X4) (arg6.view.read (Elt F) X6) (arg7.view.read (Elt F) X7) (arg8.view.read (Elt F) X8) (arg10.view.read (Elt F) G10) y := by
  induction n with
  | zero => exact absurd hy (by have h : (y 0).val < 128 := (y 0).isLt; omega)
  | succ n ih =>
    have hk : n < k0_t1_loop.trips := hn
    have hk2 : n < 2 := by rw [trips_two] at hk; exact hk
    rw [pb_k0_t1_succ 𝒱 c bd i arg2 harg2 arg3 harg3 arg4 harg4 arg5 harg5 arg6 harg6 arg7 harg7 arg8 harg8 arg9 harg9 arg10 harg10 v4 X2 X3 X4 X6 X7 X8 G9 G10 ⟨n, hk⟩]
    dsimp only
    rw [trip_out, plane_eq, loop_state 𝒱 c bd i arg2 harg2 arg3 harg3 arg4 harg4 arg5 harg5 arg6 harg6 arg7 harg7 arg8 harg8 arg9 harg9 arg10 harg10 v4 X2 X3 X4 X6 X7 X8 G9 G10 n (Nat.le_of_lt hk), rowsOf_eq, rowsOf_eq, rowsOf_eq, rowsOf_eq, rowsOf_eq, gainOf_eq]
    by_cases hlt : 128 ≤ (y 0).val + 64 * n
    · refine (View.read_writes_cons_unit_of_not_mem arg9.view _ _ _ _ y (k0_off1_eq ⟨n, hk⟩) 0 (Or.inr ?_)).trans (ih (Nat.le_of_lt hk) hlt)
      show 64 - 64 * n + 64 ≤ (y 0).val
      omega
    · have hc : chunkOf (y 0) = ⟨n, hk⟩ := Fin.ext (by show 1 - (y 0).val / 64 = n; omega)
      unfold outBlk
      rw [hc]
      refine View.read_writes_cons_unit_of_mem arg9.view _ _ _ _ y _ (k0_off1_eq ⟨n, hk⟩) ?_
      intro a
      match a with
      | ⟨0, _⟩ => show (y 0).val = 64 - 64 * n + (y 0).val % 64; omega
      | ⟨1, _⟩ => exact (Nat.zero_add _).symm

end Cert.ScanBackIdeal.Scan

end
-- ==== Proof.BBody.lean ====
/- The body's triple at one grid point, whichever float it runs on: at the grid's first point the carried state is set to zero
   before the loop; at every other point it is the state the point before left. -/
module

public import proofs.«01_k».proof.Proof.BLoop
public import proofs.«01_k».proof.Proof.Gen.ScanBackIdeal.Frame.Runs

@[expose] public section

set_option maxRecDepth 16384

noncomputable section

namespace Cert.ScanBackIdeal.Scan

open Cert.ScanBackIdeal Cert.ScanBackIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The state the scan starts from. -/
abbrev st0 : Vec F S32x128x128 .f32 := k0_pay1

variable (c : Dev nD) (i : grid0.Coords) (arg2 : Memref sig .tc .vmem S128x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S2x4096 .f32) (harg5 : arg5.IsWhole) (arg6 : Memref sig .tc .vmem S128x4096 .f32) (harg6 : arg6.IsWhole) (arg7 : Memref sig .tc .vmem S128x4096 .f32) (harg7 : arg7.IsWhole) (arg8 : Memref sig .tc .vmem S1x4096 .f32) (harg8 : arg8.IsWhole) (arg9 : Memref sig .tc .vmem S128x4096 .bf16) (harg9 : arg9.IsWhole) (arg10 : Memref sig .tc .vmem S32x128x128 .f32) (harg10 : arg10.IsWhole)
    (x0 x1 x2 : Vec F S128x4096 .f32) (x3 : Vec F S2x4096 .f32) (x4 x5 : Vec F S128x4096 .f32) (x6 : Vec F S1x4096 .f32)

theorem zero2 : (![0, 0] : Fin 2 → ℕ) = fun _ => 0 := by funext a; match a with | ⟨0, _⟩ => rfl | ⟨1, _⟩ => rfl
theorem zero3 : (![0, 0, 0] : Fin 3 → ℕ) = fun _ => 0 := by funext a; match a with | ⟨0, _⟩ => rfl | ⟨1, _⟩ => rfl | ⟨2, _⟩ => rfl

/-- A store of the whole state is read back. -/
theorem read_store_whole (w : Vec F S32x128x128 .f32) (inb : ∀ a, (![0, 0, 0] : Fin 3 → ℕ) a + S32x128x128.size a ≤ S32x128x128.size a)
    (f : BufTy.Contents (Elt F) arg10.view.ty) :
    arg10.view.read (Elt F) (arg10.view.writes (Elt F) f [⟨Rect.unit (s := S32x128x128) ![0, 0, 0] S32x128x128.size inb, w⟩]) = w :=
  funext fun y => View.read_writes_cons_unit_of_mem arg10.view f inb w [] y y zero3 (fun _ => (Nat.zero_add _).symm)

/-- The loop's stores, from a state read as `S`: the point's rows of the output. -/
theorem loop_outBlk (v4 : Vec F S2x4096 .f32) (hv4 : v4 = x3) (f9 : BufTy.Contents (Elt F) arg9.view.ty) (f10 : BufTy.Contents (Elt F) arg10.view.ty)
    (S : Vec F S32x128x128 .f32) (hS : arg10.view.read (Elt F) f10 = S) (n : ℕ) (hn : n = k0_t1_loop.trips) :
    arg9.view.read (Elt F) (arg9.view.writes (Elt F) f9 (pb_k0_t1 Variants.none c none i arg2 harg2 arg3 harg3 arg4 harg4 arg5 harg5 arg6 harg6 arg7 harg7 arg8 harg8 arg9 harg9 arg10 harg10 v4
        (harg2.unread x0) (harg3.unread x1) (harg4.unread x2) (harg6.unread x4) (harg7.unread x5) (harg8.unread x6) f9 f10 n).1) = outBlk (lbRow x3) x0 x1 x2 x4 x5 x6 S := by
  subst hv4 hS hn
  funext y
  rw [loop_out _ _ _ _ _ _ _ _ _ _ _ _ _ _ _ _ _ _ _ _ _ _ _ _ _ _ _ _ _ _ _ _ (le_refl _) y (by rw [trips_two]; omega),
    harg2.read_unread, harg3.read_unread, harg4.read_unread, harg6.read_unread, harg7.read_unread, harg8.read_unread]

/-- and the state. -/
theorem loop_stAt (v4 : Vec F S2x4096 .f32) (hv4 : v4 = x3) (f9 : BufTy.Contents (Elt F) arg9.view.ty) (f10 : BufTy.Contents (Elt F) arg10.view.ty)
    (S : Vec F S32x128x128 .f32) (hS : arg10.view.read (Elt F) f10 = S) (n : ℕ) (hn : n = k0_t1_loop.trips) :
    arg10.view.read (Elt F) (arg10.view.writes (Elt F) f10 (pb_k0_t1 Variants.none c none i arg2 harg2 arg3 harg3 arg4 harg4 arg5 harg5 arg6 harg6 arg7 harg7 arg8 harg8 arg9 harg9 arg10 harg10 v4
        (harg2.unread x0) (harg3.unread x1) (harg4.unread x2) (harg6.unread x4) (harg7.unread x5) (harg8.unread x6) f9 f10 n).2) = stAt (lbRow x3) x1 x2 S k0_t1_loop.trips := by
  subst hv4 hS hn
  rw [loop_state _ _ _ _ _ _ _ _ _ _ _ _ _ _ _ _ _ _ _ _ _ _ _ _ _ _ _ _ _ _ _ _ (le_refl _), harg3.read_unread, harg4.read_unread]

/-- The lower bound's logits as the body loads them. -/
theorem load_lb : View.readAt (Elt F) arg5.view (Rect.unit (s := S2x4096) ![0, 0] S2x4096.size inb_S2x4096_S2x4096_0_0).toLoadRect (harg5.unread x3) = x3 :=
  (View.readAt_full arg5.view (harg5.unread x3) inb_S2x4096_S2x4096_0_0).trans (harg5.read_unread x3)

set_option maxHeartbeats 1000000 in
/-- At the first point. -/
theorem body_first (hc0 : cond0_0 i) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (outBlk (lbRow x3) x0 x1 x2 x4 x5 x6 st0) ∗ owns (c : Thread nD τ) arg10 fullShare (stAt (lbRow x3) x1 x2 st0 k0_t1_loop.trips)) -∗ K ⟨⟩))
      ⊢ wp frame (wpE (defs₀ (F := F)) Variants.none c none) E (cc0_hgrn_scan_bwd i arg2 harg2 arg3 harg3 arg4 harg4 arg5 harg5 arg6 harg6 arg7 harg7 arg8 harg8 arg9 harg9 arg10 harg10) K := by
  simp only [cc0_hgrn_scan_bwd_eq_skeleton]; unfold cc0_hgrn_scan_bwd_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; · iexact H7
    ipureintro
    exact loop_outBlk c i arg2 harg2 arg3 harg3 arg4 harg4 arg5 harg5 arg6 harg6 arg7 harg7 arg8 harg8 arg9 harg9 arg10 harg10 x0 x1 x2 x3 x4 x5 x6 _ (load_lb arg5 harg5 x3) _ _ st0 (read_store_whole arg10 _ _ _) _ rfl
  iexists _; isplitr; swap; · iexact HS0
  ipureintro
  rw [View.writes_append]
  exact loop_stAt c i arg2 harg2 arg3 harg3 arg4 harg4 arg5 harg5 arg6 harg6 arg7 harg7 arg8 harg8 arg9 harg9 arg10 harg10 x0 x1 x2 x3 x4 x5 x6 _ (load_lb arg5 harg5 x3) _ _ st0 (read_store_whole arg10 _ _ _) _ rfl

set_option maxHeartbeats 1000000 in
/-- At every other point. -/
theorem body_later (hc0 : ¬cond0_0 i) (S : Vec F S32x128x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare S
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (outBlk (lbRow x3) x0 x1 x2 x4 x5 x6 S) ∗ owns (c : Thread nD τ) arg10 fullShare (stAt (lbRow x3) x1 x2 S k0_t1_loop.trips)) -∗ K ⟨⟩))
      ⊢ wp frame (wpE (defs₀ (F := F)) Variants.none c none) E (cc0_hgrn_scan_bwd i arg2 harg2 arg3 harg3 arg4 harg4 arg5 harg5 arg6 harg6 arg7 harg7 arg8 harg8 arg9 harg9 arg10 harg10) K := by
  simp only [cc0_hgrn_scan_bwd_eq_skeleton]; unfold cc0_hgrn_scan_bwd_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hs0
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; · iexact H7
    ipureintro
    exact loop_outBlk c i arg2 harg2 arg3 harg3 arg4 harg4 arg5 harg5 arg6 harg6 arg7 harg7 arg8 harg8 arg9 harg9 arg10 harg10 x0 x1 x2 x3 x4 x5 x6 _ (load_lb arg5 harg5 x3) _ _ S (harg10.read_unread S) _ rfl
  iexists _; isplitr; swap; · iexact HS0
  ipureintro
  exact loop_stAt c i arg2 harg2 arg3 harg3 arg4 harg4 arg5 harg5 arg6 harg6 arg7 harg7 arg8 harg8 arg9 harg9 arg10 harg10 x0 x1 x2 x3 x4 x5 x6 _ (load_lb arg5 harg5 x3) _ _ S (harg10.read_unread S) _ rfl

end Cert.ScanBackIdeal.Scan

end
-- ==== Proof.BRun.lean ====
/- The launch: what the pipeline's proof data are for this kernel, the body's obligation at every point, and the run, whichever
   float it runs on. The carried state before grid point `n` is `ptState n`; point `t` writes `ptOut t`. -/
module

public import proofs.«01_k».proof.Proof.BBody
public import Idealize.ShloMosaic.Lib.Claim
public import Idealize.ShloMosaic.Lib.Pipeline.Value

@[expose] public section

set_option maxRecDepth 16384

noncomputable section

namespace Cert.ScanBackIdeal.Scan

open Cert.ScanBackIdeal Cert.ScanBackIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The carried state and the output, point by point -/

/-- The blocks of a point: queries, gates, values, the lower bound's logits, the forward scan's rows, the gate logits and the gain. -/
abbrev blkQ (c : Dev nD) (t : Fin cfg0.N) : Vec F S128x4096 .f32 := iblk m c 0 t
abbrev blkG (c : Dev nD) (t : Fin cfg0.N) : Vec F S128x4096 .f32 := iblk m c 1 t
abbrev blkV (c : Dev nD) (t : Fin cfg0.N) : Vec F S128x4096 .f32 := iblk m c 2 t
abbrev blkL (c : Dev nD) (t : Fin cfg0.N) : Vec F S2x4096 .f32 := iblk m c 3 t
abbrev blkO (c : Dev nD) (t : Fin cfg0.N) : Vec F S128x4096 .f32 := iblk m c 4 t
abbrev blkS (c : Dev nD) (t : Fin cfg0.N) : Vec F S128x4096 .f32 := iblk m c 5 t
abbrev blkW (c : Dev nD) (t : Fin cfg0.N) : Vec F S1x4096 .f32 := iblk m c 6 t

/-- The state before point `n`. -/
def ptState (c : Dev nD) : ℕ → Vec F S32x128x128 .f32
  | 0 => st0
  | n + 1 => if h : n < cfg0.N then
      stAt (lbRow (blkL m c ⟨n, h⟩)) (blkG m c ⟨n, h⟩) (blkV m c ⟨n, h⟩) (ptState c n) k0_t1_loop.trips
    else ptState c n

theorem ptState_succ (c : Dev nD) (t : Fin cfg0.N) :
    ptState m c (t.val + 1) = stAt (lbRow (blkL m c t)) (blkG m c t) (blkV m c t) (ptState m c t.val) k0_t1_loop.trips :=
  dif_pos t.isLt

/-- What point `t` leaves in the output's staging buffer. -/
def ptOut (c : Dev nD) (t : Fin cfg0.N) : Vec F S128x4096 .bf16 :=
  outBlk (lbRow (blkL m c t)) (blkQ m c t) (blkG m c t) (blkV m c t) (blkO m c t) (blkS m c t) (blkW m c t) (ptState m c t.val)

/-- The invariant before point `n`: the scratch at the state, at anything before the first; the generator at some state. -/
def inv (c : Dev nD) : ℕ → sProp 𝕄
  | 0 => Pipeline.ΦA spec0 c
  | n + 1 => iprop(owns (c : Thread nD τ) scM0_0 fullShare (ptState m c (n + 1)) ∗ (∃ r, prngReg c r))

theorem inv_pos (c : Dev nD) (n : ℕ) (hn : n ≠ 0) :
    inv m c n = iprop(owns (c : Thread nD τ) scM0_0 fullShare (ptState m c n) ∗ (∃ r, prngReg c r)) := by
  cases n with
  | zero => exact absurd rfl hn
  | succ n => rfl

/-! ## The pipeline's proof data and the body's obligation -/

/-- Inputs stay at their blocks, the output ends at `ptOut`, the invariant is `inv`. -/
def scanDat (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => ptOut m c t
  Φ t := inv m c t.val
  q w := Pipeline.shareOf spec0 w
  owed _ := 0

theorem scanDat_A (c : Dev nD) (w : Fin cfg0.W) : (scanDat m 0 c).A w = V m c (Pipeline.arrRef spec0 w) := by
  dsimp only [scanDat]

theorem aft0 (c : Dev nD) (t : Fin cfg0.N) : (scanDat m 0 c).after 0 t = iblk m c 0 t := by dsimp only [scanDat]
theorem aft1 (c : Dev nD) (t : Fin cfg0.N) : (scanDat m 0 c).after 1 t = iblk m c 1 t := by dsimp only [scanDat]
theorem aft2 (c : Dev nD) (t : Fin cfg0.N) : (scanDat m 0 c).after 2 t = iblk m c 2 t := by dsimp only [scanDat]
theorem aft3 (c : Dev nD) (t : Fin cfg0.N) : (scanDat m 0 c).after 3 t = iblk m c 3 t := by dsimp only [scanDat]
theorem aft4 (c : Dev nD) (t : Fin cfg0.N) : (scanDat m 0 c).after 4 t = iblk m c 4 t := by dsimp only [scanDat]
theorem aft5 (c : Dev nD) (t : Fin cfg0.N) : (scanDat m 0 c).after 5 t = iblk m c 5 t := by dsimp only [scanDat]
theorem aft6 (c : Dev nD) (t : Fin cfg0.N) : (scanDat m 0 c).after 6 t = iblk m c 6 t := by dsimp only [scanDat]
theorem aft7 (c : Dev nD) (t : Fin cfg0.N) : (scanDat m 0 c).after 7 t = ptOut m c t := by dsimp only [scanDat]

theorem bef0 (c : Dev nD) (t : Fin cfg0.N) (d) : (scanDat m 0 c).before 0 t d = iblk m c 0 t :=
  before0_0_of m (scanDat m 0 c) (scanDat_A m c 0) (aft0 m c) t d
theorem bef1 (c : Dev nD) (t : Fin cfg0.N) (d) : (scanDat m 0 c).before 1 t d = iblk m c 1 t :=
  before0_1_of m (scanDat m 0 c) (scanDat_A m c 1) (aft1 m c) t d
theorem bef2 (c : Dev nD) (t : Fin cfg0.N) (d) : (scanDat m 0 c).before 2 t d = iblk m c 2 t :=
  before0_2_of m (scanDat m 0 c) (scanDat_A m c 2) (aft2 m c) t d
theorem bef3 (c : Dev nD) (t : Fin cfg0.N) (d) : (scanDat m 0 c).before 3 t d = iblk m c 3 t :=
  before0_3_of m (scanDat m 0 c) (scanDat_A m c 3) (aft3 m c) t d
theorem bef4 (c : Dev nD) (t : Fin cfg0.N) (d) : (scanDat m 0 c).before 4 t d = iblk m c 4 t :=
  before0_4_of m (scanDat m 0 c) (scanDat_A m c 4) (aft4 m c) t d
theorem bef5 (c : Dev nD) (t : Fin cfg0.N) (d) : (scanDat m 0 c).before 5 t d = iblk m c 5 t :=
  before0_5_of m (scanDat m 0 c) (scanDat_A m c 5) (aft5 m c) t d
theorem bef6 (c : Dev nD) (t : Fin cfg0.N) (d) : (scanDat m 0 c).before 6 t d = iblk m c 6 t :=
  before0_6_of m (scanDat m 0 c) (scanDat_A m c 6) (aft6 m c) t d

set_option maxHeartbeats 800000 in
/-- The body at point `t`, from what the pipeline hands it to what it takes back. -/
theorem at_point (c : Dev nD) (t : Fin cfg0.N) :
    iprop((scanDat m 0 c).Φ t.castSucc ∗ (scanDat m 0 c).owesAt () t.castSucc
        ∗ (∃ d, owns (c : Thread nD τ) (ms0_0 t) fullShare ((scanDat m 0 c).before 0 t d))
        ∗ (∃ d, owns (c : Thread nD τ) (ms0_1 t) fullShare ((scanDat m 0 c).before 1 t d))
        ∗ (∃ d, owns (c : Thread nD τ) (ms0_2 t) fullShare ((scanDat m 0 c).before 2 t d))
        ∗ (∃ d, owns (c : Thread nD τ) (ms0_3 t) fullShare ((scanDat m 0 c).before 3 t d))
        ∗ (∃ d, owns (c : Thread nD τ) (ms0_4 t) fullShare ((scanDat m 0 c).before 4 t d))
        ∗ (∃ d, owns (c : Thread nD τ) (ms0_5 t) fullShare ((scanDat m 0 c).before 5 t d))
        ∗ (∃ d, owns (c : Thread nD τ) (ms0_6 t) fullShare ((scanDat m 0 c).before 6 t d))
        ∗ (∃ d, owns (c : Thread nD τ) (ms0_7 t) fullShare ((scanDat m 0 c).before 7 t d)))
      ⊢ wp frame (wpE (defs₀ (F := F)) Variants.none c none) Set.univ (bodyAt0 t) (fun _ =>
        iprop((scanDat m 0 c).Φ t.succ ∗ (scanDat m 0 c).owesAt () t.succ
          ∗ owns (c : Thread nD τ) (ms0_0 t) fullShare ((scanDat m 0 c).after 0 t)
          ∗ owns (c : Thread nD τ) (ms0_1 t) fullShare ((scanDat m 0 c).after 1 t)
          ∗ owns (c : Thread nD τ) (ms0_2 t) fullShare ((scanDat m 0 c).after 2 t)
          ∗ owns (c : Thread nD τ) (ms0_3 t) fullShare ((scanDat m 0 c).after 3 t)
          ∗ owns (c : Thread nD τ) (ms0_4 t) fullShare ((scanDat m 0 c).after 4 t)
          ∗ owns (c : Thread nD τ) (ms0_5 t) fullShare ((scanDat m 0 c).after 5 t)
          ∗ owns (c : Thread nD τ) (ms0_6 t) fullShare ((scanDat m 0 c).after 6 t)
          ∗ owns (c : Thread nD τ) (ms0_7 t) fullShare ((scanDat m 0 c).after 7 t))) := by
  unfold bodyAt0
  simp only [bef0, bef1, bef2, bef3, bef4, bef5, bef6]
  rw [show (scanDat m 0 c).owesAt () t.succ = (scanDat m 0 c).owesAt () t.castSucc from rfl, aft0, aft1, aft2, aft3, aft4, aft5, aft6, aft7]
  rw [show (scanDat m 0 c).Φ t.succ = inv m c (t.val + 1) from rfl, show (scanDat m 0 c).Φ t.castSucc = inv m c t.val from rfl,
    inv_pos m c (t.val + 1) (Nat.succ_ne_zero _), ptState_succ]
  have hN : t.val < 128 := lt_of_lt_of_eq t.isLt (show cfg0.N = 128 from N_0)
  unfold ptOut
  by_cases hz : t.val = 0
  · rw [show inv m c t.val = Pipeline.ΦA spec0 c from by rw [hz]; rfl, PhiA0_eq, show ptState m c t.val = st0 from by rw [hz]; rfl]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_first c (grid0.coords t) _ _ _ _ _ _ _ _ _ _ _ _ _ _ _ _ _ _ (blkQ m c t) (blkG m c t) (blkV m c t) (blkL m c t) (blkO m c t) (blkS m c t) (blkW m c t)
      ((hcond0_0 t).mpr (by omega)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H1, H2, H3, H4, H5, H6, H7, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [inv_pos m c t.val hz]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_later c (grid0.coords t) _ _ _ _ _ _ _ _ _ _ _ _ _ _ _ _ _ _ (blkQ m c t) (blkG m c t) (blkV m c t) (blkL m c t) (blkO m c t) (blkS m c t) (blkW m c t)
      (fun h => hz (by have := (hcond0_0 t).mp h; omega)) (ptState m c t.val) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H1, H2, H3, H4, H5, H6, H7, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem body_row (t : Fin cfg0.N) : defs₀ (F := F) .tc cfg0.body (cfg0.bodyArgs t (cfg0.slots t)) = bodyAt0 t := by
  unfold defs₀; rw [Defs.onTc_tc]

theorem obligation (c : Dev nD) : BodyObligation (scanDat (F := F) m 0 c) (defs₀ (F := F)) Variants.none () Set.univ := fun t => by
  rw [bigSep_W0, bigSep_W0, body_row]
  exact triple_restated (at_point m c t) rfl .rfl fun _ => .rfl

theorem enter (c : Dev nD) : Pipeline.ΦA spec0 c ⊢ (scanDat m 0 c).Φ 0 := by
  rw [show (scanDat m 0 c).Φ 0 = Pipeline.ΦA spec0 c from rfl]
  try exact Idealize.SL.BI.Entails.refl _

theorem leave (c : Dev nD) : (scanDat m 0 c).Φ (Fin.last cfg0.N) ⊢ Pipeline.ΦA spec0 c := by
  rw [show (scanDat m 0 c).Φ (Fin.last cfg0.N) = inv m c cfg0.N from rfl,
    inv_pos m c cfg0.N (by have : cfg0.N = 128 := N_0; omega), PhiA0_eq]
  iintro ⟨HS, Hg⟩
  isplitl [HS]
  · iexists _; iexact HS
  iexact Hg

/-! ## The run -/

set_option backward.isDefEq.respectTransparency.types false in
/-- Every weakly fair execution ends, with the pipeline's arrays at what the proof data say and every counter at zero. -/
theorem scan_run : θ_run defs (onTc (τ := τ) (main (F := F))) (s₀ m ρ)
    (fun r => (Pipeline.FramePost cfgs (scanDat m) 0 (V m)) r ∧ r.2.sem = fun _ => 0) :=
  Pipeline.θ_run_frame_track_shared (Q' := _) cfgs (scanDat m) (0 : Fin 1) launch₀0 defs₀ Variants.none m ρ main
    (hbody := fun c => (obligation m c).loose) (hq := fun _ _ _ => rfl) (howed := fun _ _ => rfl)
    (V := V m) (hmain := hmain m Variants.none) (hA := scanDat_A m) (hin := enter m) (hout := leave m)

/-- The point that writes row `r` of the output. -/
def pointOf (r : Fin 16384) : Fin cfg0.N := ⟨127 - r.val / 128, by rw [show cfg0.N = 128 from N_0]; omega⟩

/-- The array whose rows are the points' blocks `P`. -/
def rowsFrom (P : Fin cfg0.N → Vec F S128x4096 .bf16) : Vec F S16384x4096 .bf16 := fun y =>
  P (pointOf (y 0)) (ix2 (⟨(y 0).val % 128, Nat.mod_lt _ (by decide)⟩ : Fin 128) (y 1))

/-- The output array. -/
def scanOut (c : Dev nD) : Vec F S16384x4096 .bf16 := rowsFrom (ptOut m c)

theorem out_index : ∀ t : Fin cfg0.N, win0_7.index t (0 : Fin 2) = 127 - t.val ∧ win0_7.index t (1 : Fin 2) = 0 ∧ (cfg0.win 7).flush t = true :=
  (by decide +kernel : ∀ t : Fin grid0.N, win0_7.index t (0 : Fin 2) = 127 - t.val ∧ win0_7.index t (1 : Fin 2) = 0 ∧ win0_7.flush t = true)

theorem cut_rowsFrom (P : Fin cfg0.N → Vec F S128x4096 .bf16) (t : Fin cfg0.N) :
    (cfg0.win 7).cut (grid0.coords t) (P t) = ((cfg0.win 7).blk t).view.read (Elt F) (rowsFrom P) := by
  obtain ⟨e0, e1, -⟩ := out_index t
  have hN : t.val < 128 := lt_of_lt_of_eq t.isLt (show cfg0.N = 128 from N_0)
  funext y
  have h0 : (y 0).val < 128 := (y 0).isLt
  have h1 : (y 1).val < 4096 := (y 1).isLt
  have hb0 : (((cfg0.win 7).blk t).view.emb y 0).val = win0_7.index t (0 : Fin 2) * 128 + 1 * (y 0).val := rfl
  have hb1 : (((cfg0.win 7).blk t).view.emb y 1).val = win0_7.index t (1 : Fin 2) * 4096 + 1 * (y 1).val := rfl
  rw [e0] at hb0; rw [e1] at hb1
  show P t ((cfg0.win 7).xinj (grid0.coords t) y) = rowsFrom P (((cfg0.win 7).blk t).view.emb y)
  have hp : pointOf (((cfg0.win 7).blk t).view.emb y 0) = t :=
    Fin.ext (by show 127 - (((cfg0.win 7).blk t).view.emb y 0).val / 128 = t.val; rw [hb0]; omega)
  unfold rowsFrom
  rw [hp]
  congr 1
  funext a; apply Fin.ext
  match a with
  | ⟨0, _⟩ => show (y 0).val = (((cfg0.win 7).blk t).view.emb y 0).val % 128; rw [hb0]; omega
  | ⟨1, _⟩ => show (y 1).val = (((cfg0.win 7).blk t).view.emb y 1).val; rw [hb1]; omega

theorem out_array (c : Dev nD) : (scanDat m 0 c).arrAt 7 cfg0.N = scanOut m c := by
  refine (scanDat m 0 c).arrAt_eq_of_cover 7 _ (fun t _ => ?_) (fun y => ?_)
  · show (cfg0.win 7).cut (grid0.coords t) ((scanDat m 0 c).after 7 t) = _
    rw [aft7]
    exact cut_rowsFrom (ptOut m c) t
  · have h0 : (y 0).val < 16384 := (y 0).isLt
    have h1 : (y 1).val < 4096 := (y 1).isLt
    obtain ⟨e0, e1, ef⟩ := out_index (pointOf (y 0))
    refine ⟨pointOf (y 0), ef, ?_⟩
    show y ∈ ((View.whole main_v4).slice (win0_7.rect (pointOf (y 0)))).set
    rw [View.set_slice_whole, Rect.mem_set_unit]
    have hv : (pointOf (y 0)).val = 127 - (y 0).val / 128 := rfl
    intro a
    match a with
    | ⟨0, _⟩ =>
      show win0_7.index (pointOf (y 0)) (0 : Fin 2) * 128 ≤ (y 0).val ∧ (y 0).val < win0_7.index (pointOf (y 0)) (0 : Fin 2) * 128 + 128
      rw [e0, hv]; omega
    | ⟨1, _⟩ =>
      show win0_7.index (pointOf (y 0)) (1 : Fin 2) * 4096 ≤ (y 1).val ∧ (y 1).val < win0_7.index (pointOf (y 0)) (1 : Fin 2) * 4096 + 4096
      rw [e1]; omega

/-- The frame: the arguments end as they were, the counters at zero. -/
theorem scan_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r h => ⟨fun c =>
      ⟨((h.1 c).1 5).trans (((scanDat m 0 c).arrAt_in 5 rfl _).trans ((scanDat_A m c 5).trans (V_main_arg0 m c))),
        ((h.1 c).2 main_arg1 (Pipeline.mem_restRefs_of main_arg1 (by decide) (by decide))).trans (V_main_arg1 m c),
        ((h.1 c).1 4).trans (((scanDat m 0 c).arrAt_in 4 rfl _).trans ((scanDat_A m c 4).trans (V_main_arg2 m c))),
        ((h.1 c).2 main_arg3 (Pipeline.mem_restRefs_of main_arg3 (by decide) (by decide))).trans (V_main_arg3 m c)⟩, h.2⟩)
    (scan_run m ρ)

/-- The value: the output array and the arguments. -/
theorem scan_value : θ_run defs (onTc (τ := τ) (main (F := F))) ⟨m, fun _ => 0, ρ⟩ (fun r => ∀ c : Dev nD,
      r.2.mem ((c.tc : Thread nD τ).loc main_v4) = scanOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h.1 c).1 7).trans (out_array m c),
      ((h.1 c).1 5).trans (((scanDat m 0 c).arrAt_in 5 rfl _).trans ((scanDat_A m c 5).trans (V_main_arg0 m c))),
        ((h.1 c).2 main_arg1 (Pipeline.mem_restRefs_of main_arg1 (by decide) (by decide))).trans (V_main_arg1 m c),
        ((h.1 c).1 4).trans (((scanDat m 0 c).arrAt_in 4 rfl _).trans ((scanDat_A m c 4).trans (V_main_arg2 m c))),
        ((h.1 c).2 main_arg3 (Pipeline.mem_restRefs_of main_arg3 (by decide) (by decide))).trans (V_main_arg3 m c)⟩)
    (scan_run m ρ)

end Cert.ScanBackIdeal.Scan

end
-- ==== Proof.BKRows.lean ====
/- The rows of one trip of the backward scan over the extended reals, at an index. A chunk's row `r` is the scan's token `r.rev`:
   its sums run from the row to the chunk's last, so they are the prefix sums of Spec.lean's `cum` over the rows in reverse. -/
module

public import proofs.«01_k».proof.Proof.BHeads
public import proofs.«01_k».proof.Proof.KRows

@[expose] public section

set_option maxRecDepth 16384

noncomputable section

namespace Cert.ScanBackIdeal.Scan

open Cert.ScanBackIdeal Cert.ScanBackIdeal.Gen Idealize.ShloMosaic Cert.Scan
open Cert.KernelIdeal.Scan (bits_half bits_two bits_115 coe_sum log_two_pos exp2_scaled sub_scaled lg refI sub sub_cases zero_scaled ladder clamped)

/-! ## The mask -/

theorem mask_apply (t s : Fin 64) : k0_pay3 (ix2 t s) = if t ≤ s then 1#1 else 0#1 := by
  pointwise [k0_pay3]
  revert t s
  decide +kernel

theorem tri_apply (t s : Fin 64) : (k0_pay4 (F := Ideal)) (ix2 t s) = if t ≤ s then (1 : EReal) else 0 := by
  pointwise [k0_pay4]
  rw [mask_apply]
  show (((BitVec.setWidth 32 (if t ≤ s then 1#1 else 0#1)).toInt : ℝ) : EReal) = _
  split
  · show (((1 : ℤ) : ℝ) : EReal) = 1
    norm_num
  · show (((0 : ℤ) : ℝ) : EReal) = 0
    norm_num

/-! ## The gates -/

section Rows
variable (lb : FVec Ideal S1x4096 .f32) (X0 X1 X2 : Vec Ideal S64x4096 .f32)

theorem q_apply (t : Fin 64) (j : Fin 4096) : k0_pay6 X0 (ix2 t j) = X0 (ix2 t j) * ((logis (X0 (ix2 t j)) : ℝ) : EReal) := by
  pointwise [k0_pay6]
  rw [bits_half, half_tanh_half]

theorem v_apply (t : Fin 64) (j : Fin 4096) : vR X2 (ix2 t j) = X2 (ix2 t j) := by
  pointwise [vR, k0_pay9]

theorem gate_apply {lbr : Fin 4096 → ℝ} (hlb : ∀ j, lb (ix2 0 j) = (lbr j : EReal)) (t : Fin 64) (j : Fin 4096) :
    k0_pay7 lb X1 (ix2 t j) = ((gate (lbr j) (X1 (ix2 t j)) : ℝ) : EReal) := by
  pointwise [k0_pay7]
  rw [bits_half, half_tanh_half, hlb, gate_coe]

variable {lb X1} {f : Fin 64 → Fin 4096 → ℝ}
  (hf : ∀ t j, k0_pay7 lb X1 (ix2 t j) = (f t.rev j : EReal)) (hpos : ∀ t j, 0 < f t j)

include hf in
theorem key_apply (t : Fin 64) (j : Fin 4096) : k0_pay8 lb X1 (ix2 t j) = ((1 - f t.rev j : ℝ) : EReal) := by
  pointwise [k0_pay8]
  rw [hf, EReal.coe_sub, EReal.coe_one]

include hf hpos in
theorem logf_apply (t : Fin 64) (j : Fin 4096) : k0_pay10 lb X1 (ix2 t j) = ((Real.log (f t.rev j) / Real.log 2 : ℝ) : EReal) := by
  pointwise [k0_pay10]
  rw [hf, bits_two, Ideal.log_coe, Ideal.log_coe, if_neg (not_le.2 (hpos t.rev j)), if_neg (by norm_num),
    Ideal.div_coe log_two_pos.ne', ← EReal.coe_mul, mul_one_div]

include hf hpos in
theorem hi_apply (t : Fin 64) (j : Fin 4096) : k0_pay11 lb X1 (ix2 t j) = ((Real.log (f t.rev j) / Real.log 2 : ℝ) : EReal) := by
  pointwise [k0_pay11]
  exact logf_apply hf hpos t j

include hf hpos in
theorem rest_apply (t : Fin 64) (j : Fin 4096) : k0_pay12 lb X1 (ix2 t j) = ((0 : ℝ) : EReal) := by
  pointwise [k0_pay12]
  rw [hi_apply hf hpos, logf_apply hf hpos, ← EReal.coe_sub, sub_self]

include hf hpos in
theorem mid_apply (t : Fin 64) (j : Fin 4096) : k0_pay13 lb X1 (ix2 t j) = ((0 : ℝ) : EReal) := by
  pointwise [k0_pay13]
  exact rest_apply hf hpos t j

include hf hpos in
theorem lo_apply (t : Fin 64) (j : Fin 4096) : k0_pay14 lb X1 (ix2 t j) = ((0 : ℝ) : EReal) := by
  pointwise [k0_pay14]
  rw [mid_apply hf hpos, rest_apply hf hpos, ← EReal.coe_sub, sub_self]

/-! ## The sums to the chunk's last row -/

include hf hpos in
theorem cumR_apply (t : Fin 64) (j : Fin 4096) : cumR lb X1 (ix2 t j) = ((cum (lg f) t.rev j / Real.log 2 : ℝ) : EReal) := by
  pointwise [cumR, k0_pay15]
  simp only [tri_apply, hi_apply hf hpos, mid_apply hf hpos, lo_apply hf hpos, EReal.coe_zero, mul_zero, Finset.sum_const_zero, add_zero]
  rw [cum, Finset.sum_div, coe_sum]
  refine Eq.trans ?_ (Equiv.sum_comp Fin.revPerm fun s : Fin 64 => (((if s ≤ t.rev then lg f s j else 0) / Real.log 2 : ℝ) : EReal))
  refine Finset.sum_congr rfl fun s _ => ?_
  show (if t ≤ s then (1 : EReal) else 0) * _ = (((if s.rev ≤ t.rev then lg f s.rev j else 0) / Real.log 2 : ℝ) : EReal)
  simp only [Fin.rev_le_rev]
  split
  · rw [one_mul]
  · rw [zero_mul, zero_div, EReal.coe_zero]

/-! ## The decayed rows -/

include hf hpos in
theorem local_apply (t : Fin 64) (j : Fin 4096) :
    k0_pay23 k0_pay4 (k0_pay6 X0) (k0_pay11 lb X1) (k0_pay13 lb X1) (k0_pay14 lb X1) zeroRows (ix2 t j)
      = k0_pay6 X0 (ix2 t j) * ((Real.exp (cum (lg f) t.rev j - refI (lg f) (sub t).rev j) : ℝ) : EReal) := by
  have hM := cumR_apply hf hpos
  unfold cumR at hM
  unfold k0_pay23 k0_pay19 k0_pay20 k0_pay21 k0_pay22
  generalize k0_pay15 k0_pay4 (k0_pay11 lb X1) (k0_pay13 lb X1) (k0_pay14 lb X1) zeroRows = M at hM ⊢
  pointwise []
  simp only [hM]
  congr 1
  rw [← exp2_scaled, ← sub_scaled]
  congr 2
  refine Eq.trans ?_ (ladder t fun i => ((refI (lg f) i.rev j / Real.log 2 : ℝ) : EReal))
  rw [show ((refI (lg f) (Fin.rev 3) j / Real.log 2 : ℝ) : EReal) = 0 from zero_scaled.symm]
  rfl

include hf hpos in
theorem aR_apply (t : Fin 64) (j : Fin 4096) :
    aR lb X0 X1 (ix2 t j) = k0_pay6 X0 (ix2 t j) * ((Real.exp (cum (lg f) t.rev j - refI (lg f) (sub t).rev j) : ℝ) : EReal) := by
  pointwise [aR, k0_pay24]
  exact local_apply X0 hf hpos t j

include hf hpos in
theorem qinR_apply (t : Fin 64) (j : Fin 4096) :
    qinR lb X0 X1 (ix2 t j) = k0_pay6 X0 (ix2 t j) * ((Real.exp (cum (lg f) t.rev j) : ℝ) : EReal) := by
  have hM := cumR_apply hf hpos
  have hl := local_apply X0 hf hpos t j
  unfold cumR at hM
  unfold qinR k0_pay25 k0_pay19 k0_pay20 k0_pay21 k0_pay22
  generalize k0_pay23 k0_pay4 (k0_pay6 X0) (k0_pay11 lb X1) (k0_pay13 lb X1) (k0_pay14 lb X1) zeroRows = N at hl ⊢
  generalize k0_pay15 k0_pay4 (k0_pay11 lb X1) (k0_pay13 lb X1) (k0_pay14 lb X1) zeroRows = M at hM ⊢
  pointwise []
  simp only [hM, hl, exp2_scaled]
  have hz : FloatOps.exp2 (F := Ideal) (φ := .f32) (0 : EReal) = ((Real.exp 0 : ℝ) : EReal) := by
    rw [← exp2_scaled, ← zero_scaled]
  rw [hz, mul_assoc]
  congr 1
  refine (congrArg _ (ladder t fun i => ((Real.exp (refI (lg f) i.rev j) : ℝ) : EReal))).trans ?_
  rw [← EReal.coe_mul, ← Real.exp_add, sub_add_cancel]

include hf hpos in
theorem kendR_apply (t : Fin 64) (j : Fin 4096) :
    kendR lb X1 (ix2 t j) = ((1 - f t.rev j : ℝ) : EReal) * ((Real.exp (cum (lg f) 63 j - cum (lg f) t.rev j) : ℝ) : EReal) := by
  have hM := cumR_apply hf hpos
  unfold cumR at hM
  unfold kendR k0_pay17 k0_pay16
  generalize k0_pay15 k0_pay4 (k0_pay11 lb X1) (k0_pay13 lb X1) (k0_pay14 lb X1) zeroRows = M at hM ⊢
  pointwise []
  simp only [hM, key_apply hf]
  rw [sub_scaled, exp2_scaled]
  rfl

include hf hpos in
theorem edgeR_apply (j : Fin 4096) : edgeR lb X1 (ix2 0 j) = ((Real.exp (cum (lg f) 63 j) : ℝ) : EReal) := by
  have hM := cumR_apply hf hpos
  unfold cumR at hM
  unfold edgeR k0_pay18 k0_pay16
  generalize k0_pay15 k0_pay4 (k0_pay11 lb X1) (k0_pay13 lb X1) (k0_pay14 lb X1) zeroRows = M at hM ⊢
  pointwise []
  simp only [hM, exp2_scaled]
  rfl

/-! ## The keys decayed to the row after a sub-block -/

/-- Sub-block `i`'s keys. -/
def bR (lb : FVec Ideal S1x4096 .f32) (X1 : Vec Ideal S64x4096 .f32) (i : Fin 4) : FVec Ideal S64x4096 .bf16 :=
  match i with
  | 0 => b0R lb X1
  | 1 => b1R lb X1
  | 2 => b2R lb X1
  | 3 => b3R lb X1

variable (hg : ∀ t j, Bounded (lg f t j))

include hf hpos hg in
theorem bR_apply (i : Fin 4) {s : Fin 64} (hs : 16 * i.val ≤ s.val) (j : Fin 4096) :
    bR lb X1 i (ix2 s j) = ((1 - f s.rev j : ℝ) : EReal) * ((Real.exp (refI (lg f) i.rev j - cum (lg f) s.rev j) : ℝ) : EReal) := by
  have hM := cumR_apply hf hpos
  have hc := clamped hg i.rev (s := s.rev) (by rw [Fin.val_rev, Fin.val_rev]; omega) j
  have row : ∀ (n : ℕ) (hn : n ≤ s.val) (hlt : n + (s.val - n) < 64), (⟨n + (s.val - n), hlt⟩ : Fin 64) = s :=
    fun n hn _ => Fin.ext (by show n + (s.val - n) = s.val; omega)
  match i with
  | 0 =>
    show b0R lb X1 (ix2 s j) = _
    unfold cumR at hM
    unfold b0R k0_pay26 k0_pay19
    generalize k0_pay15 k0_pay4 (k0_pay11 lb X1) (k0_pay13 lb X1) (k0_pay14 lb X1) zeroRows = M at hM ⊢
    pointwise []
    rw [hM, hM, key_apply hf, bits_115, ← hc]
    rfl
  | 1 =>
    show b1R lb X1 (ix2 s j) = _
    have h16 : 16 ≤ s.val := hs
    unfold cumR at hM
    unfold b1R k0_pay29 k0_pay27 k0_pay28 k0_pay20
    generalize k0_pay15 k0_pay4 (k0_pay11 lb X1) (k0_pay13 lb X1) (k0_pay14 lb X1) zeroRows = M at hM ⊢
    pointwise []
    rw [dif_neg (by omega)]
    simp only [row 16 h16]
    rw [hM, hM, key_apply hf, bits_115, ← hc]
    rfl
  | 2 =>
    show b2R lb X1 (ix2 s j) = _
    have h32 : 32 ≤ s.val := hs
    unfold b2R k0_pay30 k0_pay21
    unfold cumR at hM ⊢
    generalize k0_pay15 k0_pay4 (k0_pay11 lb X1) (k0_pay13 lb X1) (k0_pay14 lb X1) zeroRows = M at hM ⊢
    pointwise []
    rw [dif_neg (by omega)]
    simp only [row 32 h32]
    rw [hM, hM, key_apply hf, bits_115, ← hc]
    rfl
  | 3 =>
    show b3R lb X1 (ix2 s j) = _
    have h48 : 48 ≤ s.val := hs
    unfold b3R k0_pay31 k0_pay22
    unfold cumR at hM ⊢
    generalize k0_pay15 k0_pay4 (k0_pay11 lb X1) (k0_pay13 lb X1) (k0_pay14 lb X1) zeroRows = M at hM ⊢
    pointwise []
    rw [dif_neg (by omega)]
    simp only [row 48 h48]
    rw [hM, key_apply hf, bits_115, ← hc]
    congr 4
    exact zero_scaled

end Rows

end Cert.ScanBackIdeal.Scan

end
-- ==== Proof.BSpec.lean ====
/- The backward scan with its epilogue on the extended reals, no program in sight: the scan of Spec.lean on the rows in reverse,
   added to the other direction's output, each head over its root mean square, the gain and the output gate. -/
module

public import proofs.«01_k».proof.Proof.Spec

@[expose] public section

noncomputable section

namespace Cert.Scan

open Idealize.ShloMosaic

/-- A row's entry over the root of its head's mean square, times the gain and the gate. -/
def normed (x : Fin 4096 → EReal) (w g : EReal) (j : Fin 4096) : EReal :=
  x j * Ideal.rsqrt (Ideal.div (∑ d : Fin 128, x (hd ⟨j.val / 128, by omega⟩ d) * x (hd ⟨j.val / 128, by omega⟩ d)) (Ideal.ofBits .f32 0x43000000#32)
    + Ideal.ofBits .f32 0x358637BD#32) * w * (g * ((logis g : ℝ) : EReal))

/-- The projections with the rows in reverse, the backward gate's columns where the forward gate's are. -/
def revA (A : Fin 16384 → Fin 20480 → EReal) (r : Fin 16384) (j : Fin 20480) : EReal :=
  A r.rev (if h : 4096 ≤ j.val ∧ j.val < 8192 then ⟨j.val + 4096, by omega⟩ else j)

theorem revA_query (A : Fin 16384 → Fin 20480 → EReal) (r : Fin 16384) (j : Fin 4096) : revA A r ⟨j.val, by omega⟩ = A r.rev ⟨j.val, by omega⟩ := by
  unfold revA
  rw [dif_neg (by simp only; omega)]

theorem revA_gate (A : Fin 16384 → Fin 20480 → EReal) (r : Fin 16384) (j : Fin 4096) :
    revA A r ⟨4096 + j.val, by omega⟩ = A r.rev ⟨8192 + j.val, by omega⟩ := by
  unfold revA
  rw [dif_pos (by simp only; omega)]
  exact congrArg (A r.rev) (Fin.ext (by simp only; omega))

theorem revA_value (A : Fin 16384 → Fin 20480 → EReal) (r : Fin 16384) (j : Fin 4096) :
    revA A r ⟨12288 + j.val, by omega⟩ = A r.rev ⟨12288 + j.val, by omega⟩ := by
  unfold revA
  rw [dif_neg (by simp only; omega)]

/-- Both directions' outputs, summed. -/
def both (A : Fin 16384 → Fin 20480 → EReal) (L : Fin 2 → Fin 4096 → ℝ) (O : Fin 16384 → Fin 4096 → EReal) (r : Fin 16384) (j : Fin 4096) : EReal :=
  O r j + scan (revA A) L r.rev j

/-- The mixer's output. -/
def back (A : Fin 16384 → Fin 20480 → EReal) (L : Fin 2 → Fin 4096 → ℝ) (O : Fin 16384 → Fin 4096 → EReal) (w : Fin 4096 → EReal) (r : Fin 16384) (j : Fin 4096) : EReal :=
  normed (both A L O r) (w j) (A r ⟨16384 + j.val, by omega⟩) j

end Cert.Scan

end
-- ==== Proof.BKChunk.lean ====
/- One chunk of the backward scan over the extended reals, at an index: the kernel's scores, output and next state are the chunk
   functions of Spec.lean (`score`, `out`, `nxt`), its row `r` being token `r.rev`. -/
module

public import proofs.«01_k».proof.Proof.BKRows
public import proofs.«01_k».proof.Proof.KChunk
public import proofs.«01_k».proof.Proof.BSpec
public import Idealize.ShloMosaic.Lib.Pipeline.Value

@[expose] public section

set_option maxRecDepth 16384

noncomputable section

namespace Cert.ScanBackIdeal.Scan

open Cert.ScanBackIdeal Cert.ScanBackIdeal.Gen Idealize.ShloMosaic Cert.Scan
open Cert.KernelIdeal.Scan (bits_half bits_neg_inf lg refI sub sub_cases softmax_pair fold_max_pair select_one select_zero ks)

theorem lbRow_apply (x : Vec Ideal S2x4096 .f32) (L : Fin 2 → Fin 4096 → ℝ) (hL : ∀ i j, x (ix2 i j) = (L i j : EReal)) (j : Fin 4096) :
    lbRow x (ix2 0 j) = ((share (L 0 j) (L 1 j) : ℝ) : EReal) := by
  pointwise [lbRow, k0_pay2]
  rw [Fin.sum_univ_two, Fin.sum_univ_one, bits_neg_inf, fold_max_pair]
  simp only [hL]
  rw [← EReal.coe_strictMono.monotone.map_max]
  exact softmax_pair _ _ _

/-! ## Scores, output, state -/

set_option maxHeartbeats 2000000 in
/-- The product of the padded queries and the keys side by side is that at the query's sub-block. -/
theorem scoreH_raw (h : Fin 32) (a : FVec Ideal S64x4096 .bf16) (b : Fin 4 → FVec Ideal S64x4096 .bf16) (t s : Fin 64) :
    scoreH h a (b 0) (b 1) (b 2) (b 3) (ix2 t s)
      = Scalar.select (k0_pay3 (ix2 t s)) (∑ d : Fin 128, a (ix2 t (hd h d)) * b (sub t) (ix2 s (hd h d)) : EReal) 0 := by
  pointwise [scoreH, cat4, headC, pad0, pad1, pad2, pad3, sumSplitAll]
  refine congrArg (fun z => Scalar.select (k0_pay3 (ix2 t s)) z (0 : EReal)) ?_
  have row : ∀ (n : ℕ) (hn : n ≤ t.val) (hlt : n + (t.val - n) < 64), (⟨n + (t.val - n), hlt⟩ : Fin 64) = t :=
    fun n hn _ => Fin.ext (by show n + (t.val - n) = t.val; omega)
  rcases sub_cases t with ⟨he, h1⟩ | ⟨he, h1, h2⟩ | ⟨he, h1, h2⟩ | ⟨he, h1⟩ <;> rw [he]
  · have c2 : t.val < 32 := by omega
    have c3 : t.val < 48 := by omega
    simp only [h1, c2, c3, dite_true, zero_mul, Finset.sum_const_zero, add_zero]
    exact Finset.sum_congr rfl fun _ _ => rfl
  · have c1 : ¬ t.val < 16 := by omega
    have c1' : t.val - 16 < 16 := by omega
    have c3 : t.val < 48 := by omega
    simp only [c1, c1', h2, c3, dite_true, dite_false, zero_mul, Finset.sum_const_zero, add_zero, zero_add, row 16 h1]
    exact Finset.sum_congr rfl fun _ _ => rfl
  · have c1 : ¬ t.val < 16 := by omega
    have c1' : ¬ t.val - 16 < 16 := by omega
    have c2 : ¬ t.val < 32 := by omega
    have c2' : t.val - 32 < 16 := by omega
    simp only [c1, c1', c2, c2', h2, dite_true, dite_false, zero_mul, Finset.sum_const_zero, add_zero, zero_add, row 32 h1]
    exact Finset.sum_congr rfl fun _ _ => rfl
  · have c1 : ¬ t.val < 16 := by omega
    have c1' : ¬ t.val - 16 < 16 := by omega
    have c2 : ¬ t.val < 32 := by omega
    have c2' : ¬ t.val - 32 < 16 := by omega
    have c3 : ¬ t.val < 48 := by omega
    simp only [c1, c1', c2, c2', c3, dite_false, zero_mul, Finset.sum_const_zero, add_zero, zero_add, row 48 h1]
    exact Finset.sum_congr rfl fun _ _ => rfl

section Chunk
variable {lb : FVec Ideal S1x4096 .f32} {X0 X1 X2 : Vec Ideal S64x4096 .f32} {f : Fin 64 → Fin 4096 → ℝ}
  (hf : ∀ t j, k0_pay7 lb X1 (ix2 t j) = (f t.rev j : EReal)) (hpos : ∀ t j, 0 < f t j) (hg : ∀ t j, Bounded (lg f t j))
  {q v : Fin 64 → Fin 4096 → EReal} (hq : ∀ t j, k0_pay6 X0 (ix2 t j) = q t.rev j) (hv : ∀ t j, X2 (ix2 t j) = v t.rev j)

include hf hpos hg hq in
/-- A query's and a key's product, the decay split at the query's sub-block. -/
theorem pair_apply (t s : Fin 64) (hst : t ≤ s) (j : Fin 4096) :
    aR lb X0 X1 (ix2 t j) * bR lb X1 (sub t) (ix2 s j)
      = q t.rev j * ks f s.rev j * ((Real.exp (cum (lg f) t.rev j - cum (lg f) s.rev j) : ℝ) : EReal) := by
  have hs : 16 * (sub t).val ≤ s.val := by
    have h1 : (sub t).val = t.val / 16 := rfl
    have h2 : t.val ≤ s.val := Fin.le_def.1 hst
    omega
  rw [aR_apply X0 hf hpos, bR_apply hf hpos hg (sub t) hs, hq]
  have e : Real.exp (cum (lg f) t.rev j - cum (lg f) s.rev j)
      = Real.exp (cum (lg f) t.rev j - refI (lg f) (sub t).rev j) * Real.exp (refI (lg f) (sub t).rev j - cum (lg f) s.rev j) := by
    rw [← Real.exp_add, sub_add_sub_cancel]
  rw [e, EReal.coe_mul, mul_mul_mul_comm]

include hf hpos hg hq in
theorem scoreH_apply (h : Fin 32) (t s : Fin 64) :
    scoreH h (aR lb X0 X1) (b0R lb X1) (b1R lb X1) (b2R lb X1) (b3R lb X1) (ix2 t s) = score q (ks f) (lg f) h t.rev s.rev := by
  refine (scoreH_raw h (aR lb X0 X1) (bR lb X1) t s).trans ?_
  rw [mask_apply, score]
  by_cases hst : t ≤ s
  · rw [if_pos hst, if_pos (Fin.rev_le_rev.2 hst), select_one]
    exact Finset.sum_congr rfl fun d _ => pair_apply hf hpos hg hq t s hst (hd h d)
  · rw [if_neg hst, if_neg (fun h => hst (Fin.rev_le_rev.1 h)), select_zero]

variable (S : Fin 32 → Vec Ideal S1x128x128 .f32) {st : Fin 32 → Fin 128 → Fin 128 → EReal} (hS : ∀ h e d, S h (ix3 0 e d) = st h e d)

include hf hpos hg hq hv hS in
theorem outH_apply (h : Fin 32) (t : Fin 64) (e : Fin 128) :
    outH lb X0 X1 X2 S h (ix2 t e) = out q (ks f) v (lg f) st h t.rev e := by
  rw [outH, out]
  have hs := fun s => scoreH_apply hf hpos hg hq h t s
  have hn := fun j => (qinR_apply X0 hf hpos t j).trans (by rw [hq])
  have hvv := fun s j => (v_apply X2 s j).trans (hv s j)
  unfold outHead
  generalize scoreH h (aR lb X0 X1) (b0R lb X1) (b1R lb X1) (b2R lb X1) (b3R lb X1) = sc at hs ⊢
  generalize qinR lb X0 X1 = qi at hn ⊢
  generalize vR X2 = vr at hvv ⊢
  pointwise [headC, sq]
  congr 1
  · refine Finset.sum_congr rfl fun d _ => ?_
    rw [← hS]
    exact congrArg (· * _) (hn (hd h d))
  · refine Eq.trans ?_ (Equiv.sum_comp Fin.revPerm fun s : Fin 64 => score q (ks f) (lg f) h t.rev s * v s (hd h e))
    refine Finset.sum_congr rfl fun s _ => ?_
    rw [hs]
    exact congrArg (_ * ·) (hvv s (hd h e))

include hf hpos hv hS in
theorem stH_apply (h : Fin 32) (e d : Fin 128) :
    stH lb X1 X2 S h (ix3 0 e d) = nxt (ks f) v (lg f) st h e d := by
  rw [stH, nxt]
  have he := fun j => edgeR_apply hf hpos j
  have hk := fun s j => kendR_apply hf hpos s j
  have hvv := fun s j => (v_apply X2 s j).trans (hv s j)
  unfold stHead
  generalize edgeR lb X1 = ed at he ⊢
  generalize kendR lb X1 = ke at hk ⊢
  generalize vR X2 = vr at hvv ⊢
  pointwise [headC, sq]
  rw [hS]
  congr 1
  · exact congrArg (_ * ·) (he (hd h d))
  · refine Eq.trans ?_ (Equiv.sum_comp Fin.revPerm fun s : Fin 64 =>
      v s (hd h e) * (ks f s (hd h d) * ((Real.exp (cum (lg f) 63 (hd h d) - cum (lg f) s (hd h d)) : ℝ) : EReal)))
    refine Finset.sum_congr rfl fun s _ => ?_
    exact congrArg₂ (· * ·) (hvv s (hd h e)) (hk s (hd h d))

end Chunk

/-! ## The heads side by side, their norms and the gate -/

theorem cat32_apply (o : Fin 32 → FVec Ideal S64x128 .f32) (t : Fin 64) (j : Fin 4096) :
    cat32 o (ix2 t j) = o ⟨j.val / 128, by omega⟩ (ix2 t ⟨j.val % 128, by omega⟩) := by
  have hc : Shape.Concatenates ((List.ofFn fun n : Fin 32 => (⟨S64x128, o n⟩ : (s : Shape) × (s.Idx → Ideal .f32))).map (·.1)) S64x4096 1 := by
    rw [List.map_ofFn]
    change Shape.Concatenates (List.ofFn fun _ : Fin 32 => S64x128) S64x4096 1
    decide +kernel
  refine (show _ = concatenate S64x4096 1 (List.ofFn fun n : Fin 32 => (⟨S64x128, o n⟩ : (s : Shape) × (s.Idx → Ideal .f32))) hc (ix2 t j) from rfl).trans ?_
  refine concatenate_ofFn_apply (s₁ := S64x128) 1 o hc rfl 128 rfl (ix2 t j) ⟨j.val / 128, by omega⟩ rfl (ix2 t ⟨j.val % 128, by omega⟩) rfl ?_
  intro b hb
  match b with
  | ⟨0, _⟩ => rfl
  | ⟨1, _⟩ => exact absurd rfl hb

theorem normH_apply (x : FVec Ideal S64x4096 .f32) (h : Fin 32) (t : Fin 64) (e : Fin 128) :
    normH x h (ix2 t e) = x (ix2 t (hd h e)) * Ideal.rsqrt (Ideal.div (∑ d : Fin 128, x (ix2 t (hd h d)) * x (ix2 t (hd h d))) (Ideal.ofBits .f32 0x43000000#32)
      + Ideal.ofBits .f32 0x358637BD#32) := by
  pointwise [normH, headC]
  rfl

theorem tot_apply (O : Vec Ideal S64x4096 .f32) (o : Fin 32 → FVec Ideal S64x128 .f32) (t : Fin 64) (j : Fin 4096) :
    totR O o (ix2 t j) = O (ix2 t j) + o ⟨j.val / 128, by omega⟩ (ix2 t ⟨j.val % 128, by omega⟩) := by
  exact congrArg (O (ix2 t j) + ·) (cat32_apply o t j)

theorem outAll_apply (O G : Vec Ideal S64x4096 .f32) (W : Vec Ideal S1x4096 .f32) (o : Fin 32 → FVec Ideal S64x128 .f32) (t : Fin 64) (j : Fin 4096) :
    outAll O G W o (ix2 t j) = normed (fun y => totR O o (ix2 t y)) (W (ix2 0 j)) (G (ix2 t j)) j := by
  have hn := fun h e => normH_apply (totR O o) h t e
  have hc := cat32_apply (normH (totR O o)) t j
  unfold outAll
  generalize cat32 (normH (totR O o)) = y at hc ⊢
  generalize totR O o = x at *
  pointwise [k0_pay5, k0_pay424]
  rw [bits_half, half_tanh_half, hc, hn]
  rw [show hd ⟨j.val / 128, by omega⟩ ⟨j.val % 128, by omega⟩ = j from Fin.ext (Nat.div_add_mod j.val 128)]
  rfl

end Cert.ScanBackIdeal.Scan

end
-- ==== Proof.BKScan.lean ====
/- The kernel's output over the extended reals: `back` of BSpec.lean, of the array arguments. -/
module

public import proofs.«01_k».proof.Proof.BKChunk
public import proofs.«01_k».proof.Proof.BRun
public import Idealize.ShloMosaic.Lib.StableHlo.ReadAt

@[expose] public section

set_option maxRecDepth 16384

noncomputable section

namespace Cert.ScanBackIdeal.Scan

open Cert.ScanBackIdeal Cert.ScanBackIdeal.Gen Idealize.ShloMosaic Idealize.ShloMosaic.TcCoe Cert.Scan
open Idealize.SL.Sem

variable (m : (ℓ : Loc nD τ sig) → Buf (Elt Ideal) ℓ) (c : Dev nD)

/-! ## The blocks, from the arrays -/

/-- The projections. -/
def arrA (c : Dev nD) (r : Fin 16384) (j : Fin 20480) : EReal := (m ((c.tc : Thread nD τ).loc main_arg0) : Vec Ideal S16384x20480 .f32) (ix2 r j)

/-- The other direction's output. -/
def arrO (c : Dev nD) (r : Fin 16384) (j : Fin 4096) : EReal := (m ((c.tc : Thread nD τ).loc main_arg2) : Vec Ideal S16384x4096 .f32) (ix2 r j)

/-- The gain. -/
def arrW (c : Dev nD) (j : Fin 4096) : EReal := (m ((c.tc : Thread nD τ).loc main_arg3) : Vec Ideal S1x4096 .f32) (ix2 0 j)

theorem in_index0 : ∀ t : Fin cfg0.N, win0_0.index t (0 : Fin 2) = 127 - t.val ∧ win0_0.index t (1 : Fin 2) = 0 :=
  (by decide +kernel : ∀ t : Fin grid0.N, win0_0.index t (0 : Fin 2) = 127 - t.val ∧ win0_0.index t (1 : Fin 2) = 0)

theorem in_index1 : ∀ t : Fin cfg0.N, win0_1.index t (0 : Fin 2) = 127 - t.val ∧ win0_1.index t (1 : Fin 2) = 2 :=
  (by decide +kernel : ∀ t : Fin grid0.N, win0_1.index t (0 : Fin 2) = 127 - t.val ∧ win0_1.index t (1 : Fin 2) = 2)

theorem in_index2 : ∀ t : Fin cfg0.N, win0_2.index t (0 : Fin 2) = 127 - t.val ∧ win0_2.index t (1 : Fin 2) = 3 :=
  (by decide +kernel : ∀ t : Fin grid0.N, win0_2.index t (0 : Fin 2) = 127 - t.val ∧ win0_2.index t (1 : Fin 2) = 3)

theorem in_index3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

theorem in_index4 : ∀ t : Fin cfg0.N, win0_4.index t (0 : Fin 2) = 127 - t.val ∧ win0_4.index t (1 : Fin 2) = 0 :=
  (by decide +kernel : ∀ t : Fin grid0.N, win0_4.index t (0 : Fin 2) = 127 - t.val ∧ win0_4.index t (1 : Fin 2) = 0)

theorem in_index5 : ∀ t : Fin cfg0.N, win0_5.index t (0 : Fin 2) = 127 - t.val ∧ win0_5.index t (1 : Fin 2) = 4 :=
  (by decide +kernel : ∀ t : Fin grid0.N, win0_5.index t (0 : Fin 2) = 127 - t.val ∧ win0_5.index t (1 : Fin 2) = 4)

theorem in_index6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)

/-- Row `r` of point `t`'s blocks. -/
def rowAt (t : Fin cfg0.N) (r : Fin 128) : Fin 16384 := ⟨128 * (127 - t.val) + r.val, by omega⟩

theorem blkQ_apply (t : Fin cfg0.N) (r : Fin 128) (j : Fin 4096) : blkQ m c t (ix2 r j) = arrA m c (rowAt t r) ⟨j.val, by omega⟩ := by
  obtain ⟨e0, e1⟩ := in_index0 t
  have hb0 : (((cfg0.win 0).blk t).view.emb (ix2 r j) 0).val = win0_0.index t (0 : Fin 2) * 128 + 1 * r.val := rfl
  have hb1 : (((cfg0.win 0).blk t).view.emb (ix2 r j) 1).val = win0_0.index t (1 : Fin 2) * 4096 + 1 * j.val := rfl
  rw [e0] at hb0; rw [e1] at hb1
  refine (congrFun (V_main_arg0 m c) (((cfg0.win 0).blk t).view.emb (ix2 r j))).trans ?_
  unfold arrA
  refine congrArg (m ((c.tc : Thread nD τ).loc main_arg0) : Vec Ideal S16384x20480 .f32) ?_
  funext a; apply Fin.ext
  match a with
  | ⟨0, _⟩ => refine hb0.trans ?_; show _ = 128 * (127 - t.val) + r.val; omega
  | ⟨1, _⟩ => refine hb1.trans ?_; show _ = j.val; omega

theorem blkG_apply (t : Fin cfg0.N) (r : Fin 128) (j : Fin 4096) : blkG m c t (ix2 r j) = arrA m c (rowAt t r) ⟨8192 + j.val, by omega⟩ := by
  obtain ⟨e0, e1⟩ := in_index1 t
  have hb0 : (((cfg0.win 1).blk t).view.emb (ix2 r j) 0).val = win0_1.index t (0 : Fin 2) * 128 + 1 * r.val := rfl
  have hb1 : (((cfg0.win 1).blk t).view.emb (ix2 r j) 1).val = win0_1.index t (1 : Fin 2) * 4096 + 1 * j.val := rfl
  rw [e0] at hb0; rw [e1] at hb1
  refine (congrFun (V_main_arg0 m c) (((cfg0.win 1).blk t).view.emb (ix2 r j))).trans ?_
  unfold arrA
  refine congrArg (m ((c.tc : Thread nD τ).loc main_arg0) : Vec Ideal S16384x20480 .f32) ?_
  funext a; apply Fin.ext
  match a with
  | ⟨0, _⟩ => refine hb0.trans ?_; show _ = 128 * (127 - t.val) + r.val; omega
  | ⟨1, _⟩ => refine hb1.trans ?_; show _ = 8192 + j.val; omega

theorem blkV_apply (t : Fin cfg0.N) (r : Fin 128) (j : Fin 4096) : blkV m c t (ix2 r j) = arrA m c (rowAt t r) ⟨12288 + j.val, by omega⟩ := by
  obtain ⟨e0, e1⟩ := in_index2 t
  have hb0 : (((cfg0.win 2).blk t).view.emb (ix2 r j) 0).val = win0_2.index t (0 : Fin 2) * 128 + 1 * r.val := rfl
  have hb1 : (((cfg0.win 2).blk t).view.emb (ix2 r j) 1).val = win0_2.index t (1 : Fin 2) * 4096 + 1 * j.val := rfl
  rw [e0] at hb0; rw [e1] at hb1
  refine (congrFun (V_main_arg0 m c) (((cfg0.win 2).blk t).view.emb (ix2 r j))).trans ?_
  unfold arrA
  refine congrArg (m ((c.tc : Thread nD τ).loc main_arg0) : Vec Ideal S16384x20480 .f32) ?_
  funext a; apply Fin.ext
  match a with
  | ⟨0, _⟩ => refine hb0.trans ?_; show _ = 128 * (127 - t.val) + r.val; omega
  | ⟨1, _⟩ => refine hb1.trans ?_; show _ = 12288 + j.val; omega

theorem blkO_apply (t : Fin cfg0.N) (r : Fin 128) (j : Fin 4096) : blkO m c t (ix2 r j) = arrO m c (rowAt t r) j := by
  obtain ⟨e0, e1⟩ := in_index4 t
  have hb0 : (((cfg0.win 4).blk t).view.emb (ix2 r j) 0).val = win0_4.index t (0 : Fin 2) * 128 + 1 * r.val := rfl
  have hb1 : (((cfg0.win 4).blk t).view.emb (ix2 r j) 1).val = win0_4.index t (1 : Fin 2) * 4096 + 1 * j.val := rfl
  rw [e0] at hb0; rw [e1] at hb1
  refine (congrFun (V_main_arg2 m c) (((cfg0.win 4).blk t).view.emb (ix2 r j))).trans ?_
  unfold arrO
  refine congrArg (m ((c.tc : Thread nD τ).loc main_arg2) : Vec Ideal S16384x4096 .f32) ?_
  funext a; apply Fin.ext
  match a with
  | ⟨0, _⟩ => refine hb0.trans ?_; show _ = 128 * (127 - t.val) + r.val; omega
  | ⟨1, _⟩ => refine hb1.trans ?_; show _ = j.val; omega

theorem blkS_apply (t : Fin cfg0.N) (r : Fin 128) (j : Fin 4096) : blkS m c t (ix2 r j) = arrA m c (rowAt t r) ⟨16384 + j.val, by omega⟩ := by
  obtain ⟨e0, e1⟩ := in_index5 t
  have hb0 : (((cfg0.win 5).blk t).view.emb (ix2 r j) 0).val = win0_5.index t (0 : Fin 2) * 128 + 1 * r.val := rfl
  have hb1 : (((cfg0.win 5).blk t).view.emb (ix2 r j) 1).val = win0_5.index t (1 : Fin 2) * 4096 + 1 * j.val := rfl
  rw [e0] at hb0; rw [e1] at hb1
  refine (congrFun (V_main_arg0 m c) (((cfg0.win 5).blk t).view.emb (ix2 r j))).trans ?_
  unfold arrA
  refine congrArg (m ((c.tc : Thread nD τ).loc main_arg0) : Vec Ideal S16384x20480 .f32) ?_
  funext a; apply Fin.ext
  match a with
  | ⟨0, _⟩ => refine hb0.trans ?_; show _ = 128 * (127 - t.val) + r.val; omega
  | ⟨1, _⟩ => refine hb1.trans ?_; show _ = 16384 + j.val; omega

theorem logits_apply (i : Fin 2) (j : Fin 4096) :
    (V m c main_v1 : Vec Ideal S2x4096 .f32) (ix2 i j) = (m ((c.tc : Thread nD τ).loc main_arg1) : Vec Ideal S2x2x4096 .f32) (ix3 1 i j) := by
  unfold V
  after_reads_at
  all_goals rfl

theorem blkL_apply (t : Fin cfg0.N) (i : Fin 2) (j : Fin 4096) :
    blkL m c t (ix2 i j) = (m ((c.tc : Thread nD τ).loc main_arg1) : Vec Ideal S2x2x4096 .f32) (ix3 1 i j) := by
  obtain ⟨e0, e1⟩ := in_index3 t
  have hb0 : (((cfg0.win 3).blk t).view.emb (ix2 i j) 0).val = win0_3.index t (0 : Fin 2) * 2 + 1 * i.val := rfl
  have hb1 : (((cfg0.win 3).blk t).view.emb (ix2 i j) 1).val = win0_3.index t (1 : Fin 2) * 4096 + 1 * j.val := rfl
  rw [e0] at hb0; rw [e1] at hb1
  refine Eq.trans ?_ (logits_apply m c i j)
  show (V m c main_v1 : Vec Ideal S2x4096 .f32) (((cfg0.win 3).blk t).view.emb (ix2 i j)) = _
  refine congrArg (V m c main_v1 : Vec Ideal S2x4096 .f32) ?_
  funext a; apply Fin.ext
  match a with
  | ⟨0, _⟩ => refine hb0.trans ?_; show _ = i.val; omega
  | ⟨1, _⟩ => refine hb1.trans ?_; show _ = j.val; omega

theorem gain_apply (j : Fin 4096) : (V m c main_v3 : Vec Ideal S1x4096 .f32) (ix2 0 j) = arrW m c j := by
  unfold V arrW
  after_reads_at
  all_goals rfl

theorem blkW_apply (t : Fin cfg0.N) (j : Fin 4096) : blkW m c t (ix2 0 j) = arrW m c j := by
  obtain ⟨e0, e1⟩ := in_index6 t
  have hb0 : (((cfg0.win 6).blk t).view.emb (ix2 (0 : Fin 1) j) 0).val = win0_6.index t (0 : Fin 2) * 1 + 1 * (0 : Fin 1).val := rfl
  have hb1 : (((cfg0.win 6).blk t).view.emb (ix2 (0 : Fin 1) j) 1).val = win0_6.index t (1 : Fin 2) * 4096 + 1 * j.val := rfl
  rw [e0] at hb0; rw [e1] at hb1
  refine Eq.trans ?_ (gain_apply m c j)
  show (V m c main_v3 : Vec Ideal S1x4096 .f32) (((cfg0.win 6).blk t).view.emb (ix2 0 j)) = _
  refine congrArg (V m c main_v3 : Vec Ideal S1x4096 .f32) ?_
  funext a; apply Fin.ext
  match a with
  | ⟨0, _⟩ => refine hb0.trans ?_; show _ = 0; omega
  | ⟨1, _⟩ => refine hb1.trans ?_; show _ = j.val; omega

/-! ## A chunk's rows -/

section Values
variable {L : Fin 2 → Fin 4096 → ℝ} (hL : ∀ i j, (m ((c.tc : Thread nD τ).loc main_arg1) : Vec Ideal S2x2x4096 .f32) (ix3 1 i j) = (L i j : EReal))
  (hsm : Small L)

/-- The scan's row arrays. -/
abbrev Q := qOf (revA (arrA m c))
abbrev K (L : Fin 2 → Fin 4096 → ℝ) := kOf (revA (arrA m c)) L
abbrev W := vOf (revA (arrA m c))
abbrev G (L : Fin 2 → Fin 4096 → ℝ) := gOf (revA (arrA m c)) L

/-- Chunk `k` of point `t`, among all chunks. -/
def chunkNo (t : Fin cfg0.N) (k : Fin k0_t1_loop.trips) : ℕ := 2 * t.val + k.val

theorem in_block (k : Fin k0_t1_loop.trips) (s : Fin 64) : 64 - 64 * k.val + s.val < 128 := by omega

theorem row_chunk (t : Fin cfg0.N) (k : Fin k0_t1_loop.trips) (s : Fin 64) :
    rowAt t ⟨64 - 64 * k.val + s.val, in_block k s⟩ = (tok (chunkNo t k) s.rev).rev := by
  have ht : t.val < 128 := lt_of_lt_of_eq t.isLt (show cfg0.N = 128 from N_0)
  have hk : k.val < 2 := lt_of_lt_of_eq k.isLt trips_two
  apply Fin.ext
  rw [Fin.val_rev]
  show 128 * (127 - t.val) + (64 - 64 * k.val + s.val) = 16384 - ((64 * min (2 * t.val + k.val) 255 + s.rev.val) + 1)
  rw [Fin.val_rev]
  omega

theorem rowsV_apply (X : Vec Ideal S128x4096 .f32) (k : Fin k0_t1_loop.trips) (s : Fin 64) (j : Fin 4096) :
    rowsV X k (ix2 s j) = X (ix2 ⟨64 - 64 * k.val + s.val, in_block k s⟩ j) := by
  refine congrArg X ?_
  funext a; apply Fin.ext
  match a with
  | ⟨0, _⟩ => show 64 - 64 * k.val + 1 * s.val = 64 - 64 * k.val + s.val; omega
  | ⟨1, _⟩ => show 0 + 1 * j.val = j.val; omega

theorem rowsQ_apply (t : Fin cfg0.N) (k : Fin k0_t1_loop.trips) (s : Fin 64) (j : Fin 4096) :
    k0_pay6 (rowsV (blkQ m c t) k) (ix2 s j) = Cert.Scan.rowsOf (Q m c) (chunkNo t k) s.rev j := by
  rw [q_apply, rowsV_apply, blkQ_apply, row_chunk]
  exact congrArg (fun z : EReal => z * ((logis z : ℝ) : EReal)) (revA_query _ _ _).symm

theorem rowsW_apply (t : Fin cfg0.N) (k : Fin k0_t1_loop.trips) (s : Fin 64) (j : Fin 4096) :
    rowsV (blkV m c t) k (ix2 s j) = Cert.Scan.rowsOf (W m c) (chunkNo t k) s.rev j := by
  rw [rowsV_apply, blkV_apply, row_chunk]
  exact (revA_value _ _ _).symm

include hL in
theorem rowsF_apply (t : Fin cfg0.N) (k : Fin k0_t1_loop.trips) (s : Fin 64) (j : Fin 4096) :
    k0_pay7 (lbRow (blkL m c t)) (rowsV (blkG m c t) k) (ix2 s j) = ((Cert.Scan.rowsOf (gateOf (revA (arrA m c)) L) (chunkNo t k) s.rev j : ℝ) : EReal) := by
  have hlb : ∀ j, lbRow (blkL m c t) (ix2 0 j) = ((share (L 0 j) (L 1 j) : ℝ) : EReal) := lbRow_apply _ L fun i j => (blkL_apply m c t i j).trans (hL i j)
  rw [gate_apply _ _ (lbr := fun j => share (L 0 j) (L 1 j)) hlb, rowsV_apply, blkG_apply, row_chunk]
  exact congrArg (fun z : EReal => ((gate (share (L 0 j) (L 1 j)) z : ℝ) : EReal)) (revA_gate _ _ _).symm

theorem planeV_apply (S : Vec Ideal S32x128x128 .f32) (h : Fin 32) (e d : Fin 128) : planeV S h (ix3 0 e d) = S (ix3 h e d) := by
  refine congrArg S ?_
  funext a; apply Fin.ext
  match a with
  | ⟨0, _⟩ => show h.val + 1 * 0 = h.val; omega
  | ⟨1, _⟩ => show 0 + 1 * e.val = e.val; omega
  | ⟨2, _⟩ => show 0 + 1 * d.val = d.val; omega

include hL hsm in
theorem stNext_apply (t : Fin cfg0.N) (k : Fin k0_t1_loop.trips) (S : Vec Ideal S32x128x128 .f32) (st : Fin 32 → Fin 128 → Fin 128 → EReal)
    (hS : ∀ h e d, S (ix3 h e d) = st h e d) (h : Fin 32) (e d : Fin 128) :
    stNext (lbRow (blkL m c t)) (blkG m c t) (blkV m c t) k S (ix3 h e d)
      = nxt (Cert.Scan.rowsOf (K m c L) (chunkNo t k)) (Cert.Scan.rowsOf (W m c) (chunkNo t k)) (Cert.Scan.rowsOf (G m c L) (chunkNo t k)) st h e d :=
  stH_apply (f := Cert.Scan.rowsOf (gateOf (revA (arrA m c)) L) (chunkNo t k)) (rowsF_apply m c hL t k) (fun _ _ => gateOf_pos hsm _ _)
    (rowsW_apply m c t k) (planeV S) (fun h e d => (planeV_apply S h e d).trans (hS h e d)) h e d

/-! ## The state -/

include hL hsm in
theorem stAt_apply (t : Fin cfg0.N) (S : Vec Ideal S32x128x128 .f32) (hS : ∀ h e d, S (ix3 h e d) = state (K m c L) (W m c) (G m c L) (2 * t.val) h e d)
    (n : ℕ) (hn : n ≤ k0_t1_loop.trips) (h : Fin 32) (e d : Fin 128) :
    stAt (lbRow (blkL m c t)) (blkG m c t) (blkV m c t) S n (ix3 h e d) = state (K m c L) (W m c) (G m c L) (2 * t.val + n) h e d := by
  induction n generalizing h e d with
  | zero => exact hS h e d
  | succ n ih =>
    rw [stAt_succ _ _ _ _ ⟨n, hn⟩]
    exact stNext_apply m c hL hsm t ⟨n, hn⟩ _ _ (fun h e d => ih (Nat.le_of_lt hn) h e d) h e d

include hL hsm in
theorem ptState_apply (n : ℕ) (hn : n ≤ cfg0.N) (h : Fin 32) (e d : Fin 128) :
    ptState m c n (ix3 h e d) = state (K m c L) (W m c) (G m c L) (2 * n) h e d := by
  induction n generalizing h e d with
  | zero =>
    show (st0 : Vec Ideal S32x128x128 .f32) (ix3 h e d) = 0
    pointwise [st0, k0_pay1]
  | succ n ih =>
    rw [ptState_succ m c ⟨n, hn⟩, stAt_apply m c hL hsm ⟨n, hn⟩ _ (fun h e d => ih (Nat.le_of_lt hn) h e d) _ (le_refl _), trips_two]
    rfl

/-! ## The output -/

include hL hsm in
theorem scanOut_apply (r : Fin 16384) (j : Fin 4096) : scanOut m c (ix2 r j) = back (arrA m c) L (arrO m c) (arrW m c) r j := by
  set t : Fin cfg0.N := pointOf r with ht
  have htv : t.val = 127 - r.val / 128 := rfl
  show outBlk (lbRow (blkL m c t)) (blkQ m c t) (blkG m c t) (blkV m c t) (blkO m c t) (blkS m c t) (blkW m c t) (ptState m c t.val) (ix2 (⟨r.val % 128, Nat.mod_lt _ (by decide)⟩ : Fin 128) j) = _
  set k : Fin k0_t1_loop.trips := chunkOf ⟨r.val % 128, Nat.mod_lt _ (by decide)⟩ with hk
  have hkv : k.val = 1 - r.val % 128 / 64 := rfl
  show outChunk (lbRow (blkL m c t)) (blkQ m c t) (blkG m c t) (blkV m c t) (blkO m c t) (blkS m c t) (blkW m c t) (ptState m c t.val) k (ix2 (⟨r.val % 128 % 64, Nat.mod_lt _ (by decide)⟩ : Fin 64) j) = _
  have hno : r.rev.val / 64 = chunkNo t k := by show _ = 2 * t.val + k.val; rw [Fin.val_rev, htv, hkv]; omega
  have hrow : (⟨r.val % 128 % 64, Nat.mod_lt _ (by decide)⟩ : Fin 64) = ⟨r.val % 64, by omega⟩ := Fin.ext (by show r.val % 128 % 64 = r.val % 64; omega)
  rw [hrow]
  set s : Fin 64 := ⟨r.val % 64, by omega⟩ with hs
  have hrev : (⟨r.rev.val % 64, by omega⟩ : Fin 64) = s.rev := Fin.ext (by
    have h := Fin.val_rev r
    show r.rev.val % 64 = 64 - (r.val % 64 + 1)
    omega)
  have hat : rowAt t ⟨64 - 64 * k.val + s.val, in_block k s⟩ = r := Fin.ext (by
    show 128 * (127 - t.val) + (64 - 64 * k.val + r.val % 64) = r.val; rw [htv, hkv]; omega)
  unfold outChunk
  rw [outAll_apply, rowsV_apply, blkS_apply, hat, blkW_apply]
  refine congrArg (fun x => normed x _ _ j) (funext fun y => ?_)
  rw [tot_apply, rowsV_apply, blkO_apply, hat]
  refine congrArg (arrO m c r y + ·) ?_
  refine (outH_apply (f := Cert.Scan.rowsOf (gateOf (revA (arrA m c)) L) (chunkNo t k)) (rowsF_apply m c hL t k) (fun _ _ => gateOf_pos hsm _ _)
    (fun _ _ => gOf_bounded hsm _ _) (rowsQ_apply m c t k) (rowsW_apply m c t k) _
    (fun h e d => (planeV_apply _ h e d).trans (stAt_apply m c hL hsm t _ (fun h e d => ptState_apply m c hL hsm t.val t.isLt.le h e d) k.val k.isLt.le h e d)) _ _ _).trans ?_
  unfold Cert.Scan.scan result
  rw [hno, hrev]
  rfl

end Values

end Cert.ScanBackIdeal.Scan

end
-- ==== Proof.BREntry.lean ====
/- The backward scan's reference loop entry over the extended reals: its chunked arrays, from the array arguments. -/
module

public import proofs.«01_k».proof.Proof.RSums
public import proofs.«01_k».proof.Proof.BSpec
public import proofs.«01_k».proof.Proof.Gen.ScanBackReferenceIdeal.Run
public import Idealize.ShloMosaic.Lib.StableHlo.ReadAt
public import Idealize.ShloMosaic.Lib.Pointwise

@[expose] public section

set_option maxRecDepth 16384

noncomputable section

namespace Cert.ScanBackReferenceIdeal.Scan

open Cert.ScanBackReferenceIdeal Cert.ScanBackReferenceIdeal.Gen Cert.ScanBackReferenceIdeal.Value Idealize.ShloMosaic Idealize.ShloMosaic.TcCoe Cert.Scan
open Idealize.ShloMosaic.StableHlo
open Idealize.SL.Sem

/-! ## Each stretch, of any contents before it -/

section Stretches
variable (U : Valuation τ sig (Elt Ideal))

/-- Row `t` of chunk `n`. -/
def rowNo (n : Fin 256) (t : Fin 64) : Fin 16384 := ⟨n.val * 64 + t.val, by omega⟩

/-- Column `d` of head `h`, as a flat column. -/
def colNo (h : Fin 32) (d : Fin 128) : Fin 4096 := ⟨h.val * 128 + d.val, by omega⟩

theorem soft_apply {x : Fin 2 → Fin 2 → Fin 4096 → EReal}
    (hx : ∀ i s j, (U (Proc.devRef .tc main_arg1) : Vec Ideal S2x2x4096 .f32) (ix3 i s j) = x i s j) (i s : Fin 2) (j : Fin 4096) :
    (after hostOps0 U (Proc.devRef .tc main_v10) : Vec Ideal S2x2x4096 .f32) (ix3 i s j)
      = Ideal.div (Ideal.exp (x i s j
            - max (Ideal.ofBits .f32 0xFF800000#32) (Finset.fold max (Ideal.ofBits .f32 0xFF800000#32) (fun y => x i y j) Finset.univ)))
          (∑ z : Fin 2, Ideal.exp (x i z j
            - max (Ideal.ofBits .f32 0xFF800000#32) (Finset.fold max (Ideal.ofBits .f32 0xFF800000#32) (fun y => x i y j) Finset.univ))) := by
  simp only [← hx]
  after_reads_at
  all_goals rfl

theorem sums_apply {x : Fin 2 → Fin 2 → Fin 4096 → EReal}
    (hx : ∀ i s j, (U (Proc.devRef .tc main_v10) : Vec Ideal S2x2x4096 .f32) (ix3 i s j) = x i s j) (i s : Fin 2) (j : Fin 4096) :
    (after hostOps0_1 U (Proc.devRef .tc main_v11) : Vec Ideal S2x2x4096 .f32) (ix3 i s j)
      = ∑ y : Fin 2, if y ≤ s then x i y j else 0 := by
  have h0 : (broadcastInDim S_ ![] bcast_S_S_ (constant S_ .f32 0x00000000#32 : FVec Ideal S_ .f32)) (Shape.Idx.first h_S_) = (0 : EReal) := by pointwise
  simp only [← hx]
  after_reads_at
  refine Eq.trans ?_ (cumsum3 (n := 1) (U (Proc.devRef .tc main_v10) : Vec Ideal S2x2x4096 .f32) reduceWindows_S2x2x4096_S2x2x4096_w1s1p0_0_w2s1p1_0_w1s1p0_0 i s j)
  exact congrArg (fun z => Ideal.hostReduceWindowAdd (s := S2x2x4096) ![1, 2, 1] ![1, 1, 1] ![0, 1, 0] ![0, 0, 0] reduceWindows_S2x2x4096_S2x2x4096_w1s1p0_0_w2s1p1_0_w1s1p0_0 (U (Proc.devRef .tc main_v10) : Vec Ideal S2x2x4096 .f32) z (ix3 i s j)) h0

theorem bound_apply (i : Fin 2) (h : Fin 32) (d : Fin 128) :
    (after hostOps0_2 U (Proc.devRef .tc main_v14) : Vec Ideal S2x32x128 .f32) (ix3 i h d)
      = (U (Proc.devRef .tc main_v11) : Vec Ideal S2x2x4096 .f32) (ix3 i 0 (colNo h d)) := by
  after_reads_at
  all_goals rfl

theorem query_apply (r : Fin 16384) (h : Fin 32) (d : Fin 128) :
    (after hostOps0_2 U (Proc.devRef .tc main_v21) : Vec Ideal S1x16384x32x128 .f32) (ix4 0 r h d)
      = (U (Proc.devRef .tc main_arg0) : Vec Ideal S16384x20480 .f32) (ix2 r ⟨(colNo h d).val, by omega⟩) := by
  after_reads_at
  all_goals rfl

theorem gates_apply (r : Fin 16384) (j : Fin 4096) :
    (after hostOps0_2 U (Proc.devRef .tc main_v18) : Vec Ideal S1x16384x4096 .f32) (ix3 0 r j)
      = (U (Proc.devRef .tc main_arg0) : Vec Ideal S16384x20480 .f32) (ix2 r ⟨8192 + j.val, by omega⟩) := by
  after_reads_at
  all_goals rfl

theorem values_apply (r : Fin 16384) (j : Fin 4096) :
    (after hostOps0_2 U (Proc.devRef .tc main_v19) : Vec Ideal S1x16384x4096 .f32) (ix3 0 r j)
      = (U (Proc.devRef .tc main_arg0) : Vec Ideal S16384x20480 .f32) (ix2 r ⟨12288 + j.val, by omega⟩) := by
  after_reads_at
  all_goals rfl

theorem silu_apply {x : Fin 16384 → Fin 32 → Fin 128 → EReal}
    (hx : ∀ r h d, (U (Proc.devRef .tc main_v21) : Vec Ideal S1x16384x32x128 .f32) (ix4 0 r h d) = x r h d) (r : Fin 16384) (h : Fin 32) (d : Fin 128) :
    (after hostOps0_3 U (Proc.devRef .tc main_v22) : Vec Ideal S1x16384x32x128 .f32) (ix4 0 r h d)
      = x r h d * ((logis (x r h d) : ℝ) : EReal) := by
  rw [← div_one_exp_neg, ← hx]
  after_reads_at
  all_goals rfl

section Gate
variable {b : Fin 32 → Fin 128 → EReal} {z : Fin 16384 → Fin 4096 → EReal}
  (hb : ∀ h d, (U (Proc.devRef .tc main_v14) : Vec Ideal S2x32x128 .f32) (ix3 1 h d) = b h d)
  (hz : ∀ r j, (U (Proc.devRef .tc main_v18) : Vec Ideal S1x16384x4096 .f32) (ix3 0 r j) = z r j)
include hb hz

theorem key_apply (r : Fin 16384) (h : Fin 32) (d : Fin 128) :
    (after hostOps0_4 U (Proc.devRef .tc main_v42) : Vec Ideal S1x16384x32x128 .f32) (ix4 0 r h d)
      = 1 - (b h d + (1 - b h d) * ((logis (z r (colNo h d)) : ℝ) : EReal)) := by
  rw [← div_one_exp_neg, ← hb, ← hz]
  after_reads_at
  all_goals rfl

theorem log_apply (r : Fin 16384) (h : Fin 32) (d : Fin 128) :
    (after hostOps0_4 U (Proc.devRef .tc main_v43) : Vec Ideal S1x16384x32x128 .f32) (ix4 0 r h d)
      = Ideal.log (b h d + (1 - b h d) * ((logis (z r (colNo h d)) : ℝ) : EReal)) := by
  rw [← div_one_exp_neg, ← hb, ← hz]
  after_reads_at
  all_goals rfl

end Gate

theorem value_apply (r : Fin 16384) (h : Fin 32) (d : Fin 128) :
    (after hostOps0_4 U (Proc.devRef .tc main_v23) : Vec Ideal S1x16384x32x128 .f32) (ix4 0 r h d)
      = (U (Proc.devRef .tc main_v19) : Vec Ideal S1x16384x4096 .f32) (ix3 0 r (colNo h d)) := by
  after_reads_at
  all_goals rfl

theorem other_apply (r : Fin 16384) (h : Fin 32) (d : Fin 128) :
    (after hostOps0_4 U (Proc.devRef .tc main_v44) : Vec Ideal S1x16384x32x128 .f32) (ix4 0 r h d)
      = (U (Proc.devRef .tc main_arg2) : Vec Ideal S16384x4096 .f32) (ix2 r (colNo h d)) := by
  after_reads_at
  all_goals rfl

theorem outgate_apply (r : Fin 16384) (j : Fin 4096) :
    (after hostOps0_2 U (Proc.devRef .tc main_v20) : Vec Ideal S1x16384x4096 .f32) (ix3 0 r j)
      = (U (Proc.devRef .tc main_arg0) : Vec Ideal S16384x20480 .f32) (ix2 r ⟨16384 + j.val, by omega⟩) := by
  after_reads_at
  all_goals rfl

theorem flip5_apply (r : Fin 16384) (h : Fin 32) (d : Fin 128) :
    (after hostOps0_5 U (Proc.devRef .tc main_v45) : Vec Ideal S1x16384x32x128 .f32) (ix4 0 r h d)
      = (U (Proc.devRef .tc main_v22) : Vec Ideal S1x16384x32x128 .f32) (ix4 0 r.rev h d) := by
  after_reads_at
  all_goals rfl

theorem flip6_apply (r : Fin 16384) (h : Fin 32) (d : Fin 128) :
    (after hostOps0_6 U (Proc.devRef .tc main_v46) : Vec Ideal S1x16384x32x128 .f32) (ix4 0 r h d)
      = (U (Proc.devRef .tc main_v42) : Vec Ideal S1x16384x32x128 .f32) (ix4 0 r.rev h d) := by
  after_reads_at
  all_goals rfl

theorem flip7_apply (r : Fin 16384) (h : Fin 32) (d : Fin 128) :
    (after hostOps0_7 U (Proc.devRef .tc main_v47) : Vec Ideal S1x16384x32x128 .f32) (ix4 0 r h d)
      = (U (Proc.devRef .tc main_v23) : Vec Ideal S1x16384x32x128 .f32) (ix4 0 r.rev h d) := by
  after_reads_at
  all_goals rfl

theorem flip8_apply (r : Fin 16384) (h : Fin 32) (d : Fin 128) :
    (after hostOps0_8 U (Proc.devRef .tc main_v48) : Vec Ideal S1x16384x32x128 .f32) (ix4 0 r h d)
      = (U (Proc.devRef .tc main_v43) : Vec Ideal S1x16384x32x128 .f32) (ix4 0 r.rev h d) := by
  after_reads_at
  all_goals rfl

theorem ones_apply (t s : Fin 64) : (after hostOps0_9 U (Proc.devRef .tc main_v49) : IVec S64x64 1) (ix2 t s) = 1#1 := by
  after_reads_at
  all_goals rfl

theorem tril_apply (ho : ∀ t s, (U (Proc.devRef .tc main_v49) : IVec S64x64 1) (ix2 t s) = 1#1) (t s : Fin 64) :
    (after hostOps0_10 U (Proc.devRef .tc main_v50) : IVec S64x64 1) (ix2 t s) = if s ≤ t then 1#1 else 0#1 := by
  have hd : ∀ t s : Fin 64, IntOp.cmpi CmpIPredicate.sge (IntOp.addi (BitVec.ofNat 32 t.val) 0#32) (BitVec.ofNat 32 s.val) = if s ≤ t then 1#1 else 0#1 := by
    decide +kernel
  have e : (after hostOps0_10 U (Proc.devRef .tc main_v50) : IVec S64x64 1) (ix2 t s)
      = Scalar.select (IntOp.cmpi CmpIPredicate.sge (IntOp.addi (BitVec.ofNat 32 t.val) 0#32) (BitVec.ofNat 32 s.val))
        ((U (Proc.devRef .tc main_v49) : IVec S64x64 1) (ix2 t s)) 0#1 := by
    after_reads_at
    all_goals rfl
  rw [e, hd, ho]
  split <;> rfl

theorem carry0_apply (n : Fin 256) (t : Fin 64) (h : Fin 32) (d : Fin 128) :
    (after hostOps0_11 U (Proc.devRef .tc main_v62_0) : Vec Ideal S256x1x64x32x128 .f32) (ix5 n 0 t h d)
      = (U (Proc.devRef .tc main_v45) : Vec Ideal S1x16384x32x128 .f32) (ix4 0 (rowNo n t) h d) := by
  after_reads_at
  all_goals rfl

theorem carry1_apply (n : Fin 256) (t : Fin 64) (h : Fin 32) (d : Fin 128) :
    (after hostOps0_11 U (Proc.devRef .tc main_v62_1) : Vec Ideal S256x1x64x32x128 .f32) (ix5 n 0 t h d)
      = (U (Proc.devRef .tc main_v46) : Vec Ideal S1x16384x32x128 .f32) (ix4 0 (rowNo n t) h d) := by
  after_reads_at
  all_goals rfl

theorem carry2_apply (n : Fin 256) (t : Fin 64) (h : Fin 32) (d : Fin 128) :
    (after hostOps0_11 U (Proc.devRef .tc main_v62_2) : Vec Ideal S256x1x64x32x128 .f32) (ix5 n 0 t h d)
      = (U (Proc.devRef .tc main_v47) : Vec Ideal S1x16384x32x128 .f32) (ix4 0 (rowNo n t) h d) := by
  after_reads_at
  all_goals rfl

theorem carry3_apply (n : Fin 256) (t : Fin 64) (h : Fin 32) (d : Fin 128) :
    (after hostOps0_11 U (Proc.devRef .tc main_v62_3) : Vec Ideal S256x1x64x32x128 .f32) (ix5 n 0 t h d)
      = (U (Proc.devRef .tc main_v48) : Vec Ideal S1x16384x32x128 .f32) (ix4 0 (rowNo n t) h d) := by
  after_reads_at
  all_goals rfl

theorem carry4_apply (t s : Fin 64) :
    (after hostOps0_11 U (Proc.devRef .tc main_v62_4) : IVec S1x64x64x1x1 1) (ix5 0 t s 0 0) = (U (Proc.devRef .tc main_v50) : IVec S64x64 1) (ix2 t s) := by
  after_reads_at
  change broadcastInDim S1x64x64x1x1 ![1, 2] bcast_S64x64_S1x64x64x1x1_1_2 (U (Proc.devRef .tc main_v50) : IVec S64x64 1) (ix5 0 t s 0 0) = _
  generalize (U (Proc.devRef .tc main_v50) : IVec S64x64 1) = x
  pointwise

theorem carry5_apply : (after hostOps0_11 U (Proc.devRef .tc main_v62_5) : IVec S_ 32) = fun _ => 0#32 := by
  after_reads_simp
  all_goals rfl

theorem carry6_apply (h : Fin 32) (d e : Fin 128) : (after hostOps0_11 U (Proc.devRef .tc main_v62_6) : Vec Ideal S1x32x128x128 .f32) (ix4 0 h d e) = (0 : EReal) := by
  after_reads_at
  change broadcastInDim S1x32x128x128 ![] bcast_S_S1x32x128x128 (constant S_ .f32 0x00000000#32 : FVec Ideal S_ .f32) (ix4 0 h d e) = _
  pointwise

end Stretches

end Cert.ScanBackReferenceIdeal.Scan

end
-- ==== Proof.BRChunk.lean ====
/- One trip of the backward scan's reference loop over the extended reals: a chunk of Spec.lean. -/
module

public import proofs.«01_k».proof.Proof.BSpec
public import proofs.«01_k».proof.Proof.RSums
public import proofs.«01_k».proof.Proof.Gen.ScanBackReferenceIdeal.Run
public import Idealize.ShloMosaic.Lib.StableHlo.ReadAt
public import Idealize.ShloMosaic.Lib.Pointwise
public import Idealize.ShloMosaic.Lib.DynamicIndex
public import Idealize.ShloMosaic.Lib.Pipeline.Value

@[expose] public section

set_option maxRecDepth 16384

noncomputable section

namespace Cert.ScanBackReferenceIdeal.Scan

open Cert.ScanBackReferenceIdeal Cert.ScanBackReferenceIdeal.Gen Cert.ScanBackReferenceIdeal.Value Idealize.ShloMosaic Idealize.ShloMosaic.TcCoe Cert.Scan
open Idealize.ShloMosaic.StableHlo
open Idealize.SL.Sem

/-- The contents with chunk `n` next. -/
def At (V : Valuation τ sig (Elt Ideal)) (n : Fin 256) : Prop :=
  (V (Proc.devRef .tc main_v62_5) : IVec S_ 32) = fun _ => BitVec.ofNat 32 n.val

variable {V : Valuation τ sig (Elt Ideal)} {n : Fin 256}

theorem start_eq (hn : At V n) (k : Fin 5) :
    (((![V (Proc.devRef .tc main_v62_5), constantI S_ 32 0#32, constantI S_ 32 0#32, constantI S_ 32 0#32, constantI S_ 32 0#32] : Fin 5 → (⟨S_, .i32⟩ : BufTy).Contents (Elt Ideal))) k (Shape.Idx.first h_S_)).toInt
      = ((![n.val, 0, 0, 0, 0] : Fin 5 → ℕ) k : Int) := by
  have h0 : (V (Proc.devRef .tc main_v62_5) : IVec S_ 32) (Shape.Idx.first h_S_) = BitVec.ofNat 32 n.val := congrFun hn _
  match k with
  | ⟨0, _⟩ => exact (congrArg BitVec.toInt h0).trans (toInt_ofNat_of_lt (by omega))
  | ⟨1, _⟩ => rfl
  | ⟨2, _⟩ => rfl
  | ⟨3, _⟩ => rfl
  | ⟨4, _⟩ => rfl

theorem fits (n : Fin 256) : S256x1x64x32x128.Slices (![n.val, 0, 0, 0, 0] : Fin 5 → ℕ) S1x1x64x32x128 :=
  ⟨rfl, fun a => match a with
    | ⟨0, _⟩ => by show n.val + 1 ≤ 256; omega
    | ⟨1, _⟩ => by show 0 + 1 ≤ 1; omega
    | ⟨2, _⟩ => by show 0 + 64 ≤ 64; omega
    | ⟨3, _⟩ => by show 0 + 32 ≤ 32; omega
    | ⟨4, _⟩ => by show 0 + 128 ≤ 128; omega⟩

/-- Chunk `n` of a chunked array. -/
theorem chunk_read (hn : At V n) (x : Vec Ideal S256x1x64x32x128 .f32) (t : Fin 64) (h : Fin 32) (d : Fin 128) :
    shapeCast S1x64x32x128 (Host.dynamicSlice S1x1x64x32x128 x (fun k => (((![V (Proc.devRef .tc main_v62_5), constantI S_ 32 0#32, constantI S_ 32 0#32, constantI S_ 32 0#32, constantI S_ 32 0#32] : Fin 5 → (⟨S_, .i32⟩ : BufTy).Contents (Elt Ideal))) k (Shape.Idx.first h_S_)).toInt) sliceFits_S256x1x64x32x128_S1x1x64x32x128) shapeCasts_S1x1x64x32x128_S1x64x32x128 (ix4 0 t h d)
      = x (ix5 n 0 t h d) := by
  rw [Host.dynamicSlice_eq_extractStridedSlice S1x1x64x32x128 x _ ![n.val, 0, 0, 0, 0] _ (fits n) (start_eq hn)]
  pointwise

/-- A write of chunk `n`. -/
theorem chunk_write (hn : At V n) (x : Vec Ideal S256x1x64x32x128 .f32) (u : Vec Ideal S1x1x64x32x128 .f32) (m : Fin 256) (t : Fin 64) (h : Fin 32) (e : Fin 128) :
    Host.dynamicUpdateSlice x u (fun k => (((![V (Proc.devRef .tc main_v62_5), constantI S_ 32 0#32, constantI S_ 32 0#32, constantI S_ 32 0#32, constantI S_ 32 0#32] : Fin 5 → (⟨S_, .i32⟩ : BufTy).Contents (Elt Ideal))) k (Shape.Idx.first h_S_)).toInt) updateFits_S256x1x64x32x128_S1x1x64x32x128 (ix5 m 0 t h e)
      = if m = n then u (ix5 0 0 t h e) else x (ix5 m 0 t h e) := by
  have hc : Host.clampedStart S256x1x64x32x128 S1x1x64x32x128 updateFits_S256x1x64x32x128_S1x1x64x32x128.1 (fun k => (((![V (Proc.devRef .tc main_v62_5), constantI S_ 32 0#32, constantI S_ 32 0#32, constantI S_ 32 0#32, constantI S_ 32 0#32] : Fin 5 → (⟨S_, .i32⟩ : BufTy).Contents (Elt Ideal))) k (Shape.Idx.first h_S_)).toInt) = (![n.val, 0, 0, 0, 0] : Fin 5 → ℕ) :=
    funext fun a => Host.clampedStart_of_le updateFits_S256x1x64x32x128_S1x1x64x32x128.1 _ a _ (start_eq hn a) ((fits n).2 a)
  rw [Host.dynamicUpdateSlice_apply]
  by_cases hm : m = n
  · subst hm
    rw [if_pos rfl, dif_pos]
    · refine congrArg u ?_
      funext a; apply Fin.ext
      match a with
      | ⟨0, _⟩ => exact (congrArg (m.val - ·) (congrFun hc 0)).trans (Nat.sub_self _)
      | ⟨1, _⟩ => exact congrArg (0 - ·) (congrFun hc 1)
      | ⟨2, _⟩ => exact congrArg (t.val - ·) (congrFun hc 2)
      | ⟨3, _⟩ => exact congrArg (h.val - ·) (congrFun hc 3)
      | ⟨4, _⟩ => exact congrArg (e.val - ·) (congrFun hc 4)
    · intro a
      rw [congrFun hc a]
      match a with
      | ⟨0, _⟩ => exact ⟨le_refl _, Nat.lt_succ_self _⟩
      | ⟨1, _⟩ => show 0 ≤ 0 ∧ 0 < 0 + 1; omega
      | ⟨2, _⟩ => show 0 ≤ t.val ∧ t.val < 0 + 64; omega
      | ⟨3, _⟩ => show 0 ≤ h.val ∧ h.val < 0 + 32; omega
      | ⟨4, _⟩ => show 0 ≤ e.val ∧ e.val < 0 + 128; omega
  · rw [if_neg hm, dif_neg]
    intro hin
    apply hm
    apply Fin.ext
    have h1 := hin 0
    rw [congrFun hc 0] at h1
    have h2 : n.val ≤ m.val ∧ m.val < n.val + 1 := h1
    omega

/-! ## One chunk -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem cum_anti {g : Fin 64 → Fin 4096 → ℝ} (hg : ∀ t j, g t j ≤ 0) {s t : Fin 64} (h : s ≤ t) (j : Fin 4096) : cum g t j ≤ cum g s j := by
  unfold cum
  refine Finset.sum_le_sum fun i _ => ?_
  by_cases h1 : i ≤ s
  · rw [if_pos h1, if_pos (h1.trans h)]
  · rw [if_neg h1]
    split
    · exact hg i j
    · exact le_refl _

theorem rowSums (x : Vec Ideal S1x64x32x128 .f32) (t : Fin 64) (h : Fin 32) (d : Fin 128) :
    Host.reduceWindowAdd (F := Ideal) (φ := .f32) ![1, 64, 1, 1] ![1, 1, 1, 1] ![0, 63, 0, 0] ![0, 0, 0, 0] x (broadcastInDim S_ ![] bcast_S_S_ (constant S_ .f32 0x00000000#32)) reduceWindows_S1x64x32x128_S1x64x32x128_w1s1p0_0_w64s1p63_0_w1s1p0_0_w1s1p0_0 h_S_ (ix4 0 t h d)
      = ∑ s : Fin 64, if s ≤ t then x (ix4 0 s h d) else (0 : EReal) := by
  have h0 : (broadcastInDim S_ ![] bcast_S_S_ (constant S_ .f32 0x00000000#32 : FVec Ideal S_ .f32)) (Shape.Idx.first h_S_) = (0 : EReal) := by pointwise
  refine Eq.trans ?_ (cumsum4 (n := 63) x reduceWindows_S1x64x32x128_S1x64x32x128_w1s1p0_0_w64s1p63_0_w1s1p0_0_w1s1p0_0 0 t h d)
  exact congrArg (fun z => Ideal.hostReduceWindowAdd (s := S1x64x32x128) ![1, 64, 1, 1] ![1, 1, 1, 1] ![0, 63, 0, 0] ![0, 0, 0, 0] reduceWindows_S1x64x32x128_S1x64x32x128_w1s1p0_0_w64s1p63_0_w1s1p0_0_w1s1p0_0 x z (ix4 0 t h d)) h0

section Chunk
variable {q k v : Fin 64 → Fin 4096 → EReal} {g : Fin 64 → Fin 4096 → ℝ} {st : Fin 32 → Fin 128 → Fin 128 → EReal}

theorem last_apply (hC : ∀ t h d, (res_main_while0b_v91 V : Vec Ideal S1x64x32x128 .f32) (ix4 0 t h d) = ((cum g t (hd h d) : ℝ) : EReal)) (h : Fin 32) (d : Fin 128) :
    (res_main_while0b_v115 V : Vec Ideal S1x32x128 .f32) (ix3 0 h d) = ((cum g 63 (hd h d) : ℝ) : EReal) := by
  rw [← hC]
  unfold res_main_while0b_v115
  generalize res_main_while0b_v91 V = xc
  pointwise

theorem cums_apply (hn : At V n) (hG : ∀ t h d, (V (Proc.devRef .tc main_v62_3) : Vec Ideal S256x1x64x32x128 .f32) (ix5 n 0 t h d) = ((g t (hd h d) : ℝ) : EReal))
    (t : Fin 64) (h : Fin 32) (d : Fin 128) : (res_main_while0b_v91 V : Vec Ideal S1x64x32x128 .f32) (ix4 0 t h d) = ((cum g t (hd h d) : ℝ) : EReal) := by
  have hx : ∀ s, shapeCast S1x64x32x128 (Host.dynamicSlice S1x1x64x32x128 (V (Proc.devRef .tc main_v62_3) : Vec Ideal S256x1x64x32x128 .f32) (fun k => (((![V (Proc.devRef .tc main_v62_5), constantI S_ 32 0#32, constantI S_ 32 0#32, constantI S_ 32 0#32, constantI S_ 32 0#32] : Fin 5 → (⟨S_, .i32⟩ : BufTy).Contents (Elt Ideal))) k (Shape.Idx.first h_S_)).toInt) sliceFits_S256x1x64x32x128_S1x1x64x32x128) shapeCasts_S1x1x64x32x128_S1x64x32x128 (ix4 0 s h d) = ((g s (hd h d) : ℝ) : EReal) :=
    fun s => (chunk_read hn _ s h d).trans (hG s h d)
  unfold res_main_while0b_v91 cum
  rw [coe_sum]
  refine (rowSums _ t h d).trans (Finset.sum_congr rfl fun s _ => ?_)
  split
  · exact hx s
  · rfl

variable (hC : ∀ t h d, (res_main_while0b_v91 V : Vec Ideal S1x64x32x128 .f32) (ix4 0 t h d) = ((cum g t (hd h d) : ℝ) : EReal))
  (hQ : ∀ t h d, (res_main_while0b_v87 V : Vec Ideal S1x64x32x128 .f32) (ix4 0 t h d) = q t (hd h d))
  (hK : ∀ t h d, (res_main_while0b_v88 V : Vec Ideal S1x64x32x128 .f32) (ix4 0 t h d) = k t (hd h d))
  (hW : ∀ t h d, (res_main_while0b_v89 V : Vec Ideal S1x64x32x128 .f32) (ix4 0 t h d) = v t (hd h d))
  (hS : ∀ h d e, (V (Proc.devRef .tc main_v62_6) : Vec Ideal S1x32x128x128 .f32) (ix4 0 h d e) = st h e d)
  (hM : ∀ t s, (V (Proc.devRef .tc main_v62_4) : IVec S1x64x64x1x1 1) (ix5 0 t s 0 0) = if s ≤ t then 1#1 else 0#1)

include hC hK hW hS in
theorem state_apply (h : Fin 32) (d e : Fin 128) :
    (step_main_v62_6 V : Vec Ideal S1x32x128x128 .f32) (ix4 0 h d e) = nxt k v g st h e d := by
  have hl := last_apply hC
  unfold step_main_v62_6 nxt
  change addf _ _ _ = _
  generalize res_main_while0b_v115 V = xl at *
  generalize res_main_while0b_v91 V = xc at *
  generalize res_main_while0b_v88 V = xk at *
  generalize res_main_while0b_v89 V = xv at *
  generalize V (Proc.devRef .tc main_v62_6) = xS at *
  clean_types
  pointwise
  refine congrArg₂ (· + ·) ?_ (Finset.sum_congr rfl fun s _ => ?_)
  · rw [hl, hS, Ideal.exp_coe, mul_comm]
  · rw [hl, hC, hK, hW, ← EReal.coe_sub, Ideal.exp_coe, mul_comm]

include hC hQ hK hW hS hM in
theorem output_apply (hg : ∀ t j, g t j ≤ 0) (hn : At V n) (m : Fin 256) (t : Fin 64) (h : Fin 32) (e : Fin 128) :
    (step_main_v62_7 V : Vec Ideal S256x1x64x32x128 .f32) (ix5 m 0 t h e)
      = if m = n then out q k v g st h t e else (V (Proc.devRef .tc main_v62_7) : Vec Ideal S256x1x64x32x128 .f32) (ix5 m 0 t h e) := by
  unfold step_main_v62_7
  refine (chunk_write hn _ _ m t h e).trans (if_congr Iff.rfl ?_ rfl)
  generalize res_main_while0b_v91 V = xc at *
  generalize res_main_while0b_v87 V = xq at *
  generalize res_main_while0b_v88 V = xk at *
  generalize res_main_while0b_v89 V = xv at *
  generalize V (Proc.devRef .tc main_v62_6) = xS at *
  generalize V (Proc.devRef .tc main_v62_4) = xM at *
  pointwise
  unfold out
  refine congrArg₂ (· + ·) (Finset.sum_congr rfl fun d _ => ?_) (Finset.sum_congr rfl fun s _ => ?_)
  · rw [hC, hQ, hS, Ideal.exp_coe, mul_comm]
  · rw [hW, mul_comm]
    refine congrArg (· * v s (hd h e)) ?_
    unfold score
    rw [hM]
    by_cases hs : s ≤ t
    · rw [if_pos hs, if_pos hs]
      refine Finset.sum_congr rfl fun d _ => ?_
      rw [hC, hC, hQ, hK, ← EReal.coe_sub, min_eq_left (by rw [← EReal.coe_zero]; exact EReal.coe_le_coe_iff.2 (sub_nonpos.2 (cum_anti hg hs _))), Ideal.exp_coe]
      rfl
    · rw [if_neg hs, if_neg hs]
      refine Finset.sum_eq_zero fun d _ => ?_
      have h0 : (constant S_ FTy.f32 0#32 : FVec Ideal S_ .f32) ix0 = (0 : EReal) := by pointwise
      refine Eq.trans (congrArg _ h0) (mul_zero _)

end Chunk

end Cert.ScanBackReferenceIdeal.Scan

end
-- ==== Proof.BRScan.lean ====
/- The backward scan's reference over the extended reals: what its loop is entered with, what each of its 256 trips keeps, and the
   loop's result. -/
module

public import proofs.«01_k».proof.Proof.BSpec
public import proofs.«01_k».proof.Proof.BREntry
public import proofs.«01_k».proof.Proof.BRChunk

@[expose] public section

set_option maxRecDepth 16384

noncomputable section

namespace Cert.ScanBackReferenceIdeal.Scan

open Cert.ScanBackReferenceIdeal Cert.ScanBackReferenceIdeal.Gen Cert.ScanBackReferenceIdeal.Value Idealize.ShloMosaic Idealize.ShloMosaic.TcCoe Cert.Scan
open Idealize.ShloMosaic.StableHlo
open Idealize.SL.Sem

theorem rowNo_eq (n : Fin 256) (t : Fin 64) : rowNo n t = tok n.val t :=
  Fin.ext (by show n.val * 64 + t.val = 64 * min n.val 255 + t.val; omega)

theorem colNo_eq (h : Fin 32) (d : Fin 128) : colNo h d = hd h d :=
  Fin.ext (by show h.val * 128 + d.val = 128 * h.val + d.val; omega)

/-! ## The entry -/

/-- A softmax over two real logits. -/
theorem softmax_two (f : Fin 2 → ℝ) :
    Ideal.div (Ideal.exp ((f 0 : EReal) - max (Ideal.ofBits .f32 0xFF800000#32) (Finset.fold max (Ideal.ofBits .f32 0xFF800000#32) (fun y => (f y : EReal)) Finset.univ)))
      (∑ z : Fin 2, Ideal.exp ((f z : EReal) - max (Ideal.ofBits .f32 0xFF800000#32) (Finset.fold max (Ideal.ofBits .f32 0xFF800000#32) (fun y => (f y : EReal)) Finset.univ)))
      = ((share (f 0) (f 1) : ℝ) : EReal) := by
  have hb : Ideal.ofBits .f32 0xFF800000#32 = ⊥ := by simp [Ideal.ofBits, Ideal.ieee]
  have hm : Finset.fold max (Ideal.ofBits .f32 0xFF800000#32) (fun y => (f y : EReal)) (Finset.univ : Finset (Fin 2)) = ((max (f 0) (f 1) : ℝ) : EReal) := by
    rw [hb, show (Finset.univ : Finset (Fin 2)) = {0, 1} from rfl, Finset.fold_insert (by decide), Finset.fold_singleton, max_bot_right,
      EReal.coe_strictMono.monotone.map_max]
  rw [hm, hb, max_bot_left, Fin.sum_univ_two]
  generalize max (f 0) (f 1) = w
  have hp : Real.exp (f 0 - w) + Real.exp (f 1 - w) ≠ 0 := by positivity
  rw [← EReal.coe_sub, ← EReal.coe_sub, Ideal.exp_coe, Ideal.exp_coe, ← EReal.coe_add, Ideal.div_coe hp, ← EReal.coe_mul, mul_one_div, share,
    Real.exp_sub, Real.exp_sub, ← add_div, div_div_div_cancel_right₀ (Real.exp_pos w).ne']

section Entry
variable {A : Fin 16384 → Fin 20480 → EReal} {L : Fin 2 → Fin 4096 → ℝ} {O : Fin 16384 → Fin 4096 → EReal} {U : Valuation τ sig (Elt Ideal)}
  (hA : ∀ r j, (U (Proc.devRef .tc main_arg0) : Vec Ideal S16384x20480 .f32) (ix2 r j) = A r j)
  (hL : ∀ i j, (U (Proc.devRef .tc main_arg1) : Vec Ideal S2x2x4096 .f32) (ix3 1 i j) = (L i j : EReal))
  (hO : ∀ r j, (U (Proc.devRef .tc main_arg2) : Vec Ideal S16384x4096 .f32) (ix2 r j) = O r j)

/-- The contents before each stretch of the entry. -/
abbrev U1 (U : Valuation τ sig (Elt Ideal)) := after hostOps0 U
abbrev U2 (U : Valuation τ sig (Elt Ideal)) := after hostOps0_1 (U1 U)
abbrev U3 (U : Valuation τ sig (Elt Ideal)) := after hostOps0_2 (U2 U)
abbrev U4 (U : Valuation τ sig (Elt Ideal)) := after hostOps0_3 (U3 U)
abbrev U5 (U : Valuation τ sig (Elt Ideal)) := after hostOps0_4 (U4 U)
abbrev U6 (U : Valuation τ sig (Elt Ideal)) := after hostOps0_5 (U5 U)
abbrev U7 (U : Valuation τ sig (Elt Ideal)) := after hostOps0_6 (U6 U)
abbrev U8 (U : Valuation τ sig (Elt Ideal)) := after hostOps0_7 (U7 U)
abbrev U9 (U : Valuation τ sig (Elt Ideal)) := after hostOps0_8 (U8 U)
abbrev U10 (U : Valuation τ sig (Elt Ideal)) := after hostOps0_9 (U9 U)
abbrev U11 (U : Valuation τ sig (Elt Ideal)) := after hostOps0_10 (U10 U)

include hL in
theorem bound_entry (h : Fin 32) (d : Fin 128) :
    (U4 U (Proc.devRef .tc main_v14) : Vec Ideal S2x32x128 .f32) (ix3 1 h d) = ((share (L 0 (hd h d)) (L 1 (hd h d)) : ℝ) : EReal) := by
  rw [show U4 U (Proc.devRef .tc main_v14) = U3 U (Proc.devRef .tc main_v14) from
    (after_of_writes_sub hostOps0_3 _ hostOps0_3_writes (by decide +kernel))]
  refine (bound_apply (U2 U) 1 h d).trans ?_
  refine (sums_apply (U1 U) (fun _ _ _ => rfl) 1 0 (colNo h d)).trans ?_
  rw [Fin.sum_univ_two, if_pos (le_refl _), if_neg (by decide), add_zero, colNo_eq]
  refine (soft_apply U (x := fun i s j => (U (Proc.devRef .tc main_arg1) : Vec Ideal S2x2x4096 .f32) (ix3 i s j)) (fun _ _ _ => rfl) 1 0 (hd h d)).trans ?_
  simp only [hL]
  exact softmax_two fun s => L s (hd h d)

include hA in
theorem logits_entry (r : Fin 16384) (j : Fin 4096) :
    (U4 U (Proc.devRef .tc main_v18) : Vec Ideal S1x16384x4096 .f32) (ix3 0 r j) = A r ⟨8192 + j.val, by omega⟩ := by
  rw [show U4 U (Proc.devRef .tc main_v18) = U3 U (Proc.devRef .tc main_v18) from
    (after_of_writes_sub hostOps0_3 _ hostOps0_3_writes (by decide +kernel))]
  refine (gates_apply (U2 U) r j).trans ?_
  rw [show U2 U (Proc.devRef .tc main_arg0) = U (Proc.devRef .tc main_arg0) from
    (after_of_writes_sub hostOps0_1 _ hostOps0_1_writes (by decide +kernel)).trans (after_of_writes_sub hostOps0 _ hostOps0_writes (by decide +kernel))]
  exact hA _ _

include hA in
theorem value_entry (r : Fin 16384) (h : Fin 32) (d : Fin 128) :
    (U11 U (Proc.devRef .tc main_v47) : Vec Ideal S1x16384x32x128 .f32) (ix4 0 r h d) = vOf (revA A) r (hd h d) := by
  rw [show U11 U (Proc.devRef .tc main_v47) = U8 U (Proc.devRef .tc main_v47) from
    (after_of_writes_sub hostOps0_10 _ hostOps0_10_writes (by decide +kernel)).trans ((after_of_writes_sub hostOps0_9 _ hostOps0_9_writes (by decide +kernel)).trans (after_of_writes_sub hostOps0_8 _ hostOps0_8_writes (by decide +kernel)))]
  refine (flip7_apply (U7 U) r h d).trans ?_
  rw [show U7 U (Proc.devRef .tc main_v23) = U5 U (Proc.devRef .tc main_v23) from
    (after_of_writes_sub hostOps0_6 _ hostOps0_6_writes (by decide +kernel)).trans (after_of_writes_sub hostOps0_5 _ hostOps0_5_writes (by decide +kernel))]
  refine (value_apply (U4 U) r.rev h d).trans ?_
  rw [show U4 U (Proc.devRef .tc main_v19) = U3 U (Proc.devRef .tc main_v19) from
    (after_of_writes_sub hostOps0_3 _ hostOps0_3_writes (by decide +kernel))]
  refine (values_apply (U2 U) r.rev _).trans ?_
  rw [show U2 U (Proc.devRef .tc main_arg0) = U (Proc.devRef .tc main_arg0) from
    (after_of_writes_sub hostOps0_1 _ hostOps0_1_writes (by decide +kernel)).trans (after_of_writes_sub hostOps0 _ hostOps0_writes (by decide +kernel))]
  rw [hA, colNo_eq]
  exact (revA_value A r (hd h d)).symm

include hA in
theorem query_entry (r : Fin 16384) (h : Fin 32) (d : Fin 128) :
    (U11 U (Proc.devRef .tc main_v45) : Vec Ideal S1x16384x32x128 .f32) (ix4 0 r h d) = qOf (revA A) r (hd h d) := by
  rw [show U11 U (Proc.devRef .tc main_v45) = U6 U (Proc.devRef .tc main_v45) from
    (after_of_writes_sub hostOps0_10 _ hostOps0_10_writes (by decide +kernel)).trans ((after_of_writes_sub hostOps0_9 _ hostOps0_9_writes (by decide +kernel)).trans ((after_of_writes_sub hostOps0_8 _ hostOps0_8_writes (by decide +kernel)).trans ((after_of_writes_sub hostOps0_7 _ hostOps0_7_writes (by decide +kernel)).trans (after_of_writes_sub hostOps0_6 _ hostOps0_6_writes (by decide +kernel)))))]
  refine (flip5_apply (U5 U) r h d).trans ?_
  rw [show U5 U (Proc.devRef .tc main_v22) = U4 U (Proc.devRef .tc main_v22) from
    (after_of_writes_sub hostOps0_4 _ hostOps0_4_writes (by decide +kernel))]
  refine silu_apply (U3 U) (x := fun r h d => revA A r.rev ⟨(hd h d).val, by omega⟩) (fun r h d => ?_) r.rev h d |>.trans ?_
  · refine (query_apply (U2 U) r h d).trans ?_
    rw [show U2 U (Proc.devRef .tc main_arg0) = U (Proc.devRef .tc main_arg0) from
    (after_of_writes_sub hostOps0_1 _ hostOps0_1_writes (by decide +kernel)).trans (after_of_writes_sub hostOps0 _ hostOps0_writes (by decide +kernel))]
    rw [hA]
    refine Eq.trans ?_ (revA_query A r.rev (hd h d)).symm
    rw [Fin.rev_rev]
    exact congrArg (A r) (Fin.ext (show (colNo h d).val = (hd h d).val from congrArg Fin.val (colNo_eq h d)))
  · simp only [Fin.rev_rev]
    rfl

include hA hL in
theorem key_entry (r : Fin 16384) (h : Fin 32) (d : Fin 128) :
    (U11 U (Proc.devRef .tc main_v46) : Vec Ideal S1x16384x32x128 .f32) (ix4 0 r h d) = kOf (revA A) L r (hd h d) := by
  rw [show U11 U (Proc.devRef .tc main_v46) = U7 U (Proc.devRef .tc main_v46) from
    (after_of_writes_sub hostOps0_10 _ hostOps0_10_writes (by decide +kernel)).trans ((after_of_writes_sub hostOps0_9 _ hostOps0_9_writes (by decide +kernel)).trans ((after_of_writes_sub hostOps0_8 _ hostOps0_8_writes (by decide +kernel)).trans (after_of_writes_sub hostOps0_7 _ hostOps0_7_writes (by decide +kernel))))]
  refine (flip6_apply (U6 U) r h d).trans ?_
  rw [show U6 U (Proc.devRef .tc main_v42) = U5 U (Proc.devRef .tc main_v42) from
    (after_of_writes_sub hostOps0_5 _ hostOps0_5_writes (by decide +kernel))]
  refine (key_apply (U4 U) (bound_entry hL) (logits_entry hA) r.rev h d).trans ?_
  rw [colNo_eq, gate_coe, kOf, EReal.coe_sub, EReal.coe_one, gateOf, revA_gate]

include hA hL in
theorem log_entry (hsm : Small L) (r : Fin 16384) (h : Fin 32) (d : Fin 128) :
    (U11 U (Proc.devRef .tc main_v48) : Vec Ideal S1x16384x32x128 .f32) (ix4 0 r h d) = ((gOf (revA A) L r (hd h d) : ℝ) : EReal) := by
  rw [show U11 U (Proc.devRef .tc main_v48) = U9 U (Proc.devRef .tc main_v48) from
    (after_of_writes_sub hostOps0_10 _ hostOps0_10_writes (by decide +kernel)).trans (after_of_writes_sub hostOps0_9 _ hostOps0_9_writes (by decide +kernel))]
  refine (flip8_apply (U8 U) r h d).trans ?_
  rw [show U8 U (Proc.devRef .tc main_v43) = U5 U (Proc.devRef .tc main_v43) from
    (after_of_writes_sub hostOps0_7 _ hostOps0_7_writes (by decide +kernel)).trans ((after_of_writes_sub hostOps0_6 _ hostOps0_6_writes (by decide +kernel)).trans (after_of_writes_sub hostOps0_5 _ hostOps0_5_writes (by decide +kernel)))]
  refine (log_apply (U4 U) (bound_entry hL) (logits_entry hA) r.rev h d).trans ?_
  rw [colNo_eq, gate_coe]
  have hg : gateOf (revA A) L r (hd h d) = gate (share (L 0 (hd h d)) (L 1 (hd h d))) (A r.rev ⟨8192 + (hd h d).val, by omega⟩) := by
    rw [gateOf, revA_gate]
  have hp := gateOf_pos (A := revA A) hsm r (hd h d)
  rw [gOf, hg]
  rw [hg] at hp
  exact (Ideal.log_coe _).trans (if_neg hp.not_ge)

theorem tril_entry (t s : Fin 64) : (U11 U (Proc.devRef .tc main_v50) : IVec S64x64 1) (ix2 t s) = if s ≤ t then 1#1 else 0#1 :=
  tril_apply (U10 U) (ones_apply (U9 U)) t s

include hO in
theorem other_entry (r : Fin 16384) (h : Fin 32) (d : Fin 128) :
    (afterL preI U (Proc.devRef .tc main_v44) : Vec Ideal S1x16384x32x128 .f32) (ix4 0 r h d) = O r (hd h d) := by
  rw [show afterL preI U = after hostOps0_11 (U11 U) from rfl, show after hostOps0_11 (U11 U) (Proc.devRef .tc main_v44) = U5 U (Proc.devRef .tc main_v44) from
    (after_of_writes_sub hostOps0_11 _ hostOps0_11_writes (by decide +kernel)).trans ((after_of_writes_sub hostOps0_10 _ hostOps0_10_writes (by decide +kernel)).trans ((after_of_writes_sub hostOps0_9 _ hostOps0_9_writes (by decide +kernel)).trans ((after_of_writes_sub hostOps0_8 _ hostOps0_8_writes (by decide +kernel)).trans ((after_of_writes_sub hostOps0_7 _ hostOps0_7_writes (by decide +kernel)).trans ((after_of_writes_sub hostOps0_6 _ hostOps0_6_writes (by decide +kernel)).trans (after_of_writes_sub hostOps0_5 _ hostOps0_5_writes (by decide +kernel)))))))]
  refine (other_apply (U4 U) r h d).trans ?_
  rw [show U4 U (Proc.devRef .tc main_arg2) = U (Proc.devRef .tc main_arg2) from
    (after_of_writes_sub hostOps0_3 _ hostOps0_3_writes (by decide +kernel)).trans ((after_of_writes_sub hostOps0_2 _ hostOps0_2_writes (by decide +kernel)).trans ((after_of_writes_sub hostOps0_1 _ hostOps0_1_writes (by decide +kernel)).trans (after_of_writes_sub hostOps0 _ hostOps0_writes (by decide +kernel))))]
  rw [hO, colNo_eq]

include hA in
theorem outgate_entry (r : Fin 16384) (j : Fin 4096) :
    (afterL preI U (Proc.devRef .tc main_v20) : Vec Ideal S1x16384x4096 .f32) (ix3 0 r j) = A r ⟨16384 + j.val, by omega⟩ := by
  rw [show afterL preI U = after hostOps0_11 (U11 U) from rfl, show after hostOps0_11 (U11 U) (Proc.devRef .tc main_v20) = U3 U (Proc.devRef .tc main_v20) from
    (after_of_writes_sub hostOps0_11 _ hostOps0_11_writes (by decide +kernel)).trans ((after_of_writes_sub hostOps0_10 _ hostOps0_10_writes (by decide +kernel)).trans ((after_of_writes_sub hostOps0_9 _ hostOps0_9_writes (by decide +kernel)).trans ((after_of_writes_sub hostOps0_8 _ hostOps0_8_writes (by decide +kernel)).trans ((after_of_writes_sub hostOps0_7 _ hostOps0_7_writes (by decide +kernel)).trans ((after_of_writes_sub hostOps0_6 _ hostOps0_6_writes (by decide +kernel)).trans ((after_of_writes_sub hostOps0_5 _ hostOps0_5_writes (by decide +kernel)).trans ((after_of_writes_sub hostOps0_4 _ hostOps0_4_writes (by decide +kernel)).trans (after_of_writes_sub hostOps0_3 _ hostOps0_3_writes (by decide +kernel)))))))))]
  refine (outgate_apply (U2 U) r j).trans ?_
  rw [show U2 U (Proc.devRef .tc main_arg0) = U (Proc.devRef .tc main_arg0) from
    (after_of_writes_sub hostOps0_1 _ hostOps0_1_writes (by decide +kernel)).trans (after_of_writes_sub hostOps0 _ hostOps0_writes (by decide +kernel))]
  exact hA _ _

end Entry

/-! ## The trips -/

section Trips
variable (A : Fin 16384 → Fin 20480 → EReal) (L : Fin 2 → Fin 4096 → ℝ)

/-- What the carried buffers hold before trip `n`. -/
structure Ready (n : ℕ) (V : Valuation τ sig (Elt Ideal)) : Prop where
  counter : (V (Proc.devRef .tc main_v62_5) : IVec S_ 32) = fun _ => BitVec.ofNat 32 n
  queries : ∀ (m : Fin 256) t h d, (V (Proc.devRef .tc main_v62_0) : Vec Ideal S256x1x64x32x128 .f32) (ix5 m 0 t h d) = qOf A (tok m.val t) (hd h d)
  keys : ∀ (m : Fin 256) t h d, (V (Proc.devRef .tc main_v62_1) : Vec Ideal S256x1x64x32x128 .f32) (ix5 m 0 t h d) = kOf A L (tok m.val t) (hd h d)
  values : ∀ (m : Fin 256) t h d, (V (Proc.devRef .tc main_v62_2) : Vec Ideal S256x1x64x32x128 .f32) (ix5 m 0 t h d) = vOf A (tok m.val t) (hd h d)
  logs : ∀ (m : Fin 256) t h d, (V (Proc.devRef .tc main_v62_3) : Vec Ideal S256x1x64x32x128 .f32) (ix5 m 0 t h d) = ((gOf A L (tok m.val t) (hd h d) : ℝ) : EReal)
  mask : ∀ t s, (V (Proc.devRef .tc main_v62_4) : IVec S1x64x64x1x1 1) (ix5 0 t s 0 0) = if s ≤ t then 1#1 else 0#1
  carried : ∀ h d e, (V (Proc.devRef .tc main_v62_6) : Vec Ideal S1x32x128x128 .f32) (ix4 0 h d e) = state (kOf A L) (vOf A) (gOf A L) n h e d
  written : ∀ (m : Fin 256) t h e, m.val < n →
    (V (Proc.devRef .tc main_v62_7) : Vec Ideal S256x1x64x32x128 .f32) (ix5 m 0 t h e) = result (qOf A) (kOf A L) (vOf A) (gOf A L) m.val h t e

variable {A L}

theorem ready_entry (hsm : Small L) {U : Valuation τ sig (Elt Ideal)}
    (hA : ∀ r j, (U (Proc.devRef .tc main_arg0) : Vec Ideal S16384x20480 .f32) (ix2 r j) = A r j)
    (hL : ∀ i j, (U (Proc.devRef .tc main_arg1) : Vec Ideal S2x2x4096 .f32) (ix3 1 i j) = (L i j : EReal)) :
    Ready (revA A) L 0 (afterL preI U) where
  counter := carry5_apply (U11 U)
  queries m t h d := (carry0_apply (U11 U) m t h d).trans ((query_entry hA _ h d).trans (by rw [rowNo_eq]))
  keys m t h d := (carry1_apply (U11 U) m t h d).trans ((key_entry hA hL _ h d).trans (by rw [rowNo_eq]))
  values m t h d := (carry2_apply (U11 U) m t h d).trans ((value_entry hA _ h d).trans (by rw [rowNo_eq]))
  logs m t h d := (carry3_apply (U11 U) m t h d).trans ((log_entry hA hL hsm _ h d).trans (by rw [rowNo_eq]))
  mask t s := (carry4_apply (U11 U) t s).trans (tril_entry t s)
  carried h d e := carry6_apply (U11 U) h d e
  written m t h e hm := absurd hm (Nat.not_lt_zero _)

theorem ready_step (hsm : Small L) {n : ℕ} (hn : n < 256) {V : Valuation τ sig (Elt Ideal)} (hV : Ready A L n V) : Ready A L (n + 1) (STEP V) := by
  have hat : At V ⟨n, hn⟩ := hV.counter
  have hQ : ∀ t h d, (res_main_while0b_v87 V : Vec Ideal S1x64x32x128 .f32) (ix4 0 t h d) = Cert.Scan.rowsOf (qOf A) n t (hd h d) :=
    fun t h d => (chunk_read hat _ t h d).trans (hV.queries ⟨n, hn⟩ t h d)
  have hK : ∀ t h d, (res_main_while0b_v88 V : Vec Ideal S1x64x32x128 .f32) (ix4 0 t h d) = Cert.Scan.rowsOf (kOf A L) n t (hd h d) :=
    fun t h d => (chunk_read hat _ t h d).trans (hV.keys ⟨n, hn⟩ t h d)
  have hW : ∀ t h d, (res_main_while0b_v89 V : Vec Ideal S1x64x32x128 .f32) (ix4 0 t h d) = Cert.Scan.rowsOf (vOf A) n t (hd h d) :=
    fun t h d => (chunk_read hat _ t h d).trans (hV.values ⟨n, hn⟩ t h d)
  have hC := cums_apply (g := Cert.Scan.rowsOf (gOf A L) n) hat (hV.logs ⟨n, hn⟩)
  constructor
  · rw [STEP_main_v62_5]
    funext i
    show IntOp.addi ((V (Proc.devRef .tc main_v62_5) : IVec S_ 32) i) 1#32 = _
    rw [hV.counter]
    show BitVec.ofNat 32 n + BitVec.ofNat 32 1 = _
    rw [← BitVec.ofNat_add]
  · rw [STEP_main_v62_0]; exact hV.queries
  · rw [STEP_main_v62_1]; exact hV.keys
  · rw [STEP_main_v62_2]; exact hV.values
  · rw [STEP_main_v62_3]; exact hV.logs
  · rw [STEP_main_v62_4]; exact hV.mask
  · intro h d e
    rw [STEP_main_v62_6]
    exact state_apply hC hK hW hV.carried h d e
  · intro m t h e hm
    rw [STEP_main_v62_7, output_apply hC hQ hK hW hV.carried hV.mask (fun t j => (gOf_bounded hsm _ _).2) hat]
    split
    · next hmn => subst hmn; rfl
    · next hmn =>
      refine hV.written m t h e (Nat.lt_of_le_of_ne (Nat.le_of_lt_succ hm) fun h => hmn (Fin.ext h))

theorem ready_iterate (hsm : Small L) {V : Valuation τ sig (Elt Ideal)} (hV : Ready A L 0 V) (n : ℕ) (hn : n ≤ 256) : Ready A L n (STEP^[n] V) := by
  induction n with
  | zero => exact hV
  | succ n ih =>
    rw [Function.iterate_succ_apply']
    exact ready_step hsm hn (ih (Nat.le_of_lt hn))

theorem loop_apply (hsm : Small L) {U : Valuation τ sig (Elt Ideal)}
    (hA : ∀ r j, (U (Proc.devRef .tc main_arg0) : Vec Ideal S16384x20480 .f32) (ix2 r j) = A r j)
    (hL : ∀ i j, (U (Proc.devRef .tc main_arg1) : Vec Ideal S2x2x4096 .f32) (ix3 1 i j) = (L i j : EReal)) (r : Fin 16384) (h : Fin 32) (d : Fin 128) :
    (STEP^[256] (afterL preI U) (Proc.devRef .tc main_v62_7) : Vec Ideal S256x1x64x32x128 .f32) (ix5 ⟨r.val / 64, by omega⟩ 0 ⟨r.val % 64, by omega⟩ h d)
      = Cert.Scan.scan (revA A) L r (hd h d) := by
  refine ((ready_iterate hsm (ready_entry hsm hA hL) 256 (le_refl _)).written _ _ _ _ (by show r.val / 64 < 256; omega)).trans ?_
  have h1 : (⟨(hd h d).val / 128, by omega⟩ : Fin 32) = h := Fin.ext (by show (128 * h.val + d.val) / 128 = h.val; omega)
  have h2 : (⟨(hd h d).val % 128, by omega⟩ : Fin 128) = d := Fin.ext (by show (128 * h.val + d.val) % 128 = d.val; omega)
  rw [Cert.Scan.scan, h1, h2]

end Trips

end Cert.ScanBackReferenceIdeal.Scan

end
-- ==== Proof.BRRun.lean ====
/- The backward scan's reference after its loop: the output in token order added to the other direction's, each head over its root
   mean square, the gain and the gate; and the run: the result is `Cert.Scan.back` of the arguments, which end unchanged. -/
module

public import proofs.«01_k».proof.Proof.BRScan

@[expose] public section

set_option maxRecDepth 16384

noncomputable section

namespace Cert.ScanBackReferenceIdeal.Scan

open Cert.ScanBackReferenceIdeal Cert.ScanBackReferenceIdeal.Gen Cert.ScanBackReferenceIdeal.Value Idealize.ShloMosaic Idealize.ShloMosaic.TcCoe Cert.Scan
open Idealize.ShloMosaic.StableHlo
open Idealize.SL.Sem

/-! ## What is kept -/

section Keep
variable {F : FTy → Type} [FloatOps F]

abbrev post12_W : List (Ref sig .tc) := [main_v63, main_v64]
theorem post12_writes : (hostOps0_12 : List (HloOp τ sig (Elt F))).Forall fun op => op.writes ⊆ (post12_W.map (Proc.devRef (τ := τ) .tc)).toFinset :=
  StableHlo.forall_writes_sub_of_map rfl

abbrev post13_W : List (Ref sig .tc) := [main_v65]
theorem post13_writes : (hostOps0_13 : List (HloOp τ sig (Elt F))).Forall fun op => op.writes ⊆ (post13_W.map (Proc.devRef (τ := τ) .tc)).toFinset :=
  StableHlo.forall_writes_sub_of_map rfl

abbrev post14_W : List (Ref sig .tc) := [main_v66, main_v67, main_cst_9, main_v68, main_v69, main_cst_10, main_v70, main_v71, main_cst_11, main_v72, main_v73, main_v74, main_v75, main_v76, main_v77,
  main_v78, main_v79, main_v80, main_v81, main_v82]
theorem post14_writes : (hostOps0_14 : List (HloOp τ sig (Elt F))).Forall fun op => op.writes ⊆ (post14_W.map (Proc.devRef (τ := τ) .tc)).toFinset :=
  StableHlo.forall_writes_sub_of_map rfl

abbrev post15_W : List (Ref sig .tc) := [main_call15_v0, main_call15_v1, main_call15_cst, main_call15_v2, main_call15_v3, main_call15_cst_0, main_call15_v4, main_call15_v5, main_v83]
theorem post15_writes : (hostOps0_15 : List (HloOp τ sig (Elt F))).Forall fun op => op.writes ⊆ (post15_W.map (Proc.devRef (τ := τ) .tc)).toFinset :=
  StableHlo.forall_writes_sub_of_map rfl

abbrev post16_W : List (Ref sig .tc) := [main_v84, main_v85, main_v86]
theorem post16_writes : (hostOps0_16 : List (HloOp τ sig (Elt F))).Forall fun op => op.writes ⊆ (post16_W.map (Proc.devRef (τ := τ) .tc)).toFinset :=
  StableHlo.forall_writes_sub_of_map rfl

/-- The trips keep a buffer no operation of theirs writes. -/
theorem trips_keep (m : (ℓ : Loc nD τ sig) → Buf (Elt F) ℓ) (c : Dev nD) (r : Ref sig .tc) (hc : r ∉ condOps_W) (h0 : r ∉ while0Ops0_W) (h1 : r ∉ while0Ops0_1_W) (h2 : r ∉ while0Ops0_2_W) (h3 : r ∉ while0Ops0_3_W) (h4 : r ∉ while0Ops0_4_W) (h5 : r ∉ while0Ops0_5_W) (h6 : r ∉ while0Ops0_6_W) (h7 : r ∉ while0Ops0_7_W) (h8 : r ∉ while0Ops0_8_W) (h9 : r ∉ while0Ops0_9_W) (k : ℕ) :
    atK m k c (Proc.devRef .tc r) = entryContents preI m c (Proc.devRef .tc r) := by
  induction k with
  | zero => rfl
  | succ k ih =>
    rw [show atK m (k + 1) c = afterL bodyI (after condOps (atK m k c)) from rfl]
    simp only [afterL_cons, afterL_nil]
    exact (after_of_writes_sub while0Ops0_9 _ while0Ops0_9_writes h9).trans ((after_of_writes_sub while0Ops0_8 _ while0Ops0_8_writes h8).trans ((after_of_writes_sub while0Ops0_7 _ while0Ops0_7_writes h7).trans ((after_of_writes_sub while0Ops0_6 _ while0Ops0_6_writes h6).trans ((after_of_writes_sub while0Ops0_5 _ while0Ops0_5_writes h5).trans ((after_of_writes_sub while0Ops0_4 _ while0Ops0_4_writes h4).trans ((after_of_writes_sub while0Ops0_3 _ while0Ops0_3_writes h3).trans ((after_of_writes_sub while0Ops0_2 _ while0Ops0_2_writes h2).trans ((after_of_writes_sub while0Ops0_1 _ while0Ops0_1_writes h1).trans ((after_of_writes_sub while0Ops0 _ while0Ops0_writes h0).trans ((after_of_writes_sub condOps _ condOps_writes hc).trans (ih)))))))))))

theorem entry_keep (m : (ℓ : Loc nD τ sig) → Buf (Elt F) ℓ) (c : Dev nD) (r : Ref sig .tc) (e0 : r ∉ hostOps0_W) (e1 : r ∉ hostOps0_1_W) (e2 : r ∉ hostOps0_2_W) (e3 : r ∉ hostOps0_3_W) (e4 : r ∉ hostOps0_4_W) (e5 : r ∉ hostOps0_5_W) (e6 : r ∉ hostOps0_6_W) (e7 : r ∉ hostOps0_7_W) (e8 : r ∉ hostOps0_8_W) (e9 : r ∉ hostOps0_9_W) (e10 : r ∉ hostOps0_10_W) (e11 : r ∉ hostOps0_11_W) :
    entryContents preI m c (Proc.devRef .tc r) = m ((c.tc : Thread nD τ).loc r) := by
  rw [show entryContents preI m c = afterL preI (launchContents m c) from rfl]
  simp only [afterL_cons, afterL_nil]
  exact (after_of_writes_sub hostOps0_11 _ hostOps0_11_writes e11).trans ((after_of_writes_sub hostOps0_10 _ hostOps0_10_writes e10).trans ((after_of_writes_sub hostOps0_9 _ hostOps0_9_writes e9).trans ((after_of_writes_sub hostOps0_8 _ hostOps0_8_writes e8).trans ((after_of_writes_sub hostOps0_7 _ hostOps0_7_writes e7).trans ((after_of_writes_sub hostOps0_6 _ hostOps0_6_writes e6).trans ((after_of_writes_sub hostOps0_5 _ hostOps0_5_writes e5).trans ((after_of_writes_sub hostOps0_4 _ hostOps0_4_writes e4).trans ((after_of_writes_sub hostOps0_3 _ hostOps0_3_writes e3).trans ((after_of_writes_sub hostOps0_2 _ hostOps0_2_writes e2).trans ((after_of_writes_sub hostOps0_1 _ hostOps0_1_writes e1).trans (after_of_writes_sub hostOps0 _ hostOps0_writes e0)))))))))))

/-- The contents after the loop's last condition. -/
abbrev X0 (m : (ℓ : Loc nD τ sig) → Buf (Elt F) ℓ) (c : Dev nD) : Valuation τ sig (Elt F) := after condOps (atK m 256 c)

theorem loop_main_arg0 (m : (ℓ : Loc nD τ sig) → Buf (Elt F) ℓ) (c : Dev nD) : X0 m c (Proc.devRef .tc main_arg0) = m ((c.tc : Thread nD τ).loc main_arg0) :=
  (after_of_writes_sub condOps _ condOps_writes (by decide +kernel)).trans ((trips_keep m c main_arg0 (by decide +kernel) (by decide +kernel) (by decide +kernel) (by decide +kernel) (by decide +kernel) (by decide +kernel) (by decide +kernel) (by decide +kernel) (by decide +kernel) (by decide +kernel) (by decide +kernel) 256).trans
    (entry_keep m c main_arg0 (by decide +kernel) (by decide +kernel) (by decide +kernel) (by decide +kernel) (by decide +kernel) (by decide +kernel) (by decide +kernel) (by decide +kernel) (by decide +kernel) (by decide +kernel) (by decide +kernel) (by decide +kernel)))

theorem loop_main_arg1 (m : (ℓ : Loc nD τ sig) → Buf (Elt F) ℓ) (c : Dev nD) : X0 m c (Proc.devRef .tc main_arg1) = m ((c.tc : Thread nD τ).loc main_arg1) :=
  (after_of_writes_sub condOps _ condOps_writes (by decide +kernel)).trans ((trips_keep m c main_arg1 (by decide +kernel) (by decide +kernel) (by decide +kernel) (by decide +kernel) (by decide +kernel) (by decide +kernel) (by decide +kernel) (by decide +kernel) (by decide +kernel) (by decide +kernel) (by decide +kernel) 256).trans
    (entry_keep m c main_arg1 (by decide +kernel) (by decide +kernel) (by decide +kernel) (by decide +kernel) (by decide +kernel) (by decide +kernel) (by decide +kernel) (by decide +kernel) (by decide +kernel) (by decide +kernel) (by decide +kernel) (by decide +kernel)))

theorem loop_main_arg2 (m : (ℓ : Loc nD τ sig) → Buf (Elt F) ℓ) (c : Dev nD) : X0 m c (Proc.devRef .tc main_arg2) = m ((c.tc : Thread nD τ).loc main_arg2) :=
  (after_of_writes_sub condOps _ condOps_writes (by decide +kernel)).trans ((trips_keep m c main_arg2 (by decide +kernel) (by decide +kernel) (by decide +kernel) (by decide +kernel) (by decide +kernel) (by decide +kernel) (by decide +kernel) (by decide +kernel) (by decide +kernel) (by decide +kernel) (by decide +kernel) 256).trans
    (entry_keep m c main_arg2 (by decide +kernel) (by decide +kernel) (by decide +kernel) (by decide +kernel) (by decide +kernel) (by decide +kernel) (by decide +kernel) (by decide +kernel) (by decide +kernel) (by decide +kernel) (by decide +kernel) (by decide +kernel)))

theorem loop_main_arg3 (m : (ℓ : Loc nD τ sig) → Buf (Elt F) ℓ) (c : Dev nD) : X0 m c (Proc.devRef .tc main_arg3) = m ((c.tc : Thread nD τ).loc main_arg3) :=
  (after_of_writes_sub condOps _ condOps_writes (by decide +kernel)).trans ((trips_keep m c main_arg3 (by decide +kernel) (by decide +kernel) (by decide +kernel) (by decide +kernel) (by decide +kernel) (by decide +kernel) (by decide +kernel) (by decide +kernel) (by decide +kernel) (by decide +kernel) (by decide +kernel) 256).trans
    (entry_keep m c main_arg3 (by decide +kernel) (by decide +kernel) (by decide +kernel) (by decide +kernel) (by decide +kernel) (by decide +kernel) (by decide +kernel) (by decide +kernel) (by decide +kernel) (by decide +kernel) (by decide +kernel) (by decide +kernel)))

theorem loop_main_v44 (m : (ℓ : Loc nD τ sig) → Buf (Elt F) ℓ) (c : Dev nD) : X0 m c (Proc.devRef .tc main_v44) = entryContents preI m c (Proc.devRef .tc main_v44) :=
  (after_of_writes_sub condOps _ condOps_writes (by decide +kernel)).trans (trips_keep m c main_v44 (by decide +kernel) (by decide +kernel) (by decide +kernel) (by decide +kernel) (by decide +kernel) (by decide +kernel) (by decide +kernel) (by decide +kernel) (by decide +kernel) (by decide +kernel) (by decide +kernel) 256)

theorem loop_main_v20 (m : (ℓ : Loc nD τ sig) → Buf (Elt F) ℓ) (c : Dev nD) : X0 m c (Proc.devRef .tc main_v20) = entryContents preI m c (Proc.devRef .tc main_v20) :=
  (after_of_writes_sub condOps _ condOps_writes (by decide +kernel)).trans (trips_keep m c main_v20 (by decide +kernel) (by decide +kernel) (by decide +kernel) (by decide +kernel) (by decide +kernel) (by decide +kernel) (by decide +kernel) (by decide +kernel) (by decide +kernel) (by decide +kernel) (by decide +kernel) 256)

theorem final_main_arg0 (m : (ℓ : Loc nD τ sig) → Buf (Elt F) ℓ) (c : Dev nD) :
    finalContents condOps preI bodyI postI 256 m c (Proc.devRef .tc main_arg0) = m ((c.tc : Thread nD τ).loc main_arg0) := by
  rw [show finalContents condOps preI bodyI postI 256 m c = afterL postI (X0 m c) from rfl]
  simp only [afterL_cons, afterL_nil]
  exact ((after_of_writes_sub hostOps0_16 _ post16_writes (by decide +kernel)).trans ((after_of_writes_sub hostOps0_15 _ post15_writes (by decide +kernel)).trans ((after_of_writes_sub hostOps0_14 _ post14_writes (by decide +kernel)).trans ((after_of_writes_sub hostOps0_13 _ post13_writes (by decide +kernel)).trans (after_of_writes_sub hostOps0_12 _ post12_writes (by decide +kernel)))))).trans (loop_main_arg0 m c)

theorem final_main_arg1 (m : (ℓ : Loc nD τ sig) → Buf (Elt F) ℓ) (c : Dev nD) :
    finalContents condOps preI bodyI postI 256 m c (Proc.devRef .tc main_arg1) = m ((c.tc : Thread nD τ).loc main_arg1) := by
  rw [show finalContents condOps preI bodyI postI 256 m c = afterL postI (X0 m c) from rfl]
  simp only [afterL_cons, afterL_nil]
  exact ((after_of_writes_sub hostOps0_16 _ post16_writes (by decide +kernel)).trans ((after_of_writes_sub hostOps0_15 _ post15_writes (by decide +kernel)).trans ((after_of_writes_sub hostOps0_14 _ post14_writes (by decide +kernel)).trans ((after_of_writes_sub hostOps0_13 _ post13_writes (by decide +kernel)).trans (after_of_writes_sub hostOps0_12 _ post12_writes (by decide +kernel)))))).trans (loop_main_arg1 m c)

theorem final_main_arg2 (m : (ℓ : Loc nD τ sig) → Buf (Elt F) ℓ) (c : Dev nD) :
    finalContents condOps preI bodyI postI 256 m c (Proc.devRef .tc main_arg2) = m ((c.tc : Thread nD τ).loc main_arg2) := by
  rw [show finalContents condOps preI bodyI postI 256 m c = afterL postI (X0 m c) from rfl]
  simp only [afterL_cons, afterL_nil]
  exact ((after_of_writes_sub hostOps0_16 _ post16_writes (by decide +kernel)).trans ((after_of_writes_sub hostOps0_15 _ post15_writes (by decide +kernel)).trans ((after_of_writes_sub hostOps0_14 _ post14_writes (by decide +kernel)).trans ((after_of_writes_sub hostOps0_13 _ post13_writes (by decide +kernel)).trans (after_of_writes_sub hostOps0_12 _ post12_writes (by decide +kernel)))))).trans (loop_main_arg2 m c)

theorem final_main_arg3 (m : (ℓ : Loc nD τ sig) → Buf (Elt F) ℓ) (c : Dev nD) :
    finalContents condOps preI bodyI postI 256 m c (Proc.devRef .tc main_arg3) = m ((c.tc : Thread nD τ).loc main_arg3) := by
  rw [show finalContents condOps preI bodyI postI 256 m c = afterL postI (X0 m c) from rfl]
  simp only [afterL_cons, afterL_nil]
  exact ((after_of_writes_sub hostOps0_16 _ post16_writes (by decide +kernel)).trans ((after_of_writes_sub hostOps0_15 _ post15_writes (by decide +kernel)).trans ((after_of_writes_sub hostOps0_14 _ post14_writes (by decide +kernel)).trans ((after_of_writes_sub hostOps0_13 _ post13_writes (by decide +kernel)).trans (after_of_writes_sub hostOps0_12 _ post12_writes (by decide +kernel)))))).trans (loop_main_arg3 m c)

end Keep

/-! ## The stretches after the loop -/

section Post
variable (U : Valuation τ sig (Elt Ideal))

theorem rows_apply (r : Fin 16384) (h : Fin 32) (d : Fin 128) :
    (after hostOps0_12 U (Proc.devRef .tc main_v64) : Vec Ideal S1x16384x32x128 .f32) (ix4 0 r h d)
      = (U (Proc.devRef .tc main_v62_7) : Vec Ideal S256x1x64x32x128 .f32) (ix5 ⟨r.val / 64, by omega⟩ 0 ⟨r.val % 64, by omega⟩ h d) := by
  after_reads_at
  all_goals rfl

theorem flip13_apply (r : Fin 16384) (h : Fin 32) (d : Fin 128) :
    (after hostOps0_13 U (Proc.devRef .tc main_v65) : Vec Ideal S1x16384x32x128 .f32) (ix4 0 r h d)
      = (U (Proc.devRef .tc main_v64) : Vec Ideal S1x16384x32x128 .f32) (ix4 0 r.rev h d) := by
  after_reads_at
  all_goals rfl

theorem norm_apply {a b : Fin 16384 → Fin 4096 → EReal} {w : Fin 4096 → EReal}
    (ha : ∀ r h d, (U (Proc.devRef .tc main_v44) : Vec Ideal S1x16384x32x128 .f32) (ix4 0 r h d) = a r (hd h d))
    (hb : ∀ r h d, (U (Proc.devRef .tc main_v65) : Vec Ideal S1x16384x32x128 .f32) (ix4 0 r h d) = b r (hd h d))
    (hw : ∀ j, (U (Proc.devRef .tc main_arg3) : Vec Ideal S1x4096 .f32) (ix2 0 j) = w j) (r : Fin 16384) (j : Fin 4096) :
    (after hostOps0_14 U (Proc.devRef .tc main_v82) : Vec Ideal S1x16384x4096 .f32) (ix3 0 r j)
      = (a r j + b r j) * Ideal.rsqrt (Ideal.div (∑ d : Fin 128, (a r (hd ⟨j.val / 128, by omega⟩ d) + b r (hd ⟨j.val / 128, by omega⟩ d))
          * (a r (hd ⟨j.val / 128, by omega⟩ d) + b r (hd ⟨j.val / 128, by omega⟩ d))) (Ideal.ofBits .f32 0x43000000#32)
        + Ideal.ofBits .f32 0x358637BD#32) * w j := by
  have hj : j = hd ⟨j.val / 128, by omega⟩ ⟨j.val % 128, by omega⟩ := Fin.ext (by show j.val = 128 * (j.val / 128) + j.val % 128; omega)
  have haj := (congrArg (a r) hj).trans (ha r _ _).symm
  have hbj := (congrArg (b r) hj).trans (hb r _ _).symm
  rw [haj, hbj, ← hw]
  simp only [← ha, ← hb]
  after_reads_at
  exact congrArg₂ (fun x y : EReal => x * y) rfl (congrArg (fun k : Fin 4096 => (U (Proc.devRef .tc main_arg3) : Vec Ideal S1x4096 .f32) (ix2 0 k))
    (Fin.ext (by show j.val / 128 * 128 + j.val % 128 = j.val; omega)))

theorem silu15_apply {x : Fin 16384 → Fin 4096 → EReal}
    (hx : ∀ r j, (U (Proc.devRef .tc main_v20) : Vec Ideal S1x16384x4096 .f32) (ix3 0 r j) = x r j) (r : Fin 16384) (j : Fin 4096) :
    (after hostOps0_15 U (Proc.devRef .tc main_v83) : Vec Ideal S1x16384x4096 .f32) (ix3 0 r j) = x r j * ((logis (x r j) : ℝ) : EReal) := by
  rw [← div_one_exp_neg, ← hx]
  after_reads_at
  all_goals rfl

theorem gated_apply {x y : Fin 16384 → Fin 4096 → EReal}
    (hx : ∀ r j, (U (Proc.devRef .tc main_v82) : Vec Ideal S1x16384x4096 .f32) (ix3 0 r j) = x r j)
    (hy : ∀ r j, (U (Proc.devRef .tc main_v83) : Vec Ideal S1x16384x4096 .f32) (ix3 0 r j) = y r j) (r : Fin 16384) (j : Fin 4096) :
    (after hostOps0_16 U (Proc.devRef .tc main_v86) : Vec Ideal S16384x4096 .bf16) (ix2 r j) = x r j * y r j := by
  rw [← hx, ← hy]
  after_reads_at
  all_goals rfl

end Post

/-- The reference's result. -/
theorem reference_apply (m : (ℓ : Loc nD τ sig) → Buf (Elt Ideal) ℓ) (c : Dev nD) {A : Fin 16384 → Fin 20480 → EReal} {L : Fin 2 → Fin 4096 → ℝ}
    {O : Fin 16384 → Fin 4096 → EReal} {w : Fin 4096 → EReal} (hsm : Small L)
    (hA : ∀ r j, (m ((c.tc : Thread nD τ).loc main_arg0) : Vec Ideal S16384x20480 .f32) (ix2 r j) = A r j)
    (hL : ∀ i j, (m ((c.tc : Thread nD τ).loc main_arg1) : Vec Ideal S2x2x4096 .f32) (ix3 1 i j) = (L i j : EReal))
    (hO : ∀ r j, (m ((c.tc : Thread nD τ).loc main_arg2) : Vec Ideal S16384x4096 .f32) (ix2 r j) = O r j)
    (hw : ∀ j, (m ((c.tc : Thread nD τ).loc main_arg3) : Vec Ideal S1x4096 .f32) (ix2 0 j) = w j) (r : Fin 16384) (j : Fin 4096) :
    (finalContents condOps preI bodyI postI 256 m c (Proc.devRef .tc main_v86) : Vec Ideal S16384x4096 .bf16) (ix2 r j) = back A L O w r j := by
  rw [show finalContents condOps preI bodyI postI 256 m c = afterL postI (X0 m c) from rfl]
  simp only [afterL_cons, afterL_nil]
  have hloop : ∀ r h d, (X0 m c (Proc.devRef .tc main_v62_7) : Vec Ideal S256x1x64x32x128 .f32) (ix5 ⟨r.val / 64, by omega⟩ 0 ⟨r.val % 64, by omega⟩ h d)
      = Cert.Scan.scan (revA A) L r (hd h d) := fun r h d =>
    (congrFun ((cond_keeps _ main_v62_7 (by decide)).trans (atK_agree m c 256 main_v62_7 (by decide))) _).trans
      (loop_apply hsm (U := launchContents m c) hA hL r h d)
  refine gated_apply _ (x := fun r j => both A L O r j * Ideal.rsqrt (Ideal.div (∑ d : Fin 128, both A L O r (hd ⟨j.val / 128, by omega⟩ d)
      * both A L O r (hd ⟨j.val / 128, by omega⟩ d)) (Ideal.ofBits .f32 0x43000000#32) + Ideal.ofBits .f32 0x358637BD#32) * w j)
    (y := fun r j => A r ⟨16384 + j.val, by omega⟩ * ((logis (A r ⟨16384 + j.val, by omega⟩) : ℝ) : EReal)) (fun r j => ?_) (fun r j => ?_) r j
  · rw [show after hostOps0_15 (after hostOps0_14 (after hostOps0_13 (after hostOps0_12 (X0 m c)))) (Proc.devRef .tc main_v82)
        = after hostOps0_14 (after hostOps0_13 (after hostOps0_12 (X0 m c))) (Proc.devRef .tc main_v82) from
        after_of_writes_sub hostOps0_15 _ post15_writes (by decide +kernel)]
    refine norm_apply (after hostOps0_13 (after hostOps0_12 (X0 m c))) (a := O) (b := fun r j => Cert.Scan.scan (revA A) L r.rev j) (w := w)
      (fun r h d => ?_) (fun r h d => ?_) (fun j => ?_) r j
    · rw [show after hostOps0_13 (after hostOps0_12 (X0 m c)) (Proc.devRef .tc main_v44) = X0 m c (Proc.devRef .tc main_v44) from
          (after_of_writes_sub hostOps0_13 _ post13_writes (by decide +kernel)).trans (after_of_writes_sub hostOps0_12 _ post12_writes (by decide +kernel)), loop_main_v44]
      exact other_entry (U := launchContents m c) hO r h d
    · exact (flip13_apply _ r h d).trans ((rows_apply _ r.rev h d).trans (hloop r.rev h d))
    · rw [show after hostOps0_13 (after hostOps0_12 (X0 m c)) (Proc.devRef .tc main_arg3) = X0 m c (Proc.devRef .tc main_arg3) from
          (after_of_writes_sub hostOps0_13 _ post13_writes (by decide +kernel)).trans (after_of_writes_sub hostOps0_12 _ post12_writes (by decide +kernel)), loop_main_arg3]
      exact hw j
  · refine silu15_apply (after hostOps0_14 (after hostOps0_13 (after hostOps0_12 (X0 m c)))) (x := fun r j => A r ⟨16384 + j.val, by omega⟩) (fun r j => ?_) r j
    rw [show after hostOps0_14 (after hostOps0_13 (after hostOps0_12 (X0 m c))) (Proc.devRef .tc main_v20) = X0 m c (Proc.devRef .tc main_v20) from
        (after_of_writes_sub hostOps0_14 _ post14_writes (by decide +kernel)).trans ((after_of_writes_sub hostOps0_13 _ post13_writes (by decide +kernel)).trans (after_of_writes_sub hostOps0_12 _ post12_writes (by decide +kernel))), loop_main_v20]
    exact outgate_entry (U := launchContents m c) hA r j

/-- The reference's run: the result's buffer at its fold, the arguments unchanged. -/
theorem run {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v86) = finalContents condOps preI bodyI postI 256 m c (Proc.devRef .tc main_v86)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨h c main_v86 rfl, (h c main_arg0 rfl).trans (final_main_arg0 m c), (h c main_arg1 rfl).trans (final_main_arg1 m c),
    (h c main_arg2 rfl).trans (final_main_arg2 m c), (h c main_arg3 rfl).trans (final_main_arg3 m c)⟩) (run_fold m ρ)

end Cert.ScanBackReferenceIdeal.Scan

end
-- ==== Proof.BPre.lean ====
/- The backward scan's precondition, read: the logits are real numbers within 2.375 of zero. -/
module

public import proofs.«01_k».proof.Proof.Spec
public import proofs.«01_k».proof.Proof.Gen.Pre_bounded_back
public import Idealize.ShloMosaic.Lib.ReduceAll
public import Idealize.ShloMosaic.Lib.Pointwise

@[expose] public section

noncomputable section

namespace Cert.Pre_bounded_back.Read

open Cert.Pre_bounded_back Cert.Pre_bounded_back.Gen Idealize.ShloMosaic

theorem bits_bound : Ideal.ofBits .f32 0x40180000#32 = ((2.375 : ℝ) : EReal) := by
  simp [Ideal.ofBits, Ideal.ieee]
  rw [← EReal.coe_mul]
  norm_num

instance : Subsingleton S_.Idx := ⟨fun a b => funext fun i => i.elim0⟩

/-- Every logit is at most 2.375 in absolute value. -/
theorem abs_le (x0 : FVec Ideal S16384x20480 .f32) (x : FVec Ideal S2x2x4096 .f32) (x2 : FVec Ideal S16384x4096 .f32)
    (x3 : FVec Ideal S1x4096 .f32) (h : fn x0 x x2 x3 = fun _ => 1#1) (i s : Fin 2) (j : Fin 4096) :
    max (x (ix3 i s j)) (-(x (ix3 i s j))) ≤ ((2.375 : ℝ) : EReal) := by
  have h1 := Host.reduce_andi_all _ _ _ _ _ (congrFun h (Shape.Idx.first h_S_)) (ix3 i s j)
  rw [← bits_bound]
  have h2 : BitVec.ofBool (decide (max (x (ix3 i s j)) (-(x (ix3 i s j))) ≤ Ideal.ofBits .f32 0x40180000#32)) = 1#1 := h1
  cases hd : decide (max (x (ix3 i s j)) (-(x (ix3 i s j))) ≤ Ideal.ofBits .f32 0x40180000#32) with
  | false => rw [hd] at h2; exact absurd h2 (by decide)
  | true => exact of_decide_eq_true hd

/-- The logits of direction `1`, as real numbers. -/
def logits (x : FVec Ideal S2x2x4096 .f32) (s : Fin 2) (j : Fin 4096) : ℝ := (x (ix3 1 s j) : EReal).toReal

theorem logits_coe (x0 : FVec Ideal S16384x20480 .f32) (x : FVec Ideal S2x2x4096 .f32) (x2 : FVec Ideal S16384x4096 .f32)
    (x3 : FVec Ideal S1x4096 .f32) (h : fn x0 x x2 x3 = fun _ => 1#1) (s : Fin 2) (j : Fin 4096) :
    (x (ix3 1 s j) : EReal) = (logits x s j : EReal) := by
  have h1 := max_le_iff.1 (abs_le x0 x x2 x3 h 1 s j)
  refine (EReal.coe_toReal (fun e => ?_) (fun e => ?_)).symm
  · rw [e] at h1; exact absurd h1.1 (by simp)
  · rw [e] at h1; exact absurd h1.2 (by simp)

theorem logits_small (x0 : FVec Ideal S16384x20480 .f32) (x : FVec Ideal S2x2x4096 .f32) (x2 : FVec Ideal S16384x4096 .f32)
    (x3 : FVec Ideal S1x4096 .f32) (h : fn x0 x x2 x3 = fun _ => 1#1) : Cert.Scan.Small (logits x) := by
  intro s j
  have h1 := max_le_iff.1 (abs_le x0 x x2 x3 h 1 s j)
  rw [logits_coe x0 x x2 x3 h, ← EReal.coe_neg, EReal.coe_le_coe_iff, EReal.coe_le_coe_iff] at h1
  exact abs_le'.2 h1

end Cert.Pre_bounded_back.Read

end
-- ==== Proof.GateUp.lean ====
/- The gated activations over the extended reals: each block of the output is `silu g * u` of the two products of a block of rows
   with a block of columns, so the output array is that of the argument arrays (the second layer's weights), as the reference has it. -/
module

public import proofs.«01_k».proof.Proof.Gen.GateUpIdeal.Value
public import proofs.«01_k».proof.Proof.Gen.GateUpReferenceIdeal.Run
public import proofs.«01_k».proof.Proof.Spec
public import Idealize.ShloMosaic.Lib.Pointwise
public import Idealize.ShloMosaic.Lib.ValueIdx
public import Idealize.ShloMosaic.Lib.IdealHost

@[expose] public section

set_option maxRecDepth 16384

noncomputable section

namespace Cert.GateUpIdeal.Gated

open Cert.GateUpIdeal Cert.GateUpIdeal.Gen Idealize.ShloMosaic Idealize.ShloMosaic.TcCoe Cert.Scan
open Idealize.SL.Sem

/-- One entry of a product with a layer's weights. -/
def entry (X : Vec Ideal S24576x4096 .bf16) (W : Vec Ideal S2x4096x11008 .f32) (r : Fin 24576) (j : Fin 11008) : EReal :=
  ∑ k : Fin 4096, X (ix2 r k) * W (ix3 1 k j)

/-- The activations, of the arrays. -/
def gated (X : Vec Ideal S24576x4096 .bf16) (A B : Vec Ideal S2x4096x11008 .f32) : Vec Ideal S24576x11008 .bf16 := fun y =>
  entry X A (y 0) (y 1) * ((logis (entry X A (y 0) (y 1)) : ℝ) : EReal) * entry X B (y 0) (y 1)

theorem bits_half : Ideal.ofBits .f32 0x3F000000#32 = ((1 / 2 : ℝ) : EReal) := by
  simp [Ideal.ofBits, Ideal.ieee, -EReal.coe_mul]; norm_num

theorem pay_apply (v0 v3 : Vec Ideal S1x4096x256 .f32) (v6 : Vec Ideal S3072x4096 .bf16) (r : Fin 3072) (j : Fin 256) :
    k0_pay1 v0 v3 v6 (ix2 r j) = (∑ k : Fin 4096, v6 (ix2 r k) * v0 (ix3 0 k j))
      * ((logis (∑ k : Fin 4096, v6 (ix2 r k) * v0 (ix3 0 k j)) : ℝ) : EReal) * ∑ k : Fin 4096, v6 (ix2 r k) * v3 (ix3 0 k j) := by
  rw [← half_tanh_half]
  pointwise [k0_pay1]
  rw [bits_half]

theorem index : ∀ t : Fin cfg0.N, (win0_0.index t (0 : Fin 2) = t.val / 43 ∧ win0_0.index t (1 : Fin 2) = 0)
    ∧ (win0_1.index t (0 : Fin 3) = 1 ∧ win0_1.index t (1 : Fin 3) = 0 ∧ win0_1.index t (2 : Fin 3) = t.val % 43)
    ∧ (win0_2.index t (0 : Fin 3) = 1 ∧ win0_2.index t (1 : Fin 3) = 0 ∧ win0_2.index t (2 : Fin 3) = t.val % 43)
    ∧ (win0_3.index t (0 : Fin 2) = t.val / 43 ∧ win0_3.index t (1 : Fin 2) = t.val % 43) :=
  (by decide +kernel : ∀ t : Fin grid0.N, (win0_0.index t (0 : Fin 2) = t.val / 43 ∧ win0_0.index t (1 : Fin 2) = 0)
    ∧ (win0_1.index t (0 : Fin 3) = 1 ∧ win0_1.index t (1 : Fin 3) = 0 ∧ win0_1.index t (2 : Fin 3) = t.val % 43)
    ∧ (win0_2.index t (0 : Fin 3) = 1 ∧ win0_2.index t (1 : Fin 3) = 0 ∧ win0_2.index t (2 : Fin 3) = t.val % 43)
    ∧ (win0_3.index t (0 : Fin 2) = t.val / 43 ∧ win0_3.index t (1 : Fin 2) = t.val % 43))

variable (m : (ℓ : Loc nD τ sig) → Buf (Elt Ideal) ℓ)

/-- The arguments. -/
abbrev X (c : Dev nD) : Vec Ideal S24576x4096 .bf16 := m ((c.tc : Thread nD τ).loc main_arg0)
abbrev A (c : Dev nD) : Vec Ideal S2x4096x11008 .f32 := m ((c.tc : Thread nD τ).loc main_arg1)
abbrev B (c : Dev nD) : Vec Ideal S2x4096x11008 .f32 := m ((c.tc : Thread nD τ).loc main_arg2)

theorem lt_N (t : Fin cfg0.N) : t.val < 344 := lt_of_lt_of_eq t.isLt (show cfg0.N = 344 from N_0)

theorem blk0_apply (c : Dev nD) (t : Fin cfg0.N) (r : Fin 3072) (k : Fin 4096) :
    (iblk m c 0 t : Vec Ideal S3072x4096 .bf16) (ix2 r k) = X m c (ix2 ⟨t.val / 43 * 3072 + r.val, by have := lt_N t; omega⟩ k) := by
  obtain ⟨e0, e1⟩ := (index t).1
  refine congrArg (X m c) ?_
  funext a; apply Fin.ext
  match a with
  | ⟨0, _⟩ => show win0_0.index t (0 : Fin 2) * 3072 + 1 * r.val = t.val / 43 * 3072 + r.val; rw [e0]; omega
  | ⟨1, _⟩ => show win0_0.index t (1 : Fin 2) * 4096 + 1 * k.val = k.val; rw [e1]; omega

theorem blk1_apply (c : Dev nD) (t : Fin cfg0.N) (k : Fin 4096) (j : Fin 256) :
    (iblk m c 1 t : Vec Ideal S1x4096x256 .f32) (ix3 0 k j) = A m c (ix3 1 k ⟨t.val % 43 * 256 + j.val, by omega⟩) := by
  obtain ⟨e0, e1, e2⟩ := (index t).2.1
  refine congrArg (A m c) ?_
  funext a; apply Fin.ext
  match a with
  | ⟨0, _⟩ => show win0_1.index t (0 : Fin 3) * 1 + 1 * 0 = 1; rw [e0]
  | ⟨1, _⟩ => show win0_1.index t (1 : Fin 3) * 4096 + 1 * k.val = k.val; rw [e1]; omega
  | ⟨2, _⟩ => show win0_1.index t (2 : Fin 3) * 256 + 1 * j.val = t.val % 43 * 256 + j.val; rw [e2]; omega

theorem blk2_apply (c : Dev nD) (t : Fin cfg0.N) (k : Fin 4096) (j : Fin 256) :
    (iblk m c 2 t : Vec Ideal S1x4096x256 .f32) (ix3 0 k j) = B m c (ix3 1 k ⟨t.val % 43 * 256 + j.val, by omega⟩) := by
  obtain ⟨e0, e1, e2⟩ := (index t).2.2.1
  refine congrArg (B m c) ?_
  funext a; apply Fin.ext
  match a with
  | ⟨0, _⟩ => show win0_2.index t (0 : Fin 3) * 1 + 1 * 0 = 1; rw [e0]
  | ⟨1, _⟩ => show win0_2.index t (1 : Fin 3) * 4096 + 1 * k.val = k.val; rw [e1]; omega
  | ⟨2, _⟩ => show win0_2.index t (2 : Fin 3) * 256 + 1 * j.val = t.val % 43 * 256 + j.val; rw [e2]; omega

theorem out_apply (c : Dev nD) (t : Fin cfg0.N) (r : Fin 3072) (j : Fin 256) :
    out0_3 (iblk m c 0 t) (iblk m c 1 t) (iblk m c 2 t) (ix2 r j)
      = gated (X m c) (A m c) (B m c)
          (ix2 ⟨t.val / 43 * 3072 + r.val, by have := lt_N t; omega⟩ ⟨t.val % 43 * 256 + j.val, by omega⟩) := by
  unfold out0_3
  rw [View.canon_unit_zero (by funext a; fin_cases a <;> rfl), View.ld_unit_zero (by funext a; fin_cases a <;> rfl),
    View.ld_unit_zero (by funext a; fin_cases a <;> rfl), View.ld_unit_zero (by funext a; fin_cases a <;> rfl), pay_apply]
  simp only [blk0_apply, blk1_apply, blk2_apply]
  rfl

theorem out_array (c : Dev nD) : (dats m 0 c).arrAt 3 cfg0.N = gated (X m c) (A m c) (B m c) := by
  refine (dats m 0 c).arrAt_eq_of_cover 3 (gated (X m c) (A m c) (B m c)) (fun t _ => ?_) (fun y => ?_)
  · rw [Value.flushed3]
    obtain ⟨e0, e1⟩ := (index t).2.2.2
    funext y
    show out0_3 (iblk m c 0 t) (iblk m c 1 t) (iblk m c 2 t) ((cfg0.win 3).xinj (grid0.coords t) y)
      = gated (X m c) (A m c) (B m c) (((cfg0.win 3).blk t).view.emb y)
    have hy : (cfg0.win 3).xinj (grid0.coords t) y = (ix2 (y 0) (y 1) : S3072x256.Idx) := by
      funext a; match a with
      | ⟨0, _⟩ => rfl
      | ⟨1, _⟩ => rfl
    refine (congrArg (out0_3 (iblk m c 0 t) (iblk m c 1 t) (iblk m c 2 t)) hy).trans ((out_apply m c t (y 0) (y 1)).trans ?_)
    refine congrArg (gated (X m c) (A m c) (B m c)) ?_
    funext a; apply Fin.ext
    match a with
    | ⟨0, _⟩ => show t.val / 43 * 3072 + (y 0).val = win0_3.index t (0 : Fin 2) * 3072 + 1 * (y 0).val; rw [e0]; omega
    | ⟨1, _⟩ => show t.val % 43 * 256 + (y 1).val = win0_3.index t (1 : Fin 2) * 256 + 1 * (y 1).val; rw [e1]; omega
  · have h0 : (y 0).val < 24576 := (y 0).isLt
    have h1 : (y 1).val < 11008 := (y 1).isLt
    have ht : (y 0).val / 3072 * 43 + (y 1).val / 256 < cfg0.N := by rw [show cfg0.N = 344 from N_0]; omega
    obtain ⟨e0, e1⟩ := (index ⟨_, ht⟩).2.2.2
    generalize hpt : (⟨_, ht⟩ : Fin cfg0.N) = t at e0 e1
    have hv : t.val = (y 0).val / 3072 * 43 + (y 1).val / 256 := by rw [← hpt]
    refine ⟨t, flush0_3 t, ?_⟩
    show y ∈ ((View.whole main_v0).slice (win0_3.rect t)).set
    rw [View.set_slice_whole, Rect.mem_set_unit]
    intro a
    match a with
    | ⟨0, _⟩ =>
      show win0_3.index t (0 : Fin 2) * 3072 ≤ (y 0).val ∧ (y 0).val < win0_3.index t (0 : Fin 2) * 3072 + 3072
      rw [e0, hv]; omega
    | ⟨1, _⟩ =>
      show win0_3.index t (1 : Fin 2) * 256 ≤ (y 1).val ∧ (y 1).val < win0_3.index t (1 : Fin 2) * 256 + 256
      rw [e1, hv]; omega

end Cert.GateUpIdeal.Gated

namespace Cert.GateUpReferenceIdeal.Gated

open Cert.GateUpReferenceIdeal Cert.GateUpReferenceIdeal.Gen Idealize.ShloMosaic Cert.Scan

/-- A product with a layer's weights, as the reference has it. -/
abbrev hostProd (X : FVec Ideal S24576x4096 .bf16) (W : FVec Ideal S2x4096x11008 .f32) : FVec Ideal S24576x11008 .f32 :=
  Host.dotGeneral (F := Ideal) dot_S24576x4096_S4096x11008_S24576x11008_1_0_0_1_n_n none (extf .f32 X bitsLt_bf16_f32)
    (shapeCast S4096x11008 (extractStridedSlice S1x4096x11008 ![1, 0, 0] W slices_S2x4096x11008_S1x4096x11008_1_0_0)
      shapeCasts_S1x4096x11008_S4096x11008)

theorem hostProd_apply (X : FVec Ideal S24576x4096 .bf16) (W : FVec Ideal S2x4096x11008 .f32) (r : Fin 24576) (j : Fin 11008) :
    hostProd X W (ix2 r j) = Cert.GateUpIdeal.Gated.entry X W r j := by
  pointwise [hostProd, Cert.GateUpIdeal.Gated.entry]

/-- The reference's activations are the same ones. -/
theorem value_eq (X : FVec Ideal S24576x4096 .bf16) (A B : FVec Ideal S2x4096x11008 .f32) :
    truncf (F := Ideal) .bf16 (mulf (mulf (hostProd X A) (Host.divf (broadcastInDim S24576x11008 ![] bcast_S_S24576x11008 (constant S_ .f32 0x3F800000#32))
      (addf (broadcastInDim S24576x11008 ![] bcast_S_S24576x11008 (constant S_ .f32 0x3F800000#32)) (Host.exp (Host.negf (hostProd X A))))))
      (hostProd X B)) bitsLt_bf16_f32 = Cert.GateUpIdeal.Gated.gated X A B := by
  funext y
  obtain ⟨r, j, rfl⟩ : ∃ (r : Fin 24576) (j : Fin 11008), y = (ix2 r j : S24576x11008.Idx) :=
    ⟨y 0, y 1, by funext a; match a with | ⟨0, _⟩ => rfl | ⟨1, _⟩ => rfl⟩
  show _ = Cert.GateUpIdeal.Gated.entry X A r j * ((logis (Cert.GateUpIdeal.Gated.entry X A r j) : ℝ) : EReal)
    * Cert.GateUpIdeal.Gated.entry X B r j
  rw [← div_one_exp_neg, ← hostProd_apply, ← hostProd_apply]
  generalize hostProd X A = P
  generalize hostProd X B = Q
  pointwise []

end Cert.GateUpReferenceIdeal.Gated

end
-- ==== Proof.Down.lean ====
/- The FFN's down projection with its residual, over the extended reals: the first point of a column block casts the block's weights
   into the scratch, later points of the block find it there; each block of the output is the residual's block plus a product of a block
   of rows and a block of columns. -/
module

public import proofs.«01_k».proof.Proof.Gen.DownIdeal.Value
public import proofs.«01_k».proof.Proof.Gen.DownReferenceIdeal.Run
public import Idealize.ShloMosaic.Lib.Pointwise
public import Idealize.ShloMosaic.Lib.ValueIdx
public import Idealize.ShloMosaic.Lib.Pipeline.ValueKit

@[expose] public section

set_option maxRecDepth 16384

noncomputable section

namespace Cert.DownIdeal.Resid

open Cert.DownIdeal Cert.DownIdeal.Gen Idealize.ShloMosaic Idealize.ShloMosaic.TcCoe
open Idealize.SL.Sem

section Body

variable (c : Dev nD) (i : grid0.Coords) (arg2 : Memref sig .tc .vmem S384x11008 .bf16) (harg2 : arg2.IsWhole)
  (arg3 : Memref sig .tc .vmem S1x11008x512 .f32) (harg3 : arg3.IsWhole) (arg4 : Memref sig .tc .vmem S384x512 .f32) (harg4 : arg4.IsWhole)
  (arg5 : Memref sig .tc .vmem S384x512 .f32) (harg5 : arg5.IsWhole) (arg6 : Memref sig .tc .vmem S11008x512 .bf16) (harg6 : arg6.IsWhole)
  (x0 : Vec Ideal S384x11008 .bf16) (x1 : Vec Ideal S1x11008x512 .f32) (x2 : Vec Ideal S384x512 .f32) (xs0 : Vec Ideal S11008x512 .bf16)

theorem sout_A (hc0 : cond0_0 i) :
    sout0_A_0 c i arg2 harg2 arg3 harg3 arg4 harg4 arg5 harg5 arg6 harg6 hc0 x0 x1 x2 = k0_pay1 x1 := by
  frame_out

theorem out_A (hc0 : cond0_0 i) :
    out0_A_3 c i arg2 harg2 arg3 harg3 arg4 harg4 arg5 harg5 arg6 harg6 hc0 x0 x1 x2 = k0_pay2 (k0_pay1 x1) x0 x2 := by
  frame_out

theorem out_B (hc0 : ¬cond0_0 i) :
    out0_B_3 c i arg2 harg2 arg3 harg3 arg4 harg4 arg5 harg5 arg6 harg6 hc0 x0 x1 x2 xs0 = k0_pay2 xs0 x0 x2 := by
  frame_out

end Body

/-- The residual plus the product, of the arrays, with the weights of the second layer. -/
def resid (X : Vec Ideal S24576x11008 .bf16) (W : Vec Ideal S2x11008x4096 .f32) (R : Vec Ideal S24576x4096 .f32) :
    Vec Ideal S24576x4096 .f32 := fun y =>
  R (ix2 (y 0) (y 1)) + ∑ k : Fin 11008, X (ix2 (y 0) k) * W (ix3 1 k (y 1))

theorem pay1_apply (v : Vec Ideal S1x11008x512 .f32) (k : Fin 11008) (j : Fin 512) :
    k0_pay1 v (ix2 k j) = v (ix3 0 k j) := by
  pointwise [k0_pay1]

theorem pay2_apply (w : Vec Ideal S11008x512 .bf16) (x : Vec Ideal S384x11008 .bf16) (z : Vec Ideal S384x512 .f32)
    (r : Fin 384) (j : Fin 512) :
    k0_pay2 w x z (ix2 r j) = z (ix2 r j) + ∑ k : Fin 11008, x (ix2 r k) * w (ix2 k j) := by
  pointwise [k0_pay2]

theorem index : ∀ t : Fin cfg0.N, (win0_0.index t (0 : Fin 2) = t.val % 64 ∧ win0_0.index t (1 : Fin 2) = 0)
    ∧ (win0_1.index t (0 : Fin 3) = 1 ∧ win0_1.index t (1 : Fin 3) = 0 ∧ win0_1.index t (2 : Fin 3) = t.val / 64)
    ∧ (win0_2.index t (0 : Fin 2) = t.val % 64 ∧ win0_2.index t (1 : Fin 2) = t.val / 64)
    ∧ (win0_3.index t (0 : Fin 2) = t.val % 64 ∧ win0_3.index t (1 : Fin 2) = t.val / 64) :=
  (by decide +kernel : ∀ t : Fin grid0.N, (win0_0.index t (0 : Fin 2) = t.val % 64 ∧ win0_0.index t (1 : Fin 2) = 0)
    ∧ (win0_1.index t (0 : Fin 3) = 1 ∧ win0_1.index t (1 : Fin 3) = 0 ∧ win0_1.index t (2 : Fin 3) = t.val / 64)
    ∧ (win0_2.index t (0 : Fin 2) = t.val % 64 ∧ win0_2.index t (1 : Fin 2) = t.val / 64)
    ∧ (win0_3.index t (0 : Fin 2) = t.val % 64 ∧ win0_3.index t (1 : Fin 2) = t.val / 64))

variable (m : (ℓ : Loc nD τ sig) → Buf (Elt Ideal) ℓ)

/-- The arguments. -/
abbrev X (c : Dev nD) : Vec Ideal S24576x11008 .bf16 := m ((c.tc : Thread nD τ).loc main_arg0)
abbrev W (c : Dev nD) : Vec Ideal S2x11008x4096 .f32 := m ((c.tc : Thread nD τ).loc main_arg1)
abbrev R (c : Dev nD) : Vec Ideal S24576x4096 .f32 := m ((c.tc : Thread nD τ).loc main_arg2)

theorem lt_N (t : Fin cfg0.N) : t.val < 512 := lt_of_lt_of_eq t.isLt (show cfg0.N = 512 from N_0)

theorem blk0_apply (c : Dev nD) (t : Fin cfg0.N) (r : Fin 384) (k : Fin 11008) :
    (iblk m c 0 t : Vec Ideal S384x11008 .bf16) (ix2 r k) = X m c (ix2 ⟨t.val % 64 * 384 + r.val, by omega⟩ k) := by
  obtain ⟨e0, e1⟩ := (index t).1
  refine congrArg (X m c) ?_
  funext a; apply Fin.ext
  match a with
  | ⟨0, _⟩ => show win0_0.index t (0 : Fin 2) * 384 + 1 * r.val = t.val % 64 * 384 + r.val; rw [e0]; omega
  | ⟨1, _⟩ => show win0_0.index t (1 : Fin 2) * 11008 + 1 * k.val = k.val; rw [e1]; omega

theorem blk1_apply (c : Dev nD) (t : Fin cfg0.N) (k : Fin 11008) (j : Fin 512) :
    (iblk m c 1 t : Vec Ideal S1x11008x512 .f32) (ix3 0 k j)
      = W m c (ix3 1 k ⟨t.val / 64 * 512 + j.val, by have := lt_N t; omega⟩) := by
  obtain ⟨e0, e1, e2⟩ := (index t).2.1
  refine congrArg (W m c) ?_
  funext a; apply Fin.ext
  match a with
  | ⟨0, _⟩ => show win0_1.index t (0 : Fin 3) * 1 + 1 * 0 = 1; rw [e0]
  | ⟨1, _⟩ => show win0_1.index t (1 : Fin 3) * 11008 + 1 * k.val = k.val; rw [e1]; omega
  | ⟨2, _⟩ => show win0_1.index t (2 : Fin 3) * 512 + 1 * j.val = t.val / 64 * 512 + j.val; rw [e2]; omega

theorem blk2_apply (c : Dev nD) (t : Fin cfg0.N) (r : Fin 384) (j : Fin 512) :
    (iblk m c 2 t : Vec Ideal S384x512 .f32) (ix2 r j)
      = R m c (ix2 ⟨t.val % 64 * 384 + r.val, by omega⟩ ⟨t.val / 64 * 512 + j.val, by have := lt_N t; omega⟩) := by
  obtain ⟨e0, e1⟩ := (index t).2.2.1
  refine congrArg (R m c) ?_
  funext a; apply Fin.ext
  match a with
  | ⟨0, _⟩ => show win0_2.index t (0 : Fin 2) * 384 + 1 * r.val = t.val % 64 * 384 + r.val; rw [e0]; omega
  | ⟨1, _⟩ => show win0_2.index t (1 : Fin 2) * 512 + 1 * j.val = t.val / 64 * 512 + j.val; rw [e1]; omega

theorem scratch_A (c : Dev nD) (t : Fin cfg0.N) (h0 : t.val % 64 = 0) :
    (outsAt0 m c t.val t.isLt).2 = k0_pay1 (iblk m c 1 t) := by
  rw [outsAt0_A m c t h0]
  dsimp only
  rw [sout_A]

theorem scratch_B (c : Dev nD) (t : Fin cfg0.N) (h0 : ¬t.val % 64 = 0) :
    (outsAt0 m c t.val t.isLt).2 = (outsAt0 m c (t.val - 1) (Nat.lt_of_le_of_lt (Nat.sub_le _ _) t.isLt)).2 := by
  rw [outsAt0_B m c t h0]
  dsimp only
  rfl

/-- What the scratch holds after a point: the weights of the point's column block. -/
theorem scratch (c : Dev nD) (k : Fin 11008) (j : Fin 512) (n : ℕ) : ∀ (t : Fin cfg0.N), t.val = n →
    (outsAt0 m c t.val t.isLt).2 (ix2 k j) = W m c (ix3 1 k ⟨t.val / 64 * 512 + j.val, by have := lt_N t; omega⟩) := by
  induction n with
  | zero =>
    intro t ht
    rw [scratch_A m c t (by omega), pay1_apply, blk1_apply]
  | succ n ih =>
    intro t ht
    by_cases h0 : t.val % 64 = 0
    · rw [scratch_A m c t h0, pay1_apply, blk1_apply]
    · rw [scratch_B m c t h0]
      refine (ih ⟨t.val - 1, Nat.lt_of_le_of_lt (Nat.sub_le _ _) t.isLt⟩ (by dsimp only; omega)).trans ?_
      refine congrArg (fun q => W m c (ix3 1 k q)) (Fin.ext ?_)
      show (t.val - 1) / 64 * 512 + j.val = t.val / 64 * 512 + j.val
      omega

theorem out_apply (c : Dev nD) (t : Fin cfg0.N) (r : Fin 384) (j : Fin 512) :
    (outsAt0 m c t.val t.isLt).1 (ix2 r j)
      = resid (X m c) (W m c) (R m c)
          (ix2 ⟨t.val % 64 * 384 + r.val, by omega⟩ ⟨t.val / 64 * 512 + j.val, by have := lt_N t; omega⟩) := by
  have hw : ∀ k : Fin 11008, (outsAt0 m c t.val t.isLt).2 (ix2 k j) = _ := fun k => scratch m c k j t.val t rfl
  have ho : (outsAt0 m c t.val t.isLt).1 = k0_pay2 (outsAt0 m c t.val t.isLt).2 (iblk m c 0 t) (iblk m c 2 t) := by
    by_cases h0 : t.val % 64 = 0
    · rw [outsAt0_A m c t h0]
      dsimp only
      rw [out_A, sout_A]
    · rw [outsAt0_B m c t h0]
      dsimp only
      rw [out_B]
      rfl
  rw [ho, pay2_apply, blk2_apply]
  refine congrArg (R m c _ + ·) (Finset.sum_congr rfl fun k _ => ?_)
  rw [blk0_apply, hw]
  rfl

theorem out_array (c : Dev nD) : (dats m 0 c).arrAt 3 cfg0.N = resid (X m c) (W m c) (R m c) := by
  refine (dats m 0 c).arrAt_eq_of_cover 3 (resid (X m c) (W m c) (R m c)) (fun t _ => ?_) (fun y => ?_)
  · rw [Value.flushed3]
    obtain ⟨e0, e1⟩ := (index t).2.2.2
    funext y
    show (outsAt0 m c t.val t.isLt).1 ((cfg0.win 3).xinj (grid0.coords t) y)
      = resid (X m c) (W m c) (R m c) (((cfg0.win 3).blk t).view.emb y)
    have hy : (cfg0.win 3).xinj (grid0.coords t) y = (ix2 (y 0) (y 1) : S384x512.Idx) := by
      funext a; match a with
      | ⟨0, _⟩ => rfl
      | ⟨1, _⟩ => rfl
    refine (congrArg (outsAt0 m c t.val t.isLt).1 hy).trans ((out_apply m c t (y 0) (y 1)).trans ?_)
    refine congrArg (resid (X m c) (W m c) (R m c)) ?_
    funext a; apply Fin.ext
    match a with
    | ⟨0, _⟩ => show t.val % 64 * 384 + (y 0).val = win0_3.index t (0 : Fin 2) * 384 + 1 * (y 0).val; rw [e0]; omega
    | ⟨1, _⟩ => show t.val / 64 * 512 + (y 1).val = win0_3.index t (1 : Fin 2) * 512 + 1 * (y 1).val; rw [e1]; omega
  · have h0 : (y 0).val < 24576 := (y 0).isLt
    have h1 : (y 1).val < 4096 := (y 1).isLt
    exact (Value.covered_iff3 y).2 (by omega)

end Cert.DownIdeal.Resid

namespace Cert.DownReferenceIdeal.Resid

open Cert.DownReferenceIdeal Cert.DownReferenceIdeal.Gen Idealize.ShloMosaic

/-- The reference's value is the same one. -/
theorem value_eq (X : FVec Ideal S24576x11008 .bf16) (W : FVec Ideal S2x11008x4096 .f32) (R : FVec Ideal S24576x4096 .f32) :
    addf R (Host.dotGeneral (F := Ideal) dot_S24576x11008_S11008x4096_S24576x4096_1_0_0_1_n_n none
      (extf .f32 X bitsLt_bf16_f32)
      (shapeCast S11008x4096 (extractStridedSlice S1x11008x4096 ![1, 0, 0] W slices_S2x11008x4096_S1x11008x4096_1_0_0)
        shapeCasts_S1x11008x4096_S11008x4096)) = Cert.DownIdeal.Resid.resid X W R := by
  funext y
  obtain ⟨r, j, rfl⟩ : ∃ (r : Fin 24576) (j : Fin 4096), y = (ix2 r j : S24576x4096.Idx) :=
    ⟨y 0, y 1, by funext a; match a with | ⟨0, _⟩ => rfl | ⟨1, _⟩ => rfl⟩
  pointwise [Cert.DownIdeal.Resid.resid]

end Cert.DownReferenceIdeal.Resid

end
-- ==== Proof.Project.lean ====
/- The combined projection over the extended reals: each block of the output is a product of a block of rows and a block of columns,
   so the output array is the product of the two argument arrays, as the reference has it. -/
module

public import proofs.«01_k».proof.Proof.Gen.ProjectIdeal.Value
public import proofs.«01_k».proof.Proof.Gen.ProjectReferenceIdeal.Run
public import Idealize.ShloMosaic.Lib.Pointwise
public import Idealize.ShloMosaic.Lib.ValueIdx

@[expose] public section

set_option maxRecDepth 16384

noncomputable section

namespace Cert.ProjectIdeal.Prod

open Cert.ProjectIdeal Cert.ProjectIdeal.Gen Idealize.ShloMosaic Idealize.ShloMosaic.TcCoe
open Idealize.SL.Sem

/-- The product, of the arrays. -/
def prod (X : Vec Ideal S16384x4096 .bf16) (W : Vec Ideal S1x4096x20480 .f32) : Vec Ideal S16384x20480 .f32 := fun y =>
  ∑ k : Fin 4096, X (ix2 (y 0) k) * W (ix3 0 k (y 1))

theorem pay_apply (v0 : Vec Ideal S1x4096x512 .f32) (v3 : Vec Ideal S2048x4096 .bf16) (r : Fin 2048) (j : Fin 512) :
    k0_pay1 v0 v3 (ix2 r j) = ∑ k : Fin 4096, v3 (ix2 r k) * v0 (ix3 0 k j) := by
  pointwise [k0_pay1]

theorem index : ∀ t : Fin cfg0.N, (win0_0.index t (0 : Fin 2) = t.val / 40 ∧ win0_0.index t (1 : Fin 2) = 0)
    ∧ (win0_1.index t (0 : Fin 3) = 0 ∧ win0_1.index t (1 : Fin 3) = 0 ∧ win0_1.index t (2 : Fin 3) = t.val % 40)
    ∧ (win0_2.index t (0 : Fin 2) = t.val / 40 ∧ win0_2.index t (1 : Fin 2) = t.val % 40) :=
  (by decide +kernel : ∀ t : Fin grid0.N, (win0_0.index t (0 : Fin 2) = t.val / 40 ∧ win0_0.index t (1 : Fin 2) = 0)
    ∧ (win0_1.index t (0 : Fin 3) = 0 ∧ win0_1.index t (1 : Fin 3) = 0 ∧ win0_1.index t (2 : Fin 3) = t.val % 40)
    ∧ (win0_2.index t (0 : Fin 2) = t.val / 40 ∧ win0_2.index t (1 : Fin 2) = t.val % 40))

variable (m : (ℓ : Loc nD τ sig) → Buf (Elt Ideal) ℓ)

/-- The arguments. -/
abbrev X (c : Dev nD) : Vec Ideal S16384x4096 .bf16 := m ((c.tc : Thread nD τ).loc main_arg0)
abbrev W (c : Dev nD) : Vec Ideal S1x4096x20480 .f32 := m ((c.tc : Thread nD τ).loc main_arg1)

theorem lt_N (t : Fin cfg0.N) : t.val < 320 := lt_of_lt_of_eq t.isLt (show cfg0.N = 320 from N_0)

theorem blk0_apply (c : Dev nD) (t : Fin cfg0.N) (r : Fin 2048) (k : Fin 4096) :
    (iblk m c 0 t : Vec Ideal S2048x4096 .bf16) (ix2 r k) = X m c (ix2 ⟨t.val / 40 * 2048 + r.val, by have := lt_N t; omega⟩ k) := by
  obtain ⟨e0, e1⟩ := (index t).1
  refine congrArg (X m c) ?_
  funext a; apply Fin.ext
  match a with
  | ⟨0, _⟩ => show win0_0.index t (0 : Fin 2) * 2048 + 1 * r.val = t.val / 40 * 2048 + r.val; rw [e0]; omega
  | ⟨1, _⟩ => show win0_0.index t (1 : Fin 2) * 4096 + 1 * k.val = k.val; rw [e1]; omega

theorem blk1_apply (c : Dev nD) (t : Fin cfg0.N) (k : Fin 4096) (j : Fin 512) :
    (iblk m c 1 t : Vec Ideal S1x4096x512 .f32) (ix3 0 k j) = W m c (ix3 0 k ⟨t.val % 40 * 512 + j.val, by omega⟩) := by
  obtain ⟨e0, e1, e2⟩ := (index t).2.1
  refine congrArg (W m c) ?_
  funext a; apply Fin.ext
  match a with
  | ⟨0, _⟩ => show win0_1.index t (0 : Fin 3) * 1 + 1 * 0 = 0; rw [e0]
  | ⟨1, _⟩ => show win0_1.index t (1 : Fin 3) * 4096 + 1 * k.val = k.val; rw [e1]; omega
  | ⟨2, _⟩ => show win0_1.index t (2 : Fin 3) * 512 + 1 * j.val = t.val % 40 * 512 + j.val; rw [e2]; omega

theorem out_apply (c : Dev nD) (t : Fin cfg0.N) (r : Fin 2048) (j : Fin 512) :
    out0_2 (iblk m c 0 t) (iblk m c 1 t) (ix2 r j)
      = prod (X m c) (W m c) (ix2 ⟨t.val / 40 * 2048 + r.val, by have := lt_N t; omega⟩ ⟨t.val % 40 * 512 + j.val, by omega⟩) := by
  unfold out0_2
  rw [View.canon_unit_zero (by funext a; fin_cases a <;> rfl), View.ld_unit_zero (by funext a; fin_cases a <;> rfl),
    View.ld_unit_zero (by funext a; fin_cases a <;> rfl), pay_apply]
  refine Finset.sum_congr rfl fun k _ => ?_
  rw [blk0_apply, blk1_apply]
  rfl

theorem out_array (c : Dev nD) : (dats m 0 c).arrAt 2 cfg0.N = prod (X m c) (W m c) := by
  refine (dats m 0 c).arrAt_eq_of_cover 2 (prod (X m c) (W m c)) (fun t _ => ?_) (fun y => ?_)
  · rw [Value.flushed2]
    obtain ⟨e0, e1⟩ := (index t).2.2
    funext y
    show out0_2 (iblk m c 0 t) (iblk m c 1 t) ((cfg0.win 2).xinj (grid0.coords t) y)
      = prod (X m c) (W m c) (((cfg0.win 2).blk t).view.emb y)
    have hy : (cfg0.win 2).xinj (grid0.coords t) y = (ix2 (y 0) (y 1) : S2048x512.Idx) := by
      funext a; match a with
      | ⟨0, _⟩ => rfl
      | ⟨1, _⟩ => rfl
    refine (congrArg (out0_2 (iblk m c 0 t) (iblk m c 1 t)) hy).trans ((out_apply m c t (y 0) (y 1)).trans ?_)
    refine congrArg (prod (X m c) (W m c)) ?_
    funext a; apply Fin.ext
    match a with
    | ⟨0, _⟩ => show t.val / 40 * 2048 + (y 0).val = win0_2.index t (0 : Fin 2) * 2048 + 1 * (y 0).val; rw [e0]; omega
    | ⟨1, _⟩ => show t.val % 40 * 512 + (y 1).val = win0_2.index t (1 : Fin 2) * 512 + 1 * (y 1).val; rw [e1]; omega
  · have h0 : (y 0).val < 16384 := (y 0).isLt
    have h1 : (y 1).val < 20480 := (y 1).isLt
    have ht : (y 0).val / 2048 * 40 + (y 1).val / 512 < cfg0.N := by rw [show cfg0.N = 320 from N_0]; omega
    obtain ⟨e0, e1⟩ := (index ⟨_, ht⟩).2.2
    generalize hpt : (⟨_, ht⟩ : Fin cfg0.N) = t at e0 e1
    have hv : t.val = (y 0).val / 2048 * 40 + (y 1).val / 512 := by rw [← hpt]
    refine ⟨t, flush0_2 t, ?_⟩
    show y ∈ ((View.whole main_v0).slice (win0_2.rect t)).set
    rw [View.set_slice_whole, Rect.mem_set_unit]
    intro a
    match a with
    | ⟨0, _⟩ =>
      show win0_2.index t (0 : Fin 2) * 2048 ≤ (y 0).val ∧ (y 0).val < win0_2.index t (0 : Fin 2) * 2048 + 2048
      rw [e0, hv]; omega
    | ⟨1, _⟩ =>
      show win0_2.index t (1 : Fin 2) * 512 ≤ (y 1).val ∧ (y 1).val < win0_2.index t (1 : Fin 2) * 512 + 512
      rw [e1, hv]; omega

end Cert.ProjectIdeal.Prod

namespace Cert.ProjectReferenceIdeal.Prod

open Cert.ProjectReferenceIdeal Cert.ProjectReferenceIdeal.Gen Idealize.ShloMosaic

/-- The reference's product is the same one. -/
theorem value_eq (X : FVec Ideal S16384x4096 .bf16) (W : FVec Ideal S1x4096x20480 .f32) :
    Host.dotGeneral (F := Ideal) dot_S16384x4096_S4096x20480_S16384x20480_1_0_0_1_n_n none (extf .f32 X bitsLt_bf16_f32)
      (shapeCast S4096x20480 W shapeCasts_S1x4096x20480_S4096x20480) = Cert.ProjectIdeal.Prod.prod X W := by
  funext y
  rw [show y = ix2 (y 0) (y 1) from by funext a; match a with | ⟨0, _⟩ => rfl | ⟨1, _⟩ => rfl]
  generalize y 0 = r
  generalize y 1 = j
  pointwise [Cert.ProjectIdeal.Prod.prod]

end Cert.ProjectReferenceIdeal.Prod

end
-- ==== Proof.FinalNorm.lean ====
/- The final norm of the prompt's rows over the extended reals: each row of a block is scaled by the reciprocal root of its mean square
   and by the gain, as the reference has it for the whole array.
 -/
module

public import proofs.«01_k».proof.Proof.Gen.FinalNormIdeal.Value
public import proofs.«01_k».proof.Proof.Gen.FinalNormReferenceIdeal.Run
public import Idealize.ShloMosaic.Lib.Pointwise
public import Idealize.ShloMosaic.Lib.ValueIdx
public import Idealize.ShloMosaic.Lib.StableHlo.ReadAt

@[expose] public section

set_option maxRecDepth 16384

noncomputable section

namespace Cert.FinalNormIdeal.Norm

open Cert.FinalNormIdeal Cert.FinalNormIdeal.Gen Idealize.ShloMosaic Idealize.ShloMosaic.TcCoe
open Idealize.SL.Sem

/-- Row `r` over its root mean square, times the gain, at `j`. -/
def entry (X : Vec Ideal S24576x4096 .f32) (G : Vec Ideal S4096 .f32) (r : Fin 24576) (j : Fin 4096) : EReal :=
  X (ix2 r j) * Ideal.rsqrt (Ideal.div (∑ k : Fin 4096, X (ix2 r k) * X (ix2 r k)) (Ideal.ofBits .f32 0x45800000#32)
    + Ideal.ofBits .f32 0x358637BD#32) * G (ix1 j)

theorem pay_apply (x : Vec Ideal S512x4096 .f32) (g : Vec Ideal S1x4096 .f32) (r : Fin 512) (j : Fin 4096) :
    k0_pay1 x g (ix2 r j) = x (ix2 r j) * Ideal.rsqrt (Ideal.div (∑ k : Fin 4096, x (ix2 r k) * x (ix2 r k))
      (Ideal.ofBits .f32 0x45800000#32) + Ideal.ofBits .f32 0x358637BD#32) * g (ix2 0 j) := by
  pointwise [k0_pay1]

theorem index : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0) :=
  (by decide +kernel : ∀ t : Fin grid0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0))

variable (m : (ℓ : Loc nD τ sig) → Buf (Elt Ideal) ℓ)

/-- The arguments. -/
abbrev X (c : Dev nD) : Vec Ideal S24576x4096 .f32 := m ((c.tc : Thread nD τ).loc main_arg0)
abbrev G (c : Dev nD) : Vec Ideal S4096 .f32 := m ((c.tc : Thread nD τ).loc main_arg1)

/-- The result: the norms of rows 0 to 16383. -/
def normed (X : Vec Ideal S24576x4096 .f32) (G : Vec Ideal S4096 .f32) : Vec Ideal S16384x4096 .f32 := fun y =>
  entry X G ⟨(y 0).val, by have : (y 0).val < 16384 := (y 0).isLt; omega⟩ (y 1)

theorem lt_N (t : Fin cfg0.N) : t.val < 32 := lt_of_lt_of_eq t.isLt (show cfg0.N = 32 from N_0)

theorem blk0_apply (c : Dev nD) (t : Fin cfg0.N) (r : Fin 512) (k : Fin 4096) :
    (iblk m c 0 t : Vec Ideal S512x4096 .f32) (ix2 r k)
      = X m c (ix2 ⟨t.val * 512 + r.val, by have := lt_N t; omega⟩ k) := by
  obtain ⟨e0, e1⟩ := (index t).1
  unfold iblk
  show V m c main_arg0 _ = _
  rw [V_main_arg0]
  refine congrArg (X m c) ?_
  funext a; apply Fin.ext
  match a with
  | ⟨0, _⟩ => show win0_0.index t (0 : Fin 2) * 512 + 1 * r.val = t.val * 512 + r.val; rw [e0]; omega
  | ⟨1, _⟩ => show win0_0.index t (1 : Fin 2) * 4096 + 1 * k.val = k.val; rw [e1]; omega

/-- The gain's row holds the gain. -/
theorem gain_apply (c : Dev nD) (j : Fin 4096) : (V m c main_v0 : Vec Ideal S1x4096 .f32) (ix2 0 j) = G m c (ix1 j) := by
  unfold V
  after_reads_at

theorem blk1_apply (c : Dev nD) (t : Fin cfg0.N) (j : Fin 4096) :
    (iblk m c 1 t : Vec Ideal S1x4096 .f32) (ix2 0 j) = G m c (ix1 j) := by
  obtain ⟨e0, e1⟩ := (index t).2.1
  unfold iblk
  refine (congrArg (V m c main_v0) ?_).trans (gain_apply m c j)
  funext a; apply Fin.ext
  match a with
  | ⟨0, _⟩ => show win0_1.index t (0 : Fin 2) * 1 + 1 * 0 = 0; rw [e0]
  | ⟨1, _⟩ => show win0_1.index t (1 : Fin 2) * 4096 + 1 * j.val = j.val; rw [e1]; omega

theorem out_apply (c : Dev nD) (t : Fin cfg0.N) (r : Fin 512) (j : Fin 4096) :
    out0_2 (iblk m c 0 t) (iblk m c 1 t) (ix2 r j)
      = normed (X m c) (G m c) (ix2 ⟨t.val * 512 + r.val, by have := lt_N t; omega⟩ j) := by
  unfold out0_2
  rw [View.canon_unit_zero (by funext a; fin_cases a <;> rfl), View.ld_unit_zero (by funext a; fin_cases a <;> rfl),
    View.ld_unit_zero (by funext a; fin_cases a <;> rfl), pay_apply, blk1_apply]
  simp only [blk0_apply]
  rfl

theorem out_array (c : Dev nD) : (dats m 0 c).arrAt 2 cfg0.N = normed (X m c) (G m c) := by
  refine (dats m 0 c).arrAt_eq_of_cover 2 (normed (X m c) (G m c)) (fun t _ => ?_) (fun y => ?_)
  · rw [Value.flushed2]
    obtain ⟨e0, e1⟩ := (index t).2.2
    funext y
    show out0_2 (iblk m c 0 t) (iblk m c 1 t) ((cfg0.win 2).xinj (grid0.coords t) y)
      = normed (X m c) (G m c) (((cfg0.win 2).blk t).view.emb y)
    have hy : (cfg0.win 2).xinj (grid0.coords t) y = (ix2 (y 0) (y 1) : S512x4096.Idx) := by
      funext a; match a with
      | ⟨0, _⟩ => rfl
      | ⟨1, _⟩ => rfl
    refine (congrArg (out0_2 (iblk m c 0 t) (iblk m c 1 t)) hy).trans ((out_apply m c t (y 0) (y 1)).trans ?_)
    refine congrArg (normed (X m c) (G m c)) ?_
    funext a; apply Fin.ext
    match a with
    | ⟨0, _⟩ => show t.val * 512 + (y 0).val = win0_2.index t (0 : Fin 2) * 512 + 1 * (y 0).val; rw [e0]; omega
    | ⟨1, _⟩ => show (y 1).val = win0_2.index t (1 : Fin 2) * 4096 + 1 * (y 1).val; rw [e1]; omega
  · have h0 : (y 0).val < 16384 := (y 0).isLt
    have h1 : (y 1).val < 4096 := (y 1).isLt
    have ht : (y 0).val / 512 < cfg0.N := by rw [show cfg0.N = 32 from N_0]; omega
    obtain ⟨e0, e1⟩ := (index ⟨_, ht⟩).2.2
    generalize hpt : (⟨_, ht⟩ : Fin cfg0.N) = t at e0 e1
    have hv : t.val = (y 0).val / 512 := by rw [← hpt]
    refine ⟨t, flush0_2 t, ?_⟩
    show y ∈ ((View.whole main_v1).slice (win0_2.rect t)).set
    rw [View.set_slice_whole, Rect.mem_set_unit]
    intro a
    match a with
    | ⟨0, _⟩ =>
      show win0_2.index t (0 : Fin 2) * 512 ≤ (y 0).val ∧ (y 0).val < win0_2.index t (0 : Fin 2) * 512 + 512
      rw [e0, hv]; omega
    | ⟨1, _⟩ =>
      show win0_2.index t (1 : Fin 2) * 4096 ≤ (y 1).val ∧ (y 1).val < win0_2.index t (1 : Fin 2) * 4096 + 4096
      rw [e1]; omega

end Cert.FinalNormIdeal.Norm

namespace Cert.FinalNormReferenceIdeal.Norm

open Cert.FinalNormReferenceIdeal Cert.FinalNormReferenceIdeal.Gen Idealize.ShloMosaic

/-- The reference's norm of all rows. -/
abbrev hostNorm (X : FVec Ideal S24576x4096 .f32) (G : FVec Ideal S4096 .f32) : FVec Ideal S24576x4096 .f32 :=
  mulf (mulf X (broadcastInDim S24576x4096 ![0, 1] bcast_S24576x1_S24576x4096_0_1
      (Host.rsqrt (addf (Host.divf (broadcastInDim S24576x1 ![0] bcast_S24576_S24576x1_0
          (Host.reduceAdd (mulf X X) (constant S_ .f32 0x00000000#32) reducesTo_S24576x4096_S24576_d1 h_S_))
        (broadcastInDim S24576x1 ![] bcast_S_S24576x1 (constant S_ .f32 0x45800000#32)))
      (broadcastInDim S24576x1 ![] bcast_S_S24576x1 (constant S_ .f32 0x358637BD#32))))))
    (broadcastInDim S24576x4096 ![0, 1] bcast_S1x4096_S24576x4096_0_1 (broadcastInDim S1x4096 ![1] bcast_S4096_S1x4096_1 G))

theorem hostNorm_apply (X : FVec Ideal S24576x4096 .f32) (G : FVec Ideal S4096 .f32) (r : Fin 24576) (j : Fin 4096) :
    hostNorm X G (ix2 r j) = Cert.FinalNormIdeal.Norm.entry X G r j := by
  pointwise [Cert.FinalNormIdeal.Norm.entry]

/-- The reference's rows are the same ones. -/
theorem value_eq (X : FVec Ideal S24576x4096 .f32) (G : FVec Ideal S4096 .f32) :
    extractStridedSlice S16384x4096 ![0, 0] (hostNorm X G) slices_S24576x4096_S16384x4096_0_0
      = Cert.FinalNormIdeal.Norm.normed X G := by
  funext y
  obtain ⟨r, j, rfl⟩ : ∃ (r : Fin 16384) (j : Fin 4096), y = (ix2 r j : S16384x4096.Idx) :=
    ⟨y 0, y 1, by funext a; match a with | ⟨0, _⟩ => rfl | ⟨1, _⟩ => rfl⟩
  refine Eq.trans ?_ (hostNorm_apply X G ⟨r.val, by omega⟩ j)
  generalize hostNorm X G = Y
  pointwise []

end Cert.FinalNormReferenceIdeal.Norm

end
-- ==== Proof.FinalNormSamples.lean ====
/- The final norm of the samples' rows over the extended reals: the norm of the prompt's rows, the blocks taken further down the array.
 -/
module

public import proofs.«01_k».proof.Proof.FinalNorm
public import proofs.«01_k».proof.Proof.Gen.FinalNormSamplesIdeal.Value
public import proofs.«01_k».proof.Proof.Gen.FinalNormSamplesReferenceIdeal.Run
public import Idealize.ShloMosaic.Lib.Pointwise
public import Idealize.ShloMosaic.Lib.ValueIdx
public import Idealize.ShloMosaic.Lib.StableHlo.ReadAt

@[expose] public section

set_option maxRecDepth 16384

noncomputable section

namespace Cert.FinalNormSamplesIdeal.Norm

open Cert.FinalNormSamplesIdeal Cert.FinalNormSamplesIdeal.Gen Idealize.ShloMosaic Idealize.ShloMosaic.TcCoe
open Idealize.SL.Sem

open Cert.FinalNormIdeal.Norm (entry)

theorem pay_apply (x : Vec Ideal S512x4096 .f32) (g : Vec Ideal S1x4096 .f32) (r : Fin 512) (j : Fin 4096) :
    k0_pay1 x g (ix2 r j) = x (ix2 r j) * Ideal.rsqrt (Ideal.div (∑ k : Fin 4096, x (ix2 r k) * x (ix2 r k))
      (Ideal.ofBits .f32 0x45800000#32) + Ideal.ofBits .f32 0x358637BD#32) * g (ix2 0 j) := by
  exact Cert.FinalNormIdeal.Norm.pay_apply x g r j

theorem index : ∀ t : Fin cfg0.N, (win0_0.index t (0 : Fin 2) = t.val + 32 ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0) :=
  (by decide +kernel : ∀ t : Fin grid0.N, (win0_0.index t (0 : Fin 2) = t.val + 32 ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0))

variable (m : (ℓ : Loc nD τ sig) → Buf (Elt Ideal) ℓ)

/-- The arguments. -/
abbrev X (c : Dev nD) : Vec Ideal S24576x4096 .f32 := m ((c.tc : Thread nD τ).loc main_arg0)
abbrev G (c : Dev nD) : Vec Ideal S4096 .f32 := m ((c.tc : Thread nD τ).loc main_arg1)

/-- The result: the norms of rows 16384 to 24575. -/
def normed (X : Vec Ideal S24576x4096 .f32) (G : Vec Ideal S4096 .f32) : Vec Ideal S8192x4096 .f32 := fun y =>
  entry X G ⟨(y 0).val + 16384, by have : (y 0).val < 8192 := (y 0).isLt; omega⟩ (y 1)

theorem lt_N (t : Fin cfg0.N) : t.val < 16 := lt_of_lt_of_eq t.isLt (show cfg0.N = 16 from N_0)

theorem blk0_apply (c : Dev nD) (t : Fin cfg0.N) (r : Fin 512) (k : Fin 4096) :
    (iblk m c 0 t : Vec Ideal S512x4096 .f32) (ix2 r k)
      = X m c (ix2 ⟨t.val * 512 + r.val + 16384, by have := lt_N t; omega⟩ k) := by
  obtain ⟨e0, e1⟩ := (index t).1
  unfold iblk
  show V m c main_arg0 _ = _
  rw [V_main_arg0]
  refine congrArg (X m c) ?_
  funext a; apply Fin.ext
  match a with
  | ⟨0, _⟩ => show win0_0.index t (0 : Fin 2) * 512 + 1 * r.val = t.val * 512 + r.val + 16384; rw [e0]; omega
  | ⟨1, _⟩ => show win0_0.index t (1 : Fin 2) * 4096 + 1 * k.val = k.val; rw [e1]; omega

/-- The gain's row holds the gain. -/
theorem gain_apply (c : Dev nD) (j : Fin 4096) : (V m c main_v0 : Vec Ideal S1x4096 .f32) (ix2 0 j) = G m c (ix1 j) := by
  unfold V
  after_reads_at

theorem blk1_apply (c : Dev nD) (t : Fin cfg0.N) (j : Fin 4096) :
    (iblk m c 1 t : Vec Ideal S1x4096 .f32) (ix2 0 j) = G m c (ix1 j) := by
  obtain ⟨e0, e1⟩ := (index t).2.1
  unfold iblk
  refine (congrArg (V m c main_v0) ?_).trans (gain_apply m c j)
  funext a; apply Fin.ext
  match a with
  | ⟨0, _⟩ => show win0_1.index t (0 : Fin 2) * 1 + 1 * 0 = 0; rw [e0]
  | ⟨1, _⟩ => show win0_1.index t (1 : Fin 2) * 4096 + 1 * j.val = j.val; rw [e1]; omega

theorem out_apply (c : Dev nD) (t : Fin cfg0.N) (r : Fin 512) (j : Fin 4096) :
    out0_2 (iblk m c 0 t) (iblk m c 1 t) (ix2 r j)
      = normed (X m c) (G m c) (ix2 ⟨t.val * 512 + r.val, by have := lt_N t; omega⟩ j) := by
  unfold out0_2
  rw [View.canon_unit_zero (by funext a; fin_cases a <;> rfl), View.ld_unit_zero (by funext a; fin_cases a <;> rfl),
    View.ld_unit_zero (by funext a; fin_cases a <;> rfl), pay_apply, blk1_apply]
  simp only [blk0_apply]
  rfl

theorem out_array (c : Dev nD) : (dats m 0 c).arrAt 2 cfg0.N = normed (X m c) (G m c) := by
  refine (dats m 0 c).arrAt_eq_of_cover 2 (normed (X m c) (G m c)) (fun t _ => ?_) (fun y => ?_)
  · rw [Value.flushed2]
    obtain ⟨e0, e1⟩ := (index t).2.2
    funext y
    show out0_2 (iblk m c 0 t) (iblk m c 1 t) ((cfg0.win 2).xinj (grid0.coords t) y)
      = normed (X m c) (G m c) (((cfg0.win 2).blk t).view.emb y)
    have hy : (cfg0.win 2).xinj (grid0.coords t) y = (ix2 (y 0) (y 1) : S512x4096.Idx) := by
      funext a; match a with
      | ⟨0, _⟩ => rfl
      | ⟨1, _⟩ => rfl
    refine (congrArg (out0_2 (iblk m c 0 t) (iblk m c 1 t)) hy).trans ((out_apply m c t (y 0) (y 1)).trans ?_)
    refine congrArg (normed (X m c) (G m c)) ?_
    funext a; apply Fin.ext
    match a with
    | ⟨0, _⟩ => show t.val * 512 + (y 0).val = win0_2.index t (0 : Fin 2) * 512 + 1 * (y 0).val; rw [e0]; omega
    | ⟨1, _⟩ => show (y 1).val = win0_2.index t (1 : Fin 2) * 4096 + 1 * (y 1).val; rw [e1]; omega
  · have h0 : (y 0).val < 8192 := (y 0).isLt
    have h1 : (y 1).val < 4096 := (y 1).isLt
    have ht : (y 0).val / 512 < cfg0.N := by rw [show cfg0.N = 16 from N_0]; omega
    obtain ⟨e0, e1⟩ := (index ⟨_, ht⟩).2.2
    generalize hpt : (⟨_, ht⟩ : Fin cfg0.N) = t at e0 e1
    have hv : t.val = (y 0).val / 512 := by rw [← hpt]
    refine ⟨t, flush0_2 t, ?_⟩
    show y ∈ ((View.whole main_v1).slice (win0_2.rect t)).set
    rw [View.set_slice_whole, Rect.mem_set_unit]
    intro a
    match a with
    | ⟨0, _⟩ =>
      show win0_2.index t (0 : Fin 2) * 512 ≤ (y 0).val ∧ (y 0).val < win0_2.index t (0 : Fin 2) * 512 + 512
      rw [e0, hv]; omega
    | ⟨1, _⟩ =>
      show win0_2.index t (1 : Fin 2) * 4096 ≤ (y 1).val ∧ (y 1).val < win0_2.index t (1 : Fin 2) * 4096 + 4096
      rw [e1]; omega

end Cert.FinalNormSamplesIdeal.Norm

namespace Cert.FinalNormSamplesReferenceIdeal.Norm

open Cert.FinalNormSamplesReferenceIdeal Cert.FinalNormSamplesReferenceIdeal.Gen Idealize.ShloMosaic
open Cert.FinalNormReferenceIdeal.Norm (hostNorm hostNorm_apply)

/-- The reference's rows are the same ones. -/
theorem value_eq (X : FVec Ideal S24576x4096 .f32) (G : FVec Ideal S4096 .f32) :
    extractStridedSlice S8192x4096 ![16384, 0] (hostNorm X G) slices_S24576x4096_S8192x4096_16384_0
      = Cert.FinalNormSamplesIdeal.Norm.normed X G := by
  funext y
  obtain ⟨r, j, rfl⟩ : ∃ (r : Fin 8192) (j : Fin 4096), y = (ix2 r j : S8192x4096.Idx) :=
    ⟨y 0, y 1, by funext a; match a with | ⟨0, _⟩ => rfl | ⟨1, _⟩ => rfl⟩
  refine Eq.trans ?_ (hostNorm_apply X G ⟨r.val + 16384, by omega⟩ j)
  generalize hostNorm X G = Y
  pointwise []
  exact congrArg (fun q => Y (ix2 q j)) (Fin.ext (Nat.add_comm _ _))

end Cert.FinalNormSamplesReferenceIdeal.Norm

end
-- ==== Proof.InConv.lean ====
/- The Hyena mixer's projection with its short convolution, over the extended reals. Row `128 a + b` of the kernel's rows is position
   `128 b + a`, so the row of the position before is a slab of 128 rows further up, or one row up in the last slab, and likewise for the
   position after: each point multiplies the rows next to its block again and shifts them by one where a slab wraps around. Output and
   reference are one function, `conv`, of the arguments. -/
module

public import proofs.«01_k».proof.Proof.Gen.InConvIdeal.Value
public import proofs.«01_k».proof.Proof.Gen.InConvReferenceIdeal.Run
public import Idealize.ShloMosaic.Lib.Pointwise
public import Idealize.ShloMosaic.Lib.ValueIdx
public import Idealize.ShloMosaic.Lib.StableHlo.ReadAt

@[expose] public section

set_option maxRecDepth 16384

noncomputable section

namespace Cert.InConvIdeal.Conv

open Cert.InConvIdeal Cert.InConvIdeal.Gen Idealize.ShloMosaic Idealize.ShloMosaic.TcCoe
open Idealize.SL.Sem

/-! ## The function -/

/-- The projection at position `p` and column `j`. -/
def proj (X : Vec Ideal S16384x4096 .bf16) (W : Vec Ideal S1x4096x12288 .f32) (p : Fin 16384) (j : Fin 12288) : EReal :=
  ∑ k : Fin 4096, X (ix2 p k) * W (ix3 0 k j)

/-- The projection of the position before, zero before the first; and of the position after, zero after the last. -/
def before (X : Vec Ideal S16384x4096 .bf16) (W : Vec Ideal S1x4096x12288 .f32) (p : Fin 16384) (j : Fin 12288) : EReal :=
  if h : 1 ≤ p.val then proj X W ⟨p.val - 1, by omega⟩ j else 0
def behind (X : Vec Ideal S16384x4096 .bf16) (W : Vec Ideal S1x4096x12288 .f32) (p : Fin 16384) (j : Fin 12288) : EReal :=
  if h : p.val + 1 < 16384 then proj X W ⟨p.val + 1, h⟩ j else 0

/-- The convolved projection at position `p`. -/
def entry (X : Vec Ideal S16384x4096 .bf16) (W : Vec Ideal S1x4096x12288 .f32) (C : Vec Ideal S1x3x12288 .f32)
    (B : Vec Ideal S1x12288 .f32) (p : Fin 16384) (j : Fin 12288) : EReal :=
  before X W p j * C (ix3 0 0 j) + proj X W p j * C (ix3 0 1 j) + behind X W p j * C (ix3 0 2 j) + B (ix2 0 j)

/-- The position of row `q`. -/
def pos (q : Fin 16384) : Fin 16384 := ⟨q.val % 128 * 128 + q.val / 128, by omega⟩

/-- The convolved projection, row by row. -/
def conv (X : Vec Ideal S16384x4096 .bf16) (W : Vec Ideal S1x4096x12288 .f32) (C : Vec Ideal S1x3x12288 .f32)
    (B : Vec Ideal S1x12288 .f32) : Vec Ideal S16384x12288 .f32 := fun y => entry X W C B (pos (y 0)) (y 1)

/-! ## What a point computes of its blocks -/

theorem first_point : ∀ n : Fin 8, Scalar.cmpi .eq (Scalar.remsi (BitVec.ofNat 32 n.val) 8#32) 0#32 = if n.val = 0 then 1#1 else 0#1 := by
  decide
theorem last_point : ∀ n : Fin 8, Scalar.cmpi .eq (Scalar.remsi (BitVec.ofNat 32 n.val) 8#32) 7#32 = if n.val = 7 then 1#1 else 0#1 := by
  decide
theorem first_row : ∀ n : Fin 128, IntOp.cmpi .eq (BitVec.ofNat 32 n.val) 0#32 = if n.val = 0 then 1#1 else 0#1 := by
  decide
theorem last_row : ∀ n : Fin 128, IntOp.cmpi .eq (BitVec.ofNat 32 n.val) 127#32 = if n.val = 127 then 1#1 else 0#1 := by
  decide

theorem select_if {p : Prop} [Decidable p] (x y : EReal) : Scalar.select (if p then 1#1 else 0#1) x y = if p then x else y := by
  split <;> rfl

theorem mid_apply (w : Vec Ideal S1x4096x512 .f32) (x : Vec Ideal S2048x4096 .bf16) (r : Fin 2048) (j : Fin 512) :
    k0_pay3 w x (ix2 r j) = ∑ k : Fin 4096, x (ix2 r k) * w (ix3 0 k j) := by
  pointwise [k0_pay3, k0_pay2]

/-- The rows before: in the first slab of the block those of the slab before, shifted by one at the sequence's start; else the block's. -/
theorem up_apply (i : grid0.Coords) (n : Fin 8) (hn : (i 0).val = n.val) (w : Vec Ideal S1x4096x512 .f32)
    (x : Vec Ideal S2048x4096 .bf16) (z : Vec Ideal S128x4096 .bf16) (r : Fin 2048) (j : Fin 512) :
    k0_pay4 i w x z (ix2 r j)
      = if h : r.val < 128 then
          if n.val = 0 then
            if r.val = 0 then 0 else ∑ k : Fin 4096, z (ix2 ⟨(r.val + 128 - 1) % 128, Nat.mod_lt _ (by decide)⟩ k) * w (ix3 0 k j)
          else ∑ k : Fin 4096, z (ix2 ⟨r.val, h⟩ k) * w (ix3 0 k j)
        else ∑ k : Fin 4096, x (ix2 ⟨r.val - 128, by omega⟩ k) * w (ix3 0 k j) := by
  pointwise [k0_pay4, k0_pay3, k0_pay2]
  by_cases h : r.val < 128
  · rw [dif_pos h, dif_pos h, hn, first_point n, show IntOp.cmpi .eq (BitVec.ofNat 32 r.val) 0#32 = _ from first_row ⟨r.val, h⟩,
      select_if, select_if]
  · rw [dif_neg h, dif_neg h]

/-- The rows after: in the last slab of the block those of the slab after, shifted by one at the sequence's end; else the block's. -/
theorem down_apply (i : grid0.Coords) (n : Fin 8) (hn : (i 0).val = n.val) (w : Vec Ideal S1x4096x512 .f32)
    (x : Vec Ideal S2048x4096 .bf16) (z : Vec Ideal S128x4096 .bf16) (r : Fin 2048) (j : Fin 512) :
    k0_pay5 i w x z (ix2 r j)
      = if h : r.val < 1920 then ∑ k : Fin 4096, x (ix2 ⟨128 + r.val, by omega⟩ k) * w (ix3 0 k j)
        else
          if n.val = 7 then
            if r.val - 1920 = 127 then 0
            else ∑ k : Fin 4096, z (ix2 ⟨(r.val - 1920 + 128 - 127) % 128, Nat.mod_lt _ (by decide)⟩ k) * w (ix3 0 k j)
          else ∑ k : Fin 4096, z (ix2 ⟨r.val - 1920, by omega⟩ k) * w (ix3 0 k j) := by
  pointwise [k0_pay5, k0_pay3, k0_pay2]
  by_cases h : r.val < 1920
  · rw [dif_pos h, dif_pos h]
  · rw [dif_neg h, dif_neg h, hn, last_point n,
      show IntOp.cmpi .eq (BitVec.ofNat 32 (r.val - 1920)) 127#32 = _ from last_row ⟨r.val - 1920, by omega⟩, select_if, select_if]

theorem taps_apply (u a b : FVec Ideal S2048x512 .f32) (cw : Vec Ideal S3x512 .f32) (cb : Vec Ideal S1x512 .f32) (r : Fin 2048)
    (j : Fin 512) :
    k0_pay1 u a b (k0_pay6 cw) (k0_pay7 cw) cb (ix2 r j)
      = a (ix2 r j) * cw (ix2 0 j) + u (ix2 r j) * cw (ix2 1 j) + b (ix2 r j) * cw (ix2 2 j) + cb (ix2 0 j) := by
  pointwise [k0_pay1, k0_pay6, k0_pay7]

/-! ## The blocks -/

theorem index : ∀ t : Fin cfg0.N,
    ((grid0.coords t 0).val = t.val / 24)
    ∧ (win0_0.index t (0 : Fin 2) = (if t.val / 24 = 0 then 127 else t.val / 24 * 16 - 1) ∧ win0_0.index t (1 : Fin 2) = 0)
    ∧ (win0_1.index t (0 : Fin 2) = t.val / 24 ∧ win0_1.index t (1 : Fin 2) = 0)
    ∧ (win0_2.index t (0 : Fin 2) = (if t.val / 24 = 7 then 0 else (t.val / 24 + 1) * 16) ∧ win0_2.index t (1 : Fin 2) = 0)
    ∧ (win0_3.index t (0 : Fin 3) = 0 ∧ win0_3.index t (1 : Fin 3) = 0 ∧ win0_3.index t (2 : Fin 3) = t.val % 24)
    ∧ (win0_4.index t (0 : Fin 2) = 0 ∧ win0_4.index t (1 : Fin 2) = t.val % 24)
    ∧ (win0_5.index t (0 : Fin 2) = 0 ∧ win0_5.index t (1 : Fin 2) = t.val % 24)
    ∧ (win0_6.index t (0 : Fin 2) = t.val / 24 ∧ win0_6.index t (1 : Fin 2) = t.val % 24) :=
  (by decide +kernel : ∀ t : Fin grid0.N, _)

variable (m : (ℓ : Loc nD τ sig) → Buf (Elt Ideal) ℓ)

/-- The arguments. -/
abbrev X (c : Dev nD) : Vec Ideal S16384x4096 .bf16 := m ((c.tc : Thread nD τ).loc main_arg0)
abbrev W (c : Dev nD) : Vec Ideal S1x4096x12288 .f32 := m ((c.tc : Thread nD τ).loc main_arg1)
abbrev C (c : Dev nD) : Vec Ideal S1x3x12288 .f32 := m ((c.tc : Thread nD τ).loc main_arg2)
abbrev B (c : Dev nD) : Vec Ideal S1x12288 .f32 := m ((c.tc : Thread nD τ).loc main_arg3)

theorem lt_N (t : Fin cfg0.N) : t.val < 192 := lt_of_lt_of_eq t.isLt (show cfg0.N = 192 from N_0)

/-- The host's permutation, taps and bias before the launch. -/
theorem rows_apply (c : Dev nD) (q : Fin 16384) (k : Fin 4096) :
    (V m c main_v2 : Vec Ideal S16384x4096 .bf16) (ix2 q k) = X m c (ix2 ⟨q.val % 128 * 128 + q.val / 128, by omega⟩ k) := by
  unfold V
  after_reads_at
theorem tap_apply (c : Dev nD) (a : Fin 3) (j : Fin 12288) : (V m c main_v3 : Vec Ideal S3x12288 .f32) (ix2 a j) = C m c (ix3 0 a j) := by
  unfold V
  after_reads_at
theorem bias_apply (c : Dev nD) (j : Fin 12288) : (V m c main_v5 : Vec Ideal S1x12288 .f32) (ix2 0 j) = B m c (ix2 0 j) := by
  unfold V
  after_reads_at

/-- The slabs before and after a row of blocks. -/
abbrev slabBefore (i : ℕ) : ℕ := if i = 0 then 127 else i * 16 - 1
abbrev slabAfter (i : ℕ) : ℕ := if i = 7 then 0 else (i + 1) * 16

theorem slabBefore_lt (t : Fin cfg0.N) (r : Fin 128) : slabBefore (t.val / 24) * 128 + r.val < 16384 := by
  have := lt_N t; unfold slabBefore; split <;> omega
theorem slabAfter_lt (t : Fin cfg0.N) (r : Fin 128) : slabAfter (t.val / 24) * 128 + r.val < 16384 := by
  have := lt_N t; unfold slabAfter; split <;> omega

theorem blk0_apply (c : Dev nD) (t : Fin cfg0.N) (r : Fin 128) (k : Fin 4096) :
    (iblk m c 0 t : Vec Ideal S128x4096 .bf16) (ix2 r k) = X m c (ix2 (pos ⟨slabBefore (t.val / 24) * 128 + r.val, slabBefore_lt t r⟩) k) := by
  obtain ⟨e0, e1⟩ := (index t).2.1
  unfold iblk
  refine (congrArg (V m c main_v2) ?_).trans (rows_apply m c ⟨slabBefore (t.val / 24) * 128 + r.val, slabBefore_lt t r⟩ k)
  funext a; apply Fin.ext
  match a with
  | ⟨0, _⟩ => show win0_0.index t (0 : Fin 2) * 128 + 1 * r.val = slabBefore (t.val / 24) * 128 + r.val; rw [e0, Nat.one_mul]
  | ⟨1, _⟩ => show win0_0.index t (1 : Fin 2) * 4096 + 1 * k.val = k.val; rw [e1]; omega

theorem blk1_apply (c : Dev nD) (t : Fin cfg0.N) (r : Fin 2048) (k : Fin 4096) :
    (iblk m c 1 t : Vec Ideal S2048x4096 .bf16) (ix2 r k)
      = X m c (ix2 (pos ⟨t.val / 24 * 2048 + r.val, by have := lt_N t; omega⟩) k) := by
  obtain ⟨e0, e1⟩ := (index t).2.2.1
  unfold iblk
  refine (congrArg (V m c main_v2) ?_).trans (rows_apply m c ⟨t.val / 24 * 2048 + r.val, by have := lt_N t; omega⟩ k)
  funext a; apply Fin.ext
  match a with
  | ⟨0, _⟩ => show win0_1.index t (0 : Fin 2) * 2048 + 1 * r.val = t.val / 24 * 2048 + r.val; rw [e0]; omega
  | ⟨1, _⟩ => show win0_1.index t (1 : Fin 2) * 4096 + 1 * k.val = k.val; rw [e1]; omega

theorem blk2_apply (c : Dev nD) (t : Fin cfg0.N) (r : Fin 128) (k : Fin 4096) :
    (iblk m c 2 t : Vec Ideal S128x4096 .bf16) (ix2 r k) = X m c (ix2 (pos ⟨slabAfter (t.val / 24) * 128 + r.val, slabAfter_lt t r⟩) k) := by
  obtain ⟨e0, e1⟩ := (index t).2.2.2.1
  unfold iblk
  refine (congrArg (V m c main_v2) ?_).trans (rows_apply m c ⟨slabAfter (t.val / 24) * 128 + r.val, slabAfter_lt t r⟩ k)
  funext a; apply Fin.ext
  match a with
  | ⟨0, _⟩ => show win0_2.index t (0 : Fin 2) * 128 + 1 * r.val = slabAfter (t.val / 24) * 128 + r.val; rw [e0, Nat.one_mul]
  | ⟨1, _⟩ => show win0_2.index t (1 : Fin 2) * 4096 + 1 * k.val = k.val; rw [e1]; omega

/-- The column of a block's column. -/
def col (t : Fin cfg0.N) (j : Fin 512) : Fin 12288 := ⟨t.val % 24 * 512 + j.val, by omega⟩

theorem blk3_apply (c : Dev nD) (t : Fin cfg0.N) (k : Fin 4096) (j : Fin 512) :
    (iblk m c 3 t : Vec Ideal S1x4096x512 .f32) (ix3 0 k j) = W m c (ix3 0 k (col t j)) := by
  obtain ⟨e0, e1, e2⟩ := (index t).2.2.2.2.1
  unfold iblk
  show V m c main_arg1 _ = _
  rw [V_main_arg1]
  refine congrArg (W m c) ?_
  funext a; apply Fin.ext
  match a with
  | ⟨0, _⟩ => show win0_3.index t (0 : Fin 3) * 1 + 1 * 0 = 0; rw [e0]
  | ⟨1, _⟩ => show win0_3.index t (1 : Fin 3) * 4096 + 1 * k.val = k.val; rw [e1]; omega
  | ⟨2, _⟩ => show win0_3.index t (2 : Fin 3) * 512 + 1 * j.val = t.val % 24 * 512 + j.val; rw [e2]; omega

theorem blk4_apply (c : Dev nD) (t : Fin cfg0.N) (a : Fin 3) (j : Fin 512) :
    (iblk m c 4 t : Vec Ideal S3x512 .f32) (ix2 a j) = C m c (ix3 0 a (col t j)) := by
  obtain ⟨e0, e1⟩ := (index t).2.2.2.2.2.1
  unfold iblk
  refine (congrArg (V m c main_v3) ?_).trans (tap_apply m c a (col t j))
  funext b; apply Fin.ext
  match b with
  | ⟨0, _⟩ => show win0_4.index t (0 : Fin 2) * 3 + 1 * a.val = a.val; rw [e0]; omega
  | ⟨1, _⟩ => show win0_4.index t (1 : Fin 2) * 512 + 1 * j.val = t.val % 24 * 512 + j.val; rw [e1]; omega

theorem blk5_apply (c : Dev nD) (t : Fin cfg0.N) (j : Fin 512) :
    (iblk m c 5 t : Vec Ideal S1x512 .f32) (ix2 0 j) = B m c (ix2 0 (col t j)) := by
  obtain ⟨e0, e1⟩ := (index t).2.2.2.2.2.2.1
  unfold iblk
  refine (congrArg (V m c main_v5) ?_).trans (bias_apply m c (col t j))
  funext b; apply Fin.ext
  match b with
  | ⟨0, _⟩ => show win0_5.index t (0 : Fin 2) * 1 + 1 * 0 = 0; rw [e0]
  | ⟨1, _⟩ => show win0_5.index t (1 : Fin 2) * 512 + 1 * j.val = t.val % 24 * 512 + j.val; rw [e1]; omega

/-- The blocks. -/
abbrev b0 (c : Dev nD) (t : Fin cfg0.N) : Vec Ideal S128x4096 .bf16 := iblk m c 0 t
abbrev b1 (c : Dev nD) (t : Fin cfg0.N) : Vec Ideal S2048x4096 .bf16 := iblk m c 1 t
abbrev b2 (c : Dev nD) (t : Fin cfg0.N) : Vec Ideal S128x4096 .bf16 := iblk m c 2 t
abbrev b3 (c : Dev nD) (t : Fin cfg0.N) : Vec Ideal S1x4096x512 .f32 := iblk m c 3 t

/-- Products of a row of a block with a column of the weights' block are entries of the projection. -/
theorem dot0 (c : Dev nD) (t : Fin cfg0.N) (r : Fin 128) (j : Fin 512) (p : Fin 16384)
    (hp : (pos ⟨slabBefore (t.val / 24) * 128 + r.val, slabBefore_lt t r⟩).val = p.val) :
    (∑ k : Fin 4096, b0 m c t (ix2 r k) * b3 m c t (ix3 0 k j))
      = proj (X m c) (W m c) p (col t j) := by
  obtain rfl := Fin.ext hp
  exact Finset.sum_congr rfl fun k _ => congrArg₂ (fun a b : EReal => a * b) (blk0_apply m c t r k) (blk3_apply m c t k j)
theorem dot1 (c : Dev nD) (t : Fin cfg0.N) (r : Fin 2048) (j : Fin 512) (p : Fin 16384)
    (hp : (pos ⟨t.val / 24 * 2048 + r.val, by have := lt_N t; omega⟩).val = p.val) :
    (∑ k : Fin 4096, b1 m c t (ix2 r k) * b3 m c t (ix3 0 k j))
      = proj (X m c) (W m c) p (col t j) := by
  obtain rfl := Fin.ext hp
  exact Finset.sum_congr rfl fun k _ => congrArg₂ (fun a b : EReal => a * b) (blk1_apply m c t r k) (blk3_apply m c t k j)
theorem dot2 (c : Dev nD) (t : Fin cfg0.N) (r : Fin 128) (j : Fin 512) (p : Fin 16384)
    (hp : (pos ⟨slabAfter (t.val / 24) * 128 + r.val, slabAfter_lt t r⟩).val = p.val) :
    (∑ k : Fin 4096, b2 m c t (ix2 r k) * b3 m c t (ix3 0 k j))
      = proj (X m c) (W m c) p (col t j) := by
  obtain rfl := Fin.ext hp
  exact Finset.sum_congr rfl fun k _ => congrArg₂ (fun a b : EReal => a * b) (blk2_apply m c t r k) (blk3_apply m c t k j)

/-! ## A block of the output -/

/-- The row of a block's row. -/
def row (t : Fin cfg0.N) (r : Fin 2048) : Fin 16384 := ⟨t.val / 24 * 2048 + r.val, by have := lt_N t; omega⟩

theorem up_block (c : Dev nD) (t : Fin cfg0.N) (r : Fin 2048) (j : Fin 512) :
    k0_pay4 (grid0.coords t) (iblk m c 3 t) (iblk m c 1 t) (iblk m c 0 t) (ix2 r j)
      = before (X m c) (W m c) (pos (row t r)) (col t j) := by
  have ht := lt_N t
  have hp : (pos (row t r)).val = (t.val / 24 * 2048 + r.val) % 128 * 128 + (t.val / 24 * 2048 + r.val) / 128 := rfl
  rw [up_apply (grid0.coords t) ⟨t.val / 24, by omega⟩ (index t).1]
  unfold before
  by_cases h : r.val < 128
  · rw [dif_pos h]
    by_cases h0 : t.val / 24 = 0
    · rw [if_pos h0]
      by_cases hr : r.val = 0
      · rw [if_pos hr, dif_neg (by rw [hp, h0, hr]; decide)]
      · have hle : 1 ≤ (pos (row t r)).val := by rw [hp, h0]; omega
        rw [if_neg hr, dif_pos hle]
        refine dot0 m c t _ j _ ?_
        show (slabBefore (t.val / 24) * 128 + (r.val + 128 - 1) % 128) % 128 * 128 + (slabBefore (t.val / 24) * 128 + (r.val + 128 - 1) % 128) / 128
          = (pos (row t r)).val - 1
        have e : (pos (row t r)).val = r.val * 128 := by rw [hp, h0]; omega
        have e1 : (r.val + 128 - 1) % 128 = r.val - 1 := by omega
        rw [e, e1, slabBefore, if_pos h0]; omega
    · have hle : 1 ≤ (pos (row t r)).val := by rw [hp]; omega
      rw [if_neg h0, dif_pos hle]
      refine dot0 m c t _ j _ ?_
      show (slabBefore (t.val / 24) * 128 + r.val) % 128 * 128 + (slabBefore (t.val / 24) * 128 + r.val) / 128 = (pos (row t r)).val - 1
      rw [hp, slabBefore, if_neg h0]; omega
  · have hle : 1 ≤ (pos (row t r)).val := by rw [hp]; omega
    rw [dif_neg h, dif_pos hle]
    refine dot1 m c t _ j _ ?_
    show (t.val / 24 * 2048 + (r.val - 128)) % 128 * 128 + (t.val / 24 * 2048 + (r.val - 128)) / 128 = (pos (row t r)).val - 1
    rw [hp]; omega

theorem down_block (c : Dev nD) (t : Fin cfg0.N) (r : Fin 2048) (j : Fin 512) :
    k0_pay5 (grid0.coords t) (iblk m c 3 t) (iblk m c 1 t) (iblk m c 2 t) (ix2 r j)
      = behind (X m c) (W m c) (pos (row t r)) (col t j) := by
  have ht := lt_N t
  have hp : (pos (row t r)).val = (t.val / 24 * 2048 + r.val) % 128 * 128 + (t.val / 24 * 2048 + r.val) / 128 := rfl
  rw [down_apply (grid0.coords t) ⟨t.val / 24, by omega⟩ (index t).1]
  unfold behind
  by_cases h : r.val < 1920
  · have hlt : (pos (row t r)).val + 1 < 16384 := by rw [hp]; omega
    rw [dif_pos h, dif_pos hlt]
    refine dot1 m c t _ j _ ?_
    show (t.val / 24 * 2048 + (128 + r.val)) % 128 * 128 + (t.val / 24 * 2048 + (128 + r.val)) / 128 = (pos (row t r)).val + 1
    rw [hp]; omega
  · rw [dif_neg h]
    by_cases h0 : t.val / 24 = 7
    · rw [if_pos h0]
      by_cases hr : r.val - 1920 = 127
      · rw [if_pos hr, dif_neg (by rw [hp, h0]; omega)]
      · have hlt : (pos (row t r)).val + 1 < 16384 := by rw [hp, h0]; omega
        rw [if_neg hr, dif_pos hlt]
        refine dot2 m c t _ j _ ?_
        show (slabAfter (t.val / 24) * 128 + (r.val - 1920 + 128 - 127) % 128) % 128 * 128
          + (slabAfter (t.val / 24) * 128 + (r.val - 1920 + 128 - 127) % 128) / 128 = (pos (row t r)).val + 1
        have e : (pos (row t r)).val = (r.val - 1920) * 128 + 127 := by rw [hp, h0]; omega
        have e1 : (r.val - 1920 + 128 - 127) % 128 = r.val - 1920 + 1 := by omega
        rw [e, e1, slabAfter, if_pos h0]; omega
    · have hlt : (pos (row t r)).val + 1 < 16384 := by rw [hp]; omega
      rw [if_neg h0, dif_pos hlt]
      refine dot2 m c t _ j _ ?_
      show (slabAfter (t.val / 24) * 128 + (r.val - 1920)) % 128 * 128 + (slabAfter (t.val / 24) * 128 + (r.val - 1920)) / 128
        = (pos (row t r)).val + 1
      rw [hp, slabAfter, if_neg h0]; omega

theorem out_apply (c : Dev nD) (t : Fin cfg0.N) (r : Fin 2048) (j : Fin 512) :
    out0_6 (grid0.coords t) (iblk m c 0 t) (iblk m c 1 t) (iblk m c 2 t) (iblk m c 3 t) (iblk m c 4 t) (iblk m c 5 t) (ix2 r j)
      = conv (X m c) (W m c) (C m c) (B m c) (ix2 (row t r) (col t j)) := by
  have h2 : (![0, 0] : Fin 2 → ℕ) = fun _ => 0 := by funext a; fin_cases a <;> rfl
  unfold out0_6
  have h3 : (![0, 0, 0] : Fin 3 → ℕ) = fun _ => 0 := by funext a; fin_cases a <;> rfl
  rw [View.canon_unit_zero h2]
  rw [View.ld_unit_zero h3, View.ld_unit_zero h2, View.ld_unit_zero h2, View.ld_unit_zero h2, View.ld_unit_zero h2, View.ld_unit_zero h2, taps_apply, up_block, down_block, mid_apply,
    dot1 m c t r j (pos (row t r)) rfl, blk4_apply, blk4_apply, blk4_apply, blk5_apply]
  rfl

theorem out_array (c : Dev nD) : (dats m 0 c).arrAt 6 cfg0.N = conv (X m c) (W m c) (C m c) (B m c) := by
  refine (dats m 0 c).arrAt_eq_of_cover 6 (conv (X m c) (W m c) (C m c) (B m c)) (fun t _ => ?_) (fun y => ?_)
  · rw [Value.flushed6]
    obtain ⟨e0, e1⟩ := (index t).2.2.2.2.2.2.2
    funext y
    generalize ho : out0_6 (grid0.coords t) (iblk m c 0 t) (iblk m c 1 t) (iblk m c 2 t) (iblk m c 3 t) (iblk m c 4 t) (iblk m c 5 t) = o
    show o ((cfg0.win 6).xinj (grid0.coords t) y) = conv (X m c) (W m c) (C m c) (B m c) (((cfg0.win 6).blk t).view.emb y)
    have hy : (cfg0.win 6).xinj (grid0.coords t) y = (ix2 (y 0) (y 1) : S2048x512.Idx) := by
      funext a; match a with
      | ⟨0, _⟩ => rfl
      | ⟨1, _⟩ => rfl
    refine (congrArg o hy).trans ((congrFun ho.symm _).trans ((out_apply m c t (y 0) (y 1)).trans ?_))
    refine congrArg (conv (X m c) (W m c) (C m c) (B m c)) ?_
    funext a; apply Fin.ext
    match a with
    | ⟨0, _⟩ => show t.val / 24 * 2048 + (y 0).val = win0_6.index t (0 : Fin 2) * 2048 + 1 * (y 0).val; rw [e0]; omega
    | ⟨1, _⟩ => show t.val % 24 * 512 + (y 1).val = win0_6.index t (1 : Fin 2) * 512 + 1 * (y 1).val; rw [e1]; omega
  · have h0 : (y 0).val < 16384 := (y 0).isLt
    have h1 : (y 1).val < 12288 := (y 1).isLt
    have ht : (y 0).val / 2048 * 24 + (y 1).val / 512 < cfg0.N := by rw [show cfg0.N = 192 from N_0]; omega
    obtain ⟨e0, e1⟩ := (index ⟨_, ht⟩).2.2.2.2.2.2.2
    generalize hpt : (⟨_, ht⟩ : Fin cfg0.N) = t at e0 e1
    have hv : t.val = (y 0).val / 2048 * 24 + (y 1).val / 512 := by rw [← hpt]
    refine ⟨t, flush0_6 t, ?_⟩
    show y ∈ ((View.whole main_v6).slice (win0_6.rect t)).set
    rw [View.set_slice_whole, Rect.mem_set_unit]
    intro a
    match a with
    | ⟨0, _⟩ =>
      show win0_6.index t (0 : Fin 2) * 2048 ≤ (y 0).val ∧ (y 0).val < win0_6.index t (0 : Fin 2) * 2048 + 2048
      rw [e0, hv]; omega
    | ⟨1, _⟩ =>
      show win0_6.index t (1 : Fin 2) * 512 ≤ (y 1).val ∧ (y 1).val < win0_6.index t (1 : Fin 2) * 512 + 512
      rw [e1, hv]; omega

end Cert.InConvIdeal.Conv

namespace Cert.InConvReferenceIdeal.Conv

open Cert.InConvReferenceIdeal Cert.InConvReferenceIdeal.Gen Idealize.ShloMosaic
open Cert.InConvIdeal.Conv (proj before behind entry conv pos)

/-- The reference's projection. -/
abbrev hostProj (X : FVec Ideal S16384x4096 .bf16) (W : FVec Ideal S1x4096x12288 .f32) : FVec Ideal S1x16384x12288 .f32 :=
  Host.dotGeneral (F := Ideal) dot_S1x16384x4096_S4096x12288_S1x16384x12288_2_0_01_1_n_n none
    (broadcastInDim S1x16384x4096 ![1, 2] bcast_S16384x4096_S1x16384x4096_1_2 (extf .f32 X bitsLt_bf16_f32))
    (shapeCast S4096x12288 W shapeCasts_S1x4096x12288_S4096x12288)

theorem hostProj_apply (X : FVec Ideal S16384x4096 .bf16) (W : FVec Ideal S1x4096x12288 .f32) (p : Fin 16384) (j : Fin 12288) :
    hostProj X W (ix3 0 p j) = proj X W p j := by
  pointwise [proj]

/-- The padded projection, and the taps. -/
abbrev padded (D : FVec Ideal S1x16384x12288 .f32) : FVec Ideal S1x16386x12288 .f32 :=
  pad S1x16386x12288 ![0, 1, 0] ![0, 1, 0] ![0, 0, 0] D (sitofp .f32 (constantI S_ 32 0#32))
    pads_S1x16384x12288_S1x16386x12288_000_110_000 h_S_
abbrev spread (v : FVec Ideal S12288 .f32) : FVec Ideal S1x16384x12288 .f32 :=
  broadcastInDim S1x16384x12288 ![0, 1, 2] bcast_S1x1x12288_S1x16384x12288_0_1_2
    (broadcastInDim S1x1x12288 ![2] bcast_S12288_S1x1x12288_2 v)

/-- The reference's convolved projection, position by position. -/
abbrev hostConv (D : FVec Ideal S1x16384x12288 .f32) (C : FVec Ideal S1x3x12288 .f32) (B : FVec Ideal S1x12288 .f32) :
    FVec Ideal S1x16384x12288 .f32 :=
  addf (addf (addf
    (mulf (extractStridedSlice S1x16384x12288 ![0, 0, 0] (padded D) slices_S1x16386x12288_S1x16384x12288_0_0_0)
      (spread (shapeCast S12288 (extractStridedSlice S1x1x12288 ![0, 0, 0] C slices_S1x3x12288_S1x1x12288_0_0_0) shapeCasts_S1x1x12288_S12288)))
    (mulf (extractStridedSlice S1x16384x12288 ![0, 1, 0] (padded D) slices_S1x16386x12288_S1x16384x12288_0_1_0)
      (spread (shapeCast S12288 (extractStridedSlice S1x1x12288 ![0, 1, 0] C slices_S1x3x12288_S1x1x12288_0_1_0) shapeCasts_S1x1x12288_S12288))))
    (mulf (extractStridedSlice S1x16384x12288 ![0, 2, 0] (padded D) slices_S1x16386x12288_S1x16384x12288_0_2_0)
      (spread (shapeCast S12288 (extractStridedSlice S1x1x12288 ![0, 2, 0] C slices_S1x3x12288_S1x1x12288_0_2_0) shapeCasts_S1x1x12288_S12288))))
    (spread (shapeCast S12288 B shapeCasts_S1x12288_S12288))

theorem hostConv_apply (D : FVec Ideal S1x16384x12288 .f32) (C : FVec Ideal S1x3x12288 .f32) (B : FVec Ideal S1x12288 .f32)
    (p : Fin 16384) (j : Fin 12288) :
    hostConv D C B (ix3 0 p j)
      = (if h : 1 ≤ p.val then D (ix3 0 ⟨p.val - 1, by omega⟩ j) else 0) * C (ix3 0 0 j) + D (ix3 0 p j) * C (ix3 0 1 j)
        + (if h : p.val + 1 < 16384 then D (ix3 0 ⟨p.val + 1, h⟩ j) else 0) * C (ix3 0 2 j) + B (ix2 0 j) := by
  have hz : (FloatOps.sitofp FTy.f32 0#32 : Ideal FTy.f32) = (0 : EReal) := by
    show (((0#32 : BitVec 32).toInt : ℝ) : EReal) = 0
    simp
  pointwise []
  rw [hz]
  have hb : (if h : 1 ≤ p.val ∧ p.val - 1 < 16384 then D (ix3 0 ⟨p.val - 1, h.2⟩ j) else 0)
      = if h : 1 ≤ p.val then D (ix3 0 ⟨p.val - 1, by omega⟩ j) else (0 : EReal) :=
    dite_congr (propext ⟨fun h => h.1, fun h => ⟨h, by omega⟩⟩) (fun _ => rfl) (fun _ => rfl)
  have hn : (if h : 1 ≤ 2 + p.val ∧ 2 + p.val - 1 < 16384 then D (ix3 0 ⟨2 + p.val - 1, h.2⟩ j) else 0)
      = if h : p.val + 1 < 16384 then D (ix3 0 ⟨p.val + 1, h⟩ j) else (0 : EReal) :=
    dite_congr (propext ⟨fun h => by omega, fun h => by omega⟩)
      (fun _ => congrArg (fun q => D (ix3 0 q j)) (Fin.ext (by show 2 + p.val - 1 = p.val + 1; omega))) (fun _ => rfl)
  rw [hb, hn]

theorem rows_apply (Y : FVec Ideal S1x16384x12288 .f32) (q : Fin 16384) (j : Fin 12288) :
    shapeCast S16384x12288 (transpose S128x128x12288 [1, 0, 2] (shapeCast S128x128x12288 Y shapeCasts_S1x16384x12288_S128x128x12288)
      transposes_S128x128x12288_S128x128x12288_1_0_2) shapeCasts_S128x128x12288_S16384x12288 (ix2 q j)
      = Y (ix3 0 ⟨q.val % 128 * 128 + q.val / 128, by omega⟩ j) := by
  pointwise []

/-- The reference's rows are the same ones. -/
theorem value_eq (X : FVec Ideal S16384x4096 .bf16) (W : FVec Ideal S1x4096x12288 .f32) (C : FVec Ideal S1x3x12288 .f32)
    (B : FVec Ideal S1x12288 .f32) :
    shapeCast S16384x12288 (transpose S128x128x12288 [1, 0, 2] (shapeCast S128x128x12288 (hostConv (hostProj X W) C B)
      shapeCasts_S1x16384x12288_S128x128x12288) transposes_S128x128x12288_S128x128x12288_1_0_2)
      shapeCasts_S128x128x12288_S16384x12288 = conv X W C B := by
  funext y
  obtain ⟨q, j, rfl⟩ : ∃ (q : Fin 16384) (j : Fin 12288), y = (ix2 q j : S16384x12288.Idx) :=
    ⟨y 0, y 1, by funext a; match a with | ⟨0, _⟩ => rfl | ⟨1, _⟩ => rfl⟩
  refine (rows_apply _ q j).trans ((hostConv_apply _ C B (pos q) j).trans ?_)
  show _ = entry X W C B (pos q) j
  generalize pos q = p
  simp only [hostProj_apply X W]
  rfl

end Cert.InConvReferenceIdeal.Conv

end
-- ==== Proof.HyenaOut.lean ====
/- The Hyena mixer's output projection with its residual, over the extended reals: the first point of a column block casts the block's
   weights into the scratch, later points of the block find it there; each block of the output is the residual's block plus a product of
   a block of rows and a block of columns. The output lies in the residual's buffer, and the rows no block covers keep what that holds. -/
module

public import proofs.«01_k».proof.Proof.Gen.HyenaOutIdeal.Value
public import proofs.«01_k».proof.Proof.Gen.HyenaOutReferenceIdeal.Run
public import Idealize.ShloMosaic.Lib.Pointwise
public import Idealize.ShloMosaic.Lib.ValueIdx
public import Idealize.ShloMosaic.Lib.Pipeline.ValueKit
public import Idealize.ShloMosaic.Lib.StableHlo.ReadAt

@[expose] public section

set_option maxRecDepth 16384

noncomputable section

namespace Cert.HyenaOutIdeal.Resid

open Cert.HyenaOutIdeal Cert.HyenaOutIdeal.Gen Idealize.ShloMosaic Idealize.ShloMosaic.TcCoe
open Idealize.SL.Sem

section Body

variable (c : Dev nD) (i : grid0.Coords) (arg2 : Memref sig .tc .vmem S1024x4096 .bf16) (harg2 : arg2.IsWhole)
  (arg3 : Memref sig .tc .vmem S1x4096x512 .f32) (harg3 : arg3.IsWhole) (arg4 : Memref sig .tc .vmem S1024x512 .f32) (harg4 : arg4.IsWhole)
  (arg5 : Memref sig .tc .vmem S1024x512 .f32) (harg5 : arg5.IsWhole) (arg6 : Memref sig .tc .vmem S4096x512 .bf16) (harg6 : arg6.IsWhole)
  (x0 : Vec Ideal S1024x4096 .bf16) (x1 : Vec Ideal S1x4096x512 .f32) (x2 : Vec Ideal S1024x512 .f32) (xs0 : Vec Ideal S4096x512 .bf16)

theorem sout_A (hc0 : cond0_0 i) :
    sout0_A_0 c i arg2 harg2 arg3 harg3 arg4 harg4 arg5 harg5 arg6 harg6 hc0 x0 x1 x2 = k0_pay1 x1 := by
  frame_out

theorem out_A (hc0 : cond0_0 i) :
    out0_A_3 c i arg2 harg2 arg3 harg3 arg4 harg4 arg5 harg5 arg6 harg6 hc0 x0 x1 x2 = k0_pay2 (k0_pay1 x1) x0 x2 := by
  frame_out

theorem out_B (hc0 : ¬cond0_0 i) :
    out0_B_3 c i arg2 harg2 arg3 harg3 arg4 harg4 arg5 harg5 arg6 harg6 hc0 x0 x1 x2 xs0 = k0_pay2 xs0 x0 x2 := by
  frame_out

end Body

/-- The residual plus the product, of the arrays; the samples' rows as they are. -/
def resid (X : Vec Ideal S16384x4096 .bf16) (W : Vec Ideal S1x4096x4096 .f32) (R : Vec Ideal S24576x4096 .f32) :
    Vec Ideal S24576x4096 .f32 := fun y =>
  if h : (y 0).val < 16384 then R y + ∑ k : Fin 4096, X (ix2 ⟨(y 0).val, h⟩ k) * W (ix3 0 k (y 1)) else R y

theorem resid_in (X : Vec Ideal S16384x4096 .bf16) (W : Vec Ideal S1x4096x4096 .f32) (R : Vec Ideal S24576x4096 .f32) (r : Fin 24576)
    (j : Fin 4096) (h : r.val < 16384) :
    resid X W R (ix2 r j) = R (ix2 r j) + ∑ k : Fin 4096, X (ix2 ⟨r.val, h⟩ k) * W (ix3 0 k j) := dif_pos h

theorem resid_out (X : Vec Ideal S16384x4096 .bf16) (W : Vec Ideal S1x4096x4096 .f32) (R : Vec Ideal S24576x4096 .f32) (r : Fin 24576)
    (j : Fin 4096) (h : ¬r.val < 16384) : resid X W R (ix2 r j) = R (ix2 r j) := dif_neg h

theorem pay1_apply (v : Vec Ideal S1x4096x512 .f32) (k : Fin 4096) (j : Fin 512) :
    k0_pay1 v (ix2 k j) = v (ix3 0 k j) := by
  pointwise [k0_pay1]

theorem pay2_apply (w : Vec Ideal S4096x512 .bf16) (x : Vec Ideal S1024x4096 .bf16) (z : Vec Ideal S1024x512 .f32)
    (r : Fin 1024) (j : Fin 512) :
    k0_pay2 w x z (ix2 r j) = z (ix2 r j) + ∑ k : Fin 4096, x (ix2 r k) * w (ix2 k j) := by
  pointwise [k0_pay2]

theorem index : ∀ t : Fin cfg0.N, (win0_0.index t (0 : Fin 2) = t.val % 16 ∧ win0_0.index t (1 : Fin 2) = 0)
    ∧ (win0_1.index t (0 : Fin 3) = 0 ∧ win0_1.index t (1 : Fin 3) = 0 ∧ win0_1.index t (2 : Fin 3) = t.val / 16)
    ∧ (win0_2.index t (0 : Fin 2) = t.val % 16 ∧ win0_2.index t (1 : Fin 2) = t.val / 16)
    ∧ (win0_3.index t (0 : Fin 2) = t.val % 16 ∧ win0_3.index t (1 : Fin 2) = t.val / 16) :=
  (by decide +kernel : ∀ t : Fin grid0.N, (win0_0.index t (0 : Fin 2) = t.val % 16 ∧ win0_0.index t (1 : Fin 2) = 0)
    ∧ (win0_1.index t (0 : Fin 3) = 0 ∧ win0_1.index t (1 : Fin 3) = 0 ∧ win0_1.index t (2 : Fin 3) = t.val / 16)
    ∧ (win0_2.index t (0 : Fin 2) = t.val % 16 ∧ win0_2.index t (1 : Fin 2) = t.val / 16)
    ∧ (win0_3.index t (0 : Fin 2) = t.val % 16 ∧ win0_3.index t (1 : Fin 2) = t.val / 16))

variable (m : (ℓ : Loc nD τ sig) → Buf (Elt Ideal) ℓ)

/-- The arguments. -/
abbrev X (c : Dev nD) : Vec Ideal S16384x4096 .bf16 := m ((c.tc : Thread nD τ).loc main_arg0)
abbrev W (c : Dev nD) : Vec Ideal S1x4096x4096 .f32 := m ((c.tc : Thread nD τ).loc main_arg1)
abbrev R (c : Dev nD) : Vec Ideal S24576x4096 .f32 := m ((c.tc : Thread nD τ).loc main_arg2)

theorem lt_N (t : Fin cfg0.N) : t.val < 128 := lt_of_lt_of_eq t.isLt (show cfg0.N = 128 from N_0)

theorem blk0_apply (c : Dev nD) (t : Fin cfg0.N) (r : Fin 1024) (k : Fin 4096) :
    (iblk m c 0 t : Vec Ideal S1024x4096 .bf16) (ix2 r k) = X m c (ix2 ⟨t.val % 16 * 1024 + r.val, by omega⟩ k) := by
  obtain ⟨e0, e1⟩ := (index t).1
  unfold iblk
  show V m c main_arg0 _ = _
  rw [V_main_arg0]
  refine congrArg (X m c) ?_
  funext a; apply Fin.ext
  match a with
  | ⟨0, _⟩ => show win0_0.index t (0 : Fin 2) * 1024 + 1 * r.val = t.val % 16 * 1024 + r.val; rw [e0]; omega
  | ⟨1, _⟩ => show win0_0.index t (1 : Fin 2) * 4096 + 1 * k.val = k.val; rw [e1]; omega

theorem blk1_apply (c : Dev nD) (t : Fin cfg0.N) (k : Fin 4096) (j : Fin 512) :
    (iblk m c 1 t : Vec Ideal S1x4096x512 .f32) (ix3 0 k j)
      = W m c (ix3 0 k ⟨t.val / 16 * 512 + j.val, by have := lt_N t; omega⟩) := by
  obtain ⟨e0, e1, e2⟩ := (index t).2.1
  unfold iblk
  show V m c main_arg1 _ = _
  rw [V_main_arg1]
  refine congrArg (W m c) ?_
  funext a; apply Fin.ext
  match a with
  | ⟨0, _⟩ => show win0_1.index t (0 : Fin 3) * 1 + 1 * 0 = 0; rw [e0]
  | ⟨1, _⟩ => show win0_1.index t (1 : Fin 3) * 4096 + 1 * k.val = k.val; rw [e1]; omega
  | ⟨2, _⟩ => show win0_1.index t (2 : Fin 3) * 512 + 1 * j.val = t.val / 16 * 512 + j.val; rw [e2]; omega

theorem blk2_apply (c : Dev nD) (t : Fin cfg0.N) (r : Fin 1024) (j : Fin 512) :
    (iblk m c 2 t : Vec Ideal S1024x512 .f32) (ix2 r j)
      = R m c (ix2 ⟨t.val % 16 * 1024 + r.val, by omega⟩ ⟨t.val / 16 * 512 + j.val, by have := lt_N t; omega⟩) := by
  obtain ⟨e0, e1⟩ := (index t).2.2.1
  unfold iblk
  show V m c main_arg2 _ = _
  rw [V_main_arg2]
  refine congrArg (R m c) ?_
  funext a; apply Fin.ext
  match a with
  | ⟨0, _⟩ => show win0_2.index t (0 : Fin 2) * 1024 + 1 * r.val = t.val % 16 * 1024 + r.val; rw [e0]; omega
  | ⟨1, _⟩ => show win0_2.index t (1 : Fin 2) * 512 + 1 * j.val = t.val / 16 * 512 + j.val; rw [e1]; omega

theorem scratch_A (c : Dev nD) (t : Fin cfg0.N) (h0 : t.val % 16 = 0) :
    (outsAt0 m c t.val t.isLt).2 = k0_pay1 (iblk m c 1 t) := by
  rw [outsAt0_A m c t h0]
  dsimp only
  rw [sout_A]

theorem scratch_B (c : Dev nD) (t : Fin cfg0.N) (h0 : ¬t.val % 16 = 0) :
    (outsAt0 m c t.val t.isLt).2 = (outsAt0 m c (t.val - 1) (Nat.lt_of_le_of_lt (Nat.sub_le _ _) t.isLt)).2 := by
  rw [outsAt0_B m c t h0]
  dsimp only
  rfl

/-- What the scratch holds after a point: the weights of the point's column block. -/
theorem scratch (c : Dev nD) (k : Fin 4096) (j : Fin 512) (n : ℕ) : ∀ (t : Fin cfg0.N), t.val = n →
    (outsAt0 m c t.val t.isLt).2 (ix2 k j) = W m c (ix3 0 k ⟨t.val / 16 * 512 + j.val, by have := lt_N t; omega⟩) := by
  induction n with
  | zero =>
    intro t ht
    rw [scratch_A m c t (by omega), pay1_apply, blk1_apply]
  | succ n ih =>
    intro t ht
    by_cases h0 : t.val % 16 = 0
    · rw [scratch_A m c t h0, pay1_apply, blk1_apply]
    · rw [scratch_B m c t h0]
      refine (ih ⟨t.val - 1, Nat.lt_of_le_of_lt (Nat.sub_le _ _) t.isLt⟩ (by dsimp only; omega)).trans ?_
      refine congrArg (fun q => W m c (ix3 0 k q)) (Fin.ext ?_)
      show (t.val - 1) / 16 * 512 + j.val = t.val / 16 * 512 + j.val
      omega

theorem out_apply (c : Dev nD) (t : Fin cfg0.N) (r : Fin 1024) (j : Fin 512) :
    (outsAt0 m c t.val t.isLt).1 (ix2 r j)
      = resid (X m c) (W m c) (R m c) (ix2 ⟨t.val % 16 * 1024 + r.val, by omega⟩ ⟨t.val / 16 * 512 + j.val, by have := lt_N t; omega⟩) := by
  have hw : ∀ k : Fin 4096, (outsAt0 m c t.val t.isLt).2 (ix2 k j) = _ := fun k => scratch m c k j t.val t rfl
  have ho : (outsAt0 m c t.val t.isLt).1 = k0_pay2 (outsAt0 m c t.val t.isLt).2 (iblk m c 0 t) (iblk m c 2 t) := by
    by_cases h0 : t.val % 16 = 0
    · rw [outsAt0_A m c t h0]
      dsimp only
      rw [out_A, sout_A]
    · rw [outsAt0_B m c t h0]
      dsimp only
      rw [out_B]
      rfl
  rw [ho, pay2_apply, blk2_apply]
  rw [resid_in _ _ _ _ _ (show t.val % 16 * 1024 + r.val < 16384 by omega)]
  refine congrArg (R m c _ + ·) (Finset.sum_congr rfl fun k _ => ?_)
  rw [blk0_apply, hw]

/-- What the output's buffer holds before the launch. -/
theorem entry_apply (c : Dev nD) (i : Fin 24576) (j : Fin 4096) : (V m c main_v0 : Vec Ideal S24576x4096 .f32) (ix2 i j) = R m c (ix2 i j) := by
  unfold V
  after_reads_at
  rfl

/-- The blocks cover these rows, and only these. -/
theorem covered (y : S24576x4096.Idx) (h : (y 0).val < 16384) : ∃ t : Fin cfg0.N, y ∈ ((cfg0.win 3).blk t).view.set := by
  have h0 : (y 0).val < 24576 := (y 0).isLt
  have h1 : (y 1).val < 4096 := (y 1).isLt
  have ht : (y 1).val / 512 * 16 + (y 0).val / 1024 < cfg0.N := by rw [show cfg0.N = 128 from N_0]; omega
  obtain ⟨e0, e1⟩ := (index ⟨_, ht⟩).2.2.2
  generalize hpt : (⟨_, ht⟩ : Fin cfg0.N) = t at e0 e1
  have hv : t.val = (y 1).val / 512 * 16 + (y 0).val / 1024 := by rw [← hpt]
  refine ⟨t, ?_⟩
  show y ∈ ((View.whole main_v0).slice (win0_3.rect t)).set
  rw [View.set_slice_whole, Rect.mem_set_unit]
  intro a
  match a with
  | ⟨0, _⟩ =>
    show win0_3.index t (0 : Fin 2) * 1024 ≤ (y 0).val ∧ (y 0).val < win0_3.index t (0 : Fin 2) * 1024 + 1024
    rw [e0, hv]; omega
  | ⟨1, _⟩ =>
    show win0_3.index t (1 : Fin 2) * 512 ≤ (y 1).val ∧ (y 1).val < win0_3.index t (1 : Fin 2) * 512 + 512
    rw [e1, hv]; omega
theorem rows_of_mem (y : S24576x4096.Idx) (t : Fin cfg0.N) (h : y ∈ ((cfg0.win 3).blk t).view.set) : (y 0).val < 16384 := by
  obtain ⟨e0, -⟩ := (index t).2.2.2
  have hs : y ∈ ((View.whole main_v0).slice (win0_3.rect t)).set := h
  rw [View.set_slice_whole, Rect.mem_set_unit] at hs
  have h0 : win0_3.index t (0 : Fin 2) * 1024 ≤ (y 0).val ∧ (y 0).val < win0_3.index t (0 : Fin 2) * 1024 + 1024 := hs 0
  rw [e0] at h0
  omega

/-- What a point writes back. -/
theorem flushed_eq (c : Dev nD) (t : Fin cfg0.N) :
    (dats m 0 c).flushed 3 t = ((cfg0.win 3).blk t).view.read (Elt Ideal) (resid (X m c) (W m c) (R m c)) := by
  rw [Value.flushed3]
  obtain ⟨e0, e1⟩ := (index t).2.2.2
  funext z
  show (outsAt0 m c t.val t.isLt).1 ((cfg0.win 3).xinj (grid0.coords t) z) = resid (X m c) (W m c) (R m c) (((cfg0.win 3).blk t).view.emb z)
  have hz : (cfg0.win 3).xinj (grid0.coords t) z = (ix2 (z 0) (z 1) : S1024x512.Idx) := by
    funext a; match a with
    | ⟨0, _⟩ => rfl
    | ⟨1, _⟩ => rfl
  refine (congrArg (outsAt0 m c t.val t.isLt).1 hz).trans ((out_apply m c t (z 0) (z 1)).trans ?_)
  refine congrArg (resid (X m c) (W m c) (R m c)) ?_
  funext a; apply Fin.ext
  match a with
  | ⟨0, _⟩ => show t.val % 16 * 1024 + (z 0).val = win0_3.index t (0 : Fin 2) * 1024 + 1 * (z 0).val; rw [e0]; omega
  | ⟨1, _⟩ => show t.val / 16 * 512 + (z 1).val = win0_3.index t (1 : Fin 2) * 512 + 1 * (z 1).val; rw [e1]; omega

theorem out_array (c : Dev nD) : (dats m 0 c).arrAt 3 cfg0.N = resid (X m c) (W m c) (R m c) := by
  funext y
  by_cases h : (y 0).val < 16384
  · obtain ⟨t, hy⟩ := covered y h
    exact (dats m 0 c).arrAt_apply_of_mem 3 (resid (X m c) (W m c) (R m c)) (fun t _ => flushed_eq m c t) cfg0.N t y t.isLt (flush0_3 t) hy
  · rw [Value.entry3 m c y fun t _ hy => h (rows_of_mem y t hy)]
    obtain ⟨i, j, rfl⟩ : ∃ (i : Fin 24576) (j : Fin 4096), y = (ix2 i j : S24576x4096.Idx) :=
      ⟨y 0, y 1, by funext a; match a with | ⟨0, _⟩ => rfl | ⟨1, _⟩ => rfl⟩
    exact (entry_apply m c i j).trans (resid_out _ _ _ i j h).symm

end Cert.HyenaOutIdeal.Resid

namespace Cert.HyenaOutReferenceIdeal.Resid

open Cert.HyenaOutReferenceIdeal Cert.HyenaOutReferenceIdeal.Gen Idealize.ShloMosaic

/-- The reference's value is the same one. -/
theorem value_eq (X : FVec Ideal S16384x4096 .bf16) (W : FVec Ideal S1x4096x4096 .f32) (R : FVec Ideal S24576x4096 .f32) :
    concatenate S24576x4096 0 [⟨S16384x4096, addf (extractStridedSlice S16384x4096 ![0, 0] R slices_S24576x4096_S16384x4096_0_0)
        (Host.dotGeneral (F := Ideal) dot_S16384x4096_S4096x4096_S16384x4096_1_0_0_1_n_n none (extf .f32 X bitsLt_bf16_f32)
          (shapeCast S4096x4096 W shapeCasts_S1x4096x4096_S4096x4096))⟩,
      ⟨S8192x4096, extractStridedSlice S8192x4096 ![16384, 0] R slices_S24576x4096_S8192x4096_16384_0⟩]
      concatenates_S16384x4096_S8192x4096_S24576x4096_d0 = Cert.HyenaOutIdeal.Resid.resid X W R := by
  funext y
  obtain ⟨r, j, rfl⟩ : ∃ (r : Fin 24576) (j : Fin 4096), y = (ix2 r j : S24576x4096.Idx) :=
    ⟨y 0, y 1, by funext a; match a with | ⟨0, _⟩ => rfl | ⟨1, _⟩ => rfl⟩
  pointwise [Cert.HyenaOutIdeal.Resid.resid]
  by_cases h : r.val < 16384
  · rw [dif_pos h, dif_pos h]
  · rw [dif_neg h, dif_neg h]
    exact congrArg (fun q => R (ix2 q j)) (Fin.ext (by show 16384 + (r.val - 16384) = r.val; omega))

end Cert.HyenaOutReferenceIdeal.Resid

end
-- ==== Proof.HgrnOut.lean ====
/- The HGRN mixer's output projection of the samples with its residual, over the extended reals: the first point of a column block casts
   the block's weights into the scratch, later points of the block find it there; each block of the output is the residual's block plus a
   product of a block of rows and a block of columns. The output lies in the buffer holding the prompt's rows, which no block covers. -/
module

public import proofs.«01_k».proof.Proof.Gen.HgrnOutIdeal.Value
public import proofs.«01_k».proof.Proof.Gen.HgrnOutReferenceIdeal.Run
public import Idealize.ShloMosaic.Lib.Pointwise
public import Idealize.ShloMosaic.Lib.ValueIdx
public import Idealize.ShloMosaic.Lib.Pipeline.ValueKit
public import Idealize.ShloMosaic.Lib.StableHlo.ReadAt

@[expose] public section

set_option maxRecDepth 16384

noncomputable section

namespace Cert.HgrnOutIdeal.Resid

open Cert.HgrnOutIdeal Cert.HgrnOutIdeal.Gen Idealize.ShloMosaic Idealize.ShloMosaic.TcCoe
open Idealize.SL.Sem

section Body

variable (c : Dev nD) (i : grid0.Coords) (arg2 : Memref sig .tc .vmem S1024x4096 .bf16) (harg2 : arg2.IsWhole)
  (arg3 : Memref sig .tc .vmem S1x4096x512 .f32) (harg3 : arg3.IsWhole) (arg4 : Memref sig .tc .vmem S1024x512 .f32) (harg4 : arg4.IsWhole)
  (arg5 : Memref sig .tc .vmem S1024x512 .f32) (harg5 : arg5.IsWhole) (arg6 : Memref sig .tc .vmem S4096x512 .bf16) (harg6 : arg6.IsWhole)
  (x0 : Vec Ideal S1024x4096 .bf16) (x1 : Vec Ideal S1x4096x512 .f32) (x2 : Vec Ideal S1024x512 .f32) (xs0 : Vec Ideal S4096x512 .bf16)

theorem sout_A (hc0 : cond0_0 i) :
    sout0_A_0 c i arg2 harg2 arg3 harg3 arg4 harg4 arg5 harg5 arg6 harg6 hc0 x0 x1 x2 = k0_pay1 x1 := by
  frame_out

theorem out_A (hc0 : cond0_0 i) :
    out0_A_3 c i arg2 harg2 arg3 harg3 arg4 harg4 arg5 harg5 arg6 harg6 hc0 x0 x1 x2 = k0_pay2 (k0_pay1 x1) x0 x2 := by
  frame_out

theorem out_B (hc0 : ¬cond0_0 i) :
    out0_B_3 c i arg2 harg2 arg3 harg3 arg4 harg4 arg5 harg5 arg6 harg6 hc0 x0 x1 x2 xs0 = k0_pay2 xs0 x0 x2 := by
  frame_out

end Body

/-- The residual plus the product, of the arrays, below the prompt's rows as they are. -/
def resid (X : Vec Ideal S8192x4096 .bf16) (W : Vec Ideal S1x4096x4096 .f32) (R : Vec Ideal S8192x4096 .f32)
    (P : Vec Ideal S24576x4096 .f32) : Vec Ideal S24576x4096 .f32 := fun y =>
  if (y 0).val < 16384 then P y
  else R (ix2 ⟨(y 0).val - 16384, by have : (y 0).val < 24576 := (y 0).isLt; omega⟩ (y 1))
    + ∑ k : Fin 4096, X (ix2 ⟨(y 0).val - 16384, by have : (y 0).val < 24576 := (y 0).isLt; omega⟩ k) * W (ix3 0 k (y 1))

theorem resid_in (X : Vec Ideal S8192x4096 .bf16) (W : Vec Ideal S1x4096x4096 .f32) (R : Vec Ideal S8192x4096 .f32)
    (P : Vec Ideal S24576x4096 .f32) (q : Fin 8192) (r : Fin 24576) (j : Fin 4096) (h : r.val = q.val + 16384) :
    resid X W R P (ix2 r j) = R (ix2 q j) + ∑ k : Fin 4096, X (ix2 q k) * W (ix3 0 k j) := by
  have hr : r.val - 16384 < 8192 := by omega
  obtain rfl : q = ⟨r.val - 16384, hr⟩ := Fin.ext (by show q.val = r.val - 16384; omega)
  exact if_neg (show ¬r.val < 16384 by omega)

theorem resid_out (X : Vec Ideal S8192x4096 .bf16) (W : Vec Ideal S1x4096x4096 .f32) (R : Vec Ideal S8192x4096 .f32)
    (P : Vec Ideal S24576x4096 .f32) (r : Fin 24576) (j : Fin 4096) (h : r.val < 16384) :
    resid X W R P (ix2 r j) = P (ix2 r j) := if_pos h

theorem pay1_apply (v : Vec Ideal S1x4096x512 .f32) (k : Fin 4096) (j : Fin 512) :
    k0_pay1 v (ix2 k j) = v (ix3 0 k j) := by
  pointwise [k0_pay1]

theorem pay2_apply (w : Vec Ideal S4096x512 .bf16) (x : Vec Ideal S1024x4096 .bf16) (z : Vec Ideal S1024x512 .f32)
    (r : Fin 1024) (j : Fin 512) :
    k0_pay2 w x z (ix2 r j) = z (ix2 r j) + ∑ k : Fin 4096, x (ix2 r k) * w (ix2 k j) := by
  pointwise [k0_pay2]

theorem index : ∀ t : Fin cfg0.N, (win0_0.index t (0 : Fin 2) = t.val % 8 ∧ win0_0.index t (1 : Fin 2) = 0)
    ∧ (win0_1.index t (0 : Fin 3) = 0 ∧ win0_1.index t (1 : Fin 3) = 0 ∧ win0_1.index t (2 : Fin 3) = t.val / 8)
    ∧ (win0_2.index t (0 : Fin 2) = t.val % 8 ∧ win0_2.index t (1 : Fin 2) = t.val / 8)
    ∧ (win0_3.index t (0 : Fin 2) = t.val % 8 + 16 ∧ win0_3.index t (1 : Fin 2) = t.val / 8) :=
  (by decide +kernel : ∀ t : Fin grid0.N, (win0_0.index t (0 : Fin 2) = t.val % 8 ∧ win0_0.index t (1 : Fin 2) = 0)
    ∧ (win0_1.index t (0 : Fin 3) = 0 ∧ win0_1.index t (1 : Fin 3) = 0 ∧ win0_1.index t (2 : Fin 3) = t.val / 8)
    ∧ (win0_2.index t (0 : Fin 2) = t.val % 8 ∧ win0_2.index t (1 : Fin 2) = t.val / 8)
    ∧ (win0_3.index t (0 : Fin 2) = t.val % 8 + 16 ∧ win0_3.index t (1 : Fin 2) = t.val / 8))

variable (m : (ℓ : Loc nD τ sig) → Buf (Elt Ideal) ℓ)

/-- The arguments. -/
abbrev X (c : Dev nD) : Vec Ideal S8192x4096 .bf16 := m ((c.tc : Thread nD τ).loc main_arg0)
abbrev W (c : Dev nD) : Vec Ideal S1x4096x4096 .f32 := m ((c.tc : Thread nD τ).loc main_arg1)
abbrev R (c : Dev nD) : Vec Ideal S8192x4096 .f32 := m ((c.tc : Thread nD τ).loc main_arg2)
abbrev P (c : Dev nD) : Vec Ideal S24576x4096 .f32 := m ((c.tc : Thread nD τ).loc main_arg3)

theorem lt_N (t : Fin cfg0.N) : t.val < 64 := lt_of_lt_of_eq t.isLt (show cfg0.N = 64 from N_0)

theorem blk0_apply (c : Dev nD) (t : Fin cfg0.N) (r : Fin 1024) (k : Fin 4096) :
    (iblk m c 0 t : Vec Ideal S1024x4096 .bf16) (ix2 r k) = X m c (ix2 ⟨t.val % 8 * 1024 + r.val, by omega⟩ k) := by
  obtain ⟨e0, e1⟩ := (index t).1
  unfold iblk
  show V m c main_arg0 _ = _
  rw [V_main_arg0]
  refine congrArg (X m c) ?_
  funext a; apply Fin.ext
  match a with
  | ⟨0, _⟩ => show win0_0.index t (0 : Fin 2) * 1024 + 1 * r.val = t.val % 8 * 1024 + r.val; rw [e0]; omega
  | ⟨1, _⟩ => show win0_0.index t (1 : Fin 2) * 4096 + 1 * k.val = k.val; rw [e1]; omega

theorem blk1_apply (c : Dev nD) (t : Fin cfg0.N) (k : Fin 4096) (j : Fin 512) :
    (iblk m c 1 t : Vec Ideal S1x4096x512 .f32) (ix3 0 k j)
      = W m c (ix3 0 k ⟨t.val / 8 * 512 + j.val, by have := lt_N t; omega⟩) := by
  obtain ⟨e0, e1, e2⟩ := (index t).2.1
  unfold iblk
  show V m c main_arg1 _ = _
  rw [V_main_arg1]
  refine congrArg (W m c) ?_
  funext a; apply Fin.ext
  match a with
  | ⟨0, _⟩ => show win0_1.index t (0 : Fin 3) * 1 + 1 * 0 = 0; rw [e0]
  | ⟨1, _⟩ => show win0_1.index t (1 : Fin 3) * 4096 + 1 * k.val = k.val; rw [e1]; omega
  | ⟨2, _⟩ => show win0_1.index t (2 : Fin 3) * 512 + 1 * j.val = t.val / 8 * 512 + j.val; rw [e2]; omega

theorem blk2_apply (c : Dev nD) (t : Fin cfg0.N) (r : Fin 1024) (j : Fin 512) :
    (iblk m c 2 t : Vec Ideal S1024x512 .f32) (ix2 r j)
      = R m c (ix2 ⟨t.val % 8 * 1024 + r.val, by omega⟩ ⟨t.val / 8 * 512 + j.val, by have := lt_N t; omega⟩) := by
  obtain ⟨e0, e1⟩ := (index t).2.2.1
  unfold iblk
  show V m c main_arg2 _ = _
  rw [V_main_arg2]
  refine congrArg (R m c) ?_
  funext a; apply Fin.ext
  match a with
  | ⟨0, _⟩ => show win0_2.index t (0 : Fin 2) * 1024 + 1 * r.val = t.val % 8 * 1024 + r.val; rw [e0]; omega
  | ⟨1, _⟩ => show win0_2.index t (1 : Fin 2) * 512 + 1 * j.val = t.val / 8 * 512 + j.val; rw [e1]; omega

theorem scratch_A (c : Dev nD) (t : Fin cfg0.N) (h0 : t.val % 8 = 0) :
    (outsAt0 m c t.val t.isLt).2 = k0_pay1 (iblk m c 1 t) := by
  rw [outsAt0_A m c t h0]
  dsimp only
  rw [sout_A]

theorem scratch_B (c : Dev nD) (t : Fin cfg0.N) (h0 : ¬t.val % 8 = 0) :
    (outsAt0 m c t.val t.isLt).2 = (outsAt0 m c (t.val - 1) (Nat.lt_of_le_of_lt (Nat.sub_le _ _) t.isLt)).2 := by
  rw [outsAt0_B m c t h0]
  dsimp only
  rfl

/-- What the scratch holds after a point: the weights of the point's column block. -/
theorem scratch (c : Dev nD) (k : Fin 4096) (j : Fin 512) (n : ℕ) : ∀ (t : Fin cfg0.N), t.val = n →
    (outsAt0 m c t.val t.isLt).2 (ix2 k j) = W m c (ix3 0 k ⟨t.val / 8 * 512 + j.val, by have := lt_N t; omega⟩) := by
  induction n with
  | zero =>
    intro t ht
    rw [scratch_A m c t (by omega), pay1_apply, blk1_apply]
  | succ n ih =>
    intro t ht
    by_cases h0 : t.val % 8 = 0
    · rw [scratch_A m c t h0, pay1_apply, blk1_apply]
    · rw [scratch_B m c t h0]
      refine (ih ⟨t.val - 1, Nat.lt_of_le_of_lt (Nat.sub_le _ _) t.isLt⟩ (by dsimp only; omega)).trans ?_
      refine congrArg (fun q => W m c (ix3 0 k q)) (Fin.ext ?_)
      show (t.val - 1) / 8 * 512 + j.val = t.val / 8 * 512 + j.val
      omega

theorem out_apply (c : Dev nD) (t : Fin cfg0.N) (r : Fin 1024) (j : Fin 512) :
    (outsAt0 m c t.val t.isLt).1 (ix2 r j)
      = resid (X m c) (W m c) (R m c) (P m c) (ix2 ⟨t.val % 8 * 1024 + r.val + 16384, by omega⟩ ⟨t.val / 8 * 512 + j.val, by have := lt_N t; omega⟩) := by
  have hw : ∀ k : Fin 4096, (outsAt0 m c t.val t.isLt).2 (ix2 k j) = _ := fun k => scratch m c k j t.val t rfl
  have ho : (outsAt0 m c t.val t.isLt).1 = k0_pay2 (outsAt0 m c t.val t.isLt).2 (iblk m c 0 t) (iblk m c 2 t) := by
    by_cases h0 : t.val % 8 = 0
    · rw [outsAt0_A m c t h0]
      dsimp only
      rw [out_A, sout_A]
    · rw [outsAt0_B m c t h0]
      dsimp only
      rw [out_B]
      rfl
  rw [ho, pay2_apply, blk2_apply]
  rw [resid_in _ _ _ _ ⟨t.val % 8 * 1024 + r.val, by omega⟩ _ _ rfl]
  refine congrArg (R m c _ + ·) (Finset.sum_congr rfl fun k _ => ?_)
  rw [blk0_apply, hw]

/-- What the output's buffer holds before the launch. -/
theorem entry_apply (c : Dev nD) (i : Fin 24576) (j : Fin 4096) : (V m c main_v0 : Vec Ideal S24576x4096 .f32) (ix2 i j) = P m c (ix2 i j) := by
  unfold V
  after_reads_at
  rfl

/-- The blocks cover these rows, and only these. -/
theorem covered (y : S24576x4096.Idx) (h : ¬(y 0).val < 16384) : ∃ t : Fin cfg0.N, y ∈ ((cfg0.win 3).blk t).view.set := by
  have h0 : (y 0).val < 24576 := (y 0).isLt
  have h1 : (y 1).val < 4096 := (y 1).isLt
  have ht : (y 1).val / 512 * 8 + ((y 0).val / 1024 - 16) < cfg0.N := by rw [show cfg0.N = 64 from N_0]; omega
  obtain ⟨e0, e1⟩ := (index ⟨_, ht⟩).2.2.2
  generalize hpt : (⟨_, ht⟩ : Fin cfg0.N) = t at e0 e1
  have hv : t.val = (y 1).val / 512 * 8 + ((y 0).val / 1024 - 16) := by rw [← hpt]
  refine ⟨t, ?_⟩
  show y ∈ ((View.whole main_v0).slice (win0_3.rect t)).set
  rw [View.set_slice_whole, Rect.mem_set_unit]
  intro a
  match a with
  | ⟨0, _⟩ =>
    show win0_3.index t (0 : Fin 2) * 1024 ≤ (y 0).val ∧ (y 0).val < win0_3.index t (0 : Fin 2) * 1024 + 1024
    rw [e0, hv]; omega
  | ⟨1, _⟩ =>
    show win0_3.index t (1 : Fin 2) * 512 ≤ (y 1).val ∧ (y 1).val < win0_3.index t (1 : Fin 2) * 512 + 512
    rw [e1, hv]; omega
theorem rows_of_mem (y : S24576x4096.Idx) (t : Fin cfg0.N) (h : y ∈ ((cfg0.win 3).blk t).view.set) : ¬(y 0).val < 16384 := by
  obtain ⟨e0, -⟩ := (index t).2.2.2
  have hs : y ∈ ((View.whole main_v0).slice (win0_3.rect t)).set := h
  rw [View.set_slice_whole, Rect.mem_set_unit] at hs
  have h0 : win0_3.index t (0 : Fin 2) * 1024 ≤ (y 0).val ∧ (y 0).val < win0_3.index t (0 : Fin 2) * 1024 + 1024 := hs 0
  rw [e0] at h0
  omega

/-- What a point writes back. -/
theorem flushed_eq (c : Dev nD) (t : Fin cfg0.N) :
    (dats m 0 c).flushed 3 t = ((cfg0.win 3).blk t).view.read (Elt Ideal) (resid (X m c) (W m c) (R m c) (P m c)) := by
  rw [Value.flushed3]
  obtain ⟨e0, e1⟩ := (index t).2.2.2
  funext z
  show (outsAt0 m c t.val t.isLt).1 ((cfg0.win 3).xinj (grid0.coords t) z) = resid (X m c) (W m c) (R m c) (P m c) (((cfg0.win 3).blk t).view.emb z)
  have hz : (cfg0.win 3).xinj (grid0.coords t) z = (ix2 (z 0) (z 1) : S1024x512.Idx) := by
    funext a; match a with
    | ⟨0, _⟩ => rfl
    | ⟨1, _⟩ => rfl
  refine (congrArg (outsAt0 m c t.val t.isLt).1 hz).trans ((out_apply m c t (z 0) (z 1)).trans ?_)
  refine congrArg (resid (X m c) (W m c) (R m c) (P m c)) ?_
  funext a; apply Fin.ext
  match a with
  | ⟨0, _⟩ => show t.val % 8 * 1024 + (z 0).val + 16384 = win0_3.index t (0 : Fin 2) * 1024 + 1 * (z 0).val; rw [e0]; omega
  | ⟨1, _⟩ => show t.val / 8 * 512 + (z 1).val = win0_3.index t (1 : Fin 2) * 512 + 1 * (z 1).val; rw [e1]; omega

theorem out_array (c : Dev nD) : (dats m 0 c).arrAt 3 cfg0.N = resid (X m c) (W m c) (R m c) (P m c) := by
  funext y
  by_cases h : ¬(y 0).val < 16384
  · obtain ⟨t, hy⟩ := covered y h
    exact (dats m 0 c).arrAt_apply_of_mem 3 (resid (X m c) (W m c) (R m c) (P m c)) (fun t _ => flushed_eq m c t) cfg0.N t y t.isLt (flush0_3 t) hy
  · rw [Value.entry3 m c y fun t _ hy => h (rows_of_mem y t hy)]
    obtain ⟨i, j, rfl⟩ : ∃ (i : Fin 24576) (j : Fin 4096), y = (ix2 i j : S24576x4096.Idx) :=
      ⟨y 0, y 1, by funext a; match a with | ⟨0, _⟩ => rfl | ⟨1, _⟩ => rfl⟩
    exact (entry_apply m c i j).trans (resid_out _ _ _ _ i j (not_not.1 h)).symm

end Cert.HgrnOutIdeal.Resid

namespace Cert.HgrnOutReferenceIdeal.Resid

open Cert.HgrnOutReferenceIdeal Cert.HgrnOutReferenceIdeal.Gen Idealize.ShloMosaic

/-- The reference's value is the same one. -/
theorem value_eq (X : FVec Ideal S8192x4096 .bf16) (W : FVec Ideal S1x4096x4096 .f32) (R : FVec Ideal S8192x4096 .f32)
    (P : FVec Ideal S24576x4096 .f32) :
    concatenate S24576x4096 0 [⟨S16384x4096, extractStridedSlice S16384x4096 ![0, 0] P slices_S24576x4096_S16384x4096_0_0⟩,
      ⟨S8192x4096, addf R
        (Host.dotGeneral (F := Ideal) dot_S8192x4096_S4096x4096_S8192x4096_1_0_0_1_n_n none (extf .f32 X bitsLt_bf16_f32)
          (shapeCast S4096x4096 W shapeCasts_S1x4096x4096_S4096x4096))⟩]
      concatenates_S16384x4096_S8192x4096_S24576x4096_d0 = Cert.HgrnOutIdeal.Resid.resid X W R P := by
  funext y
  obtain ⟨r, j, rfl⟩ : ∃ (r : Fin 24576) (j : Fin 4096), y = (ix2 r j : S24576x4096.Idx) :=
    ⟨y 0, y 1, by funext a; match a with | ⟨0, _⟩ => rfl | ⟨1, _⟩ => rfl⟩
  pointwise [Cert.HgrnOutIdeal.Resid.resid]
  by_cases h : r.val < 16384
  · rw [dif_pos h, if_pos h]
  · rw [dif_neg h, if_neg h]

end Cert.HgrnOutReferenceIdeal.Resid

end
-- ==== Proof.HgrnNorm.lean ====
/- The norm before layer 0's mixer, of the prompt's rows, over the extended reals: each row of a block is scaled by the reciprocal root of
   its mean square and by the layer's gain, as the reference has it for the whole array.
 -/
module

public import proofs.«01_k».proof.Proof.Gen.HgrnNormIdeal.Value
public import proofs.«01_k».proof.Proof.Gen.HgrnNormReferenceIdeal.Run
public import Idealize.ShloMosaic.Lib.Pointwise
public import Idealize.ShloMosaic.Lib.ValueIdx
public import Idealize.ShloMosaic.Lib.StableHlo.ReadAt

@[expose] public section

set_option maxRecDepth 16384

noncomputable section

namespace Cert.HgrnNormIdeal.Norm

open Cert.HgrnNormIdeal Cert.HgrnNormIdeal.Gen Idealize.ShloMosaic Idealize.ShloMosaic.TcCoe
open Idealize.SL.Sem

/-- Row `r` over its root mean square, times the gain, at `j`. -/
def entry (X : Vec Ideal S16384x4096 .f32) (G : Vec Ideal S2x4096 .f32) (r : Fin 16384) (j : Fin 4096) : EReal :=
  X (ix2 r j) * Ideal.rsqrt (Ideal.div (∑ k : Fin 4096, X (ix2 r k) * X (ix2 r k)) (Ideal.ofBits .f32 0x45800000#32)
    + Ideal.ofBits .f32 0x358637BD#32) * G (ix2 0 j)

theorem pay_apply (x : Vec Ideal S512x4096 .f32) (g : Vec Ideal S1x4096 .f32) (r : Fin 512) (j : Fin 4096) :
    k0_pay1 x g (ix2 r j) = x (ix2 r j) * Ideal.rsqrt (Ideal.div (∑ k : Fin 4096, x (ix2 r k) * x (ix2 r k))
      (Ideal.ofBits .f32 0x45800000#32) + Ideal.ofBits .f32 0x358637BD#32) * g (ix2 0 j) := by
  pointwise [k0_pay1]

theorem index : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0) :=
  (by decide +kernel : ∀ t : Fin grid0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0))

variable (m : (ℓ : Loc nD τ sig) → Buf (Elt Ideal) ℓ)

/-- The arguments. -/
abbrev X (c : Dev nD) : Vec Ideal S16384x4096 .f32 := m ((c.tc : Thread nD τ).loc main_arg0)
abbrev G (c : Dev nD) : Vec Ideal S2x4096 .f32 := m ((c.tc : Thread nD τ).loc main_arg1)

/-- The result: the norms of all rows. -/
def normed (X : Vec Ideal S16384x4096 .f32) (G : Vec Ideal S2x4096 .f32) : Vec Ideal S16384x4096 .bf16 := fun y =>
  entry X G ⟨(y 0).val, by have : (y 0).val < 16384 := (y 0).isLt; omega⟩ (y 1)

theorem lt_N (t : Fin cfg0.N) : t.val < 32 := lt_of_lt_of_eq t.isLt (show cfg0.N = 32 from N_0)

theorem blk0_apply (c : Dev nD) (t : Fin cfg0.N) (r : Fin 512) (k : Fin 4096) :
    (iblk m c 0 t : Vec Ideal S512x4096 .f32) (ix2 r k)
      = X m c (ix2 ⟨t.val * 512 + r.val, by have := lt_N t; omega⟩ k) := by
  obtain ⟨e0, e1⟩ := (index t).1
  unfold iblk
  show V m c main_arg0 _ = _
  rw [V_main_arg0]
  refine congrArg (X m c) ?_
  funext a; apply Fin.ext
  match a with
  | ⟨0, _⟩ => show win0_0.index t (0 : Fin 2) * 512 + 1 * r.val = t.val * 512 + r.val; rw [e0]; omega
  | ⟨1, _⟩ => show win0_0.index t (1 : Fin 2) * 4096 + 1 * k.val = k.val; rw [e1]; omega

/-- The gain's row holds the gain. -/
theorem gain_apply (c : Dev nD) (j : Fin 4096) : (V m c main_v2 : Vec Ideal S1x4096 .f32) (ix2 0 j) = G m c (ix2 0 j) := by
  unfold V
  after_reads_at

theorem blk1_apply (c : Dev nD) (t : Fin cfg0.N) (j : Fin 4096) :
    (iblk m c 1 t : Vec Ideal S1x4096 .f32) (ix2 0 j) = G m c (ix2 0 j) := by
  obtain ⟨e0, e1⟩ := (index t).2.1
  unfold iblk
  refine (congrArg (V m c main_v2) ?_).trans (gain_apply m c j)
  funext a; apply Fin.ext
  match a with
  | ⟨0, _⟩ => show win0_1.index t (0 : Fin 2) * 1 + 1 * 0 = 0; rw [e0]
  | ⟨1, _⟩ => show win0_1.index t (1 : Fin 2) * 4096 + 1 * j.val = j.val; rw [e1]; omega

theorem out_apply (c : Dev nD) (t : Fin cfg0.N) (r : Fin 512) (j : Fin 4096) :
    out0_2 (iblk m c 0 t) (iblk m c 1 t) (ix2 r j)
      = normed (X m c) (G m c) (ix2 ⟨t.val * 512 + r.val, by have := lt_N t; omega⟩ j) := by
  unfold out0_2
  rw [View.canon_unit_zero (by funext a; fin_cases a <;> rfl), View.ld_unit_zero (by funext a; fin_cases a <;> rfl),
    View.ld_unit_zero (by funext a; fin_cases a <;> rfl), pay_apply, blk1_apply]
  simp only [blk0_apply]
  rfl

theorem out_array (c : Dev nD) : (dats m 0 c).arrAt 2 cfg0.N = normed (X m c) (G m c) := by
  refine (dats m 0 c).arrAt_eq_of_cover 2 (normed (X m c) (G m c)) (fun t _ => ?_) (fun y => ?_)
  · rw [Value.flushed2]
    obtain ⟨e0, e1⟩ := (index t).2.2
    funext y
    show out0_2 (iblk m c 0 t) (iblk m c 1 t) ((cfg0.win 2).xinj (grid0.coords t) y)
      = normed (X m c) (G m c) (((cfg0.win 2).blk t).view.emb y)
    have hy : (cfg0.win 2).xinj (grid0.coords t) y = (ix2 (y 0) (y 1) : S512x4096.Idx) := by
      funext a; match a with
      | ⟨0, _⟩ => rfl
      | ⟨1, _⟩ => rfl
    refine (congrArg (out0_2 (iblk m c 0 t) (iblk m c 1 t)) hy).trans ((out_apply m c t (y 0) (y 1)).trans ?_)
    refine congrArg (normed (X m c) (G m c)) ?_
    funext a; apply Fin.ext
    match a with
    | ⟨0, _⟩ => show t.val * 512 + (y 0).val = win0_2.index t (0 : Fin 2) * 512 + 1 * (y 0).val; rw [e0]; omega
    | ⟨1, _⟩ => show (y 1).val = win0_2.index t (1 : Fin 2) * 4096 + 1 * (y 1).val; rw [e1]; omega
  · have h0 : (y 0).val < 16384 := (y 0).isLt
    have h1 : (y 1).val < 4096 := (y 1).isLt
    have ht : (y 0).val / 512 < cfg0.N := by rw [show cfg0.N = 32 from N_0]; omega
    obtain ⟨e0, e1⟩ := (index ⟨_, ht⟩).2.2
    generalize hpt : (⟨_, ht⟩ : Fin cfg0.N) = t at e0 e1
    have hv : t.val = (y 0).val / 512 := by rw [← hpt]
    refine ⟨t, flush0_2 t, ?_⟩
    show y ∈ ((View.whole main_v3).slice (win0_2.rect t)).set
    rw [View.set_slice_whole, Rect.mem_set_unit]
    intro a
    match a with
    | ⟨0, _⟩ =>
      show win0_2.index t (0 : Fin 2) * 512 ≤ (y 0).val ∧ (y 0).val < win0_2.index t (0 : Fin 2) * 512 + 512
      rw [e0, hv]; omega
    | ⟨1, _⟩ =>
      show win0_2.index t (1 : Fin 2) * 4096 ≤ (y 1).val ∧ (y 1).val < win0_2.index t (1 : Fin 2) * 4096 + 4096
      rw [e1]; omega

end Cert.HgrnNormIdeal.Norm

namespace Cert.HgrnNormReferenceIdeal.Norm

open Cert.HgrnNormReferenceIdeal Cert.HgrnNormReferenceIdeal.Gen Idealize.ShloMosaic

/-- The reference's norm of all rows. -/
abbrev hostNorm (X : FVec Ideal S16384x4096 .f32) (G : FVec Ideal S2x4096 .f32) : FVec Ideal S16384x4096 .f32 :=
  mulf (mulf X (broadcastInDim S16384x4096 ![0, 1] bcast_S16384x1_S16384x4096_0_1
      (Host.rsqrt (addf (Host.divf (broadcastInDim S16384x1 ![0] bcast_S16384_S16384x1_0
          (Host.reduceAdd (mulf X X) (constant S_ .f32 0x00000000#32) reducesTo_S16384x4096_S16384_d1 h_S_))
        (broadcastInDim S16384x1 ![] bcast_S_S16384x1 (constant S_ .f32 0x45800000#32)))
      (broadcastInDim S16384x1 ![] bcast_S_S16384x1 (constant S_ .f32 0x358637BD#32))))))
    (broadcastInDim S16384x4096 ![0, 1] bcast_S1x4096_S16384x4096_0_1 (broadcastInDim S1x4096 ![1] bcast_S4096_S1x4096_1
      (shapeCast _ (extractStridedSlice S1x4096 ![0, 0] G slices_S2x4096_S1x4096_0_0) shapeCasts_S1x4096_S4096)))

theorem hostNorm_apply (X : FVec Ideal S16384x4096 .f32) (G : FVec Ideal S2x4096 .f32) (r : Fin 16384) (j : Fin 4096) :
    hostNorm X G (ix2 r j) = Cert.HgrnNormIdeal.Norm.entry X G r j := by
  pointwise [Cert.HgrnNormIdeal.Norm.entry]

/-- The reference's rows are the same ones. -/
theorem value_eq (X : FVec Ideal S16384x4096 .f32) (G : FVec Ideal S2x4096 .f32) :
    truncf .bf16 (hostNorm X G) bitsLt_bf16_f32
      = Cert.HgrnNormIdeal.Norm.normed X G := by
  funext y
  obtain ⟨r, j, rfl⟩ : ∃ (r : Fin 16384) (j : Fin 4096), y = (ix2 r j : S16384x4096.Idx) :=
    ⟨y 0, y 1, by funext a; match a with | ⟨0, _⟩ => rfl | ⟨1, _⟩ => rfl⟩
  refine Eq.trans ?_ (hostNorm_apply X G ⟨r.val, by omega⟩ j)
  generalize hostNorm X G = Y
  pointwise []

end Cert.HgrnNormReferenceIdeal.Norm

end
-- ==== Proof.HyenaNorm.lean ====
/- The norm before layer 1's mixer, of the prompt's rows, over the extended reals: each row of a block is scaled by the reciprocal root of
   its mean square and by the layer's gain, as the reference has it for the whole array.
 -/
module

public import proofs.«01_k».proof.Proof.Gen.HyenaNormIdeal.Value
public import proofs.«01_k».proof.Proof.Gen.HyenaNormReferenceIdeal.Run
public import Idealize.ShloMosaic.Lib.Pointwise
public import Idealize.ShloMosaic.Lib.ValueIdx
public import Idealize.ShloMosaic.Lib.StableHlo.ReadAt

@[expose] public section

set_option maxRecDepth 16384

noncomputable section

namespace Cert.HyenaNormIdeal.Norm

open Cert.HyenaNormIdeal Cert.HyenaNormIdeal.Gen Idealize.ShloMosaic Idealize.ShloMosaic.TcCoe
open Idealize.SL.Sem

/-- Row `r` over its root mean square, times the gain, at `j`. -/
def entry (X : Vec Ideal S24576x4096 .f32) (G : Vec Ideal S2x4096 .f32) (r : Fin 24576) (j : Fin 4096) : EReal :=
  X (ix2 r j) * Ideal.rsqrt (Ideal.div (∑ k : Fin 4096, X (ix2 r k) * X (ix2 r k)) (Ideal.ofBits .f32 0x45800000#32)
    + Ideal.ofBits .f32 0x358637BD#32) * G (ix2 1 j)

theorem pay_apply (x : Vec Ideal S512x4096 .f32) (g : Vec Ideal S1x4096 .f32) (r : Fin 512) (j : Fin 4096) :
    k0_pay1 x g (ix2 r j) = x (ix2 r j) * Ideal.rsqrt (Ideal.div (∑ k : Fin 4096, x (ix2 r k) * x (ix2 r k))
      (Ideal.ofBits .f32 0x45800000#32) + Ideal.ofBits .f32 0x358637BD#32) * g (ix2 0 j) := by
  pointwise [k0_pay1]

theorem index : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0) :=
  (by decide +kernel : ∀ t : Fin grid0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0))

variable (m : (ℓ : Loc nD τ sig) → Buf (Elt Ideal) ℓ)

/-- The arguments. -/
abbrev X (c : Dev nD) : Vec Ideal S24576x4096 .f32 := m ((c.tc : Thread nD τ).loc main_arg0)
abbrev G (c : Dev nD) : Vec Ideal S2x4096 .f32 := m ((c.tc : Thread nD τ).loc main_arg1)

/-- The result: the norms of rows 0 to 16383. -/
def normed (X : Vec Ideal S24576x4096 .f32) (G : Vec Ideal S2x4096 .f32) : Vec Ideal S16384x4096 .bf16 := fun y =>
  entry X G ⟨(y 0).val, by have : (y 0).val < 16384 := (y 0).isLt; omega⟩ (y 1)

theorem lt_N (t : Fin cfg0.N) : t.val < 32 := lt_of_lt_of_eq t.isLt (show cfg0.N = 32 from N_0)

theorem blk0_apply (c : Dev nD) (t : Fin cfg0.N) (r : Fin 512) (k : Fin 4096) :
    (iblk m c 0 t : Vec Ideal S512x4096 .f32) (ix2 r k)
      = X m c (ix2 ⟨t.val * 512 + r.val, by have := lt_N t; omega⟩ k) := by
  obtain ⟨e0, e1⟩ := (index t).1
  unfold iblk
  show V m c main_arg0 _ = _
  rw [V_main_arg0]
  refine congrArg (X m c) ?_
  funext a; apply Fin.ext
  match a with
  | ⟨0, _⟩ => show win0_0.index t (0 : Fin 2) * 512 + 1 * r.val = t.val * 512 + r.val; rw [e0]; omega
  | ⟨1, _⟩ => show win0_0.index t (1 : Fin 2) * 4096 + 1 * k.val = k.val; rw [e1]; omega

/-- The gain's row holds the gain. -/
theorem gain_apply (c : Dev nD) (j : Fin 4096) : (V m c main_v2 : Vec Ideal S1x4096 .f32) (ix2 0 j) = G m c (ix2 1 j) := by
  unfold V
  after_reads_at

theorem blk1_apply (c : Dev nD) (t : Fin cfg0.N) (j : Fin 4096) :
    (iblk m c 1 t : Vec Ideal S1x4096 .f32) (ix2 0 j) = G m c (ix2 1 j) := by
  obtain ⟨e0, e1⟩ := (index t).2.1
  unfold iblk
  refine (congrArg (V m c main_v2) ?_).trans (gain_apply m c j)
  funext a; apply Fin.ext
  match a with
  | ⟨0, _⟩ => show win0_1.index t (0 : Fin 2) * 1 + 1 * 0 = 0; rw [e0]
  | ⟨1, _⟩ => show win0_1.index t (1 : Fin 2) * 4096 + 1 * j.val = j.val; rw [e1]; omega

theorem out_apply (c : Dev nD) (t : Fin cfg0.N) (r : Fin 512) (j : Fin 4096) :
    out0_2 (iblk m c 0 t) (iblk m c 1 t) (ix2 r j)
      = normed (X m c) (G m c) (ix2 ⟨t.val * 512 + r.val, by have := lt_N t; omega⟩ j) := by
  unfold out0_2
  rw [View.canon_unit_zero (by funext a; fin_cases a <;> rfl), View.ld_unit_zero (by funext a; fin_cases a <;> rfl),
    View.ld_unit_zero (by funext a; fin_cases a <;> rfl), pay_apply, blk1_apply]
  simp only [blk0_apply]
  rfl

theorem out_array (c : Dev nD) : (dats m 0 c).arrAt 2 cfg0.N = normed (X m c) (G m c) := by
  refine (dats m 0 c).arrAt_eq_of_cover 2 (normed (X m c) (G m c)) (fun t _ => ?_) (fun y => ?_)
  · rw [Value.flushed2]
    obtain ⟨e0, e1⟩ := (index t).2.2
    funext y
    show out0_2 (iblk m c 0 t) (iblk m c 1 t) ((cfg0.win 2).xinj (grid0.coords t) y)
      = normed (X m c) (G m c) (((cfg0.win 2).blk t).view.emb y)
    have hy : (cfg0.win 2).xinj (grid0.coords t) y = (ix2 (y 0) (y 1) : S512x4096.Idx) := by
      funext a; match a with
      | ⟨0, _⟩ => rfl
      | ⟨1, _⟩ => rfl
    refine (congrArg (out0_2 (iblk m c 0 t) (iblk m c 1 t)) hy).trans ((out_apply m c t (y 0) (y 1)).trans ?_)
    refine congrArg (normed (X m c) (G m c)) ?_
    funext a; apply Fin.ext
    match a with
    | ⟨0, _⟩ => show t.val * 512 + (y 0).val = win0_2.index t (0 : Fin 2) * 512 + 1 * (y 0).val; rw [e0]; omega
    | ⟨1, _⟩ => show (y 1).val = win0_2.index t (1 : Fin 2) * 4096 + 1 * (y 1).val; rw [e1]; omega
  · have h0 : (y 0).val < 16384 := (y 0).isLt
    have h1 : (y 1).val < 4096 := (y 1).isLt
    have ht : (y 0).val / 512 < cfg0.N := by rw [show cfg0.N = 32 from N_0]; omega
    obtain ⟨e0, e1⟩ := (index ⟨_, ht⟩).2.2
    generalize hpt : (⟨_, ht⟩ : Fin cfg0.N) = t at e0 e1
    have hv : t.val = (y 0).val / 512 := by rw [← hpt]
    refine ⟨t, flush0_2 t, ?_⟩
    show y ∈ ((View.whole main_v3).slice (win0_2.rect t)).set
    rw [View.set_slice_whole, Rect.mem_set_unit]
    intro a
    match a with
    | ⟨0, _⟩ =>
      show win0_2.index t (0 : Fin 2) * 512 ≤ (y 0).val ∧ (y 0).val < win0_2.index t (0 : Fin 2) * 512 + 512
      rw [e0, hv]; omega
    | ⟨1, _⟩ =>
      show win0_2.index t (1 : Fin 2) * 4096 ≤ (y 1).val ∧ (y 1).val < win0_2.index t (1 : Fin 2) * 4096 + 4096
      rw [e1]; omega

end Cert.HyenaNormIdeal.Norm

namespace Cert.HyenaNormReferenceIdeal.Norm

open Cert.HyenaNormReferenceIdeal Cert.HyenaNormReferenceIdeal.Gen Idealize.ShloMosaic

/-- The reference's norm of all rows. -/
abbrev hostNorm (X : FVec Ideal S24576x4096 .f32) (G : FVec Ideal S2x4096 .f32) : FVec Ideal S24576x4096 .f32 :=
  mulf (mulf X (broadcastInDim S24576x4096 ![0, 1] bcast_S24576x1_S24576x4096_0_1
      (Host.rsqrt (addf (Host.divf (broadcastInDim S24576x1 ![0] bcast_S24576_S24576x1_0
          (Host.reduceAdd (mulf X X) (constant S_ .f32 0x00000000#32) reducesTo_S24576x4096_S24576_d1 h_S_))
        (broadcastInDim S24576x1 ![] bcast_S_S24576x1 (constant S_ .f32 0x45800000#32)))
      (broadcastInDim S24576x1 ![] bcast_S_S24576x1 (constant S_ .f32 0x358637BD#32))))))
    (broadcastInDim S24576x4096 ![0, 1] bcast_S1x4096_S24576x4096_0_1 (broadcastInDim S1x4096 ![1] bcast_S4096_S1x4096_1
      (shapeCast _ (extractStridedSlice S1x4096 ![1, 0] G slices_S2x4096_S1x4096_1_0) shapeCasts_S1x4096_S4096)))

theorem hostNorm_apply (X : FVec Ideal S24576x4096 .f32) (G : FVec Ideal S2x4096 .f32) (r : Fin 24576) (j : Fin 4096) :
    hostNorm X G (ix2 r j) = Cert.HyenaNormIdeal.Norm.entry X G r j := by
  pointwise [Cert.HyenaNormIdeal.Norm.entry]

/-- The reference's rows are the same ones. -/
theorem value_eq (X : FVec Ideal S24576x4096 .f32) (G : FVec Ideal S2x4096 .f32) :
    truncf .bf16 (extractStridedSlice S16384x4096 ![0, 0] (hostNorm X G) slices_S24576x4096_S16384x4096_0_0) bitsLt_bf16_f32
      = Cert.HyenaNormIdeal.Norm.normed X G := by
  funext y
  obtain ⟨r, j, rfl⟩ : ∃ (r : Fin 16384) (j : Fin 4096), y = (ix2 r j : S16384x4096.Idx) :=
    ⟨y 0, y 1, by funext a; match a with | ⟨0, _⟩ => rfl | ⟨1, _⟩ => rfl⟩
  refine Eq.trans ?_ (hostNorm_apply X G ⟨r.val, by omega⟩ j)
  generalize hostNorm X G = Y
  pointwise []

end Cert.HyenaNormReferenceIdeal.Norm

end
-- ==== Proof.FfnNorm.lean ====
/- The norm before layer 1's feed-forward part, of all rows, over the extended reals: each row of a block is scaled by the reciprocal root of
   its mean square and by the layer's gain, as the reference has it for the whole array.
 -/
module

public import proofs.«01_k».proof.Proof.Gen.FfnNormIdeal.Value
public import proofs.«01_k».proof.Proof.Gen.FfnNormReferenceIdeal.Run
public import Idealize.ShloMosaic.Lib.Pointwise
public import Idealize.ShloMosaic.Lib.ValueIdx
public import Idealize.ShloMosaic.Lib.StableHlo.ReadAt

@[expose] public section

set_option maxRecDepth 24576

noncomputable section

namespace Cert.FfnNormIdeal.Norm

open Cert.FfnNormIdeal Cert.FfnNormIdeal.Gen Idealize.ShloMosaic Idealize.ShloMosaic.TcCoe
open Idealize.SL.Sem

/-- Row `r` over its root mean square, times the gain, at `j`. -/
def entry (X : Vec Ideal S24576x4096 .f32) (G : Vec Ideal S2x4096 .f32) (r : Fin 24576) (j : Fin 4096) : EReal :=
  X (ix2 r j) * Ideal.rsqrt (Ideal.div (∑ k : Fin 4096, X (ix2 r k) * X (ix2 r k)) (Ideal.ofBits .f32 0x45800000#32)
    + Ideal.ofBits .f32 0x358637BD#32) * G (ix2 1 j)

theorem pay_apply (x : Vec Ideal S512x4096 .f32) (g : Vec Ideal S1x4096 .f32) (r : Fin 512) (j : Fin 4096) :
    k0_pay1 x g (ix2 r j) = x (ix2 r j) * Ideal.rsqrt (Ideal.div (∑ k : Fin 4096, x (ix2 r k) * x (ix2 r k))
      (Ideal.ofBits .f32 0x45800000#32) + Ideal.ofBits .f32 0x358637BD#32) * g (ix2 0 j) := by
  pointwise [k0_pay1]

theorem index : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0) :=
  (by decide +kernel : ∀ t : Fin grid0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0))

variable (m : (ℓ : Loc nD τ sig) → Buf (Elt Ideal) ℓ)

/-- The arguments. -/
abbrev X (c : Dev nD) : Vec Ideal S24576x4096 .f32 := m ((c.tc : Thread nD τ).loc main_arg0)
abbrev G (c : Dev nD) : Vec Ideal S2x4096 .f32 := m ((c.tc : Thread nD τ).loc main_arg1)

/-- The result: the norms of all rows. -/
def normed (X : Vec Ideal S24576x4096 .f32) (G : Vec Ideal S2x4096 .f32) : Vec Ideal S24576x4096 .bf16 := fun y =>
  entry X G ⟨(y 0).val, by have : (y 0).val < 24576 := (y 0).isLt; omega⟩ (y 1)

theorem lt_N (t : Fin cfg0.N) : t.val < 48 := lt_of_lt_of_eq t.isLt (show cfg0.N = 48 from N_0)

theorem blk0_apply (c : Dev nD) (t : Fin cfg0.N) (r : Fin 512) (k : Fin 4096) :
    (iblk m c 0 t : Vec Ideal S512x4096 .f32) (ix2 r k)
      = X m c (ix2 ⟨t.val * 512 + r.val, by have := lt_N t; omega⟩ k) := by
  obtain ⟨e0, e1⟩ := (index t).1
  unfold iblk
  show V m c main_arg0 _ = _
  rw [V_main_arg0]
  refine congrArg (X m c) ?_
  funext a; apply Fin.ext
  match a with
  | ⟨0, _⟩ => show win0_0.index t (0 : Fin 2) * 512 + 1 * r.val = t.val * 512 + r.val; rw [e0]; omega
  | ⟨1, _⟩ => show win0_0.index t (1 : Fin 2) * 4096 + 1 * k.val = k.val; rw [e1]; omega

/-- The gain's row holds the gain. -/
theorem gain_apply (c : Dev nD) (j : Fin 4096) : (V m c main_v2 : Vec Ideal S1x4096 .f32) (ix2 0 j) = G m c (ix2 1 j) := by
  unfold V
  after_reads_at

theorem blk1_apply (c : Dev nD) (t : Fin cfg0.N) (j : Fin 4096) :
    (iblk m c 1 t : Vec Ideal S1x4096 .f32) (ix2 0 j) = G m c (ix2 1 j) := by
  obtain ⟨e0, e1⟩ := (index t).2.1
  unfold iblk
  refine (congrArg (V m c main_v2) ?_).trans (gain_apply m c j)
  funext a; apply Fin.ext
  match a with
  | ⟨0, _⟩ => show win0_1.index t (0 : Fin 2) * 1 + 1 * 0 = 0; rw [e0]
  | ⟨1, _⟩ => show win0_1.index t (1 : Fin 2) * 4096 + 1 * j.val = j.val; rw [e1]; omega

theorem out_apply (c : Dev nD) (t : Fin cfg0.N) (r : Fin 512) (j : Fin 4096) :
    out0_2 (iblk m c 0 t) (iblk m c 1 t) (ix2 r j)
      = normed (X m c) (G m c) (ix2 ⟨t.val * 512 + r.val, by have := lt_N t; omega⟩ j) := by
  unfold out0_2
  rw [View.canon_unit_zero (by funext a; fin_cases a <;> rfl), View.ld_unit_zero (by funext a; fin_cases a <;> rfl),
    View.ld_unit_zero (by funext a; fin_cases a <;> rfl), pay_apply, blk1_apply]
  simp only [blk0_apply]
  rfl

theorem out_array (c : Dev nD) : (dats m 0 c).arrAt 2 cfg0.N = normed (X m c) (G m c) := by
  refine (dats m 0 c).arrAt_eq_of_cover 2 (normed (X m c) (G m c)) (fun t _ => ?_) (fun y => ?_)
  · rw [Value.flushed2]
    obtain ⟨e0, e1⟩ := (index t).2.2
    funext y
    show out0_2 (iblk m c 0 t) (iblk m c 1 t) ((cfg0.win 2).xinj (grid0.coords t) y)
      = normed (X m c) (G m c) (((cfg0.win 2).blk t).view.emb y)
    have hy : (cfg0.win 2).xinj (grid0.coords t) y = (ix2 (y 0) (y 1) : S512x4096.Idx) := by
      funext a; match a with
      | ⟨0, _⟩ => rfl
      | ⟨1, _⟩ => rfl
    refine (congrArg (out0_2 (iblk m c 0 t) (iblk m c 1 t)) hy).trans ((out_apply m c t (y 0) (y 1)).trans ?_)
    refine congrArg (normed (X m c) (G m c)) ?_
    funext a; apply Fin.ext
    match a with
    | ⟨0, _⟩ => show t.val * 512 + (y 0).val = win0_2.index t (0 : Fin 2) * 512 + 1 * (y 0).val; rw [e0]; omega
    | ⟨1, _⟩ => show (y 1).val = win0_2.index t (1 : Fin 2) * 4096 + 1 * (y 1).val; rw [e1]; omega
  · have h0 : (y 0).val < 24576 := (y 0).isLt
    have h1 : (y 1).val < 4096 := (y 1).isLt
    have ht : (y 0).val / 512 < cfg0.N := by rw [show cfg0.N = 48 from N_0]; omega
    obtain ⟨e0, e1⟩ := (index ⟨_, ht⟩).2.2
    generalize hpt : (⟨_, ht⟩ : Fin cfg0.N) = t at e0 e1
    have hv : t.val = (y 0).val / 512 := by rw [← hpt]
    refine ⟨t, flush0_2 t, ?_⟩
    show y ∈ ((View.whole main_v3).slice (win0_2.rect t)).set
    rw [View.set_slice_whole, Rect.mem_set_unit]
    intro a
    match a with
    | ⟨0, _⟩ =>
      show win0_2.index t (0 : Fin 2) * 512 ≤ (y 0).val ∧ (y 0).val < win0_2.index t (0 : Fin 2) * 512 + 512
      rw [e0, hv]; omega
    | ⟨1, _⟩ =>
      show win0_2.index t (1 : Fin 2) * 4096 ≤ (y 1).val ∧ (y 1).val < win0_2.index t (1 : Fin 2) * 4096 + 4096
      rw [e1]; omega

end Cert.FfnNormIdeal.Norm

namespace Cert.FfnNormReferenceIdeal.Norm

open Cert.FfnNormReferenceIdeal Cert.FfnNormReferenceIdeal.Gen Idealize.ShloMosaic

/-- The reference's norm of all rows. -/
abbrev hostNorm (X : FVec Ideal S24576x4096 .f32) (G : FVec Ideal S2x4096 .f32) : FVec Ideal S24576x4096 .f32 :=
  mulf (mulf X (broadcastInDim S24576x4096 ![0, 1] bcast_S24576x1_S24576x4096_0_1
      (Host.rsqrt (addf (Host.divf (broadcastInDim S24576x1 ![0] bcast_S24576_S24576x1_0
          (Host.reduceAdd (mulf X X) (constant S_ .f32 0x00000000#32) reducesTo_S24576x4096_S24576_d1 h_S_))
        (broadcastInDim S24576x1 ![] bcast_S_S24576x1 (constant S_ .f32 0x45800000#32)))
      (broadcastInDim S24576x1 ![] bcast_S_S24576x1 (constant S_ .f32 0x358637BD#32))))))
    (broadcastInDim S24576x4096 ![0, 1] bcast_S1x4096_S24576x4096_0_1 (broadcastInDim S1x4096 ![1] bcast_S4096_S1x4096_1
      (shapeCast _ (extractStridedSlice S1x4096 ![1, 0] G slices_S2x4096_S1x4096_1_0) shapeCasts_S1x4096_S4096)))

theorem hostNorm_apply (X : FVec Ideal S24576x4096 .f32) (G : FVec Ideal S2x4096 .f32) (r : Fin 24576) (j : Fin 4096) :
    hostNorm X G (ix2 r j) = Cert.FfnNormIdeal.Norm.entry X G r j := by
  pointwise [Cert.FfnNormIdeal.Norm.entry]

/-- The reference's rows are the same ones. -/
theorem value_eq (X : FVec Ideal S24576x4096 .f32) (G : FVec Ideal S2x4096 .f32) :
    truncf .bf16 (hostNorm X G) bitsLt_bf16_f32
      = Cert.FfnNormIdeal.Norm.normed X G := by
  funext y
  obtain ⟨r, j, rfl⟩ : ∃ (r : Fin 24576) (j : Fin 4096), y = (ix2 r j : S24576x4096.Idx) :=
    ⟨y 0, y 1, by funext a; match a with | ⟨0, _⟩ => rfl | ⟨1, _⟩ => rfl⟩
  refine Eq.trans ?_ (hostNorm_apply X G ⟨r.val, by omega⟩ j)
  generalize hostNorm X G = Y
  pointwise []

end Cert.FfnNormReferenceIdeal.Norm

end
-- ==== Proof.lean ====
/- The claims of this certificate. The two kernel programs are one text, so `scan_frame` (Proof/Run.lean, over any float) is the
   frame of both; over the extended reals the kernel's output and the reference's are one function of the arguments, `Cert.Scan.scan`
   (Proof/Spec.lean): of the kernel by Proof/KScan.lean, of the reference by Proof/RScan.lean. The backward scan goes the same way: Proof/BRun.lean,
   `Cert.Scan.back` (Proof/BSpec.lean), Proof/BKScan.lean and Proof/BRRun.lean. The dense calls and the norms:
   Proof/GateUp.lean, Proof/Down.lean, Proof/Project.lean, Proof/FinalNorm.lean, Proof/FinalNormSamples.lean, Proof/InConv.lean,
   Proof/HyenaOut.lean, Proof/HgrnOut.lean, Proof/HgrnNorm.lean, Proof/HyenaNorm.lean and Proof/FfnNorm.lean, each with the function that its kernel and its reference share. -/
module

public import proofs.«01_k».proof.Defs
public import proofs.«01_k».proof.Proof.Same
public import proofs.«01_k».proof.Proof.Run
public import proofs.«01_k».proof.Proof.KScan
public import proofs.«01_k».proof.Proof.RScan
public import proofs.«01_k».proof.Proof.Pre
public import proofs.«01_k».proof.Proof.BSame
public import proofs.«01_k».proof.Proof.BRun
public import proofs.«01_k».proof.Proof.BKScan
public import proofs.«01_k».proof.Proof.BRRun
public import proofs.«01_k».proof.Proof.BPre
public import proofs.«01_k».proof.Proof.Gen.GateUp.Frame
public import proofs.«01_k».proof.Proof.Gen.GateUpIdeal.Value
public import proofs.«01_k».proof.Proof.Gen.GateUpReferenceIdeal.Run
public import proofs.«01_k».proof.Proof.GateUp
public import proofs.«01_k».proof.Proof.Gen.Down.Frame
public import proofs.«01_k».proof.Proof.Gen.DownIdeal.Value
public import proofs.«01_k».proof.Proof.Gen.DownReferenceIdeal.Run
public import proofs.«01_k».proof.Proof.Down
public import proofs.«01_k».proof.Proof.Gen.Project.Frame
public import proofs.«01_k».proof.Proof.Gen.ProjectIdeal.Value
public import proofs.«01_k».proof.Proof.Gen.ProjectReferenceIdeal.Run
public import proofs.«01_k».proof.Proof.Project
public import proofs.«01_k».proof.Proof.Gen.FinalNorm.Frame
public import proofs.«01_k».proof.Proof.Gen.FinalNormIdeal.Value
public import proofs.«01_k».proof.Proof.Gen.FinalNormReferenceIdeal.Run
public import proofs.«01_k».proof.Proof.FinalNorm
public import proofs.«01_k».proof.Proof.Gen.FinalNormSamples.Frame
public import proofs.«01_k».proof.Proof.Gen.FinalNormSamplesIdeal.Value
public import proofs.«01_k».proof.Proof.Gen.FinalNormSamplesReferenceIdeal.Run
public import proofs.«01_k».proof.Proof.FinalNormSamples
public import proofs.«01_k».proof.Proof.Gen.InConv.Frame
public import proofs.«01_k».proof.Proof.Gen.InConvIdeal.Value
public import proofs.«01_k».proof.Proof.Gen.InConvReferenceIdeal.Run
public import proofs.«01_k».proof.Proof.InConv
public import proofs.«01_k».proof.Proof.Gen.HyenaOut.Frame
public import proofs.«01_k».proof.Proof.Gen.HyenaOutIdeal.Value
public import proofs.«01_k».proof.Proof.Gen.HyenaOutReferenceIdeal.Run
public import proofs.«01_k».proof.Proof.HyenaOut
public import proofs.«01_k».proof.Proof.Gen.HgrnOut.Frame
public import proofs.«01_k».proof.Proof.Gen.HgrnOutIdeal.Value
public import proofs.«01_k».proof.Proof.Gen.HgrnOutReferenceIdeal.Run
public import proofs.«01_k».proof.Proof.HgrnOut
public import proofs.«01_k».proof.Proof.Gen.HgrnNorm.Frame
public import proofs.«01_k».proof.Proof.Gen.HgrnNormIdeal.Value
public import proofs.«01_k».proof.Proof.Gen.HgrnNormReferenceIdeal.Run
public import proofs.«01_k».proof.Proof.HgrnNorm
public import proofs.«01_k».proof.Proof.Gen.HyenaNorm.Frame
public import proofs.«01_k».proof.Proof.Gen.HyenaNormIdeal.Value
public import proofs.«01_k».proof.Proof.Gen.HyenaNormReferenceIdeal.Run
public import proofs.«01_k».proof.Proof.HyenaNorm
public import proofs.«01_k».proof.Proof.Gen.FfnNorm.Frame
public import proofs.«01_k».proof.Proof.Gen.FfnNormIdeal.Value
public import proofs.«01_k».proof.Proof.Gen.FfnNormReferenceIdeal.Run
public import proofs.«01_k».proof.Proof.FfnNorm
public import Idealize.ShloMosaic.Adequacy
public import Idealize.ShloMosaic.Init
public import Idealize.ShloMosaic.Lib.Quiescent

@[expose] public section

noncomputable section

namespace Cert.Proof

open Idealize.ShloMosaic Idealize.SL.Sem

theorem kernel_frame : quiescent_Kernel := fun m ρ _ => by
  rw [Cert.Same.defs_eq]
  exact Cert.KernelIdeal.Scan.scan_frame (F := Bits) m ρ

theorem reference_frame : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem values : algebraic_KernelIdeal_ReferenceIdeal_pre_bounded := by
  intro m ρ m' ρ' hpre hagree
  refine ⟨_, Cert.KernelIdeal.Scan.scan_value (F := Ideal) m ρ, ?_⟩
  refine (θ_run Cert.ReferenceIdeal.defs _ _).mono (fun _ h c => ⟨?_, (h c).2⟩) (Cert.ReferenceIdeal.Value.run (F := Ideal) m' ρ')
  rw [(h c).1]
  have hsm := Cert.Pre_bounded.Read.logits_small _ _ (hpre c)
  have hL := Cert.Pre_bounded.Read.logits_coe _ _ (hpre c)
  funext y
  obtain ⟨r, j, rfl⟩ : ∃ (r : Fin 16384) (j : Fin 4096), y = ix2 r j := ⟨y 0, y 1, funext fun a => by fin_cases a <;> rfl⟩
  refine (Cert.ReferenceIdeal.Scan.reference_apply m' c hsm (A := Cert.KernelIdeal.Scan.arrA m c) (fun r j => ?_) (fun i j => ?_) r j).trans
    (Cert.KernelIdeal.Scan.scanOut_apply m c hL hsm r j).symm
  · exact congrFun (hagree c).1 _
  · exact (congrFun (hagree c).2 _).trans (hL i j)

theorem scanBack_frame : quiescent_ScanBack := fun m ρ _ => by
  rw [Cert.SameBack.defs_eq]
  exact Cert.ScanBackIdeal.Scan.scan_frame (F := Bits) m ρ

theorem scanBack_reference_frame : quiescent_ScanBackReferenceIdeal := fun m ρ _ =>
  (θ_run Cert.ScanBackReferenceIdeal.defs _ _).mono (fun r h => ⟨fun c => (h c).2, sem_eq_zero_of_no_sems (by decide) r.2⟩)
    (Cert.ScanBackReferenceIdeal.Scan.run (F := Ideal) m ρ)

theorem scanBack_values : algebraic_ScanBackIdeal_ScanBackReferenceIdeal_pre_bounded_back := by
  intro m ρ m' ρ' hpre hagree
  refine ⟨_, Cert.ScanBackIdeal.Scan.scan_value (F := Ideal) m ρ, ?_⟩
  refine (θ_run Cert.ScanBackReferenceIdeal.defs _ _).mono (fun _ h c => ⟨?_, (h c).2⟩) (Cert.ScanBackReferenceIdeal.Scan.run (F := Ideal) m' ρ')
  rw [(h c).1]
  have hsm := Cert.Pre_bounded_back.Read.logits_small _ _ _ _ (hpre c)
  have hL := Cert.Pre_bounded_back.Read.logits_coe _ _ _ _ (hpre c)
  funext y
  obtain ⟨r, j, rfl⟩ : ∃ (r : Fin 16384) (j : Fin 4096), y = ix2 r j := ⟨y 0, y 1, funext fun a => by fin_cases a <;> rfl⟩
  refine (Cert.ScanBackReferenceIdeal.Scan.reference_apply m' c hsm (A := Cert.ScanBackIdeal.Scan.arrA m c) (O := Cert.ScanBackIdeal.Scan.arrO m c)
    (w := Cert.ScanBackIdeal.Scan.arrW m c) (fun r j => ?_) (fun i j => ?_) (fun r j => ?_) (fun j => ?_) r j).trans
    (Cert.ScanBackIdeal.Scan.scanOut_apply m c hL hsm r j).symm
  · exact congrFun (hagree c).1 _
  · exact (congrFun (hagree c).2.1 _).trans (hL i j)
  · exact congrFun (hagree c).2.2.1 _
  · exact congrFun (hagree c).2.2.2 _

theorem gateUp_reference_frame : quiescent_GateUpReferenceIdeal := fun m ρ _ =>
  (θ_run Cert.GateUpReferenceIdeal.defs _ _).mono (fun r h => ⟨fun c => (h c).2, sem_eq_zero_of_no_sems (by decide) r.2⟩)
    (Cert.GateUpReferenceIdeal.Value.run (F := Ideal) m ρ)

theorem gateUp_values : algebraic_GateUpIdeal_GateUpReferenceIdeal := by
  intro m ρ m' ρ' _ hagree
  refine ⟨fun c => Cert.GateUpIdeal.Gated.gated (Cert.GateUpIdeal.Gated.X m c) (Cert.GateUpIdeal.Gated.A m c) (Cert.GateUpIdeal.Gated.B m c),
    (θ_run Cert.GateUpIdeal.defs _ _).mono (fun r h c => ⟨(h c).1.trans (Cert.GateUpIdeal.Gated.out_array m c), (h c).2⟩)
      (Cert.GateUpIdeal.Value.run_blocks m ρ),
    (θ_run Cert.GateUpReferenceIdeal.defs _ _).mono (fun _ h c => ⟨?_, (h c).2⟩)
      (Cert.GateUpReferenceIdeal.Value.run (F := Ideal) m' ρ')⟩
  rw [(h c).1, (hagree c).1, (hagree c).2.1, (hagree c).2.2]
  exact Cert.GateUpReferenceIdeal.Gated.value_eq _ _ _

theorem down_reference_frame : quiescent_DownReferenceIdeal := fun m ρ _ =>
  (θ_run Cert.DownReferenceIdeal.defs _ _).mono (fun r h => ⟨fun c => (h c).2, sem_eq_zero_of_no_sems (by decide) r.2⟩)
    (Cert.DownReferenceIdeal.Value.run (F := Ideal) m ρ)

theorem down_values : algebraic_DownIdeal_DownReferenceIdeal := by
  intro m ρ m' ρ' _ hagree
  refine ⟨fun c => Cert.DownIdeal.Resid.resid (Cert.DownIdeal.Resid.X m c) (Cert.DownIdeal.Resid.W m c) (Cert.DownIdeal.Resid.R m c),
    (θ_run Cert.DownIdeal.defs _ _).mono (fun r h c => ⟨(h c).1.trans (Cert.DownIdeal.Resid.out_array m c), (h c).2⟩)
      (Cert.DownIdeal.Value.run_blocks m ρ),
    (θ_run Cert.DownReferenceIdeal.defs _ _).mono (fun _ h c => ⟨?_, (h c).2⟩)
      (Cert.DownReferenceIdeal.Value.run (F := Ideal) m' ρ')⟩
  rw [(h c).1, (hagree c).1, (hagree c).2.1, (hagree c).2.2]
  exact Cert.DownReferenceIdeal.Resid.value_eq _ _ _

theorem project_reference_frame : quiescent_ProjectReferenceIdeal := fun m ρ _ =>
  (θ_run Cert.ProjectReferenceIdeal.defs _ _).mono (fun r h => ⟨fun c => (h c).2, sem_eq_zero_of_no_sems (by decide) r.2⟩)
    (Cert.ProjectReferenceIdeal.Value.run (F := Ideal) m ρ)

theorem project_values : algebraic_ProjectIdeal_ProjectReferenceIdeal := by
  intro m ρ m' ρ' _ hagree
  refine ⟨fun c => Cert.ProjectIdeal.Prod.prod (Cert.ProjectIdeal.Prod.X m c) (Cert.ProjectIdeal.Prod.W m c),
    (θ_run Cert.ProjectIdeal.defs _ _).mono (fun r h c => ⟨(h c).1.trans (Cert.ProjectIdeal.Prod.out_array m c), (h c).2⟩)
      (Cert.ProjectIdeal.Value.run_blocks m ρ),
    (θ_run Cert.ProjectReferenceIdeal.defs _ _).mono (fun _ h c => ⟨?_, (h c).2⟩)
      (Cert.ProjectReferenceIdeal.Value.run (F := Ideal) m' ρ')⟩
  rw [(h c).1, (hagree c).1, (hagree c).2]
  exact Cert.ProjectReferenceIdeal.Prod.value_eq _ _

theorem finalNorm_reference_frame : quiescent_FinalNormReferenceIdeal := fun m ρ _ =>
  (θ_run Cert.FinalNormReferenceIdeal.defs _ _).mono (fun r h => ⟨fun c => (h c).2, sem_eq_zero_of_no_sems (by decide) r.2⟩)
    (Cert.FinalNormReferenceIdeal.Value.run (F := Ideal) m ρ)

theorem finalNorm_values : algebraic_FinalNormIdeal_FinalNormReferenceIdeal := by
  intro m ρ m' ρ' _ hagree
  refine ⟨fun c => Cert.FinalNormIdeal.Norm.normed (Cert.FinalNormIdeal.Norm.X m c) (Cert.FinalNormIdeal.Norm.G m c),
    (θ_run Cert.FinalNormIdeal.defs _ _).mono (fun r h c => ⟨(h c).1.trans (Cert.FinalNormIdeal.Norm.out_array m c), (h c).2⟩)
      (Cert.FinalNormIdeal.Value.run_blocks m ρ),
    (θ_run Cert.FinalNormReferenceIdeal.defs _ _).mono (fun _ h c => ⟨?_, (h c).2⟩)
      (Cert.FinalNormReferenceIdeal.Value.run (F := Ideal) m' ρ')⟩
  rw [(h c).1, (hagree c).1, (hagree c).2]
  exact Cert.FinalNormReferenceIdeal.Norm.value_eq _ _

theorem finalNormSamples_reference_frame : quiescent_FinalNormSamplesReferenceIdeal := fun m ρ _ =>
  (θ_run Cert.FinalNormSamplesReferenceIdeal.defs _ _).mono (fun r h => ⟨fun c => (h c).2, sem_eq_zero_of_no_sems (by decide) r.2⟩)
    (Cert.FinalNormSamplesReferenceIdeal.Value.run (F := Ideal) m ρ)

theorem finalNormSamples_values : algebraic_FinalNormSamplesIdeal_FinalNormSamplesReferenceIdeal := by
  intro m ρ m' ρ' _ hagree
  refine ⟨fun c => Cert.FinalNormSamplesIdeal.Norm.normed (Cert.FinalNormSamplesIdeal.Norm.X m c) (Cert.FinalNormSamplesIdeal.Norm.G m c),
    (θ_run Cert.FinalNormSamplesIdeal.defs _ _).mono (fun r h c => ⟨(h c).1.trans (Cert.FinalNormSamplesIdeal.Norm.out_array m c), (h c).2⟩)
      (Cert.FinalNormSamplesIdeal.Value.run_blocks m ρ),
    (θ_run Cert.FinalNormSamplesReferenceIdeal.defs _ _).mono (fun _ h c => ⟨?_, (h c).2⟩)
      (Cert.FinalNormSamplesReferenceIdeal.Value.run (F := Ideal) m' ρ')⟩
  rw [(h c).1, (hagree c).1, (hagree c).2]
  exact Cert.FinalNormSamplesReferenceIdeal.Norm.value_eq _ _

theorem inConv_reference_frame : quiescent_InConvReferenceIdeal := fun m ρ _ =>
  (θ_run Cert.InConvReferenceIdeal.defs _ _).mono (fun r h => ⟨fun c => (h c).2, sem_eq_zero_of_no_sems (by decide) r.2⟩)
    (Cert.InConvReferenceIdeal.Value.run (F := Ideal) m ρ)

theorem inConv_values : algebraic_InConvIdeal_InConvReferenceIdeal := by
  intro m ρ m' ρ' _ hagree
  refine ⟨fun c => Cert.InConvIdeal.Conv.conv
      (Cert.InConvIdeal.Conv.X m c) (Cert.InConvIdeal.Conv.W m c) (Cert.InConvIdeal.Conv.C m c) (Cert.InConvIdeal.Conv.B m c),
    (θ_run Cert.InConvIdeal.defs _ _).mono (fun r h c => ⟨(h c).1.trans (Cert.InConvIdeal.Conv.out_array m c), (h c).2⟩)
      (Cert.InConvIdeal.Value.run_blocks m ρ),
    (θ_run Cert.InConvReferenceIdeal.defs _ _).mono (fun _ h c => ⟨?_, (h c).2⟩)
      (Cert.InConvReferenceIdeal.Value.run (F := Ideal) m' ρ')⟩
  rw [(h c).1, (hagree c).1, (hagree c).2.1, (hagree c).2.2.1, (hagree c).2.2.2]
  exact Cert.InConvReferenceIdeal.Conv.value_eq _ _ _ _

theorem hyenaOut_reference_frame : quiescent_HyenaOutReferenceIdeal := fun m ρ _ =>
  (θ_run Cert.HyenaOutReferenceIdeal.defs _ _).mono (fun r h => ⟨fun c => (h c).2, sem_eq_zero_of_no_sems (by decide) r.2⟩)
    (Cert.HyenaOutReferenceIdeal.Value.run (F := Ideal) m ρ)

theorem hyenaOut_values : algebraic_HyenaOutIdeal_HyenaOutReferenceIdeal := by
  intro m ρ m' ρ' _ hagree
  refine ⟨fun c => Cert.HyenaOutIdeal.Resid.resid (Cert.HyenaOutIdeal.Resid.X m c) (Cert.HyenaOutIdeal.Resid.W m c) (Cert.HyenaOutIdeal.Resid.R m c),
    (θ_run Cert.HyenaOutIdeal.defs _ _).mono (fun r h c => ⟨(h c).1.trans (Cert.HyenaOutIdeal.Resid.out_array m c), (h c).2⟩)
      (Cert.HyenaOutIdeal.Value.run_blocks m ρ),
    (θ_run Cert.HyenaOutReferenceIdeal.defs _ _).mono (fun _ h c => ⟨?_, (h c).2⟩)
      (Cert.HyenaOutReferenceIdeal.Value.run (F := Ideal) m' ρ')⟩
  rw [(h c).1, (hagree c).1, (hagree c).2.1, (hagree c).2.2]
  exact Cert.HyenaOutReferenceIdeal.Resid.value_eq _ _ _

theorem hgrnOut_reference_frame : quiescent_HgrnOutReferenceIdeal := fun m ρ _ =>
  (θ_run Cert.HgrnOutReferenceIdeal.defs _ _).mono (fun r h => ⟨fun c => (h c).2, sem_eq_zero_of_no_sems (by decide) r.2⟩)
    (Cert.HgrnOutReferenceIdeal.Value.run (F := Ideal) m ρ)

theorem hgrnOut_values : algebraic_HgrnOutIdeal_HgrnOutReferenceIdeal := by
  intro m ρ m' ρ' _ hagree
  refine ⟨fun c => Cert.HgrnOutIdeal.Resid.resid
      (Cert.HgrnOutIdeal.Resid.X m c) (Cert.HgrnOutIdeal.Resid.W m c) (Cert.HgrnOutIdeal.Resid.R m c) (Cert.HgrnOutIdeal.Resid.P m c),
    (θ_run Cert.HgrnOutIdeal.defs _ _).mono (fun r h c => ⟨(h c).1.trans (Cert.HgrnOutIdeal.Resid.out_array m c), (h c).2⟩)
      (Cert.HgrnOutIdeal.Value.run_blocks m ρ),
    (θ_run Cert.HgrnOutReferenceIdeal.defs _ _).mono (fun _ h c => ⟨?_, (h c).2⟩)
      (Cert.HgrnOutReferenceIdeal.Value.run (F := Ideal) m' ρ')⟩
  rw [(h c).1, (hagree c).1, (hagree c).2.1, (hagree c).2.2.1, (hagree c).2.2.2]
  exact Cert.HgrnOutReferenceIdeal.Resid.value_eq _ _ _ _

theorem hgrnNorm_reference_frame : quiescent_HgrnNormReferenceIdeal := fun m ρ _ =>
  (θ_run Cert.HgrnNormReferenceIdeal.defs _ _).mono (fun r h => ⟨fun c => (h c).2, sem_eq_zero_of_no_sems (by decide) r.2⟩)
    (Cert.HgrnNormReferenceIdeal.Value.run (F := Ideal) m ρ)

theorem hgrnNorm_values : algebraic_HgrnNormIdeal_HgrnNormReferenceIdeal := by
  intro m ρ m' ρ' _ hagree
  refine ⟨fun c => Cert.HgrnNormIdeal.Norm.normed (Cert.HgrnNormIdeal.Norm.X m c) (Cert.HgrnNormIdeal.Norm.G m c),
    (θ_run Cert.HgrnNormIdeal.defs _ _).mono (fun r h c => ⟨(h c).1.trans (Cert.HgrnNormIdeal.Norm.out_array m c), (h c).2⟩)
      (Cert.HgrnNormIdeal.Value.run_blocks m ρ),
    (θ_run Cert.HgrnNormReferenceIdeal.defs _ _).mono (fun _ h c => ⟨?_, (h c).2⟩)
      (Cert.HgrnNormReferenceIdeal.Value.run (F := Ideal) m' ρ')⟩
  rw [(h c).1, (hagree c).1, (hagree c).2]
  exact Cert.HgrnNormReferenceIdeal.Norm.value_eq _ _

theorem hyenaNorm_reference_frame : quiescent_HyenaNormReferenceIdeal := fun m ρ _ =>
  (θ_run Cert.HyenaNormReferenceIdeal.defs _ _).mono (fun r h => ⟨fun c => (h c).2, sem_eq_zero_of_no_sems (by decide) r.2⟩)
    (Cert.HyenaNormReferenceIdeal.Value.run (F := Ideal) m ρ)

theorem hyenaNorm_values : algebraic_HyenaNormIdeal_HyenaNormReferenceIdeal := by
  intro m ρ m' ρ' _ hagree
  refine ⟨fun c => Cert.HyenaNormIdeal.Norm.normed (Cert.HyenaNormIdeal.Norm.X m c) (Cert.HyenaNormIdeal.Norm.G m c),
    (θ_run Cert.HyenaNormIdeal.defs _ _).mono (fun r h c => ⟨(h c).1.trans (Cert.HyenaNormIdeal.Norm.out_array m c), (h c).2⟩)
      (Cert.HyenaNormIdeal.Value.run_blocks m ρ),
    (θ_run Cert.HyenaNormReferenceIdeal.defs _ _).mono (fun _ h c => ⟨?_, (h c).2⟩)
      (Cert.HyenaNormReferenceIdeal.Value.run (F := Ideal) m' ρ')⟩
  rw [(h c).1, (hagree c).1, (hagree c).2]
  exact Cert.HyenaNormReferenceIdeal.Norm.value_eq _ _

theorem ffnNorm_reference_frame : quiescent_FfnNormReferenceIdeal := fun m ρ _ =>
  (θ_run Cert.FfnNormReferenceIdeal.defs _ _).mono (fun r h => ⟨fun c => (h c).2, sem_eq_zero_of_no_sems (by decide) r.2⟩)
    (Cert.FfnNormReferenceIdeal.Value.run (F := Ideal) m ρ)

theorem ffnNorm_values : algebraic_FfnNormIdeal_FfnNormReferenceIdeal := by
  intro m ρ m' ρ' _ hagree
  refine ⟨fun c => Cert.FfnNormIdeal.Norm.normed (Cert.FfnNormIdeal.Norm.X m c) (Cert.FfnNormIdeal.Norm.G m c),
    (θ_run Cert.FfnNormIdeal.defs _ _).mono (fun r h c => ⟨(h c).1.trans (Cert.FfnNormIdeal.Norm.out_array m c), (h c).2⟩)
      (Cert.FfnNormIdeal.Value.run_blocks m ρ),
    (θ_run Cert.FfnNormReferenceIdeal.defs _ _).mono (fun _ h c => ⟨?_, (h c).2⟩)
      (Cert.FfnNormReferenceIdeal.Value.run (F := Ideal) m' ρ')⟩
  rw [(h c).1, (hagree c).1, (hagree c).2]
  exact Cert.FfnNormReferenceIdeal.Norm.value_eq _ _

theorem claim : Cert.Claim := ⟨
  Cert.Kernel.Gen.facts, Cert.KernelIdeal.Gen.facts, Cert.ReferenceIdeal.Gen.facts,
  Cert.ScanBack.Gen.facts, Cert.ScanBackIdeal.Gen.facts, Cert.ScanBackReferenceIdeal.Gen.facts, Cert.GateUp.Gen.facts, Cert.GateUpIdeal.Gen.facts,
  Cert.GateUpReferenceIdeal.Gen.facts, Cert.Down.Gen.facts, Cert.DownIdeal.Gen.facts, Cert.DownReferenceIdeal.Gen.facts,
  Cert.Project.Gen.facts, Cert.ProjectIdeal.Gen.facts, Cert.ProjectReferenceIdeal.Gen.facts, Cert.FinalNorm.Gen.facts,
  Cert.FinalNormIdeal.Gen.facts, Cert.FinalNormReferenceIdeal.Gen.facts, Cert.FinalNormSamples.Gen.facts,
  Cert.FinalNormSamplesIdeal.Gen.facts, Cert.FinalNormSamplesReferenceIdeal.Gen.facts,
  Cert.InConv.Gen.facts, Cert.InConvIdeal.Gen.facts, Cert.InConvReferenceIdeal.Gen.facts,
  Cert.HyenaOut.Gen.facts, Cert.HyenaOutIdeal.Gen.facts, Cert.HyenaOutReferenceIdeal.Gen.facts,
  Cert.HgrnOut.Gen.facts, Cert.HgrnOutIdeal.Gen.facts, Cert.HgrnOutReferenceIdeal.Gen.facts,
  Cert.HgrnNorm.Gen.facts, Cert.HgrnNormIdeal.Gen.facts, Cert.HgrnNormReferenceIdeal.Gen.facts,
  Cert.HyenaNorm.Gen.facts, Cert.HyenaNormIdeal.Gen.facts, Cert.HyenaNormReferenceIdeal.Gen.facts,
  Cert.FfnNorm.Gen.facts, Cert.FfnNormIdeal.Gen.facts, Cert.FfnNormReferenceIdeal.Gen.facts,
  Cert.Pre_bounded.Gen.facts, Cert.Pre_bounded_back.Gen.facts,
  kernel_frame, fun m ρ _ => Cert.KernelIdeal.Scan.scan_frame m ρ, fun m ρ _ => Cert.KernelIdeal.Scan.scan_frame m ρ,
  reference_frame, fun m ρ _ => reference_frame m ρ trivial,
  scanBack_frame, fun m ρ _ => Cert.ScanBackIdeal.Scan.scan_frame m ρ, fun m ρ _ => Cert.ScanBackIdeal.Scan.scan_frame m ρ,
  scanBack_reference_frame, fun m ρ _ => scanBack_reference_frame m ρ trivial,
  fun m ρ _ => Cert.GateUp.Gen.frame m ρ, fun m ρ _ => Cert.GateUpIdeal.Gen.frame m ρ, gateUp_reference_frame,
  fun m ρ _ => Cert.Down.Gen.frame m ρ, fun m ρ _ => Cert.DownIdeal.Gen.frame m ρ, down_reference_frame,
  fun m ρ _ => Cert.Project.Gen.frame m ρ, fun m ρ _ => Cert.ProjectIdeal.Gen.frame m ρ, project_reference_frame,
  fun m ρ _ => Cert.FinalNorm.Gen.frame m ρ, fun m ρ _ => Cert.FinalNormIdeal.Gen.frame m ρ, finalNorm_reference_frame,
  fun m ρ _ => Cert.FinalNormSamples.Gen.frame m ρ, fun m ρ _ => Cert.FinalNormSamplesIdeal.Gen.frame m ρ, finalNormSamples_reference_frame,
  fun m ρ _ => Cert.InConv.Gen.frame m ρ, fun m ρ _ => Cert.InConvIdeal.Gen.frame m ρ, inConv_reference_frame,
  fun m ρ _ => Cert.HyenaOut.Gen.frame m ρ, fun m ρ _ => Cert.HyenaOutIdeal.Gen.frame m ρ, hyenaOut_reference_frame,
  fun m ρ _ => Cert.HgrnOut.Gen.frame m ρ, fun m ρ _ => Cert.HgrnOutIdeal.Gen.frame m ρ, hgrnOut_reference_frame,
  fun m ρ _ => Cert.HgrnNorm.Gen.frame m ρ, fun m ρ _ => Cert.HgrnNormIdeal.Gen.frame m ρ, hgrnNorm_reference_frame,
  fun m ρ _ => Cert.HyenaNorm.Gen.frame m ρ, fun m ρ _ => Cert.HyenaNormIdeal.Gen.frame m ρ, hyenaNorm_reference_frame,
  fun m ρ _ => Cert.FfnNorm.Gen.frame m ρ, fun m ρ _ => Cert.FfnNormIdeal.Gen.frame m ρ, ffnNorm_reference_frame,
  (trivial : preserves_Kernel_KernelIdeal), values,
  (trivial : preserves_ScanBack_ScanBackIdeal), scanBack_values,
  (trivial : preserves_GateUp_GateUpIdeal), gateUp_values,
  (trivial : preserves_Down_DownIdeal), down_values,
  (trivial : preserves_Project_ProjectIdeal), project_values,
  (trivial : preserves_FinalNorm_FinalNormIdeal), finalNorm_values,
  (trivial : preserves_FinalNormSamples_FinalNormSamplesIdeal), finalNormSamples_values,
  (trivial : preserves_InConv_InConvIdeal), inConv_values,
  (trivial : preserves_HyenaOut_HyenaOutIdeal), hyenaOut_values,
  (trivial : preserves_HgrnOut_HgrnOutIdeal), hgrnOut_values,
  (trivial : preserves_HgrnNorm_HgrnNormIdeal), hgrnNorm_values,
  (trivial : preserves_HyenaNorm_HyenaNormIdeal), hyenaNorm_values,
  (trivial : preserves_FfnNorm_FfnNormIdeal), ffnNorm_values⟩

end Cert.Proof

end
